-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_KernelLin (m : (ℓ : Loc Cert.KernelLin.nD Cert.KernelLin.τ Cert.KernelLin.sig) → Buf (Elt Bits) ℓ) : Prop :=
  True

def Pre_KernelLinIdeal (m : (ℓ : Loc Cert.KernelLinIdeal.nD Cert.KernelLinIdeal.τ Cert.KernelLinIdeal.sig) → Buf (Elt Ideal) ℓ) : Prop :=
  True

def Pre_ReferenceLinIdeal (m : (ℓ : Loc Cert.ReferenceLinIdeal.nD Cert.ReferenceLinIdeal.τ Cert.ReferenceLinIdeal.sig) → Buf (Elt Ideal) ℓ) : Prop :=
  True

def Pre_KernelLinDx (m : (ℓ : Loc Cert.KernelLinDx.nD Cert.KernelLinDx.τ Cert.KernelLinDx.sig) → Buf (Elt Bits) ℓ) : Prop :=
  True

def Pre_KernelLinDxIdeal (m : (ℓ : Loc Cert.KernelLinDxIdeal.nD Cert.KernelLinDxIdeal.τ Cert.KernelLinDxIdeal.sig) → Buf (Elt Ideal) ℓ) : Prop :=
  True

def Pre_ReferenceLinDxIdeal (m : (ℓ : Loc Cert.ReferenceLinDxIdeal.nD Cert.ReferenceLinDxIdeal.τ Cert.ReferenceLinDxIdeal.sig) → Buf (Elt Ideal) ℓ) : Prop :=
  True

def Pre_KernelLinDw (m : (ℓ : Loc Cert.KernelLinDw.nD Cert.KernelLinDw.τ Cert.KernelLinDw.sig) → Buf (Elt Bits) ℓ) : Prop :=
  True

def Pre_KernelLinDwIdeal (m : (ℓ : Loc Cert.KernelLinDwIdeal.nD Cert.KernelLinDwIdeal.τ Cert.KernelLinDwIdeal.sig) → Buf (Elt Ideal) ℓ) : Prop :=
  True

def Pre_ReferenceLinDwIdeal (m : (ℓ : Loc Cert.ReferenceLinDwIdeal.nD Cert.ReferenceLinDwIdeal.τ Cert.ReferenceLinDwIdeal.sig) → Buf (Elt Ideal) ℓ) : Prop :=
  True

def Pre_KernelLinDb (m : (ℓ : Loc Cert.KernelLinDb.nD Cert.KernelLinDb.τ Cert.KernelLinDb.sig) → Buf (Elt Bits) ℓ) : Prop :=
  True

def Pre_KernelLinDbIdeal (m : (ℓ : Loc Cert.KernelLinDbIdeal.nD Cert.KernelLinDbIdeal.τ Cert.KernelLinDbIdeal.sig) → Buf (Elt Ideal) ℓ) : Prop :=
  True

def Pre_ReferenceLinDbIdeal (m : (ℓ : Loc Cert.ReferenceLinDbIdeal.nD Cert.ReferenceLinDbIdeal.τ Cert.ReferenceLinDbIdeal.sig) → Buf (Elt Ideal) ℓ) : Prop :=
  True

def Pre_KernelUp (m : (ℓ : Loc Cert.KernelUp.nD Cert.KernelUp.τ Cert.KernelUp.sig) → Buf (Elt Bits) ℓ) : Prop :=
  True

def Pre_KernelUpIdeal (m : (ℓ : Loc Cert.KernelUpIdeal.nD Cert.KernelUpIdeal.τ Cert.KernelUpIdeal.sig) → Buf (Elt Ideal) ℓ) : Prop :=
  True

def Pre_ReferenceUpIdeal (m : (ℓ : Loc Cert.ReferenceUpIdeal.nD Cert.ReferenceUpIdeal.τ Cert.ReferenceUpIdeal.sig) → Buf (Elt Ideal) ℓ) : Prop :=
  True

def Pre_KernelUpDx (m : (ℓ : Loc Cert.KernelUpDx.nD Cert.KernelUpDx.τ Cert.KernelUpDx.sig) → Buf (Elt Bits) ℓ) : Prop :=
  True

def Pre_KernelUpDxIdeal (m : (ℓ : Loc Cert.KernelUpDxIdeal.nD Cert.KernelUpDxIdeal.τ Cert.KernelUpDxIdeal.sig) → Buf (Elt Ideal) ℓ) : Prop :=
  True

def Pre_ReferenceUpDxIdeal (m : (ℓ : Loc Cert.ReferenceUpDxIdeal.nD Cert.ReferenceUpDxIdeal.τ Cert.ReferenceUpDxIdeal.sig) → Buf (Elt Ideal) ℓ) : Prop :=
  True

def Pre_KernelUpDw (m : (ℓ : Loc Cert.KernelUpDw.nD Cert.KernelUpDw.τ Cert.KernelUpDw.sig) → Buf (Elt Bits) ℓ) : Prop :=
  True

def Pre_KernelUpDwIdeal (m : (ℓ : Loc Cert.KernelUpDwIdeal.nD Cert.KernelUpDwIdeal.τ Cert.KernelUpDwIdeal.sig) → Buf (Elt Ideal) ℓ) : Prop :=
  True

def Pre_ReferenceUpDwIdeal (m : (ℓ : Loc Cert.ReferenceUpDwIdeal.nD Cert.ReferenceUpDwIdeal.τ Cert.ReferenceUpDwIdeal.sig) → Buf (Elt Ideal) ℓ) : Prop :=
  True

def Pre_KernelDown (m : (ℓ : Loc Cert.KernelDown.nD Cert.KernelDown.τ Cert.KernelDown.sig) → Buf (Elt Bits) ℓ) : Prop :=
  True

def Pre_KernelDownIdeal (m : (ℓ : Loc Cert.KernelDownIdeal.nD Cert.KernelDownIdeal.τ Cert.KernelDownIdeal.sig) → Buf (Elt Ideal) ℓ) : Prop :=
  True

def Pre_ReferenceDownIdeal (m : (ℓ : Loc Cert.ReferenceDownIdeal.nD Cert.ReferenceDownIdeal.τ Cert.ReferenceDownIdeal.sig) → Buf (Elt Ideal) ℓ) : Prop :=
  True

def Pre_KernelDownDx (m : (ℓ : Loc Cert.KernelDownDx.nD Cert.KernelDownDx.τ Cert.KernelDownDx.sig) → Buf (Elt Bits) ℓ) : Prop :=
  True

def Pre_KernelDownDxIdeal (m : (ℓ : Loc Cert.KernelDownDxIdeal.nD Cert.KernelDownDxIdeal.τ Cert.KernelDownDxIdeal.sig) → Buf (Elt Ideal) ℓ) : Prop :=
  True

def Pre_ReferenceDownDxIdeal (m : (ℓ : Loc Cert.ReferenceDownDxIdeal.nD Cert.ReferenceDownDxIdeal.τ Cert.ReferenceDownDxIdeal.sig) → Buf (Elt Ideal) ℓ) : Prop :=
  True

def Pre_KernelDownDw (m : (ℓ : Loc Cert.KernelDownDw.nD Cert.KernelDownDw.τ Cert.KernelDownDw.sig) → Buf (Elt Bits) ℓ) : Prop :=
  True

def Pre_KernelDownDwIdeal (m : (ℓ : Loc Cert.KernelDownDwIdeal.nD Cert.KernelDownDwIdeal.τ Cert.KernelDownDwIdeal.sig) → Buf (Elt Ideal) ℓ) : Prop :=
  True

def Pre_ReferenceDownDwIdeal (m : (ℓ : Loc Cert.ReferenceDownDwIdeal.nD Cert.ReferenceDownDwIdeal.τ Cert.ReferenceDownDwIdeal.sig) → Buf (Elt Ideal) ℓ) : Prop :=
  True

def Pre_KernelAttn (m : (ℓ : Loc Cert.KernelAttn.nD Cert.KernelAttn.τ Cert.KernelAttn.sig) → Buf (Elt Bits) ℓ) : Prop :=
  True

def Pre_KernelAttnIdeal (m : (ℓ : Loc Cert.KernelAttnIdeal.nD Cert.KernelAttnIdeal.τ Cert.KernelAttnIdeal.sig) → Buf (Elt Ideal) ℓ) : Prop :=
  True

def Pre_KernelAttnIdeal_finite_scores_fwd [hPre_finite_scores_fwd : Cert.Pre_finite_scores_fwd.Facts] (m : (ℓ : Loc Cert.KernelAttnIdeal.nD Cert.KernelAttnIdeal.τ Cert.KernelAttnIdeal.sig) → Buf (Elt Ideal) ℓ) : Prop :=
  ∀ c : Dev Cert.KernelAttnIdeal.nD,
    (Cert.Pre_finite_scores_fwd.fn (F := Ideal) (m ((c.tc : Thread Cert.KernelAttnIdeal.nD Cert.KernelAttnIdeal.τ).loc Cert.KernelAttnIdeal.main_arg0)) (m ((c.tc : Thread Cert.KernelAttnIdeal.nD Cert.KernelAttnIdeal.τ).loc Cert.KernelAttnIdeal.main_arg1)) (m ((c.tc : Thread Cert.KernelAttnIdeal.nD Cert.KernelAttnIdeal.τ).loc Cert.KernelAttnIdeal.main_arg2)) (m ((c.tc : Thread Cert.KernelAttnIdeal.nD Cert.KernelAttnIdeal.τ).loc Cert.KernelAttnIdeal.main_arg3)) (m ((c.tc : Thread Cert.KernelAttnIdeal.nD Cert.KernelAttnIdeal.τ).loc Cert.KernelAttnIdeal.main_arg4))) = (fun _ => 1#1)

def Pre_ReferenceAttnIdeal (m : (ℓ : Loc Cert.ReferenceAttnIdeal.nD Cert.ReferenceAttnIdeal.τ Cert.ReferenceAttnIdeal.sig) → Buf (Elt Ideal) ℓ) : Prop :=
  True

def Pre_ReferenceAttnIdeal_finite_scores_fwd [hPre_finite_scores_fwd : Cert.Pre_finite_scores_fwd.Facts] (m : (ℓ : Loc Cert.ReferenceAttnIdeal.nD Cert.ReferenceAttnIdeal.τ Cert.ReferenceAttnIdeal.sig) → Buf (Elt Ideal) ℓ) : Prop :=
  ∀ c : Dev Cert.ReferenceAttnIdeal.nD,
    (Cert.Pre_finite_scores_fwd.fn (F := Ideal) (m ((c.tc : Thread Cert.ReferenceAttnIdeal.nD Cert.ReferenceAttnIdeal.τ).loc Cert.ReferenceAttnIdeal.main_arg0)) (m ((c.tc : Thread Cert.ReferenceAttnIdeal.nD Cert.ReferenceAttnIdeal.τ).loc Cert.ReferenceAttnIdeal.main_arg1)) (m ((c.tc : Thread Cert.ReferenceAttnIdeal.nD Cert.ReferenceAttnIdeal.τ).loc Cert.ReferenceAttnIdeal.main_arg2)) (m ((c.tc : Thread Cert.ReferenceAttnIdeal.nD Cert.ReferenceAttnIdeal.τ).loc Cert.ReferenceAttnIdeal.main_arg3)) (m ((c.tc : Thread Cert.ReferenceAttnIdeal.nD Cert.ReferenceAttnIdeal.τ).loc Cert.ReferenceAttnIdeal.main_arg4))) = (fun _ => 1#1)

def Pre_KernelSilu (m : (ℓ : Loc Cert.KernelSilu.nD Cert.KernelSilu.τ Cert.KernelSilu.sig) → Buf (Elt Bits) ℓ) : Prop :=
  True

def Pre_KernelSiluIdeal (m : (ℓ : Loc Cert.KernelSiluIdeal.nD Cert.KernelSiluIdeal.τ Cert.KernelSiluIdeal.sig) → Buf (Elt Ideal) ℓ) : Prop :=
  True

def Pre_ReferenceSiluIdeal (m : (ℓ : Loc Cert.ReferenceSiluIdeal.nD Cert.ReferenceSiluIdeal.τ Cert.ReferenceSiluIdeal.sig) → Buf (Elt Ideal) ℓ) : Prop :=
  True

def Pre_KernelGlu (m : (ℓ : Loc Cert.KernelGlu.nD Cert.KernelGlu.τ Cert.KernelGlu.sig) → Buf (Elt Bits) ℓ) : Prop :=
  True

def Pre_KernelGluIdeal (m : (ℓ : Loc Cert.KernelGluIdeal.nD Cert.KernelGluIdeal.τ Cert.KernelGluIdeal.sig) → Buf (Elt Ideal) ℓ) : Prop :=
  True

def Pre_ReferenceGluIdeal (m : (ℓ : Loc Cert.ReferenceGluIdeal.nD Cert.ReferenceGluIdeal.τ Cert.ReferenceGluIdeal.sig) → Buf (Elt Ideal) ℓ) : Prop :=
  True

def Pre_KernelConvDx (m : (ℓ : Loc Cert.KernelConvDx.nD Cert.KernelConvDx.τ Cert.KernelConvDx.sig) → Buf (Elt Bits) ℓ) : Prop :=
  True

def Pre_KernelConvDxIdeal (m : (ℓ : Loc Cert.KernelConvDxIdeal.nD Cert.KernelConvDxIdeal.τ Cert.KernelConvDxIdeal.sig) → Buf (Elt Ideal) ℓ) : Prop :=
  True

def Pre_ReferenceConvDxIdeal (m : (ℓ : Loc Cert.ReferenceConvDxIdeal.nD Cert.ReferenceConvDxIdeal.τ Cert.ReferenceConvDxIdeal.sig) → Buf (Elt Ideal) ℓ) : Prop :=
  True

def Pre_KernelConv (m : (ℓ : Loc Cert.KernelConv.nD Cert.KernelConv.τ Cert.KernelConv.sig) → Buf (Elt Bits) ℓ) : Prop :=
  True

def Pre_KernelConvIdeal (m : (ℓ : Loc Cert.KernelConvIdeal.nD Cert.KernelConvIdeal.τ Cert.KernelConvIdeal.sig) → Buf (Elt Ideal) ℓ) : Prop :=
  True

def Pre_ReferenceConvIdeal (m : (ℓ : Loc Cert.ReferenceConvIdeal.nD Cert.ReferenceConvIdeal.τ Cert.ReferenceConvIdeal.sig) → Buf (Elt Ideal) ℓ) : Prop :=
  True

def Pre_KernelKv (m : (ℓ : Loc Cert.KernelKv.nD Cert.KernelKv.τ Cert.KernelKv.sig) → Buf (Elt Bits) ℓ) : Prop :=
  True

def Pre_KernelKvIdeal (m : (ℓ : Loc Cert.KernelKvIdeal.nD Cert.KernelKvIdeal.τ Cert.KernelKvIdeal.sig) → Buf (Elt Ideal) ℓ) : Prop :=
  True

def Pre_ReferenceKvIdeal (m : (ℓ : Loc Cert.ReferenceKvIdeal.nD Cert.ReferenceKvIdeal.τ Cert.ReferenceKvIdeal.sig) → Buf (Elt Ideal) ℓ) : Prop :=
  True

def Pre_KernelKvDx (m : (ℓ : Loc Cert.KernelKvDx.nD Cert.KernelKvDx.τ Cert.KernelKvDx.sig) → Buf (Elt Bits) ℓ) : Prop :=
  True

def Pre_KernelKvDxIdeal (m : (ℓ : Loc Cert.KernelKvDxIdeal.nD Cert.KernelKvDxIdeal.τ Cert.KernelKvDxIdeal.sig) → Buf (Elt Ideal) ℓ) : Prop :=
  True

def Pre_ReferenceKvDxIdeal (m : (ℓ : Loc Cert.ReferenceKvDxIdeal.nD Cert.ReferenceKvDxIdeal.τ Cert.ReferenceKvDxIdeal.sig) → Buf (Elt Ideal) ℓ) : Prop :=
  True

def Pre_KernelKvDw (m : (ℓ : Loc Cert.KernelKvDw.nD Cert.KernelKvDw.τ Cert.KernelKvDw.sig) → Buf (Elt Bits) ℓ) : Prop :=
  True

def Pre_KernelKvDwIdeal (m : (ℓ : Loc Cert.KernelKvDwIdeal.nD Cert.KernelKvDwIdeal.τ Cert.KernelKvDwIdeal.sig) → Buf (Elt Ideal) ℓ) : Prop :=
  True

def Pre_ReferenceKvDwIdeal (m : (ℓ : Loc Cert.ReferenceKvDwIdeal.nD Cert.ReferenceKvDwIdeal.τ Cert.ReferenceKvDwIdeal.sig) → Buf (Elt Ideal) ℓ) : Prop :=
  True

def Pre_KernelKvDb (m : (ℓ : Loc Cert.KernelKvDb.nD Cert.KernelKvDb.τ Cert.KernelKvDb.sig) → Buf (Elt Bits) ℓ) : Prop :=
  True

def Pre_KernelKvDbIdeal (m : (ℓ : Loc Cert.KernelKvDbIdeal.nD Cert.KernelKvDbIdeal.τ Cert.KernelKvDbIdeal.sig) → Buf (Elt Ideal) ℓ) : Prop :=
  True

def Pre_ReferenceKvDbIdeal (m : (ℓ : Loc Cert.ReferenceKvDbIdeal.nD Cert.ReferenceKvDbIdeal.τ Cert.ReferenceKvDbIdeal.sig) → Buf (Elt Ideal) ℓ) : Prop :=
  True

def Pre_KernelCtx (m : (ℓ : Loc Cert.KernelCtx.nD Cert.KernelCtx.τ Cert.KernelCtx.sig) → Buf (Elt Bits) ℓ) : Prop :=
  True

def Pre_KernelCtxIdeal (m : (ℓ : Loc Cert.KernelCtxIdeal.nD Cert.KernelCtxIdeal.τ Cert.KernelCtxIdeal.sig) → Buf (Elt Ideal) ℓ) : Prop :=
  True

def Pre_KernelCtxIdeal_finite_scores_ctx [hPre_finite_scores_ctx : Cert.Pre_finite_scores_ctx.Facts] (m : (ℓ : Loc Cert.KernelCtxIdeal.nD Cert.KernelCtxIdeal.τ Cert.KernelCtxIdeal.sig) → Buf (Elt Ideal) ℓ) : Prop :=
  ∀ c : Dev Cert.KernelCtxIdeal.nD,
    (Cert.Pre_finite_scores_ctx.fn (F := Ideal) (m ((c.tc : Thread Cert.KernelCtxIdeal.nD Cert.KernelCtxIdeal.τ).loc Cert.KernelCtxIdeal.main_arg0)) (m ((c.tc : Thread Cert.KernelCtxIdeal.nD Cert.KernelCtxIdeal.τ).loc Cert.KernelCtxIdeal.main_arg1)) (m ((c.tc : Thread Cert.KernelCtxIdeal.nD Cert.KernelCtxIdeal.τ).loc Cert.KernelCtxIdeal.main_arg2)) (m ((c.tc : Thread Cert.KernelCtxIdeal.nD Cert.KernelCtxIdeal.τ).loc Cert.KernelCtxIdeal.main_arg3))) = (fun _ => 1#1)

def Pre_ReferenceCtxIdeal (m : (ℓ : Loc Cert.ReferenceCtxIdeal.nD Cert.ReferenceCtxIdeal.τ Cert.ReferenceCtxIdeal.sig) → Buf (Elt Ideal) ℓ) : Prop :=
  True

def Pre_ReferenceCtxIdeal_finite_scores_ctx [hPre_finite_scores_ctx : Cert.Pre_finite_scores_ctx.Facts] (m : (ℓ : Loc Cert.ReferenceCtxIdeal.nD Cert.ReferenceCtxIdeal.τ Cert.ReferenceCtxIdeal.sig) → Buf (Elt Ideal) ℓ) : Prop :=
  ∀ c : Dev Cert.ReferenceCtxIdeal.nD,
    (Cert.Pre_finite_scores_ctx.fn (F := Ideal) (m ((c.tc : Thread Cert.ReferenceCtxIdeal.nD Cert.ReferenceCtxIdeal.τ).loc Cert.ReferenceCtxIdeal.main_arg0)) (m ((c.tc : Thread Cert.ReferenceCtxIdeal.nD Cert.ReferenceCtxIdeal.τ).loc Cert.ReferenceCtxIdeal.main_arg1)) (m ((c.tc : Thread Cert.ReferenceCtxIdeal.nD Cert.ReferenceCtxIdeal.τ).loc Cert.ReferenceCtxIdeal.main_arg2)) (m ((c.tc : Thread Cert.ReferenceCtxIdeal.nD Cert.ReferenceCtxIdeal.τ).loc Cert.ReferenceCtxIdeal.main_arg3))) = (fun _ => 1#1)

def Pre_KernelCtxFwd (m : (ℓ : Loc Cert.KernelCtxFwd.nD Cert.KernelCtxFwd.τ Cert.KernelCtxFwd.sig) → Buf (Elt Bits) ℓ) : Prop :=
  True

def Pre_KernelCtxFwdIdeal (m : (ℓ : Loc Cert.KernelCtxFwdIdeal.nD Cert.KernelCtxFwdIdeal.τ Cert.KernelCtxFwdIdeal.sig) → Buf (Elt Ideal) ℓ) : Prop :=
  True

def Pre_KernelCtxFwdIdeal_finite_scores_ctx_fwd [hPre_finite_scores_ctx_fwd : Cert.Pre_finite_scores_ctx_fwd.Facts] (m : (ℓ : Loc Cert.KernelCtxFwdIdeal.nD Cert.KernelCtxFwdIdeal.τ Cert.KernelCtxFwdIdeal.sig) → Buf (Elt Ideal) ℓ) : Prop :=
  ∀ c : Dev Cert.KernelCtxFwdIdeal.nD,
    (Cert.Pre_finite_scores_ctx_fwd.fn (F := Ideal) (m ((c.tc : Thread Cert.KernelCtxFwdIdeal.nD Cert.KernelCtxFwdIdeal.τ).loc Cert.KernelCtxFwdIdeal.main_arg0)) (m ((c.tc : Thread Cert.KernelCtxFwdIdeal.nD Cert.KernelCtxFwdIdeal.τ).loc Cert.KernelCtxFwdIdeal.main_arg1)) (m ((c.tc : Thread Cert.KernelCtxFwdIdeal.nD Cert.KernelCtxFwdIdeal.τ).loc Cert.KernelCtxFwdIdeal.main_arg2))) = (fun _ => 1#1)

def Pre_ReferenceCtxFwdIdeal (m : (ℓ : Loc Cert.ReferenceCtxFwdIdeal.nD Cert.ReferenceCtxFwdIdeal.τ Cert.ReferenceCtxFwdIdeal.sig) → Buf (Elt Ideal) ℓ) : Prop :=
  True

def Pre_ReferenceCtxFwdIdeal_finite_scores_ctx_fwd [hPre_finite_scores_ctx_fwd : Cert.Pre_finite_scores_ctx_fwd.Facts] (m : (ℓ : Loc Cert.ReferenceCtxFwdIdeal.nD Cert.ReferenceCtxFwdIdeal.τ Cert.ReferenceCtxFwdIdeal.sig) → Buf (Elt Ideal) ℓ) : Prop :=
  ∀ c : Dev Cert.ReferenceCtxFwdIdeal.nD,
    (Cert.Pre_finite_scores_ctx_fwd.fn (F := Ideal) (m ((c.tc : Thread Cert.ReferenceCtxFwdIdeal.nD Cert.ReferenceCtxFwdIdeal.τ).loc Cert.ReferenceCtxFwdIdeal.main_arg0)) (m ((c.tc : Thread Cert.ReferenceCtxFwdIdeal.nD Cert.ReferenceCtxFwdIdeal.τ).loc Cert.ReferenceCtxFwdIdeal.main_arg1)) (m ((c.tc : Thread Cert.ReferenceCtxFwdIdeal.nD Cert.ReferenceCtxFwdIdeal.τ).loc Cert.ReferenceCtxFwdIdeal.main_arg2))) = (fun _ => 1#1)

def Pre_KernelSiluFwd (m : (ℓ : Loc Cert.KernelSiluFwd.nD Cert.KernelSiluFwd.τ Cert.KernelSiluFwd.sig) → Buf (Elt Bits) ℓ) : Prop :=
  True

def Pre_KernelSiluFwdIdeal (m : (ℓ : Loc Cert.KernelSiluFwdIdeal.nD Cert.KernelSiluFwdIdeal.τ Cert.KernelSiluFwdIdeal.sig) → Buf (Elt Ideal) ℓ) : Prop :=
  True

def Pre_ReferenceSiluFwdIdeal (m : (ℓ : Loc Cert.ReferenceSiluFwdIdeal.nD Cert.ReferenceSiluFwdIdeal.τ Cert.ReferenceSiluFwdIdeal.sig) → Buf (Elt Ideal) ℓ) : Prop :=
  True

def Pre_KernelGluFwd (m : (ℓ : Loc Cert.KernelGluFwd.nD Cert.KernelGluFwd.τ Cert.KernelGluFwd.sig) → Buf (Elt Bits) ℓ) : Prop :=
  True

def Pre_KernelGluFwdIdeal (m : (ℓ : Loc Cert.KernelGluFwdIdeal.nD Cert.KernelGluFwdIdeal.τ Cert.KernelGluFwdIdeal.sig) → Buf (Elt Ideal) ℓ) : Prop :=
  True

def Pre_ReferenceGluFwdIdeal (m : (ℓ : Loc Cert.ReferenceGluFwdIdeal.nD Cert.ReferenceGluFwdIdeal.τ Cert.ReferenceGluFwdIdeal.sig) → Buf (Elt Ideal) ℓ) : Prop :=
  True

def Pre_KernelAdamSq (m : (ℓ : Loc Cert.KernelAdamSq.nD Cert.KernelAdamSq.τ Cert.KernelAdamSq.sig) → Buf (Elt Bits) ℓ) : Prop :=
  True

def Pre_KernelAdamSqIdeal (m : (ℓ : Loc Cert.KernelAdamSqIdeal.nD Cert.KernelAdamSqIdeal.τ Cert.KernelAdamSqIdeal.sig) → Buf (Elt Ideal) ℓ) : Prop :=
  True

def Pre_ReferenceAdamSqIdeal (m : (ℓ : Loc Cert.ReferenceAdamSqIdeal.nD Cert.ReferenceAdamSqIdeal.τ Cert.ReferenceAdamSqIdeal.sig) → Buf (Elt Ideal) ℓ) : Prop :=
  True

def Pre_KernelAdamVec (m : (ℓ : Loc Cert.KernelAdamVec.nD Cert.KernelAdamVec.τ Cert.KernelAdamVec.sig) → Buf (Elt Bits) ℓ) : Prop :=
  True

def Pre_KernelAdamVecIdeal (m : (ℓ : Loc Cert.KernelAdamVecIdeal.nD Cert.KernelAdamVecIdeal.τ Cert.KernelAdamVecIdeal.sig) → Buf (Elt Ideal) ℓ) : Prop :=
  True

def Pre_ReferenceAdamVecIdeal (m : (ℓ : Loc Cert.ReferenceAdamVecIdeal.nD Cert.ReferenceAdamVecIdeal.τ Cert.ReferenceAdamVecIdeal.sig) → Buf (Elt Ideal) ℓ) : Prop :=
  True

def Pre_KernelModFwd (m : (ℓ : Loc Cert.KernelModFwd.nD Cert.KernelModFwd.τ Cert.KernelModFwd.sig) → Buf (Elt Bits) ℓ) : Prop :=
  True

def Pre_KernelModFwdIdeal (m : (ℓ : Loc Cert.KernelModFwdIdeal.nD Cert.KernelModFwdIdeal.τ Cert.KernelModFwdIdeal.sig) → Buf (Elt Ideal) ℓ) : Prop :=
  True

def Pre_ReferenceModFwdIdeal (m : (ℓ : Loc Cert.ReferenceModFwdIdeal.nD Cert.ReferenceModFwdIdeal.τ Cert.ReferenceModFwdIdeal.sig) → Buf (Elt Ideal) ℓ) : Prop :=
  True

def Pre_KernelMergeFwd (m : (ℓ : Loc Cert.KernelMergeFwd.nD Cert.KernelMergeFwd.τ Cert.KernelMergeFwd.sig) → Buf (Elt Bits) ℓ) : Prop :=
  True

def Pre_KernelMergeFwdIdeal (m : (ℓ : Loc Cert.KernelMergeFwdIdeal.nD Cert.KernelMergeFwdIdeal.τ Cert.KernelMergeFwdIdeal.sig) → Buf (Elt Ideal) ℓ) : Prop :=
  True

def Pre_ReferenceMergeFwdIdeal (m : (ℓ : Loc Cert.ReferenceMergeFwdIdeal.nD Cert.ReferenceMergeFwdIdeal.τ Cert.ReferenceMergeFwdIdeal.sig) → Buf (Elt Ideal) ℓ) : Prop :=
  True

def Pre_KernelLnSiluFwd (m : (ℓ : Loc Cert.KernelLnSiluFwd.nD Cert.KernelLnSiluFwd.τ Cert.KernelLnSiluFwd.sig) → Buf (Elt Bits) ℓ) : Prop :=
  True

def Pre_KernelLnSiluFwdIdeal (m : (ℓ : Loc Cert.KernelLnSiluFwdIdeal.nD Cert.KernelLnSiluFwdIdeal.τ Cert.KernelLnSiluFwdIdeal.sig) → Buf (Elt Ideal) ℓ) : Prop :=
  True

def Pre_ReferenceLnSiluFwdIdeal (m : (ℓ : Loc Cert.ReferenceLnSiluFwdIdeal.nD Cert.ReferenceLnSiluFwdIdeal.τ Cert.ReferenceLnSiluFwdIdeal.sig) → Buf (Elt Ideal) ℓ) : Prop :=
  True

def Pre_KernelResLnFwd (m : (ℓ : Loc Cert.KernelResLnFwd.nD Cert.KernelResLnFwd.τ Cert.KernelResLnFwd.sig) → Buf (Elt Bits) ℓ) : Prop :=
  True

def Pre_KernelResLnFwdIdeal (m : (ℓ : Loc Cert.KernelResLnFwdIdeal.nD Cert.KernelResLnFwdIdeal.τ Cert.KernelResLnFwdIdeal.sig) → Buf (Elt Ideal) ℓ) : Prop :=
  True

def Pre_ReferenceResLnFwdIdeal (m : (ℓ : Loc Cert.ReferenceResLnFwdIdeal.nD Cert.ReferenceResLnFwdIdeal.τ Cert.ReferenceResLnFwdIdeal.sig) → Buf (Elt Ideal) ℓ) : Prop :=
  True

def Pre_KernelLoss (m : (ℓ : Loc Cert.KernelLoss.nD Cert.KernelLoss.τ Cert.KernelLoss.sig) → Buf (Elt Bits) ℓ) : Prop :=
  True

def Pre_KernelLossIdeal (m : (ℓ : Loc Cert.KernelLossIdeal.nD Cert.KernelLossIdeal.τ Cert.KernelLossIdeal.sig) → Buf (Elt Ideal) ℓ) : Prop :=
  True

def Pre_ReferenceLossIdeal (m : (ℓ : Loc Cert.ReferenceLossIdeal.nD Cert.ReferenceLossIdeal.τ Cert.ReferenceLossIdeal.sig) → Buf (Elt Ideal) ℓ) : Prop :=
  True

def Pre_KernelAdamIn (m : (ℓ : Loc Cert.KernelAdamIn.nD Cert.KernelAdamIn.τ Cert.KernelAdamIn.sig) → Buf (Elt Bits) ℓ) : Prop :=
  True

def Pre_KernelAdamInIdeal (m : (ℓ : Loc Cert.KernelAdamInIdeal.nD Cert.KernelAdamInIdeal.τ Cert.KernelAdamInIdeal.sig) → Buf (Elt Ideal) ℓ) : Prop :=
  True

def Pre_ReferenceAdamInIdeal (m : (ℓ : Loc Cert.ReferenceAdamInIdeal.nD Cert.ReferenceAdamInIdeal.τ Cert.ReferenceAdamInIdeal.sig) → Buf (Elt Ideal) ℓ) : Prop :=
  True

def Pre_KernelAdamUp (m : (ℓ : Loc Cert.KernelAdamUp.nD Cert.KernelAdamUp.τ Cert.KernelAdamUp.sig) → Buf (Elt Bits) ℓ) : Prop :=
  True

def Pre_KernelAdamUpIdeal (m : (ℓ : Loc Cert.KernelAdamUpIdeal.nD Cert.KernelAdamUpIdeal.τ Cert.KernelAdamUpIdeal.sig) → Buf (Elt Ideal) ℓ) : Prop :=
  True

def Pre_ReferenceAdamUpIdeal (m : (ℓ : Loc Cert.ReferenceAdamUpIdeal.nD Cert.ReferenceAdamUpIdeal.τ Cert.ReferenceAdamUpIdeal.sig) → Buf (Elt Ideal) ℓ) : Prop :=
  True

def Pre_KernelAdamDown (m : (ℓ : Loc Cert.KernelAdamDown.nD Cert.KernelAdamDown.τ Cert.KernelAdamDown.sig) → Buf (Elt Bits) ℓ) : Prop :=
  True

def Pre_KernelAdamDownIdeal (m : (ℓ : Loc Cert.KernelAdamDownIdeal.nD Cert.KernelAdamDownIdeal.τ Cert.KernelAdamDownIdeal.sig) → Buf (Elt Ideal) ℓ) : Prop :=
  True

def Pre_ReferenceAdamDownIdeal (m : (ℓ : Loc Cert.ReferenceAdamDownIdeal.nD Cert.ReferenceAdamDownIdeal.τ Cert.ReferenceAdamDownIdeal.sig) → Buf (Elt Ideal) ℓ) : Prop :=
  True

def Pre_KernelThree (m : (ℓ : Loc Cert.KernelThree.nD Cert.KernelThree.τ Cert.KernelThree.sig) → Buf (Elt Bits) ℓ) : Prop :=
  True

def Pre_KernelThreeIdeal (m : (ℓ : Loc Cert.KernelThreeIdeal.nD Cert.KernelThreeIdeal.τ Cert.KernelThreeIdeal.sig) → Buf (Elt Ideal) ℓ) : Prop :=
  True

def Pre_ReferenceThreeIdeal (m : (ℓ : Loc Cert.ReferenceThreeIdeal.nD Cert.ReferenceThreeIdeal.τ Cert.ReferenceThreeIdeal.sig) → Buf (Elt Ideal) ℓ) : Prop :=
  True

def Pre_KernelThreeDx (m : (ℓ : Loc Cert.KernelThreeDx.nD Cert.KernelThreeDx.τ Cert.KernelThreeDx.sig) → Buf (Elt Bits) ℓ) : Prop :=
  True

def Pre_KernelThreeDxIdeal (m : (ℓ : Loc Cert.KernelThreeDxIdeal.nD Cert.KernelThreeDxIdeal.τ Cert.KernelThreeDxIdeal.sig) → Buf (Elt Ideal) ℓ) : Prop :=
  True

def Pre_ReferenceThreeDxIdeal (m : (ℓ : Loc Cert.ReferenceThreeDxIdeal.nD Cert.ReferenceThreeDxIdeal.τ Cert.ReferenceThreeDxIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_KernelLin [hKernelLin : Cert.KernelLin.Facts] : Prop :=
  ∀ (m : (ℓ : Loc Cert.KernelLin.nD Cert.KernelLin.τ Cert.KernelLin.sig) → Buf (Elt Bits) ℓ) (g : Dev Cert.KernelLin.nD → PrngReg), Pre_KernelLin m →
    θ_run (Cert.KernelLin.defs (F := Bits)) (onTc (τ := Cert.KernelLin.τ) (Cert.KernelLin.main (F := Bits))) ⟨m, fun _ => 0, g⟩ (fun r => (∀ c : Dev Cert.KernelLin.nD,
      r.2.mem ((c.tc : Thread Cert.KernelLin.nD Cert.KernelLin.τ).loc Cert.KernelLin.main_arg0) = m ((c.tc : Thread Cert.KernelLin.nD Cert.KernelLin.τ).loc Cert.KernelLin.main_arg0)
      ∧ r.2.mem ((c.tc : Thread Cert.KernelLin.nD Cert.KernelLin.τ).loc Cert.KernelLin.main_arg1) = m ((c.tc : Thread Cert.KernelLin.nD Cert.KernelLin.τ).loc Cert.KernelLin.main_arg1)
      ∧ r.2.mem ((c.tc : Thread Cert.KernelLin.nD Cert.KernelLin.τ).loc Cert.KernelLin.main_arg2) = m ((c.tc : Thread Cert.KernelLin.nD Cert.KernelLin.τ).loc Cert.KernelLin.main_arg2))
      ∧ r.2.sem = fun _ => 0)

def quiescent_KernelLinIdeal [hKernelLinIdeal : Cert.KernelLinIdeal.Facts] : Prop :=
  ∀ (m : (ℓ : Loc Cert.KernelLinIdeal.nD Cert.KernelLinIdeal.τ Cert.KernelLinIdeal.sig) → Buf (Elt Ideal) ℓ) (g : Dev Cert.KernelLinIdeal.nD → PrngReg), Pre_KernelLinIdeal m →
    θ_run (Cert.KernelLinIdeal.defs (F := Ideal)) (onTc (τ := Cert.KernelLinIdeal.τ) (Cert.KernelLinIdeal.main (F := Ideal))) ⟨m, fun _ => 0, g⟩ (fun r => (∀ c : Dev Cert.KernelLinIdeal.nD,
      r.2.mem ((c.tc : Thread Cert.KernelLinIdeal.nD Cert.KernelLinIdeal.τ).loc Cert.KernelLinIdeal.main_arg0) = m ((c.tc : Thread Cert.KernelLinIdeal.nD Cert.KernelLinIdeal.τ).loc Cert.KernelLinIdeal.main_arg0)
      ∧ r.2.mem ((c.tc : Thread Cert.KernelLinIdeal.nD Cert.KernelLinIdeal.τ).loc Cert.KernelLinIdeal.main_arg1) = m ((c.tc : Thread Cert.KernelLinIdeal.nD Cert.KernelLinIdeal.τ).loc Cert.KernelLinIdeal.main_arg1)
      ∧ r.2.mem ((c.tc : Thread Cert.KernelLinIdeal.nD Cert.KernelLinIdeal.τ).loc Cert.KernelLinIdeal.main_arg2) = m ((c.tc : Thread Cert.KernelLinIdeal.nD Cert.KernelLinIdeal.τ).loc Cert.KernelLinIdeal.main_arg2))
      ∧ r.2.sem = fun _ => 0)

def quiescent_ReferenceLinIdeal [hReferenceLinIdeal : Cert.ReferenceLinIdeal.Facts] : Prop :=
  ∀ (m : (ℓ : Loc Cert.ReferenceLinIdeal.nD Cert.ReferenceLinIdeal.τ Cert.ReferenceLinIdeal.sig) → Buf (Elt Ideal) ℓ) (g : Dev Cert.ReferenceLinIdeal.nD → PrngReg), Pre_ReferenceLinIdeal m →
    θ_run (Cert.ReferenceLinIdeal.defs (F := Ideal)) (onTc (τ := Cert.ReferenceLinIdeal.τ) (Cert.ReferenceLinIdeal.main (F := Ideal))) ⟨m, fun _ => 0, g⟩ (fun r => (∀ c : Dev Cert.ReferenceLinIdeal.nD,
      r.2.mem ((c.tc : Thread Cert.ReferenceLinIdeal.nD Cert.ReferenceLinIdeal.τ).loc Cert.ReferenceLinIdeal.main_arg0) = m ((c.tc : Thread Cert.ReferenceLinIdeal.nD Cert.ReferenceLinIdeal.τ).loc Cert.ReferenceLinIdeal.main_arg0)
      ∧ r.2.mem ((c.tc : Thread Cert.ReferenceLinIdeal.nD Cert.ReferenceLinIdeal.τ).loc Cert.ReferenceLinIdeal.main_arg1) = m ((c.tc : Thread Cert.ReferenceLinIdeal.nD Cert.ReferenceLinIdeal.τ).loc Cert.ReferenceLinIdeal.main_arg1)
      ∧ r.2.mem ((c.tc : Thread Cert.ReferenceLinIdeal.nD Cert.ReferenceLinIdeal.τ).loc Cert.ReferenceLinIdeal.main_arg2) = m ((c.tc : Thread Cert.ReferenceLinIdeal.nD Cert.ReferenceLinIdeal.τ).loc Cert.ReferenceLinIdeal.main_arg2))
      ∧ r.2.sem = fun _ => 0)

def quiescent_KernelLinDx [hKernelLinDx : Cert.KernelLinDx.Facts] : Prop :=
  ∀ (m : (ℓ : Loc Cert.KernelLinDx.nD Cert.KernelLinDx.τ Cert.KernelLinDx.sig) → Buf (Elt Bits) ℓ) (g : Dev Cert.KernelLinDx.nD → PrngReg), Pre_KernelLinDx m →
    θ_run (Cert.KernelLinDx.defs (F := Bits)) (onTc (τ := Cert.KernelLinDx.τ) (Cert.KernelLinDx.main (F := Bits))) ⟨m, fun _ => 0, g⟩ (fun r => (∀ c : Dev Cert.KernelLinDx.nD,
      r.2.mem ((c.tc : Thread Cert.KernelLinDx.nD Cert.KernelLinDx.τ).loc Cert.KernelLinDx.main_arg0) = m ((c.tc : Thread Cert.KernelLinDx.nD Cert.KernelLinDx.τ).loc Cert.KernelLinDx.main_arg0)
      ∧ r.2.mem ((c.tc : Thread Cert.KernelLinDx.nD Cert.KernelLinDx.τ).loc Cert.KernelLinDx.main_arg1) = m ((c.tc : Thread Cert.KernelLinDx.nD Cert.KernelLinDx.τ).loc Cert.KernelLinDx.main_arg1))
      ∧ r.2.sem = fun _ => 0)

def quiescent_KernelLinDxIdeal [hKernelLinDxIdeal : Cert.KernelLinDxIdeal.Facts] : Prop :=
  ∀ (m : (ℓ : Loc Cert.KernelLinDxIdeal.nD Cert.KernelLinDxIdeal.τ Cert.KernelLinDxIdeal.sig) → Buf (Elt Ideal) ℓ) (g : Dev Cert.KernelLinDxIdeal.nD → PrngReg), Pre_KernelLinDxIdeal m →
    θ_run (Cert.KernelLinDxIdeal.defs (F := Ideal)) (onTc (τ := Cert.KernelLinDxIdeal.τ) (Cert.KernelLinDxIdeal.main (F := Ideal))) ⟨m, fun _ => 0, g⟩ (fun r => (∀ c : Dev Cert.KernelLinDxIdeal.nD,
      r.2.mem ((c.tc : Thread Cert.KernelLinDxIdeal.nD Cert.KernelLinDxIdeal.τ).loc Cert.KernelLinDxIdeal.main_arg0) = m ((c.tc : Thread Cert.KernelLinDxIdeal.nD Cert.KernelLinDxIdeal.τ).loc Cert.KernelLinDxIdeal.main_arg0)
      ∧ r.2.mem ((c.tc : Thread Cert.KernelLinDxIdeal.nD Cert.KernelLinDxIdeal.τ).loc Cert.KernelLinDxIdeal.main_arg1) = m ((c.tc : Thread Cert.KernelLinDxIdeal.nD Cert.KernelLinDxIdeal.τ).loc Cert.KernelLinDxIdeal.main_arg1))
      ∧ r.2.sem = fun _ => 0)

def quiescent_ReferenceLinDxIdeal [hReferenceLinDxIdeal : Cert.ReferenceLinDxIdeal.Facts] : Prop :=
  ∀ (m : (ℓ : Loc Cert.ReferenceLinDxIdeal.nD Cert.ReferenceLinDxIdeal.τ Cert.ReferenceLinDxIdeal.sig) → Buf (Elt Ideal) ℓ) (g : Dev Cert.ReferenceLinDxIdeal.nD → PrngReg), Pre_ReferenceLinDxIdeal m →
    θ_run (Cert.ReferenceLinDxIdeal.defs (F := Ideal)) (onTc (τ := Cert.ReferenceLinDxIdeal.τ) (Cert.ReferenceLinDxIdeal.main (F := Ideal))) ⟨m, fun _ => 0, g⟩ (fun r => (∀ c : Dev Cert.ReferenceLinDxIdeal.nD,
      r.2.mem ((c.tc : Thread Cert.ReferenceLinDxIdeal.nD Cert.ReferenceLinDxIdeal.τ).loc Cert.ReferenceLinDxIdeal.main_arg0) = m ((c.tc : Thread Cert.ReferenceLinDxIdeal.nD Cert.ReferenceLinDxIdeal.τ).loc Cert.ReferenceLinDxIdeal.main_arg0)
      ∧ r.2.mem ((c.tc : Thread Cert.ReferenceLinDxIdeal.nD Cert.ReferenceLinDxIdeal.τ).loc Cert.ReferenceLinDxIdeal.main_arg1) = m ((c.tc : Thread Cert.ReferenceLinDxIdeal.nD Cert.ReferenceLinDxIdeal.τ).loc Cert.ReferenceLinDxIdeal.main_arg1))
      ∧ r.2.sem = fun _ => 0)

def quiescent_KernelLinDw [hKernelLinDw : Cert.KernelLinDw.Facts] : Prop :=
  ∀ (m : (ℓ : Loc Cert.KernelLinDw.nD Cert.KernelLinDw.τ Cert.KernelLinDw.sig) → Buf (Elt Bits) ℓ) (g : Dev Cert.KernelLinDw.nD → PrngReg), Pre_KernelLinDw m →
    θ_run (Cert.KernelLinDw.defs (F := Bits)) (onTc (τ := Cert.KernelLinDw.τ) (Cert.KernelLinDw.main (F := Bits))) ⟨m, fun _ => 0, g⟩ (fun r => (∀ c : Dev Cert.KernelLinDw.nD,
      r.2.mem ((c.tc : Thread Cert.KernelLinDw.nD Cert.KernelLinDw.τ).loc Cert.KernelLinDw.main_arg0) = m ((c.tc : Thread Cert.KernelLinDw.nD Cert.KernelLinDw.τ).loc Cert.KernelLinDw.main_arg0)
      ∧ r.2.mem ((c.tc : Thread Cert.KernelLinDw.nD Cert.KernelLinDw.τ).loc Cert.KernelLinDw.main_arg1) = m ((c.tc : Thread Cert.KernelLinDw.nD Cert.KernelLinDw.τ).loc Cert.KernelLinDw.main_arg1))
      ∧ r.2.sem = fun _ => 0)

def quiescent_KernelLinDwIdeal [hKernelLinDwIdeal : Cert.KernelLinDwIdeal.Facts] : Prop :=
  ∀ (m : (ℓ : Loc Cert.KernelLinDwIdeal.nD Cert.KernelLinDwIdeal.τ Cert.KernelLinDwIdeal.sig) → Buf (Elt Ideal) ℓ) (g : Dev Cert.KernelLinDwIdeal.nD → PrngReg), Pre_KernelLinDwIdeal m →
    θ_run (Cert.KernelLinDwIdeal.defs (F := Ideal)) (onTc (τ := Cert.KernelLinDwIdeal.τ) (Cert.KernelLinDwIdeal.main (F := Ideal))) ⟨m, fun _ => 0, g⟩ (fun r => (∀ c : Dev Cert.KernelLinDwIdeal.nD,
      r.2.mem ((c.tc : Thread Cert.KernelLinDwIdeal.nD Cert.KernelLinDwIdeal.τ).loc Cert.KernelLinDwIdeal.main_arg0) = m ((c.tc : Thread Cert.KernelLinDwIdeal.nD Cert.KernelLinDwIdeal.τ).loc Cert.KernelLinDwIdeal.main_arg0)
      ∧ r.2.mem ((c.tc : Thread Cert.KernelLinDwIdeal.nD Cert.KernelLinDwIdeal.τ).loc Cert.KernelLinDwIdeal.main_arg1) = m ((c.tc : Thread Cert.KernelLinDwIdeal.nD Cert.KernelLinDwIdeal.τ).loc Cert.KernelLinDwIdeal.main_arg1))
      ∧ r.2.sem = fun _ => 0)

def quiescent_ReferenceLinDwIdeal [hReferenceLinDwIdeal : Cert.ReferenceLinDwIdeal.Facts] : Prop :=
  ∀ (m : (ℓ : Loc Cert.ReferenceLinDwIdeal.nD Cert.ReferenceLinDwIdeal.τ Cert.ReferenceLinDwIdeal.sig) → Buf (Elt Ideal) ℓ) (g : Dev Cert.ReferenceLinDwIdeal.nD → PrngReg), Pre_ReferenceLinDwIdeal m →
    θ_run (Cert.ReferenceLinDwIdeal.defs (F := Ideal)) (onTc (τ := Cert.ReferenceLinDwIdeal.τ) (Cert.ReferenceLinDwIdeal.main (F := Ideal))) ⟨m, fun _ => 0, g⟩ (fun r => (∀ c : Dev Cert.ReferenceLinDwIdeal.nD,
      r.2.mem ((c.tc : Thread Cert.ReferenceLinDwIdeal.nD Cert.ReferenceLinDwIdeal.τ).loc Cert.ReferenceLinDwIdeal.main_arg0) = m ((c.tc : Thread Cert.ReferenceLinDwIdeal.nD Cert.ReferenceLinDwIdeal.τ).loc Cert.ReferenceLinDwIdeal.main_arg0)
      ∧ r.2.mem ((c.tc : Thread Cert.ReferenceLinDwIdeal.nD Cert.ReferenceLinDwIdeal.τ).loc Cert.ReferenceLinDwIdeal.main_arg1) = m ((c.tc : Thread Cert.ReferenceLinDwIdeal.nD Cert.ReferenceLinDwIdeal.τ).loc Cert.ReferenceLinDwIdeal.main_arg1))
      ∧ r.2.sem = fun _ => 0)

def quiescent_KernelLinDb [hKernelLinDb : Cert.KernelLinDb.Facts] : Prop :=
  ∀ (m : (ℓ : Loc Cert.KernelLinDb.nD Cert.KernelLinDb.τ Cert.KernelLinDb.sig) → Buf (Elt Bits) ℓ) (g : Dev Cert.KernelLinDb.nD → PrngReg), Pre_KernelLinDb m →
    θ_run (Cert.KernelLinDb.defs (F := Bits)) (onTc (τ := Cert.KernelLinDb.τ) (Cert.KernelLinDb.main (F := Bits))) ⟨m, fun _ => 0, g⟩ (fun r => (∀ c : Dev Cert.KernelLinDb.nD,
      r.2.mem ((c.tc : Thread Cert.KernelLinDb.nD Cert.KernelLinDb.τ).loc Cert.KernelLinDb.main_arg0) = m ((c.tc : Thread Cert.KernelLinDb.nD Cert.KernelLinDb.τ).loc Cert.KernelLinDb.main_arg0))
      ∧ r.2.sem = fun _ => 0)

def quiescent_KernelLinDbIdeal [hKernelLinDbIdeal : Cert.KernelLinDbIdeal.Facts] : Prop :=
  ∀ (m : (ℓ : Loc Cert.KernelLinDbIdeal.nD Cert.KernelLinDbIdeal.τ Cert.KernelLinDbIdeal.sig) → Buf (Elt Ideal) ℓ) (g : Dev Cert.KernelLinDbIdeal.nD → PrngReg), Pre_KernelLinDbIdeal m →
    θ_run (Cert.KernelLinDbIdeal.defs (F := Ideal)) (onTc (τ := Cert.KernelLinDbIdeal.τ) (Cert.KernelLinDbIdeal.main (F := Ideal))) ⟨m, fun _ => 0, g⟩ (fun r => (∀ c : Dev Cert.KernelLinDbIdeal.nD,
      r.2.mem ((c.tc : Thread Cert.KernelLinDbIdeal.nD Cert.KernelLinDbIdeal.τ).loc Cert.KernelLinDbIdeal.main_arg0) = m ((c.tc : Thread Cert.KernelLinDbIdeal.nD Cert.KernelLinDbIdeal.τ).loc Cert.KernelLinDbIdeal.main_arg0))
      ∧ r.2.sem = fun _ => 0)

def quiescent_ReferenceLinDbIdeal [hReferenceLinDbIdeal : Cert.ReferenceLinDbIdeal.Facts] : Prop :=
  ∀ (m : (ℓ : Loc Cert.ReferenceLinDbIdeal.nD Cert.ReferenceLinDbIdeal.τ Cert.ReferenceLinDbIdeal.sig) → Buf (Elt Ideal) ℓ) (g : Dev Cert.ReferenceLinDbIdeal.nD → PrngReg), Pre_ReferenceLinDbIdeal m →
    θ_run (Cert.ReferenceLinDbIdeal.defs (F := Ideal)) (onTc (τ := Cert.ReferenceLinDbIdeal.τ) (Cert.ReferenceLinDbIdeal.main (F := Ideal))) ⟨m, fun _ => 0, g⟩ (fun r => (∀ c : Dev Cert.ReferenceLinDbIdeal.nD,
      r.2.mem ((c.tc : Thread Cert.ReferenceLinDbIdeal.nD Cert.ReferenceLinDbIdeal.τ).loc Cert.ReferenceLinDbIdeal.main_arg0) = m ((c.tc : Thread Cert.ReferenceLinDbIdeal.nD Cert.ReferenceLinDbIdeal.τ).loc Cert.ReferenceLinDbIdeal.main_arg0))
      ∧ r.2.sem = fun _ => 0)

def quiescent_KernelUp [hKernelUp : Cert.KernelUp.Facts] : Prop :=
  ∀ (m : (ℓ : Loc Cert.KernelUp.nD Cert.KernelUp.τ Cert.KernelUp.sig) → Buf (Elt Bits) ℓ) (g : Dev Cert.KernelUp.nD → PrngReg), Pre_KernelUp m →
    θ_run (Cert.KernelUp.defs (F := Bits)) (onTc (τ := Cert.KernelUp.τ) (Cert.KernelUp.main (F := Bits))) ⟨m, fun _ => 0, g⟩ (fun r => (∀ c : Dev Cert.KernelUp.nD,
      r.2.mem ((c.tc : Thread Cert.KernelUp.nD Cert.KernelUp.τ).loc Cert.KernelUp.main_arg0) = m ((c.tc : Thread Cert.KernelUp.nD Cert.KernelUp.τ).loc Cert.KernelUp.main_arg0)
      ∧ r.2.mem ((c.tc : Thread Cert.KernelUp.nD Cert.KernelUp.τ).loc Cert.KernelUp.main_arg1) = m ((c.tc : Thread Cert.KernelUp.nD Cert.KernelUp.τ).loc Cert.KernelUp.main_arg1))
      ∧ r.2.sem = fun _ => 0)

def quiescent_KernelUpIdeal [hKernelUpIdeal : Cert.KernelUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1))
      ∧ r.2.sem = fun _ => 0)

def quiescent_ReferenceUpIdeal [hReferenceUpIdeal : Cert.ReferenceUpIdeal.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1))
      ∧ r.2.sem = fun _ => 0)

def quiescent_KernelUpDx [hKernelUpDx : Cert.KernelUpDx.Facts] : Prop :=
  ∀ (m : (ℓ : Loc Cert.KernelUpDx.nD Cert.KernelUpDx.τ Cert.KernelUpDx.sig) → Buf (Elt Bits) ℓ) (g : Dev Cert.KernelUpDx.nD → PrngReg), Pre_KernelUpDx m →
    θ_run (Cert.KernelUpDx.defs (F := Bits)) (onTc (τ := Cert.KernelUpDx.τ) (Cert.KernelUpDx.main (F := Bits))) ⟨m, fun _ => 0, g⟩ (fun r => (∀ c : Dev Cert.KernelUpDx.nD,
      r.2.mem ((c.tc : Thread Cert.KernelUpDx.nD Cert.KernelUpDx.τ).loc Cert.KernelUpDx.main_arg0) = m ((c.tc : Thread Cert.KernelUpDx.nD Cert.KernelUpDx.τ).loc Cert.KernelUpDx.main_arg0)
      ∧ r.2.mem ((c.tc : Thread Cert.KernelUpDx.nD Cert.KernelUpDx.τ).loc Cert.KernelUpDx.main_arg1) = m ((c.tc : Thread Cert.KernelUpDx.nD Cert.KernelUpDx.τ).loc Cert.KernelUpDx.main_arg1))
      ∧ r.2.sem = fun _ => 0)

def quiescent_KernelUpDxIdeal [hKernelUpDxIdeal : Cert.KernelUpDxIdeal.Facts] : Prop :=
  ∀ (m : (ℓ : Loc Cert.KernelUpDxIdeal.nD Cert.KernelUpDxIdeal.τ Cert.KernelUpDxIdeal.sig) → Buf (Elt Ideal) ℓ) (g : Dev Cert.KernelUpDxIdeal.nD → PrngReg), Pre_KernelUpDxIdeal m →
    θ_run (Cert.KernelUpDxIdeal.defs (F := Ideal)) (onTc (τ := Cert.KernelUpDxIdeal.τ) (Cert.KernelUpDxIdeal.main (F := Ideal))) ⟨m, fun _ => 0, g⟩ (fun r => (∀ c : Dev Cert.KernelUpDxIdeal.nD,
      r.2.mem ((c.tc : Thread Cert.KernelUpDxIdeal.nD Cert.KernelUpDxIdeal.τ).loc Cert.KernelUpDxIdeal.main_arg0) = m ((c.tc : Thread Cert.KernelUpDxIdeal.nD Cert.KernelUpDxIdeal.τ).loc Cert.KernelUpDxIdeal.main_arg0)
      ∧ r.2.mem ((c.tc : Thread Cert.KernelUpDxIdeal.nD Cert.KernelUpDxIdeal.τ).loc Cert.KernelUpDxIdeal.main_arg1) = m ((c.tc : Thread Cert.KernelUpDxIdeal.nD Cert.KernelUpDxIdeal.τ).loc Cert.KernelUpDxIdeal.main_arg1))
      ∧ r.2.sem = fun _ => 0)

def quiescent_ReferenceUpDxIdeal [hReferenceUpDxIdeal : Cert.ReferenceUpDxIdeal.Facts] : Prop :=
  ∀ (m : (ℓ : Loc Cert.ReferenceUpDxIdeal.nD Cert.ReferenceUpDxIdeal.τ Cert.ReferenceUpDxIdeal.sig) → Buf (Elt Ideal) ℓ) (g : Dev Cert.ReferenceUpDxIdeal.nD → PrngReg), Pre_ReferenceUpDxIdeal m →
    θ_run (Cert.ReferenceUpDxIdeal.defs (F := Ideal)) (onTc (τ := Cert.ReferenceUpDxIdeal.τ) (Cert.ReferenceUpDxIdeal.main (F := Ideal))) ⟨m, fun _ => 0, g⟩ (fun r => (∀ c : Dev Cert.ReferenceUpDxIdeal.nD,
      r.2.mem ((c.tc : Thread Cert.ReferenceUpDxIdeal.nD Cert.ReferenceUpDxIdeal.τ).loc Cert.ReferenceUpDxIdeal.main_arg0) = m ((c.tc : Thread Cert.ReferenceUpDxIdeal.nD Cert.ReferenceUpDxIdeal.τ).loc Cert.ReferenceUpDxIdeal.main_arg0)
      ∧ r.2.mem ((c.tc : Thread Cert.ReferenceUpDxIdeal.nD Cert.ReferenceUpDxIdeal.τ).loc Cert.ReferenceUpDxIdeal.main_arg1) = m ((c.tc : Thread Cert.ReferenceUpDxIdeal.nD Cert.ReferenceUpDxIdeal.τ).loc Cert.ReferenceUpDxIdeal.main_arg1))
      ∧ r.2.sem = fun _ => 0)

def quiescent_KernelUpDw [hKernelUpDw : Cert.KernelUpDw.Facts] : Prop :=
  ∀ (m : (ℓ : Loc Cert.KernelUpDw.nD Cert.KernelUpDw.τ Cert.KernelUpDw.sig) → Buf (Elt Bits) ℓ) (g : Dev Cert.KernelUpDw.nD → PrngReg), Pre_KernelUpDw m →
    θ_run (Cert.KernelUpDw.defs (F := Bits)) (onTc (τ := Cert.KernelUpDw.τ) (Cert.KernelUpDw.main (F := Bits))) ⟨m, fun _ => 0, g⟩ (fun r => (∀ c : Dev Cert.KernelUpDw.nD,
      r.2.mem ((c.tc : Thread Cert.KernelUpDw.nD Cert.KernelUpDw.τ).loc Cert.KernelUpDw.main_arg0) = m ((c.tc : Thread Cert.KernelUpDw.nD Cert.KernelUpDw.τ).loc Cert.KernelUpDw.main_arg0)
      ∧ r.2.mem ((c.tc : Thread Cert.KernelUpDw.nD Cert.KernelUpDw.τ).loc Cert.KernelUpDw.main_arg1) = m ((c.tc : Thread Cert.KernelUpDw.nD Cert.KernelUpDw.τ).loc Cert.KernelUpDw.main_arg1))
      ∧ r.2.sem = fun _ => 0)

def quiescent_KernelUpDwIdeal [hKernelUpDwIdeal : Cert.KernelUpDwIdeal.Facts] : Prop :=
  ∀ (m : (ℓ : Loc Cert.KernelUpDwIdeal.nD Cert.KernelUpDwIdeal.τ Cert.KernelUpDwIdeal.sig) → Buf (Elt Ideal) ℓ) (g : Dev Cert.KernelUpDwIdeal.nD → PrngReg), Pre_KernelUpDwIdeal m →
    θ_run (Cert.KernelUpDwIdeal.defs (F := Ideal)) (onTc (τ := Cert.KernelUpDwIdeal.τ) (Cert.KernelUpDwIdeal.main (F := Ideal))) ⟨m, fun _ => 0, g⟩ (fun r => (∀ c : Dev Cert.KernelUpDwIdeal.nD,
      r.2.mem ((c.tc : Thread Cert.KernelUpDwIdeal.nD Cert.KernelUpDwIdeal.τ).loc Cert.KernelUpDwIdeal.main_arg0) = m ((c.tc : Thread Cert.KernelUpDwIdeal.nD Cert.KernelUpDwIdeal.τ).loc Cert.KernelUpDwIdeal.main_arg0)
      ∧ r.2.mem ((c.tc : Thread Cert.KernelUpDwIdeal.nD Cert.KernelUpDwIdeal.τ).loc Cert.KernelUpDwIdeal.main_arg1) = m ((c.tc : Thread Cert.KernelUpDwIdeal.nD Cert.KernelUpDwIdeal.τ).loc Cert.KernelUpDwIdeal.main_arg1))
      ∧ r.2.sem = fun _ => 0)

def quiescent_ReferenceUpDwIdeal [hReferenceUpDwIdeal : Cert.ReferenceUpDwIdeal.Facts] : Prop :=
  ∀ (m : (ℓ : Loc Cert.ReferenceUpDwIdeal.nD Cert.ReferenceUpDwIdeal.τ Cert.ReferenceUpDwIdeal.sig) → Buf (Elt Ideal) ℓ) (g : Dev Cert.ReferenceUpDwIdeal.nD → PrngReg), Pre_ReferenceUpDwIdeal m →
    θ_run (Cert.ReferenceUpDwIdeal.defs (F := Ideal)) (onTc (τ := Cert.ReferenceUpDwIdeal.τ) (Cert.ReferenceUpDwIdeal.main (F := Ideal))) ⟨m, fun _ => 0, g⟩ (fun r => (∀ c : Dev Cert.ReferenceUpDwIdeal.nD,
      r.2.mem ((c.tc : Thread Cert.ReferenceUpDwIdeal.nD Cert.ReferenceUpDwIdeal.τ).loc Cert.ReferenceUpDwIdeal.main_arg0) = m ((c.tc : Thread Cert.ReferenceUpDwIdeal.nD Cert.ReferenceUpDwIdeal.τ).loc Cert.ReferenceUpDwIdeal.main_arg0)
      ∧ r.2.mem ((c.tc : Thread Cert.ReferenceUpDwIdeal.nD Cert.ReferenceUpDwIdeal.τ).loc Cert.ReferenceUpDwIdeal.main_arg1) = m ((c.tc : Thread Cert.ReferenceUpDwIdeal.nD Cert.ReferenceUpDwIdeal.τ).loc Cert.ReferenceUpDwIdeal.main_arg1))
      ∧ r.2.sem = fun _ => 0)

def quiescent_KernelDown [hKernelDown : Cert.KernelDown.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1))
      ∧ r.2.sem = fun _ => 0)

def quiescent_KernelDownIdeal [hKernelDownIdeal : Cert.KernelDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1))
      ∧ r.2.sem = fun _ => 0)

def quiescent_KernelDownDx [hKernelDownDx : Cert.KernelDownDx.Facts] : Prop :=
  ∀ (m : (ℓ : Loc Cert.KernelDownDx.nD Cert.KernelDownDx.τ Cert.KernelDownDx.sig) → Buf (Elt Bits) ℓ) (g : Dev Cert.KernelDownDx.nD → PrngReg), Pre_KernelDownDx m →
    θ_run (Cert.KernelDownDx.defs (F := Bits)) (onTc (τ := Cert.KernelDownDx.τ) (Cert.KernelDownDx.main (F := Bits))) ⟨m, fun _ => 0, g⟩ (fun r => (∀ c : Dev Cert.KernelDownDx.nD,
      r.2.mem ((c.tc : Thread Cert.KernelDownDx.nD Cert.KernelDownDx.τ).loc Cert.KernelDownDx.main_arg0) = m ((c.tc : Thread Cert.KernelDownDx.nD Cert.KernelDownDx.τ).loc Cert.KernelDownDx.main_arg0)
      ∧ r.2.mem ((c.tc : Thread Cert.KernelDownDx.nD Cert.KernelDownDx.τ).loc Cert.KernelDownDx.main_arg1) = m ((c.tc : Thread Cert.KernelDownDx.nD Cert.KernelDownDx.τ).loc Cert.KernelDownDx.main_arg1))
      ∧ r.2.sem = fun _ => 0)

def quiescent_KernelDownDxIdeal [hKernelDownDxIdeal : Cert.KernelDownDxIdeal.Facts] : Prop :=
  ∀ (m : (ℓ : Loc Cert.KernelDownDxIdeal.nD Cert.KernelDownDxIdeal.τ Cert.KernelDownDxIdeal.sig) → Buf (Elt Ideal) ℓ) (g : Dev Cert.KernelDownDxIdeal.nD → PrngReg), Pre_KernelDownDxIdeal m →
    θ_run (Cert.KernelDownDxIdeal.defs (F := Ideal)) (onTc (τ := Cert.KernelDownDxIdeal.τ) (Cert.KernelDownDxIdeal.main (F := Ideal))) ⟨m, fun _ => 0, g⟩ (fun r => (∀ c : Dev Cert.KernelDownDxIdeal.nD,
      r.2.mem ((c.tc : Thread Cert.KernelDownDxIdeal.nD Cert.KernelDownDxIdeal.τ).loc Cert.KernelDownDxIdeal.main_arg0) = m ((c.tc : Thread Cert.KernelDownDxIdeal.nD Cert.KernelDownDxIdeal.τ).loc Cert.KernelDownDxIdeal.main_arg0)
      ∧ r.2.mem ((c.tc : Thread Cert.KernelDownDxIdeal.nD Cert.KernelDownDxIdeal.τ).loc Cert.KernelDownDxIdeal.main_arg1) = m ((c.tc : Thread Cert.KernelDownDxIdeal.nD Cert.KernelDownDxIdeal.τ).loc Cert.KernelDownDxIdeal.main_arg1))
      ∧ r.2.sem = fun _ => 0)

def quiescent_ReferenceDownDxIdeal [hReferenceDownDxIdeal : Cert.ReferenceDownDxIdeal.Facts] : Prop :=
  ∀ (m : (ℓ : Loc Cert.ReferenceDownDxIdeal.nD Cert.ReferenceDownDxIdeal.τ Cert.ReferenceDownDxIdeal.sig) → Buf (Elt Ideal) ℓ) (g : Dev Cert.ReferenceDownDxIdeal.nD → PrngReg), Pre_ReferenceDownDxIdeal m →
    θ_run (Cert.ReferenceDownDxIdeal.defs (F := Ideal)) (onTc (τ := Cert.ReferenceDownDxIdeal.τ) (Cert.ReferenceDownDxIdeal.main (F := Ideal))) ⟨m, fun _ => 0, g⟩ (fun r => (∀ c : Dev Cert.ReferenceDownDxIdeal.nD,
      r.2.mem ((c.tc : Thread Cert.ReferenceDownDxIdeal.nD Cert.ReferenceDownDxIdeal.τ).loc Cert.ReferenceDownDxIdeal.main_arg0) = m ((c.tc : Thread Cert.ReferenceDownDxIdeal.nD Cert.ReferenceDownDxIdeal.τ).loc Cert.ReferenceDownDxIdeal.main_arg0)
      ∧ r.2.mem ((c.tc : Thread Cert.ReferenceDownDxIdeal.nD Cert.ReferenceDownDxIdeal.τ).loc Cert.ReferenceDownDxIdeal.main_arg1) = m ((c.tc : Thread Cert.ReferenceDownDxIdeal.nD Cert.ReferenceDownDxIdeal.τ).loc Cert.ReferenceDownDxIdeal.main_arg1))
      ∧ r.2.sem = fun _ => 0)

def quiescent_KernelDownDw [hKernelDownDw : Cert.KernelDownDw.Facts] : Prop :=
  ∀ (m : (ℓ : Loc Cert.KernelDownDw.nD Cert.KernelDownDw.τ Cert.KernelDownDw.sig) → Buf (Elt Bits) ℓ) (g : Dev Cert.KernelDownDw.nD → PrngReg), Pre_KernelDownDw m →
    θ_run (Cert.KernelDownDw.defs (F := Bits)) (onTc (τ := Cert.KernelDownDw.τ) (Cert.KernelDownDw.main (F := Bits))) ⟨m, fun _ => 0, g⟩ (fun r => (∀ c : Dev Cert.KernelDownDw.nD,
      r.2.mem ((c.tc : Thread Cert.KernelDownDw.nD Cert.KernelDownDw.τ).loc Cert.KernelDownDw.main_arg0) = m ((c.tc : Thread Cert.KernelDownDw.nD Cert.KernelDownDw.τ).loc Cert.KernelDownDw.main_arg0)
      ∧ r.2.mem ((c.tc : Thread Cert.KernelDownDw.nD Cert.KernelDownDw.τ).loc Cert.KernelDownDw.main_arg1) = m ((c.tc : Thread Cert.KernelDownDw.nD Cert.KernelDownDw.τ).loc Cert.KernelDownDw.main_arg1))
      ∧ r.2.sem = fun _ => 0)

def quiescent_KernelDownDwIdeal [hKernelDownDwIdeal : Cert.KernelDownDwIdeal.Facts] : Prop :=
  ∀ (m : (ℓ : Loc Cert.KernelDownDwIdeal.nD Cert.KernelDownDwIdeal.τ Cert.KernelDownDwIdeal.sig) → Buf (Elt Ideal) ℓ) (g : Dev Cert.KernelDownDwIdeal.nD → PrngReg), Pre_KernelDownDwIdeal m →
    θ_run (Cert.KernelDownDwIdeal.defs (F := Ideal)) (onTc (τ := Cert.KernelDownDwIdeal.τ) (Cert.KernelDownDwIdeal.main (F := Ideal))) ⟨m, fun _ => 0, g⟩ (fun r => (∀ c : Dev Cert.KernelDownDwIdeal.nD,
      r.2.mem ((c.tc : Thread Cert.KernelDownDwIdeal.nD Cert.KernelDownDwIdeal.τ).loc Cert.KernelDownDwIdeal.main_arg0) = m ((c.tc : Thread Cert.KernelDownDwIdeal.nD Cert.KernelDownDwIdeal.τ).loc Cert.KernelDownDwIdeal.main_arg0)
      ∧ r.2.mem ((c.tc : Thread Cert.KernelDownDwIdeal.nD Cert.KernelDownDwIdeal.τ).loc Cert.KernelDownDwIdeal.main_arg1) = m ((c.tc : Thread Cert.KernelDownDwIdeal.nD Cert.KernelDownDwIdeal.τ).loc Cert.KernelDownDwIdeal.main_arg1))
      ∧ r.2.sem = fun _ => 0)

def quiescent_ReferenceDownDwIdeal [hReferenceDownDwIdeal : Cert.ReferenceDownDwIdeal.Facts] : Prop :=
  ∀ (m : (ℓ : Loc Cert.ReferenceDownDwIdeal.nD Cert.ReferenceDownDwIdeal.τ Cert.ReferenceDownDwIdeal.sig) → Buf (Elt Ideal) ℓ) (g : Dev Cert.ReferenceDownDwIdeal.nD → PrngReg), Pre_ReferenceDownDwIdeal m →
    θ_run (Cert.ReferenceDownDwIdeal.defs (F := Ideal)) (onTc (τ := Cert.ReferenceDownDwIdeal.τ) (Cert.ReferenceDownDwIdeal.main (F := Ideal))) ⟨m, fun _ => 0, g⟩ (fun r => (∀ c : Dev Cert.ReferenceDownDwIdeal.nD,
      r.2.mem ((c.tc : Thread Cert.ReferenceDownDwIdeal.nD Cert.ReferenceDownDwIdeal.τ).loc Cert.ReferenceDownDwIdeal.main_arg0) = m ((c.tc : Thread Cert.ReferenceDownDwIdeal.nD Cert.ReferenceDownDwIdeal.τ).loc Cert.ReferenceDownDwIdeal.main_arg0)
      ∧ r.2.mem ((c.tc : Thread Cert.ReferenceDownDwIdeal.nD Cert.ReferenceDownDwIdeal.τ).loc Cert.ReferenceDownDwIdeal.main_arg1) = m ((c.tc : Thread Cert.ReferenceDownDwIdeal.nD Cert.ReferenceDownDwIdeal.τ).loc Cert.ReferenceDownDwIdeal.main_arg1))
      ∧ r.2.sem = fun _ => 0)

def quiescent_KernelAttn [hKernelAttn : Cert.KernelAttn.Facts] : Prop :=
  ∀ (m : (ℓ : Loc Cert.KernelAttn.nD Cert.KernelAttn.τ Cert.KernelAttn.sig) → Buf (Elt Bits) ℓ) (g : Dev Cert.KernelAttn.nD → PrngReg), Pre_KernelAttn m →
    θ_run (Cert.KernelAttn.defs (F := Bits)) (onTc (τ := Cert.KernelAttn.τ) (Cert.KernelAttn.main (F := Bits))) ⟨m, fun _ => 0, g⟩ (fun r => (∀ c : Dev Cert.KernelAttn.nD,
      r.2.mem ((c.tc : Thread Cert.KernelAttn.nD Cert.KernelAttn.τ).loc Cert.KernelAttn.main_arg0) = m ((c.tc : Thread Cert.KernelAttn.nD Cert.KernelAttn.τ).loc Cert.KernelAttn.main_arg0)
      ∧ r.2.mem ((c.tc : Thread Cert.KernelAttn.nD Cert.KernelAttn.τ).loc Cert.KernelAttn.main_arg1) = m ((c.tc : Thread Cert.KernelAttn.nD Cert.KernelAttn.τ).loc Cert.KernelAttn.main_arg1)
      ∧ r.2.mem ((c.tc : Thread Cert.KernelAttn.nD Cert.KernelAttn.τ).loc Cert.KernelAttn.main_arg2) = m ((c.tc : Thread Cert.KernelAttn.nD Cert.KernelAttn.τ).loc Cert.KernelAttn.main_arg2)
      ∧ r.2.mem ((c.tc : Thread Cert.KernelAttn.nD Cert.KernelAttn.τ).loc Cert.KernelAttn.main_arg3) = m ((c.tc : Thread Cert.KernelAttn.nD Cert.KernelAttn.τ).loc Cert.KernelAttn.main_arg3)
      ∧ r.2.mem ((c.tc : Thread Cert.KernelAttn.nD Cert.KernelAttn.τ).loc Cert.KernelAttn.main_arg4) = m ((c.tc : Thread Cert.KernelAttn.nD Cert.KernelAttn.τ).loc Cert.KernelAttn.main_arg4))
      ∧ r.2.sem = fun _ => 0)

def quiescent_KernelAttnIdeal [hKernelAttnIdeal : Cert.KernelAttnIdeal.Facts] : Prop :=
  ∀ (m : (ℓ : Loc Cert.KernelAttnIdeal.nD Cert.KernelAttnIdeal.τ Cert.KernelAttnIdeal.sig) → Buf (Elt Ideal) ℓ) (g : Dev Cert.KernelAttnIdeal.nD → PrngReg), Pre_KernelAttnIdeal m →
    θ_run (Cert.KernelAttnIdeal.defs (F := Ideal)) (onTc (τ := Cert.KernelAttnIdeal.τ) (Cert.KernelAttnIdeal.main (F := Ideal))) ⟨m, fun _ => 0, g⟩ (fun r => (∀ c : Dev Cert.KernelAttnIdeal.nD,
      r.2.mem ((c.tc : Thread Cert.KernelAttnIdeal.nD Cert.KernelAttnIdeal.τ).loc Cert.KernelAttnIdeal.main_arg0) = m ((c.tc : Thread Cert.KernelAttnIdeal.nD Cert.KernelAttnIdeal.τ).loc Cert.KernelAttnIdeal.main_arg0)
      ∧ r.2.mem ((c.tc : Thread Cert.KernelAttnIdeal.nD Cert.KernelAttnIdeal.τ).loc Cert.KernelAttnIdeal.main_arg1) = m ((c.tc : Thread Cert.KernelAttnIdeal.nD Cert.KernelAttnIdeal.τ).loc Cert.KernelAttnIdeal.main_arg1)
      ∧ r.2.mem ((c.tc : Thread Cert.KernelAttnIdeal.nD Cert.KernelAttnIdeal.τ).loc Cert.KernelAttnIdeal.main_arg2) = m ((c.tc : Thread Cert.KernelAttnIdeal.nD Cert.KernelAttnIdeal.τ).loc Cert.KernelAttnIdeal.main_arg2)
      ∧ r.2.mem ((c.tc : Thread Cert.KernelAttnIdeal.nD Cert.KernelAttnIdeal.τ).loc Cert.KernelAttnIdeal.main_arg3) = m ((c.tc : Thread Cert.KernelAttnIdeal.nD Cert.KernelAttnIdeal.τ).loc Cert.KernelAttnIdeal.main_arg3)
      ∧ r.2.mem ((c.tc : Thread Cert.KernelAttnIdeal.nD Cert.KernelAttnIdeal.τ).loc Cert.KernelAttnIdeal.main_arg4) = m ((c.tc : Thread Cert.KernelAttnIdeal.nD Cert.KernelAttnIdeal.τ).loc Cert.KernelAttnIdeal.main_arg4))
      ∧ r.2.sem = fun _ => 0)

def quiescent_KernelAttnIdeal_pre_finite_scores_fwd [hKernelAttnIdeal : Cert.KernelAttnIdeal.Facts] [hPre_finite_scores_fwd : Cert.Pre_finite_scores_fwd.Facts] : Prop :=
  ∀ (m : (ℓ : Loc Cert.KernelAttnIdeal.nD Cert.KernelAttnIdeal.τ Cert.KernelAttnIdeal.sig) → Buf (Elt Ideal) ℓ) (g : Dev Cert.KernelAttnIdeal.nD → PrngReg), Pre_KernelAttnIdeal_finite_scores_fwd m →
    θ_run (Cert.KernelAttnIdeal.defs (F := Ideal)) (onTc (τ := Cert.KernelAttnIdeal.τ) (Cert.KernelAttnIdeal.main (F := Ideal))) ⟨m, fun _ => 0, g⟩ (fun r => (∀ c : Dev Cert.KernelAttnIdeal.nD,
      r.2.mem ((c.tc : Thread Cert.KernelAttnIdeal.nD Cert.KernelAttnIdeal.τ).loc Cert.KernelAttnIdeal.main_arg0) = m ((c.tc : Thread Cert.KernelAttnIdeal.nD Cert.KernelAttnIdeal.τ).loc Cert.KernelAttnIdeal.main_arg0)
      ∧ r.2.mem ((c.tc : Thread Cert.KernelAttnIdeal.nD Cert.KernelAttnIdeal.τ).loc Cert.KernelAttnIdeal.main_arg1) = m ((c.tc : Thread Cert.KernelAttnIdeal.nD Cert.KernelAttnIdeal.τ).loc Cert.KernelAttnIdeal.main_arg1)
      ∧ r.2.mem ((c.tc : Thread Cert.KernelAttnIdeal.nD Cert.KernelAttnIdeal.τ).loc Cert.KernelAttnIdeal.main_arg2) = m ((c.tc : Thread Cert.KernelAttnIdeal.nD Cert.KernelAttnIdeal.τ).loc Cert.KernelAttnIdeal.main_arg2)
      ∧ r.2.mem ((c.tc : Thread Cert.KernelAttnIdeal.nD Cert.KernelAttnIdeal.τ).loc Cert.KernelAttnIdeal.main_arg3) = m ((c.tc : Thread Cert.KernelAttnIdeal.nD Cert.KernelAttnIdeal.τ).loc Cert.KernelAttnIdeal.main_arg3)
      ∧ r.2.mem ((c.tc : Thread Cert.KernelAttnIdeal.nD Cert.KernelAttnIdeal.τ).loc Cert.KernelAttnIdeal.main_arg4) = m ((c.tc : Thread Cert.KernelAttnIdeal.nD Cert.KernelAttnIdeal.τ).loc Cert.KernelAttnIdeal.main_arg4))
      ∧ r.2.sem = fun _ => 0)

def quiescent_ReferenceAttnIdeal [hReferenceAttnIdeal : Cert.ReferenceAttnIdeal.Facts] : Prop :=
  ∀ (m : (ℓ : Loc Cert.ReferenceAttnIdeal.nD Cert.ReferenceAttnIdeal.τ Cert.ReferenceAttnIdeal.sig) → Buf (Elt Ideal) ℓ) (g : Dev Cert.ReferenceAttnIdeal.nD → PrngReg), Pre_ReferenceAttnIdeal m →
    θ_run (Cert.ReferenceAttnIdeal.defs (F := Ideal)) (onTc (τ := Cert.ReferenceAttnIdeal.τ) (Cert.ReferenceAttnIdeal.main (F := Ideal))) ⟨m, fun _ => 0, g⟩ (fun r => (∀ c : Dev Cert.ReferenceAttnIdeal.nD,
      r.2.mem ((c.tc : Thread Cert.ReferenceAttnIdeal.nD Cert.ReferenceAttnIdeal.τ).loc Cert.ReferenceAttnIdeal.main_arg0) = m ((c.tc : Thread Cert.ReferenceAttnIdeal.nD Cert.ReferenceAttnIdeal.τ).loc Cert.ReferenceAttnIdeal.main_arg0)
      ∧ r.2.mem ((c.tc : Thread Cert.ReferenceAttnIdeal.nD Cert.ReferenceAttnIdeal.τ).loc Cert.ReferenceAttnIdeal.main_arg1) = m ((c.tc : Thread Cert.ReferenceAttnIdeal.nD Cert.ReferenceAttnIdeal.τ).loc Cert.ReferenceAttnIdeal.main_arg1)
      ∧ r.2.mem ((c.tc : Thread Cert.ReferenceAttnIdeal.nD Cert.ReferenceAttnIdeal.τ).loc Cert.ReferenceAttnIdeal.main_arg2) = m ((c.tc : Thread Cert.ReferenceAttnIdeal.nD Cert.ReferenceAttnIdeal.τ).loc Cert.ReferenceAttnIdeal.main_arg2)
      ∧ r.2.mem ((c.tc : Thread Cert.ReferenceAttnIdeal.nD Cert.ReferenceAttnIdeal.τ).loc Cert.ReferenceAttnIdeal.main_arg3) = m ((c.tc : Thread Cert.ReferenceAttnIdeal.nD Cert.ReferenceAttnIdeal.τ).loc Cert.ReferenceAttnIdeal.main_arg3)
      ∧ r.2.mem ((c.tc : Thread Cert.ReferenceAttnIdeal.nD Cert.ReferenceAttnIdeal.τ).loc Cert.ReferenceAttnIdeal.main_arg4) = m ((c.tc : Thread Cert.ReferenceAttnIdeal.nD Cert.ReferenceAttnIdeal.τ).loc Cert.ReferenceAttnIdeal.main_arg4))
      ∧ r.2.sem = fun _ => 0)

def quiescent_ReferenceAttnIdeal_pre_finite_scores_fwd [hReferenceAttnIdeal : Cert.ReferenceAttnIdeal.Facts] [hPre_finite_scores_fwd : Cert.Pre_finite_scores_fwd.Facts] : Prop :=
  ∀ (m : (ℓ : Loc Cert.ReferenceAttnIdeal.nD Cert.ReferenceAttnIdeal.τ Cert.ReferenceAttnIdeal.sig) → Buf (Elt Ideal) ℓ) (g : Dev Cert.ReferenceAttnIdeal.nD → PrngReg), Pre_ReferenceAttnIdeal_finite_scores_fwd m →
    θ_run (Cert.ReferenceAttnIdeal.defs (F := Ideal)) (onTc (τ := Cert.ReferenceAttnIdeal.τ) (Cert.ReferenceAttnIdeal.main (F := Ideal))) ⟨m, fun _ => 0, g⟩ (fun r => (∀ c : Dev Cert.ReferenceAttnIdeal.nD,
      r.2.mem ((c.tc : Thread Cert.ReferenceAttnIdeal.nD Cert.ReferenceAttnIdeal.τ).loc Cert.ReferenceAttnIdeal.main_arg0) = m ((c.tc : Thread Cert.ReferenceAttnIdeal.nD Cert.ReferenceAttnIdeal.τ).loc Cert.ReferenceAttnIdeal.main_arg0)
      ∧ r.2.mem ((c.tc : Thread Cert.ReferenceAttnIdeal.nD Cert.ReferenceAttnIdeal.τ).loc Cert.ReferenceAttnIdeal.main_arg1) = m ((c.tc : Thread Cert.ReferenceAttnIdeal.nD Cert.ReferenceAttnIdeal.τ).loc Cert.ReferenceAttnIdeal.main_arg1)
      ∧ r.2.mem ((c.tc : Thread Cert.ReferenceAttnIdeal.nD Cert.ReferenceAttnIdeal.τ).loc Cert.ReferenceAttnIdeal.main_arg2) = m ((c.tc : Thread Cert.ReferenceAttnIdeal.nD Cert.ReferenceAttnIdeal.τ).loc Cert.ReferenceAttnIdeal.main_arg2)
      ∧ r.2.mem ((c.tc : Thread Cert.ReferenceAttnIdeal.nD Cert.ReferenceAttnIdeal.τ).loc Cert.ReferenceAttnIdeal.main_arg3) = m ((c.tc : Thread Cert.ReferenceAttnIdeal.nD Cert.ReferenceAttnIdeal.τ).loc Cert.ReferenceAttnIdeal.main_arg3)
      ∧ r.2.mem ((c.tc : Thread Cert.ReferenceAttnIdeal.nD Cert.ReferenceAttnIdeal.τ).loc Cert.ReferenceAttnIdeal.main_arg4) = m ((c.tc : Thread Cert.ReferenceAttnIdeal.nD Cert.ReferenceAttnIdeal.τ).loc Cert.ReferenceAttnIdeal.main_arg4))
      ∧ r.2.sem = fun _ => 0)

def quiescent_KernelSilu [hKernelSilu : Cert.KernelSilu.Facts] : Prop :=
  ∀ (m : (ℓ : Loc Cert.KernelSilu.nD Cert.KernelSilu.τ Cert.KernelSilu.sig) → Buf (Elt Bits) ℓ) (g : Dev Cert.KernelSilu.nD → PrngReg), Pre_KernelSilu m →
    θ_run (Cert.KernelSilu.defs (F := Bits)) (onTc (τ := Cert.KernelSilu.τ) (Cert.KernelSilu.main (F := Bits))) ⟨m, fun _ => 0, g⟩ (fun r => (∀ c : Dev Cert.KernelSilu.nD,
      r.2.mem ((c.tc : Thread Cert.KernelSilu.nD Cert.KernelSilu.τ).loc Cert.KernelSilu.main_arg0) = m ((c.tc : Thread Cert.KernelSilu.nD Cert.KernelSilu.τ).loc Cert.KernelSilu.main_arg0)
      ∧ r.2.mem ((c.tc : Thread Cert.KernelSilu.nD Cert.KernelSilu.τ).loc Cert.KernelSilu.main_arg1) = m ((c.tc : Thread Cert.KernelSilu.nD Cert.KernelSilu.τ).loc Cert.KernelSilu.main_arg1)
      ∧ r.2.mem ((c.tc : Thread Cert.KernelSilu.nD Cert.KernelSilu.τ).loc Cert.KernelSilu.main_arg2) = m ((c.tc : Thread Cert.KernelSilu.nD Cert.KernelSilu.τ).loc Cert.KernelSilu.main_arg2))
      ∧ r.2.sem = fun _ => 0)

def quiescent_KernelSiluIdeal [hKernelSiluIdeal : Cert.KernelSiluIdeal.Facts] : Prop :=
  ∀ (m : (ℓ : Loc Cert.KernelSiluIdeal.nD Cert.KernelSiluIdeal.τ Cert.KernelSiluIdeal.sig) → Buf (Elt Ideal) ℓ) (g : Dev Cert.KernelSiluIdeal.nD → PrngReg), Pre_KernelSiluIdeal m →
    θ_run (Cert.KernelSiluIdeal.defs (F := Ideal)) (onTc (τ := Cert.KernelSiluIdeal.τ) (Cert.KernelSiluIdeal.main (F := Ideal))) ⟨m, fun _ => 0, g⟩ (fun r => (∀ c : Dev Cert.KernelSiluIdeal.nD,
      r.2.mem ((c.tc : Thread Cert.KernelSiluIdeal.nD Cert.KernelSiluIdeal.τ).loc Cert.KernelSiluIdeal.main_arg0) = m ((c.tc : Thread Cert.KernelSiluIdeal.nD Cert.KernelSiluIdeal.τ).loc Cert.KernelSiluIdeal.main_arg0)
      ∧ r.2.mem ((c.tc : Thread Cert.KernelSiluIdeal.nD Cert.KernelSiluIdeal.τ).loc Cert.KernelSiluIdeal.main_arg1) = m ((c.tc : Thread Cert.KernelSiluIdeal.nD Cert.KernelSiluIdeal.τ).loc Cert.KernelSiluIdeal.main_arg1)
      ∧ r.2.mem ((c.tc : Thread Cert.KernelSiluIdeal.nD Cert.KernelSiluIdeal.τ).loc Cert.KernelSiluIdeal.main_arg2) = m ((c.tc : Thread Cert.KernelSiluIdeal.nD Cert.KernelSiluIdeal.τ).loc Cert.KernelSiluIdeal.main_arg2))
      ∧ r.2.sem = fun _ => 0)

def quiescent_ReferenceSiluIdeal [hReferenceSiluIdeal : Cert.ReferenceSiluIdeal.Facts] : Prop :=
  ∀ (m : (ℓ : Loc Cert.ReferenceSiluIdeal.nD Cert.ReferenceSiluIdeal.τ Cert.ReferenceSiluIdeal.sig) → Buf (Elt Ideal) ℓ) (g : Dev Cert.ReferenceSiluIdeal.nD → PrngReg), Pre_ReferenceSiluIdeal m →
    θ_run (Cert.ReferenceSiluIdeal.defs (F := Ideal)) (onTc (τ := Cert.ReferenceSiluIdeal.τ) (Cert.ReferenceSiluIdeal.main (F := Ideal))) ⟨m, fun _ => 0, g⟩ (fun r => (∀ c : Dev Cert.ReferenceSiluIdeal.nD,
      r.2.mem ((c.tc : Thread Cert.ReferenceSiluIdeal.nD Cert.ReferenceSiluIdeal.τ).loc Cert.ReferenceSiluIdeal.main_arg0) = m ((c.tc : Thread Cert.ReferenceSiluIdeal.nD Cert.ReferenceSiluIdeal.τ).loc Cert.ReferenceSiluIdeal.main_arg0)
      ∧ r.2.mem ((c.tc : Thread Cert.ReferenceSiluIdeal.nD Cert.ReferenceSiluIdeal.τ).loc Cert.ReferenceSiluIdeal.main_arg1) = m ((c.tc : Thread Cert.ReferenceSiluIdeal.nD Cert.ReferenceSiluIdeal.τ).loc Cert.ReferenceSiluIdeal.main_arg1)
      ∧ r.2.mem ((c.tc : Thread Cert.ReferenceSiluIdeal.nD Cert.ReferenceSiluIdeal.τ).loc Cert.ReferenceSiluIdeal.main_arg2) = m ((c.tc : Thread Cert.ReferenceSiluIdeal.nD Cert.ReferenceSiluIdeal.τ).loc Cert.ReferenceSiluIdeal.main_arg2))
      ∧ r.2.sem = fun _ => 0)

def quiescent_KernelGlu [hKernelGlu : Cert.KernelGlu.Facts] : Prop :=
  ∀ (m : (ℓ : Loc Cert.KernelGlu.nD Cert.KernelGlu.τ Cert.KernelGlu.sig) → Buf (Elt Bits) ℓ) (g : Dev Cert.KernelGlu.nD → PrngReg), Pre_KernelGlu m →
    θ_run (Cert.KernelGlu.defs (F := Bits)) (onTc (τ := Cert.KernelGlu.τ) (Cert.KernelGlu.main (F := Bits))) ⟨m, fun _ => 0, g⟩ (fun r => (∀ c : Dev Cert.KernelGlu.nD,
      r.2.mem ((c.tc : Thread Cert.KernelGlu.nD Cert.KernelGlu.τ).loc Cert.KernelGlu.main_arg0) = m ((c.tc : Thread Cert.KernelGlu.nD Cert.KernelGlu.τ).loc Cert.KernelGlu.main_arg0)
      ∧ r.2.mem ((c.tc : Thread Cert.KernelGlu.nD Cert.KernelGlu.τ).loc Cert.KernelGlu.main_arg1) = m ((c.tc : Thread Cert.KernelGlu.nD Cert.KernelGlu.τ).loc Cert.KernelGlu.main_arg1)
      ∧ r.2.mem ((c.tc : Thread Cert.KernelGlu.nD Cert.KernelGlu.τ).loc Cert.KernelGlu.main_arg2) = m ((c.tc : Thread Cert.KernelGlu.nD Cert.KernelGlu.τ).loc Cert.KernelGlu.main_arg2))
      ∧ r.2.sem = fun _ => 0)

def quiescent_KernelGluIdeal [hKernelGluIdeal : Cert.KernelGluIdeal.Facts] : Prop :=
  ∀ (m : (ℓ : Loc Cert.KernelGluIdeal.nD Cert.KernelGluIdeal.τ Cert.KernelGluIdeal.sig) → Buf (Elt Ideal) ℓ) (g : Dev Cert.KernelGluIdeal.nD → PrngReg), Pre_KernelGluIdeal m →
    θ_run (Cert.KernelGluIdeal.defs (F := Ideal)) (onTc (τ := Cert.KernelGluIdeal.τ) (Cert.KernelGluIdeal.main (F := Ideal))) ⟨m, fun _ => 0, g⟩ (fun r => (∀ c : Dev Cert.KernelGluIdeal.nD,
      r.2.mem ((c.tc : Thread Cert.KernelGluIdeal.nD Cert.KernelGluIdeal.τ).loc Cert.KernelGluIdeal.main_arg0) = m ((c.tc : Thread Cert.KernelGluIdeal.nD Cert.KernelGluIdeal.τ).loc Cert.KernelGluIdeal.main_arg0)
      ∧ r.2.mem ((c.tc : Thread Cert.KernelGluIdeal.nD Cert.KernelGluIdeal.τ).loc Cert.KernelGluIdeal.main_arg1) = m ((c.tc : Thread Cert.KernelGluIdeal.nD Cert.KernelGluIdeal.τ).loc Cert.KernelGluIdeal.main_arg1)
      ∧ r.2.mem ((c.tc : Thread Cert.KernelGluIdeal.nD Cert.KernelGluIdeal.τ).loc Cert.KernelGluIdeal.main_arg2) = m ((c.tc : Thread Cert.KernelGluIdeal.nD Cert.KernelGluIdeal.τ).loc Cert.KernelGluIdeal.main_arg2))
      ∧ r.2.sem = fun _ => 0)

def quiescent_ReferenceGluIdeal [hReferenceGluIdeal : Cert.ReferenceGluIdeal.Facts] : Prop :=
  ∀ (m : (ℓ : Loc Cert.ReferenceGluIdeal.nD Cert.ReferenceGluIdeal.τ Cert.ReferenceGluIdeal.sig) → Buf (Elt Ideal) ℓ) (g : Dev Cert.ReferenceGluIdeal.nD → PrngReg), Pre_ReferenceGluIdeal m →
    θ_run (Cert.ReferenceGluIdeal.defs (F := Ideal)) (onTc (τ := Cert.ReferenceGluIdeal.τ) (Cert.ReferenceGluIdeal.main (F := Ideal))) ⟨m, fun _ => 0, g⟩ (fun r => (∀ c : Dev Cert.ReferenceGluIdeal.nD,
      r.2.mem ((c.tc : Thread Cert.ReferenceGluIdeal.nD Cert.ReferenceGluIdeal.τ).loc Cert.ReferenceGluIdeal.main_arg0) = m ((c.tc : Thread Cert.ReferenceGluIdeal.nD Cert.ReferenceGluIdeal.τ).loc Cert.ReferenceGluIdeal.main_arg0)
      ∧ r.2.mem ((c.tc : Thread Cert.ReferenceGluIdeal.nD Cert.ReferenceGluIdeal.τ).loc Cert.ReferenceGluIdeal.main_arg1) = m ((c.tc : Thread Cert.ReferenceGluIdeal.nD Cert.ReferenceGluIdeal.τ).loc Cert.ReferenceGluIdeal.main_arg1)
      ∧ r.2.mem ((c.tc : Thread Cert.ReferenceGluIdeal.nD Cert.ReferenceGluIdeal.τ).loc Cert.ReferenceGluIdeal.main_arg2) = m ((c.tc : Thread Cert.ReferenceGluIdeal.nD Cert.ReferenceGluIdeal.τ).loc Cert.ReferenceGluIdeal.main_arg2))
      ∧ r.2.sem = fun _ => 0)

def quiescent_KernelConvDx [hKernelConvDx : Cert.KernelConvDx.Facts] : Prop :=
  ∀ (m : (ℓ : Loc Cert.KernelConvDx.nD Cert.KernelConvDx.τ Cert.KernelConvDx.sig) → Buf (Elt Bits) ℓ) (g : Dev Cert.KernelConvDx.nD → PrngReg), Pre_KernelConvDx m →
    θ_run (Cert.KernelConvDx.defs (F := Bits)) (onTc (τ := Cert.KernelConvDx.τ) (Cert.KernelConvDx.main (F := Bits))) ⟨m, fun _ => 0, g⟩ (fun r => (∀ c : Dev Cert.KernelConvDx.nD,
      r.2.mem ((c.tc : Thread Cert.KernelConvDx.nD Cert.KernelConvDx.τ).loc Cert.KernelConvDx.main_arg0) = m ((c.tc : Thread Cert.KernelConvDx.nD Cert.KernelConvDx.τ).loc Cert.KernelConvDx.main_arg0)
      ∧ r.2.mem ((c.tc : Thread Cert.KernelConvDx.nD Cert.KernelConvDx.τ).loc Cert.KernelConvDx.main_arg1) = m ((c.tc : Thread Cert.KernelConvDx.nD Cert.KernelConvDx.τ).loc Cert.KernelConvDx.main_arg1))
      ∧ r.2.sem = fun _ => 0)

def quiescent_KernelConvDxIdeal [hKernelConvDxIdeal : Cert.KernelConvDxIdeal.Facts] : Prop :=
  ∀ (m : (ℓ : Loc Cert.KernelConvDxIdeal.nD Cert.KernelConvDxIdeal.τ Cert.KernelConvDxIdeal.sig) → Buf (Elt Ideal) ℓ) (g : Dev Cert.KernelConvDxIdeal.nD → PrngReg), Pre_KernelConvDxIdeal m →
    θ_run (Cert.KernelConvDxIdeal.defs (F := Ideal)) (onTc (τ := Cert.KernelConvDxIdeal.τ) (Cert.KernelConvDxIdeal.main (F := Ideal))) ⟨m, fun _ => 0, g⟩ (fun r => (∀ c : Dev Cert.KernelConvDxIdeal.nD,
      r.2.mem ((c.tc : Thread Cert.KernelConvDxIdeal.nD Cert.KernelConvDxIdeal.τ).loc Cert.KernelConvDxIdeal.main_arg0) = m ((c.tc : Thread Cert.KernelConvDxIdeal.nD Cert.KernelConvDxIdeal.τ).loc Cert.KernelConvDxIdeal.main_arg0)
      ∧ r.2.mem ((c.tc : Thread Cert.KernelConvDxIdeal.nD Cert.KernelConvDxIdeal.τ).loc Cert.KernelConvDxIdeal.main_arg1) = m ((c.tc : Thread Cert.KernelConvDxIdeal.nD Cert.KernelConvDxIdeal.τ).loc Cert.KernelConvDxIdeal.main_arg1))
      ∧ r.2.sem = fun _ => 0)

def quiescent_ReferenceConvDxIdeal [hReferenceConvDxIdeal : Cert.ReferenceConvDxIdeal.Facts] : Prop :=
  ∀ (m : (ℓ : Loc Cert.ReferenceConvDxIdeal.nD Cert.ReferenceConvDxIdeal.τ Cert.ReferenceConvDxIdeal.sig) → Buf (Elt Ideal) ℓ) (g : Dev Cert.ReferenceConvDxIdeal.nD → PrngReg), Pre_ReferenceConvDxIdeal m →
    θ_run (Cert.ReferenceConvDxIdeal.defs (F := Ideal)) (onTc (τ := Cert.ReferenceConvDxIdeal.τ) (Cert.ReferenceConvDxIdeal.main (F := Ideal))) ⟨m, fun _ => 0, g⟩ (fun r => (∀ c : Dev Cert.ReferenceConvDxIdeal.nD,
      r.2.mem ((c.tc : Thread Cert.ReferenceConvDxIdeal.nD Cert.ReferenceConvDxIdeal.τ).loc Cert.ReferenceConvDxIdeal.main_arg0) = m ((c.tc : Thread Cert.ReferenceConvDxIdeal.nD Cert.ReferenceConvDxIdeal.τ).loc Cert.ReferenceConvDxIdeal.main_arg0)
      ∧ r.2.mem ((c.tc : Thread Cert.ReferenceConvDxIdeal.nD Cert.ReferenceConvDxIdeal.τ).loc Cert.ReferenceConvDxIdeal.main_arg1) = m ((c.tc : Thread Cert.ReferenceConvDxIdeal.nD Cert.ReferenceConvDxIdeal.τ).loc Cert.ReferenceConvDxIdeal.main_arg1))
      ∧ r.2.sem = fun _ => 0)

def quiescent_KernelConv [hKernelConv : Cert.KernelConv.Facts] : Prop :=
  ∀ (m : (ℓ : Loc Cert.KernelConv.nD Cert.KernelConv.τ Cert.KernelConv.sig) → Buf (Elt Bits) ℓ) (g : Dev Cert.KernelConv.nD → PrngReg), Pre_KernelConv m →
    θ_run (Cert.KernelConv.defs (F := Bits)) (onTc (τ := Cert.KernelConv.τ) (Cert.KernelConv.main (F := Bits))) ⟨m, fun _ => 0, g⟩ (fun r => (∀ c : Dev Cert.KernelConv.nD,
      r.2.mem ((c.tc : Thread Cert.KernelConv.nD Cert.KernelConv.τ).loc Cert.KernelConv.main_arg0) = m ((c.tc : Thread Cert.KernelConv.nD Cert.KernelConv.τ).loc Cert.KernelConv.main_arg0)
      ∧ r.2.mem ((c.tc : Thread Cert.KernelConv.nD Cert.KernelConv.τ).loc Cert.KernelConv.main_arg1) = m ((c.tc : Thread Cert.KernelConv.nD Cert.KernelConv.τ).loc Cert.KernelConv.main_arg1)
      ∧ r.2.mem ((c.tc : Thread Cert.KernelConv.nD Cert.KernelConv.τ).loc Cert.KernelConv.main_arg2) = m ((c.tc : Thread Cert.KernelConv.nD Cert.KernelConv.τ).loc Cert.KernelConv.main_arg2))
      ∧ r.2.sem = fun _ => 0)

def quiescent_KernelConvIdeal [hKernelConvIdeal : Cert.KernelConvIdeal.Facts] : Prop :=
  ∀ (m : (ℓ : Loc Cert.KernelConvIdeal.nD Cert.KernelConvIdeal.τ Cert.KernelConvIdeal.sig) → Buf (Elt Ideal) ℓ) (g : Dev Cert.KernelConvIdeal.nD → PrngReg), Pre_KernelConvIdeal m →
    θ_run (Cert.KernelConvIdeal.defs (F := Ideal)) (onTc (τ := Cert.KernelConvIdeal.τ) (Cert.KernelConvIdeal.main (F := Ideal))) ⟨m, fun _ => 0, g⟩ (fun r => (∀ c : Dev Cert.KernelConvIdeal.nD,
      r.2.mem ((c.tc : Thread Cert.KernelConvIdeal.nD Cert.KernelConvIdeal.τ).loc Cert.KernelConvIdeal.main_arg0) = m ((c.tc : Thread Cert.KernelConvIdeal.nD Cert.KernelConvIdeal.τ).loc Cert.KernelConvIdeal.main_arg0)
      ∧ r.2.mem ((c.tc : Thread Cert.KernelConvIdeal.nD Cert.KernelConvIdeal.τ).loc Cert.KernelConvIdeal.main_arg1) = m ((c.tc : Thread Cert.KernelConvIdeal.nD Cert.KernelConvIdeal.τ).loc Cert.KernelConvIdeal.main_arg1)
      ∧ r.2.mem ((c.tc : Thread Cert.KernelConvIdeal.nD Cert.KernelConvIdeal.τ).loc Cert.KernelConvIdeal.main_arg2) = m ((c.tc : Thread Cert.KernelConvIdeal.nD Cert.KernelConvIdeal.τ).loc Cert.KernelConvIdeal.main_arg2))
      ∧ r.2.sem = fun _ => 0)

def quiescent_ReferenceConvIdeal [hReferenceConvIdeal : Cert.ReferenceConvIdeal.Facts] : Prop :=
  ∀ (m : (ℓ : Loc Cert.ReferenceConvIdeal.nD Cert.ReferenceConvIdeal.τ Cert.ReferenceConvIdeal.sig) → Buf (Elt Ideal) ℓ) (g : Dev Cert.ReferenceConvIdeal.nD → PrngReg), Pre_ReferenceConvIdeal m →
    θ_run (Cert.ReferenceConvIdeal.defs (F := Ideal)) (onTc (τ := Cert.ReferenceConvIdeal.τ) (Cert.ReferenceConvIdeal.main (F := Ideal))) ⟨m, fun _ => 0, g⟩ (fun r => (∀ c : Dev Cert.ReferenceConvIdeal.nD,
      r.2.mem ((c.tc : Thread Cert.ReferenceConvIdeal.nD Cert.ReferenceConvIdeal.τ).loc Cert.ReferenceConvIdeal.main_arg0) = m ((c.tc : Thread Cert.ReferenceConvIdeal.nD Cert.ReferenceConvIdeal.τ).loc Cert.ReferenceConvIdeal.main_arg0)
      ∧ r.2.mem ((c.tc : Thread Cert.ReferenceConvIdeal.nD Cert.ReferenceConvIdeal.τ).loc Cert.ReferenceConvIdeal.main_arg1) = m ((c.tc : Thread Cert.ReferenceConvIdeal.nD Cert.ReferenceConvIdeal.τ).loc Cert.ReferenceConvIdeal.main_arg1)
      ∧ r.2.mem ((c.tc : Thread Cert.ReferenceConvIdeal.nD Cert.ReferenceConvIdeal.τ).loc Cert.ReferenceConvIdeal.main_arg2) = m ((c.tc : Thread Cert.ReferenceConvIdeal.nD Cert.ReferenceConvIdeal.τ).loc Cert.ReferenceConvIdeal.main_arg2))
      ∧ r.2.sem = fun _ => 0)

def quiescent_KernelKv [hKernelKv : Cert.KernelKv.Facts] : Prop :=
  ∀ (m : (ℓ : Loc Cert.KernelKv.nD Cert.KernelKv.τ Cert.KernelKv.sig) → Buf (Elt Bits) ℓ) (g : Dev Cert.KernelKv.nD → PrngReg), Pre_KernelKv m →
    θ_run (Cert.KernelKv.defs (F := Bits)) (onTc (τ := Cert.KernelKv.τ) (Cert.KernelKv.main (F := Bits))) ⟨m, fun _ => 0, g⟩ (fun r => (∀ c : Dev Cert.KernelKv.nD,
      r.2.mem ((c.tc : Thread Cert.KernelKv.nD Cert.KernelKv.τ).loc Cert.KernelKv.main_arg0) = m ((c.tc : Thread Cert.KernelKv.nD Cert.KernelKv.τ).loc Cert.KernelKv.main_arg0)
      ∧ r.2.mem ((c.tc : Thread Cert.KernelKv.nD Cert.KernelKv.τ).loc Cert.KernelKv.main_arg1) = m ((c.tc : Thread Cert.KernelKv.nD Cert.KernelKv.τ).loc Cert.KernelKv.main_arg1)
      ∧ r.2.mem ((c.tc : Thread Cert.KernelKv.nD Cert.KernelKv.τ).loc Cert.KernelKv.main_arg2) = m ((c.tc : Thread Cert.KernelKv.nD Cert.KernelKv.τ).loc Cert.KernelKv.main_arg2))
      ∧ r.2.sem = fun _ => 0)

def quiescent_KernelKvIdeal [hKernelKvIdeal : Cert.KernelKvIdeal.Facts] : Prop :=
  ∀ (m : (ℓ : Loc Cert.KernelKvIdeal.nD Cert.KernelKvIdeal.τ Cert.KernelKvIdeal.sig) → Buf (Elt Ideal) ℓ) (g : Dev Cert.KernelKvIdeal.nD → PrngReg), Pre_KernelKvIdeal m →
    θ_run (Cert.KernelKvIdeal.defs (F := Ideal)) (onTc (τ := Cert.KernelKvIdeal.τ) (Cert.KernelKvIdeal.main (F := Ideal))) ⟨m, fun _ => 0, g⟩ (fun r => (∀ c : Dev Cert.KernelKvIdeal.nD,
      r.2.mem ((c.tc : Thread Cert.KernelKvIdeal.nD Cert.KernelKvIdeal.τ).loc Cert.KernelKvIdeal.main_arg0) = m ((c.tc : Thread Cert.KernelKvIdeal.nD Cert.KernelKvIdeal.τ).loc Cert.KernelKvIdeal.main_arg0)
      ∧ r.2.mem ((c.tc : Thread Cert.KernelKvIdeal.nD Cert.KernelKvIdeal.τ).loc Cert.KernelKvIdeal.main_arg1) = m ((c.tc : Thread Cert.KernelKvIdeal.nD Cert.KernelKvIdeal.τ).loc Cert.KernelKvIdeal.main_arg1)
      ∧ r.2.mem ((c.tc : Thread Cert.KernelKvIdeal.nD Cert.KernelKvIdeal.τ).loc Cert.KernelKvIdeal.main_arg2) = m ((c.tc : Thread Cert.KernelKvIdeal.nD Cert.KernelKvIdeal.τ).loc Cert.KernelKvIdeal.main_arg2))
      ∧ r.2.sem = fun _ => 0)

def quiescent_ReferenceKvIdeal [hReferenceKvIdeal : Cert.ReferenceKvIdeal.Facts] : Prop :=
  ∀ (m : (ℓ : Loc Cert.ReferenceKvIdeal.nD Cert.ReferenceKvIdeal.τ Cert.ReferenceKvIdeal.sig) → Buf (Elt Ideal) ℓ) (g : Dev Cert.ReferenceKvIdeal.nD → PrngReg), Pre_ReferenceKvIdeal m →
    θ_run (Cert.ReferenceKvIdeal.defs (F := Ideal)) (onTc (τ := Cert.ReferenceKvIdeal.τ) (Cert.ReferenceKvIdeal.main (F := Ideal))) ⟨m, fun _ => 0, g⟩ (fun r => (∀ c : Dev Cert.ReferenceKvIdeal.nD,
      r.2.mem ((c.tc : Thread Cert.ReferenceKvIdeal.nD Cert.ReferenceKvIdeal.τ).loc Cert.ReferenceKvIdeal.main_arg0) = m ((c.tc : Thread Cert.ReferenceKvIdeal.nD Cert.ReferenceKvIdeal.τ).loc Cert.ReferenceKvIdeal.main_arg0)
      ∧ r.2.mem ((c.tc : Thread Cert.ReferenceKvIdeal.nD Cert.ReferenceKvIdeal.τ).loc Cert.ReferenceKvIdeal.main_arg1) = m ((c.tc : Thread Cert.ReferenceKvIdeal.nD Cert.ReferenceKvIdeal.τ).loc Cert.ReferenceKvIdeal.main_arg1)
      ∧ r.2.mem ((c.tc : Thread Cert.ReferenceKvIdeal.nD Cert.ReferenceKvIdeal.τ).loc Cert.ReferenceKvIdeal.main_arg2) = m ((c.tc : Thread Cert.ReferenceKvIdeal.nD Cert.ReferenceKvIdeal.τ).loc Cert.ReferenceKvIdeal.main_arg2))
      ∧ r.2.sem = fun _ => 0)

def quiescent_KernelKvDx [hKernelKvDx : Cert.KernelKvDx.Facts] : Prop :=
  ∀ (m : (ℓ : Loc Cert.KernelKvDx.nD Cert.KernelKvDx.τ Cert.KernelKvDx.sig) → Buf (Elt Bits) ℓ) (g : Dev Cert.KernelKvDx.nD → PrngReg), Pre_KernelKvDx m →
    θ_run (Cert.KernelKvDx.defs (F := Bits)) (onTc (τ := Cert.KernelKvDx.τ) (Cert.KernelKvDx.main (F := Bits))) ⟨m, fun _ => 0, g⟩ (fun r => (∀ c : Dev Cert.KernelKvDx.nD,
      r.2.mem ((c.tc : Thread Cert.KernelKvDx.nD Cert.KernelKvDx.τ).loc Cert.KernelKvDx.main_arg0) = m ((c.tc : Thread Cert.KernelKvDx.nD Cert.KernelKvDx.τ).loc Cert.KernelKvDx.main_arg0)
      ∧ r.2.mem ((c.tc : Thread Cert.KernelKvDx.nD Cert.KernelKvDx.τ).loc Cert.KernelKvDx.main_arg1) = m ((c.tc : Thread Cert.KernelKvDx.nD Cert.KernelKvDx.τ).loc Cert.KernelKvDx.main_arg1))
      ∧ r.2.sem = fun _ => 0)

def quiescent_KernelKvDxIdeal [hKernelKvDxIdeal : Cert.KernelKvDxIdeal.Facts] : Prop :=
  ∀ (m : (ℓ : Loc Cert.KernelKvDxIdeal.nD Cert.KernelKvDxIdeal.τ Cert.KernelKvDxIdeal.sig) → Buf (Elt Ideal) ℓ) (g : Dev Cert.KernelKvDxIdeal.nD → PrngReg), Pre_KernelKvDxIdeal m →
    θ_run (Cert.KernelKvDxIdeal.defs (F := Ideal)) (onTc (τ := Cert.KernelKvDxIdeal.τ) (Cert.KernelKvDxIdeal.main (F := Ideal))) ⟨m, fun _ => 0, g⟩ (fun r => (∀ c : Dev Cert.KernelKvDxIdeal.nD,
      r.2.mem ((c.tc : Thread Cert.KernelKvDxIdeal.nD Cert.KernelKvDxIdeal.τ).loc Cert.KernelKvDxIdeal.main_arg0) = m ((c.tc : Thread Cert.KernelKvDxIdeal.nD Cert.KernelKvDxIdeal.τ).loc Cert.KernelKvDxIdeal.main_arg0)
      ∧ r.2.mem ((c.tc : Thread Cert.KernelKvDxIdeal.nD Cert.KernelKvDxIdeal.τ).loc Cert.KernelKvDxIdeal.main_arg1) = m ((c.tc : Thread Cert.KernelKvDxIdeal.nD Cert.KernelKvDxIdeal.τ).loc Cert.KernelKvDxIdeal.main_arg1))
      ∧ r.2.sem = fun _ => 0)

def quiescent_ReferenceKvDxIdeal [hReferenceKvDxIdeal : Cert.ReferenceKvDxIdeal.Facts] : Prop :=
  ∀ (m : (ℓ : Loc Cert.ReferenceKvDxIdeal.nD Cert.ReferenceKvDxIdeal.τ Cert.ReferenceKvDxIdeal.sig) → Buf (Elt Ideal) ℓ) (g : Dev Cert.ReferenceKvDxIdeal.nD → PrngReg), Pre_ReferenceKvDxIdeal m →
    θ_run (Cert.ReferenceKvDxIdeal.defs (F := Ideal)) (onTc (τ := Cert.ReferenceKvDxIdeal.τ) (Cert.ReferenceKvDxIdeal.main (F := Ideal))) ⟨m, fun _ => 0, g⟩ (fun r => (∀ c : Dev Cert.ReferenceKvDxIdeal.nD,
      r.2.mem ((c.tc : Thread Cert.ReferenceKvDxIdeal.nD Cert.ReferenceKvDxIdeal.τ).loc Cert.ReferenceKvDxIdeal.main_arg0) = m ((c.tc : Thread Cert.ReferenceKvDxIdeal.nD Cert.ReferenceKvDxIdeal.τ).loc Cert.ReferenceKvDxIdeal.main_arg0)
      ∧ r.2.mem ((c.tc : Thread Cert.ReferenceKvDxIdeal.nD Cert.ReferenceKvDxIdeal.τ).loc Cert.ReferenceKvDxIdeal.main_arg1) = m ((c.tc : Thread Cert.ReferenceKvDxIdeal.nD Cert.ReferenceKvDxIdeal.τ).loc Cert.ReferenceKvDxIdeal.main_arg1))
      ∧ r.2.sem = fun _ => 0)

def quiescent_KernelKvDw [hKernelKvDw : Cert.KernelKvDw.Facts] : Prop :=
  ∀ (m : (ℓ : Loc Cert.KernelKvDw.nD Cert.KernelKvDw.τ Cert.KernelKvDw.sig) → Buf (Elt Bits) ℓ) (g : Dev Cert.KernelKvDw.nD → PrngReg), Pre_KernelKvDw m →
    θ_run (Cert.KernelKvDw.defs (F := Bits)) (onTc (τ := Cert.KernelKvDw.τ) (Cert.KernelKvDw.main (F := Bits))) ⟨m, fun _ => 0, g⟩ (fun r => (∀ c : Dev Cert.KernelKvDw.nD,
      r.2.mem ((c.tc : Thread Cert.KernelKvDw.nD Cert.KernelKvDw.τ).loc Cert.KernelKvDw.main_arg0) = m ((c.tc : Thread Cert.KernelKvDw.nD Cert.KernelKvDw.τ).loc Cert.KernelKvDw.main_arg0)
      ∧ r.2.mem ((c.tc : Thread Cert.KernelKvDw.nD Cert.KernelKvDw.τ).loc Cert.KernelKvDw.main_arg1) = m ((c.tc : Thread Cert.KernelKvDw.nD Cert.KernelKvDw.τ).loc Cert.KernelKvDw.main_arg1))
      ∧ r.2.sem = fun _ => 0)

def quiescent_KernelKvDwIdeal [hKernelKvDwIdeal : Cert.KernelKvDwIdeal.Facts] : Prop :=
  ∀ (m : (ℓ : Loc Cert.KernelKvDwIdeal.nD Cert.KernelKvDwIdeal.τ Cert.KernelKvDwIdeal.sig) → Buf (Elt Ideal) ℓ) (g : Dev Cert.KernelKvDwIdeal.nD → PrngReg), Pre_KernelKvDwIdeal m →
    θ_run (Cert.KernelKvDwIdeal.defs (F := Ideal)) (onTc (τ := Cert.KernelKvDwIdeal.τ) (Cert.KernelKvDwIdeal.main (F := Ideal))) ⟨m, fun _ => 0, g⟩ (fun r => (∀ c : Dev Cert.KernelKvDwIdeal.nD,
      r.2.mem ((c.tc : Thread Cert.KernelKvDwIdeal.nD Cert.KernelKvDwIdeal.τ).loc Cert.KernelKvDwIdeal.main_arg0) = m ((c.tc : Thread Cert.KernelKvDwIdeal.nD Cert.KernelKvDwIdeal.τ).loc Cert.KernelKvDwIdeal.main_arg0)
      ∧ r.2.mem ((c.tc : Thread Cert.KernelKvDwIdeal.nD Cert.KernelKvDwIdeal.τ).loc Cert.KernelKvDwIdeal.main_arg1) = m ((c.tc : Thread Cert.KernelKvDwIdeal.nD Cert.KernelKvDwIdeal.τ).loc Cert.KernelKvDwIdeal.main_arg1))
      ∧ r.2.sem = fun _ => 0)

def quiescent_ReferenceKvDwIdeal [hReferenceKvDwIdeal : Cert.ReferenceKvDwIdeal.Facts] : Prop :=
  ∀ (m : (ℓ : Loc Cert.ReferenceKvDwIdeal.nD Cert.ReferenceKvDwIdeal.τ Cert.ReferenceKvDwIdeal.sig) → Buf (Elt Ideal) ℓ) (g : Dev Cert.ReferenceKvDwIdeal.nD → PrngReg), Pre_ReferenceKvDwIdeal m →
    θ_run (Cert.ReferenceKvDwIdeal.defs (F := Ideal)) (onTc (τ := Cert.ReferenceKvDwIdeal.τ) (Cert.ReferenceKvDwIdeal.main (F := Ideal))) ⟨m, fun _ => 0, g⟩ (fun r => (∀ c : Dev Cert.ReferenceKvDwIdeal.nD,
      r.2.mem ((c.tc : Thread Cert.ReferenceKvDwIdeal.nD Cert.ReferenceKvDwIdeal.τ).loc Cert.ReferenceKvDwIdeal.main_arg0) = m ((c.tc : Thread Cert.ReferenceKvDwIdeal.nD Cert.ReferenceKvDwIdeal.τ).loc Cert.ReferenceKvDwIdeal.main_arg0)
      ∧ r.2.mem ((c.tc : Thread Cert.ReferenceKvDwIdeal.nD Cert.ReferenceKvDwIdeal.τ).loc Cert.ReferenceKvDwIdeal.main_arg1) = m ((c.tc : Thread Cert.ReferenceKvDwIdeal.nD Cert.ReferenceKvDwIdeal.τ).loc Cert.ReferenceKvDwIdeal.main_arg1))
      ∧ r.2.sem = fun _ => 0)

def quiescent_KernelKvDb [hKernelKvDb : Cert.KernelKvDb.Facts] : Prop :=
  ∀ (m : (ℓ : Loc Cert.KernelKvDb.nD Cert.KernelKvDb.τ Cert.KernelKvDb.sig) → Buf (Elt Bits) ℓ) (g : Dev Cert.KernelKvDb.nD → PrngReg), Pre_KernelKvDb m →
    θ_run (Cert.KernelKvDb.defs (F := Bits)) (onTc (τ := Cert.KernelKvDb.τ) (Cert.KernelKvDb.main (F := Bits))) ⟨m, fun _ => 0, g⟩ (fun r => (∀ c : Dev Cert.KernelKvDb.nD,
      r.2.mem ((c.tc : Thread Cert.KernelKvDb.nD Cert.KernelKvDb.τ).loc Cert.KernelKvDb.main_arg0) = m ((c.tc : Thread Cert.KernelKvDb.nD Cert.KernelKvDb.τ).loc Cert.KernelKvDb.main_arg0))
      ∧ r.2.sem = fun _ => 0)

def quiescent_KernelKvDbIdeal [hKernelKvDbIdeal : Cert.KernelKvDbIdeal.Facts] : Prop :=
  ∀ (m : (ℓ : Loc Cert.KernelKvDbIdeal.nD Cert.KernelKvDbIdeal.τ Cert.KernelKvDbIdeal.sig) → Buf (Elt Ideal) ℓ) (g : Dev Cert.KernelKvDbIdeal.nD → PrngReg), Pre_KernelKvDbIdeal m →
    θ_run (Cert.KernelKvDbIdeal.defs (F := Ideal)) (onTc (τ := Cert.KernelKvDbIdeal.τ) (Cert.KernelKvDbIdeal.main (F := Ideal))) ⟨m, fun _ => 0, g⟩ (fun r => (∀ c : Dev Cert.KernelKvDbIdeal.nD,
      r.2.mem ((c.tc : Thread Cert.KernelKvDbIdeal.nD Cert.KernelKvDbIdeal.τ).loc Cert.KernelKvDbIdeal.main_arg0) = m ((c.tc : Thread Cert.KernelKvDbIdeal.nD Cert.KernelKvDbIdeal.τ).loc Cert.KernelKvDbIdeal.main_arg0))
      ∧ r.2.sem = fun _ => 0)

def quiescent_ReferenceKvDbIdeal [hReferenceKvDbIdeal : Cert.ReferenceKvDbIdeal.Facts] : Prop :=
  ∀ (m : (ℓ : Loc Cert.ReferenceKvDbIdeal.nD Cert.ReferenceKvDbIdeal.τ Cert.ReferenceKvDbIdeal.sig) → Buf (Elt Ideal) ℓ) (g : Dev Cert.ReferenceKvDbIdeal.nD → PrngReg), Pre_ReferenceKvDbIdeal m →
    θ_run (Cert.ReferenceKvDbIdeal.defs (F := Ideal)) (onTc (τ := Cert.ReferenceKvDbIdeal.τ) (Cert.ReferenceKvDbIdeal.main (F := Ideal))) ⟨m, fun _ => 0, g⟩ (fun r => (∀ c : Dev Cert.ReferenceKvDbIdeal.nD,
      r.2.mem ((c.tc : Thread Cert.ReferenceKvDbIdeal.nD Cert.ReferenceKvDbIdeal.τ).loc Cert.ReferenceKvDbIdeal.main_arg0) = m ((c.tc : Thread Cert.ReferenceKvDbIdeal.nD Cert.ReferenceKvDbIdeal.τ).loc Cert.ReferenceKvDbIdeal.main_arg0))
      ∧ r.2.sem = fun _ => 0)

def quiescent_KernelCtx [hKernelCtx : Cert.KernelCtx.Facts] : Prop :=
  ∀ (m : (ℓ : Loc Cert.KernelCtx.nD Cert.KernelCtx.τ Cert.KernelCtx.sig) → Buf (Elt Bits) ℓ) (g : Dev Cert.KernelCtx.nD → PrngReg), Pre_KernelCtx m →
    θ_run (Cert.KernelCtx.defs (F := Bits)) (onTc (τ := Cert.KernelCtx.τ) (Cert.KernelCtx.main (F := Bits))) ⟨m, fun _ => 0, g⟩ (fun r => (∀ c : Dev Cert.KernelCtx.nD,
      r.2.mem ((c.tc : Thread Cert.KernelCtx.nD Cert.KernelCtx.τ).loc Cert.KernelCtx.main_arg0) = m ((c.tc : Thread Cert.KernelCtx.nD Cert.KernelCtx.τ).loc Cert.KernelCtx.main_arg0)
      ∧ r.2.mem ((c.tc : Thread Cert.KernelCtx.nD Cert.KernelCtx.τ).loc Cert.KernelCtx.main_arg1) = m ((c.tc : Thread Cert.KernelCtx.nD Cert.KernelCtx.τ).loc Cert.KernelCtx.main_arg1)
      ∧ r.2.mem ((c.tc : Thread Cert.KernelCtx.nD Cert.KernelCtx.τ).loc Cert.KernelCtx.main_arg2) = m ((c.tc : Thread Cert.KernelCtx.nD Cert.KernelCtx.τ).loc Cert.KernelCtx.main_arg2)
      ∧ r.2.mem ((c.tc : Thread Cert.KernelCtx.nD Cert.KernelCtx.τ).loc Cert.KernelCtx.main_arg3) = m ((c.tc : Thread Cert.KernelCtx.nD Cert.KernelCtx.τ).loc Cert.KernelCtx.main_arg3))
      ∧ r.2.sem = fun _ => 0)

def quiescent_KernelCtxIdeal [hKernelCtxIdeal : Cert.KernelCtxIdeal.Facts] : Prop :=
  ∀ (m : (ℓ : Loc Cert.KernelCtxIdeal.nD Cert.KernelCtxIdeal.τ Cert.KernelCtxIdeal.sig) → Buf (Elt Ideal) ℓ) (g : Dev Cert.KernelCtxIdeal.nD → PrngReg), Pre_KernelCtxIdeal m →
    θ_run (Cert.KernelCtxIdeal.defs (F := Ideal)) (onTc (τ := Cert.KernelCtxIdeal.τ) (Cert.KernelCtxIdeal.main (F := Ideal))) ⟨m, fun _ => 0, g⟩ (fun r => (∀ c : Dev Cert.KernelCtxIdeal.nD,
      r.2.mem ((c.tc : Thread Cert.KernelCtxIdeal.nD Cert.KernelCtxIdeal.τ).loc Cert.KernelCtxIdeal.main_arg0) = m ((c.tc : Thread Cert.KernelCtxIdeal.nD Cert.KernelCtxIdeal.τ).loc Cert.KernelCtxIdeal.main_arg0)
      ∧ r.2.mem ((c.tc : Thread Cert.KernelCtxIdeal.nD Cert.KernelCtxIdeal.τ).loc Cert.KernelCtxIdeal.main_arg1) = m ((c.tc : Thread Cert.KernelCtxIdeal.nD Cert.KernelCtxIdeal.τ).loc Cert.KernelCtxIdeal.main_arg1)
      ∧ r.2.mem ((c.tc : Thread Cert.KernelCtxIdeal.nD Cert.KernelCtxIdeal.τ).loc Cert.KernelCtxIdeal.main_arg2) = m ((c.tc : Thread Cert.KernelCtxIdeal.nD Cert.KernelCtxIdeal.τ).loc Cert.KernelCtxIdeal.main_arg2)
      ∧ r.2.mem ((c.tc : Thread Cert.KernelCtxIdeal.nD Cert.KernelCtxIdeal.τ).loc Cert.KernelCtxIdeal.main_arg3) = m ((c.tc : Thread Cert.KernelCtxIdeal.nD Cert.KernelCtxIdeal.τ).loc Cert.KernelCtxIdeal.main_arg3))
      ∧ r.2.sem = fun _ => 0)

def quiescent_KernelCtxIdeal_pre_finite_scores_ctx [hKernelCtxIdeal : Cert.KernelCtxIdeal.Facts] [hPre_finite_scores_ctx : Cert.Pre_finite_scores_ctx.Facts] : Prop :=
  ∀ (m : (ℓ : Loc Cert.KernelCtxIdeal.nD Cert.KernelCtxIdeal.τ Cert.KernelCtxIdeal.sig) → Buf (Elt Ideal) ℓ) (g : Dev Cert.KernelCtxIdeal.nD → PrngReg), Pre_KernelCtxIdeal_finite_scores_ctx m →
    θ_run (Cert.KernelCtxIdeal.defs (F := Ideal)) (onTc (τ := Cert.KernelCtxIdeal.τ) (Cert.KernelCtxIdeal.main (F := Ideal))) ⟨m, fun _ => 0, g⟩ (fun r => (∀ c : Dev Cert.KernelCtxIdeal.nD,
      r.2.mem ((c.tc : Thread Cert.KernelCtxIdeal.nD Cert.KernelCtxIdeal.τ).loc Cert.KernelCtxIdeal.main_arg0) = m ((c.tc : Thread Cert.KernelCtxIdeal.nD Cert.KernelCtxIdeal.τ).loc Cert.KernelCtxIdeal.main_arg0)
      ∧ r.2.mem ((c.tc : Thread Cert.KernelCtxIdeal.nD Cert.KernelCtxIdeal.τ).loc Cert.KernelCtxIdeal.main_arg1) = m ((c.tc : Thread Cert.KernelCtxIdeal.nD Cert.KernelCtxIdeal.τ).loc Cert.KernelCtxIdeal.main_arg1)
      ∧ r.2.mem ((c.tc : Thread Cert.KernelCtxIdeal.nD Cert.KernelCtxIdeal.τ).loc Cert.KernelCtxIdeal.main_arg2) = m ((c.tc : Thread Cert.KernelCtxIdeal.nD Cert.KernelCtxIdeal.τ).loc Cert.KernelCtxIdeal.main_arg2)
      ∧ r.2.mem ((c.tc : Thread Cert.KernelCtxIdeal.nD Cert.KernelCtxIdeal.τ).loc Cert.KernelCtxIdeal.main_arg3) = m ((c.tc : Thread Cert.KernelCtxIdeal.nD Cert.KernelCtxIdeal.τ).loc Cert.KernelCtxIdeal.main_arg3))
      ∧ r.2.sem = fun _ => 0)

def quiescent_ReferenceCtxIdeal [hReferenceCtxIdeal : Cert.ReferenceCtxIdeal.Facts] : Prop :=
  ∀ (m : (ℓ : Loc Cert.ReferenceCtxIdeal.nD Cert.ReferenceCtxIdeal.τ Cert.ReferenceCtxIdeal.sig) → Buf (Elt Ideal) ℓ) (g : Dev Cert.ReferenceCtxIdeal.nD → PrngReg), Pre_ReferenceCtxIdeal m →
    θ_run (Cert.ReferenceCtxIdeal.defs (F := Ideal)) (onTc (τ := Cert.ReferenceCtxIdeal.τ) (Cert.ReferenceCtxIdeal.main (F := Ideal))) ⟨m, fun _ => 0, g⟩ (fun r => (∀ c : Dev Cert.ReferenceCtxIdeal.nD,
      r.2.mem ((c.tc : Thread Cert.ReferenceCtxIdeal.nD Cert.ReferenceCtxIdeal.τ).loc Cert.ReferenceCtxIdeal.main_arg0) = m ((c.tc : Thread Cert.ReferenceCtxIdeal.nD Cert.ReferenceCtxIdeal.τ).loc Cert.ReferenceCtxIdeal.main_arg0)
      ∧ r.2.mem ((c.tc : Thread Cert.ReferenceCtxIdeal.nD Cert.ReferenceCtxIdeal.τ).loc Cert.ReferenceCtxIdeal.main_arg1) = m ((c.tc : Thread Cert.ReferenceCtxIdeal.nD Cert.ReferenceCtxIdeal.τ).loc Cert.ReferenceCtxIdeal.main_arg1)
      ∧ r.2.mem ((c.tc : Thread Cert.ReferenceCtxIdeal.nD Cert.ReferenceCtxIdeal.τ).loc Cert.ReferenceCtxIdeal.main_arg2) = m ((c.tc : Thread Cert.ReferenceCtxIdeal.nD Cert.ReferenceCtxIdeal.τ).loc Cert.ReferenceCtxIdeal.main_arg2)
      ∧ r.2.mem ((c.tc : Thread Cert.ReferenceCtxIdeal.nD Cert.ReferenceCtxIdeal.τ).loc Cert.ReferenceCtxIdeal.main_arg3) = m ((c.tc : Thread Cert.ReferenceCtxIdeal.nD Cert.ReferenceCtxIdeal.τ).loc Cert.ReferenceCtxIdeal.main_arg3))
      ∧ r.2.sem = fun _ => 0)

def quiescent_ReferenceCtxIdeal_pre_finite_scores_ctx [hReferenceCtxIdeal : Cert.ReferenceCtxIdeal.Facts] [hPre_finite_scores_ctx : Cert.Pre_finite_scores_ctx.Facts] : Prop :=
  ∀ (m : (ℓ : Loc Cert.ReferenceCtxIdeal.nD Cert.ReferenceCtxIdeal.τ Cert.ReferenceCtxIdeal.sig) → Buf (Elt Ideal) ℓ) (g : Dev Cert.ReferenceCtxIdeal.nD → PrngReg), Pre_ReferenceCtxIdeal_finite_scores_ctx m →
    θ_run (Cert.ReferenceCtxIdeal.defs (F := Ideal)) (onTc (τ := Cert.ReferenceCtxIdeal.τ) (Cert.ReferenceCtxIdeal.main (F := Ideal))) ⟨m, fun _ => 0, g⟩ (fun r => (∀ c : Dev Cert.ReferenceCtxIdeal.nD,
      r.2.mem ((c.tc : Thread Cert.ReferenceCtxIdeal.nD Cert.ReferenceCtxIdeal.τ).loc Cert.ReferenceCtxIdeal.main_arg0) = m ((c.tc : Thread Cert.ReferenceCtxIdeal.nD Cert.ReferenceCtxIdeal.τ).loc Cert.ReferenceCtxIdeal.main_arg0)
      ∧ r.2.mem ((c.tc : Thread Cert.ReferenceCtxIdeal.nD Cert.ReferenceCtxIdeal.τ).loc Cert.ReferenceCtxIdeal.main_arg1) = m ((c.tc : Thread Cert.ReferenceCtxIdeal.nD Cert.ReferenceCtxIdeal.τ).loc Cert.ReferenceCtxIdeal.main_arg1)
      ∧ r.2.mem ((c.tc : Thread Cert.ReferenceCtxIdeal.nD Cert.ReferenceCtxIdeal.τ).loc Cert.ReferenceCtxIdeal.main_arg2) = m ((c.tc : Thread Cert.ReferenceCtxIdeal.nD Cert.ReferenceCtxIdeal.τ).loc Cert.ReferenceCtxIdeal.main_arg2)
      ∧ r.2.mem ((c.tc : Thread Cert.ReferenceCtxIdeal.nD Cert.ReferenceCtxIdeal.τ).loc Cert.ReferenceCtxIdeal.main_arg3) = m ((c.tc : Thread Cert.ReferenceCtxIdeal.nD Cert.ReferenceCtxIdeal.τ).loc Cert.ReferenceCtxIdeal.main_arg3))
      ∧ r.2.sem = fun _ => 0)

def quiescent_KernelCtxFwd [hKernelCtxFwd : Cert.KernelCtxFwd.Facts] : Prop :=
  ∀ (m : (ℓ : Loc Cert.KernelCtxFwd.nD Cert.KernelCtxFwd.τ Cert.KernelCtxFwd.sig) → Buf (Elt Bits) ℓ) (g : Dev Cert.KernelCtxFwd.nD → PrngReg), Pre_KernelCtxFwd m →
    θ_run (Cert.KernelCtxFwd.defs (F := Bits)) (onTc (τ := Cert.KernelCtxFwd.τ) (Cert.KernelCtxFwd.main (F := Bits))) ⟨m, fun _ => 0, g⟩ (fun r => (∀ c : Dev Cert.KernelCtxFwd.nD,
      r.2.mem ((c.tc : Thread Cert.KernelCtxFwd.nD Cert.KernelCtxFwd.τ).loc Cert.KernelCtxFwd.main_arg0) = m ((c.tc : Thread Cert.KernelCtxFwd.nD Cert.KernelCtxFwd.τ).loc Cert.KernelCtxFwd.main_arg0)
      ∧ r.2.mem ((c.tc : Thread Cert.KernelCtxFwd.nD Cert.KernelCtxFwd.τ).loc Cert.KernelCtxFwd.main_arg1) = m ((c.tc : Thread Cert.KernelCtxFwd.nD Cert.KernelCtxFwd.τ).loc Cert.KernelCtxFwd.main_arg1)
      ∧ r.2.mem ((c.tc : Thread Cert.KernelCtxFwd.nD Cert.KernelCtxFwd.τ).loc Cert.KernelCtxFwd.main_arg2) = m ((c.tc : Thread Cert.KernelCtxFwd.nD Cert.KernelCtxFwd.τ).loc Cert.KernelCtxFwd.main_arg2))
      ∧ r.2.sem = fun _ => 0)

def quiescent_KernelCtxFwdIdeal [hKernelCtxFwdIdeal : Cert.KernelCtxFwdIdeal.Facts] : Prop :=
  ∀ (m : (ℓ : Loc Cert.KernelCtxFwdIdeal.nD Cert.KernelCtxFwdIdeal.τ Cert.KernelCtxFwdIdeal.sig) → Buf (Elt Ideal) ℓ) (g : Dev Cert.KernelCtxFwdIdeal.nD → PrngReg), Pre_KernelCtxFwdIdeal m →
    θ_run (Cert.KernelCtxFwdIdeal.defs (F := Ideal)) (onTc (τ := Cert.KernelCtxFwdIdeal.τ) (Cert.KernelCtxFwdIdeal.main (F := Ideal))) ⟨m, fun _ => 0, g⟩ (fun r => (∀ c : Dev Cert.KernelCtxFwdIdeal.nD,
      r.2.mem ((c.tc : Thread Cert.KernelCtxFwdIdeal.nD Cert.KernelCtxFwdIdeal.τ).loc Cert.KernelCtxFwdIdeal.main_arg0) = m ((c.tc : Thread Cert.KernelCtxFwdIdeal.nD Cert.KernelCtxFwdIdeal.τ).loc Cert.KernelCtxFwdIdeal.main_arg0)
      ∧ r.2.mem ((c.tc : Thread Cert.KernelCtxFwdIdeal.nD Cert.KernelCtxFwdIdeal.τ).loc Cert.KernelCtxFwdIdeal.main_arg1) = m ((c.tc : Thread Cert.KernelCtxFwdIdeal.nD Cert.KernelCtxFwdIdeal.τ).loc Cert.KernelCtxFwdIdeal.main_arg1)
      ∧ r.2.mem ((c.tc : Thread Cert.KernelCtxFwdIdeal.nD Cert.KernelCtxFwdIdeal.τ).loc Cert.KernelCtxFwdIdeal.main_arg2) = m ((c.tc : Thread Cert.KernelCtxFwdIdeal.nD Cert.KernelCtxFwdIdeal.τ).loc Cert.KernelCtxFwdIdeal.main_arg2))
      ∧ r.2.sem = fun _ => 0)

def quiescent_KernelCtxFwdIdeal_pre_finite_scores_ctx_fwd [hKernelCtxFwdIdeal : Cert.KernelCtxFwdIdeal.Facts] [hPre_finite_scores_ctx_fwd : Cert.Pre_finite_scores_ctx_fwd.Facts] : Prop :=
  ∀ (m : (ℓ : Loc Cert.KernelCtxFwdIdeal.nD Cert.KernelCtxFwdIdeal.τ Cert.KernelCtxFwdIdeal.sig) → Buf (Elt Ideal) ℓ) (g : Dev Cert.KernelCtxFwdIdeal.nD → PrngReg), Pre_KernelCtxFwdIdeal_finite_scores_ctx_fwd m →
    θ_run (Cert.KernelCtxFwdIdeal.defs (F := Ideal)) (onTc (τ := Cert.KernelCtxFwdIdeal.τ) (Cert.KernelCtxFwdIdeal.main (F := Ideal))) ⟨m, fun _ => 0, g⟩ (fun r => (∀ c : Dev Cert.KernelCtxFwdIdeal.nD,
      r.2.mem ((c.tc : Thread Cert.KernelCtxFwdIdeal.nD Cert.KernelCtxFwdIdeal.τ).loc Cert.KernelCtxFwdIdeal.main_arg0) = m ((c.tc : Thread Cert.KernelCtxFwdIdeal.nD Cert.KernelCtxFwdIdeal.τ).loc Cert.KernelCtxFwdIdeal.main_arg0)
      ∧ r.2.mem ((c.tc : Thread Cert.KernelCtxFwdIdeal.nD Cert.KernelCtxFwdIdeal.τ).loc Cert.KernelCtxFwdIdeal.main_arg1) = m ((c.tc : Thread Cert.KernelCtxFwdIdeal.nD Cert.KernelCtxFwdIdeal.τ).loc Cert.KernelCtxFwdIdeal.main_arg1)
      ∧ r.2.mem ((c.tc : Thread Cert.KernelCtxFwdIdeal.nD Cert.KernelCtxFwdIdeal.τ).loc Cert.KernelCtxFwdIdeal.main_arg2) = m ((c.tc : Thread Cert.KernelCtxFwdIdeal.nD Cert.KernelCtxFwdIdeal.τ).loc Cert.KernelCtxFwdIdeal.main_arg2))
      ∧ r.2.sem = fun _ => 0)

def quiescent_ReferenceCtxFwdIdeal [hReferenceCtxFwdIdeal : Cert.ReferenceCtxFwdIdeal.Facts] : Prop :=
  ∀ (m : (ℓ : Loc Cert.ReferenceCtxFwdIdeal.nD Cert.ReferenceCtxFwdIdeal.τ Cert.ReferenceCtxFwdIdeal.sig) → Buf (Elt Ideal) ℓ) (g : Dev Cert.ReferenceCtxFwdIdeal.nD → PrngReg), Pre_ReferenceCtxFwdIdeal m →
    θ_run (Cert.ReferenceCtxFwdIdeal.defs (F := Ideal)) (onTc (τ := Cert.ReferenceCtxFwdIdeal.τ) (Cert.ReferenceCtxFwdIdeal.main (F := Ideal))) ⟨m, fun _ => 0, g⟩ (fun r => (∀ c : Dev Cert.ReferenceCtxFwdIdeal.nD,
      r.2.mem ((c.tc : Thread Cert.ReferenceCtxFwdIdeal.nD Cert.ReferenceCtxFwdIdeal.τ).loc Cert.ReferenceCtxFwdIdeal.main_arg0) = m ((c.tc : Thread Cert.ReferenceCtxFwdIdeal.nD Cert.ReferenceCtxFwdIdeal.τ).loc Cert.ReferenceCtxFwdIdeal.main_arg0)
      ∧ r.2.mem ((c.tc : Thread Cert.ReferenceCtxFwdIdeal.nD Cert.ReferenceCtxFwdIdeal.τ).loc Cert.ReferenceCtxFwdIdeal.main_arg1) = m ((c.tc : Thread Cert.ReferenceCtxFwdIdeal.nD Cert.ReferenceCtxFwdIdeal.τ).loc Cert.ReferenceCtxFwdIdeal.main_arg1)
      ∧ r.2.mem ((c.tc : Thread Cert.ReferenceCtxFwdIdeal.nD Cert.ReferenceCtxFwdIdeal.τ).loc Cert.ReferenceCtxFwdIdeal.main_arg2) = m ((c.tc : Thread Cert.ReferenceCtxFwdIdeal.nD Cert.ReferenceCtxFwdIdeal.τ).loc Cert.ReferenceCtxFwdIdeal.main_arg2))
      ∧ r.2.sem = fun _ => 0)

def quiescent_ReferenceCtxFwdIdeal_pre_finite_scores_ctx_fwd [hReferenceCtxFwdIdeal : Cert.ReferenceCtxFwdIdeal.Facts] [hPre_finite_scores_ctx_fwd : Cert.Pre_finite_scores_ctx_fwd.Facts] : Prop :=
  ∀ (m : (ℓ : Loc Cert.ReferenceCtxFwdIdeal.nD Cert.ReferenceCtxFwdIdeal.τ Cert.ReferenceCtxFwdIdeal.sig) → Buf (Elt Ideal) ℓ) (g : Dev Cert.ReferenceCtxFwdIdeal.nD → PrngReg), Pre_ReferenceCtxFwdIdeal_finite_scores_ctx_fwd m →
    θ_run (Cert.ReferenceCtxFwdIdeal.defs (F := Ideal)) (onTc (τ := Cert.ReferenceCtxFwdIdeal.τ) (Cert.ReferenceCtxFwdIdeal.main (F := Ideal))) ⟨m, fun _ => 0, g⟩ (fun r => (∀ c : Dev Cert.ReferenceCtxFwdIdeal.nD,
      r.2.mem ((c.tc : Thread Cert.ReferenceCtxFwdIdeal.nD Cert.ReferenceCtxFwdIdeal.τ).loc Cert.ReferenceCtxFwdIdeal.main_arg0) = m ((c.tc : Thread Cert.ReferenceCtxFwdIdeal.nD Cert.ReferenceCtxFwdIdeal.τ).loc Cert.ReferenceCtxFwdIdeal.main_arg0)
      ∧ r.2.mem ((c.tc : Thread Cert.ReferenceCtxFwdIdeal.nD Cert.ReferenceCtxFwdIdeal.τ).loc Cert.ReferenceCtxFwdIdeal.main_arg1) = m ((c.tc : Thread Cert.ReferenceCtxFwdIdeal.nD Cert.ReferenceCtxFwdIdeal.τ).loc Cert.ReferenceCtxFwdIdeal.main_arg1)
      ∧ r.2.mem ((c.tc : Thread Cert.ReferenceCtxFwdIdeal.nD Cert.ReferenceCtxFwdIdeal.τ).loc Cert.ReferenceCtxFwdIdeal.main_arg2) = m ((c.tc : Thread Cert.ReferenceCtxFwdIdeal.nD Cert.ReferenceCtxFwdIdeal.τ).loc Cert.ReferenceCtxFwdIdeal.main_arg2))
      ∧ r.2.sem = fun _ => 0)

def quiescent_KernelSiluFwd [hKernelSiluFwd : Cert.KernelSiluFwd.Facts] : Prop :=
  ∀ (m : (ℓ : Loc Cert.KernelSiluFwd.nD Cert.KernelSiluFwd.τ Cert.KernelSiluFwd.sig) → Buf (Elt Bits) ℓ) (g : Dev Cert.KernelSiluFwd.nD → PrngReg), Pre_KernelSiluFwd m →
    θ_run (Cert.KernelSiluFwd.defs (F := Bits)) (onTc (τ := Cert.KernelSiluFwd.τ) (Cert.KernelSiluFwd.main (F := Bits))) ⟨m, fun _ => 0, g⟩ (fun r => (∀ c : Dev Cert.KernelSiluFwd.nD,
      r.2.mem ((c.tc : Thread Cert.KernelSiluFwd.nD Cert.KernelSiluFwd.τ).loc Cert.KernelSiluFwd.main_arg0) = m ((c.tc : Thread Cert.KernelSiluFwd.nD Cert.KernelSiluFwd.τ).loc Cert.KernelSiluFwd.main_arg0)
      ∧ r.2.mem ((c.tc : Thread Cert.KernelSiluFwd.nD Cert.KernelSiluFwd.τ).loc Cert.KernelSiluFwd.main_arg1) = m ((c.tc : Thread Cert.KernelSiluFwd.nD Cert.KernelSiluFwd.τ).loc Cert.KernelSiluFwd.main_arg1))
      ∧ r.2.sem = fun _ => 0)

def quiescent_KernelSiluFwdIdeal [hKernelSiluFwdIdeal : Cert.KernelSiluFwdIdeal.Facts] : Prop :=
  ∀ (m : (ℓ : Loc Cert.KernelSiluFwdIdeal.nD Cert.KernelSiluFwdIdeal.τ Cert.KernelSiluFwdIdeal.sig) → Buf (Elt Ideal) ℓ) (g : Dev Cert.KernelSiluFwdIdeal.nD → PrngReg), Pre_KernelSiluFwdIdeal m →
    θ_run (Cert.KernelSiluFwdIdeal.defs (F := Ideal)) (onTc (τ := Cert.KernelSiluFwdIdeal.τ) (Cert.KernelSiluFwdIdeal.main (F := Ideal))) ⟨m, fun _ => 0, g⟩ (fun r => (∀ c : Dev Cert.KernelSiluFwdIdeal.nD,
      r.2.mem ((c.tc : Thread Cert.KernelSiluFwdIdeal.nD Cert.KernelSiluFwdIdeal.τ).loc Cert.KernelSiluFwdIdeal.main_arg0) = m ((c.tc : Thread Cert.KernelSiluFwdIdeal.nD Cert.KernelSiluFwdIdeal.τ).loc Cert.KernelSiluFwdIdeal.main_arg0)
      ∧ r.2.mem ((c.tc : Thread Cert.KernelSiluFwdIdeal.nD Cert.KernelSiluFwdIdeal.τ).loc Cert.KernelSiluFwdIdeal.main_arg1) = m ((c.tc : Thread Cert.KernelSiluFwdIdeal.nD Cert.KernelSiluFwdIdeal.τ).loc Cert.KernelSiluFwdIdeal.main_arg1))
      ∧ r.2.sem = fun _ => 0)

def quiescent_ReferenceSiluFwdIdeal [hReferenceSiluFwdIdeal : Cert.ReferenceSiluFwdIdeal.Facts] : Prop :=
  ∀ (m : (ℓ : Loc Cert.ReferenceSiluFwdIdeal.nD Cert.ReferenceSiluFwdIdeal.τ Cert.ReferenceSiluFwdIdeal.sig) → Buf (Elt Ideal) ℓ) (g : Dev Cert.ReferenceSiluFwdIdeal.nD → PrngReg), Pre_ReferenceSiluFwdIdeal m →
    θ_run (Cert.ReferenceSiluFwdIdeal.defs (F := Ideal)) (onTc (τ := Cert.ReferenceSiluFwdIdeal.τ) (Cert.ReferenceSiluFwdIdeal.main (F := Ideal))) ⟨m, fun _ => 0, g⟩ (fun r => (∀ c : Dev Cert.ReferenceSiluFwdIdeal.nD,
      r.2.mem ((c.tc : Thread Cert.ReferenceSiluFwdIdeal.nD Cert.ReferenceSiluFwdIdeal.τ).loc Cert.ReferenceSiluFwdIdeal.main_arg0) = m ((c.tc : Thread Cert.ReferenceSiluFwdIdeal.nD Cert.ReferenceSiluFwdIdeal.τ).loc Cert.ReferenceSiluFwdIdeal.main_arg0)
      ∧ r.2.mem ((c.tc : Thread Cert.ReferenceSiluFwdIdeal.nD Cert.ReferenceSiluFwdIdeal.τ).loc Cert.ReferenceSiluFwdIdeal.main_arg1) = m ((c.tc : Thread Cert.ReferenceSiluFwdIdeal.nD Cert.ReferenceSiluFwdIdeal.τ).loc Cert.ReferenceSiluFwdIdeal.main_arg1))
      ∧ r.2.sem = fun _ => 0)

def quiescent_KernelGluFwd [hKernelGluFwd : Cert.KernelGluFwd.Facts] : Prop :=
  ∀ (m : (ℓ : Loc Cert.KernelGluFwd.nD Cert.KernelGluFwd.τ Cert.KernelGluFwd.sig) → Buf (Elt Bits) ℓ) (g : Dev Cert.KernelGluFwd.nD → PrngReg), Pre_KernelGluFwd m →
    θ_run (Cert.KernelGluFwd.defs (F := Bits)) (onTc (τ := Cert.KernelGluFwd.τ) (Cert.KernelGluFwd.main (F := Bits))) ⟨m, fun _ => 0, g⟩ (fun r => (∀ c : Dev Cert.KernelGluFwd.nD,
      r.2.mem ((c.tc : Thread Cert.KernelGluFwd.nD Cert.KernelGluFwd.τ).loc Cert.KernelGluFwd.main_arg0) = m ((c.tc : Thread Cert.KernelGluFwd.nD Cert.KernelGluFwd.τ).loc Cert.KernelGluFwd.main_arg0)
      ∧ r.2.mem ((c.tc : Thread Cert.KernelGluFwd.nD Cert.KernelGluFwd.τ).loc Cert.KernelGluFwd.main_arg1) = m ((c.tc : Thread Cert.KernelGluFwd.nD Cert.KernelGluFwd.τ).loc Cert.KernelGluFwd.main_arg1))
      ∧ r.2.sem = fun _ => 0)

def quiescent_KernelGluFwdIdeal [hKernelGluFwdIdeal : Cert.KernelGluFwdIdeal.Facts] : Prop :=
  ∀ (m : (ℓ : Loc Cert.KernelGluFwdIdeal.nD Cert.KernelGluFwdIdeal.τ Cert.KernelGluFwdIdeal.sig) → Buf (Elt Ideal) ℓ) (g : Dev Cert.KernelGluFwdIdeal.nD → PrngReg), Pre_KernelGluFwdIdeal m →
    θ_run (Cert.KernelGluFwdIdeal.defs (F := Ideal)) (onTc (τ := Cert.KernelGluFwdIdeal.τ) (Cert.KernelGluFwdIdeal.main (F := Ideal))) ⟨m, fun _ => 0, g⟩ (fun r => (∀ c : Dev Cert.KernelGluFwdIdeal.nD,
      r.2.mem ((c.tc : Thread Cert.KernelGluFwdIdeal.nD Cert.KernelGluFwdIdeal.τ).loc Cert.KernelGluFwdIdeal.main_arg0) = m ((c.tc : Thread Cert.KernelGluFwdIdeal.nD Cert.KernelGluFwdIdeal.τ).loc Cert.KernelGluFwdIdeal.main_arg0)
      ∧ r.2.mem ((c.tc : Thread Cert.KernelGluFwdIdeal.nD Cert.KernelGluFwdIdeal.τ).loc Cert.KernelGluFwdIdeal.main_arg1) = m ((c.tc : Thread Cert.KernelGluFwdIdeal.nD Cert.KernelGluFwdIdeal.τ).loc Cert.KernelGluFwdIdeal.main_arg1))
      ∧ r.2.sem = fun _ => 0)

def quiescent_ReferenceGluFwdIdeal [hReferenceGluFwdIdeal : Cert.ReferenceGluFwdIdeal.Facts] : Prop :=
  ∀ (m : (ℓ : Loc Cert.ReferenceGluFwdIdeal.nD Cert.ReferenceGluFwdIdeal.τ Cert.ReferenceGluFwdIdeal.sig) → Buf (Elt Ideal) ℓ) (g : Dev Cert.ReferenceGluFwdIdeal.nD → PrngReg), Pre_ReferenceGluFwdIdeal m →
    θ_run (Cert.ReferenceGluFwdIdeal.defs (F := Ideal)) (onTc (τ := Cert.ReferenceGluFwdIdeal.τ) (Cert.ReferenceGluFwdIdeal.main (F := Ideal))) ⟨m, fun _ => 0, g⟩ (fun r => (∀ c : Dev Cert.ReferenceGluFwdIdeal.nD,
      r.2.mem ((c.tc : Thread Cert.ReferenceGluFwdIdeal.nD Cert.ReferenceGluFwdIdeal.τ).loc Cert.ReferenceGluFwdIdeal.main_arg0) = m ((c.tc : Thread Cert.ReferenceGluFwdIdeal.nD Cert.ReferenceGluFwdIdeal.τ).loc Cert.ReferenceGluFwdIdeal.main_arg0)
      ∧ r.2.mem ((c.tc : Thread Cert.ReferenceGluFwdIdeal.nD Cert.ReferenceGluFwdIdeal.τ).loc Cert.ReferenceGluFwdIdeal.main_arg1) = m ((c.tc : Thread Cert.ReferenceGluFwdIdeal.nD Cert.ReferenceGluFwdIdeal.τ).loc Cert.ReferenceGluFwdIdeal.main_arg1))
      ∧ r.2.sem = fun _ => 0)

def quiescent_KernelAdamSq [hKernelAdamSq : Cert.KernelAdamSq.Facts] : Prop :=
  ∀ (m : (ℓ : Loc Cert.KernelAdamSq.nD Cert.KernelAdamSq.τ Cert.KernelAdamSq.sig) → Buf (Elt Bits) ℓ) (g : Dev Cert.KernelAdamSq.nD → PrngReg), Pre_KernelAdamSq m →
    θ_run (Cert.KernelAdamSq.defs (F := Bits)) (onTc (τ := Cert.KernelAdamSq.τ) (Cert.KernelAdamSq.main (F := Bits))) ⟨m, fun _ => 0, g⟩ (fun r => (∀ c : Dev Cert.KernelAdamSq.nD,
      r.2.mem ((c.tc : Thread Cert.KernelAdamSq.nD Cert.KernelAdamSq.τ).loc Cert.KernelAdamSq.main_arg0) = m ((c.tc : Thread Cert.KernelAdamSq.nD Cert.KernelAdamSq.τ).loc Cert.KernelAdamSq.main_arg0)
      ∧ r.2.mem ((c.tc : Thread Cert.KernelAdamSq.nD Cert.KernelAdamSq.τ).loc Cert.KernelAdamSq.main_arg1) = m ((c.tc : Thread Cert.KernelAdamSq.nD Cert.KernelAdamSq.τ).loc Cert.KernelAdamSq.main_arg1)
      ∧ r.2.mem ((c.tc : Thread Cert.KernelAdamSq.nD Cert.KernelAdamSq.τ).loc Cert.KernelAdamSq.main_arg2) = m ((c.tc : Thread Cert.KernelAdamSq.nD Cert.KernelAdamSq.τ).loc Cert.KernelAdamSq.main_arg2)
      ∧ r.2.mem ((c.tc : Thread Cert.KernelAdamSq.nD Cert.KernelAdamSq.τ).loc Cert.KernelAdamSq.main_arg3) = m ((c.tc : Thread Cert.KernelAdamSq.nD Cert.KernelAdamSq.τ).loc Cert.KernelAdamSq.main_arg3))
      ∧ r.2.sem = fun _ => 0)

def quiescent_KernelAdamSqIdeal [hKernelAdamSqIdeal : Cert.KernelAdamSqIdeal.Facts] : Prop :=
  ∀ (m : (ℓ : Loc Cert.KernelAdamSqIdeal.nD Cert.KernelAdamSqIdeal.τ Cert.KernelAdamSqIdeal.sig) → Buf (Elt Ideal) ℓ) (g : Dev Cert.KernelAdamSqIdeal.nD → PrngReg), Pre_KernelAdamSqIdeal m →
    θ_run (Cert.KernelAdamSqIdeal.defs (F := Ideal)) (onTc (τ := Cert.KernelAdamSqIdeal.τ) (Cert.KernelAdamSqIdeal.main (F := Ideal))) ⟨m, fun _ => 0, g⟩ (fun r => (∀ c : Dev Cert.KernelAdamSqIdeal.nD,
      r.2.mem ((c.tc : Thread Cert.KernelAdamSqIdeal.nD Cert.KernelAdamSqIdeal.τ).loc Cert.KernelAdamSqIdeal.main_arg0) = m ((c.tc : Thread Cert.KernelAdamSqIdeal.nD Cert.KernelAdamSqIdeal.τ).loc Cert.KernelAdamSqIdeal.main_arg0)
      ∧ r.2.mem ((c.tc : Thread Cert.KernelAdamSqIdeal.nD Cert.KernelAdamSqIdeal.τ).loc Cert.KernelAdamSqIdeal.main_arg1) = m ((c.tc : Thread Cert.KernelAdamSqIdeal.nD Cert.KernelAdamSqIdeal.τ).loc Cert.KernelAdamSqIdeal.main_arg1)
      ∧ r.2.mem ((c.tc : Thread Cert.KernelAdamSqIdeal.nD Cert.KernelAdamSqIdeal.τ).loc Cert.KernelAdamSqIdeal.main_arg2) = m ((c.tc : Thread Cert.KernelAdamSqIdeal.nD Cert.KernelAdamSqIdeal.τ).loc Cert.KernelAdamSqIdeal.main_arg2)
      ∧ r.2.mem ((c.tc : Thread Cert.KernelAdamSqIdeal.nD Cert.KernelAdamSqIdeal.τ).loc Cert.KernelAdamSqIdeal.main_arg3) = m ((c.tc : Thread Cert.KernelAdamSqIdeal.nD Cert.KernelAdamSqIdeal.τ).loc Cert.KernelAdamSqIdeal.main_arg3))
      ∧ r.2.sem = fun _ => 0)

def quiescent_ReferenceAdamSqIdeal [hReferenceAdamSqIdeal : Cert.ReferenceAdamSqIdeal.Facts] : Prop :=
  ∀ (m : (ℓ : Loc Cert.ReferenceAdamSqIdeal.nD Cert.ReferenceAdamSqIdeal.τ Cert.ReferenceAdamSqIdeal.sig) → Buf (Elt Ideal) ℓ) (g : Dev Cert.ReferenceAdamSqIdeal.nD → PrngReg), Pre_ReferenceAdamSqIdeal m →
    θ_run (Cert.ReferenceAdamSqIdeal.defs (F := Ideal)) (onTc (τ := Cert.ReferenceAdamSqIdeal.τ) (Cert.ReferenceAdamSqIdeal.main (F := Ideal))) ⟨m, fun _ => 0, g⟩ (fun r => (∀ c : Dev Cert.ReferenceAdamSqIdeal.nD,
      r.2.mem ((c.tc : Thread Cert.ReferenceAdamSqIdeal.nD Cert.ReferenceAdamSqIdeal.τ).loc Cert.ReferenceAdamSqIdeal.main_arg0) = m ((c.tc : Thread Cert.ReferenceAdamSqIdeal.nD Cert.ReferenceAdamSqIdeal.τ).loc Cert.ReferenceAdamSqIdeal.main_arg0)
      ∧ r.2.mem ((c.tc : Thread Cert.ReferenceAdamSqIdeal.nD Cert.ReferenceAdamSqIdeal.τ).loc Cert.ReferenceAdamSqIdeal.main_arg1) = m ((c.tc : Thread Cert.ReferenceAdamSqIdeal.nD Cert.ReferenceAdamSqIdeal.τ).loc Cert.ReferenceAdamSqIdeal.main_arg1)
      ∧ r.2.mem ((c.tc : Thread Cert.ReferenceAdamSqIdeal.nD Cert.ReferenceAdamSqIdeal.τ).loc Cert.ReferenceAdamSqIdeal.main_arg2) = m ((c.tc : Thread Cert.ReferenceAdamSqIdeal.nD Cert.ReferenceAdamSqIdeal.τ).loc Cert.ReferenceAdamSqIdeal.main_arg2)
      ∧ r.2.mem ((c.tc : Thread Cert.ReferenceAdamSqIdeal.nD Cert.ReferenceAdamSqIdeal.τ).loc Cert.ReferenceAdamSqIdeal.main_arg3) = m ((c.tc : Thread Cert.ReferenceAdamSqIdeal.nD Cert.ReferenceAdamSqIdeal.τ).loc Cert.ReferenceAdamSqIdeal.main_arg3))
      ∧ r.2.sem = fun _ => 0)

def quiescent_KernelAdamVec [hKernelAdamVec : Cert.KernelAdamVec.Facts] : Prop :=
  ∀ (m : (ℓ : Loc Cert.KernelAdamVec.nD Cert.KernelAdamVec.τ Cert.KernelAdamVec.sig) → Buf (Elt Bits) ℓ) (g : Dev Cert.KernelAdamVec.nD → PrngReg), Pre_KernelAdamVec m →
    θ_run (Cert.KernelAdamVec.defs (F := Bits)) (onTc (τ := Cert.KernelAdamVec.τ) (Cert.KernelAdamVec.main (F := Bits))) ⟨m, fun _ => 0, g⟩ (fun r => (∀ c : Dev Cert.KernelAdamVec.nD,
      r.2.mem ((c.tc : Thread Cert.KernelAdamVec.nD Cert.KernelAdamVec.τ).loc Cert.KernelAdamVec.main_arg0) = m ((c.tc : Thread Cert.KernelAdamVec.nD Cert.KernelAdamVec.τ).loc Cert.KernelAdamVec.main_arg0)
      ∧ r.2.mem ((c.tc : Thread Cert.KernelAdamVec.nD Cert.KernelAdamVec.τ).loc Cert.KernelAdamVec.main_arg1) = m ((c.tc : Thread Cert.KernelAdamVec.nD Cert.KernelAdamVec.τ).loc Cert.KernelAdamVec.main_arg1)
      ∧ r.2.mem ((c.tc : Thread Cert.KernelAdamVec.nD Cert.KernelAdamVec.τ).loc Cert.KernelAdamVec.main_arg2) = m ((c.tc : Thread Cert.KernelAdamVec.nD Cert.KernelAdamVec.τ).loc Cert.KernelAdamVec.main_arg2)
      ∧ r.2.mem ((c.tc : Thread Cert.KernelAdamVec.nD Cert.KernelAdamVec.τ).loc Cert.KernelAdamVec.main_arg3) = m ((c.tc : Thread Cert.KernelAdamVec.nD Cert.KernelAdamVec.τ).loc Cert.KernelAdamVec.main_arg3))
      ∧ r.2.sem = fun _ => 0)

def quiescent_KernelAdamVecIdeal [hKernelAdamVecIdeal : Cert.KernelAdamVecIdeal.Facts] : Prop :=
  ∀ (m : (ℓ : Loc Cert.KernelAdamVecIdeal.nD Cert.KernelAdamVecIdeal.τ Cert.KernelAdamVecIdeal.sig) → Buf (Elt Ideal) ℓ) (g : Dev Cert.KernelAdamVecIdeal.nD → PrngReg), Pre_KernelAdamVecIdeal m →
    θ_run (Cert.KernelAdamVecIdeal.defs (F := Ideal)) (onTc (τ := Cert.KernelAdamVecIdeal.τ) (Cert.KernelAdamVecIdeal.main (F := Ideal))) ⟨m, fun _ => 0, g⟩ (fun r => (∀ c : Dev Cert.KernelAdamVecIdeal.nD,
      r.2.mem ((c.tc : Thread Cert.KernelAdamVecIdeal.nD Cert.KernelAdamVecIdeal.τ).loc Cert.KernelAdamVecIdeal.main_arg0) = m ((c.tc : Thread Cert.KernelAdamVecIdeal.nD Cert.KernelAdamVecIdeal.τ).loc Cert.KernelAdamVecIdeal.main_arg0)
      ∧ r.2.mem ((c.tc : Thread Cert.KernelAdamVecIdeal.nD Cert.KernelAdamVecIdeal.τ).loc Cert.KernelAdamVecIdeal.main_arg1) = m ((c.tc : Thread Cert.KernelAdamVecIdeal.nD Cert.KernelAdamVecIdeal.τ).loc Cert.KernelAdamVecIdeal.main_arg1)
      ∧ r.2.mem ((c.tc : Thread Cert.KernelAdamVecIdeal.nD Cert.KernelAdamVecIdeal.τ).loc Cert.KernelAdamVecIdeal.main_arg2) = m ((c.tc : Thread Cert.KernelAdamVecIdeal.nD Cert.KernelAdamVecIdeal.τ).loc Cert.KernelAdamVecIdeal.main_arg2)
      ∧ r.2.mem ((c.tc : Thread Cert.KernelAdamVecIdeal.nD Cert.KernelAdamVecIdeal.τ).loc Cert.KernelAdamVecIdeal.main_arg3) = m ((c.tc : Thread Cert.KernelAdamVecIdeal.nD Cert.KernelAdamVecIdeal.τ).loc Cert.KernelAdamVecIdeal.main_arg3))
      ∧ r.2.sem = fun _ => 0)

def quiescent_ReferenceAdamVecIdeal [hReferenceAdamVecIdeal : Cert.ReferenceAdamVecIdeal.Facts] : Prop :=
  ∀ (m : (ℓ : Loc Cert.ReferenceAdamVecIdeal.nD Cert.ReferenceAdamVecIdeal.τ Cert.ReferenceAdamVecIdeal.sig) → Buf (Elt Ideal) ℓ) (g : Dev Cert.ReferenceAdamVecIdeal.nD → PrngReg), Pre_ReferenceAdamVecIdeal m →
    θ_run (Cert.ReferenceAdamVecIdeal.defs (F := Ideal)) (onTc (τ := Cert.ReferenceAdamVecIdeal.τ) (Cert.ReferenceAdamVecIdeal.main (F := Ideal))) ⟨m, fun _ => 0, g⟩ (fun r => (∀ c : Dev Cert.ReferenceAdamVecIdeal.nD,
      r.2.mem ((c.tc : Thread Cert.ReferenceAdamVecIdeal.nD Cert.ReferenceAdamVecIdeal.τ).loc Cert.ReferenceAdamVecIdeal.main_arg0) = m ((c.tc : Thread Cert.ReferenceAdamVecIdeal.nD Cert.ReferenceAdamVecIdeal.τ).loc Cert.ReferenceAdamVecIdeal.main_arg0)
      ∧ r.2.mem ((c.tc : Thread Cert.ReferenceAdamVecIdeal.nD Cert.ReferenceAdamVecIdeal.τ).loc Cert.ReferenceAdamVecIdeal.main_arg1) = m ((c.tc : Thread Cert.ReferenceAdamVecIdeal.nD Cert.ReferenceAdamVecIdeal.τ).loc Cert.ReferenceAdamVecIdeal.main_arg1)
      ∧ r.2.mem ((c.tc : Thread Cert.ReferenceAdamVecIdeal.nD Cert.ReferenceAdamVecIdeal.τ).loc Cert.ReferenceAdamVecIdeal.main_arg2) = m ((c.tc : Thread Cert.ReferenceAdamVecIdeal.nD Cert.ReferenceAdamVecIdeal.τ).loc Cert.ReferenceAdamVecIdeal.main_arg2)
      ∧ r.2.mem ((c.tc : Thread Cert.ReferenceAdamVecIdeal.nD Cert.ReferenceAdamVecIdeal.τ).loc Cert.ReferenceAdamVecIdeal.main_arg3) = m ((c.tc : Thread Cert.ReferenceAdamVecIdeal.nD Cert.ReferenceAdamVecIdeal.τ).loc Cert.ReferenceAdamVecIdeal.main_arg3))
      ∧ r.2.sem = fun _ => 0)

def quiescent_KernelModFwd [hKernelModFwd : Cert.KernelModFwd.Facts] : Prop :=
  ∀ (m : (ℓ : Loc Cert.KernelModFwd.nD Cert.KernelModFwd.τ Cert.KernelModFwd.sig) → Buf (Elt Bits) ℓ) (g : Dev Cert.KernelModFwd.nD → PrngReg), Pre_KernelModFwd m →
    θ_run (Cert.KernelModFwd.defs (F := Bits)) (onTc (τ := Cert.KernelModFwd.τ) (Cert.KernelModFwd.main (F := Bits))) ⟨m, fun _ => 0, g⟩ (fun r => (∀ c : Dev Cert.KernelModFwd.nD,
      r.2.mem ((c.tc : Thread Cert.KernelModFwd.nD Cert.KernelModFwd.τ).loc Cert.KernelModFwd.main_arg0) = m ((c.tc : Thread Cert.KernelModFwd.nD Cert.KernelModFwd.τ).loc Cert.KernelModFwd.main_arg0)
      ∧ r.2.mem ((c.tc : Thread Cert.KernelModFwd.nD Cert.KernelModFwd.τ).loc Cert.KernelModFwd.main_arg1) = m ((c.tc : Thread Cert.KernelModFwd.nD Cert.KernelModFwd.τ).loc Cert.KernelModFwd.main_arg1)
      ∧ r.2.mem ((c.tc : Thread Cert.KernelModFwd.nD Cert.KernelModFwd.τ).loc Cert.KernelModFwd.main_arg2) = m ((c.tc : Thread Cert.KernelModFwd.nD Cert.KernelModFwd.τ).loc Cert.KernelModFwd.main_arg2))
      ∧ r.2.sem = fun _ => 0)

def quiescent_KernelModFwdIdeal [hKernelModFwdIdeal : Cert.KernelModFwdIdeal.Facts] : Prop :=
  ∀ (m : (ℓ : Loc Cert.KernelModFwdIdeal.nD Cert.KernelModFwdIdeal.τ Cert.KernelModFwdIdeal.sig) → Buf (Elt Ideal) ℓ) (g : Dev Cert.KernelModFwdIdeal.nD → PrngReg), Pre_KernelModFwdIdeal m →
    θ_run (Cert.KernelModFwdIdeal.defs (F := Ideal)) (onTc (τ := Cert.KernelModFwdIdeal.τ) (Cert.KernelModFwdIdeal.main (F := Ideal))) ⟨m, fun _ => 0, g⟩ (fun r => (∀ c : Dev Cert.KernelModFwdIdeal.nD,
      r.2.mem ((c.tc : Thread Cert.KernelModFwdIdeal.nD Cert.KernelModFwdIdeal.τ).loc Cert.KernelModFwdIdeal.main_arg0) = m ((c.tc : Thread Cert.KernelModFwdIdeal.nD Cert.KernelModFwdIdeal.τ).loc Cert.KernelModFwdIdeal.main_arg0)
      ∧ r.2.mem ((c.tc : Thread Cert.KernelModFwdIdeal.nD Cert.KernelModFwdIdeal.τ).loc Cert.KernelModFwdIdeal.main_arg1) = m ((c.tc : Thread Cert.KernelModFwdIdeal.nD Cert.KernelModFwdIdeal.τ).loc Cert.KernelModFwdIdeal.main_arg1)
      ∧ r.2.mem ((c.tc : Thread Cert.KernelModFwdIdeal.nD Cert.KernelModFwdIdeal.τ).loc Cert.KernelModFwdIdeal.main_arg2) = m ((c.tc : Thread Cert.KernelModFwdIdeal.nD Cert.KernelModFwdIdeal.τ).loc Cert.KernelModFwdIdeal.main_arg2))
      ∧ r.2.sem = fun _ => 0)

def quiescent_ReferenceModFwdIdeal [hReferenceModFwdIdeal : Cert.ReferenceModFwdIdeal.Facts] : Prop :=
  ∀ (m : (ℓ : Loc Cert.ReferenceModFwdIdeal.nD Cert.ReferenceModFwdIdeal.τ Cert.ReferenceModFwdIdeal.sig) → Buf (Elt Ideal) ℓ) (g : Dev Cert.ReferenceModFwdIdeal.nD → PrngReg), Pre_ReferenceModFwdIdeal m →
    θ_run (Cert.ReferenceModFwdIdeal.defs (F := Ideal)) (onTc (τ := Cert.ReferenceModFwdIdeal.τ) (Cert.ReferenceModFwdIdeal.main (F := Ideal))) ⟨m, fun _ => 0, g⟩ (fun r => (∀ c : Dev Cert.ReferenceModFwdIdeal.nD,
      r.2.mem ((c.tc : Thread Cert.ReferenceModFwdIdeal.nD Cert.ReferenceModFwdIdeal.τ).loc Cert.ReferenceModFwdIdeal.main_arg0) = m ((c.tc : Thread Cert.ReferenceModFwdIdeal.nD Cert.ReferenceModFwdIdeal.τ).loc Cert.ReferenceModFwdIdeal.main_arg0)
      ∧ r.2.mem ((c.tc : Thread Cert.ReferenceModFwdIdeal.nD Cert.ReferenceModFwdIdeal.τ).loc Cert.ReferenceModFwdIdeal.main_arg1) = m ((c.tc : Thread Cert.ReferenceModFwdIdeal.nD Cert.ReferenceModFwdIdeal.τ).loc Cert.ReferenceModFwdIdeal.main_arg1)
      ∧ r.2.mem ((c.tc : Thread Cert.ReferenceModFwdIdeal.nD Cert.ReferenceModFwdIdeal.τ).loc Cert.ReferenceModFwdIdeal.main_arg2) = m ((c.tc : Thread Cert.ReferenceModFwdIdeal.nD Cert.ReferenceModFwdIdeal.τ).loc Cert.ReferenceModFwdIdeal.main_arg2))
      ∧ r.2.sem = fun _ => 0)

def quiescent_KernelMergeFwd [hKernelMergeFwd : Cert.KernelMergeFwd.Facts] : Prop :=
  ∀ (m : (ℓ : Loc Cert.KernelMergeFwd.nD Cert.KernelMergeFwd.τ Cert.KernelMergeFwd.sig) → Buf (Elt Bits) ℓ) (g : Dev Cert.KernelMergeFwd.nD → PrngReg), Pre_KernelMergeFwd m →
    θ_run (Cert.KernelMergeFwd.defs (F := Bits)) (onTc (τ := Cert.KernelMergeFwd.τ) (Cert.KernelMergeFwd.main (F := Bits))) ⟨m, fun _ => 0, g⟩ (fun r => (∀ c : Dev Cert.KernelMergeFwd.nD,
      r.2.mem ((c.tc : Thread Cert.KernelMergeFwd.nD Cert.KernelMergeFwd.τ).loc Cert.KernelMergeFwd.main_arg0) = m ((c.tc : Thread Cert.KernelMergeFwd.nD Cert.KernelMergeFwd.τ).loc Cert.KernelMergeFwd.main_arg0)
      ∧ r.2.mem ((c.tc : Thread Cert.KernelMergeFwd.nD Cert.KernelMergeFwd.τ).loc Cert.KernelMergeFwd.main_arg1) = m ((c.tc : Thread Cert.KernelMergeFwd.nD Cert.KernelMergeFwd.τ).loc Cert.KernelMergeFwd.main_arg1)
      ∧ r.2.mem ((c.tc : Thread Cert.KernelMergeFwd.nD Cert.KernelMergeFwd.τ).loc Cert.KernelMergeFwd.main_arg2) = m ((c.tc : Thread Cert.KernelMergeFwd.nD Cert.KernelMergeFwd.τ).loc Cert.KernelMergeFwd.main_arg2)
      ∧ r.2.mem ((c.tc : Thread Cert.KernelMergeFwd.nD Cert.KernelMergeFwd.τ).loc Cert.KernelMergeFwd.main_arg3) = m ((c.tc : Thread Cert.KernelMergeFwd.nD Cert.KernelMergeFwd.τ).loc Cert.KernelMergeFwd.main_arg3)
      ∧ r.2.mem ((c.tc : Thread Cert.KernelMergeFwd.nD Cert.KernelMergeFwd.τ).loc Cert.KernelMergeFwd.main_arg4) = m ((c.tc : Thread Cert.KernelMergeFwd.nD Cert.KernelMergeFwd.τ).loc Cert.KernelMergeFwd.main_arg4)
      ∧ r.2.mem ((c.tc : Thread Cert.KernelMergeFwd.nD Cert.KernelMergeFwd.τ).loc Cert.KernelMergeFwd.main_arg5) = m ((c.tc : Thread Cert.KernelMergeFwd.nD Cert.KernelMergeFwd.τ).loc Cert.KernelMergeFwd.main_arg5)
      ∧ r.2.mem ((c.tc : Thread Cert.KernelMergeFwd.nD Cert.KernelMergeFwd.τ).loc Cert.KernelMergeFwd.main_arg6) = m ((c.tc : Thread Cert.KernelMergeFwd.nD Cert.KernelMergeFwd.τ).loc Cert.KernelMergeFwd.main_arg6))
      ∧ r.2.sem = fun _ => 0)

def quiescent_KernelMergeFwdIdeal [hKernelMergeFwdIdeal : Cert.KernelMergeFwdIdeal.Facts] : Prop :=
  ∀ (m : (ℓ : Loc Cert.KernelMergeFwdIdeal.nD Cert.KernelMergeFwdIdeal.τ Cert.KernelMergeFwdIdeal.sig) → Buf (Elt Ideal) ℓ) (g : Dev Cert.KernelMergeFwdIdeal.nD → PrngReg), Pre_KernelMergeFwdIdeal m →
    θ_run (Cert.KernelMergeFwdIdeal.defs (F := Ideal)) (onTc (τ := Cert.KernelMergeFwdIdeal.τ) (Cert.KernelMergeFwdIdeal.main (F := Ideal))) ⟨m, fun _ => 0, g⟩ (fun r => (∀ c : Dev Cert.KernelMergeFwdIdeal.nD,
      r.2.mem ((c.tc : Thread Cert.KernelMergeFwdIdeal.nD Cert.KernelMergeFwdIdeal.τ).loc Cert.KernelMergeFwdIdeal.main_arg0) = m ((c.tc : Thread Cert.KernelMergeFwdIdeal.nD Cert.KernelMergeFwdIdeal.τ).loc Cert.KernelMergeFwdIdeal.main_arg0)
      ∧ r.2.mem ((c.tc : Thread Cert.KernelMergeFwdIdeal.nD Cert.KernelMergeFwdIdeal.τ).loc Cert.KernelMergeFwdIdeal.main_arg1) = m ((c.tc : Thread Cert.KernelMergeFwdIdeal.nD Cert.KernelMergeFwdIdeal.τ).loc Cert.KernelMergeFwdIdeal.main_arg1)
      ∧ r.2.mem ((c.tc : Thread Cert.KernelMergeFwdIdeal.nD Cert.KernelMergeFwdIdeal.τ).loc Cert.KernelMergeFwdIdeal.main_arg2) = m ((c.tc : Thread Cert.KernelMergeFwdIdeal.nD Cert.KernelMergeFwdIdeal.τ).loc Cert.KernelMergeFwdIdeal.main_arg2)
      ∧ r.2.mem ((c.tc : Thread Cert.KernelMergeFwdIdeal.nD Cert.KernelMergeFwdIdeal.τ).loc Cert.KernelMergeFwdIdeal.main_arg3) = m ((c.tc : Thread Cert.KernelMergeFwdIdeal.nD Cert.KernelMergeFwdIdeal.τ).loc Cert.KernelMergeFwdIdeal.main_arg3)
      ∧ r.2.mem ((c.tc : Thread Cert.KernelMergeFwdIdeal.nD Cert.KernelMergeFwdIdeal.τ).loc Cert.KernelMergeFwdIdeal.main_arg4) = m ((c.tc : Thread Cert.KernelMergeFwdIdeal.nD Cert.KernelMergeFwdIdeal.τ).loc Cert.KernelMergeFwdIdeal.main_arg4)
      ∧ r.2.mem ((c.tc : Thread Cert.KernelMergeFwdIdeal.nD Cert.KernelMergeFwdIdeal.τ).loc Cert.KernelMergeFwdIdeal.main_arg5) = m ((c.tc : Thread Cert.KernelMergeFwdIdeal.nD Cert.KernelMergeFwdIdeal.τ).loc Cert.KernelMergeFwdIdeal.main_arg5)
      ∧ r.2.mem ((c.tc : Thread Cert.KernelMergeFwdIdeal.nD Cert.KernelMergeFwdIdeal.τ).loc Cert.KernelMergeFwdIdeal.main_arg6) = m ((c.tc : Thread Cert.KernelMergeFwdIdeal.nD Cert.KernelMergeFwdIdeal.τ).loc Cert.KernelMergeFwdIdeal.main_arg6))
      ∧ r.2.sem = fun _ => 0)

def quiescent_ReferenceMergeFwdIdeal [hReferenceMergeFwdIdeal : Cert.ReferenceMergeFwdIdeal.Facts] : Prop :=
  ∀ (m : (ℓ : Loc Cert.ReferenceMergeFwdIdeal.nD Cert.ReferenceMergeFwdIdeal.τ Cert.ReferenceMergeFwdIdeal.sig) → Buf (Elt Ideal) ℓ) (g : Dev Cert.ReferenceMergeFwdIdeal.nD → PrngReg), Pre_ReferenceMergeFwdIdeal m →
    θ_run (Cert.ReferenceMergeFwdIdeal.defs (F := Ideal)) (onTc (τ := Cert.ReferenceMergeFwdIdeal.τ) (Cert.ReferenceMergeFwdIdeal.main (F := Ideal))) ⟨m, fun _ => 0, g⟩ (fun r => (∀ c : Dev Cert.ReferenceMergeFwdIdeal.nD,
      r.2.mem ((c.tc : Thread Cert.ReferenceMergeFwdIdeal.nD Cert.ReferenceMergeFwdIdeal.τ).loc Cert.ReferenceMergeFwdIdeal.main_arg0) = m ((c.tc : Thread Cert.ReferenceMergeFwdIdeal.nD Cert.ReferenceMergeFwdIdeal.τ).loc Cert.ReferenceMergeFwdIdeal.main_arg0)
      ∧ r.2.mem ((c.tc : Thread Cert.ReferenceMergeFwdIdeal.nD Cert.ReferenceMergeFwdIdeal.τ).loc Cert.ReferenceMergeFwdIdeal.main_arg1) = m ((c.tc : Thread Cert.ReferenceMergeFwdIdeal.nD Cert.ReferenceMergeFwdIdeal.τ).loc Cert.ReferenceMergeFwdIdeal.main_arg1)
      ∧ r.2.mem ((c.tc : Thread Cert.ReferenceMergeFwdIdeal.nD Cert.ReferenceMergeFwdIdeal.τ).loc Cert.ReferenceMergeFwdIdeal.main_arg2) = m ((c.tc : Thread Cert.ReferenceMergeFwdIdeal.nD Cert.ReferenceMergeFwdIdeal.τ).loc Cert.ReferenceMergeFwdIdeal.main_arg2)
      ∧ r.2.mem ((c.tc : Thread Cert.ReferenceMergeFwdIdeal.nD Cert.ReferenceMergeFwdIdeal.τ).loc Cert.ReferenceMergeFwdIdeal.main_arg3) = m ((c.tc : Thread Cert.ReferenceMergeFwdIdeal.nD Cert.ReferenceMergeFwdIdeal.τ).loc Cert.ReferenceMergeFwdIdeal.main_arg3)
      ∧ r.2.mem ((c.tc : Thread Cert.ReferenceMergeFwdIdeal.nD Cert.ReferenceMergeFwdIdeal.τ).loc Cert.ReferenceMergeFwdIdeal.main_arg4) = m ((c.tc : Thread Cert.ReferenceMergeFwdIdeal.nD Cert.ReferenceMergeFwdIdeal.τ).loc Cert.ReferenceMergeFwdIdeal.main_arg4)
      ∧ r.2.mem ((c.tc : Thread Cert.ReferenceMergeFwdIdeal.nD Cert.ReferenceMergeFwdIdeal.τ).loc Cert.ReferenceMergeFwdIdeal.main_arg5) = m ((c.tc : Thread Cert.ReferenceMergeFwdIdeal.nD Cert.ReferenceMergeFwdIdeal.τ).loc Cert.ReferenceMergeFwdIdeal.main_arg5)
      ∧ r.2.mem ((c.tc : Thread Cert.ReferenceMergeFwdIdeal.nD Cert.ReferenceMergeFwdIdeal.τ).loc Cert.ReferenceMergeFwdIdeal.main_arg6) = m ((c.tc : Thread Cert.ReferenceMergeFwdIdeal.nD Cert.ReferenceMergeFwdIdeal.τ).loc Cert.ReferenceMergeFwdIdeal.main_arg6))
      ∧ r.2.sem = fun _ => 0)

def quiescent_KernelLnSiluFwd [hKernelLnSiluFwd : Cert.KernelLnSiluFwd.Facts] : Prop :=
  ∀ (m : (ℓ : Loc Cert.KernelLnSiluFwd.nD Cert.KernelLnSiluFwd.τ Cert.KernelLnSiluFwd.sig) → Buf (Elt Bits) ℓ) (g : Dev Cert.KernelLnSiluFwd.nD → PrngReg), Pre_KernelLnSiluFwd m →
    θ_run (Cert.KernelLnSiluFwd.defs (F := Bits)) (onTc (τ := Cert.KernelLnSiluFwd.τ) (Cert.KernelLnSiluFwd.main (F := Bits))) ⟨m, fun _ => 0, g⟩ (fun r => (∀ c : Dev Cert.KernelLnSiluFwd.nD,
      r.2.mem ((c.tc : Thread Cert.KernelLnSiluFwd.nD Cert.KernelLnSiluFwd.τ).loc Cert.KernelLnSiluFwd.main_arg0) = m ((c.tc : Thread Cert.KernelLnSiluFwd.nD Cert.KernelLnSiluFwd.τ).loc Cert.KernelLnSiluFwd.main_arg0)
      ∧ r.2.mem ((c.tc : Thread Cert.KernelLnSiluFwd.nD Cert.KernelLnSiluFwd.τ).loc Cert.KernelLnSiluFwd.main_arg1) = m ((c.tc : Thread Cert.KernelLnSiluFwd.nD Cert.KernelLnSiluFwd.τ).loc Cert.KernelLnSiluFwd.main_arg1)
      ∧ r.2.mem ((c.tc : Thread Cert.KernelLnSiluFwd.nD Cert.KernelLnSiluFwd.τ).loc Cert.KernelLnSiluFwd.main_arg2) = m ((c.tc : Thread Cert.KernelLnSiluFwd.nD Cert.KernelLnSiluFwd.τ).loc Cert.KernelLnSiluFwd.main_arg2))
      ∧ r.2.sem = fun _ => 0)

def quiescent_KernelLnSiluFwdIdeal [hKernelLnSiluFwdIdeal : Cert.KernelLnSiluFwdIdeal.Facts] : Prop :=
  ∀ (m : (ℓ : Loc Cert.KernelLnSiluFwdIdeal.nD Cert.KernelLnSiluFwdIdeal.τ Cert.KernelLnSiluFwdIdeal.sig) → Buf (Elt Ideal) ℓ) (g : Dev Cert.KernelLnSiluFwdIdeal.nD → PrngReg), Pre_KernelLnSiluFwdIdeal m →
    θ_run (Cert.KernelLnSiluFwdIdeal.defs (F := Ideal)) (onTc (τ := Cert.KernelLnSiluFwdIdeal.τ) (Cert.KernelLnSiluFwdIdeal.main (F := Ideal))) ⟨m, fun _ => 0, g⟩ (fun r => (∀ c : Dev Cert.KernelLnSiluFwdIdeal.nD,
      r.2.mem ((c.tc : Thread Cert.KernelLnSiluFwdIdeal.nD Cert.KernelLnSiluFwdIdeal.τ).loc Cert.KernelLnSiluFwdIdeal.main_arg0) = m ((c.tc : Thread Cert.KernelLnSiluFwdIdeal.nD Cert.KernelLnSiluFwdIdeal.τ).loc Cert.KernelLnSiluFwdIdeal.main_arg0)
      ∧ r.2.mem ((c.tc : Thread Cert.KernelLnSiluFwdIdeal.nD Cert.KernelLnSiluFwdIdeal.τ).loc Cert.KernelLnSiluFwdIdeal.main_arg1) = m ((c.tc : Thread Cert.KernelLnSiluFwdIdeal.nD Cert.KernelLnSiluFwdIdeal.τ).loc Cert.KernelLnSiluFwdIdeal.main_arg1)
      ∧ r.2.mem ((c.tc : Thread Cert.KernelLnSiluFwdIdeal.nD Cert.KernelLnSiluFwdIdeal.τ).loc Cert.KernelLnSiluFwdIdeal.main_arg2) = m ((c.tc : Thread Cert.KernelLnSiluFwdIdeal.nD Cert.KernelLnSiluFwdIdeal.τ).loc Cert.KernelLnSiluFwdIdeal.main_arg2))
      ∧ r.2.sem = fun _ => 0)

def quiescent_ReferenceLnSiluFwdIdeal [hReferenceLnSiluFwdIdeal : Cert.ReferenceLnSiluFwdIdeal.Facts] : Prop :=
  ∀ (m : (ℓ : Loc Cert.ReferenceLnSiluFwdIdeal.nD Cert.ReferenceLnSiluFwdIdeal.τ Cert.ReferenceLnSiluFwdIdeal.sig) → Buf (Elt Ideal) ℓ) (g : Dev Cert.ReferenceLnSiluFwdIdeal.nD → PrngReg), Pre_ReferenceLnSiluFwdIdeal m →
    θ_run (Cert.ReferenceLnSiluFwdIdeal.defs (F := Ideal)) (onTc (τ := Cert.ReferenceLnSiluFwdIdeal.τ) (Cert.ReferenceLnSiluFwdIdeal.main (F := Ideal))) ⟨m, fun _ => 0, g⟩ (fun r => (∀ c : Dev Cert.ReferenceLnSiluFwdIdeal.nD,
      r.2.mem ((c.tc : Thread Cert.ReferenceLnSiluFwdIdeal.nD Cert.ReferenceLnSiluFwdIdeal.τ).loc Cert.ReferenceLnSiluFwdIdeal.main_arg0) = m ((c.tc : Thread Cert.ReferenceLnSiluFwdIdeal.nD Cert.ReferenceLnSiluFwdIdeal.τ).loc Cert.ReferenceLnSiluFwdIdeal.main_arg0)
      ∧ r.2.mem ((c.tc : Thread Cert.ReferenceLnSiluFwdIdeal.nD Cert.ReferenceLnSiluFwdIdeal.τ).loc Cert.ReferenceLnSiluFwdIdeal.main_arg1) = m ((c.tc : Thread Cert.ReferenceLnSiluFwdIdeal.nD Cert.ReferenceLnSiluFwdIdeal.τ).loc Cert.ReferenceLnSiluFwdIdeal.main_arg1)
      ∧ r.2.mem ((c.tc : Thread Cert.ReferenceLnSiluFwdIdeal.nD Cert.ReferenceLnSiluFwdIdeal.τ).loc Cert.ReferenceLnSiluFwdIdeal.main_arg2) = m ((c.tc : Thread Cert.ReferenceLnSiluFwdIdeal.nD Cert.ReferenceLnSiluFwdIdeal.τ).loc Cert.ReferenceLnSiluFwdIdeal.main_arg2))
      ∧ r.2.sem = fun _ => 0)

def quiescent_KernelResLnFwd [hKernelResLnFwd : Cert.KernelResLnFwd.Facts] : Prop :=
  ∀ (m : (ℓ : Loc Cert.KernelResLnFwd.nD Cert.KernelResLnFwd.τ Cert.KernelResLnFwd.sig) → Buf (Elt Bits) ℓ) (g : Dev Cert.KernelResLnFwd.nD → PrngReg), Pre_KernelResLnFwd m →
    θ_run (Cert.KernelResLnFwd.defs (F := Bits)) (onTc (τ := Cert.KernelResLnFwd.τ) (Cert.KernelResLnFwd.main (F := Bits))) ⟨m, fun _ => 0, g⟩ (fun r => (∀ c : Dev Cert.KernelResLnFwd.nD,
      r.2.mem ((c.tc : Thread Cert.KernelResLnFwd.nD Cert.KernelResLnFwd.τ).loc Cert.KernelResLnFwd.main_arg0) = m ((c.tc : Thread Cert.KernelResLnFwd.nD Cert.KernelResLnFwd.τ).loc Cert.KernelResLnFwd.main_arg0)
      ∧ r.2.mem ((c.tc : Thread Cert.KernelResLnFwd.nD Cert.KernelResLnFwd.τ).loc Cert.KernelResLnFwd.main_arg1) = m ((c.tc : Thread Cert.KernelResLnFwd.nD Cert.KernelResLnFwd.τ).loc Cert.KernelResLnFwd.main_arg1)
      ∧ r.2.mem ((c.tc : Thread Cert.KernelResLnFwd.nD Cert.KernelResLnFwd.τ).loc Cert.KernelResLnFwd.main_arg2) = m ((c.tc : Thread Cert.KernelResLnFwd.nD Cert.KernelResLnFwd.τ).loc Cert.KernelResLnFwd.main_arg2)
      ∧ r.2.mem ((c.tc : Thread Cert.KernelResLnFwd.nD Cert.KernelResLnFwd.τ).loc Cert.KernelResLnFwd.main_arg3) = m ((c.tc : Thread Cert.KernelResLnFwd.nD Cert.KernelResLnFwd.τ).loc Cert.KernelResLnFwd.main_arg3)
      ∧ r.2.mem ((c.tc : Thread Cert.KernelResLnFwd.nD Cert.KernelResLnFwd.τ).loc Cert.KernelResLnFwd.main_arg4) = m ((c.tc : Thread Cert.KernelResLnFwd.nD Cert.KernelResLnFwd.τ).loc Cert.KernelResLnFwd.main_arg4))
      ∧ r.2.sem = fun _ => 0)

def quiescent_KernelResLnFwdIdeal [hKernelResLnFwdIdeal : Cert.KernelResLnFwdIdeal.Facts] : Prop :=
  ∀ (m : (ℓ : Loc Cert.KernelResLnFwdIdeal.nD Cert.KernelResLnFwdIdeal.τ Cert.KernelResLnFwdIdeal.sig) → Buf (Elt Ideal) ℓ) (g : Dev Cert.KernelResLnFwdIdeal.nD → PrngReg), Pre_KernelResLnFwdIdeal m →
    θ_run (Cert.KernelResLnFwdIdeal.defs (F := Ideal)) (onTc (τ := Cert.KernelResLnFwdIdeal.τ) (Cert.KernelResLnFwdIdeal.main (F := Ideal))) ⟨m, fun _ => 0, g⟩ (fun r => (∀ c : Dev Cert.KernelResLnFwdIdeal.nD,
      r.2.mem ((c.tc : Thread Cert.KernelResLnFwdIdeal.nD Cert.KernelResLnFwdIdeal.τ).loc Cert.KernelResLnFwdIdeal.main_arg0) = m ((c.tc : Thread Cert.KernelResLnFwdIdeal.nD Cert.KernelResLnFwdIdeal.τ).loc Cert.KernelResLnFwdIdeal.main_arg0)
      ∧ r.2.mem ((c.tc : Thread Cert.KernelResLnFwdIdeal.nD Cert.KernelResLnFwdIdeal.τ).loc Cert.KernelResLnFwdIdeal.main_arg1) = m ((c.tc : Thread Cert.KernelResLnFwdIdeal.nD Cert.KernelResLnFwdIdeal.τ).loc Cert.KernelResLnFwdIdeal.main_arg1)
      ∧ r.2.mem ((c.tc : Thread Cert.KernelResLnFwdIdeal.nD Cert.KernelResLnFwdIdeal.τ).loc Cert.KernelResLnFwdIdeal.main_arg2) = m ((c.tc : Thread Cert.KernelResLnFwdIdeal.nD Cert.KernelResLnFwdIdeal.τ).loc Cert.KernelResLnFwdIdeal.main_arg2)
      ∧ r.2.mem ((c.tc : Thread Cert.KernelResLnFwdIdeal.nD Cert.KernelResLnFwdIdeal.τ).loc Cert.KernelResLnFwdIdeal.main_arg3) = m ((c.tc : Thread Cert.KernelResLnFwdIdeal.nD Cert.KernelResLnFwdIdeal.τ).loc Cert.KernelResLnFwdIdeal.main_arg3)
      ∧ r.2.mem ((c.tc : Thread Cert.KernelResLnFwdIdeal.nD Cert.KernelResLnFwdIdeal.τ).loc Cert.KernelResLnFwdIdeal.main_arg4) = m ((c.tc : Thread Cert.KernelResLnFwdIdeal.nD Cert.KernelResLnFwdIdeal.τ).loc Cert.KernelResLnFwdIdeal.main_arg4))
      ∧ r.2.sem = fun _ => 0)

def quiescent_ReferenceResLnFwdIdeal [hReferenceResLnFwdIdeal : Cert.ReferenceResLnFwdIdeal.Facts] : Prop :=
  ∀ (m : (ℓ : Loc Cert.ReferenceResLnFwdIdeal.nD Cert.ReferenceResLnFwdIdeal.τ Cert.ReferenceResLnFwdIdeal.sig) → Buf (Elt Ideal) ℓ) (g : Dev Cert.ReferenceResLnFwdIdeal.nD → PrngReg), Pre_ReferenceResLnFwdIdeal m →
    θ_run (Cert.ReferenceResLnFwdIdeal.defs (F := Ideal)) (onTc (τ := Cert.ReferenceResLnFwdIdeal.τ) (Cert.ReferenceResLnFwdIdeal.main (F := Ideal))) ⟨m, fun _ => 0, g⟩ (fun r => (∀ c : Dev Cert.ReferenceResLnFwdIdeal.nD,
      r.2.mem ((c.tc : Thread Cert.ReferenceResLnFwdIdeal.nD Cert.ReferenceResLnFwdIdeal.τ).loc Cert.ReferenceResLnFwdIdeal.main_arg0) = m ((c.tc : Thread Cert.ReferenceResLnFwdIdeal.nD Cert.ReferenceResLnFwdIdeal.τ).loc Cert.ReferenceResLnFwdIdeal.main_arg0)
      ∧ r.2.mem ((c.tc : Thread Cert.ReferenceResLnFwdIdeal.nD Cert.ReferenceResLnFwdIdeal.τ).loc Cert.ReferenceResLnFwdIdeal.main_arg1) = m ((c.tc : Thread Cert.ReferenceResLnFwdIdeal.nD Cert.ReferenceResLnFwdIdeal.τ).loc Cert.ReferenceResLnFwdIdeal.main_arg1)
      ∧ r.2.mem ((c.tc : Thread Cert.ReferenceResLnFwdIdeal.nD Cert.ReferenceResLnFwdIdeal.τ).loc Cert.ReferenceResLnFwdIdeal.main_arg2) = m ((c.tc : Thread Cert.ReferenceResLnFwdIdeal.nD Cert.ReferenceResLnFwdIdeal.τ).loc Cert.ReferenceResLnFwdIdeal.main_arg2)
      ∧ r.2.mem ((c.tc : Thread Cert.ReferenceResLnFwdIdeal.nD Cert.ReferenceResLnFwdIdeal.τ).loc Cert.ReferenceResLnFwdIdeal.main_arg3) = m ((c.tc : Thread Cert.ReferenceResLnFwdIdeal.nD Cert.ReferenceResLnFwdIdeal.τ).loc Cert.ReferenceResLnFwdIdeal.main_arg3)
      ∧ r.2.mem ((c.tc : Thread Cert.ReferenceResLnFwdIdeal.nD Cert.ReferenceResLnFwdIdeal.τ).loc Cert.ReferenceResLnFwdIdeal.main_arg4) = m ((c.tc : Thread Cert.ReferenceResLnFwdIdeal.nD Cert.ReferenceResLnFwdIdeal.τ).loc Cert.ReferenceResLnFwdIdeal.main_arg4))
      ∧ r.2.sem = fun _ => 0)

def quiescent_KernelLoss [hKernelLoss : Cert.KernelLoss.Facts] : Prop :=
  ∀ (m : (ℓ : Loc Cert.KernelLoss.nD Cert.KernelLoss.τ Cert.KernelLoss.sig) → Buf (Elt Bits) ℓ) (g : Dev Cert.KernelLoss.nD → PrngReg), Pre_KernelLoss m →
    θ_run (Cert.KernelLoss.defs (F := Bits)) (onTc (τ := Cert.KernelLoss.τ) (Cert.KernelLoss.main (F := Bits))) ⟨m, fun _ => 0, g⟩ (fun r => (∀ c : Dev Cert.KernelLoss.nD,
      r.2.mem ((c.tc : Thread Cert.KernelLoss.nD Cert.KernelLoss.τ).loc Cert.KernelLoss.main_arg0) = m ((c.tc : Thread Cert.KernelLoss.nD Cert.KernelLoss.τ).loc Cert.KernelLoss.main_arg0)
      ∧ r.2.mem ((c.tc : Thread Cert.KernelLoss.nD Cert.KernelLoss.τ).loc Cert.KernelLoss.main_arg1) = m ((c.tc : Thread Cert.KernelLoss.nD Cert.KernelLoss.τ).loc Cert.KernelLoss.main_arg1))
      ∧ r.2.sem = fun _ => 0)

def quiescent_KernelLossIdeal [hKernelLossIdeal : Cert.KernelLossIdeal.Facts] : Prop :=
  ∀ (m : (ℓ : Loc Cert.KernelLossIdeal.nD Cert.KernelLossIdeal.τ Cert.KernelLossIdeal.sig) → Buf (Elt Ideal) ℓ) (g : Dev Cert.KernelLossIdeal.nD → PrngReg), Pre_KernelLossIdeal m →
    θ_run (Cert.KernelLossIdeal.defs (F := Ideal)) (onTc (τ := Cert.KernelLossIdeal.τ) (Cert.KernelLossIdeal.main (F := Ideal))) ⟨m, fun _ => 0, g⟩ (fun r => (∀ c : Dev Cert.KernelLossIdeal.nD,
      r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
      ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1))
      ∧ r.2.sem = fun _ => 0)

def quiescent_ReferenceLossIdeal [hReferenceLossIdeal : Cert.ReferenceLossIdeal.Facts] : Prop :=
  ∀ (m : (ℓ : Loc Cert.ReferenceLossIdeal.nD Cert.ReferenceLossIdeal.τ Cert.ReferenceLossIdeal.sig) → Buf (Elt Ideal) ℓ) (g : Dev Cert.ReferenceLossIdeal.nD → PrngReg), Pre_ReferenceLossIdeal m →
    θ_run (Cert.ReferenceLossIdeal.defs (F := Ideal)) (onTc (τ := Cert.ReferenceLossIdeal.τ) (Cert.ReferenceLossIdeal.main (F := Ideal))) ⟨m, fun _ => 0, g⟩ (fun r => (∀ c : Dev Cert.ReferenceLossIdeal.nD,
      r.2.mem ((c.tc : Thread Cert.ReferenceLossIdeal.nD Cert.ReferenceLossIdeal.τ).loc Cert.ReferenceLossIdeal.main_arg0) = m ((c.tc : Thread Cert.ReferenceLossIdeal.nD Cert.ReferenceLossIdeal.τ).loc Cert.ReferenceLossIdeal.main_arg0)
      ∧ r.2.mem ((c.tc : Thread Cert.ReferenceLossIdeal.nD Cert.ReferenceLossIdeal.τ).loc Cert.ReferenceLossIdeal.main_arg1) = m ((c.tc : Thread Cert.ReferenceLossIdeal.nD Cert.ReferenceLossIdeal.τ).loc Cert.ReferenceLossIdeal.main_arg1))
      ∧ r.2.sem = fun _ => 0)

def quiescent_KernelAdamIn [hKernelAdamIn : Cert.KernelAdamIn.Facts] : Prop :=
  ∀ (m : (ℓ : Loc Cert.KernelAdamIn.nD Cert.KernelAdamIn.τ Cert.KernelAdamIn.sig) → Buf (Elt Bits) ℓ) (g : Dev Cert.KernelAdamIn.nD → PrngReg), Pre_KernelAdamIn m →
    θ_run (Cert.KernelAdamIn.defs (F := Bits)) (onTc (τ := Cert.KernelAdamIn.τ) (Cert.KernelAdamIn.main (F := Bits))) ⟨m, fun _ => 0, g⟩ (fun r => (∀ c : Dev Cert.KernelAdamIn.nD,
      r.2.mem ((c.tc : Thread Cert.KernelAdamIn.nD Cert.KernelAdamIn.τ).loc Cert.KernelAdamIn.main_arg0) = m ((c.tc : Thread Cert.KernelAdamIn.nD Cert.KernelAdamIn.τ).loc Cert.KernelAdamIn.main_arg0)
      ∧ r.2.mem ((c.tc : Thread Cert.KernelAdamIn.nD Cert.KernelAdamIn.τ).loc Cert.KernelAdamIn.main_arg1) = m ((c.tc : Thread Cert.KernelAdamIn.nD Cert.KernelAdamIn.τ).loc Cert.KernelAdamIn.main_arg1)
      ∧ r.2.mem ((c.tc : Thread Cert.KernelAdamIn.nD Cert.KernelAdamIn.τ).loc Cert.KernelAdamIn.main_arg2) = m ((c.tc : Thread Cert.KernelAdamIn.nD Cert.KernelAdamIn.τ).loc Cert.KernelAdamIn.main_arg2)
      ∧ r.2.mem ((c.tc : Thread Cert.KernelAdamIn.nD Cert.KernelAdamIn.τ).loc Cert.KernelAdamIn.main_arg3) = m ((c.tc : Thread Cert.KernelAdamIn.nD Cert.KernelAdamIn.τ).loc Cert.KernelAdamIn.main_arg3))
      ∧ r.2.sem = fun _ => 0)

def quiescent_KernelAdamInIdeal [hKernelAdamInIdeal : Cert.KernelAdamInIdeal.Facts] : Prop :=
  ∀ (m : (ℓ : Loc Cert.KernelAdamInIdeal.nD Cert.KernelAdamInIdeal.τ Cert.KernelAdamInIdeal.sig) → Buf (Elt Ideal) ℓ) (g : Dev Cert.KernelAdamInIdeal.nD → PrngReg), Pre_KernelAdamInIdeal m →
    θ_run (Cert.KernelAdamInIdeal.defs (F := Ideal)) (onTc (τ := Cert.KernelAdamInIdeal.τ) (Cert.KernelAdamInIdeal.main (F := Ideal))) ⟨m, fun _ => 0, g⟩ (fun r => (∀ c : Dev Cert.KernelAdamInIdeal.nD,
      r.2.mem ((c.tc : Thread Cert.KernelAdamInIdeal.nD Cert.KernelAdamInIdeal.τ).loc Cert.KernelAdamInIdeal.main_arg0) = m ((c.tc : Thread Cert.KernelAdamInIdeal.nD Cert.KernelAdamInIdeal.τ).loc Cert.KernelAdamInIdeal.main_arg0)
      ∧ r.2.mem ((c.tc : Thread Cert.KernelAdamInIdeal.nD Cert.KernelAdamInIdeal.τ).loc Cert.KernelAdamInIdeal.main_arg1) = m ((c.tc : Thread Cert.KernelAdamInIdeal.nD Cert.KernelAdamInIdeal.τ).loc Cert.KernelAdamInIdeal.main_arg1)
      ∧ r.2.mem ((c.tc : Thread Cert.KernelAdamInIdeal.nD Cert.KernelAdamInIdeal.τ).loc Cert.KernelAdamInIdeal.main_arg2) = m ((c.tc : Thread Cert.KernelAdamInIdeal.nD Cert.KernelAdamInIdeal.τ).loc Cert.KernelAdamInIdeal.main_arg2)
      ∧ r.2.mem ((c.tc : Thread Cert.KernelAdamInIdeal.nD Cert.KernelAdamInIdeal.τ).loc Cert.KernelAdamInIdeal.main_arg3) = m ((c.tc : Thread Cert.KernelAdamInIdeal.nD Cert.KernelAdamInIdeal.τ).loc Cert.KernelAdamInIdeal.main_arg3))
      ∧ r.2.sem = fun _ => 0)

def quiescent_ReferenceAdamInIdeal [hReferenceAdamInIdeal : Cert.ReferenceAdamInIdeal.Facts] : Prop :=
  ∀ (m : (ℓ : Loc Cert.ReferenceAdamInIdeal.nD Cert.ReferenceAdamInIdeal.τ Cert.ReferenceAdamInIdeal.sig) → Buf (Elt Ideal) ℓ) (g : Dev Cert.ReferenceAdamInIdeal.nD → PrngReg), Pre_ReferenceAdamInIdeal m →
    θ_run (Cert.ReferenceAdamInIdeal.defs (F := Ideal)) (onTc (τ := Cert.ReferenceAdamInIdeal.τ) (Cert.ReferenceAdamInIdeal.main (F := Ideal))) ⟨m, fun _ => 0, g⟩ (fun r => (∀ c : Dev Cert.ReferenceAdamInIdeal.nD,
      r.2.mem ((c.tc : Thread Cert.ReferenceAdamInIdeal.nD Cert.ReferenceAdamInIdeal.τ).loc Cert.ReferenceAdamInIdeal.main_arg0) = m ((c.tc : Thread Cert.ReferenceAdamInIdeal.nD Cert.ReferenceAdamInIdeal.τ).loc Cert.ReferenceAdamInIdeal.main_arg0)
      ∧ r.2.mem ((c.tc : Thread Cert.ReferenceAdamInIdeal.nD Cert.ReferenceAdamInIdeal.τ).loc Cert.ReferenceAdamInIdeal.main_arg1) = m ((c.tc : Thread Cert.ReferenceAdamInIdeal.nD Cert.ReferenceAdamInIdeal.τ).loc Cert.ReferenceAdamInIdeal.main_arg1)
      ∧ r.2.mem ((c.tc : Thread Cert.ReferenceAdamInIdeal.nD Cert.ReferenceAdamInIdeal.τ).loc Cert.ReferenceAdamInIdeal.main_arg2) = m ((c.tc : Thread Cert.ReferenceAdamInIdeal.nD Cert.ReferenceAdamInIdeal.τ).loc Cert.ReferenceAdamInIdeal.main_arg2)
      ∧ r.2.mem ((c.tc : Thread Cert.ReferenceAdamInIdeal.nD Cert.ReferenceAdamInIdeal.τ).loc Cert.ReferenceAdamInIdeal.main_arg3) = m ((c.tc : Thread Cert.ReferenceAdamInIdeal.nD Cert.ReferenceAdamInIdeal.τ).loc Cert.ReferenceAdamInIdeal.main_arg3))
      ∧ r.2.sem = fun _ => 0)

def quiescent_KernelAdamUp [hKernelAdamUp : Cert.KernelAdamUp.Facts] : Prop :=
  ∀ (m : (ℓ : Loc Cert.KernelAdamUp.nD Cert.KernelAdamUp.τ Cert.KernelAdamUp.sig) → Buf (Elt Bits) ℓ) (g : Dev Cert.KernelAdamUp.nD → PrngReg), Pre_KernelAdamUp m →
    θ_run (Cert.KernelAdamUp.defs (F := Bits)) (onTc (τ := Cert.KernelAdamUp.τ) (Cert.KernelAdamUp.main (F := Bits))) ⟨m, fun _ => 0, g⟩ (fun r => (∀ c : Dev Cert.KernelAdamUp.nD,
      r.2.mem ((c.tc : Thread Cert.KernelAdamUp.nD Cert.KernelAdamUp.τ).loc Cert.KernelAdamUp.main_arg0) = m ((c.tc : Thread Cert.KernelAdamUp.nD Cert.KernelAdamUp.τ).loc Cert.KernelAdamUp.main_arg0)
      ∧ r.2.mem ((c.tc : Thread Cert.KernelAdamUp.nD Cert.KernelAdamUp.τ).loc Cert.KernelAdamUp.main_arg1) = m ((c.tc : Thread Cert.KernelAdamUp.nD Cert.KernelAdamUp.τ).loc Cert.KernelAdamUp.main_arg1)
      ∧ r.2.mem ((c.tc : Thread Cert.KernelAdamUp.nD Cert.KernelAdamUp.τ).loc Cert.KernelAdamUp.main_arg2) = m ((c.tc : Thread Cert.KernelAdamUp.nD Cert.KernelAdamUp.τ).loc Cert.KernelAdamUp.main_arg2)
      ∧ r.2.mem ((c.tc : Thread Cert.KernelAdamUp.nD Cert.KernelAdamUp.τ).loc Cert.KernelAdamUp.main_arg3) = m ((c.tc : Thread Cert.KernelAdamUp.nD Cert.KernelAdamUp.τ).loc Cert.KernelAdamUp.main_arg3))
      ∧ r.2.sem = fun _ => 0)

def quiescent_KernelAdamUpIdeal [hKernelAdamUpIdeal : Cert.KernelAdamUpIdeal.Facts] : Prop :=
  ∀ (m : (ℓ : Loc Cert.KernelAdamUpIdeal.nD Cert.KernelAdamUpIdeal.τ Cert.KernelAdamUpIdeal.sig) → Buf (Elt Ideal) ℓ) (g : Dev Cert.KernelAdamUpIdeal.nD → PrngReg), Pre_KernelAdamUpIdeal m →
    θ_run (Cert.KernelAdamUpIdeal.defs (F := Ideal)) (onTc (τ := Cert.KernelAdamUpIdeal.τ) (Cert.KernelAdamUpIdeal.main (F := Ideal))) ⟨m, fun _ => 0, g⟩ (fun r => (∀ c : Dev Cert.KernelAdamUpIdeal.nD,
      r.2.mem ((c.tc : Thread Cert.KernelAdamUpIdeal.nD Cert.KernelAdamUpIdeal.τ).loc Cert.KernelAdamUpIdeal.main_arg0) = m ((c.tc : Thread Cert.KernelAdamUpIdeal.nD Cert.KernelAdamUpIdeal.τ).loc Cert.KernelAdamUpIdeal.main_arg0)
      ∧ r.2.mem ((c.tc : Thread Cert.KernelAdamUpIdeal.nD Cert.KernelAdamUpIdeal.τ).loc Cert.KernelAdamUpIdeal.main_arg1) = m ((c.tc : Thread Cert.KernelAdamUpIdeal.nD Cert.KernelAdamUpIdeal.τ).loc Cert.KernelAdamUpIdeal.main_arg1)
      ∧ r.2.mem ((c.tc : Thread Cert.KernelAdamUpIdeal.nD Cert.KernelAdamUpIdeal.τ).loc Cert.KernelAdamUpIdeal.main_arg2) = m ((c.tc : Thread Cert.KernelAdamUpIdeal.nD Cert.KernelAdamUpIdeal.τ).loc Cert.KernelAdamUpIdeal.main_arg2)
      ∧ r.2.mem ((c.tc : Thread Cert.KernelAdamUpIdeal.nD Cert.KernelAdamUpIdeal.τ).loc Cert.KernelAdamUpIdeal.main_arg3) = m ((c.tc : Thread Cert.KernelAdamUpIdeal.nD Cert.KernelAdamUpIdeal.τ).loc Cert.KernelAdamUpIdeal.main_arg3))
      ∧ r.2.sem = fun _ => 0)

def quiescent_ReferenceAdamUpIdeal [hReferenceAdamUpIdeal : Cert.ReferenceAdamUpIdeal.Facts] : Prop :=
  ∀ (m : (ℓ : Loc Cert.ReferenceAdamUpIdeal.nD Cert.ReferenceAdamUpIdeal.τ Cert.ReferenceAdamUpIdeal.sig) → Buf (Elt Ideal) ℓ) (g : Dev Cert.ReferenceAdamUpIdeal.nD → PrngReg), Pre_ReferenceAdamUpIdeal m →
    θ_run (Cert.ReferenceAdamUpIdeal.defs (F := Ideal)) (onTc (τ := Cert.ReferenceAdamUpIdeal.τ) (Cert.ReferenceAdamUpIdeal.main (F := Ideal))) ⟨m, fun _ => 0, g⟩ (fun r => (∀ c : Dev Cert.ReferenceAdamUpIdeal.nD,
      r.2.mem ((c.tc : Thread Cert.ReferenceAdamUpIdeal.nD Cert.ReferenceAdamUpIdeal.τ).loc Cert.ReferenceAdamUpIdeal.main_arg0) = m ((c.tc : Thread Cert.ReferenceAdamUpIdeal.nD Cert.ReferenceAdamUpIdeal.τ).loc Cert.ReferenceAdamUpIdeal.main_arg0)
      ∧ r.2.mem ((c.tc : Thread Cert.ReferenceAdamUpIdeal.nD Cert.ReferenceAdamUpIdeal.τ).loc Cert.ReferenceAdamUpIdeal.main_arg1) = m ((c.tc : Thread Cert.ReferenceAdamUpIdeal.nD Cert.ReferenceAdamUpIdeal.τ).loc Cert.ReferenceAdamUpIdeal.main_arg1)
      ∧ r.2.mem ((c.tc : Thread Cert.ReferenceAdamUpIdeal.nD Cert.ReferenceAdamUpIdeal.τ).loc Cert.ReferenceAdamUpIdeal.main_arg2) = m ((c.tc : Thread Cert.ReferenceAdamUpIdeal.nD Cert.ReferenceAdamUpIdeal.τ).loc Cert.ReferenceAdamUpIdeal.main_arg2)
      ∧ r.2.mem ((c.tc : Thread Cert.ReferenceAdamUpIdeal.nD Cert.ReferenceAdamUpIdeal.τ).loc Cert.ReferenceAdamUpIdeal.main_arg3) = m ((c.tc : Thread Cert.ReferenceAdamUpIdeal.nD Cert.ReferenceAdamUpIdeal.τ).loc Cert.ReferenceAdamUpIdeal.main_arg3))
      ∧ r.2.sem = fun _ => 0)

def quiescent_KernelAdamDown [hKernelAdamDown : Cert.KernelAdamDown.Facts] : Prop :=
  ∀ (m : (ℓ : Loc Cert.KernelAdamDown.nD Cert.KernelAdamDown.τ Cert.KernelAdamDown.sig) → Buf (Elt Bits) ℓ) (g : Dev Cert.KernelAdamDown.nD → PrngReg), Pre_KernelAdamDown m →
    θ_run (Cert.KernelAdamDown.defs (F := Bits)) (onTc (τ := Cert.KernelAdamDown.τ) (Cert.KernelAdamDown.main (F := Bits))) ⟨m, fun _ => 0, g⟩ (fun r => (∀ c : Dev Cert.KernelAdamDown.nD,
      r.2.mem ((c.tc : Thread Cert.KernelAdamDown.nD Cert.KernelAdamDown.τ).loc Cert.KernelAdamDown.main_arg0) = m ((c.tc : Thread Cert.KernelAdamDown.nD Cert.KernelAdamDown.τ).loc Cert.KernelAdamDown.main_arg0)
      ∧ r.2.mem ((c.tc : Thread Cert.KernelAdamDown.nD Cert.KernelAdamDown.τ).loc Cert.KernelAdamDown.main_arg1) = m ((c.tc : Thread Cert.KernelAdamDown.nD Cert.KernelAdamDown.τ).loc Cert.KernelAdamDown.main_arg1)
      ∧ r.2.mem ((c.tc : Thread Cert.KernelAdamDown.nD Cert.KernelAdamDown.τ).loc Cert.KernelAdamDown.main_arg2) = m ((c.tc : Thread Cert.KernelAdamDown.nD Cert.KernelAdamDown.τ).loc Cert.KernelAdamDown.main_arg2)
      ∧ r.2.mem ((c.tc : Thread Cert.KernelAdamDown.nD Cert.KernelAdamDown.τ).loc Cert.KernelAdamDown.main_arg3) = m ((c.tc : Thread Cert.KernelAdamDown.nD Cert.KernelAdamDown.τ).loc Cert.KernelAdamDown.main_arg3))
      ∧ r.2.sem = fun _ => 0)

def quiescent_KernelAdamDownIdeal [hKernelAdamDownIdeal : Cert.KernelAdamDownIdeal.Facts] : Prop :=
  ∀ (m : (ℓ : Loc Cert.KernelAdamDownIdeal.nD Cert.KernelAdamDownIdeal.τ Cert.KernelAdamDownIdeal.sig) → Buf (Elt Ideal) ℓ) (g : Dev Cert.KernelAdamDownIdeal.nD → PrngReg), Pre_KernelAdamDownIdeal m →
    θ_run (Cert.KernelAdamDownIdeal.defs (F := Ideal)) (onTc (τ := Cert.KernelAdamDownIdeal.τ) (Cert.KernelAdamDownIdeal.main (F := Ideal))) ⟨m, fun _ => 0, g⟩ (fun r => (∀ c : Dev Cert.KernelAdamDownIdeal.nD,
      r.2.mem ((c.tc : Thread Cert.KernelAdamDownIdeal.nD Cert.KernelAdamDownIdeal.τ).loc Cert.KernelAdamDownIdeal.main_arg0) = m ((c.tc : Thread Cert.KernelAdamDownIdeal.nD Cert.KernelAdamDownIdeal.τ).loc Cert.KernelAdamDownIdeal.main_arg0)
      ∧ r.2.mem ((c.tc : Thread Cert.KernelAdamDownIdeal.nD Cert.KernelAdamDownIdeal.τ).loc Cert.KernelAdamDownIdeal.main_arg1) = m ((c.tc : Thread Cert.KernelAdamDownIdeal.nD Cert.KernelAdamDownIdeal.τ).loc Cert.KernelAdamDownIdeal.main_arg1)
      ∧ r.2.mem ((c.tc : Thread Cert.KernelAdamDownIdeal.nD Cert.KernelAdamDownIdeal.τ).loc Cert.KernelAdamDownIdeal.main_arg2) = m ((c.tc : Thread Cert.KernelAdamDownIdeal.nD Cert.KernelAdamDownIdeal.τ).loc Cert.KernelAdamDownIdeal.main_arg2)
      ∧ r.2.mem ((c.tc : Thread Cert.KernelAdamDownIdeal.nD Cert.KernelAdamDownIdeal.τ).loc Cert.KernelAdamDownIdeal.main_arg3) = m ((c.tc : Thread Cert.KernelAdamDownIdeal.nD Cert.KernelAdamDownIdeal.τ).loc Cert.KernelAdamDownIdeal.main_arg3))
      ∧ r.2.sem = fun _ => 0)

def quiescent_ReferenceAdamDownIdeal [hReferenceAdamDownIdeal : Cert.ReferenceAdamDownIdeal.Facts] : Prop :=
  ∀ (m : (ℓ : Loc Cert.ReferenceAdamDownIdeal.nD Cert.ReferenceAdamDownIdeal.τ Cert.ReferenceAdamDownIdeal.sig) → Buf (Elt Ideal) ℓ) (g : Dev Cert.ReferenceAdamDownIdeal.nD → PrngReg), Pre_ReferenceAdamDownIdeal m →
    θ_run (Cert.ReferenceAdamDownIdeal.defs (F := Ideal)) (onTc (τ := Cert.ReferenceAdamDownIdeal.τ) (Cert.ReferenceAdamDownIdeal.main (F := Ideal))) ⟨m, fun _ => 0, g⟩ (fun r => (∀ c : Dev Cert.ReferenceAdamDownIdeal.nD,
      r.2.mem ((c.tc : Thread Cert.ReferenceAdamDownIdeal.nD Cert.ReferenceAdamDownIdeal.τ).loc Cert.ReferenceAdamDownIdeal.main_arg0) = m ((c.tc : Thread Cert.ReferenceAdamDownIdeal.nD Cert.ReferenceAdamDownIdeal.τ).loc Cert.ReferenceAdamDownIdeal.main_arg0)
      ∧ r.2.mem ((c.tc : Thread Cert.ReferenceAdamDownIdeal.nD Cert.ReferenceAdamDownIdeal.τ).loc Cert.ReferenceAdamDownIdeal.main_arg1) = m ((c.tc : Thread Cert.ReferenceAdamDownIdeal.nD Cert.ReferenceAdamDownIdeal.τ).loc Cert.ReferenceAdamDownIdeal.main_arg1)
      ∧ r.2.mem ((c.tc : Thread Cert.ReferenceAdamDownIdeal.nD Cert.ReferenceAdamDownIdeal.τ).loc Cert.ReferenceAdamDownIdeal.main_arg2) = m ((c.tc : Thread Cert.ReferenceAdamDownIdeal.nD Cert.ReferenceAdamDownIdeal.τ).loc Cert.ReferenceAdamDownIdeal.main_arg2)
      ∧ r.2.mem ((c.tc : Thread Cert.ReferenceAdamDownIdeal.nD Cert.ReferenceAdamDownIdeal.τ).loc Cert.ReferenceAdamDownIdeal.main_arg3) = m ((c.tc : Thread Cert.ReferenceAdamDownIdeal.nD Cert.ReferenceAdamDownIdeal.τ).loc Cert.ReferenceAdamDownIdeal.main_arg3))
      ∧ r.2.sem = fun _ => 0)

def quiescent_KernelThree [hKernelThree : Cert.KernelThree.Facts] : Prop :=
  ∀ (m : (ℓ : Loc Cert.KernelThree.nD Cert.KernelThree.τ Cert.KernelThree.sig) → Buf (Elt Bits) ℓ) (g : Dev Cert.KernelThree.nD → PrngReg), Pre_KernelThree m →
    θ_run (Cert.KernelThree.defs (F := Bits)) (onTc (τ := Cert.KernelThree.τ) (Cert.KernelThree.main (F := Bits))) ⟨m, fun _ => 0, g⟩ (fun r => (∀ c : Dev Cert.KernelThree.nD,
      r.2.mem ((c.tc : Thread Cert.KernelThree.nD Cert.KernelThree.τ).loc Cert.KernelThree.main_arg0) = m ((c.tc : Thread Cert.KernelThree.nD Cert.KernelThree.τ).loc Cert.KernelThree.main_arg0)
      ∧ r.2.mem ((c.tc : Thread Cert.KernelThree.nD Cert.KernelThree.τ).loc Cert.KernelThree.main_arg1) = m ((c.tc : Thread Cert.KernelThree.nD Cert.KernelThree.τ).loc Cert.KernelThree.main_arg1)
      ∧ r.2.mem ((c.tc : Thread Cert.KernelThree.nD Cert.KernelThree.τ).loc Cert.KernelThree.main_arg2) = m ((c.tc : Thread Cert.KernelThree.nD Cert.KernelThree.τ).loc Cert.KernelThree.main_arg2))
      ∧ r.2.sem = fun _ => 0)

def quiescent_KernelThreeIdeal [hKernelThreeIdeal : Cert.KernelThreeIdeal.Facts] : Prop :=
  ∀ (m : (ℓ : Loc Cert.KernelThreeIdeal.nD Cert.KernelThreeIdeal.τ Cert.KernelThreeIdeal.sig) → Buf (Elt Ideal) ℓ) (g : Dev Cert.KernelThreeIdeal.nD → PrngReg), Pre_KernelThreeIdeal m →
    θ_run (Cert.KernelThreeIdeal.defs (F := Ideal)) (onTc (τ := Cert.KernelThreeIdeal.τ) (Cert.KernelThreeIdeal.main (F := Ideal))) ⟨m, fun _ => 0, g⟩ (fun r => (∀ c : Dev Cert.KernelThreeIdeal.nD,
      r.2.mem ((c.tc : Thread Cert.KernelThreeIdeal.nD Cert.KernelThreeIdeal.τ).loc Cert.KernelThreeIdeal.main_arg0) = m ((c.tc : Thread Cert.KernelThreeIdeal.nD Cert.KernelThreeIdeal.τ).loc Cert.KernelThreeIdeal.main_arg0)
      ∧ r.2.mem ((c.tc : Thread Cert.KernelThreeIdeal.nD Cert.KernelThreeIdeal.τ).loc Cert.KernelThreeIdeal.main_arg1) = m ((c.tc : Thread Cert.KernelThreeIdeal.nD Cert.KernelThreeIdeal.τ).loc Cert.KernelThreeIdeal.main_arg1)
      ∧ r.2.mem ((c.tc : Thread Cert.KernelThreeIdeal.nD Cert.KernelThreeIdeal.τ).loc Cert.KernelThreeIdeal.main_arg2) = m ((c.tc : Thread Cert.KernelThreeIdeal.nD Cert.KernelThreeIdeal.τ).loc Cert.KernelThreeIdeal.main_arg2))
      ∧ r.2.sem = fun _ => 0)

def quiescent_ReferenceThreeIdeal [hReferenceThreeIdeal : Cert.ReferenceThreeIdeal.Facts] : Prop :=
  ∀ (m : (ℓ : Loc Cert.ReferenceThreeIdeal.nD Cert.ReferenceThreeIdeal.τ Cert.ReferenceThreeIdeal.sig) → Buf (Elt Ideal) ℓ) (g : Dev Cert.ReferenceThreeIdeal.nD → PrngReg), Pre_ReferenceThreeIdeal m →
    θ_run (Cert.ReferenceThreeIdeal.defs (F := Ideal)) (onTc (τ := Cert.ReferenceThreeIdeal.τ) (Cert.ReferenceThreeIdeal.main (F := Ideal))) ⟨m, fun _ => 0, g⟩ (fun r => (∀ c : Dev Cert.ReferenceThreeIdeal.nD,
      r.2.mem ((c.tc : Thread Cert.ReferenceThreeIdeal.nD Cert.ReferenceThreeIdeal.τ).loc Cert.ReferenceThreeIdeal.main_arg0) = m ((c.tc : Thread Cert.ReferenceThreeIdeal.nD Cert.ReferenceThreeIdeal.τ).loc Cert.ReferenceThreeIdeal.main_arg0)
      ∧ r.2.mem ((c.tc : Thread Cert.ReferenceThreeIdeal.nD Cert.ReferenceThreeIdeal.τ).loc Cert.ReferenceThreeIdeal.main_arg1) = m ((c.tc : Thread Cert.ReferenceThreeIdeal.nD Cert.ReferenceThreeIdeal.τ).loc Cert.ReferenceThreeIdeal.main_arg1)
      ∧ r.2.mem ((c.tc : Thread Cert.ReferenceThreeIdeal.nD Cert.ReferenceThreeIdeal.τ).loc Cert.ReferenceThreeIdeal.main_arg2) = m ((c.tc : Thread Cert.ReferenceThreeIdeal.nD Cert.ReferenceThreeIdeal.τ).loc Cert.ReferenceThreeIdeal.main_arg2))
      ∧ r.2.sem = fun _ => 0)

def quiescent_KernelThreeDx [hKernelThreeDx : Cert.KernelThreeDx.Facts] : Prop :=
  ∀ (m : (ℓ : Loc Cert.KernelThreeDx.nD Cert.KernelThreeDx.τ Cert.KernelThreeDx.sig) → Buf (Elt Bits) ℓ) (g : Dev Cert.KernelThreeDx.nD → PrngReg), Pre_KernelThreeDx m →
    θ_run (Cert.KernelThreeDx.defs (F := Bits)) (onTc (τ := Cert.KernelThreeDx.τ) (Cert.KernelThreeDx.main (F := Bits))) ⟨m, fun _ => 0, g⟩ (fun r => (∀ c : Dev Cert.KernelThreeDx.nD,
      r.2.mem ((c.tc : Thread Cert.KernelThreeDx.nD Cert.KernelThreeDx.τ).loc Cert.KernelThreeDx.main_arg0) = m ((c.tc : Thread Cert.KernelThreeDx.nD Cert.KernelThreeDx.τ).loc Cert.KernelThreeDx.main_arg0)
      ∧ r.2.mem ((c.tc : Thread Cert.KernelThreeDx.nD Cert.KernelThreeDx.τ).loc Cert.KernelThreeDx.main_arg1) = m ((c.tc : Thread Cert.KernelThreeDx.nD Cert.KernelThreeDx.τ).loc Cert.KernelThreeDx.main_arg1))
      ∧ r.2.sem = fun _ => 0)

def quiescent_KernelThreeDxIdeal [hKernelThreeDxIdeal : Cert.KernelThreeDxIdeal.Facts] : Prop :=
  ∀ (m : (ℓ : Loc Cert.KernelThreeDxIdeal.nD Cert.KernelThreeDxIdeal.τ Cert.KernelThreeDxIdeal.sig) → Buf (Elt Ideal) ℓ) (g : Dev Cert.KernelThreeDxIdeal.nD → PrngReg), Pre_KernelThreeDxIdeal m →
    θ_run (Cert.KernelThreeDxIdeal.defs (F := Ideal)) (onTc (τ := Cert.KernelThreeDxIdeal.τ) (Cert.KernelThreeDxIdeal.main (F := Ideal))) ⟨m, fun _ => 0, g⟩ (fun r => (∀ c : Dev Cert.KernelThreeDxIdeal.nD,
      r.2.mem ((c.tc : Thread Cert.KernelThreeDxIdeal.nD Cert.KernelThreeDxIdeal.τ).loc Cert.KernelThreeDxIdeal.main_arg0) = m ((c.tc : Thread Cert.KernelThreeDxIdeal.nD Cert.KernelThreeDxIdeal.τ).loc Cert.KernelThreeDxIdeal.main_arg0)
      ∧ r.2.mem ((c.tc : Thread Cert.KernelThreeDxIdeal.nD Cert.KernelThreeDxIdeal.τ).loc Cert.KernelThreeDxIdeal.main_arg1) = m ((c.tc : Thread Cert.KernelThreeDxIdeal.nD Cert.KernelThreeDxIdeal.τ).loc Cert.KernelThreeDxIdeal.main_arg1))
      ∧ r.2.sem = fun _ => 0)

def quiescent_ReferenceThreeDxIdeal [hReferenceThreeDxIdeal : Cert.ReferenceThreeDxIdeal.Facts] : Prop :=
  ∀ (m : (ℓ : Loc Cert.ReferenceThreeDxIdeal.nD Cert.ReferenceThreeDxIdeal.τ Cert.ReferenceThreeDxIdeal.sig) → Buf (Elt Ideal) ℓ) (g : Dev Cert.ReferenceThreeDxIdeal.nD → PrngReg), Pre_ReferenceThreeDxIdeal m →
    θ_run (Cert.ReferenceThreeDxIdeal.defs (F := Ideal)) (onTc (τ := Cert.ReferenceThreeDxIdeal.τ) (Cert.ReferenceThreeDxIdeal.main (F := Ideal))) ⟨m, fun _ => 0, g⟩ (fun r => (∀ c : Dev Cert.ReferenceThreeDxIdeal.nD,
      r.2.mem ((c.tc : Thread Cert.ReferenceThreeDxIdeal.nD Cert.ReferenceThreeDxIdeal.τ).loc Cert.ReferenceThreeDxIdeal.main_arg0) = m ((c.tc : Thread Cert.ReferenceThreeDxIdeal.nD Cert.ReferenceThreeDxIdeal.τ).loc Cert.ReferenceThreeDxIdeal.main_arg0)
      ∧ r.2.mem ((c.tc : Thread Cert.ReferenceThreeDxIdeal.nD Cert.ReferenceThreeDxIdeal.τ).loc Cert.ReferenceThreeDxIdeal.main_arg1) = m ((c.tc : Thread Cert.ReferenceThreeDxIdeal.nD Cert.ReferenceThreeDxIdeal.τ).loc Cert.ReferenceThreeDxIdeal.main_arg1))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_v75) = v1 c
          ∧ r.2.mem ((c.tc : Thread Cert.ReferenceIdeal.nD Cert.ReferenceIdeal.τ).loc Cert.ReferenceIdeal.main_v74) = v2 c
          ∧ r.2.mem ((c.tc : Thread Cert.ReferenceIdeal.nD Cert.ReferenceIdeal.τ).loc Cert.ReferenceIdeal.main_v77) = v3 c
          ∧ r.2.mem ((c.tc : Thread Cert.ReferenceIdeal.nD Cert.ReferenceIdeal.τ).loc Cert.ReferenceIdeal.main_v76) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_KernelLin_KernelLinIdeal : Prop :=
  True

def algebraic_KernelLinIdeal_ReferenceLinIdeal [hKernelLinIdeal : Cert.KernelLinIdeal.Facts] [hReferenceLinIdeal : Cert.ReferenceLinIdeal.Facts] : Prop :=
  ∀ (m : (ℓ : Loc Cert.KernelLinIdeal.nD Cert.KernelLinIdeal.τ Cert.KernelLinIdeal.sig) → Buf (Elt Ideal) ℓ) (g : Dev Cert.KernelLinIdeal.nD → PrngReg)
    (m' : (ℓ : Loc Cert.ReferenceLinIdeal.nD Cert.ReferenceLinIdeal.τ Cert.ReferenceLinIdeal.sig) → Buf (Elt Ideal) ℓ) (g' : Dev Cert.ReferenceLinIdeal.nD → PrngReg), Pre_KernelLinIdeal m →
    (∀ c : Dev Cert.KernelLinIdeal.nD,
      m' ((c.tc : Thread Cert.ReferenceLinIdeal.nD Cert.ReferenceLinIdeal.τ).loc Cert.ReferenceLinIdeal.main_arg0) = m ((c.tc : Thread Cert.KernelLinIdeal.nD Cert.KernelLinIdeal.τ).loc Cert.KernelLinIdeal.main_arg0)
      ∧ m' ((c.tc : Thread Cert.ReferenceLinIdeal.nD Cert.ReferenceLinIdeal.τ).loc Cert.ReferenceLinIdeal.main_arg1) = m ((c.tc : Thread Cert.KernelLinIdeal.nD Cert.KernelLinIdeal.τ).loc Cert.KernelLinIdeal.main_arg1)
      ∧ m' ((c.tc : Thread Cert.ReferenceLinIdeal.nD Cert.ReferenceLinIdeal.τ).loc Cert.ReferenceLinIdeal.main_arg2) = m ((c.tc : Thread Cert.KernelLinIdeal.nD Cert.KernelLinIdeal.τ).loc Cert.KernelLinIdeal.main_arg2)) →
    ∃ (v0 : (c : Dev Cert.KernelLinIdeal.nD) → Buf (Elt Ideal) ((c.tc : Thread Cert.KernelLinIdeal.nD Cert.KernelLinIdeal.τ).loc Cert.KernelLinIdeal.main_v1)),
      θ_run (Cert.KernelLinIdeal.defs (F := Ideal)) (onTc (τ := Cert.KernelLinIdeal.τ) (Cert.KernelLinIdeal.main (F := Ideal))) ⟨m, fun _ => 0, g⟩ (fun r => ∀ c : Dev Cert.KernelLinIdeal.nD,
          r.2.mem ((c.tc : Thread Cert.KernelLinIdeal.nD Cert.KernelLinIdeal.τ).loc Cert.KernelLinIdeal.main_v1) = v0 c
          ∧ r.2.mem ((c.tc : Thread Cert.KernelLinIdeal.nD Cert.KernelLinIdeal.τ).loc Cert.KernelLinIdeal.main_arg0) = m ((c.tc : Thread Cert.KernelLinIdeal.nD Cert.KernelLinIdeal.τ).loc Cert.KernelLinIdeal.main_arg0)
          ∧ r.2.mem ((c.tc : Thread Cert.KernelLinIdeal.nD Cert.KernelLinIdeal.τ).loc Cert.KernelLinIdeal.main_arg1) = m ((c.tc : Thread Cert.KernelLinIdeal.nD Cert.KernelLinIdeal.τ).loc Cert.KernelLinIdeal.main_arg1)
          ∧ r.2.mem ((c.tc : Thread Cert.KernelLinIdeal.nD Cert.KernelLinIdeal.τ).loc Cert.KernelLinIdeal.main_arg2) = m ((c.tc : Thread Cert.KernelLinIdeal.nD Cert.KernelLinIdeal.τ).loc Cert.KernelLinIdeal.main_arg2))
      ∧ θ_run (Cert.ReferenceLinIdeal.defs (F := Ideal)) (onTc (τ := Cert.ReferenceLinIdeal.τ) (Cert.ReferenceLinIdeal.main (F := Ideal))) ⟨m', fun _ => 0, g'⟩ (fun r => ∀ c : Dev Cert.ReferenceLinIdeal.nD,
          r.2.mem ((c.tc : Thread Cert.ReferenceLinIdeal.nD Cert.ReferenceLinIdeal.τ).loc Cert.ReferenceLinIdeal.main_v4) = v0 c
          ∧ r.2.mem ((c.tc : Thread Cert.ReferenceLinIdeal.nD Cert.ReferenceLinIdeal.τ).loc Cert.ReferenceLinIdeal.main_arg0) = m' ((c.tc : Thread Cert.ReferenceLinIdeal.nD Cert.ReferenceLinIdeal.τ).loc Cert.ReferenceLinIdeal.main_arg0)
          ∧ r.2.mem ((c.tc : Thread Cert.ReferenceLinIdeal.nD Cert.ReferenceLinIdeal.τ).loc Cert.ReferenceLinIdeal.main_arg1) = m' ((c.tc : Thread Cert.ReferenceLinIdeal.nD Cert.ReferenceLinIdeal.τ).loc Cert.ReferenceLinIdeal.main_arg1)
          ∧ r.2.mem ((c.tc : Thread Cert.ReferenceLinIdeal.nD Cert.ReferenceLinIdeal.τ).loc Cert.ReferenceLinIdeal.main_arg2) = m' ((c.tc : Thread Cert.ReferenceLinIdeal.nD Cert.ReferenceLinIdeal.τ).loc Cert.ReferenceLinIdeal.main_arg2))

def preserves_KernelLinDx_KernelLinDxIdeal : Prop :=
  True

def algebraic_KernelLinDxIdeal_ReferenceLinDxIdeal [hKernelLinDxIdeal : Cert.KernelLinDxIdeal.Facts] [hReferenceLinDxIdeal : Cert.ReferenceLinDxIdeal.Facts] : Prop :=
  ∀ (m : (ℓ : Loc Cert.KernelLinDxIdeal.nD Cert.KernelLinDxIdeal.τ Cert.KernelLinDxIdeal.sig) → Buf (Elt Ideal) ℓ) (g : Dev Cert.KernelLinDxIdeal.nD → PrngReg)
    (m' : (ℓ : Loc Cert.ReferenceLinDxIdeal.nD Cert.ReferenceLinDxIdeal.τ Cert.ReferenceLinDxIdeal.sig) → Buf (Elt Ideal) ℓ) (g' : Dev Cert.ReferenceLinDxIdeal.nD → PrngReg), Pre_KernelLinDxIdeal m →
    (∀ c : Dev Cert.KernelLinDxIdeal.nD,
      m' ((c.tc : Thread Cert.ReferenceLinDxIdeal.nD Cert.ReferenceLinDxIdeal.τ).loc Cert.ReferenceLinDxIdeal.main_arg0) = m ((c.tc : Thread Cert.KernelLinDxIdeal.nD Cert.KernelLinDxIdeal.τ).loc Cert.KernelLinDxIdeal.main_arg0)
      ∧ m' ((c.tc : Thread Cert.ReferenceLinDxIdeal.nD Cert.ReferenceLinDxIdeal.τ).loc Cert.ReferenceLinDxIdeal.main_arg1) = m ((c.tc : Thread Cert.KernelLinDxIdeal.nD Cert.KernelLinDxIdeal.τ).loc Cert.KernelLinDxIdeal.main_arg1)) →
    ∃ (v0 : (c : Dev Cert.KernelLinDxIdeal.nD) → Buf (Elt Ideal) ((c.tc : Thread Cert.KernelLinDxIdeal.nD Cert.KernelLinDxIdeal.τ).loc Cert.KernelLinDxIdeal.main_v0)),
      θ_run (Cert.KernelLinDxIdeal.defs (F := Ideal)) (onTc (τ := Cert.KernelLinDxIdeal.τ) (Cert.KernelLinDxIdeal.main (F := Ideal))) ⟨m, fun _ => 0, g⟩ (fun r => ∀ c : Dev Cert.KernelLinDxIdeal.nD,
          r.2.mem ((c.tc : Thread Cert.KernelLinDxIdeal.nD Cert.KernelLinDxIdeal.τ).loc Cert.KernelLinDxIdeal.main_v0) = v0 c
          ∧ r.2.mem ((c.tc : Thread Cert.KernelLinDxIdeal.nD Cert.KernelLinDxIdeal.τ).loc Cert.KernelLinDxIdeal.main_arg0) = m ((c.tc : Thread Cert.KernelLinDxIdeal.nD Cert.KernelLinDxIdeal.τ).loc Cert.KernelLinDxIdeal.main_arg0)
          ∧ r.2.mem ((c.tc : Thread Cert.KernelLinDxIdeal.nD Cert.KernelLinDxIdeal.τ).loc Cert.KernelLinDxIdeal.main_arg1) = m ((c.tc : Thread Cert.KernelLinDxIdeal.nD Cert.KernelLinDxIdeal.τ).loc Cert.KernelLinDxIdeal.main_arg1))
      ∧ θ_run (Cert.ReferenceLinDxIdeal.defs (F := Ideal)) (onTc (τ := Cert.ReferenceLinDxIdeal.τ) (Cert.ReferenceLinDxIdeal.main (F := Ideal))) ⟨m', fun _ => 0, g'⟩ (fun r => ∀ c : Dev Cert.ReferenceLinDxIdeal.nD,
          r.2.mem ((c.tc : Thread Cert.ReferenceLinDxIdeal.nD Cert.ReferenceLinDxIdeal.τ).loc Cert.ReferenceLinDxIdeal.main_v3) = v0 c
          ∧ r.2.mem ((c.tc : Thread Cert.ReferenceLinDxIdeal.nD Cert.ReferenceLinDxIdeal.τ).loc Cert.ReferenceLinDxIdeal.main_arg0) = m' ((c.tc : Thread Cert.ReferenceLinDxIdeal.nD Cert.ReferenceLinDxIdeal.τ).loc Cert.ReferenceLinDxIdeal.main_arg0)
          ∧ r.2.mem ((c.tc : Thread Cert.ReferenceLinDxIdeal.nD Cert.ReferenceLinDxIdeal.τ).loc Cert.ReferenceLinDxIdeal.main_arg1) = m' ((c.tc : Thread Cert.ReferenceLinDxIdeal.nD Cert.ReferenceLinDxIdeal.τ).loc Cert.ReferenceLinDxIdeal.main_arg1))

def preserves_KernelLinDw_KernelLinDwIdeal : Prop :=
  True

def algebraic_KernelLinDwIdeal_ReferenceLinDwIdeal [hKernelLinDwIdeal : Cert.KernelLinDwIdeal.Facts] [hReferenceLinDwIdeal : Cert.ReferenceLinDwIdeal.Facts] : Prop :=
  ∀ (m : (ℓ : Loc Cert.KernelLinDwIdeal.nD Cert.KernelLinDwIdeal.τ Cert.KernelLinDwIdeal.sig) → Buf (Elt Ideal) ℓ) (g : Dev Cert.KernelLinDwIdeal.nD → PrngReg)
    (m' : (ℓ : Loc Cert.ReferenceLinDwIdeal.nD Cert.ReferenceLinDwIdeal.τ Cert.ReferenceLinDwIdeal.sig) → Buf (Elt Ideal) ℓ) (g' : Dev Cert.ReferenceLinDwIdeal.nD → PrngReg), Pre_KernelLinDwIdeal m →
    (∀ c : Dev Cert.KernelLinDwIdeal.nD,
      m' ((c.tc : Thread Cert.ReferenceLinDwIdeal.nD Cert.ReferenceLinDwIdeal.τ).loc Cert.ReferenceLinDwIdeal.main_arg0) = m ((c.tc : Thread Cert.KernelLinDwIdeal.nD Cert.KernelLinDwIdeal.τ).loc Cert.KernelLinDwIdeal.main_arg0)
      ∧ m' ((c.tc : Thread Cert.ReferenceLinDwIdeal.nD Cert.ReferenceLinDwIdeal.τ).loc Cert.ReferenceLinDwIdeal.main_arg1) = m ((c.tc : Thread Cert.KernelLinDwIdeal.nD Cert.KernelLinDwIdeal.τ).loc Cert.KernelLinDwIdeal.main_arg1)) →
    ∃ (v0 : (c : Dev Cert.KernelLinDwIdeal.nD) → Buf (Elt Ideal) ((c.tc : Thread Cert.KernelLinDwIdeal.nD Cert.KernelLinDwIdeal.τ).loc Cert.KernelLinDwIdeal.main_v0)),
      θ_run (Cert.KernelLinDwIdeal.defs (F := Ideal)) (onTc (τ := Cert.KernelLinDwIdeal.τ) (Cert.KernelLinDwIdeal.main (F := Ideal))) ⟨m, fun _ => 0, g⟩ (fun r => ∀ c : Dev Cert.KernelLinDwIdeal.nD,
          r.2.mem ((c.tc : Thread Cert.KernelLinDwIdeal.nD Cert.KernelLinDwIdeal.τ).loc Cert.KernelLinDwIdeal.main_v0) = v0 c
          ∧ r.2.mem ((c.tc : Thread Cert.KernelLinDwIdeal.nD Cert.KernelLinDwIdeal.τ).loc Cert.KernelLinDwIdeal.main_arg0) = m ((c.tc : Thread Cert.KernelLinDwIdeal.nD Cert.KernelLinDwIdeal.τ).loc Cert.KernelLinDwIdeal.main_arg0)
          ∧ r.2.mem ((c.tc : Thread Cert.KernelLinDwIdeal.nD Cert.KernelLinDwIdeal.τ).loc Cert.KernelLinDwIdeal.main_arg1) = m ((c.tc : Thread Cert.KernelLinDwIdeal.nD Cert.KernelLinDwIdeal.τ).loc Cert.KernelLinDwIdeal.main_arg1))
      ∧ θ_run (Cert.ReferenceLinDwIdeal.defs (F := Ideal)) (onTc (τ := Cert.ReferenceLinDwIdeal.τ) (Cert.ReferenceLinDwIdeal.main (F := Ideal))) ⟨m', fun _ => 0, g'⟩ (fun r => ∀ c : Dev Cert.ReferenceLinDwIdeal.nD,
          r.2.mem ((c.tc : Thread Cert.ReferenceLinDwIdeal.nD Cert.ReferenceLinDwIdeal.τ).loc Cert.ReferenceLinDwIdeal.main_v5) = v0 c
          ∧ r.2.mem ((c.tc : Thread Cert.ReferenceLinDwIdeal.nD Cert.ReferenceLinDwIdeal.τ).loc Cert.ReferenceLinDwIdeal.main_arg0) = m' ((c.tc : Thread Cert.ReferenceLinDwIdeal.nD Cert.ReferenceLinDwIdeal.τ).loc Cert.ReferenceLinDwIdeal.main_arg0)
          ∧ r.2.mem ((c.tc : Thread Cert.ReferenceLinDwIdeal.nD Cert.ReferenceLinDwIdeal.τ).loc Cert.ReferenceLinDwIdeal.main_arg1) = m' ((c.tc : Thread Cert.ReferenceLinDwIdeal.nD Cert.ReferenceLinDwIdeal.τ).loc Cert.ReferenceLinDwIdeal.main_arg1))

def preserves_KernelLinDb_KernelLinDbIdeal : Prop :=
  True

def algebraic_KernelLinDbIdeal_ReferenceLinDbIdeal [hKernelLinDbIdeal : Cert.KernelLinDbIdeal.Facts] [hReferenceLinDbIdeal : Cert.ReferenceLinDbIdeal.Facts] : Prop :=
  ∀ (m : (ℓ : Loc Cert.KernelLinDbIdeal.nD Cert.KernelLinDbIdeal.τ Cert.KernelLinDbIdeal.sig) → Buf (Elt Ideal) ℓ) (g : Dev Cert.KernelLinDbIdeal.nD → PrngReg)
    (m' : (ℓ : Loc Cert.ReferenceLinDbIdeal.nD Cert.ReferenceLinDbIdeal.τ Cert.ReferenceLinDbIdeal.sig) → Buf (Elt Ideal) ℓ) (g' : Dev Cert.ReferenceLinDbIdeal.nD → PrngReg), Pre_KernelLinDbIdeal m →
    (∀ c : Dev Cert.KernelLinDbIdeal.nD,
      m' ((c.tc : Thread Cert.ReferenceLinDbIdeal.nD Cert.ReferenceLinDbIdeal.τ).loc Cert.ReferenceLinDbIdeal.main_arg0) = m ((c.tc : Thread Cert.KernelLinDbIdeal.nD Cert.KernelLinDbIdeal.τ).loc Cert.KernelLinDbIdeal.main_arg0)) →
    ∃ (v0 : (c : Dev Cert.KernelLinDbIdeal.nD) → Buf (Elt Ideal) ((c.tc : Thread Cert.KernelLinDbIdeal.nD Cert.KernelLinDbIdeal.τ).loc Cert.KernelLinDbIdeal.main_v0)),
      θ_run (Cert.KernelLinDbIdeal.defs (F := Ideal)) (onTc (τ := Cert.KernelLinDbIdeal.τ) (Cert.KernelLinDbIdeal.main (F := Ideal))) ⟨m, fun _ => 0, g⟩ (fun r => ∀ c : Dev Cert.KernelLinDbIdeal.nD,
          r.2.mem ((c.tc : Thread Cert.KernelLinDbIdeal.nD Cert.KernelLinDbIdeal.τ).loc Cert.KernelLinDbIdeal.main_v0) = v0 c
          ∧ r.2.mem ((c.tc : Thread Cert.KernelLinDbIdeal.nD Cert.KernelLinDbIdeal.τ).loc Cert.KernelLinDbIdeal.main_arg0) = m ((c.tc : Thread Cert.KernelLinDbIdeal.nD Cert.KernelLinDbIdeal.τ).loc Cert.KernelLinDbIdeal.main_arg0))
      ∧ θ_run (Cert.ReferenceLinDbIdeal.defs (F := Ideal)) (onTc (τ := Cert.ReferenceLinDbIdeal.τ) (Cert.ReferenceLinDbIdeal.main (F := Ideal))) ⟨m', fun _ => 0, g'⟩ (fun r => ∀ c : Dev Cert.ReferenceLinDbIdeal.nD,
          r.2.mem ((c.tc : Thread Cert.ReferenceLinDbIdeal.nD Cert.ReferenceLinDbIdeal.τ).loc Cert.ReferenceLinDbIdeal.main_v5) = v0 c
          ∧ r.2.mem ((c.tc : Thread Cert.ReferenceLinDbIdeal.nD Cert.ReferenceLinDbIdeal.τ).loc Cert.ReferenceLinDbIdeal.main_arg0) = m' ((c.tc : Thread Cert.ReferenceLinDbIdeal.nD Cert.ReferenceLinDbIdeal.τ).loc Cert.ReferenceLinDbIdeal.main_arg0))

def preserves_KernelUp_KernelUpIdeal : Prop :=
  True

def algebraic_KernelUpIdeal_ReferenceUpIdeal [hKernelUpIdeal : Cert.KernelUpIdeal.Facts] [hReferenceUpIdeal : Cert.ReferenceUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg)
    (m' : (ℓ : Loc Cert.ReferenceUpIdeal.nD Cert.ReferenceUpIdeal.τ Cert.ReferenceUpIdeal.sig) → Buf (Elt Ideal) ℓ) (g' : Dev Cert.ReferenceUpIdeal.nD → PrngReg), Pre_KernelUpIdeal m →
    (∀ c : Dev Cert.KernelUpIdeal.nD,
      m' ((c.tc : Thread Cert.ReferenceUpIdeal.nD Cert.ReferenceUpIdeal.τ).loc Cert.ReferenceUpIdeal.main_arg0) = m ((c.tc : Thread Cert.KernelUpIdeal.nD Cert.KernelUpIdeal.τ).loc Cert.KernelUpIdeal.main_arg0)
      ∧ m' ((c.tc : Thread Cert.ReferenceUpIdeal.nD Cert.ReferenceUpIdeal.τ).loc Cert.ReferenceUpIdeal.main_arg1) = m ((c.tc : Thread Cert.KernelUpIdeal.nD Cert.KernelUpIdeal.τ).loc Cert.KernelUpIdeal.main_arg1)) →
    ∃ (v0 : (c : Dev Cert.KernelUpIdeal.nD) → Buf (Elt Ideal) ((c.tc : Thread Cert.KernelUpIdeal.nD Cert.KernelUpIdeal.τ).loc Cert.KernelUpIdeal.main_v0)),
      θ_run (Cert.KernelUpIdeal.defs (F := Ideal)) (onTc (τ := Cert.KernelUpIdeal.τ) (Cert.KernelUpIdeal.main (F := Ideal))) ⟨m, fun _ => 0, g⟩ (fun r => ∀ c : Dev Cert.KernelUpIdeal.nD,
          r.2.mem ((c.tc : Thread Cert.KernelUpIdeal.nD Cert.KernelUpIdeal.τ).loc Cert.KernelUpIdeal.main_v0) = v0 c
          ∧ r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
          ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1))
      ∧ θ_run (Cert.ReferenceUpIdeal.defs (F := Ideal)) (onTc (τ := Cert.ReferenceUpIdeal.τ) (Cert.ReferenceUpIdeal.main (F := Ideal))) ⟨m', fun _ => 0, g'⟩ (fun r => ∀ c : Dev Cert.ReferenceUpIdeal.nD,
          r.2.mem ((c.tc : Thread Cert.ReferenceUpIdeal.nD Cert.ReferenceUpIdeal.τ).loc Cert.ReferenceUpIdeal.main_v1) = v0 c
          ∧ r.2.mem ((c.tc : Thread Cert.ReferenceUpIdeal.nD Cert.ReferenceUpIdeal.τ).loc Cert.ReferenceUpIdeal.main_arg0) = m' ((c.tc : Thread Cert.ReferenceUpIdeal.nD Cert.ReferenceUpIdeal.τ).loc Cert.ReferenceUpIdeal.main_arg0)
          ∧ r.2.mem ((c.tc : Thread Cert.ReferenceUpIdeal.nD Cert.ReferenceUpIdeal.τ).loc Cert.ReferenceUpIdeal.main_arg1) = m' ((c.tc : Thread Cert.ReferenceUpIdeal.nD Cert.ReferenceUpIdeal.τ).loc Cert.ReferenceUpIdeal.main_arg1))

def preserves_KernelUpDx_KernelUpDxIdeal : Prop :=
  True

def algebraic_KernelUpDxIdeal_ReferenceUpDxIdeal [hKernelUpDxIdeal : Cert.KernelUpDxIdeal.Facts] [hReferenceUpDxIdeal : Cert.ReferenceUpDxIdeal.Facts] : Prop :=
  ∀ (m : (ℓ : Loc Cert.KernelUpDxIdeal.nD Cert.KernelUpDxIdeal.τ Cert.KernelUpDxIdeal.sig) → Buf (Elt Ideal) ℓ) (g : Dev Cert.KernelUpDxIdeal.nD → PrngReg)
    (m' : (ℓ : Loc Cert.ReferenceUpDxIdeal.nD Cert.ReferenceUpDxIdeal.τ Cert.ReferenceUpDxIdeal.sig) → Buf (Elt Ideal) ℓ) (g' : Dev Cert.ReferenceUpDxIdeal.nD → PrngReg), Pre_KernelUpDxIdeal m →
    (∀ c : Dev Cert.KernelUpDxIdeal.nD,
      m' ((c.tc : Thread Cert.ReferenceUpDxIdeal.nD Cert.ReferenceUpDxIdeal.τ).loc Cert.ReferenceUpDxIdeal.main_arg0) = m ((c.tc : Thread Cert.KernelUpDxIdeal.nD Cert.KernelUpDxIdeal.τ).loc Cert.KernelUpDxIdeal.main_arg0)
      ∧ m' ((c.tc : Thread Cert.ReferenceUpDxIdeal.nD Cert.ReferenceUpDxIdeal.τ).loc Cert.ReferenceUpDxIdeal.main_arg1) = m ((c.tc : Thread Cert.KernelUpDxIdeal.nD Cert.KernelUpDxIdeal.τ).loc Cert.KernelUpDxIdeal.main_arg1)) →
    ∃ (v0 : (c : Dev Cert.KernelUpDxIdeal.nD) → Buf (Elt Ideal) ((c.tc : Thread Cert.KernelUpDxIdeal.nD Cert.KernelUpDxIdeal.τ).loc Cert.KernelUpDxIdeal.main_v0)),
      θ_run (Cert.KernelUpDxIdeal.defs (F := Ideal)) (onTc (τ := Cert.KernelUpDxIdeal.τ) (Cert.KernelUpDxIdeal.main (F := Ideal))) ⟨m, fun _ => 0, g⟩ (fun r => ∀ c : Dev Cert.KernelUpDxIdeal.nD,
          r.2.mem ((c.tc : Thread Cert.KernelUpDxIdeal.nD Cert.KernelUpDxIdeal.τ).loc Cert.KernelUpDxIdeal.main_v0) = v0 c
          ∧ r.2.mem ((c.tc : Thread Cert.KernelUpDxIdeal.nD Cert.KernelUpDxIdeal.τ).loc Cert.KernelUpDxIdeal.main_arg0) = m ((c.tc : Thread Cert.KernelUpDxIdeal.nD Cert.KernelUpDxIdeal.τ).loc Cert.KernelUpDxIdeal.main_arg0)
          ∧ r.2.mem ((c.tc : Thread Cert.KernelUpDxIdeal.nD Cert.KernelUpDxIdeal.τ).loc Cert.KernelUpDxIdeal.main_arg1) = m ((c.tc : Thread Cert.KernelUpDxIdeal.nD Cert.KernelUpDxIdeal.τ).loc Cert.KernelUpDxIdeal.main_arg1))
      ∧ θ_run (Cert.ReferenceUpDxIdeal.defs (F := Ideal)) (onTc (τ := Cert.ReferenceUpDxIdeal.τ) (Cert.ReferenceUpDxIdeal.main (F := Ideal))) ⟨m', fun _ => 0, g'⟩ (fun r => ∀ c : Dev Cert.ReferenceUpDxIdeal.nD,
          r.2.mem ((c.tc : Thread Cert.ReferenceUpDxIdeal.nD Cert.ReferenceUpDxIdeal.τ).loc Cert.ReferenceUpDxIdeal.main_v3) = v0 c
          ∧ r.2.mem ((c.tc : Thread Cert.ReferenceUpDxIdeal.nD Cert.ReferenceUpDxIdeal.τ).loc Cert.ReferenceUpDxIdeal.main_arg0) = m' ((c.tc : Thread Cert.ReferenceUpDxIdeal.nD Cert.ReferenceUpDxIdeal.τ).loc Cert.ReferenceUpDxIdeal.main_arg0)
          ∧ r.2.mem ((c.tc : Thread Cert.ReferenceUpDxIdeal.nD Cert.ReferenceUpDxIdeal.τ).loc Cert.ReferenceUpDxIdeal.main_arg1) = m' ((c.tc : Thread Cert.ReferenceUpDxIdeal.nD Cert.ReferenceUpDxIdeal.τ).loc Cert.ReferenceUpDxIdeal.main_arg1))

def preserves_KernelUpDw_KernelUpDwIdeal : Prop :=
  True

def algebraic_KernelUpDwIdeal_ReferenceUpDwIdeal [hKernelUpDwIdeal : Cert.KernelUpDwIdeal.Facts] [hReferenceUpDwIdeal : Cert.ReferenceUpDwIdeal.Facts] : Prop :=
  ∀ (m : (ℓ : Loc Cert.KernelUpDwIdeal.nD Cert.KernelUpDwIdeal.τ Cert.KernelUpDwIdeal.sig) → Buf (Elt Ideal) ℓ) (g : Dev Cert.KernelUpDwIdeal.nD → PrngReg)
    (m' : (ℓ : Loc Cert.ReferenceUpDwIdeal.nD Cert.ReferenceUpDwIdeal.τ Cert.ReferenceUpDwIdeal.sig) → Buf (Elt Ideal) ℓ) (g' : Dev Cert.ReferenceUpDwIdeal.nD → PrngReg), Pre_KernelUpDwIdeal m →
    (∀ c : Dev Cert.KernelUpDwIdeal.nD,
      m' ((c.tc : Thread Cert.ReferenceUpDwIdeal.nD Cert.ReferenceUpDwIdeal.τ).loc Cert.ReferenceUpDwIdeal.main_arg0) = m ((c.tc : Thread Cert.KernelUpDwIdeal.nD Cert.KernelUpDwIdeal.τ).loc Cert.KernelUpDwIdeal.main_arg0)
      ∧ m' ((c.tc : Thread Cert.ReferenceUpDwIdeal.nD Cert.ReferenceUpDwIdeal.τ).loc Cert.ReferenceUpDwIdeal.main_arg1) = m ((c.tc : Thread Cert.KernelUpDwIdeal.nD Cert.KernelUpDwIdeal.τ).loc Cert.KernelUpDwIdeal.main_arg1)) →
    ∃ (v0 : (c : Dev Cert.KernelUpDwIdeal.nD) → Buf (Elt Ideal) ((c.tc : Thread Cert.KernelUpDwIdeal.nD Cert.KernelUpDwIdeal.τ).loc Cert.KernelUpDwIdeal.main_v0)),
      θ_run (Cert.KernelUpDwIdeal.defs (F := Ideal)) (onTc (τ := Cert.KernelUpDwIdeal.τ) (Cert.KernelUpDwIdeal.main (F := Ideal))) ⟨m, fun _ => 0, g⟩ (fun r => ∀ c : Dev Cert.KernelUpDwIdeal.nD,
          r.2.mem ((c.tc : Thread Cert.KernelUpDwIdeal.nD Cert.KernelUpDwIdeal.τ).loc Cert.KernelUpDwIdeal.main_v0) = v0 c
          ∧ r.2.mem ((c.tc : Thread Cert.KernelUpDwIdeal.nD Cert.KernelUpDwIdeal.τ).loc Cert.KernelUpDwIdeal.main_arg0) = m ((c.tc : Thread Cert.KernelUpDwIdeal.nD Cert.KernelUpDwIdeal.τ).loc Cert.KernelUpDwIdeal.main_arg0)
          ∧ r.2.mem ((c.tc : Thread Cert.KernelUpDwIdeal.nD Cert.KernelUpDwIdeal.τ).loc Cert.KernelUpDwIdeal.main_arg1) = m ((c.tc : Thread Cert.KernelUpDwIdeal.nD Cert.KernelUpDwIdeal.τ).loc Cert.KernelUpDwIdeal.main_arg1))
      ∧ θ_run (Cert.ReferenceUpDwIdeal.defs (F := Ideal)) (onTc (τ := Cert.ReferenceUpDwIdeal.τ) (Cert.ReferenceUpDwIdeal.main (F := Ideal))) ⟨m', fun _ => 0, g'⟩ (fun r => ∀ c : Dev Cert.ReferenceUpDwIdeal.nD,
          r.2.mem ((c.tc : Thread Cert.ReferenceUpDwIdeal.nD Cert.ReferenceUpDwIdeal.τ).loc Cert.ReferenceUpDwIdeal.main_v5) = v0 c
          ∧ r.2.mem ((c.tc : Thread Cert.ReferenceUpDwIdeal.nD Cert.ReferenceUpDwIdeal.τ).loc Cert.ReferenceUpDwIdeal.main_arg0) = m' ((c.tc : Thread Cert.ReferenceUpDwIdeal.nD Cert.ReferenceUpDwIdeal.τ).loc Cert.ReferenceUpDwIdeal.main_arg0)
          ∧ r.2.mem ((c.tc : Thread Cert.ReferenceUpDwIdeal.nD Cert.ReferenceUpDwIdeal.τ).loc Cert.ReferenceUpDwIdeal.main_arg1) = m' ((c.tc : Thread Cert.ReferenceUpDwIdeal.nD Cert.ReferenceUpDwIdeal.τ).loc Cert.ReferenceUpDwIdeal.main_arg1))

def preserves_KernelDown_KernelDownIdeal : Prop :=
  True

def algebraic_KernelDownIdeal_ReferenceDownIdeal [hKernelDownIdeal : Cert.KernelDownIdeal.Facts] [hReferenceDownIdeal : Cert.ReferenceDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)) →
    ∃ (v0 : (c : Dev Cert.KernelDownIdeal.nD) → Buf (Elt Ideal) ((c.tc : Thread Cert.KernelDownIdeal.nD Cert.KernelDownIdeal.τ).loc Cert.KernelDownIdeal.main_v0)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v0) = v0 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v1) = v0 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1))

def preserves_KernelDownDx_KernelDownDxIdeal : Prop :=
  True

def algebraic_KernelDownDxIdeal_ReferenceDownDxIdeal [hKernelDownDxIdeal : Cert.KernelDownDxIdeal.Facts] [hReferenceDownDxIdeal : Cert.ReferenceDownDxIdeal.Facts] : Prop :=
  ∀ (m : (ℓ : Loc Cert.KernelDownDxIdeal.nD Cert.KernelDownDxIdeal.τ Cert.KernelDownDxIdeal.sig) → Buf (Elt Ideal) ℓ) (g : Dev Cert.KernelDownDxIdeal.nD → PrngReg)
    (m' : (ℓ : Loc Cert.ReferenceDownDxIdeal.nD Cert.ReferenceDownDxIdeal.τ Cert.ReferenceDownDxIdeal.sig) → Buf (Elt Ideal) ℓ) (g' : Dev Cert.ReferenceDownDxIdeal.nD → PrngReg), Pre_KernelDownDxIdeal m →
    (∀ c : Dev Cert.KernelDownDxIdeal.nD,
      m' ((c.tc : Thread Cert.ReferenceDownDxIdeal.nD Cert.ReferenceDownDxIdeal.τ).loc Cert.ReferenceDownDxIdeal.main_arg0) = m ((c.tc : Thread Cert.KernelDownDxIdeal.nD Cert.KernelDownDxIdeal.τ).loc Cert.KernelDownDxIdeal.main_arg0)
      ∧ m' ((c.tc : Thread Cert.ReferenceDownDxIdeal.nD Cert.ReferenceDownDxIdeal.τ).loc Cert.ReferenceDownDxIdeal.main_arg1) = m ((c.tc : Thread Cert.KernelDownDxIdeal.nD Cert.KernelDownDxIdeal.τ).loc Cert.KernelDownDxIdeal.main_arg1)) →
    ∃ (v0 : (c : Dev Cert.KernelDownDxIdeal.nD) → Buf (Elt Ideal) ((c.tc : Thread Cert.KernelDownDxIdeal.nD Cert.KernelDownDxIdeal.τ).loc Cert.KernelDownDxIdeal.main_v0)),
      θ_run (Cert.KernelDownDxIdeal.defs (F := Ideal)) (onTc (τ := Cert.KernelDownDxIdeal.τ) (Cert.KernelDownDxIdeal.main (F := Ideal))) ⟨m, fun _ => 0, g⟩ (fun r => ∀ c : Dev Cert.KernelDownDxIdeal.nD,
          r.2.mem ((c.tc : Thread Cert.KernelDownDxIdeal.nD Cert.KernelDownDxIdeal.τ).loc Cert.KernelDownDxIdeal.main_v0) = v0 c
          ∧ r.2.mem ((c.tc : Thread Cert.KernelDownDxIdeal.nD Cert.KernelDownDxIdeal.τ).loc Cert.KernelDownDxIdeal.main_arg0) = m ((c.tc : Thread Cert.KernelDownDxIdeal.nD Cert.KernelDownDxIdeal.τ).loc Cert.KernelDownDxIdeal.main_arg0)
          ∧ r.2.mem ((c.tc : Thread Cert.KernelDownDxIdeal.nD Cert.KernelDownDxIdeal.τ).loc Cert.KernelDownDxIdeal.main_arg1) = m ((c.tc : Thread Cert.KernelDownDxIdeal.nD Cert.KernelDownDxIdeal.τ).loc Cert.KernelDownDxIdeal.main_arg1))
      ∧ θ_run (Cert.ReferenceDownDxIdeal.defs (F := Ideal)) (onTc (τ := Cert.ReferenceDownDxIdeal.τ) (Cert.ReferenceDownDxIdeal.main (F := Ideal))) ⟨m', fun _ => 0, g'⟩ (fun r => ∀ c : Dev Cert.ReferenceDownDxIdeal.nD,
          r.2.mem ((c.tc : Thread Cert.ReferenceDownDxIdeal.nD Cert.ReferenceDownDxIdeal.τ).loc Cert.ReferenceDownDxIdeal.main_v3) = v0 c
          ∧ r.2.mem ((c.tc : Thread Cert.ReferenceDownDxIdeal.nD Cert.ReferenceDownDxIdeal.τ).loc Cert.ReferenceDownDxIdeal.main_arg0) = m' ((c.tc : Thread Cert.ReferenceDownDxIdeal.nD Cert.ReferenceDownDxIdeal.τ).loc Cert.ReferenceDownDxIdeal.main_arg0)
          ∧ r.2.mem ((c.tc : Thread Cert.ReferenceDownDxIdeal.nD Cert.ReferenceDownDxIdeal.τ).loc Cert.ReferenceDownDxIdeal.main_arg1) = m' ((c.tc : Thread Cert.ReferenceDownDxIdeal.nD Cert.ReferenceDownDxIdeal.τ).loc Cert.ReferenceDownDxIdeal.main_arg1))

def preserves_KernelDownDw_KernelDownDwIdeal : Prop :=
  True

def algebraic_KernelDownDwIdeal_ReferenceDownDwIdeal [hKernelDownDwIdeal : Cert.KernelDownDwIdeal.Facts] [hReferenceDownDwIdeal : Cert.ReferenceDownDwIdeal.Facts] : Prop :=
  ∀ (m : (ℓ : Loc Cert.KernelDownDwIdeal.nD Cert.KernelDownDwIdeal.τ Cert.KernelDownDwIdeal.sig) → Buf (Elt Ideal) ℓ) (g : Dev Cert.KernelDownDwIdeal.nD → PrngReg)
    (m' : (ℓ : Loc Cert.ReferenceDownDwIdeal.nD Cert.ReferenceDownDwIdeal.τ Cert.ReferenceDownDwIdeal.sig) → Buf (Elt Ideal) ℓ) (g' : Dev Cert.ReferenceDownDwIdeal.nD → PrngReg), Pre_KernelDownDwIdeal m →
    (∀ c : Dev Cert.KernelDownDwIdeal.nD,
      m' ((c.tc : Thread Cert.ReferenceDownDwIdeal.nD Cert.ReferenceDownDwIdeal.τ).loc Cert.ReferenceDownDwIdeal.main_arg0) = m ((c.tc : Thread Cert.KernelDownDwIdeal.nD Cert.KernelDownDwIdeal.τ).loc Cert.KernelDownDwIdeal.main_arg0)
      ∧ m' ((c.tc : Thread Cert.ReferenceDownDwIdeal.nD Cert.ReferenceDownDwIdeal.τ).loc Cert.ReferenceDownDwIdeal.main_arg1) = m ((c.tc : Thread Cert.KernelDownDwIdeal.nD Cert.KernelDownDwIdeal.τ).loc Cert.KernelDownDwIdeal.main_arg1)) →
    ∃ (v0 : (c : Dev Cert.KernelDownDwIdeal.nD) → Buf (Elt Ideal) ((c.tc : Thread Cert.KernelDownDwIdeal.nD Cert.KernelDownDwIdeal.τ).loc Cert.KernelDownDwIdeal.main_v0)),
      θ_run (Cert.KernelDownDwIdeal.defs (F := Ideal)) (onTc (τ := Cert.KernelDownDwIdeal.τ) (Cert.KernelDownDwIdeal.main (F := Ideal))) ⟨m, fun _ => 0, g⟩ (fun r => ∀ c : Dev Cert.KernelDownDwIdeal.nD,
          r.2.mem ((c.tc : Thread Cert.KernelDownDwIdeal.nD Cert.KernelDownDwIdeal.τ).loc Cert.KernelDownDwIdeal.main_v0) = v0 c
          ∧ r.2.mem ((c.tc : Thread Cert.KernelDownDwIdeal.nD Cert.KernelDownDwIdeal.τ).loc Cert.KernelDownDwIdeal.main_arg0) = m ((c.tc : Thread Cert.KernelDownDwIdeal.nD Cert.KernelDownDwIdeal.τ).loc Cert.KernelDownDwIdeal.main_arg0)
          ∧ r.2.mem ((c.tc : Thread Cert.KernelDownDwIdeal.nD Cert.KernelDownDwIdeal.τ).loc Cert.KernelDownDwIdeal.main_arg1) = m ((c.tc : Thread Cert.KernelDownDwIdeal.nD Cert.KernelDownDwIdeal.τ).loc Cert.KernelDownDwIdeal.main_arg1))
      ∧ θ_run (Cert.ReferenceDownDwIdeal.defs (F := Ideal)) (onTc (τ := Cert.ReferenceDownDwIdeal.τ) (Cert.ReferenceDownDwIdeal.main (F := Ideal))) ⟨m', fun _ => 0, g'⟩ (fun r => ∀ c : Dev Cert.ReferenceDownDwIdeal.nD,
          r.2.mem ((c.tc : Thread Cert.ReferenceDownDwIdeal.nD Cert.ReferenceDownDwIdeal.τ).loc Cert.ReferenceDownDwIdeal.main_v5) = v0 c
          ∧ r.2.mem ((c.tc : Thread Cert.ReferenceDownDwIdeal.nD Cert.ReferenceDownDwIdeal.τ).loc Cert.ReferenceDownDwIdeal.main_arg0) = m' ((c.tc : Thread Cert.ReferenceDownDwIdeal.nD Cert.ReferenceDownDwIdeal.τ).loc Cert.ReferenceDownDwIdeal.main_arg0)
          ∧ r.2.mem ((c.tc : Thread Cert.ReferenceDownDwIdeal.nD Cert.ReferenceDownDwIdeal.τ).loc Cert.ReferenceDownDwIdeal.main_arg1) = m' ((c.tc : Thread Cert.ReferenceDownDwIdeal.nD Cert.ReferenceDownDwIdeal.τ).loc Cert.ReferenceDownDwIdeal.main_arg1))

def preserves_KernelAttn_KernelAttnIdeal : Prop :=
  True

def algebraic_KernelAttnIdeal_ReferenceAttnIdeal_pre_finite_scores_fwd [hKernelAttnIdeal : Cert.KernelAttnIdeal.Facts] [hReferenceAttnIdeal : Cert.ReferenceAttnIdeal.Facts] [hPre_finite_scores_fwd : Cert.Pre_finite_scores_fwd.Facts] : Prop :=
  ∀ (m : (ℓ : Loc Cert.KernelAttnIdeal.nD Cert.KernelAttnIdeal.τ Cert.KernelAttnIdeal.sig) → Buf (Elt Ideal) ℓ) (g : Dev Cert.KernelAttnIdeal.nD → PrngReg)
    (m' : (ℓ : Loc Cert.ReferenceAttnIdeal.nD Cert.ReferenceAttnIdeal.τ Cert.ReferenceAttnIdeal.sig) → Buf (Elt Ideal) ℓ) (g' : Dev Cert.ReferenceAttnIdeal.nD → PrngReg), Pre_KernelAttnIdeal_finite_scores_fwd m →
    (∀ c : Dev Cert.KernelAttnIdeal.nD,
      m' ((c.tc : Thread Cert.ReferenceAttnIdeal.nD Cert.ReferenceAttnIdeal.τ).loc Cert.ReferenceAttnIdeal.main_arg0) = m ((c.tc : Thread Cert.KernelAttnIdeal.nD Cert.KernelAttnIdeal.τ).loc Cert.KernelAttnIdeal.main_arg0)
      ∧ m' ((c.tc : Thread Cert.ReferenceAttnIdeal.nD Cert.ReferenceAttnIdeal.τ).loc Cert.ReferenceAttnIdeal.main_arg1) = m ((c.tc : Thread Cert.KernelAttnIdeal.nD Cert.KernelAttnIdeal.τ).loc Cert.KernelAttnIdeal.main_arg1)
      ∧ m' ((c.tc : Thread Cert.ReferenceAttnIdeal.nD Cert.ReferenceAttnIdeal.τ).loc Cert.ReferenceAttnIdeal.main_arg2) = m ((c.tc : Thread Cert.KernelAttnIdeal.nD Cert.KernelAttnIdeal.τ).loc Cert.KernelAttnIdeal.main_arg2)
      ∧ m' ((c.tc : Thread Cert.ReferenceAttnIdeal.nD Cert.ReferenceAttnIdeal.τ).loc Cert.ReferenceAttnIdeal.main_arg3) = m ((c.tc : Thread Cert.KernelAttnIdeal.nD Cert.KernelAttnIdeal.τ).loc Cert.KernelAttnIdeal.main_arg3)
      ∧ m' ((c.tc : Thread Cert.ReferenceAttnIdeal.nD Cert.ReferenceAttnIdeal.τ).loc Cert.ReferenceAttnIdeal.main_arg4) = m ((c.tc : Thread Cert.KernelAttnIdeal.nD Cert.KernelAttnIdeal.τ).loc Cert.KernelAttnIdeal.main_arg4)) →
    ∃ (v0 : (c : Dev Cert.KernelAttnIdeal.nD) → Buf (Elt Ideal) ((c.tc : Thread Cert.KernelAttnIdeal.nD Cert.KernelAttnIdeal.τ).loc Cert.KernelAttnIdeal.main_v0)),
      θ_run (Cert.KernelAttnIdeal.defs (F := Ideal)) (onTc (τ := Cert.KernelAttnIdeal.τ) (Cert.KernelAttnIdeal.main (F := Ideal))) ⟨m, fun _ => 0, g⟩ (fun r => ∀ c : Dev Cert.KernelAttnIdeal.nD,
          r.2.mem ((c.tc : Thread Cert.KernelAttnIdeal.nD Cert.KernelAttnIdeal.τ).loc Cert.KernelAttnIdeal.main_v0) = v0 c
          ∧ r.2.mem ((c.tc : Thread Cert.KernelAttnIdeal.nD Cert.KernelAttnIdeal.τ).loc Cert.KernelAttnIdeal.main_arg0) = m ((c.tc : Thread Cert.KernelAttnIdeal.nD Cert.KernelAttnIdeal.τ).loc Cert.KernelAttnIdeal.main_arg0)
          ∧ r.2.mem ((c.tc : Thread Cert.KernelAttnIdeal.nD Cert.KernelAttnIdeal.τ).loc Cert.KernelAttnIdeal.main_arg1) = m ((c.tc : Thread Cert.KernelAttnIdeal.nD Cert.KernelAttnIdeal.τ).loc Cert.KernelAttnIdeal.main_arg1)
          ∧ r.2.mem ((c.tc : Thread Cert.KernelAttnIdeal.nD Cert.KernelAttnIdeal.τ).loc Cert.KernelAttnIdeal.main_arg2) = m ((c.tc : Thread Cert.KernelAttnIdeal.nD Cert.KernelAttnIdeal.τ).loc Cert.KernelAttnIdeal.main_arg2)
          ∧ r.2.mem ((c.tc : Thread Cert.KernelAttnIdeal.nD Cert.KernelAttnIdeal.τ).loc Cert.KernelAttnIdeal.main_arg3) = m ((c.tc : Thread Cert.KernelAttnIdeal.nD Cert.KernelAttnIdeal.τ).loc Cert.KernelAttnIdeal.main_arg3)
          ∧ r.2.mem ((c.tc : Thread Cert.KernelAttnIdeal.nD Cert.KernelAttnIdeal.τ).loc Cert.KernelAttnIdeal.main_arg4) = m ((c.tc : Thread Cert.KernelAttnIdeal.nD Cert.KernelAttnIdeal.τ).loc Cert.KernelAttnIdeal.main_arg4))
      ∧ θ_run (Cert.ReferenceAttnIdeal.defs (F := Ideal)) (onTc (τ := Cert.ReferenceAttnIdeal.τ) (Cert.ReferenceAttnIdeal.main (F := Ideal))) ⟨m', fun _ => 0, g'⟩ (fun r => ∀ c : Dev Cert.ReferenceAttnIdeal.nD,
          r.2.mem ((c.tc : Thread Cert.ReferenceAttnIdeal.nD Cert.ReferenceAttnIdeal.τ).loc Cert.ReferenceAttnIdeal.main_v26) = v0 c
          ∧ r.2.mem ((c.tc : Thread Cert.ReferenceAttnIdeal.nD Cert.ReferenceAttnIdeal.τ).loc Cert.ReferenceAttnIdeal.main_arg0) = m' ((c.tc : Thread Cert.ReferenceAttnIdeal.nD Cert.ReferenceAttnIdeal.τ).loc Cert.ReferenceAttnIdeal.main_arg0)
          ∧ r.2.mem ((c.tc : Thread Cert.ReferenceAttnIdeal.nD Cert.ReferenceAttnIdeal.τ).loc Cert.ReferenceAttnIdeal.main_arg1) = m' ((c.tc : Thread Cert.ReferenceAttnIdeal.nD Cert.ReferenceAttnIdeal.τ).loc Cert.ReferenceAttnIdeal.main_arg1)
          ∧ r.2.mem ((c.tc : Thread Cert.ReferenceAttnIdeal.nD Cert.ReferenceAttnIdeal.τ).loc Cert.ReferenceAttnIdeal.main_arg2) = m' ((c.tc : Thread Cert.ReferenceAttnIdeal.nD Cert.ReferenceAttnIdeal.τ).loc Cert.ReferenceAttnIdeal.main_arg2)
          ∧ r.2.mem ((c.tc : Thread Cert.ReferenceAttnIdeal.nD Cert.ReferenceAttnIdeal.τ).loc Cert.ReferenceAttnIdeal.main_arg3) = m' ((c.tc : Thread Cert.ReferenceAttnIdeal.nD Cert.ReferenceAttnIdeal.τ).loc Cert.ReferenceAttnIdeal.main_arg3)
          ∧ r.2.mem ((c.tc : Thread Cert.ReferenceAttnIdeal.nD Cert.ReferenceAttnIdeal.τ).loc Cert.ReferenceAttnIdeal.main_arg4) = m' ((c.tc : Thread Cert.ReferenceAttnIdeal.nD Cert.ReferenceAttnIdeal.τ).loc Cert.ReferenceAttnIdeal.main_arg4))

def preserves_KernelSilu_KernelSiluIdeal : Prop :=
  True

def algebraic_KernelSiluIdeal_ReferenceSiluIdeal [hKernelSiluIdeal : Cert.KernelSiluIdeal.Facts] [hReferenceSiluIdeal : Cert.ReferenceSiluIdeal.Facts] : Prop :=
  ∀ (m : (ℓ : Loc Cert.KernelSiluIdeal.nD Cert.KernelSiluIdeal.τ Cert.KernelSiluIdeal.sig) → Buf (Elt Ideal) ℓ) (g : Dev Cert.KernelSiluIdeal.nD → PrngReg)
    (m' : (ℓ : Loc Cert.ReferenceSiluIdeal.nD Cert.ReferenceSiluIdeal.τ Cert.ReferenceSiluIdeal.sig) → Buf (Elt Ideal) ℓ) (g' : Dev Cert.ReferenceSiluIdeal.nD → PrngReg), Pre_KernelSiluIdeal m →
    (∀ c : Dev Cert.KernelSiluIdeal.nD,
      m' ((c.tc : Thread Cert.ReferenceSiluIdeal.nD Cert.ReferenceSiluIdeal.τ).loc Cert.ReferenceSiluIdeal.main_arg0) = m ((c.tc : Thread Cert.KernelSiluIdeal.nD Cert.KernelSiluIdeal.τ).loc Cert.KernelSiluIdeal.main_arg0)
      ∧ m' ((c.tc : Thread Cert.ReferenceSiluIdeal.nD Cert.ReferenceSiluIdeal.τ).loc Cert.ReferenceSiluIdeal.main_arg1) = m ((c.tc : Thread Cert.KernelSiluIdeal.nD Cert.KernelSiluIdeal.τ).loc Cert.KernelSiluIdeal.main_arg1)
      ∧ m' ((c.tc : Thread Cert.ReferenceSiluIdeal.nD Cert.ReferenceSiluIdeal.τ).loc Cert.ReferenceSiluIdeal.main_arg2) = m ((c.tc : Thread Cert.KernelSiluIdeal.nD Cert.KernelSiluIdeal.τ).loc Cert.KernelSiluIdeal.main_arg2)) →
    ∃ (v0 : (c : Dev Cert.KernelSiluIdeal.nD) → Buf (Elt Ideal) ((c.tc : Thread Cert.KernelSiluIdeal.nD Cert.KernelSiluIdeal.τ).loc Cert.KernelSiluIdeal.main_v0_0)) (v1 : (c : Dev Cert.KernelSiluIdeal.nD) → Buf (Elt Ideal) ((c.tc : Thread Cert.KernelSiluIdeal.nD Cert.KernelSiluIdeal.τ).loc Cert.KernelSiluIdeal.main_v0_1)),
      θ_run (Cert.KernelSiluIdeal.defs (F := Ideal)) (onTc (τ := Cert.KernelSiluIdeal.τ) (Cert.KernelSiluIdeal.main (F := Ideal))) ⟨m, fun _ => 0, g⟩ (fun r => ∀ c : Dev Cert.KernelSiluIdeal.nD,
          r.2.mem ((c.tc : Thread Cert.KernelSiluIdeal.nD Cert.KernelSiluIdeal.τ).loc Cert.KernelSiluIdeal.main_v0_0) = v0 c
          ∧ r.2.mem ((c.tc : Thread Cert.KernelSiluIdeal.nD Cert.KernelSiluIdeal.τ).loc Cert.KernelSiluIdeal.main_v0_1) = v1 c
          ∧ r.2.mem ((c.tc : Thread Cert.KernelSiluIdeal.nD Cert.KernelSiluIdeal.τ).loc Cert.KernelSiluIdeal.main_arg0) = m ((c.tc : Thread Cert.KernelSiluIdeal.nD Cert.KernelSiluIdeal.τ).loc Cert.KernelSiluIdeal.main_arg0)
          ∧ r.2.mem ((c.tc : Thread Cert.KernelSiluIdeal.nD Cert.KernelSiluIdeal.τ).loc Cert.KernelSiluIdeal.main_arg1) = m ((c.tc : Thread Cert.KernelSiluIdeal.nD Cert.KernelSiluIdeal.τ).loc Cert.KernelSiluIdeal.main_arg1)
          ∧ r.2.mem ((c.tc : Thread Cert.KernelSiluIdeal.nD Cert.KernelSiluIdeal.τ).loc Cert.KernelSiluIdeal.main_arg2) = m ((c.tc : Thread Cert.KernelSiluIdeal.nD Cert.KernelSiluIdeal.τ).loc Cert.KernelSiluIdeal.main_arg2))
      ∧ θ_run (Cert.ReferenceSiluIdeal.defs (F := Ideal)) (onTc (τ := Cert.ReferenceSiluIdeal.τ) (Cert.ReferenceSiluIdeal.main (F := Ideal))) ⟨m', fun _ => 0, g'⟩ (fun r => ∀ c : Dev Cert.ReferenceSiluIdeal.nD,
          r.2.mem ((c.tc : Thread Cert.ReferenceSiluIdeal.nD Cert.ReferenceSiluIdeal.τ).loc Cert.ReferenceSiluIdeal.main_v4) = v0 c
          ∧ r.2.mem ((c.tc : Thread Cert.ReferenceSiluIdeal.nD Cert.ReferenceSiluIdeal.τ).loc Cert.ReferenceSiluIdeal.main_v2) = v1 c
          ∧ r.2.mem ((c.tc : Thread Cert.ReferenceSiluIdeal.nD Cert.ReferenceSiluIdeal.τ).loc Cert.ReferenceSiluIdeal.main_arg0) = m' ((c.tc : Thread Cert.ReferenceSiluIdeal.nD Cert.ReferenceSiluIdeal.τ).loc Cert.ReferenceSiluIdeal.main_arg0)
          ∧ r.2.mem ((c.tc : Thread Cert.ReferenceSiluIdeal.nD Cert.ReferenceSiluIdeal.τ).loc Cert.ReferenceSiluIdeal.main_arg1) = m' ((c.tc : Thread Cert.ReferenceSiluIdeal.nD Cert.ReferenceSiluIdeal.τ).loc Cert.ReferenceSiluIdeal.main_arg1)
          ∧ r.2.mem ((c.tc : Thread Cert.ReferenceSiluIdeal.nD Cert.ReferenceSiluIdeal.τ).loc Cert.ReferenceSiluIdeal.main_arg2) = m' ((c.tc : Thread Cert.ReferenceSiluIdeal.nD Cert.ReferenceSiluIdeal.τ).loc Cert.ReferenceSiluIdeal.main_arg2))

def preserves_KernelGlu_KernelGluIdeal : Prop :=
  True

def algebraic_KernelGluIdeal_ReferenceGluIdeal [hKernelGluIdeal : Cert.KernelGluIdeal.Facts] [hReferenceGluIdeal : Cert.ReferenceGluIdeal.Facts] : Prop :=
  ∀ (m : (ℓ : Loc Cert.KernelGluIdeal.nD Cert.KernelGluIdeal.τ Cert.KernelGluIdeal.sig) → Buf (Elt Ideal) ℓ) (g : Dev Cert.KernelGluIdeal.nD → PrngReg)
    (m' : (ℓ : Loc Cert.ReferenceGluIdeal.nD Cert.ReferenceGluIdeal.τ Cert.ReferenceGluIdeal.sig) → Buf (Elt Ideal) ℓ) (g' : Dev Cert.ReferenceGluIdeal.nD → PrngReg), Pre_KernelGluIdeal m →
    (∀ c : Dev Cert.KernelGluIdeal.nD,
      m' ((c.tc : Thread Cert.ReferenceGluIdeal.nD Cert.ReferenceGluIdeal.τ).loc Cert.ReferenceGluIdeal.main_arg0) = m ((c.tc : Thread Cert.KernelGluIdeal.nD Cert.KernelGluIdeal.τ).loc Cert.KernelGluIdeal.main_arg0)
      ∧ m' ((c.tc : Thread Cert.ReferenceGluIdeal.nD Cert.ReferenceGluIdeal.τ).loc Cert.ReferenceGluIdeal.main_arg1) = m ((c.tc : Thread Cert.KernelGluIdeal.nD Cert.KernelGluIdeal.τ).loc Cert.KernelGluIdeal.main_arg1)
      ∧ m' ((c.tc : Thread Cert.ReferenceGluIdeal.nD Cert.ReferenceGluIdeal.τ).loc Cert.ReferenceGluIdeal.main_arg2) = m ((c.tc : Thread Cert.KernelGluIdeal.nD Cert.KernelGluIdeal.τ).loc Cert.KernelGluIdeal.main_arg2)) →
    ∃ (v0 : (c : Dev Cert.KernelGluIdeal.nD) → Buf (Elt Ideal) ((c.tc : Thread Cert.KernelGluIdeal.nD Cert.KernelGluIdeal.τ).loc Cert.KernelGluIdeal.main_v0_0)) (v1 : (c : Dev Cert.KernelGluIdeal.nD) → Buf (Elt Ideal) ((c.tc : Thread Cert.KernelGluIdeal.nD Cert.KernelGluIdeal.τ).loc Cert.KernelGluIdeal.main_v0_1)),
      θ_run (Cert.KernelGluIdeal.defs (F := Ideal)) (onTc (τ := Cert.KernelGluIdeal.τ) (Cert.KernelGluIdeal.main (F := Ideal))) ⟨m, fun _ => 0, g⟩ (fun r => ∀ c : Dev Cert.KernelGluIdeal.nD,
          r.2.mem ((c.tc : Thread Cert.KernelGluIdeal.nD Cert.KernelGluIdeal.τ).loc Cert.KernelGluIdeal.main_v0_0) = v0 c
          ∧ r.2.mem ((c.tc : Thread Cert.KernelGluIdeal.nD Cert.KernelGluIdeal.τ).loc Cert.KernelGluIdeal.main_v0_1) = v1 c
          ∧ r.2.mem ((c.tc : Thread Cert.KernelGluIdeal.nD Cert.KernelGluIdeal.τ).loc Cert.KernelGluIdeal.main_arg0) = m ((c.tc : Thread Cert.KernelGluIdeal.nD Cert.KernelGluIdeal.τ).loc Cert.KernelGluIdeal.main_arg0)
          ∧ r.2.mem ((c.tc : Thread Cert.KernelGluIdeal.nD Cert.KernelGluIdeal.τ).loc Cert.KernelGluIdeal.main_arg1) = m ((c.tc : Thread Cert.KernelGluIdeal.nD Cert.KernelGluIdeal.τ).loc Cert.KernelGluIdeal.main_arg1)
          ∧ r.2.mem ((c.tc : Thread Cert.KernelGluIdeal.nD Cert.KernelGluIdeal.τ).loc Cert.KernelGluIdeal.main_arg2) = m ((c.tc : Thread Cert.KernelGluIdeal.nD Cert.KernelGluIdeal.τ).loc Cert.KernelGluIdeal.main_arg2))
      ∧ θ_run (Cert.ReferenceGluIdeal.defs (F := Ideal)) (onTc (τ := Cert.ReferenceGluIdeal.τ) (Cert.ReferenceGluIdeal.main (F := Ideal))) ⟨m', fun _ => 0, g'⟩ (fun r => ∀ c : Dev Cert.ReferenceGluIdeal.nD,
          r.2.mem ((c.tc : Thread Cert.ReferenceGluIdeal.nD Cert.ReferenceGluIdeal.τ).loc Cert.ReferenceGluIdeal.main_v11) = v0 c
          ∧ r.2.mem ((c.tc : Thread Cert.ReferenceGluIdeal.nD Cert.ReferenceGluIdeal.τ).loc Cert.ReferenceGluIdeal.main_v12) = v1 c
          ∧ r.2.mem ((c.tc : Thread Cert.ReferenceGluIdeal.nD Cert.ReferenceGluIdeal.τ).loc Cert.ReferenceGluIdeal.main_arg0) = m' ((c.tc : Thread Cert.ReferenceGluIdeal.nD Cert.ReferenceGluIdeal.τ).loc Cert.ReferenceGluIdeal.main_arg0)
          ∧ r.2.mem ((c.tc : Thread Cert.ReferenceGluIdeal.nD Cert.ReferenceGluIdeal.τ).loc Cert.ReferenceGluIdeal.main_arg1) = m' ((c.tc : Thread Cert.ReferenceGluIdeal.nD Cert.ReferenceGluIdeal.τ).loc Cert.ReferenceGluIdeal.main_arg1)
          ∧ r.2.mem ((c.tc : Thread Cert.ReferenceGluIdeal.nD Cert.ReferenceGluIdeal.τ).loc Cert.ReferenceGluIdeal.main_arg2) = m' ((c.tc : Thread Cert.ReferenceGluIdeal.nD Cert.ReferenceGluIdeal.τ).loc Cert.ReferenceGluIdeal.main_arg2))

def preserves_KernelConvDx_KernelConvDxIdeal : Prop :=
  True

def algebraic_KernelConvDxIdeal_ReferenceConvDxIdeal [hKernelConvDxIdeal : Cert.KernelConvDxIdeal.Facts] [hReferenceConvDxIdeal : Cert.ReferenceConvDxIdeal.Facts] : Prop :=
  ∀ (m : (ℓ : Loc Cert.KernelConvDxIdeal.nD Cert.KernelConvDxIdeal.τ Cert.KernelConvDxIdeal.sig) → Buf (Elt Ideal) ℓ) (g : Dev Cert.KernelConvDxIdeal.nD → PrngReg)
    (m' : (ℓ : Loc Cert.ReferenceConvDxIdeal.nD Cert.ReferenceConvDxIdeal.τ Cert.ReferenceConvDxIdeal.sig) → Buf (Elt Ideal) ℓ) (g' : Dev Cert.ReferenceConvDxIdeal.nD → PrngReg), Pre_KernelConvDxIdeal m →
    (∀ c : Dev Cert.KernelConvDxIdeal.nD,
      m' ((c.tc : Thread Cert.ReferenceConvDxIdeal.nD Cert.ReferenceConvDxIdeal.τ).loc Cert.ReferenceConvDxIdeal.main_arg0) = m ((c.tc : Thread Cert.KernelConvDxIdeal.nD Cert.KernelConvDxIdeal.τ).loc Cert.KernelConvDxIdeal.main_arg0)
      ∧ m' ((c.tc : Thread Cert.ReferenceConvDxIdeal.nD Cert.ReferenceConvDxIdeal.τ).loc Cert.ReferenceConvDxIdeal.main_arg1) = m ((c.tc : Thread Cert.KernelConvDxIdeal.nD Cert.KernelConvDxIdeal.τ).loc Cert.KernelConvDxIdeal.main_arg1)) →
    ∃ (v0 : (c : Dev Cert.KernelConvDxIdeal.nD) → Buf (Elt Ideal) ((c.tc : Thread Cert.KernelConvDxIdeal.nD Cert.KernelConvDxIdeal.τ).loc Cert.KernelConvDxIdeal.main_v3)),
      θ_run (Cert.KernelConvDxIdeal.defs (F := Ideal)) (onTc (τ := Cert.KernelConvDxIdeal.τ) (Cert.KernelConvDxIdeal.main (F := Ideal))) ⟨m, fun _ => 0, g⟩ (fun r => ∀ c : Dev Cert.KernelConvDxIdeal.nD,
          r.2.mem ((c.tc : Thread Cert.KernelConvDxIdeal.nD Cert.KernelConvDxIdeal.τ).loc Cert.KernelConvDxIdeal.main_v3) = v0 c
          ∧ r.2.mem ((c.tc : Thread Cert.KernelConvDxIdeal.nD Cert.KernelConvDxIdeal.τ).loc Cert.KernelConvDxIdeal.main_arg0) = m ((c.tc : Thread Cert.KernelConvDxIdeal.nD Cert.KernelConvDxIdeal.τ).loc Cert.KernelConvDxIdeal.main_arg0)
          ∧ r.2.mem ((c.tc : Thread Cert.KernelConvDxIdeal.nD Cert.KernelConvDxIdeal.τ).loc Cert.KernelConvDxIdeal.main_arg1) = m ((c.tc : Thread Cert.KernelConvDxIdeal.nD Cert.KernelConvDxIdeal.τ).loc Cert.KernelConvDxIdeal.main_arg1))
      ∧ θ_run (Cert.ReferenceConvDxIdeal.defs (F := Ideal)) (onTc (τ := Cert.ReferenceConvDxIdeal.τ) (Cert.ReferenceConvDxIdeal.main (F := Ideal))) ⟨m', fun _ => 0, g'⟩ (fun r => ∀ c : Dev Cert.ReferenceConvDxIdeal.nD,
          r.2.mem ((c.tc : Thread Cert.ReferenceConvDxIdeal.nD Cert.ReferenceConvDxIdeal.τ).loc Cert.ReferenceConvDxIdeal.main_v63) = v0 c
          ∧ r.2.mem ((c.tc : Thread Cert.ReferenceConvDxIdeal.nD Cert.ReferenceConvDxIdeal.τ).loc Cert.ReferenceConvDxIdeal.main_arg0) = m' ((c.tc : Thread Cert.ReferenceConvDxIdeal.nD Cert.ReferenceConvDxIdeal.τ).loc Cert.ReferenceConvDxIdeal.main_arg0)
          ∧ r.2.mem ((c.tc : Thread Cert.ReferenceConvDxIdeal.nD Cert.ReferenceConvDxIdeal.τ).loc Cert.ReferenceConvDxIdeal.main_arg1) = m' ((c.tc : Thread Cert.ReferenceConvDxIdeal.nD Cert.ReferenceConvDxIdeal.τ).loc Cert.ReferenceConvDxIdeal.main_arg1))

def preserves_KernelConv_KernelConvIdeal : Prop :=
  True

def algebraic_KernelConvIdeal_ReferenceConvIdeal [hKernelConvIdeal : Cert.KernelConvIdeal.Facts] [hReferenceConvIdeal : Cert.ReferenceConvIdeal.Facts] : Prop :=
  ∀ (m : (ℓ : Loc Cert.KernelConvIdeal.nD Cert.KernelConvIdeal.τ Cert.KernelConvIdeal.sig) → Buf (Elt Ideal) ℓ) (g : Dev Cert.KernelConvIdeal.nD → PrngReg)
    (m' : (ℓ : Loc Cert.ReferenceConvIdeal.nD Cert.ReferenceConvIdeal.τ Cert.ReferenceConvIdeal.sig) → Buf (Elt Ideal) ℓ) (g' : Dev Cert.ReferenceConvIdeal.nD → PrngReg), Pre_KernelConvIdeal m →
    (∀ c : Dev Cert.KernelConvIdeal.nD,
      m' ((c.tc : Thread Cert.ReferenceConvIdeal.nD Cert.ReferenceConvIdeal.τ).loc Cert.ReferenceConvIdeal.main_arg0) = m ((c.tc : Thread Cert.KernelConvIdeal.nD Cert.KernelConvIdeal.τ).loc Cert.KernelConvIdeal.main_arg0)
      ∧ m' ((c.tc : Thread Cert.ReferenceConvIdeal.nD Cert.ReferenceConvIdeal.τ).loc Cert.ReferenceConvIdeal.main_arg1) = m ((c.tc : Thread Cert.KernelConvIdeal.nD Cert.KernelConvIdeal.τ).loc Cert.KernelConvIdeal.main_arg1)
      ∧ m' ((c.tc : Thread Cert.ReferenceConvIdeal.nD Cert.ReferenceConvIdeal.τ).loc Cert.ReferenceConvIdeal.main_arg2) = m ((c.tc : Thread Cert.KernelConvIdeal.nD Cert.KernelConvIdeal.τ).loc Cert.KernelConvIdeal.main_arg2)) →
    ∃ (v0 : (c : Dev Cert.KernelConvIdeal.nD) → Buf (Elt Ideal) ((c.tc : Thread Cert.KernelConvIdeal.nD Cert.KernelConvIdeal.τ).loc Cert.KernelConvIdeal.main_v1)),
      θ_run (Cert.KernelConvIdeal.defs (F := Ideal)) (onTc (τ := Cert.KernelConvIdeal.τ) (Cert.KernelConvIdeal.main (F := Ideal))) ⟨m, fun _ => 0, g⟩ (fun r => ∀ c : Dev Cert.KernelConvIdeal.nD,
          r.2.mem ((c.tc : Thread Cert.KernelConvIdeal.nD Cert.KernelConvIdeal.τ).loc Cert.KernelConvIdeal.main_v1) = v0 c
          ∧ r.2.mem ((c.tc : Thread Cert.KernelConvIdeal.nD Cert.KernelConvIdeal.τ).loc Cert.KernelConvIdeal.main_arg0) = m ((c.tc : Thread Cert.KernelConvIdeal.nD Cert.KernelConvIdeal.τ).loc Cert.KernelConvIdeal.main_arg0)
          ∧ r.2.mem ((c.tc : Thread Cert.KernelConvIdeal.nD Cert.KernelConvIdeal.τ).loc Cert.KernelConvIdeal.main_arg1) = m ((c.tc : Thread Cert.KernelConvIdeal.nD Cert.KernelConvIdeal.τ).loc Cert.KernelConvIdeal.main_arg1)
          ∧ r.2.mem ((c.tc : Thread Cert.KernelConvIdeal.nD Cert.KernelConvIdeal.τ).loc Cert.KernelConvIdeal.main_arg2) = m ((c.tc : Thread Cert.KernelConvIdeal.nD Cert.KernelConvIdeal.τ).loc Cert.KernelConvIdeal.main_arg2))
      ∧ θ_run (Cert.ReferenceConvIdeal.defs (F := Ideal)) (onTc (τ := Cert.ReferenceConvIdeal.τ) (Cert.ReferenceConvIdeal.main (F := Ideal))) ⟨m', fun _ => 0, g'⟩ (fun r => ∀ c : Dev Cert.ReferenceConvIdeal.nD,
          r.2.mem ((c.tc : Thread Cert.ReferenceConvIdeal.nD Cert.ReferenceConvIdeal.τ).loc Cert.ReferenceConvIdeal.main_v40) = v0 c
          ∧ r.2.mem ((c.tc : Thread Cert.ReferenceConvIdeal.nD Cert.ReferenceConvIdeal.τ).loc Cert.ReferenceConvIdeal.main_arg0) = m' ((c.tc : Thread Cert.ReferenceConvIdeal.nD Cert.ReferenceConvIdeal.τ).loc Cert.ReferenceConvIdeal.main_arg0)
          ∧ r.2.mem ((c.tc : Thread Cert.ReferenceConvIdeal.nD Cert.ReferenceConvIdeal.τ).loc Cert.ReferenceConvIdeal.main_arg1) = m' ((c.tc : Thread Cert.ReferenceConvIdeal.nD Cert.ReferenceConvIdeal.τ).loc Cert.ReferenceConvIdeal.main_arg1)
          ∧ r.2.mem ((c.tc : Thread Cert.ReferenceConvIdeal.nD Cert.ReferenceConvIdeal.τ).loc Cert.ReferenceConvIdeal.main_arg2) = m' ((c.tc : Thread Cert.ReferenceConvIdeal.nD Cert.ReferenceConvIdeal.τ).loc Cert.ReferenceConvIdeal.main_arg2))

def preserves_KernelKv_KernelKvIdeal : Prop :=
  True

def algebraic_KernelKvIdeal_ReferenceKvIdeal [hKernelKvIdeal : Cert.KernelKvIdeal.Facts] [hReferenceKvIdeal : Cert.ReferenceKvIdeal.Facts] : Prop :=
  ∀ (m : (ℓ : Loc Cert.KernelKvIdeal.nD Cert.KernelKvIdeal.τ Cert.KernelKvIdeal.sig) → Buf (Elt Ideal) ℓ) (g : Dev Cert.KernelKvIdeal.nD → PrngReg)
    (m' : (ℓ : Loc Cert.ReferenceKvIdeal.nD Cert.ReferenceKvIdeal.τ Cert.ReferenceKvIdeal.sig) → Buf (Elt Ideal) ℓ) (g' : Dev Cert.ReferenceKvIdeal.nD → PrngReg), Pre_KernelKvIdeal m →
    (∀ c : Dev Cert.KernelKvIdeal.nD,
      m' ((c.tc : Thread Cert.ReferenceKvIdeal.nD Cert.ReferenceKvIdeal.τ).loc Cert.ReferenceKvIdeal.main_arg0) = m ((c.tc : Thread Cert.KernelKvIdeal.nD Cert.KernelKvIdeal.τ).loc Cert.KernelKvIdeal.main_arg0)
      ∧ m' ((c.tc : Thread Cert.ReferenceKvIdeal.nD Cert.ReferenceKvIdeal.τ).loc Cert.ReferenceKvIdeal.main_arg1) = m ((c.tc : Thread Cert.KernelKvIdeal.nD Cert.KernelKvIdeal.τ).loc Cert.KernelKvIdeal.main_arg1)
      ∧ m' ((c.tc : Thread Cert.ReferenceKvIdeal.nD Cert.ReferenceKvIdeal.τ).loc Cert.ReferenceKvIdeal.main_arg2) = m ((c.tc : Thread Cert.KernelKvIdeal.nD Cert.KernelKvIdeal.τ).loc Cert.KernelKvIdeal.main_arg2)) →
    ∃ (v0 : (c : Dev Cert.KernelKvIdeal.nD) → Buf (Elt Ideal) ((c.tc : Thread Cert.KernelKvIdeal.nD Cert.KernelKvIdeal.τ).loc Cert.KernelKvIdeal.main_v1)),
      θ_run (Cert.KernelKvIdeal.defs (F := Ideal)) (onTc (τ := Cert.KernelKvIdeal.τ) (Cert.KernelKvIdeal.main (F := Ideal))) ⟨m, fun _ => 0, g⟩ (fun r => ∀ c : Dev Cert.KernelKvIdeal.nD,
          r.2.mem ((c.tc : Thread Cert.KernelKvIdeal.nD Cert.KernelKvIdeal.τ).loc Cert.KernelKvIdeal.main_v1) = v0 c
          ∧ r.2.mem ((c.tc : Thread Cert.KernelKvIdeal.nD Cert.KernelKvIdeal.τ).loc Cert.KernelKvIdeal.main_arg0) = m ((c.tc : Thread Cert.KernelKvIdeal.nD Cert.KernelKvIdeal.τ).loc Cert.KernelKvIdeal.main_arg0)
          ∧ r.2.mem ((c.tc : Thread Cert.KernelKvIdeal.nD Cert.KernelKvIdeal.τ).loc Cert.KernelKvIdeal.main_arg1) = m ((c.tc : Thread Cert.KernelKvIdeal.nD Cert.KernelKvIdeal.τ).loc Cert.KernelKvIdeal.main_arg1)
          ∧ r.2.mem ((c.tc : Thread Cert.KernelKvIdeal.nD Cert.KernelKvIdeal.τ).loc Cert.KernelKvIdeal.main_arg2) = m ((c.tc : Thread Cert.KernelKvIdeal.nD Cert.KernelKvIdeal.τ).loc Cert.KernelKvIdeal.main_arg2))
      ∧ θ_run (Cert.ReferenceKvIdeal.defs (F := Ideal)) (onTc (τ := Cert.ReferenceKvIdeal.τ) (Cert.ReferenceKvIdeal.main (F := Ideal))) ⟨m', fun _ => 0, g'⟩ (fun r => ∀ c : Dev Cert.ReferenceKvIdeal.nD,
          r.2.mem ((c.tc : Thread Cert.ReferenceKvIdeal.nD Cert.ReferenceKvIdeal.τ).loc Cert.ReferenceKvIdeal.main_v4) = v0 c
          ∧ r.2.mem ((c.tc : Thread Cert.ReferenceKvIdeal.nD Cert.ReferenceKvIdeal.τ).loc Cert.ReferenceKvIdeal.main_arg0) = m' ((c.tc : Thread Cert.ReferenceKvIdeal.nD Cert.ReferenceKvIdeal.τ).loc Cert.ReferenceKvIdeal.main_arg0)
          ∧ r.2.mem ((c.tc : Thread Cert.ReferenceKvIdeal.nD Cert.ReferenceKvIdeal.τ).loc Cert.ReferenceKvIdeal.main_arg1) = m' ((c.tc : Thread Cert.ReferenceKvIdeal.nD Cert.ReferenceKvIdeal.τ).loc Cert.ReferenceKvIdeal.main_arg1)
          ∧ r.2.mem ((c.tc : Thread Cert.ReferenceKvIdeal.nD Cert.ReferenceKvIdeal.τ).loc Cert.ReferenceKvIdeal.main_arg2) = m' ((c.tc : Thread Cert.ReferenceKvIdeal.nD Cert.ReferenceKvIdeal.τ).loc Cert.ReferenceKvIdeal.main_arg2))

def preserves_KernelKvDx_KernelKvDxIdeal : Prop :=
  True

def algebraic_KernelKvDxIdeal_ReferenceKvDxIdeal [hKernelKvDxIdeal : Cert.KernelKvDxIdeal.Facts] [hReferenceKvDxIdeal : Cert.ReferenceKvDxIdeal.Facts] : Prop :=
  ∀ (m : (ℓ : Loc Cert.KernelKvDxIdeal.nD Cert.KernelKvDxIdeal.τ Cert.KernelKvDxIdeal.sig) → Buf (Elt Ideal) ℓ) (g : Dev Cert.KernelKvDxIdeal.nD → PrngReg)
    (m' : (ℓ : Loc Cert.ReferenceKvDxIdeal.nD Cert.ReferenceKvDxIdeal.τ Cert.ReferenceKvDxIdeal.sig) → Buf (Elt Ideal) ℓ) (g' : Dev Cert.ReferenceKvDxIdeal.nD → PrngReg), Pre_KernelKvDxIdeal m →
    (∀ c : Dev Cert.KernelKvDxIdeal.nD,
      m' ((c.tc : Thread Cert.ReferenceKvDxIdeal.nD Cert.ReferenceKvDxIdeal.τ).loc Cert.ReferenceKvDxIdeal.main_arg0) = m ((c.tc : Thread Cert.KernelKvDxIdeal.nD Cert.KernelKvDxIdeal.τ).loc Cert.KernelKvDxIdeal.main_arg0)
      ∧ m' ((c.tc : Thread Cert.ReferenceKvDxIdeal.nD Cert.ReferenceKvDxIdeal.τ).loc Cert.ReferenceKvDxIdeal.main_arg1) = m ((c.tc : Thread Cert.KernelKvDxIdeal.nD Cert.KernelKvDxIdeal.τ).loc Cert.KernelKvDxIdeal.main_arg1)) →
    ∃ (v0 : (c : Dev Cert.KernelKvDxIdeal.nD) → Buf (Elt Ideal) ((c.tc : Thread Cert.KernelKvDxIdeal.nD Cert.KernelKvDxIdeal.τ).loc Cert.KernelKvDxIdeal.main_v0)),
      θ_run (Cert.KernelKvDxIdeal.defs (F := Ideal)) (onTc (τ := Cert.KernelKvDxIdeal.τ) (Cert.KernelKvDxIdeal.main (F := Ideal))) ⟨m, fun _ => 0, g⟩ (fun r => ∀ c : Dev Cert.KernelKvDxIdeal.nD,
          r.2.mem ((c.tc : Thread Cert.KernelKvDxIdeal.nD Cert.KernelKvDxIdeal.τ).loc Cert.KernelKvDxIdeal.main_v0) = v0 c
          ∧ r.2.mem ((c.tc : Thread Cert.KernelKvDxIdeal.nD Cert.KernelKvDxIdeal.τ).loc Cert.KernelKvDxIdeal.main_arg0) = m ((c.tc : Thread Cert.KernelKvDxIdeal.nD Cert.KernelKvDxIdeal.τ).loc Cert.KernelKvDxIdeal.main_arg0)
          ∧ r.2.mem ((c.tc : Thread Cert.KernelKvDxIdeal.nD Cert.KernelKvDxIdeal.τ).loc Cert.KernelKvDxIdeal.main_arg1) = m ((c.tc : Thread Cert.KernelKvDxIdeal.nD Cert.KernelKvDxIdeal.τ).loc Cert.KernelKvDxIdeal.main_arg1))
      ∧ θ_run (Cert.ReferenceKvDxIdeal.defs (F := Ideal)) (onTc (τ := Cert.ReferenceKvDxIdeal.τ) (Cert.ReferenceKvDxIdeal.main (F := Ideal))) ⟨m', fun _ => 0, g'⟩ (fun r => ∀ c : Dev Cert.ReferenceKvDxIdeal.nD,
          r.2.mem ((c.tc : Thread Cert.ReferenceKvDxIdeal.nD Cert.ReferenceKvDxIdeal.τ).loc Cert.ReferenceKvDxIdeal.main_v3) = v0 c
          ∧ r.2.mem ((c.tc : Thread Cert.ReferenceKvDxIdeal.nD Cert.ReferenceKvDxIdeal.τ).loc Cert.ReferenceKvDxIdeal.main_arg0) = m' ((c.tc : Thread Cert.ReferenceKvDxIdeal.nD Cert.ReferenceKvDxIdeal.τ).loc Cert.ReferenceKvDxIdeal.main_arg0)
          ∧ r.2.mem ((c.tc : Thread Cert.ReferenceKvDxIdeal.nD Cert.ReferenceKvDxIdeal.τ).loc Cert.ReferenceKvDxIdeal.main_arg1) = m' ((c.tc : Thread Cert.ReferenceKvDxIdeal.nD Cert.ReferenceKvDxIdeal.τ).loc Cert.ReferenceKvDxIdeal.main_arg1))

def preserves_KernelKvDw_KernelKvDwIdeal : Prop :=
  True

def algebraic_KernelKvDwIdeal_ReferenceKvDwIdeal [hKernelKvDwIdeal : Cert.KernelKvDwIdeal.Facts] [hReferenceKvDwIdeal : Cert.ReferenceKvDwIdeal.Facts] : Prop :=
  ∀ (m : (ℓ : Loc Cert.KernelKvDwIdeal.nD Cert.KernelKvDwIdeal.τ Cert.KernelKvDwIdeal.sig) → Buf (Elt Ideal) ℓ) (g : Dev Cert.KernelKvDwIdeal.nD → PrngReg)
    (m' : (ℓ : Loc Cert.ReferenceKvDwIdeal.nD Cert.ReferenceKvDwIdeal.τ Cert.ReferenceKvDwIdeal.sig) → Buf (Elt Ideal) ℓ) (g' : Dev Cert.ReferenceKvDwIdeal.nD → PrngReg), Pre_KernelKvDwIdeal m →
    (∀ c : Dev Cert.KernelKvDwIdeal.nD,
      m' ((c.tc : Thread Cert.ReferenceKvDwIdeal.nD Cert.ReferenceKvDwIdeal.τ).loc Cert.ReferenceKvDwIdeal.main_arg0) = m ((c.tc : Thread Cert.KernelKvDwIdeal.nD Cert.KernelKvDwIdeal.τ).loc Cert.KernelKvDwIdeal.main_arg0)
      ∧ m' ((c.tc : Thread Cert.ReferenceKvDwIdeal.nD Cert.ReferenceKvDwIdeal.τ).loc Cert.ReferenceKvDwIdeal.main_arg1) = m ((c.tc : Thread Cert.KernelKvDwIdeal.nD Cert.KernelKvDwIdeal.τ).loc Cert.KernelKvDwIdeal.main_arg1)) →
    ∃ (v0 : (c : Dev Cert.KernelKvDwIdeal.nD) → Buf (Elt Ideal) ((c.tc : Thread Cert.KernelKvDwIdeal.nD Cert.KernelKvDwIdeal.τ).loc Cert.KernelKvDwIdeal.main_v0)),
      θ_run (Cert.KernelKvDwIdeal.defs (F := Ideal)) (onTc (τ := Cert.KernelKvDwIdeal.τ) (Cert.KernelKvDwIdeal.main (F := Ideal))) ⟨m, fun _ => 0, g⟩ (fun r => ∀ c : Dev Cert.KernelKvDwIdeal.nD,
          r.2.mem ((c.tc : Thread Cert.KernelKvDwIdeal.nD Cert.KernelKvDwIdeal.τ).loc Cert.KernelKvDwIdeal.main_v0) = v0 c
          ∧ r.2.mem ((c.tc : Thread Cert.KernelKvDwIdeal.nD Cert.KernelKvDwIdeal.τ).loc Cert.KernelKvDwIdeal.main_arg0) = m ((c.tc : Thread Cert.KernelKvDwIdeal.nD Cert.KernelKvDwIdeal.τ).loc Cert.KernelKvDwIdeal.main_arg0)
          ∧ r.2.mem ((c.tc : Thread Cert.KernelKvDwIdeal.nD Cert.KernelKvDwIdeal.τ).loc Cert.KernelKvDwIdeal.main_arg1) = m ((c.tc : Thread Cert.KernelKvDwIdeal.nD Cert.KernelKvDwIdeal.τ).loc Cert.KernelKvDwIdeal.main_arg1))
      ∧ θ_run (Cert.ReferenceKvDwIdeal.defs (F := Ideal)) (onTc (τ := Cert.ReferenceKvDwIdeal.τ) (Cert.ReferenceKvDwIdeal.main (F := Ideal))) ⟨m', fun _ => 0, g'⟩ (fun r => ∀ c : Dev Cert.ReferenceKvDwIdeal.nD,
          r.2.mem ((c.tc : Thread Cert.ReferenceKvDwIdeal.nD Cert.ReferenceKvDwIdeal.τ).loc Cert.ReferenceKvDwIdeal.main_v5) = v0 c
          ∧ r.2.mem ((c.tc : Thread Cert.ReferenceKvDwIdeal.nD Cert.ReferenceKvDwIdeal.τ).loc Cert.ReferenceKvDwIdeal.main_arg0) = m' ((c.tc : Thread Cert.ReferenceKvDwIdeal.nD Cert.ReferenceKvDwIdeal.τ).loc Cert.ReferenceKvDwIdeal.main_arg0)
          ∧ r.2.mem ((c.tc : Thread Cert.ReferenceKvDwIdeal.nD Cert.ReferenceKvDwIdeal.τ).loc Cert.ReferenceKvDwIdeal.main_arg1) = m' ((c.tc : Thread Cert.ReferenceKvDwIdeal.nD Cert.ReferenceKvDwIdeal.τ).loc Cert.ReferenceKvDwIdeal.main_arg1))

def preserves_KernelKvDb_KernelKvDbIdeal : Prop :=
  True

def algebraic_KernelKvDbIdeal_ReferenceKvDbIdeal [hKernelKvDbIdeal : Cert.KernelKvDbIdeal.Facts] [hReferenceKvDbIdeal : Cert.ReferenceKvDbIdeal.Facts] : Prop :=
  ∀ (m : (ℓ : Loc Cert.KernelKvDbIdeal.nD Cert.KernelKvDbIdeal.τ Cert.KernelKvDbIdeal.sig) → Buf (Elt Ideal) ℓ) (g : Dev Cert.KernelKvDbIdeal.nD → PrngReg)
    (m' : (ℓ : Loc Cert.ReferenceKvDbIdeal.nD Cert.ReferenceKvDbIdeal.τ Cert.ReferenceKvDbIdeal.sig) → Buf (Elt Ideal) ℓ) (g' : Dev Cert.ReferenceKvDbIdeal.nD → PrngReg), Pre_KernelKvDbIdeal m →
    (∀ c : Dev Cert.KernelKvDbIdeal.nD,
      m' ((c.tc : Thread Cert.ReferenceKvDbIdeal.nD Cert.ReferenceKvDbIdeal.τ).loc Cert.ReferenceKvDbIdeal.main_arg0) = m ((c.tc : Thread Cert.KernelKvDbIdeal.nD Cert.KernelKvDbIdeal.τ).loc Cert.KernelKvDbIdeal.main_arg0)) →
    ∃ (v0 : (c : Dev Cert.KernelKvDbIdeal.nD) → Buf (Elt Ideal) ((c.tc : Thread Cert.KernelKvDbIdeal.nD Cert.KernelKvDbIdeal.τ).loc Cert.KernelKvDbIdeal.main_v0)),
      θ_run (Cert.KernelKvDbIdeal.defs (F := Ideal)) (onTc (τ := Cert.KernelKvDbIdeal.τ) (Cert.KernelKvDbIdeal.main (F := Ideal))) ⟨m, fun _ => 0, g⟩ (fun r => ∀ c : Dev Cert.KernelKvDbIdeal.nD,
          r.2.mem ((c.tc : Thread Cert.KernelKvDbIdeal.nD Cert.KernelKvDbIdeal.τ).loc Cert.KernelKvDbIdeal.main_v0) = v0 c
          ∧ r.2.mem ((c.tc : Thread Cert.KernelKvDbIdeal.nD Cert.KernelKvDbIdeal.τ).loc Cert.KernelKvDbIdeal.main_arg0) = m ((c.tc : Thread Cert.KernelKvDbIdeal.nD Cert.KernelKvDbIdeal.τ).loc Cert.KernelKvDbIdeal.main_arg0))
      ∧ θ_run (Cert.ReferenceKvDbIdeal.defs (F := Ideal)) (onTc (τ := Cert.ReferenceKvDbIdeal.τ) (Cert.ReferenceKvDbIdeal.main (F := Ideal))) ⟨m', fun _ => 0, g'⟩ (fun r => ∀ c : Dev Cert.ReferenceKvDbIdeal.nD,
          r.2.mem ((c.tc : Thread Cert.ReferenceKvDbIdeal.nD Cert.ReferenceKvDbIdeal.τ).loc Cert.ReferenceKvDbIdeal.main_v5) = v0 c
          ∧ r.2.mem ((c.tc : Thread Cert.ReferenceKvDbIdeal.nD Cert.ReferenceKvDbIdeal.τ).loc Cert.ReferenceKvDbIdeal.main_arg0) = m' ((c.tc : Thread Cert.ReferenceKvDbIdeal.nD Cert.ReferenceKvDbIdeal.τ).loc Cert.ReferenceKvDbIdeal.main_arg0))

def preserves_KernelCtx_KernelCtxIdeal : Prop :=
  True

def algebraic_KernelCtxIdeal_ReferenceCtxIdeal_pre_finite_scores_ctx [hKernelCtxIdeal : Cert.KernelCtxIdeal.Facts] [hReferenceCtxIdeal : Cert.ReferenceCtxIdeal.Facts] [hPre_finite_scores_ctx : Cert.Pre_finite_scores_ctx.Facts] : Prop :=
  ∀ (m : (ℓ : Loc Cert.KernelCtxIdeal.nD Cert.KernelCtxIdeal.τ Cert.KernelCtxIdeal.sig) → Buf (Elt Ideal) ℓ) (g : Dev Cert.KernelCtxIdeal.nD → PrngReg)
    (m' : (ℓ : Loc Cert.ReferenceCtxIdeal.nD Cert.ReferenceCtxIdeal.τ Cert.ReferenceCtxIdeal.sig) → Buf (Elt Ideal) ℓ) (g' : Dev Cert.ReferenceCtxIdeal.nD → PrngReg), Pre_KernelCtxIdeal_finite_scores_ctx m →
    (∀ c : Dev Cert.KernelCtxIdeal.nD,
      m' ((c.tc : Thread Cert.ReferenceCtxIdeal.nD Cert.ReferenceCtxIdeal.τ).loc Cert.ReferenceCtxIdeal.main_arg0) = m ((c.tc : Thread Cert.KernelCtxIdeal.nD Cert.KernelCtxIdeal.τ).loc Cert.KernelCtxIdeal.main_arg0)
      ∧ m' ((c.tc : Thread Cert.ReferenceCtxIdeal.nD Cert.ReferenceCtxIdeal.τ).loc Cert.ReferenceCtxIdeal.main_arg1) = m ((c.tc : Thread Cert.KernelCtxIdeal.nD Cert.KernelCtxIdeal.τ).loc Cert.KernelCtxIdeal.main_arg1)
      ∧ m' ((c.tc : Thread Cert.ReferenceCtxIdeal.nD Cert.ReferenceCtxIdeal.τ).loc Cert.ReferenceCtxIdeal.main_arg2) = m ((c.tc : Thread Cert.KernelCtxIdeal.nD Cert.KernelCtxIdeal.τ).loc Cert.KernelCtxIdeal.main_arg2)
      ∧ m' ((c.tc : Thread Cert.ReferenceCtxIdeal.nD Cert.ReferenceCtxIdeal.τ).loc Cert.ReferenceCtxIdeal.main_arg3) = m ((c.tc : Thread Cert.KernelCtxIdeal.nD Cert.KernelCtxIdeal.τ).loc Cert.KernelCtxIdeal.main_arg3)) →
    ∃ (v0 : (c : Dev Cert.KernelCtxIdeal.nD) → Buf (Elt Ideal) ((c.tc : Thread Cert.KernelCtxIdeal.nD Cert.KernelCtxIdeal.τ).loc Cert.KernelCtxIdeal.main_v0_0)) (v1 : (c : Dev Cert.KernelCtxIdeal.nD) → Buf (Elt Ideal) ((c.tc : Thread Cert.KernelCtxIdeal.nD Cert.KernelCtxIdeal.τ).loc Cert.KernelCtxIdeal.main_v0_1)) (v2 : (c : Dev Cert.KernelCtxIdeal.nD) → Buf (Elt Ideal) ((c.tc : Thread Cert.KernelCtxIdeal.nD Cert.KernelCtxIdeal.τ).loc Cert.KernelCtxIdeal.main_v0_2)),
      θ_run (Cert.KernelCtxIdeal.defs (F := Ideal)) (onTc (τ := Cert.KernelCtxIdeal.τ) (Cert.KernelCtxIdeal.main (F := Ideal))) ⟨m, fun _ => 0, g⟩ (fun r => ∀ c : Dev Cert.KernelCtxIdeal.nD,
          r.2.mem ((c.tc : Thread Cert.KernelCtxIdeal.nD Cert.KernelCtxIdeal.τ).loc Cert.KernelCtxIdeal.main_v0_0) = v0 c
          ∧ r.2.mem ((c.tc : Thread Cert.KernelCtxIdeal.nD Cert.KernelCtxIdeal.τ).loc Cert.KernelCtxIdeal.main_v0_1) = v1 c
          ∧ r.2.mem ((c.tc : Thread Cert.KernelCtxIdeal.nD Cert.KernelCtxIdeal.τ).loc Cert.KernelCtxIdeal.main_v0_2) = v2 c
          ∧ r.2.mem ((c.tc : Thread Cert.KernelCtxIdeal.nD Cert.KernelCtxIdeal.τ).loc Cert.KernelCtxIdeal.main_arg0) = m ((c.tc : Thread Cert.KernelCtxIdeal.nD Cert.KernelCtxIdeal.τ).loc Cert.KernelCtxIdeal.main_arg0)
          ∧ r.2.mem ((c.tc : Thread Cert.KernelCtxIdeal.nD Cert.KernelCtxIdeal.τ).loc Cert.KernelCtxIdeal.main_arg1) = m ((c.tc : Thread Cert.KernelCtxIdeal.nD Cert.KernelCtxIdeal.τ).loc Cert.KernelCtxIdeal.main_arg1)
          ∧ r.2.mem ((c.tc : Thread Cert.KernelCtxIdeal.nD Cert.KernelCtxIdeal.τ).loc Cert.KernelCtxIdeal.main_arg2) = m ((c.tc : Thread Cert.KernelCtxIdeal.nD Cert.KernelCtxIdeal.τ).loc Cert.KernelCtxIdeal.main_arg2)
          ∧ r.2.mem ((c.tc : Thread Cert.KernelCtxIdeal.nD Cert.KernelCtxIdeal.τ).loc Cert.KernelCtxIdeal.main_arg3) = m ((c.tc : Thread Cert.KernelCtxIdeal.nD Cert.KernelCtxIdeal.τ).loc Cert.KernelCtxIdeal.main_arg3))
      ∧ θ_run (Cert.ReferenceCtxIdeal.defs (F := Ideal)) (onTc (τ := Cert.ReferenceCtxIdeal.τ) (Cert.ReferenceCtxIdeal.main (F := Ideal))) ⟨m', fun _ => 0, g'⟩ (fun r => ∀ c : Dev Cert.ReferenceCtxIdeal.nD,
          r.2.mem ((c.tc : Thread Cert.ReferenceCtxIdeal.nD Cert.ReferenceCtxIdeal.τ).loc Cert.ReferenceCtxIdeal.main_v68) = v0 c
          ∧ r.2.mem ((c.tc : Thread Cert.ReferenceCtxIdeal.nD Cert.ReferenceCtxIdeal.τ).loc Cert.ReferenceCtxIdeal.main_v67) = v1 c
          ∧ r.2.mem ((c.tc : Thread Cert.ReferenceCtxIdeal.nD Cert.ReferenceCtxIdeal.τ).loc Cert.ReferenceCtxIdeal.main_v66) = v2 c
          ∧ r.2.mem ((c.tc : Thread Cert.ReferenceCtxIdeal.nD Cert.ReferenceCtxIdeal.τ).loc Cert.ReferenceCtxIdeal.main_arg0) = m' ((c.tc : Thread Cert.ReferenceCtxIdeal.nD Cert.ReferenceCtxIdeal.τ).loc Cert.ReferenceCtxIdeal.main_arg0)
          ∧ r.2.mem ((c.tc : Thread Cert.ReferenceCtxIdeal.nD Cert.ReferenceCtxIdeal.τ).loc Cert.ReferenceCtxIdeal.main_arg1) = m' ((c.tc : Thread Cert.ReferenceCtxIdeal.nD Cert.ReferenceCtxIdeal.τ).loc Cert.ReferenceCtxIdeal.main_arg1)
          ∧ r.2.mem ((c.tc : Thread Cert.ReferenceCtxIdeal.nD Cert.ReferenceCtxIdeal.τ).loc Cert.ReferenceCtxIdeal.main_arg2) = m' ((c.tc : Thread Cert.ReferenceCtxIdeal.nD Cert.ReferenceCtxIdeal.τ).loc Cert.ReferenceCtxIdeal.main_arg2)
          ∧ r.2.mem ((c.tc : Thread Cert.ReferenceCtxIdeal.nD Cert.ReferenceCtxIdeal.τ).loc Cert.ReferenceCtxIdeal.main_arg3) = m' ((c.tc : Thread Cert.ReferenceCtxIdeal.nD Cert.ReferenceCtxIdeal.τ).loc Cert.ReferenceCtxIdeal.main_arg3))

def preserves_KernelCtxFwd_KernelCtxFwdIdeal : Prop :=
  True

def algebraic_KernelCtxFwdIdeal_ReferenceCtxFwdIdeal_pre_finite_scores_ctx_fwd [hKernelCtxFwdIdeal : Cert.KernelCtxFwdIdeal.Facts] [hReferenceCtxFwdIdeal : Cert.ReferenceCtxFwdIdeal.Facts] [hPre_finite_scores_ctx_fwd : Cert.Pre_finite_scores_ctx_fwd.Facts] : Prop :=
  ∀ (m : (ℓ : Loc Cert.KernelCtxFwdIdeal.nD Cert.KernelCtxFwdIdeal.τ Cert.KernelCtxFwdIdeal.sig) → Buf (Elt Ideal) ℓ) (g : Dev Cert.KernelCtxFwdIdeal.nD → PrngReg)
    (m' : (ℓ : Loc Cert.ReferenceCtxFwdIdeal.nD Cert.ReferenceCtxFwdIdeal.τ Cert.ReferenceCtxFwdIdeal.sig) → Buf (Elt Ideal) ℓ) (g' : Dev Cert.ReferenceCtxFwdIdeal.nD → PrngReg), Pre_KernelCtxFwdIdeal_finite_scores_ctx_fwd m →
    (∀ c : Dev Cert.KernelCtxFwdIdeal.nD,
      m' ((c.tc : Thread Cert.ReferenceCtxFwdIdeal.nD Cert.ReferenceCtxFwdIdeal.τ).loc Cert.ReferenceCtxFwdIdeal.main_arg0) = m ((c.tc : Thread Cert.KernelCtxFwdIdeal.nD Cert.KernelCtxFwdIdeal.τ).loc Cert.KernelCtxFwdIdeal.main_arg0)
      ∧ m' ((c.tc : Thread Cert.ReferenceCtxFwdIdeal.nD Cert.ReferenceCtxFwdIdeal.τ).loc Cert.ReferenceCtxFwdIdeal.main_arg1) = m ((c.tc : Thread Cert.KernelCtxFwdIdeal.nD Cert.KernelCtxFwdIdeal.τ).loc Cert.KernelCtxFwdIdeal.main_arg1)
      ∧ m' ((c.tc : Thread Cert.ReferenceCtxFwdIdeal.nD Cert.ReferenceCtxFwdIdeal.τ).loc Cert.ReferenceCtxFwdIdeal.main_arg2) = m ((c.tc : Thread Cert.KernelCtxFwdIdeal.nD Cert.KernelCtxFwdIdeal.τ).loc Cert.KernelCtxFwdIdeal.main_arg2)) →
    ∃ (v0 : (c : Dev Cert.KernelCtxFwdIdeal.nD) → Buf (Elt Ideal) ((c.tc : Thread Cert.KernelCtxFwdIdeal.nD Cert.KernelCtxFwdIdeal.τ).loc Cert.KernelCtxFwdIdeal.main_v0)),
      θ_run (Cert.KernelCtxFwdIdeal.defs (F := Ideal)) (onTc (τ := Cert.KernelCtxFwdIdeal.τ) (Cert.KernelCtxFwdIdeal.main (F := Ideal))) ⟨m, fun _ => 0, g⟩ (fun r => ∀ c : Dev Cert.KernelCtxFwdIdeal.nD,
          r.2.mem ((c.tc : Thread Cert.KernelCtxFwdIdeal.nD Cert.KernelCtxFwdIdeal.τ).loc Cert.KernelCtxFwdIdeal.main_v0) = v0 c
          ∧ r.2.mem ((c.tc : Thread Cert.KernelCtxFwdIdeal.nD Cert.KernelCtxFwdIdeal.τ).loc Cert.KernelCtxFwdIdeal.main_arg0) = m ((c.tc : Thread Cert.KernelCtxFwdIdeal.nD Cert.KernelCtxFwdIdeal.τ).loc Cert.KernelCtxFwdIdeal.main_arg0)
          ∧ r.2.mem ((c.tc : Thread Cert.KernelCtxFwdIdeal.nD Cert.KernelCtxFwdIdeal.τ).loc Cert.KernelCtxFwdIdeal.main_arg1) = m ((c.tc : Thread Cert.KernelCtxFwdIdeal.nD Cert.KernelCtxFwdIdeal.τ).loc Cert.KernelCtxFwdIdeal.main_arg1)
          ∧ r.2.mem ((c.tc : Thread Cert.KernelCtxFwdIdeal.nD Cert.KernelCtxFwdIdeal.τ).loc Cert.KernelCtxFwdIdeal.main_arg2) = m ((c.tc : Thread Cert.KernelCtxFwdIdeal.nD Cert.KernelCtxFwdIdeal.τ).loc Cert.KernelCtxFwdIdeal.main_arg2))
      ∧ θ_run (Cert.ReferenceCtxFwdIdeal.defs (F := Ideal)) (onTc (τ := Cert.ReferenceCtxFwdIdeal.τ) (Cert.ReferenceCtxFwdIdeal.main (F := Ideal))) ⟨m', fun _ => 0, g'⟩ (fun r => ∀ c : Dev Cert.ReferenceCtxFwdIdeal.nD,
          r.2.mem ((c.tc : Thread Cert.ReferenceCtxFwdIdeal.nD Cert.ReferenceCtxFwdIdeal.τ).loc Cert.ReferenceCtxFwdIdeal.main_v22) = v0 c
          ∧ r.2.mem ((c.tc : Thread Cert.ReferenceCtxFwdIdeal.nD Cert.ReferenceCtxFwdIdeal.τ).loc Cert.ReferenceCtxFwdIdeal.main_arg0) = m' ((c.tc : Thread Cert.ReferenceCtxFwdIdeal.nD Cert.ReferenceCtxFwdIdeal.τ).loc Cert.ReferenceCtxFwdIdeal.main_arg0)
          ∧ r.2.mem ((c.tc : Thread Cert.ReferenceCtxFwdIdeal.nD Cert.ReferenceCtxFwdIdeal.τ).loc Cert.ReferenceCtxFwdIdeal.main_arg1) = m' ((c.tc : Thread Cert.ReferenceCtxFwdIdeal.nD Cert.ReferenceCtxFwdIdeal.τ).loc Cert.ReferenceCtxFwdIdeal.main_arg1)
          ∧ r.2.mem ((c.tc : Thread Cert.ReferenceCtxFwdIdeal.nD Cert.ReferenceCtxFwdIdeal.τ).loc Cert.ReferenceCtxFwdIdeal.main_arg2) = m' ((c.tc : Thread Cert.ReferenceCtxFwdIdeal.nD Cert.ReferenceCtxFwdIdeal.τ).loc Cert.ReferenceCtxFwdIdeal.main_arg2))

def preserves_KernelSiluFwd_KernelSiluFwdIdeal : Prop :=
  True

def algebraic_KernelSiluFwdIdeal_ReferenceSiluFwdIdeal [hKernelSiluFwdIdeal : Cert.KernelSiluFwdIdeal.Facts] [hReferenceSiluFwdIdeal : Cert.ReferenceSiluFwdIdeal.Facts] : Prop :=
  ∀ (m : (ℓ : Loc Cert.KernelSiluFwdIdeal.nD Cert.KernelSiluFwdIdeal.τ Cert.KernelSiluFwdIdeal.sig) → Buf (Elt Ideal) ℓ) (g : Dev Cert.KernelSiluFwdIdeal.nD → PrngReg)
    (m' : (ℓ : Loc Cert.ReferenceSiluFwdIdeal.nD Cert.ReferenceSiluFwdIdeal.τ Cert.ReferenceSiluFwdIdeal.sig) → Buf (Elt Ideal) ℓ) (g' : Dev Cert.ReferenceSiluFwdIdeal.nD → PrngReg), Pre_KernelSiluFwdIdeal m →
    (∀ c : Dev Cert.KernelSiluFwdIdeal.nD,
      m' ((c.tc : Thread Cert.ReferenceSiluFwdIdeal.nD Cert.ReferenceSiluFwdIdeal.τ).loc Cert.ReferenceSiluFwdIdeal.main_arg0) = m ((c.tc : Thread Cert.KernelSiluFwdIdeal.nD Cert.KernelSiluFwdIdeal.τ).loc Cert.KernelSiluFwdIdeal.main_arg0)
      ∧ m' ((c.tc : Thread Cert.ReferenceSiluFwdIdeal.nD Cert.ReferenceSiluFwdIdeal.τ).loc Cert.ReferenceSiluFwdIdeal.main_arg1) = m ((c.tc : Thread Cert.KernelSiluFwdIdeal.nD Cert.KernelSiluFwdIdeal.τ).loc Cert.KernelSiluFwdIdeal.main_arg1)) →
    ∃ (v0 : (c : Dev Cert.KernelSiluFwdIdeal.nD) → Buf (Elt Ideal) ((c.tc : Thread Cert.KernelSiluFwdIdeal.nD Cert.KernelSiluFwdIdeal.τ).loc Cert.KernelSiluFwdIdeal.main_v0)),
      θ_run (Cert.KernelSiluFwdIdeal.defs (F := Ideal)) (onTc (τ := Cert.KernelSiluFwdIdeal.τ) (Cert.KernelSiluFwdIdeal.main (F := Ideal))) ⟨m, fun _ => 0, g⟩ (fun r => ∀ c : Dev Cert.KernelSiluFwdIdeal.nD,
          r.2.mem ((c.tc : Thread Cert.KernelSiluFwdIdeal.nD Cert.KernelSiluFwdIdeal.τ).loc Cert.KernelSiluFwdIdeal.main_v0) = v0 c
          ∧ r.2.mem ((c.tc : Thread Cert.KernelSiluFwdIdeal.nD Cert.KernelSiluFwdIdeal.τ).loc Cert.KernelSiluFwdIdeal.main_arg0) = m ((c.tc : Thread Cert.KernelSiluFwdIdeal.nD Cert.KernelSiluFwdIdeal.τ).loc Cert.KernelSiluFwdIdeal.main_arg0)
          ∧ r.2.mem ((c.tc : Thread Cert.KernelSiluFwdIdeal.nD Cert.KernelSiluFwdIdeal.τ).loc Cert.KernelSiluFwdIdeal.main_arg1) = m ((c.tc : Thread Cert.KernelSiluFwdIdeal.nD Cert.KernelSiluFwdIdeal.τ).loc Cert.KernelSiluFwdIdeal.main_arg1))
      ∧ θ_run (Cert.ReferenceSiluFwdIdeal.defs (F := Ideal)) (onTc (τ := Cert.ReferenceSiluFwdIdeal.τ) (Cert.ReferenceSiluFwdIdeal.main (F := Ideal))) ⟨m', fun _ => 0, g'⟩ (fun r => ∀ c : Dev Cert.ReferenceSiluFwdIdeal.nD,
          r.2.mem ((c.tc : Thread Cert.ReferenceSiluFwdIdeal.nD Cert.ReferenceSiluFwdIdeal.τ).loc Cert.ReferenceSiluFwdIdeal.main_v1) = v0 c
          ∧ r.2.mem ((c.tc : Thread Cert.ReferenceSiluFwdIdeal.nD Cert.ReferenceSiluFwdIdeal.τ).loc Cert.ReferenceSiluFwdIdeal.main_arg0) = m' ((c.tc : Thread Cert.ReferenceSiluFwdIdeal.nD Cert.ReferenceSiluFwdIdeal.τ).loc Cert.ReferenceSiluFwdIdeal.main_arg0)
          ∧ r.2.mem ((c.tc : Thread Cert.ReferenceSiluFwdIdeal.nD Cert.ReferenceSiluFwdIdeal.τ).loc Cert.ReferenceSiluFwdIdeal.main_arg1) = m' ((c.tc : Thread Cert.ReferenceSiluFwdIdeal.nD Cert.ReferenceSiluFwdIdeal.τ).loc Cert.ReferenceSiluFwdIdeal.main_arg1))

def preserves_KernelGluFwd_KernelGluFwdIdeal : Prop :=
  True

def algebraic_KernelGluFwdIdeal_ReferenceGluFwdIdeal [hKernelGluFwdIdeal : Cert.KernelGluFwdIdeal.Facts] [hReferenceGluFwdIdeal : Cert.ReferenceGluFwdIdeal.Facts] : Prop :=
  ∀ (m : (ℓ : Loc Cert.KernelGluFwdIdeal.nD Cert.KernelGluFwdIdeal.τ Cert.KernelGluFwdIdeal.sig) → Buf (Elt Ideal) ℓ) (g : Dev Cert.KernelGluFwdIdeal.nD → PrngReg)
    (m' : (ℓ : Loc Cert.ReferenceGluFwdIdeal.nD Cert.ReferenceGluFwdIdeal.τ Cert.ReferenceGluFwdIdeal.sig) → Buf (Elt Ideal) ℓ) (g' : Dev Cert.ReferenceGluFwdIdeal.nD → PrngReg), Pre_KernelGluFwdIdeal m →
    (∀ c : Dev Cert.KernelGluFwdIdeal.nD,
      m' ((c.tc : Thread Cert.ReferenceGluFwdIdeal.nD Cert.ReferenceGluFwdIdeal.τ).loc Cert.ReferenceGluFwdIdeal.main_arg0) = m ((c.tc : Thread Cert.KernelGluFwdIdeal.nD Cert.KernelGluFwdIdeal.τ).loc Cert.KernelGluFwdIdeal.main_arg0)
      ∧ m' ((c.tc : Thread Cert.ReferenceGluFwdIdeal.nD Cert.ReferenceGluFwdIdeal.τ).loc Cert.ReferenceGluFwdIdeal.main_arg1) = m ((c.tc : Thread Cert.KernelGluFwdIdeal.nD Cert.KernelGluFwdIdeal.τ).loc Cert.KernelGluFwdIdeal.main_arg1)) →
    ∃ (v0 : (c : Dev Cert.KernelGluFwdIdeal.nD) → Buf (Elt Ideal) ((c.tc : Thread Cert.KernelGluFwdIdeal.nD Cert.KernelGluFwdIdeal.τ).loc Cert.KernelGluFwdIdeal.main_v0)),
      θ_run (Cert.KernelGluFwdIdeal.defs (F := Ideal)) (onTc (τ := Cert.KernelGluFwdIdeal.τ) (Cert.KernelGluFwdIdeal.main (F := Ideal))) ⟨m, fun _ => 0, g⟩ (fun r => ∀ c : Dev Cert.KernelGluFwdIdeal.nD,
          r.2.mem ((c.tc : Thread Cert.KernelGluFwdIdeal.nD Cert.KernelGluFwdIdeal.τ).loc Cert.KernelGluFwdIdeal.main_v0) = v0 c
          ∧ r.2.mem ((c.tc : Thread Cert.KernelGluFwdIdeal.nD Cert.KernelGluFwdIdeal.τ).loc Cert.KernelGluFwdIdeal.main_arg0) = m ((c.tc : Thread Cert.KernelGluFwdIdeal.nD Cert.KernelGluFwdIdeal.τ).loc Cert.KernelGluFwdIdeal.main_arg0)
          ∧ r.2.mem ((c.tc : Thread Cert.KernelGluFwdIdeal.nD Cert.KernelGluFwdIdeal.τ).loc Cert.KernelGluFwdIdeal.main_arg1) = m ((c.tc : Thread Cert.KernelGluFwdIdeal.nD Cert.KernelGluFwdIdeal.τ).loc Cert.KernelGluFwdIdeal.main_arg1))
      ∧ θ_run (Cert.ReferenceGluFwdIdeal.defs (F := Ideal)) (onTc (τ := Cert.ReferenceGluFwdIdeal.τ) (Cert.ReferenceGluFwdIdeal.main (F := Ideal))) ⟨m', fun _ => 0, g'⟩ (fun r => ∀ c : Dev Cert.ReferenceGluFwdIdeal.nD,
          r.2.mem ((c.tc : Thread Cert.ReferenceGluFwdIdeal.nD Cert.ReferenceGluFwdIdeal.τ).loc Cert.ReferenceGluFwdIdeal.main_v6) = v0 c
          ∧ r.2.mem ((c.tc : Thread Cert.ReferenceGluFwdIdeal.nD Cert.ReferenceGluFwdIdeal.τ).loc Cert.ReferenceGluFwdIdeal.main_arg0) = m' ((c.tc : Thread Cert.ReferenceGluFwdIdeal.nD Cert.ReferenceGluFwdIdeal.τ).loc Cert.ReferenceGluFwdIdeal.main_arg0)
          ∧ r.2.mem ((c.tc : Thread Cert.ReferenceGluFwdIdeal.nD Cert.ReferenceGluFwdIdeal.τ).loc Cert.ReferenceGluFwdIdeal.main_arg1) = m' ((c.tc : Thread Cert.ReferenceGluFwdIdeal.nD Cert.ReferenceGluFwdIdeal.τ).loc Cert.ReferenceGluFwdIdeal.main_arg1))

def preserves_KernelAdamSq_KernelAdamSqIdeal : Prop :=
  True

def algebraic_KernelAdamSqIdeal_ReferenceAdamSqIdeal [hKernelAdamSqIdeal : Cert.KernelAdamSqIdeal.Facts] [hReferenceAdamSqIdeal : Cert.ReferenceAdamSqIdeal.Facts] : Prop :=
  ∀ (m : (ℓ : Loc Cert.KernelAdamSqIdeal.nD Cert.KernelAdamSqIdeal.τ Cert.KernelAdamSqIdeal.sig) → Buf (Elt Ideal) ℓ) (g : Dev Cert.KernelAdamSqIdeal.nD → PrngReg)
    (m' : (ℓ : Loc Cert.ReferenceAdamSqIdeal.nD Cert.ReferenceAdamSqIdeal.τ Cert.ReferenceAdamSqIdeal.sig) → Buf (Elt Ideal) ℓ) (g' : Dev Cert.ReferenceAdamSqIdeal.nD → PrngReg), Pre_KernelAdamSqIdeal m →
    (∀ c : Dev Cert.KernelAdamSqIdeal.nD,
      m' ((c.tc : Thread Cert.ReferenceAdamSqIdeal.nD Cert.ReferenceAdamSqIdeal.τ).loc Cert.ReferenceAdamSqIdeal.main_arg0) = m ((c.tc : Thread Cert.KernelAdamSqIdeal.nD Cert.KernelAdamSqIdeal.τ).loc Cert.KernelAdamSqIdeal.main_arg0)
      ∧ m' ((c.tc : Thread Cert.ReferenceAdamSqIdeal.nD Cert.ReferenceAdamSqIdeal.τ).loc Cert.ReferenceAdamSqIdeal.main_arg1) = m ((c.tc : Thread Cert.KernelAdamSqIdeal.nD Cert.KernelAdamSqIdeal.τ).loc Cert.KernelAdamSqIdeal.main_arg1)
      ∧ m' ((c.tc : Thread Cert.ReferenceAdamSqIdeal.nD Cert.ReferenceAdamSqIdeal.τ).loc Cert.ReferenceAdamSqIdeal.main_arg2) = m ((c.tc : Thread Cert.KernelAdamSqIdeal.nD Cert.KernelAdamSqIdeal.τ).loc Cert.KernelAdamSqIdeal.main_arg2)
      ∧ m' ((c.tc : Thread Cert.ReferenceAdamSqIdeal.nD Cert.ReferenceAdamSqIdeal.τ).loc Cert.ReferenceAdamSqIdeal.main_arg3) = m ((c.tc : Thread Cert.KernelAdamSqIdeal.nD Cert.KernelAdamSqIdeal.τ).loc Cert.KernelAdamSqIdeal.main_arg3)) →
    ∃ (v0 : (c : Dev Cert.KernelAdamSqIdeal.nD) → Buf (Elt Ideal) ((c.tc : Thread Cert.KernelAdamSqIdeal.nD Cert.KernelAdamSqIdeal.τ).loc Cert.KernelAdamSqIdeal.main_v4_0)) (v1 : (c : Dev Cert.KernelAdamSqIdeal.nD) → Buf (Elt Ideal) ((c.tc : Thread Cert.KernelAdamSqIdeal.nD Cert.KernelAdamSqIdeal.τ).loc Cert.KernelAdamSqIdeal.main_v4_1)) (v2 : (c : Dev Cert.KernelAdamSqIdeal.nD) → Buf (Elt Ideal) ((c.tc : Thread Cert.KernelAdamSqIdeal.nD Cert.KernelAdamSqIdeal.τ).loc Cert.KernelAdamSqIdeal.main_v4_2)),
      θ_run (Cert.KernelAdamSqIdeal.defs (F := Ideal)) (onTc (τ := Cert.KernelAdamSqIdeal.τ) (Cert.KernelAdamSqIdeal.main (F := Ideal))) ⟨m, fun _ => 0, g⟩ (fun r => ∀ c : Dev Cert.KernelAdamSqIdeal.nD,
          r.2.mem ((c.tc : Thread Cert.KernelAdamSqIdeal.nD Cert.KernelAdamSqIdeal.τ).loc Cert.KernelAdamSqIdeal.main_v4_0) = v0 c
          ∧ r.2.mem ((c.tc : Thread Cert.KernelAdamSqIdeal.nD Cert.KernelAdamSqIdeal.τ).loc Cert.KernelAdamSqIdeal.main_v4_1) = v1 c
          ∧ r.2.mem ((c.tc : Thread Cert.KernelAdamSqIdeal.nD Cert.KernelAdamSqIdeal.τ).loc Cert.KernelAdamSqIdeal.main_v4_2) = v2 c
          ∧ r.2.mem ((c.tc : Thread Cert.KernelAdamSqIdeal.nD Cert.KernelAdamSqIdeal.τ).loc Cert.KernelAdamSqIdeal.main_arg0) = m ((c.tc : Thread Cert.KernelAdamSqIdeal.nD Cert.KernelAdamSqIdeal.τ).loc Cert.KernelAdamSqIdeal.main_arg0)
          ∧ r.2.mem ((c.tc : Thread Cert.KernelAdamSqIdeal.nD Cert.KernelAdamSqIdeal.τ).loc Cert.KernelAdamSqIdeal.main_arg1) = m ((c.tc : Thread Cert.KernelAdamSqIdeal.nD Cert.KernelAdamSqIdeal.τ).loc Cert.KernelAdamSqIdeal.main_arg1)
          ∧ r.2.mem ((c.tc : Thread Cert.KernelAdamSqIdeal.nD Cert.KernelAdamSqIdeal.τ).loc Cert.KernelAdamSqIdeal.main_arg2) = m ((c.tc : Thread Cert.KernelAdamSqIdeal.nD Cert.KernelAdamSqIdeal.τ).loc Cert.KernelAdamSqIdeal.main_arg2)
          ∧ r.2.mem ((c.tc : Thread Cert.KernelAdamSqIdeal.nD Cert.KernelAdamSqIdeal.τ).loc Cert.KernelAdamSqIdeal.main_arg3) = m ((c.tc : Thread Cert.KernelAdamSqIdeal.nD Cert.KernelAdamSqIdeal.τ).loc Cert.KernelAdamSqIdeal.main_arg3))
      ∧ θ_run (Cert.ReferenceAdamSqIdeal.defs (F := Ideal)) (onTc (τ := Cert.ReferenceAdamSqIdeal.τ) (Cert.ReferenceAdamSqIdeal.main (F := Ideal))) ⟨m', fun _ => 0, g'⟩ (fun r => ∀ c : Dev Cert.ReferenceAdamSqIdeal.nD,
          r.2.mem ((c.tc : Thread Cert.ReferenceAdamSqIdeal.nD Cert.ReferenceAdamSqIdeal.τ).loc Cert.ReferenceAdamSqIdeal.main_v24) = v0 c
          ∧ r.2.mem ((c.tc : Thread Cert.ReferenceAdamSqIdeal.nD Cert.ReferenceAdamSqIdeal.τ).loc Cert.ReferenceAdamSqIdeal.main_v25) = v1 c
          ∧ r.2.mem ((c.tc : Thread Cert.ReferenceAdamSqIdeal.nD Cert.ReferenceAdamSqIdeal.τ).loc Cert.ReferenceAdamSqIdeal.main_v26) = v2 c
          ∧ r.2.mem ((c.tc : Thread Cert.ReferenceAdamSqIdeal.nD Cert.ReferenceAdamSqIdeal.τ).loc Cert.ReferenceAdamSqIdeal.main_arg0) = m' ((c.tc : Thread Cert.ReferenceAdamSqIdeal.nD Cert.ReferenceAdamSqIdeal.τ).loc Cert.ReferenceAdamSqIdeal.main_arg0)
          ∧ r.2.mem ((c.tc : Thread Cert.ReferenceAdamSqIdeal.nD Cert.ReferenceAdamSqIdeal.τ).loc Cert.ReferenceAdamSqIdeal.main_arg1) = m' ((c.tc : Thread Cert.ReferenceAdamSqIdeal.nD Cert.ReferenceAdamSqIdeal.τ).loc Cert.ReferenceAdamSqIdeal.main_arg1)
          ∧ r.2.mem ((c.tc : Thread Cert.ReferenceAdamSqIdeal.nD Cert.ReferenceAdamSqIdeal.τ).loc Cert.ReferenceAdamSqIdeal.main_arg2) = m' ((c.tc : Thread Cert.ReferenceAdamSqIdeal.nD Cert.ReferenceAdamSqIdeal.τ).loc Cert.ReferenceAdamSqIdeal.main_arg2)
          ∧ r.2.mem ((c.tc : Thread Cert.ReferenceAdamSqIdeal.nD Cert.ReferenceAdamSqIdeal.τ).loc Cert.ReferenceAdamSqIdeal.main_arg3) = m' ((c.tc : Thread Cert.ReferenceAdamSqIdeal.nD Cert.ReferenceAdamSqIdeal.τ).loc Cert.ReferenceAdamSqIdeal.main_arg3))

def preserves_KernelAdamVec_KernelAdamVecIdeal : Prop :=
  True

def algebraic_KernelAdamVecIdeal_ReferenceAdamVecIdeal [hKernelAdamVecIdeal : Cert.KernelAdamVecIdeal.Facts] [hReferenceAdamVecIdeal : Cert.ReferenceAdamVecIdeal.Facts] : Prop :=
  ∀ (m : (ℓ : Loc Cert.KernelAdamVecIdeal.nD Cert.KernelAdamVecIdeal.τ Cert.KernelAdamVecIdeal.sig) → Buf (Elt Ideal) ℓ) (g : Dev Cert.KernelAdamVecIdeal.nD → PrngReg)
    (m' : (ℓ : Loc Cert.ReferenceAdamVecIdeal.nD Cert.ReferenceAdamVecIdeal.τ Cert.ReferenceAdamVecIdeal.sig) → Buf (Elt Ideal) ℓ) (g' : Dev Cert.ReferenceAdamVecIdeal.nD → PrngReg), Pre_KernelAdamVecIdeal m →
    (∀ c : Dev Cert.KernelAdamVecIdeal.nD,
      m' ((c.tc : Thread Cert.ReferenceAdamVecIdeal.nD Cert.ReferenceAdamVecIdeal.τ).loc Cert.ReferenceAdamVecIdeal.main_arg0) = m ((c.tc : Thread Cert.KernelAdamVecIdeal.nD Cert.KernelAdamVecIdeal.τ).loc Cert.KernelAdamVecIdeal.main_arg0)
      ∧ m' ((c.tc : Thread Cert.ReferenceAdamVecIdeal.nD Cert.ReferenceAdamVecIdeal.τ).loc Cert.ReferenceAdamVecIdeal.main_arg1) = m ((c.tc : Thread Cert.KernelAdamVecIdeal.nD Cert.KernelAdamVecIdeal.τ).loc Cert.KernelAdamVecIdeal.main_arg1)
      ∧ m' ((c.tc : Thread Cert.ReferenceAdamVecIdeal.nD Cert.ReferenceAdamVecIdeal.τ).loc Cert.ReferenceAdamVecIdeal.main_arg2) = m ((c.tc : Thread Cert.KernelAdamVecIdeal.nD Cert.KernelAdamVecIdeal.τ).loc Cert.KernelAdamVecIdeal.main_arg2)
      ∧ m' ((c.tc : Thread Cert.ReferenceAdamVecIdeal.nD Cert.ReferenceAdamVecIdeal.τ).loc Cert.ReferenceAdamVecIdeal.main_arg3) = m ((c.tc : Thread Cert.KernelAdamVecIdeal.nD Cert.KernelAdamVecIdeal.τ).loc Cert.KernelAdamVecIdeal.main_arg3)) →
    ∃ (v0 : (c : Dev Cert.KernelAdamVecIdeal.nD) → Buf (Elt Ideal) ((c.tc : Thread Cert.KernelAdamVecIdeal.nD Cert.KernelAdamVecIdeal.τ).loc Cert.KernelAdamVecIdeal.main_v0_0)) (v1 : (c : Dev Cert.KernelAdamVecIdeal.nD) → Buf (Elt Ideal) ((c.tc : Thread Cert.KernelAdamVecIdeal.nD Cert.KernelAdamVecIdeal.τ).loc Cert.KernelAdamVecIdeal.main_v0_1)) (v2 : (c : Dev Cert.KernelAdamVecIdeal.nD) → Buf (Elt Ideal) ((c.tc : Thread Cert.KernelAdamVecIdeal.nD Cert.KernelAdamVecIdeal.τ).loc Cert.KernelAdamVecIdeal.main_v0_2)),
      θ_run (Cert.KernelAdamVecIdeal.defs (F := Ideal)) (onTc (τ := Cert.KernelAdamVecIdeal.τ) (Cert.KernelAdamVecIdeal.main (F := Ideal))) ⟨m, fun _ => 0, g⟩ (fun r => ∀ c : Dev Cert.KernelAdamVecIdeal.nD,
          r.2.mem ((c.tc : Thread Cert.KernelAdamVecIdeal.nD Cert.KernelAdamVecIdeal.τ).loc Cert.KernelAdamVecIdeal.main_v0_0) = v0 c
          ∧ r.2.mem ((c.tc : Thread Cert.KernelAdamVecIdeal.nD Cert.KernelAdamVecIdeal.τ).loc Cert.KernelAdamVecIdeal.main_v0_1) = v1 c
          ∧ r.2.mem ((c.tc : Thread Cert.KernelAdamVecIdeal.nD Cert.KernelAdamVecIdeal.τ).loc Cert.KernelAdamVecIdeal.main_v0_2) = v2 c
          ∧ r.2.mem ((c.tc : Thread Cert.KernelAdamVecIdeal.nD Cert.KernelAdamVecIdeal.τ).loc Cert.KernelAdamVecIdeal.main_arg0) = m ((c.tc : Thread Cert.KernelAdamVecIdeal.nD Cert.KernelAdamVecIdeal.τ).loc Cert.KernelAdamVecIdeal.main_arg0)
          ∧ r.2.mem ((c.tc : Thread Cert.KernelAdamVecIdeal.nD Cert.KernelAdamVecIdeal.τ).loc Cert.KernelAdamVecIdeal.main_arg1) = m ((c.tc : Thread Cert.KernelAdamVecIdeal.nD Cert.KernelAdamVecIdeal.τ).loc Cert.KernelAdamVecIdeal.main_arg1)
          ∧ r.2.mem ((c.tc : Thread Cert.KernelAdamVecIdeal.nD Cert.KernelAdamVecIdeal.τ).loc Cert.KernelAdamVecIdeal.main_arg2) = m ((c.tc : Thread Cert.KernelAdamVecIdeal.nD Cert.KernelAdamVecIdeal.τ).loc Cert.KernelAdamVecIdeal.main_arg2)
          ∧ r.2.mem ((c.tc : Thread Cert.KernelAdamVecIdeal.nD Cert.KernelAdamVecIdeal.τ).loc Cert.KernelAdamVecIdeal.main_arg3) = m ((c.tc : Thread Cert.KernelAdamVecIdeal.nD Cert.KernelAdamVecIdeal.τ).loc Cert.KernelAdamVecIdeal.main_arg3))
      ∧ θ_run (Cert.ReferenceAdamVecIdeal.defs (F := Ideal)) (onTc (τ := Cert.ReferenceAdamVecIdeal.τ) (Cert.ReferenceAdamVecIdeal.main (F := Ideal))) ⟨m', fun _ => 0, g'⟩ (fun r => ∀ c : Dev Cert.ReferenceAdamVecIdeal.nD,
          r.2.mem ((c.tc : Thread Cert.ReferenceAdamVecIdeal.nD Cert.ReferenceAdamVecIdeal.τ).loc Cert.ReferenceAdamVecIdeal.main_v23) = v0 c
          ∧ r.2.mem ((c.tc : Thread Cert.ReferenceAdamVecIdeal.nD Cert.ReferenceAdamVecIdeal.τ).loc Cert.ReferenceAdamVecIdeal.main_v4) = v1 c
          ∧ r.2.mem ((c.tc : Thread Cert.ReferenceAdamVecIdeal.nD Cert.ReferenceAdamVecIdeal.τ).loc Cert.ReferenceAdamVecIdeal.main_v10) = v2 c
          ∧ r.2.mem ((c.tc : Thread Cert.ReferenceAdamVecIdeal.nD Cert.ReferenceAdamVecIdeal.τ).loc Cert.ReferenceAdamVecIdeal.main_arg0) = m' ((c.tc : Thread Cert.ReferenceAdamVecIdeal.nD Cert.ReferenceAdamVecIdeal.τ).loc Cert.ReferenceAdamVecIdeal.main_arg0)
          ∧ r.2.mem ((c.tc : Thread Cert.ReferenceAdamVecIdeal.nD Cert.ReferenceAdamVecIdeal.τ).loc Cert.ReferenceAdamVecIdeal.main_arg1) = m' ((c.tc : Thread Cert.ReferenceAdamVecIdeal.nD Cert.ReferenceAdamVecIdeal.τ).loc Cert.ReferenceAdamVecIdeal.main_arg1)
          ∧ r.2.mem ((c.tc : Thread Cert.ReferenceAdamVecIdeal.nD Cert.ReferenceAdamVecIdeal.τ).loc Cert.ReferenceAdamVecIdeal.main_arg2) = m' ((c.tc : Thread Cert.ReferenceAdamVecIdeal.nD Cert.ReferenceAdamVecIdeal.τ).loc Cert.ReferenceAdamVecIdeal.main_arg2)
          ∧ r.2.mem ((c.tc : Thread Cert.ReferenceAdamVecIdeal.nD Cert.ReferenceAdamVecIdeal.τ).loc Cert.ReferenceAdamVecIdeal.main_arg3) = m' ((c.tc : Thread Cert.ReferenceAdamVecIdeal.nD Cert.ReferenceAdamVecIdeal.τ).loc Cert.ReferenceAdamVecIdeal.main_arg3))

def preserves_KernelModFwd_KernelModFwdIdeal : Prop :=
  True

def algebraic_KernelModFwdIdeal_ReferenceModFwdIdeal [hKernelModFwdIdeal : Cert.KernelModFwdIdeal.Facts] [hReferenceModFwdIdeal : Cert.ReferenceModFwdIdeal.Facts] : Prop :=
  ∀ (m : (ℓ : Loc Cert.KernelModFwdIdeal.nD Cert.KernelModFwdIdeal.τ Cert.KernelModFwdIdeal.sig) → Buf (Elt Ideal) ℓ) (g : Dev Cert.KernelModFwdIdeal.nD → PrngReg)
    (m' : (ℓ : Loc Cert.ReferenceModFwdIdeal.nD Cert.ReferenceModFwdIdeal.τ Cert.ReferenceModFwdIdeal.sig) → Buf (Elt Ideal) ℓ) (g' : Dev Cert.ReferenceModFwdIdeal.nD → PrngReg), Pre_KernelModFwdIdeal m →
    (∀ c : Dev Cert.KernelModFwdIdeal.nD,
      m' ((c.tc : Thread Cert.ReferenceModFwdIdeal.nD Cert.ReferenceModFwdIdeal.τ).loc Cert.ReferenceModFwdIdeal.main_arg0) = m ((c.tc : Thread Cert.KernelModFwdIdeal.nD Cert.KernelModFwdIdeal.τ).loc Cert.KernelModFwdIdeal.main_arg0)
      ∧ m' ((c.tc : Thread Cert.ReferenceModFwdIdeal.nD Cert.ReferenceModFwdIdeal.τ).loc Cert.ReferenceModFwdIdeal.main_arg1) = m ((c.tc : Thread Cert.KernelModFwdIdeal.nD Cert.KernelModFwdIdeal.τ).loc Cert.KernelModFwdIdeal.main_arg1)
      ∧ m' ((c.tc : Thread Cert.ReferenceModFwdIdeal.nD Cert.ReferenceModFwdIdeal.τ).loc Cert.ReferenceModFwdIdeal.main_arg2) = m ((c.tc : Thread Cert.KernelModFwdIdeal.nD Cert.KernelModFwdIdeal.τ).loc Cert.KernelModFwdIdeal.main_arg2)) →
    ∃ (v0 : (c : Dev Cert.KernelModFwdIdeal.nD) → Buf (Elt Ideal) ((c.tc : Thread Cert.KernelModFwdIdeal.nD Cert.KernelModFwdIdeal.τ).loc Cert.KernelModFwdIdeal.main_v0)),
      θ_run (Cert.KernelModFwdIdeal.defs (F := Ideal)) (onTc (τ := Cert.KernelModFwdIdeal.τ) (Cert.KernelModFwdIdeal.main (F := Ideal))) ⟨m, fun _ => 0, g⟩ (fun r => ∀ c : Dev Cert.KernelModFwdIdeal.nD,
          r.2.mem ((c.tc : Thread Cert.KernelModFwdIdeal.nD Cert.KernelModFwdIdeal.τ).loc Cert.KernelModFwdIdeal.main_v0) = v0 c
          ∧ r.2.mem ((c.tc : Thread Cert.KernelModFwdIdeal.nD Cert.KernelModFwdIdeal.τ).loc Cert.KernelModFwdIdeal.main_arg0) = m ((c.tc : Thread Cert.KernelModFwdIdeal.nD Cert.KernelModFwdIdeal.τ).loc Cert.KernelModFwdIdeal.main_arg0)
          ∧ r.2.mem ((c.tc : Thread Cert.KernelModFwdIdeal.nD Cert.KernelModFwdIdeal.τ).loc Cert.KernelModFwdIdeal.main_arg1) = m ((c.tc : Thread Cert.KernelModFwdIdeal.nD Cert.KernelModFwdIdeal.τ).loc Cert.KernelModFwdIdeal.main_arg1)
          ∧ r.2.mem ((c.tc : Thread Cert.KernelModFwdIdeal.nD Cert.KernelModFwdIdeal.τ).loc Cert.KernelModFwdIdeal.main_arg2) = m ((c.tc : Thread Cert.KernelModFwdIdeal.nD Cert.KernelModFwdIdeal.τ).loc Cert.KernelModFwdIdeal.main_arg2))
      ∧ θ_run (Cert.ReferenceModFwdIdeal.defs (F := Ideal)) (onTc (τ := Cert.ReferenceModFwdIdeal.τ) (Cert.ReferenceModFwdIdeal.main (F := Ideal))) ⟨m', fun _ => 0, g'⟩ (fun r => ∀ c : Dev Cert.ReferenceModFwdIdeal.nD,
          r.2.mem ((c.tc : Thread Cert.ReferenceModFwdIdeal.nD Cert.ReferenceModFwdIdeal.τ).loc Cert.ReferenceModFwdIdeal.main_v22) = v0 c
          ∧ r.2.mem ((c.tc : Thread Cert.ReferenceModFwdIdeal.nD Cert.ReferenceModFwdIdeal.τ).loc Cert.ReferenceModFwdIdeal.main_arg0) = m' ((c.tc : Thread Cert.ReferenceModFwdIdeal.nD Cert.ReferenceModFwdIdeal.τ).loc Cert.ReferenceModFwdIdeal.main_arg0)
          ∧ r.2.mem ((c.tc : Thread Cert.ReferenceModFwdIdeal.nD Cert.ReferenceModFwdIdeal.τ).loc Cert.ReferenceModFwdIdeal.main_arg1) = m' ((c.tc : Thread Cert.ReferenceModFwdIdeal.nD Cert.ReferenceModFwdIdeal.τ).loc Cert.ReferenceModFwdIdeal.main_arg1)
          ∧ r.2.mem ((c.tc : Thread Cert.ReferenceModFwdIdeal.nD Cert.ReferenceModFwdIdeal.τ).loc Cert.ReferenceModFwdIdeal.main_arg2) = m' ((c.tc : Thread Cert.ReferenceModFwdIdeal.nD Cert.ReferenceModFwdIdeal.τ).loc Cert.ReferenceModFwdIdeal.main_arg2))

def preserves_KernelMergeFwd_KernelMergeFwdIdeal : Prop :=
  True

def algebraic_KernelMergeFwdIdeal_ReferenceMergeFwdIdeal [hKernelMergeFwdIdeal : Cert.KernelMergeFwdIdeal.Facts] [hReferenceMergeFwdIdeal : Cert.ReferenceMergeFwdIdeal.Facts] : Prop :=
  ∀ (m : (ℓ : Loc Cert.KernelMergeFwdIdeal.nD Cert.KernelMergeFwdIdeal.τ Cert.KernelMergeFwdIdeal.sig) → Buf (Elt Ideal) ℓ) (g : Dev Cert.KernelMergeFwdIdeal.nD → PrngReg)
    (m' : (ℓ : Loc Cert.ReferenceMergeFwdIdeal.nD Cert.ReferenceMergeFwdIdeal.τ Cert.ReferenceMergeFwdIdeal.sig) → Buf (Elt Ideal) ℓ) (g' : Dev Cert.ReferenceMergeFwdIdeal.nD → PrngReg), Pre_KernelMergeFwdIdeal m →
    (∀ c : Dev Cert.KernelMergeFwdIdeal.nD,
      m' ((c.tc : Thread Cert.ReferenceMergeFwdIdeal.nD Cert.ReferenceMergeFwdIdeal.τ).loc Cert.ReferenceMergeFwdIdeal.main_arg0) = m ((c.tc : Thread Cert.KernelMergeFwdIdeal.nD Cert.KernelMergeFwdIdeal.τ).loc Cert.KernelMergeFwdIdeal.main_arg0)
      ∧ m' ((c.tc : Thread Cert.ReferenceMergeFwdIdeal.nD Cert.ReferenceMergeFwdIdeal.τ).loc Cert.ReferenceMergeFwdIdeal.main_arg1) = m ((c.tc : Thread Cert.KernelMergeFwdIdeal.nD Cert.KernelMergeFwdIdeal.τ).loc Cert.KernelMergeFwdIdeal.main_arg1)
      ∧ m' ((c.tc : Thread Cert.ReferenceMergeFwdIdeal.nD Cert.ReferenceMergeFwdIdeal.τ).loc Cert.ReferenceMergeFwdIdeal.main_arg2) = m ((c.tc : Thread Cert.KernelMergeFwdIdeal.nD Cert.KernelMergeFwdIdeal.τ).loc Cert.KernelMergeFwdIdeal.main_arg2)
      ∧ m' ((c.tc : Thread Cert.ReferenceMergeFwdIdeal.nD Cert.ReferenceMergeFwdIdeal.τ).loc Cert.ReferenceMergeFwdIdeal.main_arg3) = m ((c.tc : Thread Cert.KernelMergeFwdIdeal.nD Cert.KernelMergeFwdIdeal.τ).loc Cert.KernelMergeFwdIdeal.main_arg3)
      ∧ m' ((c.tc : Thread Cert.ReferenceMergeFwdIdeal.nD Cert.ReferenceMergeFwdIdeal.τ).loc Cert.ReferenceMergeFwdIdeal.main_arg4) = m ((c.tc : Thread Cert.KernelMergeFwdIdeal.nD Cert.KernelMergeFwdIdeal.τ).loc Cert.KernelMergeFwdIdeal.main_arg4)
      ∧ m' ((c.tc : Thread Cert.ReferenceMergeFwdIdeal.nD Cert.ReferenceMergeFwdIdeal.τ).loc Cert.ReferenceMergeFwdIdeal.main_arg5) = m ((c.tc : Thread Cert.KernelMergeFwdIdeal.nD Cert.KernelMergeFwdIdeal.τ).loc Cert.KernelMergeFwdIdeal.main_arg5)
      ∧ m' ((c.tc : Thread Cert.ReferenceMergeFwdIdeal.nD Cert.ReferenceMergeFwdIdeal.τ).loc Cert.ReferenceMergeFwdIdeal.main_arg6) = m ((c.tc : Thread Cert.KernelMergeFwdIdeal.nD Cert.KernelMergeFwdIdeal.τ).loc Cert.KernelMergeFwdIdeal.main_arg6)) →
    ∃ (v0 : (c : Dev Cert.KernelMergeFwdIdeal.nD) → Buf (Elt Ideal) ((c.tc : Thread Cert.KernelMergeFwdIdeal.nD Cert.KernelMergeFwdIdeal.τ).loc Cert.KernelMergeFwdIdeal.main_v2)),
      θ_run (Cert.KernelMergeFwdIdeal.defs (F := Ideal)) (onTc (τ := Cert.KernelMergeFwdIdeal.τ) (Cert.KernelMergeFwdIdeal.main (F := Ideal))) ⟨m, fun _ => 0, g⟩ (fun r => ∀ c : Dev Cert.KernelMergeFwdIdeal.nD,
          r.2.mem ((c.tc : Thread Cert.KernelMergeFwdIdeal.nD Cert.KernelMergeFwdIdeal.τ).loc Cert.KernelMergeFwdIdeal.main_v2) = v0 c
          ∧ r.2.mem ((c.tc : Thread Cert.KernelMergeFwdIdeal.nD Cert.KernelMergeFwdIdeal.τ).loc Cert.KernelMergeFwdIdeal.main_arg0) = m ((c.tc : Thread Cert.KernelMergeFwdIdeal.nD Cert.KernelMergeFwdIdeal.τ).loc Cert.KernelMergeFwdIdeal.main_arg0)
          ∧ r.2.mem ((c.tc : Thread Cert.KernelMergeFwdIdeal.nD Cert.KernelMergeFwdIdeal.τ).loc Cert.KernelMergeFwdIdeal.main_arg1) = m ((c.tc : Thread Cert.KernelMergeFwdIdeal.nD Cert.KernelMergeFwdIdeal.τ).loc Cert.KernelMergeFwdIdeal.main_arg1)
          ∧ r.2.mem ((c.tc : Thread Cert.KernelMergeFwdIdeal.nD Cert.KernelMergeFwdIdeal.τ).loc Cert.KernelMergeFwdIdeal.main_arg2) = m ((c.tc : Thread Cert.KernelMergeFwdIdeal.nD Cert.KernelMergeFwdIdeal.τ).loc Cert.KernelMergeFwdIdeal.main_arg2)
          ∧ r.2.mem ((c.tc : Thread Cert.KernelMergeFwdIdeal.nD Cert.KernelMergeFwdIdeal.τ).loc Cert.KernelMergeFwdIdeal.main_arg3) = m ((c.tc : Thread Cert.KernelMergeFwdIdeal.nD Cert.KernelMergeFwdIdeal.τ).loc Cert.KernelMergeFwdIdeal.main_arg3)
          ∧ r.2.mem ((c.tc : Thread Cert.KernelMergeFwdIdeal.nD Cert.KernelMergeFwdIdeal.τ).loc Cert.KernelMergeFwdIdeal.main_arg4) = m ((c.tc : Thread Cert.KernelMergeFwdIdeal.nD Cert.KernelMergeFwdIdeal.τ).loc Cert.KernelMergeFwdIdeal.main_arg4)
          ∧ r.2.mem ((c.tc : Thread Cert.KernelMergeFwdIdeal.nD Cert.KernelMergeFwdIdeal.τ).loc Cert.KernelMergeFwdIdeal.main_arg5) = m ((c.tc : Thread Cert.KernelMergeFwdIdeal.nD Cert.KernelMergeFwdIdeal.τ).loc Cert.KernelMergeFwdIdeal.main_arg5)
          ∧ r.2.mem ((c.tc : Thread Cert.KernelMergeFwdIdeal.nD Cert.KernelMergeFwdIdeal.τ).loc Cert.KernelMergeFwdIdeal.main_arg6) = m ((c.tc : Thread Cert.KernelMergeFwdIdeal.nD Cert.KernelMergeFwdIdeal.τ).loc Cert.KernelMergeFwdIdeal.main_arg6))
      ∧ θ_run (Cert.ReferenceMergeFwdIdeal.defs (F := Ideal)) (onTc (τ := Cert.ReferenceMergeFwdIdeal.τ) (Cert.ReferenceMergeFwdIdeal.main (F := Ideal))) ⟨m', fun _ => 0, g'⟩ (fun r => ∀ c : Dev Cert.ReferenceMergeFwdIdeal.nD,
          r.2.mem ((c.tc : Thread Cert.ReferenceMergeFwdIdeal.nD Cert.ReferenceMergeFwdIdeal.τ).loc Cert.ReferenceMergeFwdIdeal.main_v25) = v0 c
          ∧ r.2.mem ((c.tc : Thread Cert.ReferenceMergeFwdIdeal.nD Cert.ReferenceMergeFwdIdeal.τ).loc Cert.ReferenceMergeFwdIdeal.main_arg0) = m' ((c.tc : Thread Cert.ReferenceMergeFwdIdeal.nD Cert.ReferenceMergeFwdIdeal.τ).loc Cert.ReferenceMergeFwdIdeal.main_arg0)
          ∧ r.2.mem ((c.tc : Thread Cert.ReferenceMergeFwdIdeal.nD Cert.ReferenceMergeFwdIdeal.τ).loc Cert.ReferenceMergeFwdIdeal.main_arg1) = m' ((c.tc : Thread Cert.ReferenceMergeFwdIdeal.nD Cert.ReferenceMergeFwdIdeal.τ).loc Cert.ReferenceMergeFwdIdeal.main_arg1)
          ∧ r.2.mem ((c.tc : Thread Cert.ReferenceMergeFwdIdeal.nD Cert.ReferenceMergeFwdIdeal.τ).loc Cert.ReferenceMergeFwdIdeal.main_arg2) = m' ((c.tc : Thread Cert.ReferenceMergeFwdIdeal.nD Cert.ReferenceMergeFwdIdeal.τ).loc Cert.ReferenceMergeFwdIdeal.main_arg2)
          ∧ r.2.mem ((c.tc : Thread Cert.ReferenceMergeFwdIdeal.nD Cert.ReferenceMergeFwdIdeal.τ).loc Cert.ReferenceMergeFwdIdeal.main_arg3) = m' ((c.tc : Thread Cert.ReferenceMergeFwdIdeal.nD Cert.ReferenceMergeFwdIdeal.τ).loc Cert.ReferenceMergeFwdIdeal.main_arg3)
          ∧ r.2.mem ((c.tc : Thread Cert.ReferenceMergeFwdIdeal.nD Cert.ReferenceMergeFwdIdeal.τ).loc Cert.ReferenceMergeFwdIdeal.main_arg4) = m' ((c.tc : Thread Cert.ReferenceMergeFwdIdeal.nD Cert.ReferenceMergeFwdIdeal.τ).loc Cert.ReferenceMergeFwdIdeal.main_arg4)
          ∧ r.2.mem ((c.tc : Thread Cert.ReferenceMergeFwdIdeal.nD Cert.ReferenceMergeFwdIdeal.τ).loc Cert.ReferenceMergeFwdIdeal.main_arg5) = m' ((c.tc : Thread Cert.ReferenceMergeFwdIdeal.nD Cert.ReferenceMergeFwdIdeal.τ).loc Cert.ReferenceMergeFwdIdeal.main_arg5)
          ∧ r.2.mem ((c.tc : Thread Cert.ReferenceMergeFwdIdeal.nD Cert.ReferenceMergeFwdIdeal.τ).loc Cert.ReferenceMergeFwdIdeal.main_arg6) = m' ((c.tc : Thread Cert.ReferenceMergeFwdIdeal.nD Cert.ReferenceMergeFwdIdeal.τ).loc Cert.ReferenceMergeFwdIdeal.main_arg6))

def preserves_KernelLnSiluFwd_KernelLnSiluFwdIdeal : Prop :=
  True

def algebraic_KernelLnSiluFwdIdeal_ReferenceLnSiluFwdIdeal [hKernelLnSiluFwdIdeal : Cert.KernelLnSiluFwdIdeal.Facts] [hReferenceLnSiluFwdIdeal : Cert.ReferenceLnSiluFwdIdeal.Facts] : Prop :=
  ∀ (m : (ℓ : Loc Cert.KernelLnSiluFwdIdeal.nD Cert.KernelLnSiluFwdIdeal.τ Cert.KernelLnSiluFwdIdeal.sig) → Buf (Elt Ideal) ℓ) (g : Dev Cert.KernelLnSiluFwdIdeal.nD → PrngReg)
    (m' : (ℓ : Loc Cert.ReferenceLnSiluFwdIdeal.nD Cert.ReferenceLnSiluFwdIdeal.τ Cert.ReferenceLnSiluFwdIdeal.sig) → Buf (Elt Ideal) ℓ) (g' : Dev Cert.ReferenceLnSiluFwdIdeal.nD → PrngReg), Pre_KernelLnSiluFwdIdeal m →
    (∀ c : Dev Cert.KernelLnSiluFwdIdeal.nD,
      m' ((c.tc : Thread Cert.ReferenceLnSiluFwdIdeal.nD Cert.ReferenceLnSiluFwdIdeal.τ).loc Cert.ReferenceLnSiluFwdIdeal.main_arg0) = m ((c.tc : Thread Cert.KernelLnSiluFwdIdeal.nD Cert.KernelLnSiluFwdIdeal.τ).loc Cert.KernelLnSiluFwdIdeal.main_arg0)
      ∧ m' ((c.tc : Thread Cert.ReferenceLnSiluFwdIdeal.nD Cert.ReferenceLnSiluFwdIdeal.τ).loc Cert.ReferenceLnSiluFwdIdeal.main_arg1) = m ((c.tc : Thread Cert.KernelLnSiluFwdIdeal.nD Cert.KernelLnSiluFwdIdeal.τ).loc Cert.KernelLnSiluFwdIdeal.main_arg1)
      ∧ m' ((c.tc : Thread Cert.ReferenceLnSiluFwdIdeal.nD Cert.ReferenceLnSiluFwdIdeal.τ).loc Cert.ReferenceLnSiluFwdIdeal.main_arg2) = m ((c.tc : Thread Cert.KernelLnSiluFwdIdeal.nD Cert.KernelLnSiluFwdIdeal.τ).loc Cert.KernelLnSiluFwdIdeal.main_arg2)) →
    ∃ (v0 : (c : Dev Cert.KernelLnSiluFwdIdeal.nD) → Buf (Elt Ideal) ((c.tc : Thread Cert.KernelLnSiluFwdIdeal.nD Cert.KernelLnSiluFwdIdeal.τ).loc Cert.KernelLnSiluFwdIdeal.main_v4)),
      θ_run (Cert.KernelLnSiluFwdIdeal.defs (F := Ideal)) (onTc (τ := Cert.KernelLnSiluFwdIdeal.τ) (Cert.KernelLnSiluFwdIdeal.main (F := Ideal))) ⟨m, fun _ => 0, g⟩ (fun r => ∀ c : Dev Cert.KernelLnSiluFwdIdeal.nD,
          r.2.mem ((c.tc : Thread Cert.KernelLnSiluFwdIdeal.nD Cert.KernelLnSiluFwdIdeal.τ).loc Cert.KernelLnSiluFwdIdeal.main_v4) = v0 c
          ∧ r.2.mem ((c.tc : Thread Cert.KernelLnSiluFwdIdeal.nD Cert.KernelLnSiluFwdIdeal.τ).loc Cert.KernelLnSiluFwdIdeal.main_arg0) = m ((c.tc : Thread Cert.KernelLnSiluFwdIdeal.nD Cert.KernelLnSiluFwdIdeal.τ).loc Cert.KernelLnSiluFwdIdeal.main_arg0)
          ∧ r.2.mem ((c.tc : Thread Cert.KernelLnSiluFwdIdeal.nD Cert.KernelLnSiluFwdIdeal.τ).loc Cert.KernelLnSiluFwdIdeal.main_arg1) = m ((c.tc : Thread Cert.KernelLnSiluFwdIdeal.nD Cert.KernelLnSiluFwdIdeal.τ).loc Cert.KernelLnSiluFwdIdeal.main_arg1)
          ∧ r.2.mem ((c.tc : Thread Cert.KernelLnSiluFwdIdeal.nD Cert.KernelLnSiluFwdIdeal.τ).loc Cert.KernelLnSiluFwdIdeal.main_arg2) = m ((c.tc : Thread Cert.KernelLnSiluFwdIdeal.nD Cert.KernelLnSiluFwdIdeal.τ).loc Cert.KernelLnSiluFwdIdeal.main_arg2))
      ∧ θ_run (Cert.ReferenceLnSiluFwdIdeal.defs (F := Ideal)) (onTc (τ := Cert.ReferenceLnSiluFwdIdeal.τ) (Cert.ReferenceLnSiluFwdIdeal.main (F := Ideal))) ⟨m', fun _ => 0, g'⟩ (fun r => ∀ c : Dev Cert.ReferenceLnSiluFwdIdeal.nD,
          r.2.mem ((c.tc : Thread Cert.ReferenceLnSiluFwdIdeal.nD Cert.ReferenceLnSiluFwdIdeal.τ).loc Cert.ReferenceLnSiluFwdIdeal.main_v24) = v0 c
          ∧ r.2.mem ((c.tc : Thread Cert.ReferenceLnSiluFwdIdeal.nD Cert.ReferenceLnSiluFwdIdeal.τ).loc Cert.ReferenceLnSiluFwdIdeal.main_arg0) = m' ((c.tc : Thread Cert.ReferenceLnSiluFwdIdeal.nD Cert.ReferenceLnSiluFwdIdeal.τ).loc Cert.ReferenceLnSiluFwdIdeal.main_arg0)
          ∧ r.2.mem ((c.tc : Thread Cert.ReferenceLnSiluFwdIdeal.nD Cert.ReferenceLnSiluFwdIdeal.τ).loc Cert.ReferenceLnSiluFwdIdeal.main_arg1) = m' ((c.tc : Thread Cert.ReferenceLnSiluFwdIdeal.nD Cert.ReferenceLnSiluFwdIdeal.τ).loc Cert.ReferenceLnSiluFwdIdeal.main_arg1)
          ∧ r.2.mem ((c.tc : Thread Cert.ReferenceLnSiluFwdIdeal.nD Cert.ReferenceLnSiluFwdIdeal.τ).loc Cert.ReferenceLnSiluFwdIdeal.main_arg2) = m' ((c.tc : Thread Cert.ReferenceLnSiluFwdIdeal.nD Cert.ReferenceLnSiluFwdIdeal.τ).loc Cert.ReferenceLnSiluFwdIdeal.main_arg2))

def preserves_KernelResLnFwd_KernelResLnFwdIdeal : Prop :=
  True

def algebraic_KernelResLnFwdIdeal_ReferenceResLnFwdIdeal [hKernelResLnFwdIdeal : Cert.KernelResLnFwdIdeal.Facts] [hReferenceResLnFwdIdeal : Cert.ReferenceResLnFwdIdeal.Facts] : Prop :=
  ∀ (m : (ℓ : Loc Cert.KernelResLnFwdIdeal.nD Cert.KernelResLnFwdIdeal.τ Cert.KernelResLnFwdIdeal.sig) → Buf (Elt Ideal) ℓ) (g : Dev Cert.KernelResLnFwdIdeal.nD → PrngReg)
    (m' : (ℓ : Loc Cert.ReferenceResLnFwdIdeal.nD Cert.ReferenceResLnFwdIdeal.τ Cert.ReferenceResLnFwdIdeal.sig) → Buf (Elt Ideal) ℓ) (g' : Dev Cert.ReferenceResLnFwdIdeal.nD → PrngReg), Pre_KernelResLnFwdIdeal m →
    (∀ c : Dev Cert.KernelResLnFwdIdeal.nD,
      m' ((c.tc : Thread Cert.ReferenceResLnFwdIdeal.nD Cert.ReferenceResLnFwdIdeal.τ).loc Cert.ReferenceResLnFwdIdeal.main_arg0) = m ((c.tc : Thread Cert.KernelResLnFwdIdeal.nD Cert.KernelResLnFwdIdeal.τ).loc Cert.KernelResLnFwdIdeal.main_arg0)
      ∧ m' ((c.tc : Thread Cert.ReferenceResLnFwdIdeal.nD Cert.ReferenceResLnFwdIdeal.τ).loc Cert.ReferenceResLnFwdIdeal.main_arg1) = m ((c.tc : Thread Cert.KernelResLnFwdIdeal.nD Cert.KernelResLnFwdIdeal.τ).loc Cert.KernelResLnFwdIdeal.main_arg1)
      ∧ m' ((c.tc : Thread Cert.ReferenceResLnFwdIdeal.nD Cert.ReferenceResLnFwdIdeal.τ).loc Cert.ReferenceResLnFwdIdeal.main_arg2) = m ((c.tc : Thread Cert.KernelResLnFwdIdeal.nD Cert.KernelResLnFwdIdeal.τ).loc Cert.KernelResLnFwdIdeal.main_arg2)
      ∧ m' ((c.tc : Thread Cert.ReferenceResLnFwdIdeal.nD Cert.ReferenceResLnFwdIdeal.τ).loc Cert.ReferenceResLnFwdIdeal.main_arg3) = m ((c.tc : Thread Cert.KernelResLnFwdIdeal.nD Cert.KernelResLnFwdIdeal.τ).loc Cert.KernelResLnFwdIdeal.main_arg3)
      ∧ m' ((c.tc : Thread Cert.ReferenceResLnFwdIdeal.nD Cert.ReferenceResLnFwdIdeal.τ).loc Cert.ReferenceResLnFwdIdeal.main_arg4) = m ((c.tc : Thread Cert.KernelResLnFwdIdeal.nD Cert.KernelResLnFwdIdeal.τ).loc Cert.KernelResLnFwdIdeal.main_arg4)) →
    ∃ (v0 : (c : Dev Cert.KernelResLnFwdIdeal.nD) → Buf (Elt Ideal) ((c.tc : Thread Cert.KernelResLnFwdIdeal.nD Cert.KernelResLnFwdIdeal.τ).loc Cert.KernelResLnFwdIdeal.main_v4)),
      θ_run (Cert.KernelResLnFwdIdeal.defs (F := Ideal)) (onTc (τ := Cert.KernelResLnFwdIdeal.τ) (Cert.KernelResLnFwdIdeal.main (F := Ideal))) ⟨m, fun _ => 0, g⟩ (fun r => ∀ c : Dev Cert.KernelResLnFwdIdeal.nD,
          r.2.mem ((c.tc : Thread Cert.KernelResLnFwdIdeal.nD Cert.KernelResLnFwdIdeal.τ).loc Cert.KernelResLnFwdIdeal.main_v4) = v0 c
          ∧ r.2.mem ((c.tc : Thread Cert.KernelResLnFwdIdeal.nD Cert.KernelResLnFwdIdeal.τ).loc Cert.KernelResLnFwdIdeal.main_arg0) = m ((c.tc : Thread Cert.KernelResLnFwdIdeal.nD Cert.KernelResLnFwdIdeal.τ).loc Cert.KernelResLnFwdIdeal.main_arg0)
          ∧ r.2.mem ((c.tc : Thread Cert.KernelResLnFwdIdeal.nD Cert.KernelResLnFwdIdeal.τ).loc Cert.KernelResLnFwdIdeal.main_arg1) = m ((c.tc : Thread Cert.KernelResLnFwdIdeal.nD Cert.KernelResLnFwdIdeal.τ).loc Cert.KernelResLnFwdIdeal.main_arg1)
          ∧ r.2.mem ((c.tc : Thread Cert.KernelResLnFwdIdeal.nD Cert.KernelResLnFwdIdeal.τ).loc Cert.KernelResLnFwdIdeal.main_arg2) = m ((c.tc : Thread Cert.KernelResLnFwdIdeal.nD Cert.KernelResLnFwdIdeal.τ).loc Cert.KernelResLnFwdIdeal.main_arg2)
          ∧ r.2.mem ((c.tc : Thread Cert.KernelResLnFwdIdeal.nD Cert.KernelResLnFwdIdeal.τ).loc Cert.KernelResLnFwdIdeal.main_arg3) = m ((c.tc : Thread Cert.KernelResLnFwdIdeal.nD Cert.KernelResLnFwdIdeal.τ).loc Cert.KernelResLnFwdIdeal.main_arg3)
          ∧ r.2.mem ((c.tc : Thread Cert.KernelResLnFwdIdeal.nD Cert.KernelResLnFwdIdeal.τ).loc Cert.KernelResLnFwdIdeal.main_arg4) = m ((c.tc : Thread Cert.KernelResLnFwdIdeal.nD Cert.KernelResLnFwdIdeal.τ).loc Cert.KernelResLnFwdIdeal.main_arg4))
      ∧ θ_run (Cert.ReferenceResLnFwdIdeal.defs (F := Ideal)) (onTc (τ := Cert.ReferenceResLnFwdIdeal.τ) (Cert.ReferenceResLnFwdIdeal.main (F := Ideal))) ⟨m', fun _ => 0, g'⟩ (fun r => ∀ c : Dev Cert.ReferenceResLnFwdIdeal.nD,
          r.2.mem ((c.tc : Thread Cert.ReferenceResLnFwdIdeal.nD Cert.ReferenceResLnFwdIdeal.τ).loc Cert.ReferenceResLnFwdIdeal.main_v68) = v0 c
          ∧ r.2.mem ((c.tc : Thread Cert.ReferenceResLnFwdIdeal.nD Cert.ReferenceResLnFwdIdeal.τ).loc Cert.ReferenceResLnFwdIdeal.main_arg0) = m' ((c.tc : Thread Cert.ReferenceResLnFwdIdeal.nD Cert.ReferenceResLnFwdIdeal.τ).loc Cert.ReferenceResLnFwdIdeal.main_arg0)
          ∧ r.2.mem ((c.tc : Thread Cert.ReferenceResLnFwdIdeal.nD Cert.ReferenceResLnFwdIdeal.τ).loc Cert.ReferenceResLnFwdIdeal.main_arg1) = m' ((c.tc : Thread Cert.ReferenceResLnFwdIdeal.nD Cert.ReferenceResLnFwdIdeal.τ).loc Cert.ReferenceResLnFwdIdeal.main_arg1)
          ∧ r.2.mem ((c.tc : Thread Cert.ReferenceResLnFwdIdeal.nD Cert.ReferenceResLnFwdIdeal.τ).loc Cert.ReferenceResLnFwdIdeal.main_arg2) = m' ((c.tc : Thread Cert.ReferenceResLnFwdIdeal.nD Cert.ReferenceResLnFwdIdeal.τ).loc Cert.ReferenceResLnFwdIdeal.main_arg2)
          ∧ r.2.mem ((c.tc : Thread Cert.ReferenceResLnFwdIdeal.nD Cert.ReferenceResLnFwdIdeal.τ).loc Cert.ReferenceResLnFwdIdeal.main_arg3) = m' ((c.tc : Thread Cert.ReferenceResLnFwdIdeal.nD Cert.ReferenceResLnFwdIdeal.τ).loc Cert.ReferenceResLnFwdIdeal.main_arg3)
          ∧ r.2.mem ((c.tc : Thread Cert.ReferenceResLnFwdIdeal.nD Cert.ReferenceResLnFwdIdeal.τ).loc Cert.ReferenceResLnFwdIdeal.main_arg4) = m' ((c.tc : Thread Cert.ReferenceResLnFwdIdeal.nD Cert.ReferenceResLnFwdIdeal.τ).loc Cert.ReferenceResLnFwdIdeal.main_arg4))

def preserves_KernelLoss_KernelLossIdeal : Prop :=
  True

def algebraic_KernelLossIdeal_ReferenceLossIdeal [hKernelLossIdeal : Cert.KernelLossIdeal.Facts] [hReferenceLossIdeal : Cert.ReferenceLossIdeal.Facts] : Prop :=
  ∀ (m : (ℓ : Loc Cert.KernelLossIdeal.nD Cert.KernelLossIdeal.τ Cert.KernelLossIdeal.sig) → Buf (Elt Ideal) ℓ) (g : Dev Cert.KernelLossIdeal.nD → PrngReg)
    (m' : (ℓ : Loc Cert.ReferenceLossIdeal.nD Cert.ReferenceLossIdeal.τ Cert.ReferenceLossIdeal.sig) → Buf (Elt Ideal) ℓ) (g' : Dev Cert.ReferenceLossIdeal.nD → PrngReg), Pre_KernelLossIdeal m →
    (∀ c : Dev Cert.KernelLossIdeal.nD,
      m' ((c.tc : Thread Cert.ReferenceLossIdeal.nD Cert.ReferenceLossIdeal.τ).loc Cert.ReferenceLossIdeal.main_arg0) = m ((c.tc : Thread Cert.KernelLossIdeal.nD Cert.KernelLossIdeal.τ).loc Cert.KernelLossIdeal.main_arg0)
      ∧ m' ((c.tc : Thread Cert.ReferenceLossIdeal.nD Cert.ReferenceLossIdeal.τ).loc Cert.ReferenceLossIdeal.main_arg1) = m ((c.tc : Thread Cert.KernelLossIdeal.nD Cert.KernelLossIdeal.τ).loc Cert.KernelLossIdeal.main_arg1)) →
    ∃ (v0 : (c : Dev Cert.KernelLossIdeal.nD) → Buf (Elt Ideal) ((c.tc : Thread Cert.KernelLossIdeal.nD Cert.KernelLossIdeal.τ).loc Cert.KernelLossIdeal.main_v0_0)) (v1 : (c : Dev Cert.KernelLossIdeal.nD) → Buf (Elt Ideal) ((c.tc : Thread Cert.KernelLossIdeal.nD Cert.KernelLossIdeal.τ).loc Cert.KernelLossIdeal.main_v0_1)),
      θ_run (Cert.KernelLossIdeal.defs (F := Ideal)) (onTc (τ := Cert.KernelLossIdeal.τ) (Cert.KernelLossIdeal.main (F := Ideal))) ⟨m, fun _ => 0, g⟩ (fun r => ∀ c : Dev Cert.KernelLossIdeal.nD,
          r.2.mem ((c.tc : Thread Cert.KernelLossIdeal.nD Cert.KernelLossIdeal.τ).loc Cert.KernelLossIdeal.main_v0_0) = v0 c
          ∧ r.2.mem ((c.tc : Thread Cert.KernelLossIdeal.nD Cert.KernelLossIdeal.τ).loc Cert.KernelLossIdeal.main_v0_1) = v1 c
          ∧ r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
          ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1))
      ∧ θ_run (Cert.ReferenceLossIdeal.defs (F := Ideal)) (onTc (τ := Cert.ReferenceLossIdeal.τ) (Cert.ReferenceLossIdeal.main (F := Ideal))) ⟨m', fun _ => 0, g'⟩ (fun r => ∀ c : Dev Cert.ReferenceLossIdeal.nD,
          r.2.mem ((c.tc : Thread Cert.ReferenceLossIdeal.nD Cert.ReferenceLossIdeal.τ).loc Cert.ReferenceLossIdeal.main_v14) = v0 c
          ∧ r.2.mem ((c.tc : Thread Cert.ReferenceLossIdeal.nD Cert.ReferenceLossIdeal.τ).loc Cert.ReferenceLossIdeal.main_v15) = v1 c
          ∧ r.2.mem ((c.tc : Thread Cert.ReferenceLossIdeal.nD Cert.ReferenceLossIdeal.τ).loc Cert.ReferenceLossIdeal.main_arg0) = m' ((c.tc : Thread Cert.ReferenceLossIdeal.nD Cert.ReferenceLossIdeal.τ).loc Cert.ReferenceLossIdeal.main_arg0)
          ∧ r.2.mem ((c.tc : Thread Cert.ReferenceLossIdeal.nD Cert.ReferenceLossIdeal.τ).loc Cert.ReferenceLossIdeal.main_arg1) = m' ((c.tc : Thread Cert.ReferenceLossIdeal.nD Cert.ReferenceLossIdeal.τ).loc Cert.ReferenceLossIdeal.main_arg1))

def preserves_KernelAdamIn_KernelAdamInIdeal : Prop :=
  True

def algebraic_KernelAdamInIdeal_ReferenceAdamInIdeal [hKernelAdamInIdeal : Cert.KernelAdamInIdeal.Facts] [hReferenceAdamInIdeal : Cert.ReferenceAdamInIdeal.Facts] : Prop :=
  ∀ (m : (ℓ : Loc Cert.KernelAdamInIdeal.nD Cert.KernelAdamInIdeal.τ Cert.KernelAdamInIdeal.sig) → Buf (Elt Ideal) ℓ) (g : Dev Cert.KernelAdamInIdeal.nD → PrngReg)
    (m' : (ℓ : Loc Cert.ReferenceAdamInIdeal.nD Cert.ReferenceAdamInIdeal.τ Cert.ReferenceAdamInIdeal.sig) → Buf (Elt Ideal) ℓ) (g' : Dev Cert.ReferenceAdamInIdeal.nD → PrngReg), Pre_KernelAdamInIdeal m →
    (∀ c : Dev Cert.KernelAdamInIdeal.nD,
      m' ((c.tc : Thread Cert.ReferenceAdamInIdeal.nD Cert.ReferenceAdamInIdeal.τ).loc Cert.ReferenceAdamInIdeal.main_arg0) = m ((c.tc : Thread Cert.KernelAdamInIdeal.nD Cert.KernelAdamInIdeal.τ).loc Cert.KernelAdamInIdeal.main_arg0)
      ∧ m' ((c.tc : Thread Cert.ReferenceAdamInIdeal.nD Cert.ReferenceAdamInIdeal.τ).loc Cert.ReferenceAdamInIdeal.main_arg1) = m ((c.tc : Thread Cert.KernelAdamInIdeal.nD Cert.KernelAdamInIdeal.τ).loc Cert.KernelAdamInIdeal.main_arg1)
      ∧ m' ((c.tc : Thread Cert.ReferenceAdamInIdeal.nD Cert.ReferenceAdamInIdeal.τ).loc Cert.ReferenceAdamInIdeal.main_arg2) = m ((c.tc : Thread Cert.KernelAdamInIdeal.nD Cert.KernelAdamInIdeal.τ).loc Cert.KernelAdamInIdeal.main_arg2)
      ∧ m' ((c.tc : Thread Cert.ReferenceAdamInIdeal.nD Cert.ReferenceAdamInIdeal.τ).loc Cert.ReferenceAdamInIdeal.main_arg3) = m ((c.tc : Thread Cert.KernelAdamInIdeal.nD Cert.KernelAdamInIdeal.τ).loc Cert.KernelAdamInIdeal.main_arg3)) →
    ∃ (v0 : (c : Dev Cert.KernelAdamInIdeal.nD) → Buf (Elt Ideal) ((c.tc : Thread Cert.KernelAdamInIdeal.nD Cert.KernelAdamInIdeal.τ).loc Cert.KernelAdamInIdeal.main_v4_0)) (v1 : (c : Dev Cert.KernelAdamInIdeal.nD) → Buf (Elt Ideal) ((c.tc : Thread Cert.KernelAdamInIdeal.nD Cert.KernelAdamInIdeal.τ).loc Cert.KernelAdamInIdeal.main_v4_1)) (v2 : (c : Dev Cert.KernelAdamInIdeal.nD) → Buf (Elt Ideal) ((c.tc : Thread Cert.KernelAdamInIdeal.nD Cert.KernelAdamInIdeal.τ).loc Cert.KernelAdamInIdeal.main_v4_2)),
      θ_run (Cert.KernelAdamInIdeal.defs (F := Ideal)) (onTc (τ := Cert.KernelAdamInIdeal.τ) (Cert.KernelAdamInIdeal.main (F := Ideal))) ⟨m, fun _ => 0, g⟩ (fun r => ∀ c : Dev Cert.KernelAdamInIdeal.nD,
          r.2.mem ((c.tc : Thread Cert.KernelAdamInIdeal.nD Cert.KernelAdamInIdeal.τ).loc Cert.KernelAdamInIdeal.main_v4_0) = v0 c
          ∧ r.2.mem ((c.tc : Thread Cert.KernelAdamInIdeal.nD Cert.KernelAdamInIdeal.τ).loc Cert.KernelAdamInIdeal.main_v4_1) = v1 c
          ∧ r.2.mem ((c.tc : Thread Cert.KernelAdamInIdeal.nD Cert.KernelAdamInIdeal.τ).loc Cert.KernelAdamInIdeal.main_v4_2) = v2 c
          ∧ r.2.mem ((c.tc : Thread Cert.KernelAdamInIdeal.nD Cert.KernelAdamInIdeal.τ).loc Cert.KernelAdamInIdeal.main_arg0) = m ((c.tc : Thread Cert.KernelAdamInIdeal.nD Cert.KernelAdamInIdeal.τ).loc Cert.KernelAdamInIdeal.main_arg0)
          ∧ r.2.mem ((c.tc : Thread Cert.KernelAdamInIdeal.nD Cert.KernelAdamInIdeal.τ).loc Cert.KernelAdamInIdeal.main_arg1) = m ((c.tc : Thread Cert.KernelAdamInIdeal.nD Cert.KernelAdamInIdeal.τ).loc Cert.KernelAdamInIdeal.main_arg1)
          ∧ r.2.mem ((c.tc : Thread Cert.KernelAdamInIdeal.nD Cert.KernelAdamInIdeal.τ).loc Cert.KernelAdamInIdeal.main_arg2) = m ((c.tc : Thread Cert.KernelAdamInIdeal.nD Cert.KernelAdamInIdeal.τ).loc Cert.KernelAdamInIdeal.main_arg2)
          ∧ r.2.mem ((c.tc : Thread Cert.KernelAdamInIdeal.nD Cert.KernelAdamInIdeal.τ).loc Cert.KernelAdamInIdeal.main_arg3) = m ((c.tc : Thread Cert.KernelAdamInIdeal.nD Cert.KernelAdamInIdeal.τ).loc Cert.KernelAdamInIdeal.main_arg3))
      ∧ θ_run (Cert.ReferenceAdamInIdeal.defs (F := Ideal)) (onTc (τ := Cert.ReferenceAdamInIdeal.τ) (Cert.ReferenceAdamInIdeal.main (F := Ideal))) ⟨m', fun _ => 0, g'⟩ (fun r => ∀ c : Dev Cert.ReferenceAdamInIdeal.nD,
          r.2.mem ((c.tc : Thread Cert.ReferenceAdamInIdeal.nD Cert.ReferenceAdamInIdeal.τ).loc Cert.ReferenceAdamInIdeal.main_v24) = v0 c
          ∧ r.2.mem ((c.tc : Thread Cert.ReferenceAdamInIdeal.nD Cert.ReferenceAdamInIdeal.τ).loc Cert.ReferenceAdamInIdeal.main_v25) = v1 c
          ∧ r.2.mem ((c.tc : Thread Cert.ReferenceAdamInIdeal.nD Cert.ReferenceAdamInIdeal.τ).loc Cert.ReferenceAdamInIdeal.main_v26) = v2 c
          ∧ r.2.mem ((c.tc : Thread Cert.ReferenceAdamInIdeal.nD Cert.ReferenceAdamInIdeal.τ).loc Cert.ReferenceAdamInIdeal.main_arg0) = m' ((c.tc : Thread Cert.ReferenceAdamInIdeal.nD Cert.ReferenceAdamInIdeal.τ).loc Cert.ReferenceAdamInIdeal.main_arg0)
          ∧ r.2.mem ((c.tc : Thread Cert.ReferenceAdamInIdeal.nD Cert.ReferenceAdamInIdeal.τ).loc Cert.ReferenceAdamInIdeal.main_arg1) = m' ((c.tc : Thread Cert.ReferenceAdamInIdeal.nD Cert.ReferenceAdamInIdeal.τ).loc Cert.ReferenceAdamInIdeal.main_arg1)
          ∧ r.2.mem ((c.tc : Thread Cert.ReferenceAdamInIdeal.nD Cert.ReferenceAdamInIdeal.τ).loc Cert.ReferenceAdamInIdeal.main_arg2) = m' ((c.tc : Thread Cert.ReferenceAdamInIdeal.nD Cert.ReferenceAdamInIdeal.τ).loc Cert.ReferenceAdamInIdeal.main_arg2)
          ∧ r.2.mem ((c.tc : Thread Cert.ReferenceAdamInIdeal.nD Cert.ReferenceAdamInIdeal.τ).loc Cert.ReferenceAdamInIdeal.main_arg3) = m' ((c.tc : Thread Cert.ReferenceAdamInIdeal.nD Cert.ReferenceAdamInIdeal.τ).loc Cert.ReferenceAdamInIdeal.main_arg3))

def preserves_KernelAdamUp_KernelAdamUpIdeal : Prop :=
  True

def algebraic_KernelAdamUpIdeal_ReferenceAdamUpIdeal [hKernelAdamUpIdeal : Cert.KernelAdamUpIdeal.Facts] [hReferenceAdamUpIdeal : Cert.ReferenceAdamUpIdeal.Facts] : Prop :=
  ∀ (m : (ℓ : Loc Cert.KernelAdamUpIdeal.nD Cert.KernelAdamUpIdeal.τ Cert.KernelAdamUpIdeal.sig) → Buf (Elt Ideal) ℓ) (g : Dev Cert.KernelAdamUpIdeal.nD → PrngReg)
    (m' : (ℓ : Loc Cert.ReferenceAdamUpIdeal.nD Cert.ReferenceAdamUpIdeal.τ Cert.ReferenceAdamUpIdeal.sig) → Buf (Elt Ideal) ℓ) (g' : Dev Cert.ReferenceAdamUpIdeal.nD → PrngReg), Pre_KernelAdamUpIdeal m →
    (∀ c : Dev Cert.KernelAdamUpIdeal.nD,
      m' ((c.tc : Thread Cert.ReferenceAdamUpIdeal.nD Cert.ReferenceAdamUpIdeal.τ).loc Cert.ReferenceAdamUpIdeal.main_arg0) = m ((c.tc : Thread Cert.KernelAdamUpIdeal.nD Cert.KernelAdamUpIdeal.τ).loc Cert.KernelAdamUpIdeal.main_arg0)
      ∧ m' ((c.tc : Thread Cert.ReferenceAdamUpIdeal.nD Cert.ReferenceAdamUpIdeal.τ).loc Cert.ReferenceAdamUpIdeal.main_arg1) = m ((c.tc : Thread Cert.KernelAdamUpIdeal.nD Cert.KernelAdamUpIdeal.τ).loc Cert.KernelAdamUpIdeal.main_arg1)
      ∧ m' ((c.tc : Thread Cert.ReferenceAdamUpIdeal.nD Cert.ReferenceAdamUpIdeal.τ).loc Cert.ReferenceAdamUpIdeal.main_arg2) = m ((c.tc : Thread Cert.KernelAdamUpIdeal.nD Cert.KernelAdamUpIdeal.τ).loc Cert.KernelAdamUpIdeal.main_arg2)
      ∧ m' ((c.tc : Thread Cert.ReferenceAdamUpIdeal.nD Cert.ReferenceAdamUpIdeal.τ).loc Cert.ReferenceAdamUpIdeal.main_arg3) = m ((c.tc : Thread Cert.KernelAdamUpIdeal.nD Cert.KernelAdamUpIdeal.τ).loc Cert.KernelAdamUpIdeal.main_arg3)) →
    ∃ (v0 : (c : Dev Cert.KernelAdamUpIdeal.nD) → Buf (Elt Ideal) ((c.tc : Thread Cert.KernelAdamUpIdeal.nD Cert.KernelAdamUpIdeal.τ).loc Cert.KernelAdamUpIdeal.main_v4_0)) (v1 : (c : Dev Cert.KernelAdamUpIdeal.nD) → Buf (Elt Ideal) ((c.tc : Thread Cert.KernelAdamUpIdeal.nD Cert.KernelAdamUpIdeal.τ).loc Cert.KernelAdamUpIdeal.main_v4_1)) (v2 : (c : Dev Cert.KernelAdamUpIdeal.nD) → Buf (Elt Ideal) ((c.tc : Thread Cert.KernelAdamUpIdeal.nD Cert.KernelAdamUpIdeal.τ).loc Cert.KernelAdamUpIdeal.main_v4_2)),
      θ_run (Cert.KernelAdamUpIdeal.defs (F := Ideal)) (onTc (τ := Cert.KernelAdamUpIdeal.τ) (Cert.KernelAdamUpIdeal.main (F := Ideal))) ⟨m, fun _ => 0, g⟩ (fun r => ∀ c : Dev Cert.KernelAdamUpIdeal.nD,
          r.2.mem ((c.tc : Thread Cert.KernelAdamUpIdeal.nD Cert.KernelAdamUpIdeal.τ).loc Cert.KernelAdamUpIdeal.main_v4_0) = v0 c
          ∧ r.2.mem ((c.tc : Thread Cert.KernelAdamUpIdeal.nD Cert.KernelAdamUpIdeal.τ).loc Cert.KernelAdamUpIdeal.main_v4_1) = v1 c
          ∧ r.2.mem ((c.tc : Thread Cert.KernelAdamUpIdeal.nD Cert.KernelAdamUpIdeal.τ).loc Cert.KernelAdamUpIdeal.main_v4_2) = v2 c
          ∧ r.2.mem ((c.tc : Thread Cert.KernelAdamUpIdeal.nD Cert.KernelAdamUpIdeal.τ).loc Cert.KernelAdamUpIdeal.main_arg0) = m ((c.tc : Thread Cert.KernelAdamUpIdeal.nD Cert.KernelAdamUpIdeal.τ).loc Cert.KernelAdamUpIdeal.main_arg0)
          ∧ r.2.mem ((c.tc : Thread Cert.KernelAdamUpIdeal.nD Cert.KernelAdamUpIdeal.τ).loc Cert.KernelAdamUpIdeal.main_arg1) = m ((c.tc : Thread Cert.KernelAdamUpIdeal.nD Cert.KernelAdamUpIdeal.τ).loc Cert.KernelAdamUpIdeal.main_arg1)
          ∧ r.2.mem ((c.tc : Thread Cert.KernelAdamUpIdeal.nD Cert.KernelAdamUpIdeal.τ).loc Cert.KernelAdamUpIdeal.main_arg2) = m ((c.tc : Thread Cert.KernelAdamUpIdeal.nD Cert.KernelAdamUpIdeal.τ).loc Cert.KernelAdamUpIdeal.main_arg2)
          ∧ r.2.mem ((c.tc : Thread Cert.KernelAdamUpIdeal.nD Cert.KernelAdamUpIdeal.τ).loc Cert.KernelAdamUpIdeal.main_arg3) = m ((c.tc : Thread Cert.KernelAdamUpIdeal.nD Cert.KernelAdamUpIdeal.τ).loc Cert.KernelAdamUpIdeal.main_arg3))
      ∧ θ_run (Cert.ReferenceAdamUpIdeal.defs (F := Ideal)) (onTc (τ := Cert.ReferenceAdamUpIdeal.τ) (Cert.ReferenceAdamUpIdeal.main (F := Ideal))) ⟨m', fun _ => 0, g'⟩ (fun r => ∀ c : Dev Cert.ReferenceAdamUpIdeal.nD,
          r.2.mem ((c.tc : Thread Cert.ReferenceAdamUpIdeal.nD Cert.ReferenceAdamUpIdeal.τ).loc Cert.ReferenceAdamUpIdeal.main_v24) = v0 c
          ∧ r.2.mem ((c.tc : Thread Cert.ReferenceAdamUpIdeal.nD Cert.ReferenceAdamUpIdeal.τ).loc Cert.ReferenceAdamUpIdeal.main_v25) = v1 c
          ∧ r.2.mem ((c.tc : Thread Cert.ReferenceAdamUpIdeal.nD Cert.ReferenceAdamUpIdeal.τ).loc Cert.ReferenceAdamUpIdeal.main_v26) = v2 c
          ∧ r.2.mem ((c.tc : Thread Cert.ReferenceAdamUpIdeal.nD Cert.ReferenceAdamUpIdeal.τ).loc Cert.ReferenceAdamUpIdeal.main_arg0) = m' ((c.tc : Thread Cert.ReferenceAdamUpIdeal.nD Cert.ReferenceAdamUpIdeal.τ).loc Cert.ReferenceAdamUpIdeal.main_arg0)
          ∧ r.2.mem ((c.tc : Thread Cert.ReferenceAdamUpIdeal.nD Cert.ReferenceAdamUpIdeal.τ).loc Cert.ReferenceAdamUpIdeal.main_arg1) = m' ((c.tc : Thread Cert.ReferenceAdamUpIdeal.nD Cert.ReferenceAdamUpIdeal.τ).loc Cert.ReferenceAdamUpIdeal.main_arg1)
          ∧ r.2.mem ((c.tc : Thread Cert.ReferenceAdamUpIdeal.nD Cert.ReferenceAdamUpIdeal.τ).loc Cert.ReferenceAdamUpIdeal.main_arg2) = m' ((c.tc : Thread Cert.ReferenceAdamUpIdeal.nD Cert.ReferenceAdamUpIdeal.τ).loc Cert.ReferenceAdamUpIdeal.main_arg2)
          ∧ r.2.mem ((c.tc : Thread Cert.ReferenceAdamUpIdeal.nD Cert.ReferenceAdamUpIdeal.τ).loc Cert.ReferenceAdamUpIdeal.main_arg3) = m' ((c.tc : Thread Cert.ReferenceAdamUpIdeal.nD Cert.ReferenceAdamUpIdeal.τ).loc Cert.ReferenceAdamUpIdeal.main_arg3))

def preserves_KernelAdamDown_KernelAdamDownIdeal : Prop :=
  True

def algebraic_KernelAdamDownIdeal_ReferenceAdamDownIdeal [hKernelAdamDownIdeal : Cert.KernelAdamDownIdeal.Facts] [hReferenceAdamDownIdeal : Cert.ReferenceAdamDownIdeal.Facts] : Prop :=
  ∀ (m : (ℓ : Loc Cert.KernelAdamDownIdeal.nD Cert.KernelAdamDownIdeal.τ Cert.KernelAdamDownIdeal.sig) → Buf (Elt Ideal) ℓ) (g : Dev Cert.KernelAdamDownIdeal.nD → PrngReg)
    (m' : (ℓ : Loc Cert.ReferenceAdamDownIdeal.nD Cert.ReferenceAdamDownIdeal.τ Cert.ReferenceAdamDownIdeal.sig) → Buf (Elt Ideal) ℓ) (g' : Dev Cert.ReferenceAdamDownIdeal.nD → PrngReg), Pre_KernelAdamDownIdeal m →
    (∀ c : Dev Cert.KernelAdamDownIdeal.nD,
      m' ((c.tc : Thread Cert.ReferenceAdamDownIdeal.nD Cert.ReferenceAdamDownIdeal.τ).loc Cert.ReferenceAdamDownIdeal.main_arg0) = m ((c.tc : Thread Cert.KernelAdamDownIdeal.nD Cert.KernelAdamDownIdeal.τ).loc Cert.KernelAdamDownIdeal.main_arg0)
      ∧ m' ((c.tc : Thread Cert.ReferenceAdamDownIdeal.nD Cert.ReferenceAdamDownIdeal.τ).loc Cert.ReferenceAdamDownIdeal.main_arg1) = m ((c.tc : Thread Cert.KernelAdamDownIdeal.nD Cert.KernelAdamDownIdeal.τ).loc Cert.KernelAdamDownIdeal.main_arg1)
      ∧ m' ((c.tc : Thread Cert.ReferenceAdamDownIdeal.nD Cert.ReferenceAdamDownIdeal.τ).loc Cert.ReferenceAdamDownIdeal.main_arg2) = m ((c.tc : Thread Cert.KernelAdamDownIdeal.nD Cert.KernelAdamDownIdeal.τ).loc Cert.KernelAdamDownIdeal.main_arg2)
      ∧ m' ((c.tc : Thread Cert.ReferenceAdamDownIdeal.nD Cert.ReferenceAdamDownIdeal.τ).loc Cert.ReferenceAdamDownIdeal.main_arg3) = m ((c.tc : Thread Cert.KernelAdamDownIdeal.nD Cert.KernelAdamDownIdeal.τ).loc Cert.KernelAdamDownIdeal.main_arg3)) →
    ∃ (v0 : (c : Dev Cert.KernelAdamDownIdeal.nD) → Buf (Elt Ideal) ((c.tc : Thread Cert.KernelAdamDownIdeal.nD Cert.KernelAdamDownIdeal.τ).loc Cert.KernelAdamDownIdeal.main_v4_0)) (v1 : (c : Dev Cert.KernelAdamDownIdeal.nD) → Buf (Elt Ideal) ((c.tc : Thread Cert.KernelAdamDownIdeal.nD Cert.KernelAdamDownIdeal.τ).loc Cert.KernelAdamDownIdeal.main_v4_1)) (v2 : (c : Dev Cert.KernelAdamDownIdeal.nD) → Buf (Elt Ideal) ((c.tc : Thread Cert.KernelAdamDownIdeal.nD Cert.KernelAdamDownIdeal.τ).loc Cert.KernelAdamDownIdeal.main_v4_2)),
      θ_run (Cert.KernelAdamDownIdeal.defs (F := Ideal)) (onTc (τ := Cert.KernelAdamDownIdeal.τ) (Cert.KernelAdamDownIdeal.main (F := Ideal))) ⟨m, fun _ => 0, g⟩ (fun r => ∀ c : Dev Cert.KernelAdamDownIdeal.nD,
          r.2.mem ((c.tc : Thread Cert.KernelAdamDownIdeal.nD Cert.KernelAdamDownIdeal.τ).loc Cert.KernelAdamDownIdeal.main_v4_0) = v0 c
          ∧ r.2.mem ((c.tc : Thread Cert.KernelAdamDownIdeal.nD Cert.KernelAdamDownIdeal.τ).loc Cert.KernelAdamDownIdeal.main_v4_1) = v1 c
          ∧ r.2.mem ((c.tc : Thread Cert.KernelAdamDownIdeal.nD Cert.KernelAdamDownIdeal.τ).loc Cert.KernelAdamDownIdeal.main_v4_2) = v2 c
          ∧ r.2.mem ((c.tc : Thread Cert.KernelAdamDownIdeal.nD Cert.KernelAdamDownIdeal.τ).loc Cert.KernelAdamDownIdeal.main_arg0) = m ((c.tc : Thread Cert.KernelAdamDownIdeal.nD Cert.KernelAdamDownIdeal.τ).loc Cert.KernelAdamDownIdeal.main_arg0)
          ∧ r.2.mem ((c.tc : Thread Cert.KernelAdamDownIdeal.nD Cert.KernelAdamDownIdeal.τ).loc Cert.KernelAdamDownIdeal.main_arg1) = m ((c.tc : Thread Cert.KernelAdamDownIdeal.nD Cert.KernelAdamDownIdeal.τ).loc Cert.KernelAdamDownIdeal.main_arg1)
          ∧ r.2.mem ((c.tc : Thread Cert.KernelAdamDownIdeal.nD Cert.KernelAdamDownIdeal.τ).loc Cert.KernelAdamDownIdeal.main_arg2) = m ((c.tc : Thread Cert.KernelAdamDownIdeal.nD Cert.KernelAdamDownIdeal.τ).loc Cert.KernelAdamDownIdeal.main_arg2)
          ∧ r.2.mem ((c.tc : Thread Cert.KernelAdamDownIdeal.nD Cert.KernelAdamDownIdeal.τ).loc Cert.KernelAdamDownIdeal.main_arg3) = m ((c.tc : Thread Cert.KernelAdamDownIdeal.nD Cert.KernelAdamDownIdeal.τ).loc Cert.KernelAdamDownIdeal.main_arg3))
      ∧ θ_run (Cert.ReferenceAdamDownIdeal.defs (F := Ideal)) (onTc (τ := Cert.ReferenceAdamDownIdeal.τ) (Cert.ReferenceAdamDownIdeal.main (F := Ideal))) ⟨m', fun _ => 0, g'⟩ (fun r => ∀ c : Dev Cert.ReferenceAdamDownIdeal.nD,
          r.2.mem ((c.tc : Thread Cert.ReferenceAdamDownIdeal.nD Cert.ReferenceAdamDownIdeal.τ).loc Cert.ReferenceAdamDownIdeal.main_v24) = v0 c
          ∧ r.2.mem ((c.tc : Thread Cert.ReferenceAdamDownIdeal.nD Cert.ReferenceAdamDownIdeal.τ).loc Cert.ReferenceAdamDownIdeal.main_v25) = v1 c
          ∧ r.2.mem ((c.tc : Thread Cert.ReferenceAdamDownIdeal.nD Cert.ReferenceAdamDownIdeal.τ).loc Cert.ReferenceAdamDownIdeal.main_v26) = v2 c
          ∧ r.2.mem ((c.tc : Thread Cert.ReferenceAdamDownIdeal.nD Cert.ReferenceAdamDownIdeal.τ).loc Cert.ReferenceAdamDownIdeal.main_arg0) = m' ((c.tc : Thread Cert.ReferenceAdamDownIdeal.nD Cert.ReferenceAdamDownIdeal.τ).loc Cert.ReferenceAdamDownIdeal.main_arg0)
          ∧ r.2.mem ((c.tc : Thread Cert.ReferenceAdamDownIdeal.nD Cert.ReferenceAdamDownIdeal.τ).loc Cert.ReferenceAdamDownIdeal.main_arg1) = m' ((c.tc : Thread Cert.ReferenceAdamDownIdeal.nD Cert.ReferenceAdamDownIdeal.τ).loc Cert.ReferenceAdamDownIdeal.main_arg1)
          ∧ r.2.mem ((c.tc : Thread Cert.ReferenceAdamDownIdeal.nD Cert.ReferenceAdamDownIdeal.τ).loc Cert.ReferenceAdamDownIdeal.main_arg2) = m' ((c.tc : Thread Cert.ReferenceAdamDownIdeal.nD Cert.ReferenceAdamDownIdeal.τ).loc Cert.ReferenceAdamDownIdeal.main_arg2)
          ∧ r.2.mem ((c.tc : Thread Cert.ReferenceAdamDownIdeal.nD Cert.ReferenceAdamDownIdeal.τ).loc Cert.ReferenceAdamDownIdeal.main_arg3) = m' ((c.tc : Thread Cert.ReferenceAdamDownIdeal.nD Cert.ReferenceAdamDownIdeal.τ).loc Cert.ReferenceAdamDownIdeal.main_arg3))

def preserves_KernelThree_KernelThreeIdeal : Prop :=
  True

def algebraic_KernelThreeIdeal_ReferenceThreeIdeal [hKernelThreeIdeal : Cert.KernelThreeIdeal.Facts] [hReferenceThreeIdeal : Cert.ReferenceThreeIdeal.Facts] : Prop :=
  ∀ (m : (ℓ : Loc Cert.KernelThreeIdeal.nD Cert.KernelThreeIdeal.τ Cert.KernelThreeIdeal.sig) → Buf (Elt Ideal) ℓ) (g : Dev Cert.KernelThreeIdeal.nD → PrngReg)
    (m' : (ℓ : Loc Cert.ReferenceThreeIdeal.nD Cert.ReferenceThreeIdeal.τ Cert.ReferenceThreeIdeal.sig) → Buf (Elt Ideal) ℓ) (g' : Dev Cert.ReferenceThreeIdeal.nD → PrngReg), Pre_KernelThreeIdeal m →
    (∀ c : Dev Cert.KernelThreeIdeal.nD,
      m' ((c.tc : Thread Cert.ReferenceThreeIdeal.nD Cert.ReferenceThreeIdeal.τ).loc Cert.ReferenceThreeIdeal.main_arg0) = m ((c.tc : Thread Cert.KernelThreeIdeal.nD Cert.KernelThreeIdeal.τ).loc Cert.KernelThreeIdeal.main_arg0)
      ∧ m' ((c.tc : Thread Cert.ReferenceThreeIdeal.nD Cert.ReferenceThreeIdeal.τ).loc Cert.ReferenceThreeIdeal.main_arg1) = m ((c.tc : Thread Cert.KernelThreeIdeal.nD Cert.KernelThreeIdeal.τ).loc Cert.KernelThreeIdeal.main_arg1)
      ∧ m' ((c.tc : Thread Cert.ReferenceThreeIdeal.nD Cert.ReferenceThreeIdeal.τ).loc Cert.ReferenceThreeIdeal.main_arg2) = m ((c.tc : Thread Cert.KernelThreeIdeal.nD Cert.KernelThreeIdeal.τ).loc Cert.KernelThreeIdeal.main_arg2)) →
    ∃ (v0 : (c : Dev Cert.KernelThreeIdeal.nD) → Buf (Elt Ideal) ((c.tc : Thread Cert.KernelThreeIdeal.nD Cert.KernelThreeIdeal.τ).loc Cert.KernelThreeIdeal.main_v1)),
      θ_run (Cert.KernelThreeIdeal.defs (F := Ideal)) (onTc (τ := Cert.KernelThreeIdeal.τ) (Cert.KernelThreeIdeal.main (F := Ideal))) ⟨m, fun _ => 0, g⟩ (fun r => ∀ c : Dev Cert.KernelThreeIdeal.nD,
          r.2.mem ((c.tc : Thread Cert.KernelThreeIdeal.nD Cert.KernelThreeIdeal.τ).loc Cert.KernelThreeIdeal.main_v1) = v0 c
          ∧ r.2.mem ((c.tc : Thread Cert.KernelThreeIdeal.nD Cert.KernelThreeIdeal.τ).loc Cert.KernelThreeIdeal.main_arg0) = m ((c.tc : Thread Cert.KernelThreeIdeal.nD Cert.KernelThreeIdeal.τ).loc Cert.KernelThreeIdeal.main_arg0)
          ∧ r.2.mem ((c.tc : Thread Cert.KernelThreeIdeal.nD Cert.KernelThreeIdeal.τ).loc Cert.KernelThreeIdeal.main_arg1) = m ((c.tc : Thread Cert.KernelThreeIdeal.nD Cert.KernelThreeIdeal.τ).loc Cert.KernelThreeIdeal.main_arg1)
          ∧ r.2.mem ((c.tc : Thread Cert.KernelThreeIdeal.nD Cert.KernelThreeIdeal.τ).loc Cert.KernelThreeIdeal.main_arg2) = m ((c.tc : Thread Cert.KernelThreeIdeal.nD Cert.KernelThreeIdeal.τ).loc Cert.KernelThreeIdeal.main_arg2))
      ∧ θ_run (Cert.ReferenceThreeIdeal.defs (F := Ideal)) (onTc (τ := Cert.ReferenceThreeIdeal.τ) (Cert.ReferenceThreeIdeal.main (F := Ideal))) ⟨m', fun _ => 0, g'⟩ (fun r => ∀ c : Dev Cert.ReferenceThreeIdeal.nD,
          r.2.mem ((c.tc : Thread Cert.ReferenceThreeIdeal.nD Cert.ReferenceThreeIdeal.τ).loc Cert.ReferenceThreeIdeal.main_v40) = v0 c
          ∧ r.2.mem ((c.tc : Thread Cert.ReferenceThreeIdeal.nD Cert.ReferenceThreeIdeal.τ).loc Cert.ReferenceThreeIdeal.main_arg0) = m' ((c.tc : Thread Cert.ReferenceThreeIdeal.nD Cert.ReferenceThreeIdeal.τ).loc Cert.ReferenceThreeIdeal.main_arg0)
          ∧ r.2.mem ((c.tc : Thread Cert.ReferenceThreeIdeal.nD Cert.ReferenceThreeIdeal.τ).loc Cert.ReferenceThreeIdeal.main_arg1) = m' ((c.tc : Thread Cert.ReferenceThreeIdeal.nD Cert.ReferenceThreeIdeal.τ).loc Cert.ReferenceThreeIdeal.main_arg1)
          ∧ r.2.mem ((c.tc : Thread Cert.ReferenceThreeIdeal.nD Cert.ReferenceThreeIdeal.τ).loc Cert.ReferenceThreeIdeal.main_arg2) = m' ((c.tc : Thread Cert.ReferenceThreeIdeal.nD Cert.ReferenceThreeIdeal.τ).loc Cert.ReferenceThreeIdeal.main_arg2))

def preserves_KernelThreeDx_KernelThreeDxIdeal : Prop :=
  True

def algebraic_KernelThreeDxIdeal_ReferenceThreeDxIdeal [hKernelThreeDxIdeal : Cert.KernelThreeDxIdeal.Facts] [hReferenceThreeDxIdeal : Cert.ReferenceThreeDxIdeal.Facts] : Prop :=
  ∀ (m : (ℓ : Loc Cert.KernelThreeDxIdeal.nD Cert.KernelThreeDxIdeal.τ Cert.KernelThreeDxIdeal.sig) → Buf (Elt Ideal) ℓ) (g : Dev Cert.KernelThreeDxIdeal.nD → PrngReg)
    (m' : (ℓ : Loc Cert.ReferenceThreeDxIdeal.nD Cert.ReferenceThreeDxIdeal.τ Cert.ReferenceThreeDxIdeal.sig) → Buf (Elt Ideal) ℓ) (g' : Dev Cert.ReferenceThreeDxIdeal.nD → PrngReg), Pre_KernelThreeDxIdeal m →
    (∀ c : Dev Cert.KernelThreeDxIdeal.nD,
      m' ((c.tc : Thread Cert.ReferenceThreeDxIdeal.nD Cert.ReferenceThreeDxIdeal.τ).loc Cert.ReferenceThreeDxIdeal.main_arg0) = m ((c.tc : Thread Cert.KernelThreeDxIdeal.nD Cert.KernelThreeDxIdeal.τ).loc Cert.KernelThreeDxIdeal.main_arg0)
      ∧ m' ((c.tc : Thread Cert.ReferenceThreeDxIdeal.nD Cert.ReferenceThreeDxIdeal.τ).loc Cert.ReferenceThreeDxIdeal.main_arg1) = m ((c.tc : Thread Cert.KernelThreeDxIdeal.nD Cert.KernelThreeDxIdeal.τ).loc Cert.KernelThreeDxIdeal.main_arg1)) →
    ∃ (v0 : (c : Dev Cert.KernelThreeDxIdeal.nD) → Buf (Elt Ideal) ((c.tc : Thread Cert.KernelThreeDxIdeal.nD Cert.KernelThreeDxIdeal.τ).loc Cert.KernelThreeDxIdeal.main_v3)),
      θ_run (Cert.KernelThreeDxIdeal.defs (F := Ideal)) (onTc (τ := Cert.KernelThreeDxIdeal.τ) (Cert.KernelThreeDxIdeal.main (F := Ideal))) ⟨m, fun _ => 0, g⟩ (fun r => ∀ c : Dev Cert.KernelThreeDxIdeal.nD,
          r.2.mem ((c.tc : Thread Cert.KernelThreeDxIdeal.nD Cert.KernelThreeDxIdeal.τ).loc Cert.KernelThreeDxIdeal.main_v3) = v0 c
          ∧ r.2.mem ((c.tc : Thread Cert.KernelThreeDxIdeal.nD Cert.KernelThreeDxIdeal.τ).loc Cert.KernelThreeDxIdeal.main_arg0) = m ((c.tc : Thread Cert.KernelThreeDxIdeal.nD Cert.KernelThreeDxIdeal.τ).loc Cert.KernelThreeDxIdeal.main_arg0)
          ∧ r.2.mem ((c.tc : Thread Cert.KernelThreeDxIdeal.nD Cert.KernelThreeDxIdeal.τ).loc Cert.KernelThreeDxIdeal.main_arg1) = m ((c.tc : Thread Cert.KernelThreeDxIdeal.nD Cert.KernelThreeDxIdeal.τ).loc Cert.KernelThreeDxIdeal.main_arg1))
      ∧ θ_run (Cert.ReferenceThreeDxIdeal.defs (F := Ideal)) (onTc (τ := Cert.ReferenceThreeDxIdeal.τ) (Cert.ReferenceThreeDxIdeal.main (F := Ideal))) ⟨m', fun _ => 0, g'⟩ (fun r => ∀ c : Dev Cert.ReferenceThreeDxIdeal.nD,
          r.2.mem ((c.tc : Thread Cert.ReferenceThreeDxIdeal.nD Cert.ReferenceThreeDxIdeal.τ).loc Cert.ReferenceThreeDxIdeal.main_v63) = v0 c
          ∧ r.2.mem ((c.tc : Thread Cert.ReferenceThreeDxIdeal.nD Cert.ReferenceThreeDxIdeal.τ).loc Cert.ReferenceThreeDxIdeal.main_arg0) = m' ((c.tc : Thread Cert.ReferenceThreeDxIdeal.nD Cert.ReferenceThreeDxIdeal.τ).loc Cert.ReferenceThreeDxIdeal.main_arg0)
          ∧ r.2.mem ((c.tc : Thread Cert.ReferenceThreeDxIdeal.nD Cert.ReferenceThreeDxIdeal.τ).loc Cert.ReferenceThreeDxIdeal.main_arg1) = m' ((c.tc : Thread Cert.ReferenceThreeDxIdeal.nD Cert.ReferenceThreeDxIdeal.τ).loc Cert.ReferenceThreeDxIdeal.main_arg1))

def Claim : Prop :=
  ∃ (hKernel : Cert.Kernel.Facts) (hKernelIdeal : Cert.KernelIdeal.Facts) (hReferenceIdeal : Cert.ReferenceIdeal.Facts) (hKernelLin : Cert.KernelLin.Facts) (hKernelLinIdeal : Cert.KernelLinIdeal.Facts) (hReferenceLinIdeal : Cert.ReferenceLinIdeal.Facts) (hKernelLinDx : Cert.KernelLinDx.Facts) (hKernelLinDxIdeal : Cert.KernelLinDxIdeal.Facts) (hReferenceLinDxIdeal : Cert.ReferenceLinDxIdeal.Facts) (hKernelLinDw : Cert.KernelLinDw.Facts) (hKernelLinDwIdeal : Cert.KernelLinDwIdeal.Facts) (hReferenceLinDwIdeal : Cert.ReferenceLinDwIdeal.Facts) (hKernelLinDb : Cert.KernelLinDb.Facts) (hKernelLinDbIdeal : Cert.KernelLinDbIdeal.Facts) (hReferenceLinDbIdeal : Cert.ReferenceLinDbIdeal.Facts) (hKernelUp : Cert.KernelUp.Facts) (hKernelUpIdeal : Cert.KernelUpIdeal.Facts) (hReferenceUpIdeal : Cert.ReferenceUpIdeal.Facts) (hKernelUpDx : Cert.KernelUpDx.Facts) (hKernelUpDxIdeal : Cert.KernelUpDxIdeal.Facts) (hReferenceUpDxIdeal : Cert.ReferenceUpDxIdeal.Facts) (hKernelUpDw : Cert.KernelUpDw.Facts) (hKernelUpDwIdeal : Cert.KernelUpDwIdeal.Facts) (hReferenceUpDwIdeal : Cert.ReferenceUpDwIdeal.Facts) (hKernelDown : Cert.KernelDown.Facts) (hKernelDownIdeal : Cert.KernelDownIdeal.Facts) (hReferenceDownIdeal : Cert.ReferenceDownIdeal.Facts) (hKernelDownDx : Cert.KernelDownDx.Facts) (hKernelDownDxIdeal : Cert.KernelDownDxIdeal.Facts) (hReferenceDownDxIdeal : Cert.ReferenceDownDxIdeal.Facts) (hKernelDownDw : Cert.KernelDownDw.Facts) (hKernelDownDwIdeal : Cert.KernelDownDwIdeal.Facts) (hReferenceDownDwIdeal : Cert.ReferenceDownDwIdeal.Facts) (hKernelAttn : Cert.KernelAttn.Facts) (hKernelAttnIdeal : Cert.KernelAttnIdeal.Facts) (hReferenceAttnIdeal : Cert.ReferenceAttnIdeal.Facts) (hKernelSilu : Cert.KernelSilu.Facts) (hKernelSiluIdeal : Cert.KernelSiluIdeal.Facts) (hReferenceSiluIdeal : Cert.ReferenceSiluIdeal.Facts) (hKernelGlu : Cert.KernelGlu.Facts) (hKernelGluIdeal : Cert.KernelGluIdeal.Facts) (hReferenceGluIdeal : Cert.ReferenceGluIdeal.Facts) (hKernelConvDx : Cert.KernelConvDx.Facts) (hKernelConvDxIdeal : Cert.KernelConvDxIdeal.Facts) (hReferenceConvDxIdeal : Cert.ReferenceConvDxIdeal.Facts) (hKernelConv : Cert.KernelConv.Facts) (hKernelConvIdeal : Cert.KernelConvIdeal.Facts) (hReferenceConvIdeal : Cert.ReferenceConvIdeal.Facts) (hKernelKv : Cert.KernelKv.Facts) (hKernelKvIdeal : Cert.KernelKvIdeal.Facts) (hReferenceKvIdeal : Cert.ReferenceKvIdeal.Facts) (hKernelKvDx : Cert.KernelKvDx.Facts) (hKernelKvDxIdeal : Cert.KernelKvDxIdeal.Facts) (hReferenceKvDxIdeal : Cert.ReferenceKvDxIdeal.Facts) (hKernelKvDw : Cert.KernelKvDw.Facts) (hKernelKvDwIdeal : Cert.KernelKvDwIdeal.Facts) (hReferenceKvDwIdeal : Cert.ReferenceKvDwIdeal.Facts) (hKernelKvDb : Cert.KernelKvDb.Facts) (hKernelKvDbIdeal : Cert.KernelKvDbIdeal.Facts) (hReferenceKvDbIdeal : Cert.ReferenceKvDbIdeal.Facts) (hKernelCtx : Cert.KernelCtx.Facts) (hKernelCtxIdeal : Cert.KernelCtxIdeal.Facts) (hReferenceCtxIdeal : Cert.ReferenceCtxIdeal.Facts) (hKernelCtxFwd : Cert.KernelCtxFwd.Facts) (hKernelCtxFwdIdeal : Cert.KernelCtxFwdIdeal.Facts) (hReferenceCtxFwdIdeal : Cert.ReferenceCtxFwdIdeal.Facts) (hKernelSiluFwd : Cert.KernelSiluFwd.Facts) (hKernelSiluFwdIdeal : Cert.KernelSiluFwdIdeal.Facts) (hReferenceSiluFwdIdeal : Cert.ReferenceSiluFwdIdeal.Facts) (hKernelGluFwd : Cert.KernelGluFwd.Facts) (hKernelGluFwdIdeal : Cert.KernelGluFwdIdeal.Facts) (hReferenceGluFwdIdeal : Cert.ReferenceGluFwdIdeal.Facts) (hKernelAdamSq : Cert.KernelAdamSq.Facts) (hKernelAdamSqIdeal : Cert.KernelAdamSqIdeal.Facts) (hReferenceAdamSqIdeal : Cert.ReferenceAdamSqIdeal.Facts) (hKernelAdamVec : Cert.KernelAdamVec.Facts) (hKernelAdamVecIdeal : Cert.KernelAdamVecIdeal.Facts) (hReferenceAdamVecIdeal : Cert.ReferenceAdamVecIdeal.Facts) (hKernelModFwd : Cert.KernelModFwd.Facts) (hKernelModFwdIdeal : Cert.KernelModFwdIdeal.Facts) (hReferenceModFwdIdeal : Cert.ReferenceModFwdIdeal.Facts) (hKernelMergeFwd : Cert.KernelMergeFwd.Facts) (hKernelMergeFwdIdeal : Cert.KernelMergeFwdIdeal.Facts) (hReferenceMergeFwdIdeal : Cert.ReferenceMergeFwdIdeal.Facts) (hKernelLnSiluFwd : Cert.KernelLnSiluFwd.Facts) (hKernelLnSiluFwdIdeal : Cert.KernelLnSiluFwdIdeal.Facts) (hReferenceLnSiluFwdIdeal : Cert.ReferenceLnSiluFwdIdeal.Facts) (hKernelResLnFwd : Cert.KernelResLnFwd.Facts) (hKernelResLnFwdIdeal : Cert.KernelResLnFwdIdeal.Facts) (hReferenceResLnFwdIdeal : Cert.ReferenceResLnFwdIdeal.Facts) (hKernelLoss : Cert.KernelLoss.Facts) (hKernelLossIdeal : Cert.KernelLossIdeal.Facts) (hReferenceLossIdeal : Cert.ReferenceLossIdeal.Facts) (hKernelAdamIn : Cert.KernelAdamIn.Facts) (hKernelAdamInIdeal : Cert.KernelAdamInIdeal.Facts) (hReferenceAdamInIdeal : Cert.ReferenceAdamInIdeal.Facts) (hKernelAdamUp : Cert.KernelAdamUp.Facts) (hKernelAdamUpIdeal : Cert.KernelAdamUpIdeal.Facts) (hReferenceAdamUpIdeal : Cert.ReferenceAdamUpIdeal.Facts) (hKernelAdamDown : Cert.KernelAdamDown.Facts) (hKernelAdamDownIdeal : Cert.KernelAdamDownIdeal.Facts) (hReferenceAdamDownIdeal : Cert.ReferenceAdamDownIdeal.Facts) (hKernelThree : Cert.KernelThree.Facts) (hKernelThreeIdeal : Cert.KernelThreeIdeal.Facts) (hReferenceThreeIdeal : Cert.ReferenceThreeIdeal.Facts) (hKernelThreeDx : Cert.KernelThreeDx.Facts) (hKernelThreeDxIdeal : Cert.KernelThreeDxIdeal.Facts) (hReferenceThreeDxIdeal : Cert.ReferenceThreeDxIdeal.Facts) (hPre_finite_scores : Cert.Pre_finite_scores.Facts) (hPre_finite_scores_fwd : Cert.Pre_finite_scores_fwd.Facts) (hPre_finite_scores_ctx : Cert.Pre_finite_scores_ctx.Facts) (hPre_finite_scores_ctx_fwd : Cert.Pre_finite_scores_ctx_fwd.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_KernelLin (hKernelLin := hKernelLin)
    ∧ quiescent_KernelLinIdeal (hKernelLinIdeal := hKernelLinIdeal)
    ∧ quiescent_ReferenceLinIdeal (hReferenceLinIdeal := hReferenceLinIdeal)
    ∧ quiescent_KernelLinDx (hKernelLinDx := hKernelLinDx)
    ∧ quiescent_KernelLinDxIdeal (hKernelLinDxIdeal := hKernelLinDxIdeal)
    ∧ quiescent_ReferenceLinDxIdeal (hReferenceLinDxIdeal := hReferenceLinDxIdeal)
    ∧ quiescent_KernelLinDw (hKernelLinDw := hKernelLinDw)
    ∧ quiescent_KernelLinDwIdeal (hKernelLinDwIdeal := hKernelLinDwIdeal)
    ∧ quiescent_ReferenceLinDwIdeal (hReferenceLinDwIdeal := hReferenceLinDwIdeal)
    ∧ quiescent_KernelLinDb (hKernelLinDb := hKernelLinDb)
    ∧ quiescent_KernelLinDbIdeal (hKernelLinDbIdeal := hKernelLinDbIdeal)
    ∧ quiescent_ReferenceLinDbIdeal (hReferenceLinDbIdeal := hReferenceLinDbIdeal)
    ∧ quiescent_KernelUp (hKernelUp := hKernelUp)
    ∧ quiescent_KernelUpIdeal (hKernelUpIdeal := hKernelUpIdeal)
    ∧ quiescent_ReferenceUpIdeal (hReferenceUpIdeal := hReferenceUpIdeal)
    ∧ quiescent_KernelUpDx (hKernelUpDx := hKernelUpDx)
    ∧ quiescent_KernelUpDxIdeal (hKernelUpDxIdeal := hKernelUpDxIdeal)
    ∧ quiescent_ReferenceUpDxIdeal (hReferenceUpDxIdeal := hReferenceUpDxIdeal)
    ∧ quiescent_KernelUpDw (hKernelUpDw := hKernelUpDw)
    ∧ quiescent_KernelUpDwIdeal (hKernelUpDwIdeal := hKernelUpDwIdeal)
    ∧ quiescent_ReferenceUpDwIdeal (hReferenceUpDwIdeal := hReferenceUpDwIdeal)
    ∧ quiescent_KernelDown (hKernelDown := hKernelDown)
    ∧ quiescent_KernelDownIdeal (hKernelDownIdeal := hKernelDownIdeal)
    ∧ quiescent_ReferenceDownIdeal (hReferenceDownIdeal := hReferenceDownIdeal)
    ∧ quiescent_KernelDownDx (hKernelDownDx := hKernelDownDx)
    ∧ quiescent_KernelDownDxIdeal (hKernelDownDxIdeal := hKernelDownDxIdeal)
    ∧ quiescent_ReferenceDownDxIdeal (hReferenceDownDxIdeal := hReferenceDownDxIdeal)
    ∧ quiescent_KernelDownDw (hKernelDownDw := hKernelDownDw)
    ∧ quiescent_KernelDownDwIdeal (hKernelDownDwIdeal := hKernelDownDwIdeal)
    ∧ quiescent_ReferenceDownDwIdeal (hReferenceDownDwIdeal := hReferenceDownDwIdeal)
    ∧ quiescent_KernelAttn (hKernelAttn := hKernelAttn)
    ∧ quiescent_KernelAttnIdeal (hKernelAttnIdeal := hKernelAttnIdeal)
    ∧ quiescent_KernelAttnIdeal_pre_finite_scores_fwd (hKernelAttnIdeal := hKernelAttnIdeal) (hPre_finite_scores_fwd := hPre_finite_scores_fwd)
    ∧ quiescent_ReferenceAttnIdeal (hReferenceAttnIdeal := hReferenceAttnIdeal)
    ∧ quiescent_ReferenceAttnIdeal_pre_finite_scores_fwd (hReferenceAttnIdeal := hReferenceAttnIdeal) (hPre_finite_scores_fwd := hPre_finite_scores_fwd)
    ∧ quiescent_KernelSilu (hKernelSilu := hKernelSilu)
    ∧ quiescent_KernelSiluIdeal (hKernelSiluIdeal := hKernelSiluIdeal)
    ∧ quiescent_ReferenceSiluIdeal (hReferenceSiluIdeal := hReferenceSiluIdeal)
    ∧ quiescent_KernelGlu (hKernelGlu := hKernelGlu)
    ∧ quiescent_KernelGluIdeal (hKernelGluIdeal := hKernelGluIdeal)
    ∧ quiescent_ReferenceGluIdeal (hReferenceGluIdeal := hReferenceGluIdeal)
    ∧ quiescent_KernelConvDx (hKernelConvDx := hKernelConvDx)
    ∧ quiescent_KernelConvDxIdeal (hKernelConvDxIdeal := hKernelConvDxIdeal)
    ∧ quiescent_ReferenceConvDxIdeal (hReferenceConvDxIdeal := hReferenceConvDxIdeal)
    ∧ quiescent_KernelConv (hKernelConv := hKernelConv)
    ∧ quiescent_KernelConvIdeal (hKernelConvIdeal := hKernelConvIdeal)
    ∧ quiescent_ReferenceConvIdeal (hReferenceConvIdeal := hReferenceConvIdeal)
    ∧ quiescent_KernelKv (hKernelKv := hKernelKv)
    ∧ quiescent_KernelKvIdeal (hKernelKvIdeal := hKernelKvIdeal)
    ∧ quiescent_ReferenceKvIdeal (hReferenceKvIdeal := hReferenceKvIdeal)
    ∧ quiescent_KernelKvDx (hKernelKvDx := hKernelKvDx)
    ∧ quiescent_KernelKvDxIdeal (hKernelKvDxIdeal := hKernelKvDxIdeal)
    ∧ quiescent_ReferenceKvDxIdeal (hReferenceKvDxIdeal := hReferenceKvDxIdeal)
    ∧ quiescent_KernelKvDw (hKernelKvDw := hKernelKvDw)
    ∧ quiescent_KernelKvDwIdeal (hKernelKvDwIdeal := hKernelKvDwIdeal)
    ∧ quiescent_ReferenceKvDwIdeal (hReferenceKvDwIdeal := hReferenceKvDwIdeal)
    ∧ quiescent_KernelKvDb (hKernelKvDb := hKernelKvDb)
    ∧ quiescent_KernelKvDbIdeal (hKernelKvDbIdeal := hKernelKvDbIdeal)
    ∧ quiescent_ReferenceKvDbIdeal (hReferenceKvDbIdeal := hReferenceKvDbIdeal)
    ∧ quiescent_KernelCtx (hKernelCtx := hKernelCtx)
    ∧ quiescent_KernelCtxIdeal (hKernelCtxIdeal := hKernelCtxIdeal)
    ∧ quiescent_KernelCtxIdeal_pre_finite_scores_ctx (hKernelCtxIdeal := hKernelCtxIdeal) (hPre_finite_scores_ctx := hPre_finite_scores_ctx)
    ∧ quiescent_ReferenceCtxIdeal (hReferenceCtxIdeal := hReferenceCtxIdeal)
    ∧ quiescent_ReferenceCtxIdeal_pre_finite_scores_ctx (hReferenceCtxIdeal := hReferenceCtxIdeal) (hPre_finite_scores_ctx := hPre_finite_scores_ctx)
    ∧ quiescent_KernelCtxFwd (hKernelCtxFwd := hKernelCtxFwd)
    ∧ quiescent_KernelCtxFwdIdeal (hKernelCtxFwdIdeal := hKernelCtxFwdIdeal)
    ∧ quiescent_KernelCtxFwdIdeal_pre_finite_scores_ctx_fwd (hKernelCtxFwdIdeal := hKernelCtxFwdIdeal) (hPre_finite_scores_ctx_fwd := hPre_finite_scores_ctx_fwd)
    ∧ quiescent_ReferenceCtxFwdIdeal (hReferenceCtxFwdIdeal := hReferenceCtxFwdIdeal)
    ∧ quiescent_ReferenceCtxFwdIdeal_pre_finite_scores_ctx_fwd (hReferenceCtxFwdIdeal := hReferenceCtxFwdIdeal) (hPre_finite_scores_ctx_fwd := hPre_finite_scores_ctx_fwd)
    ∧ quiescent_KernelSiluFwd (hKernelSiluFwd := hKernelSiluFwd)
    ∧ quiescent_KernelSiluFwdIdeal (hKernelSiluFwdIdeal := hKernelSiluFwdIdeal)
    ∧ quiescent_ReferenceSiluFwdIdeal (hReferenceSiluFwdIdeal := hReferenceSiluFwdIdeal)
    ∧ quiescent_KernelGluFwd (hKernelGluFwd := hKernelGluFwd)
    ∧ quiescent_KernelGluFwdIdeal (hKernelGluFwdIdeal := hKernelGluFwdIdeal)
    ∧ quiescent_ReferenceGluFwdIdeal (hReferenceGluFwdIdeal := hReferenceGluFwdIdeal)
    ∧ quiescent_KernelAdamSq (hKernelAdamSq := hKernelAdamSq)
    ∧ quiescent_KernelAdamSqIdeal (hKernelAdamSqIdeal := hKernelAdamSqIdeal)
    ∧ quiescent_ReferenceAdamSqIdeal (hReferenceAdamSqIdeal := hReferenceAdamSqIdeal)
    ∧ quiescent_KernelAdamVec (hKernelAdamVec := hKernelAdamVec)
    ∧ quiescent_KernelAdamVecIdeal (hKernelAdamVecIdeal := hKernelAdamVecIdeal)
    ∧ quiescent_ReferenceAdamVecIdeal (hReferenceAdamVecIdeal := hReferenceAdamVecIdeal)
    ∧ quiescent_KernelModFwd (hKernelModFwd := hKernelModFwd)
    ∧ quiescent_KernelModFwdIdeal (hKernelModFwdIdeal := hKernelModFwdIdeal)
    ∧ quiescent_ReferenceModFwdIdeal (hReferenceModFwdIdeal := hReferenceModFwdIdeal)
    ∧ quiescent_KernelMergeFwd (hKernelMergeFwd := hKernelMergeFwd)
    ∧ quiescent_KernelMergeFwdIdeal (hKernelMergeFwdIdeal := hKernelMergeFwdIdeal)
    ∧ quiescent_ReferenceMergeFwdIdeal (hReferenceMergeFwdIdeal := hReferenceMergeFwdIdeal)
    ∧ quiescent_KernelLnSiluFwd (hKernelLnSiluFwd := hKernelLnSiluFwd)
    ∧ quiescent_KernelLnSiluFwdIdeal (hKernelLnSiluFwdIdeal := hKernelLnSiluFwdIdeal)
    ∧ quiescent_ReferenceLnSiluFwdIdeal (hReferenceLnSiluFwdIdeal := hReferenceLnSiluFwdIdeal)
    ∧ quiescent_KernelResLnFwd (hKernelResLnFwd := hKernelResLnFwd)
    ∧ quiescent_KernelResLnFwdIdeal (hKernelResLnFwdIdeal := hKernelResLnFwdIdeal)
    ∧ quiescent_ReferenceResLnFwdIdeal (hReferenceResLnFwdIdeal := hReferenceResLnFwdIdeal)
    ∧ quiescent_KernelLoss (hKernelLoss := hKernelLoss)
    ∧ quiescent_KernelLossIdeal (hKernelLossIdeal := hKernelLossIdeal)
    ∧ quiescent_ReferenceLossIdeal (hReferenceLossIdeal := hReferenceLossIdeal)
    ∧ quiescent_KernelAdamIn (hKernelAdamIn := hKernelAdamIn)
    ∧ quiescent_KernelAdamInIdeal (hKernelAdamInIdeal := hKernelAdamInIdeal)
    ∧ quiescent_ReferenceAdamInIdeal (hReferenceAdamInIdeal := hReferenceAdamInIdeal)
    ∧ quiescent_KernelAdamUp (hKernelAdamUp := hKernelAdamUp)
    ∧ quiescent_KernelAdamUpIdeal (hKernelAdamUpIdeal := hKernelAdamUpIdeal)
    ∧ quiescent_ReferenceAdamUpIdeal (hReferenceAdamUpIdeal := hReferenceAdamUpIdeal)
    ∧ quiescent_KernelAdamDown (hKernelAdamDown := hKernelAdamDown)
    ∧ quiescent_KernelAdamDownIdeal (hKernelAdamDownIdeal := hKernelAdamDownIdeal)
    ∧ quiescent_ReferenceAdamDownIdeal (hReferenceAdamDownIdeal := hReferenceAdamDownIdeal)
    ∧ quiescent_KernelThree (hKernelThree := hKernelThree)
    ∧ quiescent_KernelThreeIdeal (hKernelThreeIdeal := hKernelThreeIdeal)
    ∧ quiescent_ReferenceThreeIdeal (hReferenceThreeIdeal := hReferenceThreeIdeal)
    ∧ quiescent_KernelThreeDx (hKernelThreeDx := hKernelThreeDx)
    ∧ quiescent_KernelThreeDxIdeal (hKernelThreeDxIdeal := hKernelThreeDxIdeal)
    ∧ quiescent_ReferenceThreeDxIdeal (hReferenceThreeDxIdeal := hReferenceThreeDxIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_KernelLin_KernelLinIdeal
    ∧ algebraic_KernelLinIdeal_ReferenceLinIdeal (hKernelLinIdeal := hKernelLinIdeal) (hReferenceLinIdeal := hReferenceLinIdeal)
    ∧ preserves_KernelLinDx_KernelLinDxIdeal
    ∧ algebraic_KernelLinDxIdeal_ReferenceLinDxIdeal (hKernelLinDxIdeal := hKernelLinDxIdeal) (hReferenceLinDxIdeal := hReferenceLinDxIdeal)
    ∧ preserves_KernelLinDw_KernelLinDwIdeal
    ∧ algebraic_KernelLinDwIdeal_ReferenceLinDwIdeal (hKernelLinDwIdeal := hKernelLinDwIdeal) (hReferenceLinDwIdeal := hReferenceLinDwIdeal)
    ∧ preserves_KernelLinDb_KernelLinDbIdeal
    ∧ algebraic_KernelLinDbIdeal_ReferenceLinDbIdeal (hKernelLinDbIdeal := hKernelLinDbIdeal) (hReferenceLinDbIdeal := hReferenceLinDbIdeal)
    ∧ preserves_KernelUp_KernelUpIdeal
    ∧ algebraic_KernelUpIdeal_ReferenceUpIdeal (hKernelUpIdeal := hKernelUpIdeal) (hReferenceUpIdeal := hReferenceUpIdeal)
    ∧ preserves_KernelUpDx_KernelUpDxIdeal
    ∧ algebraic_KernelUpDxIdeal_ReferenceUpDxIdeal (hKernelUpDxIdeal := hKernelUpDxIdeal) (hReferenceUpDxIdeal := hReferenceUpDxIdeal)
    ∧ preserves_KernelUpDw_KernelUpDwIdeal
    ∧ algebraic_KernelUpDwIdeal_ReferenceUpDwIdeal (hKernelUpDwIdeal := hKernelUpDwIdeal) (hReferenceUpDwIdeal := hReferenceUpDwIdeal)
    ∧ preserves_KernelDown_KernelDownIdeal
    ∧ algebraic_KernelDownIdeal_ReferenceDownIdeal (hKernelDownIdeal := hKernelDownIdeal) (hReferenceDownIdeal := hReferenceDownIdeal)
    ∧ preserves_KernelDownDx_KernelDownDxIdeal
    ∧ algebraic_KernelDownDxIdeal_ReferenceDownDxIdeal (hKernelDownDxIdeal := hKernelDownDxIdeal) (hReferenceDownDxIdeal := hReferenceDownDxIdeal)
    ∧ preserves_KernelDownDw_KernelDownDwIdeal
    ∧ algebraic_KernelDownDwIdeal_ReferenceDownDwIdeal (hKernelDownDwIdeal := hKernelDownDwIdeal) (hReferenceDownDwIdeal := hReferenceDownDwIdeal)
    ∧ preserves_KernelAttn_KernelAttnIdeal
    ∧ algebraic_KernelAttnIdeal_ReferenceAttnIdeal_pre_finite_scores_fwd (hKernelAttnIdeal := hKernelAttnIdeal) (hReferenceAttnIdeal := hReferenceAttnIdeal) (hPre_finite_scores_fwd := hPre_finite_scores_fwd)
    ∧ preserves_KernelSilu_KernelSiluIdeal
    ∧ algebraic_KernelSiluIdeal_ReferenceSiluIdeal (hKernelSiluIdeal := hKernelSiluIdeal) (hReferenceSiluIdeal := hReferenceSiluIdeal)
    ∧ preserves_KernelGlu_KernelGluIdeal
    ∧ algebraic_KernelGluIdeal_ReferenceGluIdeal (hKernelGluIdeal := hKernelGluIdeal) (hReferenceGluIdeal := hReferenceGluIdeal)
    ∧ preserves_KernelConvDx_KernelConvDxIdeal
    ∧ algebraic_KernelConvDxIdeal_ReferenceConvDxIdeal (hKernelConvDxIdeal := hKernelConvDxIdeal) (hReferenceConvDxIdeal := hReferenceConvDxIdeal)
    ∧ preserves_KernelConv_KernelConvIdeal
    ∧ algebraic_KernelConvIdeal_ReferenceConvIdeal (hKernelConvIdeal := hKernelConvIdeal) (hReferenceConvIdeal := hReferenceConvIdeal)
    ∧ preserves_KernelKv_KernelKvIdeal
    ∧ algebraic_KernelKvIdeal_ReferenceKvIdeal (hKernelKvIdeal := hKernelKvIdeal) (hReferenceKvIdeal := hReferenceKvIdeal)
    ∧ preserves_KernelKvDx_KernelKvDxIdeal
    ∧ algebraic_KernelKvDxIdeal_ReferenceKvDxIdeal (hKernelKvDxIdeal := hKernelKvDxIdeal) (hReferenceKvDxIdeal := hReferenceKvDxIdeal)
    ∧ preserves_KernelKvDw_KernelKvDwIdeal
    ∧ algebraic_KernelKvDwIdeal_ReferenceKvDwIdeal (hKernelKvDwIdeal := hKernelKvDwIdeal) (hReferenceKvDwIdeal := hReferenceKvDwIdeal)
    ∧ preserves_KernelKvDb_KernelKvDbIdeal
    ∧ algebraic_KernelKvDbIdeal_ReferenceKvDbIdeal (hKernelKvDbIdeal := hKernelKvDbIdeal) (hReferenceKvDbIdeal := hReferenceKvDbIdeal)
    ∧ preserves_KernelCtx_KernelCtxIdeal
    ∧ algebraic_KernelCtxIdeal_ReferenceCtxIdeal_pre_finite_scores_ctx (hKernelCtxIdeal := hKernelCtxIdeal) (hReferenceCtxIdeal := hReferenceCtxIdeal) (hPre_finite_scores_ctx := hPre_finite_scores_ctx)
    ∧ preserves_KernelCtxFwd_KernelCtxFwdIdeal
    ∧ algebraic_KernelCtxFwdIdeal_ReferenceCtxFwdIdeal_pre_finite_scores_ctx_fwd (hKernelCtxFwdIdeal := hKernelCtxFwdIdeal) (hReferenceCtxFwdIdeal := hReferenceCtxFwdIdeal) (hPre_finite_scores_ctx_fwd := hPre_finite_scores_ctx_fwd)
    ∧ preserves_KernelSiluFwd_KernelSiluFwdIdeal
    ∧ algebraic_KernelSiluFwdIdeal_ReferenceSiluFwdIdeal (hKernelSiluFwdIdeal := hKernelSiluFwdIdeal) (hReferenceSiluFwdIdeal := hReferenceSiluFwdIdeal)
    ∧ preserves_KernelGluFwd_KernelGluFwdIdeal
    ∧ algebraic_KernelGluFwdIdeal_ReferenceGluFwdIdeal (hKernelGluFwdIdeal := hKernelGluFwdIdeal) (hReferenceGluFwdIdeal := hReferenceGluFwdIdeal)
    ∧ preserves_KernelAdamSq_KernelAdamSqIdeal
    ∧ algebraic_KernelAdamSqIdeal_ReferenceAdamSqIdeal (hKernelAdamSqIdeal := hKernelAdamSqIdeal) (hReferenceAdamSqIdeal := hReferenceAdamSqIdeal)
    ∧ preserves_KernelAdamVec_KernelAdamVecIdeal
    ∧ algebraic_KernelAdamVecIdeal_ReferenceAdamVecIdeal (hKernelAdamVecIdeal := hKernelAdamVecIdeal) (hReferenceAdamVecIdeal := hReferenceAdamVecIdeal)
    ∧ preserves_KernelModFwd_KernelModFwdIdeal
    ∧ algebraic_KernelModFwdIdeal_ReferenceModFwdIdeal (hKernelModFwdIdeal := hKernelModFwdIdeal) (hReferenceModFwdIdeal := hReferenceModFwdIdeal)
    ∧ preserves_KernelMergeFwd_KernelMergeFwdIdeal
    ∧ algebraic_KernelMergeFwdIdeal_ReferenceMergeFwdIdeal (hKernelMergeFwdIdeal := hKernelMergeFwdIdeal) (hReferenceMergeFwdIdeal := hReferenceMergeFwdIdeal)
    ∧ preserves_KernelLnSiluFwd_KernelLnSiluFwdIdeal
    ∧ algebraic_KernelLnSiluFwdIdeal_ReferenceLnSiluFwdIdeal (hKernelLnSiluFwdIdeal := hKernelLnSiluFwdIdeal) (hReferenceLnSiluFwdIdeal := hReferenceLnSiluFwdIdeal)
    ∧ preserves_KernelResLnFwd_KernelResLnFwdIdeal
    ∧ algebraic_KernelResLnFwdIdeal_ReferenceResLnFwdIdeal (hKernelResLnFwdIdeal := hKernelResLnFwdIdeal) (hReferenceResLnFwdIdeal := hReferenceResLnFwdIdeal)
    ∧ preserves_KernelLoss_KernelLossIdeal
    ∧ algebraic_KernelLossIdeal_ReferenceLossIdeal (hKernelLossIdeal := hKernelLossIdeal) (hReferenceLossIdeal := hReferenceLossIdeal)
    ∧ preserves_KernelAdamIn_KernelAdamInIdeal
    ∧ algebraic_KernelAdamInIdeal_ReferenceAdamInIdeal (hKernelAdamInIdeal := hKernelAdamInIdeal) (hReferenceAdamInIdeal := hReferenceAdamInIdeal)
    ∧ preserves_KernelAdamUp_KernelAdamUpIdeal
    ∧ algebraic_KernelAdamUpIdeal_ReferenceAdamUpIdeal (hKernelAdamUpIdeal := hKernelAdamUpIdeal) (hReferenceAdamUpIdeal := hReferenceAdamUpIdeal)
    ∧ preserves_KernelAdamDown_KernelAdamDownIdeal
    ∧ algebraic_KernelAdamDownIdeal_ReferenceAdamDownIdeal (hKernelAdamDownIdeal := hKernelAdamDownIdeal) (hReferenceAdamDownIdeal := hReferenceAdamDownIdeal)
    ∧ preserves_KernelThree_KernelThreeIdeal
    ∧ algebraic_KernelThreeIdeal_ReferenceThreeIdeal (hKernelThreeIdeal := hKernelThreeIdeal) (hReferenceThreeIdeal := hReferenceThreeIdeal)
    ∧ preserves_KernelThreeDx_KernelThreeDxIdeal
    ∧ algebraic_KernelThreeDxIdeal_ReferenceThreeDxIdeal (hKernelThreeDxIdeal := hKernelThreeDxIdeal) (hReferenceThreeDxIdeal := hReferenceThreeDxIdeal)
-- ==== Pre_finite_scores.lean ====
abbrev S8192x1024 : Shape := ⟨2, ![8192, 1024]⟩
abbrev S1024x256 : Shape := ⟨2, ![1024, 256]⟩
abbrev S8192x256 : Shape := ⟨2, ![8192, 256]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x256 : S_.BroadcastsInDim S1024x256 (![] : Fin 0 → Fin S1024x256.rank)
  reducesTo_S1024x256_S_d0_1 : S1024x256.ReducesTo [0, 1] S_
  bcast_S_S8192x256 : S_.BroadcastsInDim S8192x256 (![] : Fin 0 → Fin S8192x256.rank)
  reducesTo_S8192x256_S_d0_1 : S8192x256.ReducesTo [0, 1] S_

variable [Facts]

def fn {F : FTy → Type} [FloatOps F] (main_arg0 : FVec F S8192x1024 .f32) (main_arg1 : FVec F S1024x256 .f32) (main_arg2 : FVec F S1024x256 .f32) (main_arg3 : FVec F S8192x256 .f32) (main_arg4 : FVec F S8192x256 .f32) (main_arg5 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024x256 .f32 := Host.absf main_arg1
  let main_cst_0 : FVec F S_ .f32 := constant S_ .f32 0x7F800000#32
  let main_v5 : FVec F S1024x256 .f32 := broadcastInDim S1024x256 ![] bcast_S_S1024x256 main_cst_0
  let main_v6 : IVec S1024x256 1 := cmpf .olt main_v4 main_v5
  let main_c_1 : IVec S_ 1 := constantI S_ 1 1#1
  let main_v7 : IVec S_ 1 := (fun x v => Host.reduce IntOp.andi x v reducesTo_S1024x256_S_d0_1 h_S_) main_v6 main_c_1
  let main_v8 : IVec S_ 1 := andi main_v3 main_v7
  let main_v9 : FVec F S8192x256 .f32 := Host.absf main_arg3
  let main_cst_2 : FVec F S_ .f32 := constant S_ .f32 0x7F800000#32
  let main_v10 : FVec F S8192x256 .f32 := broadcastInDim S8192x256 ![] bcast_S_S8192x256 main_cst_2
  let main_v11 : IVec S8192x256 1 := cmpf .olt main_v9 main_v10
  let main_c_3 : IVec S_ 1 := constantI S_ 1 1#1
  let main_v12 : IVec S_ 1 := (fun x v => Host.reduce IntOp.andi x v reducesTo_S8192x256_S_d0_1 h_S_) main_v11 main_c_3
  let main_v13 : IVec S_ 1 := andi main_v8 main_v12
  main_v13
-- ==== Pre_finite_scores_ctx.lean ====
abbrev S1024x1024 : Shape := ⟨2, ![1024, 1024]⟩
abbrev S1024x256 : Shape := ⟨2, ![1024, 256]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel
  bcast_S_S1024x256 : S_.BroadcastsInDim S1024x256 (![] : Fin 0 → Fin S1024x256.rank)
  reducesTo_S1024x256_S_d0_1 : S1024x256.ReducesTo [0, 1] S_

variable [Facts]

def fn {F : FTy → Type} [FloatOps F] (main_arg0 : FVec F S1024x1024 .f32) (main_arg1 : FVec F S1024x256 .f32) (main_arg2 : FVec F S1024x256 .f32) (main_arg3 : FVec F S1024x1024 .f32) : IVec S_ 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_c : IVec S_ 1 := constantI S_ 1 1#1
  let main_v3 : IVec S_ 1 := (fun x v => Host.reduce IntOp.andi x v reducesTo_S1024x1024_S_d0_1 h_S_) main_v2 main_c
  let main_v4 : FVec F S1024x256 .f32 := Host.absf main_arg1
  let main_cst_0 : FVec F S_ .f32 := constant S_ .f32 0x7F800000#32
  let main_v5 : FVec F S1024x256 .f32 := broadcastInDim S1024x256 ![] bcast_S_S1024x256 main_cst_0
  let main_v6 : IVec S1024x256 1 := cmpf .olt main_v4 main_v5
  let main_c_1 : IVec S_ 1 := constantI S_ 1 1#1
  let main_v7 : IVec S_ 1 := (fun x v => Host.reduce IntOp.andi x v reducesTo_S1024x256_S_d0_1 h_S_) main_v6 main_c_1
  let main_v8 : IVec S_ 1 := andi main_v3 main_v7
  main_v8
-- ==== Pre_finite_scores_ctx_fwd.lean ====
abbrev S1024x1024 : Shape := ⟨2, ![1024, 1024]⟩
abbrev S1024x256 : Shape := ⟨2, ![1024, 256]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel
  bcast_S_S1024x256 : S_.BroadcastsInDim S1024x256 (![] : Fin 0 → Fin S1024x256.rank)
  reducesTo_S1024x256_S_d0_1 : S1024x256.ReducesTo [0, 1] S_

variable [Facts]

def fn {F : FTy → Type} [FloatOps F] (main_arg0 : FVec F S1024x1024 .f32) (main_arg1 : FVec F S1024x256 .f32) (main_arg2 : FVec F S1024x256 .f32) : IVec S_ 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_c : IVec S_ 1 := constantI S_ 1 1#1
  let main_v3 : IVec S_ 1 := (fun x v => Host.reduce IntOp.andi x v reducesTo_S1024x1024_S_d0_1 h_S_) main_v2 main_c
  let main_v4 : FVec F S1024x256 .f32 := Host.absf main_arg1
  let main_cst_0 : FVec F S_ .f32 := constant S_ .f32 0x7F800000#32
  let main_v5 : FVec F S1024x256 .f32 := broadcastInDim S1024x256 ![] bcast_S_S1024x256 main_cst_0
  let main_v6 : IVec S1024x256 1 := cmpf .olt main_v4 main_v5
  let main_c_1 : IVec S_ 1 := constantI S_ 1 1#1
  let main_v7 : IVec S_ 1 := (fun x v => Host.reduce IntOp.andi x v reducesTo_S1024x256_S_d0_1 h_S_) main_v6 main_c_1
  let main_v8 : IVec S_ 1 := andi main_v3 main_v7
  main_v8
-- ==== Pre_finite_scores_fwd.lean ====
abbrev S8192x1024 : Shape := ⟨2, ![8192, 1024]⟩
abbrev S1024x256 : Shape := ⟨2, ![1024, 256]⟩
abbrev S8192x256 : Shape := ⟨2, ![8192, 256]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x256 : S_.BroadcastsInDim S1024x256 (![] : Fin 0 → Fin S1024x256.rank)
  reducesTo_S1024x256_S_d0_1 : S1024x256.ReducesTo [0, 1] S_
  bcast_S_S8192x256 : S_.BroadcastsInDim S8192x256 (![] : Fin 0 → Fin S8192x256.rank)
  reducesTo_S8192x256_S_d0_1 : S8192x256.ReducesTo [0, 1] S_

variable [Facts]

def fn {F : FTy → Type} [FloatOps F] (main_arg0 : FVec F S8192x1024 .f32) (main_arg1 : FVec F S1024x256 .f32) (main_arg2 : FVec F S1024x256 .f32) (main_arg3 : FVec F S8192x256 .f32) (main_arg4 : FVec F S8192x256 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024x256 .f32 := Host.absf main_arg1
  let main_cst_0 : FVec F S_ .f32 := constant S_ .f32 0x7F800000#32
  let main_v5 : FVec F S1024x256 .f32 := broadcastInDim S1024x256 ![] bcast_S_S1024x256 main_cst_0
  let main_v6 : IVec S1024x256 1 := cmpf .olt main_v4 main_v5
  let main_c_1 : IVec S_ 1 := constantI S_ 1 1#1
  let main_v7 : IVec S_ 1 := (fun x v => Host.reduce IntOp.andi x v reducesTo_S1024x256_S_d0_1 h_S_) main_v6 main_c_1
  let main_v8 : IVec S_ 1 := andi main_v3 main_v7
  let main_v9 : FVec F S8192x256 .f32 := Host.absf main_arg3
  let main_cst_2 : FVec F S_ .f32 := constant S_ .f32 0x7F800000#32
  let main_v10 : FVec F S8192x256 .f32 := broadcastInDim S8192x256 ![] bcast_S_S8192x256 main_cst_2
  let main_v11 : IVec S8192x256 1 := cmpf .olt main_v9 main_v10
  let main_c_3 : IVec S_ 1 := constantI S_ 1 1#1
  let main_v12 : IVec S_ 1 := (fun x v => Host.reduce IntOp.andi x v reducesTo_S8192x256_S_d0_1 h_S_) main_v11 main_c_3
  let main_v13 : IVec S_ 1 := andi main_v8 main_v12
  main_v13
-- ==== Kernel.lean ====
abbrev S8192x1024 : Shape := ⟨2, ![8192, 1024]⟩
abbrev S1024x256 : Shape := ⟨2, ![1024, 256]⟩
abbrev S8192x256 : Shape := ⟨2, ![8192, 256]⟩
abbrev S256x512 : Shape := ⟨2, ![256, 512]⟩
abbrev S256x128 : Shape := ⟨2, ![256, 128]⟩
abbrev S2048x128 : Shape := ⟨2, ![2048, 128]⟩
abbrev S256x256 : Shape := ⟨2, ![256, 256]⟩
abbrev S256x2048 : Shape := ⟨2, ![256, 2048]⟩
abbrev S256 : Shape := ⟨1, ![256]⟩
abbrev S256x1 : Shape := ⟨2, ![256, 1]⟩

abbrev nBuf : Space → Nat
  | .hbm => 11
  | .vmem => 22
  | .smem => 0
  | _ => 0

abbrev bufTy : (tb : Table) → Fin (tcTables nBuf tb) → BufTy
  | .hbm, ⟨0, _⟩ => ⟨S8192x1024, .f32⟩
  | .hbm, ⟨1, _⟩ => ⟨S1024x256, .f32⟩
  | .hbm, ⟨2, _⟩ => ⟨S1024x256, .f32⟩
  | .hbm, ⟨3, _⟩ => ⟨S8192x256, .f32⟩
  | .hbm, ⟨4, _⟩ => ⟨S8192x256, .f32⟩
  | .hbm, ⟨5, _⟩ => ⟨S8192x1024, .f32⟩
  | .hbm, ⟨6, _⟩ => ⟨S8192x1024, .f32⟩
  | .hbm, ⟨7, _⟩ => ⟨S1024x256, .f32⟩
  | .hbm, ⟨8, _⟩ => ⟨S1024x256, .f32⟩
  | .hbm, ⟨9, _⟩ => ⟨S8192x256, .f32⟩
  | .hbm, ⟨10, _⟩ => ⟨S8192x256, .f32⟩
  | .local _ .vmem, ⟨0, _⟩ => ⟨S256x512, .f32⟩
  | .local _ .vmem, ⟨1, _⟩ => ⟨S256x512, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x128, .f32⟩
  | .local _ .vmem, ⟨15, _⟩ => ⟨S256x128, .f32⟩
  | .local _ .vmem, ⟨16, _⟩ => ⟨S256x128, .f32⟩
  | .local _ .vmem, ⟨17, _⟩ => ⟨S256x128, .f32⟩
  | .local _ .vmem, ⟨18, _⟩ => ⟨S2048x128, .f32⟩
  | .local _ .vmem, ⟨19, _⟩ => ⟨S2048x128, .f32⟩
  | .local _ .vmem, ⟨20, _⟩ => ⟨S2048x128, .f32⟩
  | .local _ .vmem, ⟨21, _⟩ => ⟨S2048x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨3, ![4, 2, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S2048x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S2048x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]
-- ==== ReferenceIdeal.lean ====
abbrev S8192x1024 : Shape := ⟨2, ![8192, 1024]⟩
abbrev S1024x256 : Shape := ⟨2, ![1024, 256]⟩
abbrev S8192x256 : Shape := ⟨2, ![8192, 256]⟩
abbrev S4x2048x8x128 : Shape := ⟨4, ![4, 2048, 8, 128]⟩
abbrev S4x2048x2x128 : Shape := ⟨4, ![4, 2048, 2, 128]⟩
abbrev S4x256x2x128 : Shape := ⟨4, ![4, 256, 2, 128]⟩
abbrev S4x2304x2x128 : Shape := ⟨4, ![4, 2304, 2, 128]⟩
abbrev S4x2048x2x4x128 : Shape := ⟨5, ![4, 2048, 2, 4, 128]⟩
abbrev S4x2x2304x2048x4 : Shape := ⟨5, ![4, 2, 2304, 2048, 4]⟩
abbrev S4x2x4x2048x2304 : Shape := ⟨5, ![4, 2, 4, 2048, 2304]⟩
abbrev S_ : Shape := ⟨0, ![]⟩
abbrev S4x2x4x2048 : Shape := ⟨4, ![4, 2, 4, 2048]⟩
abbrev S4x2x4x2048x1 : Shape := ⟨5, ![4, 2, 4, 2048, 1]⟩
abbrev S4x2x128x4x2048 : Shape := ⟨5, ![4, 2, 128, 4, 2048]⟩
abbrev S4x2048x1024 : Shape := ⟨3, ![4, 2048, 1024]⟩
abbrev S4x2x128x2304 : Shape := ⟨4, ![4, 2, 128, 2304]⟩
abbrev S4x2x2048x4x128 : Shape := ⟨5, ![4, 2, 2048, 4, 128]⟩
abbrev S4x2x2304x128 : Shape := ⟨4, ![4, 2, 2304, 128]⟩

abbrev nBuf : Space → Nat
  | .hbm => 99
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x256, .f32⟩
  | .hbm, ⟨2, _⟩ => ⟨S1024x256, .f32⟩
  | .hbm, ⟨3, _⟩ => ⟨S8192x256, .f32⟩
  | .hbm, ⟨4, _⟩ => ⟨S8192x256, .f32⟩
  | .hbm, ⟨5, _⟩ => ⟨S8192x1024, .f32⟩
  | .hbm, ⟨6, _⟩ => ⟨S4x2048x8x128, .f32⟩
  | .hbm, ⟨7, _⟩ => ⟨S4x2048x2x128, .f32⟩
  | .hbm, ⟨8, _⟩ => ⟨S4x2048x2x128, .f32⟩
  | .hbm, ⟨9, _⟩ => ⟨S4x256x2x128, .f32⟩
  | .hbm, ⟨10, _⟩ => ⟨S4x256x2x128, .f32⟩
  | .hbm, ⟨11, _⟩ => ⟨S4x2304x2x128, .f32⟩
  | .hbm, ⟨12, _⟩ => ⟨S4x2304x2x128, .f32⟩
  | .hbm, ⟨13, _⟩ => ⟨S4x2048x2x4x128, .f32⟩
  | .hbm, ⟨14, _⟩ => ⟨S4x2x2304x2048x4, .f32⟩
  | .hbm, ⟨15, _⟩ => ⟨S4x2x4x2048x2304, .f32⟩
  | .hbm, ⟨16, _⟩ => ⟨S_, .f32⟩
  | .hbm, ⟨17, _⟩ => ⟨S4x2x4x2048x2304, .f32⟩
  | .hbm, ⟨18, _⟩ => ⟨S4x2x4x2048x2304, .f32⟩
  | .hbm, ⟨19, _⟩ => ⟨S_, .f32⟩
  | .hbm, ⟨20, _⟩ => ⟨S4x2x4x2048, .f32⟩
  | .hbm, ⟨21, _⟩ => ⟨S4x2x4x2048x1, .f32⟩
  | .hbm, ⟨22, _⟩ => ⟨S4x2x4x2048x2304, .f32⟩
  | .hbm, ⟨23, _⟩ => ⟨S4x2x4x2048x2304, .i1⟩
  | .hbm, ⟨24, _⟩ => ⟨S4x2x4x2048x2304, .f32⟩
  | .hbm, ⟨25, _⟩ => ⟨S_, .f32⟩
  | .hbm, ⟨26, _⟩ => ⟨S4x2x4x2048, .f32⟩
  | .hbm, ⟨27, _⟩ => ⟨S_, .f32⟩
  | .hbm, ⟨28, _⟩ => ⟨S4x2x4x2048, .f32⟩
  | .hbm, ⟨29, _⟩ => ⟨S4x2x4x2048, .f32⟩
  | .hbm, ⟨30, _⟩ => ⟨S_, .f32⟩
  | .hbm, ⟨31, _⟩ => ⟨S4x2x4x2048, .f32⟩
  | .hbm, ⟨32, _⟩ => ⟨S4x2x4x2048, .i1⟩
  | .hbm, ⟨33, _⟩ => ⟨S_, .f32⟩
  | .hbm, ⟨34, _⟩ => ⟨S4x2x4x2048, .f32⟩
  | .hbm, ⟨35, _⟩ => ⟨S4x2x4x2048, .i1⟩
  | .hbm, ⟨36, _⟩ => ⟨S_, .f32⟩
  | .hbm, ⟨37, _⟩ => ⟨S4x2x4x2048, .f32⟩
  | .hbm, ⟨38, _⟩ => ⟨S_, .f32⟩
  | .hbm, ⟨39, _⟩ => ⟨S4x2x4x2048, .f32⟩
  | .hbm, ⟨40, _⟩ => ⟨S_, .f32⟩
  | .hbm, ⟨41, _⟩ => ⟨S4x2x4x2048, .f32⟩
  | .hbm, ⟨42, _⟩ => ⟨S4x2x4x2048, .f32⟩
  | .hbm, ⟨43, _⟩ => ⟨S4x2x4x2048, .f32⟩
  | .hbm, ⟨44, _⟩ => ⟨S4x2x4x2048x1, .f32⟩
  | .hbm, ⟨45, _⟩ => ⟨S4x2x4x2048x2304, .f32⟩
  | .hbm, ⟨46, _⟩ => ⟨S4x2x4x2048x2304, .f32⟩
  | .hbm, ⟨47, _⟩ => ⟨S4x2x4x2048x2304, .f32⟩
  | .hbm, ⟨48, _⟩ => ⟨S_, .f32⟩
  | .hbm, ⟨49, _⟩ => ⟨S4x2x4x2048, .f32⟩
  | .hbm, ⟨50, _⟩ => ⟨S4x2x4x2048x1, .f32⟩
  | .hbm, ⟨51, _⟩ => ⟨S4x2x4x2048x2304, .f32⟩
  | .hbm, ⟨52, _⟩ => ⟨S4x2x4x2048x2304, .f32⟩
  | .hbm, ⟨53, _⟩ => ⟨S4x2x4x2048x1, .f32⟩
  | .hbm, ⟨54, _⟩ => ⟨S_, .f32⟩
  | .hbm, ⟨55, _⟩ => ⟨S4x2x4x2048x1, .f32⟩
  | .hbm, ⟨56, _⟩ => ⟨S4x2x4x2048x1, .f32⟩
  | .hbm, ⟨57, _⟩ => ⟨S4x2x128x4x2048, .f32⟩
  | .hbm, ⟨58, _⟩ => ⟨S4x2048x2x4x128, .f32⟩
  | .hbm, ⟨59, _⟩ => ⟨S4x2048x1024, .f32⟩
  | .hbm, ⟨60, _⟩ => ⟨S8192x1024, .f32⟩
  | .hbm, ⟨61, _⟩ => ⟨S4x2048x1024, .f32⟩
  | .hbm, ⟨62, _⟩ => ⟨S4x2048x2x4x128, .f32⟩
  | .hbm, ⟨63, _⟩ => ⟨S4x2x128x4x2048, .f32⟩
  | .hbm, ⟨64, _⟩ => ⟨S4x2x4x2048x2304, .f32⟩
  | .hbm, ⟨65, _⟩ => ⟨S4x2x128x2304, .f32⟩
  | .hbm, ⟨66, _⟩ => ⟨S4x2304x2x128, .f32⟩
  | .hbm, ⟨67, _⟩ => ⟨S4x2x4x2048x2304, .f32⟩
  | .hbm, ⟨68, _⟩ => ⟨S4x2x4x2048x2304, .f32⟩
  | .hbm, ⟨69, _⟩ => ⟨S4x2x4x2048x2304, .f32⟩
  | .hbm, ⟨70, _⟩ => ⟨S_, .f32⟩
  | .hbm, ⟨71, _⟩ => ⟨S4x2x4x2048, .f32⟩
  | .hbm, ⟨72, _⟩ => ⟨S4x2x4x2048x1, .f32⟩
  | .hbm, ⟨73, _⟩ => ⟨S4x2x4x2048x1, .f32⟩
  | .hbm, ⟨74, _⟩ => ⟨S4x2x4x2048x2304, .f32⟩
  | .hbm, ⟨75, _⟩ => ⟨S4x2x4x2048x2304, .f32⟩
  | .hbm, ⟨76, _⟩ => ⟨S_, .f32⟩
  | .hbm, ⟨77, _⟩ => ⟨S4x2x4x2048, .f32⟩
  | .hbm, ⟨78, _⟩ => ⟨S4x2x4x2048x2304, .f32⟩
  | .hbm, ⟨79, _⟩ => ⟨S4x2x4x2048x2304, .f32⟩
  | .hbm, ⟨80, _⟩ => ⟨S4x2x4x2048x2304, .f32⟩
  | .hbm, ⟨81, _⟩ => ⟨S_, .f32⟩
  | .hbm, ⟨82, _⟩ => ⟨S4x2x4x2048x2304, .f32⟩
  | .hbm, ⟨83, _⟩ => ⟨S4x2x4x2048x2304, .f32⟩
  | .hbm, ⟨84, _⟩ => ⟨S4x2x2304x2048x4, .f32⟩
  | .hbm, ⟨85, _⟩ => ⟨S4x2x2048x4x128, .f32⟩
  | .hbm, ⟨86, _⟩ => ⟨S4x2048x2x4x128, .f32⟩
  | .hbm, ⟨87, _⟩ => ⟨S4x2x2304x128, .f32⟩
  | .hbm, ⟨88, _⟩ => ⟨S4x2304x2x128, .f32⟩
  | .hbm, ⟨89, _⟩ => ⟨S4x2048x8x128, .f32⟩
  | .hbm, ⟨90, _⟩ => ⟨S4x256x2x128, .f32⟩
  | .hbm, ⟨91, _⟩ => ⟨S4x2048x2x128, .f32⟩
  | .hbm, ⟨92, _⟩ => ⟨S4x256x2x128, .f32⟩
  | .hbm, ⟨93, _⟩ => ⟨S4x2048x2x128, .f32⟩
  | .hbm, ⟨94, _⟩ => ⟨S1024x256, .f32⟩
  | .hbm, ⟨95, _⟩ => ⟨S1024x256, .f32⟩
  | .hbm, ⟨96, _⟩ => ⟨S8192x256, .f32⟩
  | .hbm, ⟨97, _⟩ => ⟨S8192x256, .f32⟩
  | .hbm, ⟨98, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_cst_6 : Ref sig .tc := ⟨.hbm, 38, rfl⟩
abbrev main_v25 : Ref sig .tc := ⟨.hbm, 39, rfl⟩
abbrev main_cst_7 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_8 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_9 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_10 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_11 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_cst_12 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩

abbrev nD : Nat := 1
abbrev τ : Topo := Topo.v7x

variable {F : FTy → Type} [FloatOps F]
-- ==== KernelLin.lean ====
abbrev S9216x1024 : Shape := ⟨2, ![9216, 1024]⟩
abbrev S1024x1024 : Shape := ⟨2, ![1024, 1024]⟩
abbrev S1024 : Shape := ⟨1, ![1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S9216x1024, .f32⟩
  | .hbm, ⟨1, _⟩ => ⟨S1024x1024, .bf16⟩
  | .hbm, ⟨2, _⟩ => ⟨S1024, .f32⟩
  | .hbm, ⟨3, _⟩ => ⟨S1x1024, .f32⟩
  | .hbm, ⟨4, _⟩ => ⟨S9216x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S9216x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨3, ![9, 1, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== KernelLinIdeal.lean ====
abbrev S9216x1024 : Shape := ⟨2, ![9216, 1024]⟩
abbrev S1024x1024 : Shape := ⟨2, ![1024, 1024]⟩
abbrev S1024 : Shape := ⟨1, ![1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S9216x1024, .f32⟩
  | .hbm, ⟨1, _⟩ => ⟨S1024x1024, .bf16⟩
  | .hbm, ⟨2, _⟩ => ⟨S1024, .f32⟩
  | .hbm, ⟨3, _⟩ => ⟨S1x1024, .f32⟩
  | .hbm, ⟨4, _⟩ => ⟨S9216x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S9216x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨3, ![9, 1, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceLinIdeal.lean ====
abbrev S9216x1024 : Shape := ⟨2, ![9216, 1024]⟩
abbrev S1024x1024 : Shape := ⟨2, ![1024, 1024]⟩
abbrev S1024 : Shape := ⟨1, ![1024]⟩
abbrev S1x1024 : Shape := ⟨2, ![1, 1024]⟩

abbrev nBuf : Space → Nat
  | .hbm => 8
  | .vmem => 0
  | .smem => 0
  | _ => 0

abbrev bufTy : (tb : Table) → Fin (tcTables nBuf tb) → BufTy
  | .hbm, ⟨0, _⟩ => ⟨S9216x1024, .f32⟩
  | .hbm, ⟨1, _⟩ => ⟨S1024x1024, .bf16⟩
  | .hbm, ⟨2, _⟩ => ⟨S1024, .f32⟩
  | .hbm, ⟨3, _⟩ => ⟨S1024x1024, .f32⟩
  | .hbm, ⟨4, _⟩ => ⟨S9216x1024, .f32⟩
  | .hbm, ⟨5, _⟩ => ⟨S1x1024, .f32⟩
  | .hbm, ⟨6, _⟩ => ⟨S9216x1024, .f32⟩
  | .hbm, ⟨7, _⟩ => ⟨S9216x1024, .f32⟩
  | _, _ => ⟨S9216x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelLinDx.lean ====
abbrev S1024x1024 : Shape := ⟨2, ![1024, 1024]⟩
abbrev S9216x1024 : Shape := ⟨2, ![9216, 1024]⟩

abbrev nBuf : Space → Nat
  | .hbm => 3
  | .vmem => 6
  | .smem => 0
  | _ => 0

abbrev bufTy : (tb : Table) → Fin (tcTables nBuf tb) → BufTy
  | .hbm, ⟨0, _⟩ => ⟨S1024x1024, .bf16⟩
  | .hbm, ⟨1, _⟩ => ⟨S9216x1024, .f32⟩
  | .hbm, ⟨2, _⟩ => ⟨S9216x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![9, 1, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KernelLinDxIdeal.lean ====
abbrev S1024x1024 : Shape := ⟨2, ![1024, 1024]⟩
abbrev S9216x1024 : Shape := ⟨2, ![9216, 1024]⟩

abbrev nBuf : Space → Nat
  | .hbm => 3
  | .vmem => 6
  | .smem => 0
  | _ => 0

abbrev bufTy : (tb : Table) → Fin (tcTables nBuf tb) → BufTy
  | .hbm, ⟨0, _⟩ => ⟨S1024x1024, .bf16⟩
  | .hbm, ⟨1, _⟩ => ⟨S9216x1024, .f32⟩
  | .hbm, ⟨2, _⟩ => ⟨S9216x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![9, 1, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceLinDxIdeal.lean ====
abbrev S1024x1024 : Shape := ⟨2, ![1024, 1024]⟩
abbrev S9216x1024 : Shape := ⟨2, ![9216, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S9216x1024, .f32⟩
  | .hbm, ⟨2, _⟩ => ⟨S_, .f32⟩
  | .hbm, ⟨3, _⟩ => ⟨S9216x1024, .f32⟩
  | .hbm, ⟨4, _⟩ => ⟨S1024x1024, .f32⟩
  | .hbm, ⟨5, _⟩ => ⟨S9216x1024, .f32⟩
  | .hbm, ⟨6, _⟩ => ⟨S9216x1024, .f32⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelLinDw.lean ====
abbrev S9216x1024 : Shape := ⟨2, ![9216, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S9216x1024, .f32⟩
  | .hbm, ⟨1, _⟩ => ⟨S9216x1024, .f32⟩
  | .hbm, ⟨2, _⟩ => ⟨S1024x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .f32⟩
  | _, _ => ⟨S9216x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 9], ![false, false, false]⟩

def k0_cond2 (i : grid0.Coords) : BitVec 1 :=
  let arg2 : BitVec 32 := BitVec.ofNat 32 (i 2).val
  let c8_i32 : BitVec 32 := 8#32
  let v13 : BitVec 1 := Scalar.cmpi .eq arg2 c8_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== KernelLinDwIdeal.lean ====
abbrev S9216x1024 : Shape := ⟨2, ![9216, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S9216x1024, .f32⟩
  | .hbm, ⟨1, _⟩ => ⟨S9216x1024, .f32⟩
  | .hbm, ⟨2, _⟩ => ⟨S1024x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .f32⟩
  | _, _ => ⟨S9216x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 9], ![false, false, false]⟩

def k0_cond2 (i : grid0.Coords) : BitVec 1 :=
  let arg2 : BitVec 32 := BitVec.ofNat 32 (i 2).val
  let c8_i32 : BitVec 32 := 8#32
  let v13 : BitVec 1 := Scalar.cmpi .eq arg2 c8_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ReferenceLinDwIdeal.lean ====
abbrev S9216x1024 : Shape := ⟨2, ![9216, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S9216x1024, .f32⟩
  | .hbm, ⟨1, _⟩ => ⟨S9216x1024, .f32⟩
  | .hbm, ⟨2, _⟩ => ⟨S_, .bf16⟩
  | .hbm, ⟨3, _⟩ => ⟨S1024x1024, .bf16⟩
  | .hbm, ⟨4, _⟩ => ⟨S1024x1024, .f32⟩
  | .hbm, ⟨5, _⟩ => ⟨S9216x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S9216x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelLinDb.lean ====
abbrev S9216x1024 : Shape := ⟨2, ![9216, 1024]⟩
abbrev S1x1024 : Shape := ⟨2, ![1, 1024]⟩
abbrev S1024x1024 : Shape := ⟨2, ![1024, 1024]⟩
abbrev S1024 : Shape := ⟨1, ![1024]⟩

abbrev nBuf : Space → Nat
  | .hbm => 2
  | .vmem => 3
  | .smem => 0
  | _ => 0

abbrev bufTy : (tb : Table) → Fin (tcTables nBuf tb) → BufTy
  | .hbm, ⟨0, _⟩ => ⟨S9216x1024, .f32⟩
  | .hbm, ⟨1, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | _, _ => ⟨S9216x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨2, ![1, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]
-- ==== KernelLinDbIdeal.lean ====
abbrev S9216x1024 : Shape := ⟨2, ![9216, 1024]⟩
abbrev S1x1024 : Shape := ⟨2, ![1, 1024]⟩
abbrev S1024x1024 : Shape := ⟨2, ![1024, 1024]⟩
abbrev S1024 : Shape := ⟨1, ![1024]⟩

abbrev nBuf : Space → Nat
  | .hbm => 2
  | .vmem => 3
  | .smem => 0
  | _ => 0

abbrev bufTy : (tb : Table) → Fin (tcTables nBuf tb) → BufTy
  | .hbm, ⟨0, _⟩ => ⟨S9216x1024, .f32⟩
  | .hbm, ⟨1, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | _, _ => ⟨S9216x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨2, ![1, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]
-- ==== ReferenceLinDbIdeal.lean ====
abbrev S9216x1024 : Shape := ⟨2, ![9216, 1024]⟩
abbrev S_ : Shape := ⟨0, ![]⟩
abbrev S1x1024 : Shape := ⟨2, ![1, 1024]⟩
abbrev S1024 : Shape := ⟨1, ![1024]⟩

abbrev nBuf : Space → Nat
  | .hbm => 10
  | .vmem => 0
  | .smem => 0
  | _ => 0

abbrev bufTy : (tb : Table) → Fin (tcTables nBuf tb) → BufTy
  | .hbm, ⟨0, _⟩ => ⟨S9216x1024, .f32⟩
  | .hbm, ⟨1, _⟩ => ⟨S_, .f32⟩
  | .hbm, ⟨2, _⟩ => ⟨S1x1024, .f32⟩
  | .hbm, ⟨3, _⟩ => ⟨S_, .f32⟩
  | .hbm, ⟨4, _⟩ => ⟨S9216x1024, .f32⟩
  | .hbm, ⟨5, _⟩ => ⟨S9216x1024, .f32⟩
  | .hbm, ⟨6, _⟩ => ⟨S9216x1024, .f32⟩
  | .hbm, ⟨7, _⟩ => ⟨S_, .f32⟩
  | .hbm, ⟨8, _⟩ => ⟨S1024, .f32⟩
  | .hbm, ⟨9, _⟩ => ⟨S1x1024, .f32⟩
  | _, _ => ⟨S9216x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_1 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== KernelUp.lean ====
abbrev S9216x1024 : Shape := ⟨2, ![9216, 1024]⟩
abbrev S1024x2816 : Shape := ⟨2, ![1024, 2816]⟩
abbrev S9216x2816 : Shape := ⟨2, ![9216, 2816]⟩
abbrev S1024x1024 : Shape := ⟨2, ![1024, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S9216x1024, .f32⟩
  | .hbm, ⟨1, _⟩ => ⟨S1024x2816, .bf16⟩
  | .hbm, ⟨2, _⟩ => ⟨S9216x2816, .f32⟩
  | .local _ .vmem, ⟨0, _⟩ => ⟨S1024x1024, .f32⟩
  | .local _ .vmem, ⟨1, _⟩ => ⟨S1024x1024, .f32⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S9216x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![9, 2, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KernelUpIdeal.lean ====
abbrev S9216x1024 : Shape := ⟨2, ![9216, 1024]⟩
abbrev S1024x2816 : Shape := ⟨2, ![1024, 2816]⟩
abbrev S9216x2816 : Shape := ⟨2, ![9216, 2816]⟩
abbrev S1024x1024 : Shape := ⟨2, ![1024, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S9216x1024, .f32⟩
  | .hbm, ⟨1, _⟩ => ⟨S1024x2816, .bf16⟩
  | .hbm, ⟨2, _⟩ => ⟨S9216x2816, .f32⟩
  | .local _ .vmem, ⟨0, _⟩ => ⟨S1024x1024, .f32⟩
  | .local _ .vmem, ⟨1, _⟩ => ⟨S1024x1024, .f32⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S9216x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![9, 2, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceUpIdeal.lean ====
abbrev S9216x1024 : Shape := ⟨2, ![9216, 1024]⟩
abbrev S1024x2816 : Shape := ⟨2, ![1024, 2816]⟩
abbrev S9216x2816 : Shape := ⟨2, ![9216, 2816]⟩

abbrev nBuf : Space → Nat
  | .hbm => 4
  | .vmem => 0
  | .smem => 0
  | _ => 0

abbrev bufTy : (tb : Table) → Fin (tcTables nBuf tb) → BufTy
  | .hbm, ⟨0, _⟩ => ⟨S9216x1024, .f32⟩
  | .hbm, ⟨1, _⟩ => ⟨S1024x2816, .bf16⟩
  | .hbm, ⟨2, _⟩ => ⟨S1024x2816, .f32⟩
  | .hbm, ⟨3, _⟩ => ⟨S9216x2816, .f32⟩
  | _, _ => ⟨S9216x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== KernelUpDx.lean ====
abbrev S1024x2816 : Shape := ⟨2, ![1024, 2816]⟩
abbrev S9216x2816 : Shape := ⟨2, ![9216, 2816]⟩
abbrev S9216x1024 : Shape := ⟨2, ![9216, 1024]⟩
abbrev S1024x256 : Shape := ⟨2, ![1024, 256]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S1024x2816, .bf16⟩
  | .hbm, ⟨1, _⟩ => ⟨S9216x2816, .f32⟩
  | .hbm, ⟨2, _⟩ => ⟨S9216x1024, .f32⟩
  | .local _ .vmem, ⟨0, _⟩ => ⟨S1024x256, .f32⟩
  | .local _ .vmem, ⟨1, _⟩ => ⟨S1024x256, .f32⟩
  | .local _ .vmem, ⟨2, _⟩ => ⟨S1024x256, .bf16⟩
  | .local _ .vmem, ⟨3, _⟩ => ⟨S1024x256, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S1024x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![9, 1, 11], ![false, false, false]⟩

def k0_cond2 (i : grid0.Coords) : BitVec 1 :=
  let arg2 : BitVec 32 := BitVec.ofNat 32 (i 2).val
  let c10_i32 : BitVec 32 := 10#32
  let v12 : BitVec 1 := Scalar.cmpi .eq arg2 c10_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KernelUpDxIdeal.lean ====
abbrev S1024x2816 : Shape := ⟨2, ![1024, 2816]⟩
abbrev S9216x2816 : Shape := ⟨2, ![9216, 2816]⟩
abbrev S9216x1024 : Shape := ⟨2, ![9216, 1024]⟩
abbrev S1024x256 : Shape := ⟨2, ![1024, 256]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S1024x2816, .bf16⟩
  | .hbm, ⟨1, _⟩ => ⟨S9216x2816, .f32⟩
  | .hbm, ⟨2, _⟩ => ⟨S9216x1024, .f32⟩
  | .local _ .vmem, ⟨0, _⟩ => ⟨S1024x256, .f32⟩
  | .local _ .vmem, ⟨1, _⟩ => ⟨S1024x256, .f32⟩
  | .local _ .vmem, ⟨2, _⟩ => ⟨S1024x256, .bf16⟩
  | .local _ .vmem, ⟨3, _⟩ => ⟨S1024x256, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S1024x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![9, 1, 11], ![false, false, false]⟩

def k0_cond2 (i : grid0.Coords) : BitVec 1 :=
  let arg2 : BitVec 32 := BitVec.ofNat 32 (i 2).val
  let c10_i32 : BitVec 32 := 10#32
  let v12 : BitVec 1 := Scalar.cmpi .eq arg2 c10_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceUpDxIdeal.lean ====
abbrev S1024x2816 : Shape := ⟨2, ![1024, 2816]⟩
abbrev S9216x2816 : Shape := ⟨2, ![9216, 2816]⟩
abbrev S_ : Shape := ⟨0, ![]⟩
abbrev S9216x1024 : Shape := ⟨2, ![9216, 1024]⟩

abbrev nBuf : Space → Nat
  | .hbm => 7
  | .vmem => 0
  | .smem => 0
  | _ => 0

abbrev bufTy : (tb : Table) → Fin (tcTables nBuf tb) → BufTy
  | .hbm, ⟨0, _⟩ => ⟨S1024x2816, .bf16⟩
  | .hbm, ⟨1, _⟩ => ⟨S9216x2816, .f32⟩
  | .hbm, ⟨2, _⟩ => ⟨S_, .f32⟩
  | .hbm, ⟨3, _⟩ => ⟨S9216x1024, .f32⟩
  | .hbm, ⟨4, _⟩ => ⟨S1024x2816, .f32⟩
  | .hbm, ⟨5, _⟩ => ⟨S9216x2816, .f32⟩
  | .hbm, ⟨6, _⟩ => ⟨S9216x1024, .f32⟩
  | _, _ => ⟨S1024x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelUpDw.lean ====
abbrev S9216x1024 : Shape := ⟨2, ![9216, 1024]⟩
abbrev S9216x2816 : Shape := ⟨2, ![9216, 2816]⟩
abbrev S1024x2816 : Shape := ⟨2, ![1024, 2816]⟩
abbrev S1024x1024 : Shape := ⟨2, ![1024, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S9216x1024, .f32⟩
  | .hbm, ⟨1, _⟩ => ⟨S9216x2816, .f32⟩
  | .hbm, ⟨2, _⟩ => ⟨S1024x2816, .bf16⟩
  | .local _ .vmem, ⟨0, _⟩ => ⟨S1024x1024, .f32⟩
  | .local _ .vmem, ⟨1, _⟩ => ⟨S1024x1024, .f32⟩
  | .local _ .vmem, ⟨2, _⟩ => ⟨S1024x1408, .f32⟩
  | .local _ .vmem, ⟨3, _⟩ => ⟨S1024x1408, .f32⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S9216x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 9], ![false, false, false]⟩

def k0_cond2 (i : grid0.Coords) : BitVec 1 :=
  let arg2 : BitVec 32 := BitVec.ofNat 32 (i 2).val
  let c8_i32 : BitVec 32 := 8#32
  let v13 : BitVec 1 := Scalar.cmpi .eq arg2 c8_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KernelUpDwIdeal.lean ====
abbrev S9216x1024 : Shape := ⟨2, ![9216, 1024]⟩
abbrev S9216x2816 : Shape := ⟨2, ![9216, 2816]⟩
abbrev S1024x2816 : Shape := ⟨2, ![1024, 2816]⟩
abbrev S1024x1024 : Shape := ⟨2, ![1024, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S9216x1024, .f32⟩
  | .hbm, ⟨1, _⟩ => ⟨S9216x2816, .f32⟩
  | .hbm, ⟨2, _⟩ => ⟨S1024x2816, .bf16⟩
  | .local _ .vmem, ⟨0, _⟩ => ⟨S1024x1024, .f32⟩
  | .local _ .vmem, ⟨1, _⟩ => ⟨S1024x1024, .f32⟩
  | .local _ .vmem, ⟨2, _⟩ => ⟨S1024x1408, .f32⟩
  | .local _ .vmem, ⟨3, _⟩ => ⟨S1024x1408, .f32⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S9216x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 9], ![false, false, false]⟩

def k0_cond2 (i : grid0.Coords) : BitVec 1 :=
  let arg2 : BitVec 32 := BitVec.ofNat 32 (i 2).val
  let c8_i32 : BitVec 32 := 8#32
  let v13 : BitVec 1 := Scalar.cmpi .eq arg2 c8_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceUpDwIdeal.lean ====
abbrev S9216x1024 : Shape := ⟨2, ![9216, 1024]⟩
abbrev S9216x2816 : Shape := ⟨2, ![9216, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 9
  | .vmem => 0
  | .smem => 0
  | _ => 0

abbrev bufTy : (tb : Table) → Fin (tcTables nBuf tb) → BufTy
  | .hbm, ⟨0, _⟩ => ⟨S9216x1024, .f32⟩
  | .hbm, ⟨1, _⟩ => ⟨S9216x2816, .f32⟩
  | .hbm, ⟨2, _⟩ => ⟨S_, .bf16⟩
  | .hbm, ⟨3, _⟩ => ⟨S1024x2816, .bf16⟩
  | .hbm, ⟨4, _⟩ => ⟨S1024x2816, .f32⟩
  | .hbm, ⟨5, _⟩ => ⟨S9216x2816, .f32⟩
  | .hbm, ⟨6, _⟩ => ⟨S2816x1024, .f32⟩
  | .hbm, ⟨7, _⟩ => ⟨S1024x2816, .f32⟩
  | .hbm, ⟨8, _⟩ => ⟨S1024x2816, .bf16⟩
  | _, _ => ⟨S9216x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelDown.lean ====
abbrev S9216x2816 : Shape := ⟨2, ![9216, 2816]⟩
abbrev S2816x1024 : Shape := ⟨2, ![2816, 1024]⟩
abbrev S9216x1024 : Shape := ⟨2, ![9216, 1024]⟩
abbrev S1024x256 : Shape := ⟨2, ![1024, 256]⟩
abbrev S256x1024 : Shape := ⟨2, ![256, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S9216x2816, .f32⟩
  | .hbm, ⟨1, _⟩ => ⟨S2816x1024, .bf16⟩
  | .hbm, ⟨2, _⟩ => ⟨S9216x1024, .f32⟩
  | .local _ .vmem, ⟨0, _⟩ => ⟨S1024x256, .f32⟩
  | .local _ .vmem, ⟨1, _⟩ => ⟨S1024x256, .f32⟩
  | .local _ .vmem, ⟨2, _⟩ => ⟨S256x1024, .bf16⟩
  | .local _ .vmem, ⟨3, _⟩ => ⟨S256x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S9216x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![9, 1, 11], ![false, false, false]⟩

def k0_cond2 (i : grid0.Coords) : BitVec 1 :=
  let arg2 : BitVec 32 := BitVec.ofNat 32 (i 2).val
  let c10_i32 : BitVec 32 := 10#32
  let v12 : BitVec 1 := Scalar.cmpi .eq arg2 c10_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDownIdeal.lean ====
abbrev S9216x2816 : Shape := ⟨2, ![9216, 2816]⟩
abbrev S2816x1024 : Shape := ⟨2, ![2816, 1024]⟩
abbrev S9216x1024 : Shape := ⟨2, ![9216, 1024]⟩

abbrev nBuf : Space → Nat
  | .hbm => 4
  | .vmem => 0
  | .smem => 0
  | _ => 0

abbrev bufTy : (tb : Table) → Fin (tcTables nBuf tb) → BufTy
  | .hbm, ⟨0, _⟩ => ⟨S9216x2816, .f32⟩
  | .hbm, ⟨1, _⟩ => ⟨S2816x1024, .bf16⟩
  | .hbm, ⟨2, _⟩ => ⟨S2816x1024, .f32⟩
  | .hbm, ⟨3, _⟩ => ⟨S9216x1024, .f32⟩
  | _, _ => ⟨S9216x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== KernelDownDx.lean ====
abbrev S2816x1024 : Shape := ⟨2, ![2816, 1024]⟩
abbrev S9216x1024 : Shape := ⟨2, ![9216, 1024]⟩
abbrev S9216x2816 : Shape := ⟨2, ![9216, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S2816x1024, .bf16⟩
  | .hbm, ⟨1, _⟩ => ⟨S9216x1024, .f32⟩
  | .hbm, ⟨2, _⟩ => ⟨S9216x2816, .f32⟩
  | .local _ .vmem, ⟨0, _⟩ => ⟨S1024x1024, .f32⟩
  | .local _ .vmem, ⟨1, _⟩ => ⟨S1024x1024, .f32⟩
  | .local _ .vmem, ⟨2, _⟩ => ⟨S1408x1024, .bf16⟩
  | .local _ .vmem, ⟨3, _⟩ => ⟨S1408x1024, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S2816x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![9, 2, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDownDxIdeal.lean ====
abbrev S2816x1024 : Shape := ⟨2, ![2816, 1024]⟩
abbrev S9216x1024 : Shape := ⟨2, ![9216, 1024]⟩
abbrev S_ : Shape := ⟨0, ![]⟩
abbrev S9216x2816 : Shape := ⟨2, ![9216, 2816]⟩

abbrev nBuf : Space → Nat
  | .hbm => 7
  | .vmem => 0
  | .smem => 0
  | _ => 0

abbrev bufTy : (tb : Table) → Fin (tcTables nBuf tb) → BufTy
  | .hbm, ⟨0, _⟩ => ⟨S2816x1024, .bf16⟩
  | .hbm, ⟨1, _⟩ => ⟨S9216x1024, .f32⟩
  | .hbm, ⟨2, _⟩ => ⟨S_, .f32⟩
  | .hbm, ⟨3, _⟩ => ⟨S9216x2816, .f32⟩
  | .hbm, ⟨4, _⟩ => ⟨S2816x1024, .f32⟩
  | .hbm, ⟨5, _⟩ => ⟨S9216x1024, .f32⟩
  | .hbm, ⟨6, _⟩ => ⟨S9216x2816, .f32⟩
  | _, _ => ⟨S2816x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelDownDw.lean ====
abbrev S9216x2816 : Shape := ⟨2, ![9216, 2816]⟩
abbrev S9216x1024 : Shape := ⟨2, ![9216, 1024]⟩
abbrev S2816x1024 : Shape := ⟨2, ![2816, 1024]⟩
abbrev S1024x256 : Shape := ⟨2, ![1024, 256]⟩
abbrev S1024x1024 : Shape := ⟨2, ![1024, 1024]⟩
abbrev S256x1024 : Shape := ⟨2, ![256, 1024]⟩

abbrev nBuf : Space → Nat
  | .hbm => 3
  | .vmem => 7
  | .smem => 0
  | _ => 0

abbrev bufTy : (tb : Table) → Fin (tcTables nBuf tb) → BufTy
  | .hbm, ⟨0, _⟩ => ⟨S9216x2816, .f32⟩
  | .hbm, ⟨1, _⟩ => ⟨S9216x1024, .f32⟩
  | .hbm, ⟨2, _⟩ => ⟨S2816x1024, .bf16⟩
  | .local _ .vmem, ⟨0, _⟩ => ⟨S1024x256, .f32⟩
  | .local _ .vmem, ⟨1, _⟩ => ⟨S1024x256, .f32⟩
  | .local _ .vmem, ⟨2, _⟩ => ⟨S1024x1024, .f32⟩
  | .local _ .vmem, ⟨3, _⟩ => ⟨S1024x1024, .f32⟩
  | .local _ .vmem, ⟨4, _⟩ => ⟨S256x1024, .bf16⟩
  | .local _ .vmem, ⟨5, _⟩ => ⟨S256x1024, .bf16⟩
  | .local _ .vmem, ⟨6, _⟩ => ⟨S256x1024, .f32⟩
  | _, _ => ⟨S9216x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 1, 9], ![false, false, false]⟩

def k0_cond2 (i : grid0.Coords) : BitVec 1 :=
  let arg2 : BitVec 32 := BitVec.ofNat 32 (i 2).val
  let c8_i32 : BitVec 32 := 8#32
  let v13 : BitVec 1 := Scalar.cmpi .eq arg2 c8_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDownDwIdeal.lean ====
abbrev S9216x2816 : Shape := ⟨2, ![9216, 2816]⟩
abbrev S9216x1024 : Shape := ⟨2, ![9216, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S9216x2816, .f32⟩
  | .hbm, ⟨1, _⟩ => ⟨S9216x1024, .f32⟩
  | .hbm, ⟨2, _⟩ => ⟨S_, .bf16⟩
  | .hbm, ⟨3, _⟩ => ⟨S2816x1024, .bf16⟩
  | .hbm, ⟨4, _⟩ => ⟨S2816x1024, .f32⟩
  | .hbm, ⟨5, _⟩ => ⟨S9216x1024, .f32⟩
  | .hbm, ⟨6, _⟩ => ⟨S1024x2816, .f32⟩
  | .hbm, ⟨7, _⟩ => ⟨S2816x1024, .f32⟩
  | .hbm, ⟨8, _⟩ => ⟨S2816x1024, .bf16⟩
  | _, _ => ⟨S9216x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelAttn.lean ====
abbrev S8192x1024 : Shape := ⟨2, ![8192, 1024]⟩
abbrev S1024x256 : Shape := ⟨2, ![1024, 256]⟩
abbrev S8192x256 : Shape := ⟨2, ![8192, 256]⟩
abbrev S256x512 : Shape := ⟨2, ![256, 512]⟩
abbrev S256x128 : Shape := ⟨2, ![256, 128]⟩
abbrev S2048x128 : Shape := ⟨2, ![2048, 128]⟩
abbrev S256x256 : Shape := ⟨2, ![256, 256]⟩
abbrev S256x2048 : Shape := ⟨2, ![256, 2048]⟩
abbrev S256 : Shape := ⟨1, ![256]⟩
abbrev S256x1 : Shape := ⟨2, ![256, 1]⟩

abbrev nBuf : Space → Nat
  | .hbm => 6
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1024x256, .f32⟩
  | .hbm, ⟨2, _⟩ => ⟨S1024x256, .f32⟩
  | .hbm, ⟨3, _⟩ => ⟨S8192x256, .f32⟩
  | .hbm, ⟨4, _⟩ => ⟨S8192x256, .f32⟩
  | .hbm, ⟨5, _⟩ => ⟨S8192x1024, .f32⟩
  | .local _ .vmem, ⟨0, _⟩ => ⟨S256x512, .f32⟩
  | .local _ .vmem, ⟨1, _⟩ => ⟨S256x512, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S256x512, .f32⟩
  | .local _ .vmem, ⟨11, _⟩ => ⟨S256x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 2, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceAttnIdeal.lean ====
abbrev S8192x1024 : Shape := ⟨2, ![8192, 1024]⟩
abbrev S1024x256 : Shape := ⟨2, ![1024, 256]⟩
abbrev S8192x256 : Shape := ⟨2, ![8192, 256]⟩
abbrev S4x2048x8x128 : Shape := ⟨4, ![4, 2048, 8, 128]⟩
abbrev S4x2048x2x128 : Shape := ⟨4, ![4, 2048, 2, 128]⟩
abbrev S4x256x2x128 : Shape := ⟨4, ![4, 256, 2, 128]⟩
abbrev S4x2304x2x128 : Shape := ⟨4, ![4, 2304, 2, 128]⟩
abbrev S4x2048x2x4x128 : Shape := ⟨5, ![4, 2048, 2, 4, 128]⟩
abbrev S4x2x2304x2048x4 : Shape := ⟨5, ![4, 2, 2304, 2048, 4]⟩
abbrev S4x2x4x2048x2304 : Shape := ⟨5, ![4, 2, 4, 2048, 2304]⟩
abbrev S_ : Shape := ⟨0, ![]⟩
abbrev S4x2x4x2048 : Shape := ⟨4, ![4, 2, 4, 2048]⟩
abbrev S4x2x4x2048x1 : Shape := ⟨5, ![4, 2, 4, 2048, 1]⟩
abbrev S4x2x128x4x2048 : Shape := ⟨5, ![4, 2, 128, 4, 2048]⟩
abbrev S4x2048x1024 : Shape := ⟨3, ![4, 2048, 1024]⟩

abbrev nBuf : Space → Nat
  | .hbm => 36
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x256, .f32⟩
  | .hbm, ⟨2, _⟩ => ⟨S1024x256, .f32⟩
  | .hbm, ⟨3, _⟩ => ⟨S8192x256, .f32⟩
  | .hbm, ⟨4, _⟩ => ⟨S8192x256, .f32⟩
  | .hbm, ⟨5, _⟩ => ⟨S4x2048x8x128, .f32⟩
  | .hbm, ⟨6, _⟩ => ⟨S4x2048x2x128, .f32⟩
  | .hbm, ⟨7, _⟩ => ⟨S4x2048x2x128, .f32⟩
  | .hbm, ⟨8, _⟩ => ⟨S4x256x2x128, .f32⟩
  | .hbm, ⟨9, _⟩ => ⟨S4x256x2x128, .f32⟩
  | .hbm, ⟨10, _⟩ => ⟨S4x2304x2x128, .f32⟩
  | .hbm, ⟨11, _⟩ => ⟨S4x2304x2x128, .f32⟩
  | .hbm, ⟨12, _⟩ => ⟨S4x2048x2x4x128, .f32⟩
  | .hbm, ⟨13, _⟩ => ⟨S4x2x2304x2048x4, .f32⟩
  | .hbm, ⟨14, _⟩ => ⟨S4x2x4x2048x2304, .f32⟩
  | .hbm, ⟨15, _⟩ => ⟨S_, .f32⟩
  | .hbm, ⟨16, _⟩ => ⟨S4x2x4x2048x2304, .f32⟩
  | .hbm, ⟨17, _⟩ => ⟨S4x2x4x2048x2304, .f32⟩
  | .hbm, ⟨18, _⟩ => ⟨S_, .f32⟩
  | .hbm, ⟨19, _⟩ => ⟨S4x2x4x2048, .f32⟩
  | .hbm, ⟨20, _⟩ => ⟨S_, .f32⟩
  | .hbm, ⟨21, _⟩ => ⟨S4x2x4x2048, .f32⟩
  | .hbm, ⟨22, _⟩ => ⟨S4x2x4x2048, .f32⟩
  | .hbm, ⟨23, _⟩ => ⟨S4x2x4x2048x1, .f32⟩
  | .hbm, ⟨24, _⟩ => ⟨S4x2x4x2048x2304, .f32⟩
  | .hbm, ⟨25, _⟩ => ⟨S4x2x4x2048x2304, .f32⟩
  | .hbm, ⟨26, _⟩ => ⟨S4x2x4x2048x2304, .f32⟩
  | .hbm, ⟨27, _⟩ => ⟨S_, .f32⟩
  | .hbm, ⟨28, _⟩ => ⟨S4x2x4x2048, .f32⟩
  | .hbm, ⟨29, _⟩ => ⟨S4x2x4x2048x1, .f32⟩
  | .hbm, ⟨30, _⟩ => ⟨S4x2x4x2048x2304, .f32⟩
  | .hbm, ⟨31, _⟩ => ⟨S4x2x4x2048x2304, .f32⟩
  | .hbm, ⟨32, _⟩ => ⟨S4x2x128x4x2048, .f32⟩
  | .hbm, ⟨33, _⟩ => ⟨S4x2048x2x4x128, .f32⟩
  | .hbm, ⟨34, _⟩ => ⟨S4x2048x1024, .f32⟩
  | .hbm, ⟨35, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]
-- ==== KernelSilu.lean ====
abbrev S9216x2816 : Shape := ⟨2, ![9216, 2816]⟩
abbrev S256x2816 : Shape := ⟨2, ![256, 2816]⟩

abbrev nBuf : Space → Nat
  | .hbm => 5
  | .vmem => 10
  | .smem => 0
  | _ => 0

abbrev bufTy : (tb : Table) → Fin (tcTables nBuf tb) → BufTy
  | .hbm, ⟨0, _⟩ => ⟨S9216x2816, .f32⟩
  | .hbm, ⟨1, _⟩ => ⟨S9216x2816, .f32⟩
  | .hbm, ⟨2, _⟩ => ⟨S9216x2816, .f32⟩
  | .hbm, ⟨3, _⟩ => ⟨S9216x2816, .f32⟩
  | .hbm, ⟨4, _⟩ => ⟨S9216x2816, .f32⟩
  | .local _ .vmem, ⟨0, _⟩ => ⟨S256x2816, .f32⟩
  | .local _ .vmem, ⟨1, _⟩ => ⟨S256x2816, .f32⟩
  | .local _ .vmem, ⟨2, _⟩ => ⟨S256x2816, .f32⟩
  | .local _ .vmem, ⟨3, _⟩ => ⟨S256x2816, .f32⟩
  | .local _ .vmem, ⟨4, _⟩ => ⟨S256x2816, .f32⟩
  | .local _ .vmem, ⟨5, _⟩ => ⟨S256x2816, .f32⟩
  | .local _ .vmem, ⟨6, _⟩ => ⟨S256x2816, .f32⟩
  | .local _ .vmem, ⟨7, _⟩ => ⟨S256x2816, .f32⟩
  | .local _ .vmem, ⟨8, _⟩ => ⟨S256x2816, .f32⟩
  | .local _ .vmem, ⟨9, _⟩ => ⟨S256x2816, .f32⟩
  | _, _ => ⟨S9216x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![36], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceSiluIdeal.lean ====
abbrev S9216x2816 : Shape := ⟨2, ![9216, 2816]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S9216x2816, .f32⟩
  | .hbm, ⟨1, _⟩ => ⟨S9216x2816, .f32⟩
  | .hbm, ⟨2, _⟩ => ⟨S9216x2816, .f32⟩
  | .hbm, ⟨3, _⟩ => ⟨S9216x2816, .f32⟩
  | .hbm, ⟨4, _⟩ => ⟨S9216x2816, .f32⟩
  | .hbm, ⟨5, _⟩ => ⟨S_, .f32⟩
  | .hbm, ⟨6, _⟩ => ⟨S9216x2816, .f32⟩
  | .hbm, ⟨7, _⟩ => ⟨S9216x2816, .f32⟩
  | .hbm, ⟨8, _⟩ => ⟨S_, .f32⟩
  | .hbm, ⟨9, _⟩ => ⟨S9216x2816, .f32⟩
  | .hbm, ⟨10, _⟩ => ⟨S9216x2816, .f32⟩
  | .hbm, ⟨11, _⟩ => ⟨S_, .f32⟩
  | .hbm, ⟨12, _⟩ => ⟨S9216x2816, .f32⟩
  | .hbm, ⟨13, _⟩ => ⟨S9216x2816, .f32⟩
  | .hbm, ⟨14, _⟩ => ⟨S9216x2816, .f32⟩
  | .hbm, ⟨15, _⟩ => ⟨S9216x2816, .f32⟩
  | .hbm, ⟨16, _⟩ => ⟨S9216x2816, .f32⟩
  | .hbm, ⟨17, _⟩ => ⟨S9216x2816, .f32⟩
  | .hbm, ⟨18, _⟩ => ⟨S9216x2816, .f32⟩
  | .hbm, ⟨19, _⟩ => ⟨S9216x2816, .f32⟩
  | .hbm, ⟨20, _⟩ => ⟨S9216x2816, .f32⟩
  | .hbm, ⟨21, _⟩ => ⟨S9216x2816, .f32⟩
  | .hbm, ⟨22, _⟩ => ⟨S9216x2816, .f32⟩
  | _, _ => ⟨S9216x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_v0_2 : Ref sig .tc := ⟨.hbm, 10, rfl⟩
abbrev main_call0_cst_1 : Ref sig .tc := ⟨.hbm, 11, rfl⟩
abbrev main_call0_v6 : Ref sig .tc := ⟨.hbm, 12, rfl⟩
abbrev main_call0_v7 : Ref sig .tc := ⟨.hbm, 13, rfl⟩
abbrev main_v0_1 : Ref sig .tc := ⟨.hbm, 14, rfl⟩
abbrev main_v0_0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_v4 : Ref sig .tc := ⟨.hbm, 22, rfl⟩

abbrev nD : Nat := 1
abbrev τ : Topo := Topo.v7x

variable {F : FTy → Type} [FloatOps F]
-- ==== KernelGlu.lean ====
abbrev S9216x1024 : Shape := ⟨2, ![9216, 1024]⟩
abbrev S256x1024 : Shape := ⟨2, ![256, 1024]⟩

abbrev nBuf : Space → Nat
  | .hbm => 5
  | .vmem => 10
  | .smem => 0
  | _ => 0

abbrev bufTy : (tb : Table) → Fin (tcTables nBuf tb) → BufTy
  | .hbm, ⟨0, _⟩ => ⟨S9216x1024, .f32⟩
  | .hbm, ⟨1, _⟩ => ⟨S9216x1024, .f32⟩
  | .hbm, ⟨2, _⟩ => ⟨S9216x1024, .f32⟩
  | .hbm, ⟨3, _⟩ => ⟨S9216x1024, .f32⟩
  | .hbm, ⟨4, _⟩ => ⟨S9216x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | _, _ => ⟨S9216x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![36], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceGluIdeal.lean ====
abbrev S9216x1024 : Shape := ⟨2, ![9216, 1024]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S9216x1024, .f32⟩
  | .hbm, ⟨1, _⟩ => ⟨S9216x1024, .f32⟩
  | .hbm, ⟨2, _⟩ => ⟨S9216x1024, .f32⟩
  | .hbm, ⟨3, _⟩ => ⟨S9216x1024, .f32⟩
  | .hbm, ⟨4, _⟩ => ⟨S9216x1024, .f32⟩
  | .hbm, ⟨5, _⟩ => ⟨S_, .f32⟩
  | .hbm, ⟨6, _⟩ => ⟨S9216x1024, .f32⟩
  | .hbm, ⟨7, _⟩ => ⟨S9216x1024, .f32⟩
  | .hbm, ⟨8, _⟩ => ⟨S_, .f32⟩
  | .hbm, ⟨9, _⟩ => ⟨S9216x1024, .f32⟩
  | .hbm, ⟨10, _⟩ => ⟨S9216x1024, .f32⟩
  | .hbm, ⟨11, _⟩ => ⟨S_, .f32⟩
  | .hbm, ⟨12, _⟩ => ⟨S9216x1024, .f32⟩
  | .hbm, ⟨13, _⟩ => ⟨S9216x1024, .f32⟩
  | .hbm, ⟨14, _⟩ => ⟨S9216x1024, .f32⟩
  | .hbm, ⟨15, _⟩ => ⟨S9216x1024, .f32⟩
  | .hbm, ⟨16, _⟩ => ⟨S9216x1024, .f32⟩
  | .hbm, ⟨17, _⟩ => ⟨S9216x1024, .f32⟩
  | .hbm, ⟨18, _⟩ => ⟨S9216x1024, .f32⟩
  | _, _ => ⟨S9216x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== KernelConvDx.lean ====
abbrev S31x1024 : Shape := ⟨2, ![31, 1024]⟩
abbrev S9216x1024 : Shape := ⟨2, ![9216, 1024]⟩
abbrev S_ : Shape := ⟨0, ![]⟩
abbrev S1024 : Shape := ⟨1, ![1024]⟩
abbrev S1x1024 : Shape := ⟨2, ![1, 1024]⟩
abbrev S16x512 : Shape := ⟨2, ![16, 512]⟩
abbrev S256x512 : Shape := ⟨2, ![256, 512]⟩
abbrev S31x512 : Shape := ⟨2, ![31, 512]⟩
abbrev S1x512 : Shape := ⟨2, ![1, 512]⟩
abbrev S16x128 : Shape := ⟨2, ![16, 128]⟩
abbrev S256x128 : Shape := ⟨2, ![256, 128]⟩
abbrev S288x128 : Shape := ⟨2, ![288, 128]⟩
abbrev S1x128 : Shape := ⟨2, ![1, 128]⟩

abbrev nBuf : Space → Nat
  | .hbm => 7
  | .vmem => 12
  | .smem => 0
  | _ => 0

abbrev bufTy : (tb : Table) → Fin (tcTables nBuf tb) → BufTy
  | .hbm, ⟨0, _⟩ => ⟨S31x1024, .f32⟩
  | .hbm, ⟨1, _⟩ => ⟨S9216x1024, .f32⟩
  | .hbm, ⟨2, _⟩ => ⟨S31x1024, .f32⟩
  | .hbm, ⟨3, _⟩ => ⟨S_, .f32⟩
  | .hbm, ⟨4, _⟩ => ⟨S1024, .f32⟩
  | .hbm, ⟨5, _⟩ => ⟨S1x1024, .f32⟩
  | .hbm, ⟨6, _⟩ => ⟨S9216x1024, .f32⟩
  | .local _ .vmem, ⟨0, _⟩ => ⟨S16x512, .f32⟩
  | .local _ .vmem, ⟨1, _⟩ => ⟨S16x512, .f32⟩
  | .local _ .vmem, ⟨2, _⟩ => ⟨S256x512, .f32⟩
  | .local _ .vmem, ⟨3, _⟩ => ⟨S256x512, .f32⟩
  | .local _ .vmem, ⟨4, _⟩ => ⟨S16x512, .f32⟩
  | .local _ .vmem, ⟨5, _⟩ => ⟨S16x512, .f32⟩
  | .local _ .vmem, ⟨6, _⟩ => ⟨S31x512, .f32⟩
  | .local _ .vmem, ⟨7, _⟩ => ⟨S31x512, .f32⟩
  | .local _ .vmem, ⟨8, _⟩ => ⟨S1x512, .f32⟩
  | .local _ .vmem, ⟨9, _⟩ => ⟨S1x512, .f32⟩
  | .local _ .vmem, ⟨10, _⟩ => ⟨S256x512, .f32⟩
  | .local _ .vmem, ⟨11, _⟩ => ⟨S256x512, .f32⟩
  | _, _ => ⟨S31x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![36, 2], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c16_i32 : BitVec 32 := 16#32
  let v1 : BitVec 32 := Scalar.muli v0 c16_i32
  let c575_i32 : BitVec 32 := 575#32
  let v2 : BitVec 32 := Scalar.minsi v1 c575_i32
  let c0_i32 : BitVec 32 := 0#32
  ![v2.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S16x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S31x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelConvDxIdeal.lean ====
abbrev S31x1024 : Shape := ⟨2, ![31, 1024]⟩
abbrev S9216x1024 : Shape := ⟨2, ![9216, 1024]⟩
abbrev S_ : Shape := ⟨0, ![]⟩
abbrev S1024 : Shape := ⟨1, ![1024]⟩
abbrev S1x1024 : Shape := ⟨2, ![1, 1024]⟩
abbrev S16x512 : Shape := ⟨2, ![16, 512]⟩
abbrev S256x512 : Shape := ⟨2, ![256, 512]⟩
abbrev S31x512 : Shape := ⟨2, ![31, 512]⟩
abbrev S1x512 : Shape := ⟨2, ![1, 512]⟩
abbrev S16x128 : Shape := ⟨2, ![16, 128]⟩
abbrev S256x128 : Shape := ⟨2, ![256, 128]⟩
abbrev S288x128 : Shape := ⟨2, ![288, 128]⟩
abbrev S1x128 : Shape := ⟨2, ![1, 128]⟩

abbrev nBuf : Space → Nat
  | .hbm => 7
  | .vmem => 12
  | .smem => 0
  | _ => 0

abbrev bufTy : (tb : Table) → Fin (tcTables nBuf tb) → BufTy
  | .hbm, ⟨0, _⟩ => ⟨S31x1024, .f32⟩
  | .hbm, ⟨1, _⟩ => ⟨S9216x1024, .f32⟩
  | .hbm, ⟨2, _⟩ => ⟨S31x1024, .f32⟩
  | .hbm, ⟨3, _⟩ => ⟨S_, .f32⟩
  | .hbm, ⟨4, _⟩ => ⟨S1024, .f32⟩
  | .hbm, ⟨5, _⟩ => ⟨S1x1024, .f32⟩
  | .hbm, ⟨6, _⟩ => ⟨S9216x1024, .f32⟩
  | .local _ .vmem, ⟨0, _⟩ => ⟨S16x512, .f32⟩
  | .local _ .vmem, ⟨1, _⟩ => ⟨S16x512, .f32⟩
  | .local _ .vmem, ⟨2, _⟩ => ⟨S256x512, .f32⟩
  | .local _ .vmem, ⟨3, _⟩ => ⟨S256x512, .f32⟩
  | .local _ .vmem, ⟨4, _⟩ => ⟨S16x512, .f32⟩
  | .local _ .vmem, ⟨5, _⟩ => ⟨S16x512, .f32⟩
  | .local _ .vmem, ⟨6, _⟩ => ⟨S31x512, .f32⟩
  | .local _ .vmem, ⟨7, _⟩ => ⟨S31x512, .f32⟩
  | .local _ .vmem, ⟨8, _⟩ => ⟨S1x512, .f32⟩
  | .local _ .vmem, ⟨9, _⟩ => ⟨S1x512, .f32⟩
  | .local _ .vmem, ⟨10, _⟩ => ⟨S256x512, .f32⟩
  | .local _ .vmem, ⟨11, _⟩ => ⟨S256x512, .f32⟩
  | _, _ => ⟨S31x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![36, 2], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c16_i32 : BitVec 32 := 16#32
  let v1 : BitVec 32 := Scalar.muli v0 c16_i32
  let c575_i32 : BitVec 32 := 575#32
  let v2 : BitVec 32 := Scalar.minsi v1 c575_i32
  let c0_i32 : BitVec 32 := 0#32
  ![v2.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S16x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S31x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceConvDxIdeal.lean ====
abbrev S31x1024 : Shape := ⟨2, ![31, 1024]⟩
abbrev S9216x1024 : Shape := ⟨2, ![9216, 1024]⟩
abbrev S_ : Shape := ⟨0, ![]⟩
abbrev S1024 : Shape := ⟨1, ![1024]⟩
abbrev S8192x1024 : Shape := ⟨2, ![8192, 1024]⟩
abbrev S4x2048x1024 : Shape := ⟨3, ![4, 2048, 1024]⟩
abbrev S31x2048x2048 : Shape := ⟨3, ![31, 2048, 2048]⟩
abbrev S4x1024x31x2048 : Shape := ⟨4, ![4, 1024, 31, 2048]⟩
abbrev S31x4x2048x1024 : Shape := ⟨4, ![31, 4, 2048, 1024]⟩
abbrev S31x1x1x1024 : Shape := ⟨4, ![31, 1, 1, 1024]⟩
abbrev S1x1x1024 : Shape := ⟨3, ![1, 1, 1024]⟩
abbrev S1024x1024 : Shape := ⟨2, ![1024, 1024]⟩
abbrev S4x256x1024 : Shape := ⟨3, ![4, 256, 1024]⟩
abbrev S31x256x256 : Shape := ⟨3, ![31, 256, 256]⟩
abbrev S4x1024x31x256 : Shape := ⟨4, ![4, 1024, 31, 256]⟩
abbrev S31x4x256x1024 : Shape := ⟨4, ![31, 4, 256, 1024]⟩
abbrev S4x1024x256 : Shape := ⟨3, ![4, 1024, 256]⟩
abbrev S4x1024x2048 : Shape := ⟨3, ![4, 1024, 2048]⟩

abbrev nBuf : Space → Nat
  | .hbm => 74
  | .vmem => 0
  | .smem => 0
  | _ => 0

abbrev bufTy : (tb : Table) → Fin (tcTables nBuf tb) → BufTy
  | .hbm, ⟨0, _⟩ => ⟨S31x1024, .f32⟩
  | .hbm, ⟨1, _⟩ => ⟨S9216x1024, .f32⟩
  | .hbm, ⟨2, _⟩ => ⟨S_, .f32⟩
  | .hbm, ⟨3, _⟩ => ⟨S9216x1024, .f32⟩
  | .hbm, ⟨4, _⟩ => ⟨S_, .f32⟩
  | .hbm, ⟨5, _⟩ => ⟨S1024, .f32⟩
  | .hbm, ⟨6, _⟩ => ⟨S8192x1024, .f32⟩
  | .hbm, ⟨7, _⟩ => ⟨S4x2048x1024, .f32⟩
  | .hbm, ⟨8, _⟩ => ⟨S31x2048x2048, .i32⟩
  | .hbm, ⟨9, _⟩ => ⟨S31x2048x2048, .i32⟩
  | .hbm, ⟨10, _⟩ => ⟨S31x2048x2048, .i32⟩
  | .hbm, ⟨11, _⟩ => ⟨S31x2048x2048, .i32⟩
  | .hbm, ⟨12, _⟩ => ⟨S_, .i32⟩
  | .hbm, ⟨13, _⟩ => ⟨S31x2048x2048, .i32⟩
  | .hbm, ⟨14, _⟩ => ⟨S31x2048x2048, .i32⟩
  | .hbm, ⟨15, _⟩ => ⟨S31x2048x2048, .i1⟩
  | .hbm, ⟨16, _⟩ => ⟨S31x2048x2048, .f32⟩
  | .hbm, ⟨17, _⟩ => ⟨S4x1024x31x2048, .f32⟩
  | .hbm, ⟨18, _⟩ => ⟨S31x4x2048x1024, .f32⟩
  | .hbm, ⟨19, _⟩ => ⟨S31x1x1x1024, .f32⟩
  | .hbm, ⟨20, _⟩ => ⟨S31x4x2048x1024, .f32⟩
  | .hbm, ⟨21, _⟩ => ⟨S31x4x2048x1024, .f32⟩
  | .hbm, ⟨22, _⟩ => ⟨S_, .f32⟩
  | .hbm, ⟨23, _⟩ => ⟨S4x2048x1024, .f32⟩
  | .hbm, ⟨24, _⟩ => ⟨S1x1x1024, .f32⟩
  | .hbm, ⟨25, _⟩ => ⟨S4x2048x1024, .f32⟩
  | .hbm, ⟨26, _⟩ => ⟨S4x2048x1024, .f32⟩
  | .hbm, ⟨27, _⟩ => ⟨S8192x1024, .f32⟩
  | .hbm, ⟨28, _⟩ => ⟨S1024x1024, .f32⟩
  | .hbm, ⟨29, _⟩ => ⟨S4x256x1024, .f32⟩
  | .hbm, ⟨30, _⟩ => ⟨S31x256x256, .i32⟩
  | .hbm, ⟨31, _⟩ => ⟨S31x256x256, .i32⟩
  | .hbm, ⟨32, _⟩ => ⟨S31x256x256, .i32⟩
  | .hbm, ⟨33, _⟩ => ⟨S31x256x256, .i32⟩
  | .hbm, ⟨34, _⟩ => ⟨S_, .i32⟩
  | .hbm, ⟨35, _⟩ => ⟨S31x256x256, .i32⟩
  | .hbm, ⟨36, _⟩ => ⟨S31x256x256, .i32⟩
  | .hbm, ⟨37, _⟩ => ⟨S31x256x256, .i1⟩
  | .hbm, ⟨38, _⟩ => ⟨S31x256x256, .f32⟩
  | .hbm, ⟨39, _⟩ => ⟨S4x1024x31x256, .f32⟩
  | .hbm, ⟨40, _⟩ => ⟨S31x4x256x1024, .f32⟩
  | .hbm, ⟨41, _⟩ => ⟨S31x1x1x1024, .f32⟩
  | .hbm, ⟨42, _⟩ => ⟨S31x4x256x1024, .f32⟩
  | .hbm, ⟨43, _⟩ => ⟨S31x4x256x1024, .f32⟩
  | .hbm, ⟨44, _⟩ => ⟨S_, .f32⟩
  | .hbm, ⟨45, _⟩ => ⟨S4x256x1024, .f32⟩
  | .hbm, ⟨46, _⟩ => ⟨S1x1x1024, .f32⟩
  | .hbm, ⟨47, _⟩ => ⟨S4x256x1024, .f32⟩
  | .hbm, ⟨48, _⟩ => ⟨S4x256x1024, .f32⟩
  | .hbm, ⟨49, _⟩ => ⟨S1024x1024, .f32⟩
  | .hbm, ⟨50, _⟩ => ⟨S9216x1024, .f32⟩
  | .hbm, ⟨51, _⟩ => ⟨S8192x1024, .f32⟩
  | .hbm, ⟨52, _⟩ => ⟨S1024x1024, .f32⟩
  | .hbm, ⟨53, _⟩ => ⟨S4x256x1024, .f32⟩
  | .hbm, ⟨54, _⟩ => ⟨S31x4x256x1024, .f32⟩
  | .hbm, ⟨55, _⟩ => ⟨S31x4x256x1024, .f32⟩
  | .hbm, ⟨56, _⟩ => ⟨S31x4x256x1024, .f32⟩
  | .hbm, ⟨57, _⟩ => ⟨S4x1024x31x256, .f32⟩
  | .hbm, ⟨58, _⟩ => ⟨S4x1024x256, .f32⟩
  | .hbm, ⟨59, _⟩ => ⟨S4x256x1024, .f32⟩
  | .hbm, ⟨60, _⟩ => ⟨S1024x1024, .f32⟩
  | .hbm, ⟨61, _⟩ => ⟨S_, .f32⟩
  | .hbm, ⟨62, _⟩ => ⟨S9216x1024, .f32⟩
  | .hbm, ⟨63, _⟩ => ⟨S4x2048x1024, .f32⟩
  | .hbm, ⟨64, _⟩ => ⟨S31x4x2048x1024, .f32⟩
  | .hbm, ⟨65, _⟩ => ⟨S31x4x2048x1024, .f32⟩
  | .hbm, ⟨66, _⟩ => ⟨S31x4x2048x1024, .f32⟩
  | .hbm, ⟨67, _⟩ => ⟨S4x1024x31x2048, .f32⟩
  | .hbm, ⟨68, _⟩ => ⟨S4x1024x2048, .f32⟩
  | .hbm, ⟨69, _⟩ => ⟨S4x2048x1024, .f32⟩
  | .hbm, ⟨70, _⟩ => ⟨S8192x1024, .f32⟩
  | .hbm, ⟨71, _⟩ => ⟨S_, .f32⟩
  | .hbm, ⟨72, _⟩ => ⟨S9216x1024, .f32⟩
  | .hbm, ⟨73, _⟩ => ⟨S9216x1024, .f32⟩
  | _, _ => ⟨S31x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_c_2 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_cst_3 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_cst_4 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_cst_5 : Ref sig .tc := ⟨.hbm, 71, rfl⟩
abbrev main_v62 : Ref sig .tc := ⟨.hbm, 72, rfl⟩
abbrev main_v63 : Ref sig .tc := ⟨.hbm, 73, rfl⟩

abbrev nD : Nat := 1
abbrev τ : Topo := Topo.v7x

variable {F : FTy → Type} [FloatOps F]
-- ==== KernelConv.lean ====
abbrev S9216x1024 : Shape := ⟨2, ![9216, 1024]⟩
abbrev S31x1024 : Shape := ⟨2, ![31, 1024]⟩
abbrev S1024 : Shape := ⟨1, ![1024]⟩
abbrev S1x1024 : Shape := ⟨2, ![1, 1024]⟩
abbrev S16x512 : Shape := ⟨2, ![16, 512]⟩
abbrev S256x512 : Shape := ⟨2, ![256, 512]⟩
abbrev S31x512 : Shape := ⟨2, ![31, 512]⟩
abbrev S1x512 : Shape := ⟨2, ![1, 512]⟩
abbrev S16x128 : Shape := ⟨2, ![16, 128]⟩
abbrev S256x128 : Shape := ⟨2, ![256, 128]⟩
abbrev S288x128 : Shape := ⟨2, ![288, 128]⟩
abbrev S1x128 : Shape := ⟨2, ![1, 128]⟩

abbrev nBuf : Space → Nat
  | .hbm => 5
  | .vmem => 12
  | .smem => 0
  | _ => 0

abbrev bufTy : (tb : Table) → Fin (tcTables nBuf tb) → BufTy
  | .hbm, ⟨0, _⟩ => ⟨S9216x1024, .f32⟩
  | .hbm, ⟨1, _⟩ => ⟨S31x1024, .f32⟩
  | .hbm, ⟨2, _⟩ => ⟨S1024, .f32⟩
  | .hbm, ⟨3, _⟩ => ⟨S1x1024, .f32⟩
  | .hbm, ⟨4, _⟩ => ⟨S9216x1024, .f32⟩
  | .local _ .vmem, ⟨0, _⟩ => ⟨S16x512, .f32⟩
  | .local _ .vmem, ⟨1, _⟩ => ⟨S16x512, .f32⟩
  | .local _ .vmem, ⟨2, _⟩ => ⟨S256x512, .f32⟩
  | .local _ .vmem, ⟨3, _⟩ => ⟨S256x512, .f32⟩
  | .local _ .vmem, ⟨4, _⟩ => ⟨S16x512, .f32⟩
  | .local _ .vmem, ⟨5, _⟩ => ⟨S16x512, .f32⟩
  | .local _ .vmem, ⟨6, _⟩ => ⟨S31x512, .f32⟩
  | .local _ .vmem, ⟨7, _⟩ => ⟨S31x512, .f32⟩
  | .local _ .vmem, ⟨8, _⟩ => ⟨S1x512, .f32⟩
  | .local _ .vmem, ⟨9, _⟩ => ⟨S1x512, .f32⟩
  | .local _ .vmem, ⟨10, _⟩ => ⟨S256x512, .f32⟩
  | .local _ .vmem, ⟨11, _⟩ => ⟨S256x512, .f32⟩
  | _, _ => ⟨S9216x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![36, 2], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c16_i32 : BitVec 32 := 16#32
  let v1 : BitVec 32 := Scalar.muli v0 c16_i32
  let c575_i32 : BitVec 32 := 575#32
  let v2 : BitVec 32 := Scalar.minsi v1 c575_i32
  let c0_i32 : BitVec 32 := 0#32
  ![v2.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S16x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S31x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelConvIdeal.lean ====
abbrev S9216x1024 : Shape := ⟨2, ![9216, 1024]⟩
abbrev S31x1024 : Shape := ⟨2, ![31, 1024]⟩
abbrev S1024 : Shape := ⟨1, ![1024]⟩
abbrev S1x1024 : Shape := ⟨2, ![1, 1024]⟩
abbrev S16x512 : Shape := ⟨2, ![16, 512]⟩
abbrev S256x512 : Shape := ⟨2, ![256, 512]⟩
abbrev S31x512 : Shape := ⟨2, ![31, 512]⟩
abbrev S1x512 : Shape := ⟨2, ![1, 512]⟩
abbrev S16x128 : Shape := ⟨2, ![16, 128]⟩
abbrev S256x128 : Shape := ⟨2, ![256, 128]⟩
abbrev S288x128 : Shape := ⟨2, ![288, 128]⟩
abbrev S1x128 : Shape := ⟨2, ![1, 128]⟩

abbrev nBuf : Space → Nat
  | .hbm => 5
  | .vmem => 12
  | .smem => 0
  | _ => 0

abbrev bufTy : (tb : Table) → Fin (tcTables nBuf tb) → BufTy
  | .hbm, ⟨0, _⟩ => ⟨S9216x1024, .f32⟩
  | .hbm, ⟨1, _⟩ => ⟨S31x1024, .f32⟩
  | .hbm, ⟨2, _⟩ => ⟨S1024, .f32⟩
  | .hbm, ⟨3, _⟩ => ⟨S1x1024, .f32⟩
  | .hbm, ⟨4, _⟩ => ⟨S9216x1024, .f32⟩
  | .local _ .vmem, ⟨0, _⟩ => ⟨S16x512, .f32⟩
  | .local _ .vmem, ⟨1, _⟩ => ⟨S16x512, .f32⟩
  | .local _ .vmem, ⟨2, _⟩ => ⟨S256x512, .f32⟩
  | .local _ .vmem, ⟨3, _⟩ => ⟨S256x512, .f32⟩
  | .local _ .vmem, ⟨4, _⟩ => ⟨S16x512, .f32⟩
  | .local _ .vmem, ⟨5, _⟩ => ⟨S16x512, .f32⟩
  | .local _ .vmem, ⟨6, _⟩ => ⟨S31x512, .f32⟩
  | .local _ .vmem, ⟨7, _⟩ => ⟨S31x512, .f32⟩
  | .local _ .vmem, ⟨8, _⟩ => ⟨S1x512, .f32⟩
  | .local _ .vmem, ⟨9, _⟩ => ⟨S1x512, .f32⟩
  | .local _ .vmem, ⟨10, _⟩ => ⟨S256x512, .f32⟩
  | .local _ .vmem, ⟨11, _⟩ => ⟨S256x512, .f32⟩
  | _, _ => ⟨S9216x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![36, 2], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c16_i32 : BitVec 32 := 16#32
  let v1 : BitVec 32 := Scalar.muli v0 c16_i32
  let c575_i32 : BitVec 32 := 575#32
  let v2 : BitVec 32 := Scalar.minsi v1 c575_i32
  let c0_i32 : BitVec 32 := 0#32
  ![v2.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S16x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S31x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceConvIdeal.lean ====
abbrev S9216x1024 : Shape := ⟨2, ![9216, 1024]⟩
abbrev S31x1024 : Shape := ⟨2, ![31, 1024]⟩
abbrev S1024 : Shape := ⟨1, ![1024]⟩
abbrev S8192x1024 : Shape := ⟨2, ![8192, 1024]⟩
abbrev S4x2048x1024 : Shape := ⟨3, ![4, 2048, 1024]⟩
abbrev S31x2048x2048 : Shape := ⟨3, ![31, 2048, 2048]⟩
abbrev S_ : Shape := ⟨0, ![]⟩
abbrev S4x1024x31x2048 : Shape := ⟨4, ![4, 1024, 31, 2048]⟩
abbrev S31x4x2048x1024 : Shape := ⟨4, ![31, 4, 2048, 1024]⟩
abbrev S31x1x1x1024 : Shape := ⟨4, ![31, 1, 1, 1024]⟩
abbrev S1x1x1024 : Shape := ⟨3, ![1, 1, 1024]⟩
abbrev S1024x1024 : Shape := ⟨2, ![1024, 1024]⟩
abbrev S4x256x1024 : Shape := ⟨3, ![4, 256, 1024]⟩
abbrev S31x256x256 : Shape := ⟨3, ![31, 256, 256]⟩
abbrev S4x1024x31x256 : Shape := ⟨4, ![4, 1024, 31, 256]⟩
abbrev S31x4x256x1024 : Shape := ⟨4, ![31, 4, 256, 1024]⟩

abbrev nBuf : Space → Nat
  | .hbm => 48
  | .vmem => 0
  | .smem => 0
  | _ => 0

abbrev bufTy : (tb : Table) → Fin (tcTables nBuf tb) → BufTy
  | .hbm, ⟨0, _⟩ => ⟨S9216x1024, .f32⟩
  | .hbm, ⟨1, _⟩ => ⟨S31x1024, .f32⟩
  | .hbm, ⟨2, _⟩ => ⟨S1024, .f32⟩
  | .hbm, ⟨3, _⟩ => ⟨S8192x1024, .f32⟩
  | .hbm, ⟨4, _⟩ => ⟨S4x2048x1024, .f32⟩
  | .hbm, ⟨5, _⟩ => ⟨S31x2048x2048, .i32⟩
  | .hbm, ⟨6, _⟩ => ⟨S31x2048x2048, .i32⟩
  | .hbm, ⟨7, _⟩ => ⟨S31x2048x2048, .i32⟩
  | .hbm, ⟨8, _⟩ => ⟨S31x2048x2048, .i32⟩
  | .hbm, ⟨9, _⟩ => ⟨S_, .i32⟩
  | .hbm, ⟨10, _⟩ => ⟨S31x2048x2048, .i32⟩
  | .hbm, ⟨11, _⟩ => ⟨S31x2048x2048, .i32⟩
  | .hbm, ⟨12, _⟩ => ⟨S31x2048x2048, .i1⟩
  | .hbm, ⟨13, _⟩ => ⟨S31x2048x2048, .f32⟩
  | .hbm, ⟨14, _⟩ => ⟨S4x1024x31x2048, .f32⟩
  | .hbm, ⟨15, _⟩ => ⟨S31x4x2048x1024, .f32⟩
  | .hbm, ⟨16, _⟩ => ⟨S31x1x1x1024, .f32⟩
  | .hbm, ⟨17, _⟩ => ⟨S31x4x2048x1024, .f32⟩
  | .hbm, ⟨18, _⟩ => ⟨S31x4x2048x1024, .f32⟩
  | .hbm, ⟨19, _⟩ => ⟨S_, .f32⟩
  | .hbm, ⟨20, _⟩ => ⟨S4x2048x1024, .f32⟩
  | .hbm, ⟨21, _⟩ => ⟨S1x1x1024, .f32⟩
  | .hbm, ⟨22, _⟩ => ⟨S4x2048x1024, .f32⟩
  | .hbm, ⟨23, _⟩ => ⟨S4x2048x1024, .f32⟩
  | .hbm, ⟨24, _⟩ => ⟨S8192x1024, .f32⟩
  | .hbm, ⟨25, _⟩ => ⟨S1024x1024, .f32⟩
  | .hbm, ⟨26, _⟩ => ⟨S4x256x1024, .f32⟩
  | .hbm, ⟨27, _⟩ => ⟨S31x256x256, .i32⟩
  | .hbm, ⟨28, _⟩ => ⟨S31x256x256, .i32⟩
  | .hbm, ⟨29, _⟩ => ⟨S31x256x256, .i32⟩
  | .hbm, ⟨30, _⟩ => ⟨S31x256x256, .i32⟩
  | .hbm, ⟨31, _⟩ => ⟨S_, .i32⟩
  | .hbm, ⟨32, _⟩ => ⟨S31x256x256, .i32⟩
  | .hbm, ⟨33, _⟩ => ⟨S31x256x256, .i32⟩
  | .hbm, ⟨34, _⟩ => ⟨S31x256x256, .i1⟩
  | .hbm, ⟨35, _⟩ => ⟨S31x256x256, .f32⟩
  | .hbm, ⟨36, _⟩ => ⟨S4x1024x31x256, .f32⟩
  | .hbm, ⟨37, _⟩ => ⟨S31x4x256x1024, .f32⟩
  | .hbm, ⟨38, _⟩ => ⟨S31x1x1x1024, .f32⟩
  | .hbm, ⟨39, _⟩ => ⟨S31x4x256x1024, .f32⟩
  | .hbm, ⟨40, _⟩ => ⟨S31x4x256x1024, .f32⟩
  | .hbm, ⟨41, _⟩ => ⟨S_, .f32⟩
  | .hbm, ⟨42, _⟩ => ⟨S4x256x1024, .f32⟩
  | .hbm, ⟨43, _⟩ => ⟨S1x1x1024, .f32⟩
  | .hbm, ⟨44, _⟩ => ⟨S4x256x1024, .f32⟩
  | .hbm, ⟨45, _⟩ => ⟨S4x256x1024, .f32⟩
  | .hbm, ⟨46, _⟩ => ⟨S1024x1024, .f32⟩
  | .hbm, ⟨47, _⟩ => ⟨S9216x1024, .f32⟩
  | _, _ => ⟨S9216x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_c_0 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_cst_1 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩

abbrev nD : Nat := 1
abbrev τ : Topo := Topo.v7x

variable {F : FTy → Type} [FloatOps F]
-- ==== KernelKv.lean ====
abbrev S9216x1024 : Shape := ⟨2, ![9216, 1024]⟩
abbrev S1024x256 : Shape := ⟨2, ![1024, 256]⟩
abbrev S256 : Shape := ⟨1, ![256]⟩
abbrev S1x256 : Shape := ⟨2, ![1, 256]⟩
abbrev S9216x256 : Shape := ⟨2, ![9216, 256]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S9216x1024, .f32⟩
  | .hbm, ⟨1, _⟩ => ⟨S1024x256, .bf16⟩
  | .hbm, ⟨2, _⟩ => ⟨S256, .f32⟩
  | .hbm, ⟨3, _⟩ => ⟨S1x256, .f32⟩
  | .hbm, ⟨4, _⟩ => ⟨S9216x256, .f32⟩
  | .local _ .vmem, ⟨0, _⟩ => ⟨S1024x1024, .f32⟩
  | .local _ .vmem, ⟨1, _⟩ => ⟨S1024x1024, .f32⟩
  | .local _ .vmem, ⟨2, _⟩ => ⟨S1024x256, .bf16⟩
  | .local _ .vmem, ⟨3, _⟩ => ⟨S1x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | _, _ => ⟨S9216x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨3, ![9, 1, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceKvIdeal.lean ====
abbrev S9216x1024 : Shape := ⟨2, ![9216, 1024]⟩
abbrev S1024x256 : Shape := ⟨2, ![1024, 256]⟩
abbrev S256 : Shape := ⟨1, ![256]⟩
abbrev S9216x256 : Shape := ⟨2, ![9216, 256]⟩
abbrev S1x256 : Shape := ⟨2, ![1, 256]⟩

abbrev nBuf : Space → Nat
  | .hbm => 8
  | .vmem => 0
  | .smem => 0
  | _ => 0

abbrev bufTy : (tb : Table) → Fin (tcTables nBuf tb) → BufTy
  | .hbm, ⟨0, _⟩ => ⟨S9216x1024, .f32⟩
  | .hbm, ⟨1, _⟩ => ⟨S1024x256, .bf16⟩
  | .hbm, ⟨2, _⟩ => ⟨S256, .f32⟩
  | .hbm, ⟨3, _⟩ => ⟨S1024x256, .f32⟩
  | .hbm, ⟨4, _⟩ => ⟨S9216x256, .f32⟩
  | .hbm, ⟨5, _⟩ => ⟨S1x256, .f32⟩
  | .hbm, ⟨6, _⟩ => ⟨S9216x256, .f32⟩
  | .hbm, ⟨7, _⟩ => ⟨S9216x256, .f32⟩
  | _, _ => ⟨S9216x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelKvDx.lean ====
abbrev S1024x256 : Shape := ⟨2, ![1024, 256]⟩
abbrev S9216x256 : Shape := ⟨2, ![9216, 256]⟩
abbrev S9216x1024 : Shape := ⟨2, ![9216, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S1024x256, .bf16⟩
  | .hbm, ⟨1, _⟩ => ⟨S9216x256, .f32⟩
  | .hbm, ⟨2, _⟩ => ⟨S9216x1024, .f32⟩
  | .local _ .vmem, ⟨0, _⟩ => ⟨S1024x256, .f32⟩
  | .local _ .vmem, ⟨1, _⟩ => ⟨S1024x256, .f32⟩
  | .local _ .vmem, ⟨2, _⟩ => ⟨S1024x256, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![9, 1, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceKvDxIdeal.lean ====
abbrev S1024x256 : Shape := ⟨2, ![1024, 256]⟩
abbrev S9216x256 : Shape := ⟨2, ![9216, 256]⟩
abbrev S_ : Shape := ⟨0, ![]⟩
abbrev S9216x1024 : Shape := ⟨2, ![9216, 1024]⟩

abbrev nBuf : Space → Nat
  | .hbm => 7
  | .vmem => 0
  | .smem => 0
  | _ => 0

abbrev bufTy : (tb : Table) → Fin (tcTables nBuf tb) → BufTy
  | .hbm, ⟨0, _⟩ => ⟨S1024x256, .bf16⟩
  | .hbm, ⟨1, _⟩ => ⟨S9216x256, .f32⟩
  | .hbm, ⟨2, _⟩ => ⟨S_, .f32⟩
  | .hbm, ⟨3, _⟩ => ⟨S9216x1024, .f32⟩
  | .hbm, ⟨4, _⟩ => ⟨S1024x256, .f32⟩
  | .hbm, ⟨5, _⟩ => ⟨S9216x256, .f32⟩
  | .hbm, ⟨6, _⟩ => ⟨S9216x1024, .f32⟩
  | _, _ => ⟨S1024x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelKvDw.lean ====
abbrev S9216x1024 : Shape := ⟨2, ![9216, 1024]⟩
abbrev S9216x256 : Shape := ⟨2, ![9216, 256]⟩
abbrev S1024x256 : Shape := ⟨2, ![1024, 256]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S9216x1024, .f32⟩
  | .hbm, ⟨1, _⟩ => ⟨S9216x256, .f32⟩
  | .hbm, ⟨2, _⟩ => ⟨S1024x256, .bf16⟩
  | .local _ .vmem, ⟨0, _⟩ => ⟨S1024x1024, .f32⟩
  | .local _ .vmem, ⟨1, _⟩ => ⟨S1024x1024, .f32⟩
  | .local _ .vmem, ⟨2, _⟩ => ⟨S1024x256, .f32⟩
  | .local _ .vmem, ⟨3, _⟩ => ⟨S1024x256, .f32⟩
  | .local _ .vmem, ⟨4, _⟩ => ⟨S1024x256, .bf16⟩
  | .local _ .vmem, ⟨5, _⟩ => ⟨S1024x256, .f32⟩
  | _, _ => ⟨S9216x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 9], ![false, false, false]⟩

def k0_cond2 (i : grid0.Coords) : BitVec 1 :=
  let arg2 : BitVec 32 := BitVec.ofNat 32 (i 2).val
  let c8_i32 : BitVec 32 := 8#32
  let v13 : BitVec 1 := Scalar.cmpi .eq arg2 c8_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ReferenceKvDwIdeal.lean ====
abbrev S9216x1024 : Shape := ⟨2, ![9216, 1024]⟩
abbrev S9216x256 : Shape := ⟨2, ![9216, 256]⟩
abbrev S_ : Shape := ⟨0, ![]⟩
abbrev S1024x256 : Shape := ⟨2, ![1024, 256]⟩
abbrev S256x1024 : Shape := ⟨2, ![256, 1024]⟩

abbrev nBuf : Space → Nat
  | .hbm => 9
  | .vmem => 0
  | .smem => 0
  | _ => 0

abbrev bufTy : (tb : Table) → Fin (tcTables nBuf tb) → BufTy
  | .hbm, ⟨0, _⟩ => ⟨S9216x1024, .f32⟩
  | .hbm, ⟨1, _⟩ => ⟨S9216x256, .f32⟩
  | .hbm, ⟨2, _⟩ => ⟨S_, .bf16⟩
  | .hbm, ⟨3, _⟩ => ⟨S1024x256, .bf16⟩
  | .hbm, ⟨4, _⟩ => ⟨S1024x256, .f32⟩
  | .hbm, ⟨5, _⟩ => ⟨S9216x256, .f32⟩
  | .hbm, ⟨6, _⟩ => ⟨S256x1024, .f32⟩
  | .hbm, ⟨7, _⟩ => ⟨S1024x256, .f32⟩
  | .hbm, ⟨8, _⟩ => ⟨S1024x256, .bf16⟩
  | _, _ => ⟨S9216x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelKvDb.lean ====
abbrev S9216x256 : Shape := ⟨2, ![9216, 256]⟩
abbrev S1x256 : Shape := ⟨2, ![1, 256]⟩
abbrev S1024x256 : Shape := ⟨2, ![1024, 256]⟩
abbrev S256 : Shape := ⟨1, ![256]⟩

abbrev nBuf : Space → Nat
  | .hbm => 2
  | .vmem => 3
  | .smem => 0
  | _ => 0

abbrev bufTy : (tb : Table) → Fin (tcTables nBuf tb) → BufTy
  | .hbm, ⟨0, _⟩ => ⟨S9216x256, .f32⟩
  | .hbm, ⟨1, _⟩ => ⟨S1x256, .f32⟩
  | .local _ .vmem, ⟨0, _⟩ => ⟨S1024x256, .f32⟩
  | .local _ .vmem, ⟨1, _⟩ => ⟨S1024x256, .f32⟩
  | .local _ .vmem, ⟨2, _⟩ => ⟨S1x256, .f32⟩
  | _, _ => ⟨S9216x256, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨2, ![1, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]
-- ==== ReferenceKvDbIdeal.lean ====
abbrev S9216x256 : Shape := ⟨2, ![9216, 256]⟩
abbrev S_ : Shape := ⟨0, ![]⟩
abbrev S1x256 : Shape := ⟨2, ![1, 256]⟩
abbrev S256 : Shape := ⟨1, ![256]⟩

abbrev nBuf : Space → Nat
  | .hbm => 10
  | .vmem => 0
  | .smem => 0
  | _ => 0

abbrev bufTy : (tb : Table) → Fin (tcTables nBuf tb) → BufTy
  | .hbm, ⟨0, _⟩ => ⟨S9216x256, .f32⟩
  | .hbm, ⟨1, _⟩ => ⟨S_, .f32⟩
  | .hbm, ⟨2, _⟩ => ⟨S1x256, .f32⟩
  | .hbm, ⟨3, _⟩ => ⟨S_, .f32⟩
  | .hbm, ⟨4, _⟩ => ⟨S9216x256, .f32⟩
  | .hbm, ⟨5, _⟩ => ⟨S9216x256, .f32⟩
  | .hbm, ⟨6, _⟩ => ⟨S9216x256, .f32⟩
  | .hbm, ⟨7, _⟩ => ⟨S_, .f32⟩
  | .hbm, ⟨8, _⟩ => ⟨S256, .f32⟩
  | .hbm, ⟨9, _⟩ => ⟨S1x256, .f32⟩
  | _, _ => ⟨S9216x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_1 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== KernelCtx.lean ====
abbrev S1024x1024 : Shape := ⟨2, ![1024, 1024]⟩
abbrev S1024x256 : Shape := ⟨2, ![1024, 256]⟩
abbrev S256x512 : Shape := ⟨2, ![256, 512]⟩
abbrev S256x128 : Shape := ⟨2, ![256, 128]⟩
abbrev S256x256 : Shape := ⟨2, ![256, 256]⟩
abbrev S256 : Shape := ⟨1, ![256]⟩
abbrev S256x1 : Shape := ⟨2, ![256, 1]⟩

abbrev nBuf : Space → Nat
  | .hbm => 7
  | .vmem => 14
  | .smem => 0
  | _ => 0

abbrev bufTy : (tb : Table) → Fin (tcTables nBuf tb) → BufTy
  | .hbm, ⟨0, _⟩ => ⟨S1024x1024, .f32⟩
  | .hbm, ⟨1, _⟩ => ⟨S1024x256, .f32⟩
  | .hbm, ⟨2, _⟩ => ⟨S1024x256, .f32⟩
  | .hbm, ⟨3, _⟩ => ⟨S1024x1024, .f32⟩
  | .hbm, ⟨4, _⟩ => ⟨S1024x1024, .f32⟩
  | .hbm, ⟨5, _⟩ => ⟨S1024x256, .f32⟩
  | .hbm, ⟨6, _⟩ => ⟨S1024x256, .f32⟩
  | .local _ .vmem, ⟨0, _⟩ => ⟨S256x512, .f32⟩
  | .local _ .vmem, ⟨1, _⟩ => ⟨S256x512, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== ReferenceCtxIdeal.lean ====
abbrev S1024x1024 : Shape := ⟨2, ![1024, 1024]⟩
abbrev S1024x256 : Shape := ⟨2, ![1024, 256]⟩
abbrev S4x256x8x128 : Shape := ⟨4, ![4, 256, 8, 128]⟩
abbrev S4x256x2x128 : Shape := ⟨4, ![4, 256, 2, 128]⟩
abbrev S4x256x2x4x128 : Shape := ⟨5, ![4, 256, 2, 4, 128]⟩
abbrev S4x2x256x256x4 : Shape := ⟨5, ![4, 2, 256, 256, 4]⟩
abbrev S4x2x4x256x256 : Shape := ⟨5, ![4, 2, 4, 256, 256]⟩
abbrev S_ : Shape := ⟨0, ![]⟩
abbrev S4x2x4x256 : Shape := ⟨4, ![4, 2, 4, 256]⟩
abbrev S4x2x4x256x1 : Shape := ⟨5, ![4, 2, 4, 256, 1]⟩
abbrev S4x2x128x4x256 : Shape := ⟨5, ![4, 2, 128, 4, 256]⟩
abbrev S4x256x1024 : Shape := ⟨3, ![4, 256, 1024]⟩
abbrev S4x2x128x256 : Shape := ⟨4, ![4, 2, 128, 256]⟩
abbrev S4x2x256x4x128 : Shape := ⟨5, ![4, 2, 256, 4, 128]⟩
abbrev S4x2x256x128 : Shape := ⟨4, ![4, 2, 256, 128]⟩

abbrev nBuf : Space → Nat
  | .hbm => 87
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x256, .f32⟩
  | .hbm, ⟨2, _⟩ => ⟨S1024x256, .f32⟩
  | .hbm, ⟨3, _⟩ => ⟨S1024x1024, .f32⟩
  | .hbm, ⟨4, _⟩ => ⟨S4x256x8x128, .f32⟩
  | .hbm, ⟨5, _⟩ => ⟨S4x256x2x128, .f32⟩
  | .hbm, ⟨6, _⟩ => ⟨S4x256x2x128, .f32⟩
  | .hbm, ⟨7, _⟩ => ⟨S4x256x2x4x128, .f32⟩
  | .hbm, ⟨8, _⟩ => ⟨S4x2x256x256x4, .f32⟩
  | .hbm, ⟨9, _⟩ => ⟨S4x2x4x256x256, .f32⟩
  | .hbm, ⟨10, _⟩ => ⟨S_, .f32⟩
  | .hbm, ⟨11, _⟩ => ⟨S4x2x4x256x256, .f32⟩
  | .hbm, ⟨12, _⟩ => ⟨S4x2x4x256x256, .f32⟩
  | .hbm, ⟨13, _⟩ => ⟨S_, .f32⟩
  | .hbm, ⟨14, _⟩ => ⟨S4x2x4x256, .f32⟩
  | .hbm, ⟨15, _⟩ => ⟨S4x2x4x256x1, .f32⟩
  | .hbm, ⟨16, _⟩ => ⟨S4x2x4x256x256, .f32⟩
  | .hbm, ⟨17, _⟩ => ⟨S4x2x4x256x256, .i1⟩
  | .hbm, ⟨18, _⟩ => ⟨S4x2x4x256x256, .f32⟩
  | .hbm, ⟨19, _⟩ => ⟨S_, .f32⟩
  | .hbm, ⟨20, _⟩ => ⟨S4x2x4x256, .f32⟩
  | .hbm, ⟨21, _⟩ => ⟨S_, .f32⟩
  | .hbm, ⟨22, _⟩ => ⟨S4x2x4x256, .f32⟩
  | .hbm, ⟨23, _⟩ => ⟨S4x2x4x256, .f32⟩
  | .hbm, ⟨24, _⟩ => ⟨S_, .f32⟩
  | .hbm, ⟨25, _⟩ => ⟨S4x2x4x256, .f32⟩
  | .hbm, ⟨26, _⟩ => ⟨S4x2x4x256, .i1⟩
  | .hbm, ⟨27, _⟩ => ⟨S_, .f32⟩
  | .hbm, ⟨28, _⟩ => ⟨S4x2x4x256, .f32⟩
  | .hbm, ⟨29, _⟩ => ⟨S4x2x4x256, .i1⟩
  | .hbm, ⟨30, _⟩ => ⟨S_, .f32⟩
  | .hbm, ⟨31, _⟩ => ⟨S4x2x4x256, .f32⟩
  | .hbm, ⟨32, _⟩ => ⟨S_, .f32⟩
  | .hbm, ⟨33, _⟩ => ⟨S4x2x4x256, .f32⟩
  | .hbm, ⟨34, _⟩ => ⟨S_, .f32⟩
  | .hbm, ⟨35, _⟩ => ⟨S4x2x4x256, .f32⟩
  | .hbm, ⟨36, _⟩ => ⟨S4x2x4x256, .f32⟩
  | .hbm, ⟨37, _⟩ => ⟨S4x2x4x256, .f32⟩
  | .hbm, ⟨38, _⟩ => ⟨S4x2x4x256x1, .f32⟩
  | .hbm, ⟨39, _⟩ => ⟨S4x2x4x256x256, .f32⟩
  | .hbm, ⟨40, _⟩ => ⟨S4x2x4x256x256, .f32⟩
  | .hbm, ⟨41, _⟩ => ⟨S4x2x4x256x256, .f32⟩
  | .hbm, ⟨42, _⟩ => ⟨S_, .f32⟩
  | .hbm, ⟨43, _⟩ => ⟨S4x2x4x256, .f32⟩
  | .hbm, ⟨44, _⟩ => ⟨S4x2x4x256x1, .f32⟩
  | .hbm, ⟨45, _⟩ => ⟨S4x2x4x256x256, .f32⟩
  | .hbm, ⟨46, _⟩ => ⟨S4x2x4x256x256, .f32⟩
  | .hbm, ⟨47, _⟩ => ⟨S4x2x4x256x1, .f32⟩
  | .hbm, ⟨48, _⟩ => ⟨S_, .f32⟩
  | .hbm, ⟨49, _⟩ => ⟨S4x2x4x256x1, .f32⟩
  | .hbm, ⟨50, _⟩ => ⟨S4x2x4x256x1, .f32⟩
  | .hbm, ⟨51, _⟩ => ⟨S4x2x128x4x256, .f32⟩
  | .hbm, ⟨52, _⟩ => ⟨S4x256x2x4x128, .f32⟩
  | .hbm, ⟨53, _⟩ => ⟨S4x256x1024, .f32⟩
  | .hbm, ⟨54, _⟩ => ⟨S1024x1024, .f32⟩
  | .hbm, ⟨55, _⟩ => ⟨S4x256x1024, .f32⟩
  | .hbm, ⟨56, _⟩ => ⟨S4x256x2x4x128, .f32⟩
  | .hbm, ⟨57, _⟩ => ⟨S4x2x128x4x256, .f32⟩
  | .hbm, ⟨58, _⟩ => ⟨S4x2x4x256x256, .f32⟩
  | .hbm, ⟨59, _⟩ => ⟨S4x2x128x256, .f32⟩
  | .hbm, ⟨60, _⟩ => ⟨S4x256x2x128, .f32⟩
  | .hbm, ⟨61, _⟩ => ⟨S4x2x4x256x256, .f32⟩
  | .hbm, ⟨62, _⟩ => ⟨S4x2x4x256x256, .f32⟩
  | .hbm, ⟨63, _⟩ => ⟨S4x2x4x256x256, .f32⟩
  | .hbm, ⟨64, _⟩ => ⟨S_, .f32⟩
  | .hbm, ⟨65, _⟩ => ⟨S4x2x4x256, .f32⟩
  | .hbm, ⟨66, _⟩ => ⟨S4x2x4x256x1, .f32⟩
  | .hbm, ⟨67, _⟩ => ⟨S4x2x4x256x1, .f32⟩
  | .hbm, ⟨68, _⟩ => ⟨S4x2x4x256x256, .f32⟩
  | .hbm, ⟨69, _⟩ => ⟨S4x2x4x256x256, .f32⟩
  | .hbm, ⟨70, _⟩ => ⟨S_, .f32⟩
  | .hbm, ⟨71, _⟩ => ⟨S4x2x4x256, .f32⟩
  | .hbm, ⟨72, _⟩ => ⟨S4x2x4x256x256, .f32⟩
  | .hbm, ⟨73, _⟩ => ⟨S4x2x4x256x256, .f32⟩
  | .hbm, ⟨74, _⟩ => ⟨S4x2x4x256x256, .f32⟩
  | .hbm, ⟨75, _⟩ => ⟨S_, .f32⟩
  | .hbm, ⟨76, _⟩ => ⟨S4x2x4x256x256, .f32⟩
  | .hbm, ⟨77, _⟩ => ⟨S4x2x4x256x256, .f32⟩
  | .hbm, ⟨78, _⟩ => ⟨S4x2x256x256x4, .f32⟩
  | .hbm, ⟨79, _⟩ => ⟨S4x2x256x4x128, .f32⟩
  | .hbm, ⟨80, _⟩ => ⟨S4x256x2x4x128, .f32⟩
  | .hbm, ⟨81, _⟩ => ⟨S4x2x256x128, .f32⟩
  | .hbm, ⟨82, _⟩ => ⟨S4x256x2x128, .f32⟩
  | .hbm, ⟨83, _⟩ => ⟨S4x256x8x128, .f32⟩
  | .hbm, ⟨84, _⟩ => ⟨S1024x256, .f32⟩
  | .hbm, ⟨85, _⟩ => ⟨S1024x256, .f32⟩
  | .hbm, ⟨86, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_8 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_9 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_10 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_11 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_12 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩

abbrev nD : Nat := 1
abbrev τ : Topo := Topo.v7x

variable {F : FTy → Type} [FloatOps F]
-- ==== KernelCtxFwd.lean ====
abbrev S1024x1024 : Shape := ⟨2, ![1024, 1024]⟩
abbrev S1024x256 : Shape := ⟨2, ![1024, 256]⟩
abbrev S256x512 : Shape := ⟨2, ![256, 512]⟩
abbrev S256x128 : Shape := ⟨2, ![256, 128]⟩
abbrev S256x256 : Shape := ⟨2, ![256, 256]⟩
abbrev S256 : Shape := ⟨1, ![256]⟩
abbrev S256x1 : Shape := ⟨2, ![256, 1]⟩

abbrev nBuf : Space → Nat
  | .hbm => 4
  | .vmem => 8
  | .smem => 0
  | _ => 0

abbrev bufTy : (tb : Table) → Fin (tcTables nBuf tb) → BufTy
  | .hbm, ⟨0, _⟩ => ⟨S1024x1024, .f32⟩
  | .hbm, ⟨1, _⟩ => ⟨S1024x256, .f32⟩
  | .hbm, ⟨2, _⟩ => ⟨S1024x256, .f32⟩
  | .hbm, ⟨3, _⟩ => ⟨S1024x1024, .f32⟩
  | .local _ .vmem, ⟨0, _⟩ => ⟨S256x512, .f32⟩
  | .local _ .vmem, ⟨1, _⟩ => ⟨S256x512, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x512, .f32⟩
  | .local _ .vmem, ⟨7, _⟩ => ⟨S256x512, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceCtxFwdIdeal.lean ====
abbrev S1024x1024 : Shape := ⟨2, ![1024, 1024]⟩
abbrev S1024x256 : Shape := ⟨2, ![1024, 256]⟩
abbrev S4x256x8x128 : Shape := ⟨4, ![4, 256, 8, 128]⟩
abbrev S4x256x2x128 : Shape := ⟨4, ![4, 256, 2, 128]⟩
abbrev S4x256x2x4x128 : Shape := ⟨5, ![4, 256, 2, 4, 128]⟩
abbrev S4x2x256x256x4 : Shape := ⟨5, ![4, 2, 256, 256, 4]⟩
abbrev S4x2x4x256x256 : Shape := ⟨5, ![4, 2, 4, 256, 256]⟩
abbrev S_ : Shape := ⟨0, ![]⟩
abbrev S4x2x4x256 : Shape := ⟨4, ![4, 2, 4, 256]⟩
abbrev S4x2x4x256x1 : Shape := ⟨5, ![4, 2, 4, 256, 1]⟩
abbrev S4x2x128x4x256 : Shape := ⟨5, ![4, 2, 128, 4, 256]⟩
abbrev S4x256x1024 : Shape := ⟨3, ![4, 256, 1024]⟩

abbrev nBuf : Space → Nat
  | .hbm => 30
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x256, .f32⟩
  | .hbm, ⟨2, _⟩ => ⟨S1024x256, .f32⟩
  | .hbm, ⟨3, _⟩ => ⟨S4x256x8x128, .f32⟩
  | .hbm, ⟨4, _⟩ => ⟨S4x256x2x128, .f32⟩
  | .hbm, ⟨5, _⟩ => ⟨S4x256x2x128, .f32⟩
  | .hbm, ⟨6, _⟩ => ⟨S4x256x2x4x128, .f32⟩
  | .hbm, ⟨7, _⟩ => ⟨S4x2x256x256x4, .f32⟩
  | .hbm, ⟨8, _⟩ => ⟨S4x2x4x256x256, .f32⟩
  | .hbm, ⟨9, _⟩ => ⟨S_, .f32⟩
  | .hbm, ⟨10, _⟩ => ⟨S4x2x4x256x256, .f32⟩
  | .hbm, ⟨11, _⟩ => ⟨S4x2x4x256x256, .f32⟩
  | .hbm, ⟨12, _⟩ => ⟨S_, .f32⟩
  | .hbm, ⟨13, _⟩ => ⟨S4x2x4x256, .f32⟩
  | .hbm, ⟨14, _⟩ => ⟨S_, .f32⟩
  | .hbm, ⟨15, _⟩ => ⟨S4x2x4x256, .f32⟩
  | .hbm, ⟨16, _⟩ => ⟨S4x2x4x256, .f32⟩
  | .hbm, ⟨17, _⟩ => ⟨S4x2x4x256x1, .f32⟩
  | .hbm, ⟨18, _⟩ => ⟨S4x2x4x256x256, .f32⟩
  | .hbm, ⟨19, _⟩ => ⟨S4x2x4x256x256, .f32⟩
  | .hbm, ⟨20, _⟩ => ⟨S4x2x4x256x256, .f32⟩
  | .hbm, ⟨21, _⟩ => ⟨S_, .f32⟩
  | .hbm, ⟨22, _⟩ => ⟨S4x2x4x256, .f32⟩
  | .hbm, ⟨23, _⟩ => ⟨S4x2x4x256x1, .f32⟩
  | .hbm, ⟨24, _⟩ => ⟨S4x2x4x256x256, .f32⟩
  | .hbm, ⟨25, _⟩ => ⟨S4x2x4x256x256, .f32⟩
  | .hbm, ⟨26, _⟩ => ⟨S4x2x128x4x256, .f32⟩
  | .hbm, ⟨27, _⟩ => ⟨S4x256x2x4x128, .f32⟩
  | .hbm, ⟨28, _⟩ => ⟨S4x256x1024, .f32⟩
  | .hbm, ⟨29, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]
-- ==== KernelSiluFwd.lean ====
abbrev S9216x2816 : Shape := ⟨2, ![9216, 2816]⟩
abbrev S256x2816 : Shape := ⟨2, ![256, 2816]⟩

abbrev nBuf : Space → Nat
  | .hbm => 3
  | .vmem => 6
  | .smem => 0
  | _ => 0

abbrev bufTy : (tb : Table) → Fin (tcTables nBuf tb) → BufTy
  | .hbm, ⟨0, _⟩ => ⟨S9216x2816, .f32⟩
  | .hbm, ⟨1, _⟩ => ⟨S9216x2816, .f32⟩
  | .hbm, ⟨2, _⟩ => ⟨S9216x2816, .f32⟩
  | .local _ .vmem, ⟨0, _⟩ => ⟨S256x2816, .f32⟩
  | .local _ .vmem, ⟨1, _⟩ => ⟨S256x2816, .f32⟩
  | .local _ .vmem, ⟨2, _⟩ => ⟨S256x2816, .f32⟩
  | .local _ .vmem, ⟨3, _⟩ => ⟨S256x2816, .f32⟩
  | .local _ .vmem, ⟨4, _⟩ => ⟨S256x2816, .f32⟩
  | .local _ .vmem, ⟨5, _⟩ => ⟨S256x2816, .f32⟩
  | _, _ => ⟨S9216x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![36], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceSiluFwdIdeal.lean ====
abbrev S9216x2816 : Shape := ⟨2, ![9216, 2816]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S9216x2816, .f32⟩
  | .hbm, ⟨1, _⟩ => ⟨S9216x2816, .f32⟩
  | .hbm, ⟨2, _⟩ => ⟨S9216x2816, .f32⟩
  | .hbm, ⟨3, _⟩ => ⟨S9216x2816, .f32⟩
  | .hbm, ⟨4, _⟩ => ⟨S_, .f32⟩
  | .hbm, ⟨5, _⟩ => ⟨S9216x2816, .f32⟩
  | .hbm, ⟨6, _⟩ => ⟨S9216x2816, .f32⟩
  | .hbm, ⟨7, _⟩ => ⟨S_, .f32⟩
  | .hbm, ⟨8, _⟩ => ⟨S9216x2816, .f32⟩
  | .hbm, ⟨9, _⟩ => ⟨S9216x2816, .f32⟩
  | .hbm, ⟨10, _⟩ => ⟨S9216x2816, .f32⟩
  | .hbm, ⟨11, _⟩ => ⟨S9216x2816, .f32⟩
  | _, _ => ⟨S9216x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_cst : Ref sig .tc := ⟨.hbm, 4, rfl⟩
abbrev main_call0_v2 : Ref sig .tc := ⟨.hbm, 5, rfl⟩
abbrev main_call0_v3 : Ref sig .tc := ⟨.hbm, 6, rfl⟩
abbrev main_call0_cst_0 : Ref sig .tc := ⟨.hbm, 7, rfl⟩
abbrev main_call0_v4 : Ref sig .tc := ⟨.hbm, 8, rfl⟩
abbrev main_call0_v5 : Ref sig .tc := ⟨.hbm, 9, rfl⟩
abbrev main_v0 : Ref sig .tc := ⟨.hbm, 10, rfl⟩
abbrev main_v1 : Ref sig .tc := ⟨.hbm, 11, rfl⟩

abbrev nD : Nat := 1
abbrev τ : Topo := Topo.v7x

variable {F : FTy → Type} [FloatOps F]
-- ==== KernelGluFwd.lean ====
abbrev S9216x1024 : Shape := ⟨2, ![9216, 1024]⟩
abbrev S256x1024 : Shape := ⟨2, ![256, 1024]⟩

abbrev nBuf : Space → Nat
  | .hbm => 3
  | .vmem => 6
  | .smem => 0
  | _ => 0

abbrev bufTy : (tb : Table) → Fin (tcTables nBuf tb) → BufTy
  | .hbm, ⟨0, _⟩ => ⟨S9216x1024, .f32⟩
  | .hbm, ⟨1, _⟩ => ⟨S9216x1024, .f32⟩
  | .hbm, ⟨2, _⟩ => ⟨S9216x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | _, _ => ⟨S9216x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![36], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceGluFwdIdeal.lean ====
abbrev S9216x1024 : Shape := ⟨2, ![9216, 1024]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S9216x1024, .f32⟩
  | .hbm, ⟨1, _⟩ => ⟨S9216x1024, .f32⟩
  | .hbm, ⟨2, _⟩ => ⟨S9216x1024, .f32⟩
  | .hbm, ⟨3, _⟩ => ⟨S9216x1024, .f32⟩
  | .hbm, ⟨4, _⟩ => ⟨S_, .f32⟩
  | .hbm, ⟨5, _⟩ => ⟨S9216x1024, .f32⟩
  | .hbm, ⟨6, _⟩ => ⟨S9216x1024, .f32⟩
  | .hbm, ⟨7, _⟩ => ⟨S_, .f32⟩
  | .hbm, ⟨8, _⟩ => ⟨S9216x1024, .f32⟩
  | .hbm, ⟨9, _⟩ => ⟨S9216x1024, .f32⟩
  | .hbm, ⟨10, _⟩ => ⟨S9216x1024, .f32⟩
  | _, _ => ⟨S9216x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== KernelAdamSq.lean ====
abbrev S4x256x1024 : Shape := ⟨3, ![4, 256, 1024]⟩
abbrev S1024x1024 : Shape := ⟨2, ![1024, 1024]⟩
abbrev S256x1024 : Shape := ⟨2, ![256, 1024]⟩

abbrev nBuf : Space → Nat
  | .hbm => 11
  | .vmem => 14
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x1024, .f32⟩
  | .hbm, ⟨3, _⟩ => ⟨S4x256x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelAdamSqIdeal.lean ====
abbrev S4x256x1024 : Shape := ⟨3, ![4, 256, 1024]⟩
abbrev S1024x1024 : Shape := ⟨2, ![1024, 1024]⟩
abbrev S256x1024 : Shape := ⟨2, ![256, 1024]⟩

abbrev nBuf : Space → Nat
  | .hbm => 11
  | .vmem => 14
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x1024, .f32⟩
  | .hbm, ⟨3, _⟩ => ⟨S4x256x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceAdamSqIdeal.lean ====
abbrev S4x256x1024 : Shape := ⟨3, ![4, 256, 1024]⟩
abbrev S_ : Shape := ⟨0, ![]⟩
abbrev S1024x1024 : Shape := ⟨2, ![1024, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x1024, .f32⟩
  | .hbm, ⟨3, _⟩ => ⟨S4x256x1024, .f32⟩
  | .hbm, ⟨4, _⟩ => ⟨S_, .f32⟩
  | .hbm, ⟨5, _⟩ => ⟨S4x256x1024, .f32⟩
  | .hbm, ⟨6, _⟩ => ⟨S4x256x1024, .f32⟩
  | .hbm, ⟨7, _⟩ => ⟨S_, .f32⟩
  | .hbm, ⟨8, _⟩ => ⟨S4x256x1024, .f32⟩
  | .hbm, ⟨9, _⟩ => ⟨S4x256x1024, .f32⟩
  | .hbm, ⟨10, _⟩ => ⟨S4x256x1024, .f32⟩
  | .hbm, ⟨11, _⟩ => ⟨S_, .f32⟩
  | .hbm, ⟨12, _⟩ => ⟨S4x256x1024, .f32⟩
  | .hbm, ⟨13, _⟩ => ⟨S4x256x1024, .f32⟩
  | .hbm, ⟨14, _⟩ => ⟨S4x256x1024, .f32⟩
  | .hbm, ⟨15, _⟩ => ⟨S_, .f32⟩
  | .hbm, ⟨16, _⟩ => ⟨S4x256x1024, .f32⟩
  | .hbm, ⟨17, _⟩ => ⟨S4x256x1024, .f32⟩
  | .hbm, ⟨18, _⟩ => ⟨S4x256x1024, .f32⟩
  | .hbm, ⟨19, _⟩ => ⟨S_, .f32⟩
  | .hbm, ⟨20, _⟩ => ⟨S4x256x1024, .f32⟩
  | .hbm, ⟨21, _⟩ => ⟨S4x256x1024, .f32⟩
  | .hbm, ⟨22, _⟩ => ⟨S_, .f32⟩
  | .hbm, ⟨23, _⟩ => ⟨S4x256x1024, .f32⟩
  | .hbm, ⟨24, _⟩ => ⟨S4x256x1024, .f32⟩
  | .hbm, ⟨25, _⟩ => ⟨S4x256x1024, .f32⟩
  | .hbm, ⟨26, _⟩ => ⟨S_, .f32⟩
  | .hbm, ⟨27, _⟩ => ⟨S4x256x1024, .f32⟩
  | .hbm, ⟨28, _⟩ => ⟨S4x256x1024, .f32⟩
  | .hbm, ⟨29, _⟩ => ⟨S4x256x1024, .f32⟩
  | .hbm, ⟨30, _⟩ => ⟨S_, .f32⟩
  | .hbm, ⟨31, _⟩ => ⟨S4x256x1024, .f32⟩
  | .hbm, ⟨32, _⟩ => ⟨S4x256x1024, .f32⟩
  | .hbm, ⟨33, _⟩ => ⟨S4x256x1024, .f32⟩
  | .hbm, ⟨34, _⟩ => ⟨S_, .f32⟩
  | .hbm, ⟨35, _⟩ => ⟨S4x256x1024, .f32⟩
  | .hbm, ⟨36, _⟩ => ⟨S4x256x1024, .f32⟩
  | .hbm, ⟨37, _⟩ => ⟨S1024x1024, .f32⟩
  | .hbm, ⟨38, _⟩ => ⟨S1024x1024, .f32⟩
  | .hbm, ⟨39, _⟩ => ⟨S1024x1024, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== KernelAdamVec.lean ====
abbrev S4x1024 : Shape := ⟨2, ![4, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== KernelAdamVecIdeal.lean ====
abbrev S4x1024 : Shape := ⟨2, ![4, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== ReferenceAdamVecIdeal.lean ====
abbrev S4x1024 : Shape := ⟨2, ![4, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S_, .f32⟩
  | .hbm, ⟨5, _⟩ => ⟨S4x1024, .f32⟩
  | .hbm, ⟨6, _⟩ => ⟨S4x1024, .f32⟩
  | .hbm, ⟨7, _⟩ => ⟨S_, .f32⟩
  | .hbm, ⟨8, _⟩ => ⟨S4x1024, .f32⟩
  | .hbm, ⟨9, _⟩ => ⟨S4x1024, .f32⟩
  | .hbm, ⟨10, _⟩ => ⟨S4x1024, .f32⟩
  | .hbm, ⟨11, _⟩ => ⟨S_, .f32⟩
  | .hbm, ⟨12, _⟩ => ⟨S4x1024, .f32⟩
  | .hbm, ⟨13, _⟩ => ⟨S4x1024, .f32⟩
  | .hbm, ⟨14, _⟩ => ⟨S4x1024, .f32⟩
  | .hbm, ⟨15, _⟩ => ⟨S_, .f32⟩
  | .hbm, ⟨16, _⟩ => ⟨S4x1024, .f32⟩
  | .hbm, ⟨17, _⟩ => ⟨S4x1024, .f32⟩
  | .hbm, ⟨18, _⟩ => ⟨S4x1024, .f32⟩
  | .hbm, ⟨19, _⟩ => ⟨S_, .f32⟩
  | .hbm, ⟨20, _⟩ => ⟨S4x1024, .f32⟩
  | .hbm, ⟨21, _⟩ => ⟨S4x1024, .f32⟩
  | .hbm, ⟨22, _⟩ => ⟨S_, .f32⟩
  | .hbm, ⟨23, _⟩ => ⟨S4x1024, .f32⟩
  | .hbm, ⟨24, _⟩ => ⟨S4x1024, .f32⟩
  | .hbm, ⟨25, _⟩ => ⟨S4x1024, .f32⟩
  | .hbm, ⟨26, _⟩ => ⟨S_, .f32⟩
  | .hbm, ⟨27, _⟩ => ⟨S4x1024, .f32⟩
  | .hbm, ⟨28, _⟩ => ⟨S4x1024, .f32⟩
  | .hbm, ⟨29, _⟩ => ⟨S4x1024, .f32⟩
  | .hbm, ⟨30, _⟩ => ⟨S_, .f32⟩
  | .hbm, ⟨31, _⟩ => ⟨S4x1024, .f32⟩
  | .hbm, ⟨32, _⟩ => ⟨S4x1024, .f32⟩
  | .hbm, ⟨33, _⟩ => ⟨S4x1024, .f32⟩
  | .hbm, ⟨34, _⟩ => ⟨S_, .f32⟩
  | .hbm, ⟨35, _⟩ => ⟨S4x1024, .f32⟩
  | .hbm, ⟨36, _⟩ => ⟨S4x1024, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelModFwd.lean ====
abbrev S9216x1024 : Shape := ⟨2, ![9216, 1024]⟩
abbrev S5x1x1024 : Shape := ⟨3, ![5, 1, 1024]⟩
abbrev S256x1024 : Shape := ⟨2, ![256, 1024]⟩
abbrev S1x1x1024 : Shape := ⟨3, ![1, 1, 1024]⟩
abbrev S1x1024 : Shape := ⟨2, ![1, 1024]⟩

abbrev nBuf : Space → Nat
  | .hbm => 4
  | .vmem => 8
  | .smem => 0
  | _ => 0

abbrev bufTy : (tb : Table) → Fin (tcTables nBuf tb) → BufTy
  | .hbm, ⟨0, _⟩ => ⟨S9216x1024, .f32⟩
  | .hbm, ⟨1, _⟩ => ⟨S5x1x1024, .f32⟩
  | .hbm, ⟨2, _⟩ => ⟨S5x1x1024, .f32⟩
  | .hbm, ⟨3, _⟩ => ⟨S9216x1024, .f32⟩
  | .local _ .vmem, ⟨0, _⟩ => ⟨S256x1024, .f32⟩
  | .local _ .vmem, ⟨1, _⟩ => ⟨S256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S256x1024, .f32⟩
  | .local _ .vmem, ⟨7, _⟩ => ⟨S256x1024, .f32⟩
  | _, _ => ⟨S9216x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![36], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let v17 : BitVec 32 := Scalar.minsi v16 c4_i32
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let v17 : BitVec 32 := Scalar.minsi v16 c4_i32
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceModFwdIdeal.lean ====
abbrev S9216x1024 : Shape := ⟨2, ![9216, 1024]⟩
abbrev S5x1x1024 : Shape := ⟨3, ![5, 1, 1024]⟩
abbrev S8192x1024 : Shape := ⟨2, ![8192, 1024]⟩
abbrev S4x2048x1024 : Shape := ⟨3, ![4, 2048, 1024]⟩
abbrev S4x1x1024 : Shape := ⟨3, ![4, 1, 1024]⟩
abbrev S_ : Shape := ⟨0, ![]⟩
abbrev S1024x1024 : Shape := ⟨2, ![1024, 1024]⟩
abbrev S1x1x1024 : Shape := ⟨3, ![1, 1, 1024]⟩
abbrev S1x1024 : Shape := ⟨2, ![1, 1024]⟩

abbrev nBuf : Space → Nat
  | .hbm => 28
  | .vmem => 0
  | .smem => 0
  | _ => 0

abbrev bufTy : (tb : Table) → Fin (tcTables nBuf tb) → BufTy
  | .hbm, ⟨0, _⟩ => ⟨S9216x1024, .f32⟩
  | .hbm, ⟨1, _⟩ => ⟨S5x1x1024, .f32⟩
  | .hbm, ⟨2, _⟩ => ⟨S5x1x1024, .f32⟩
  | .hbm, ⟨3, _⟩ => ⟨S8192x1024, .f32⟩
  | .hbm, ⟨4, _⟩ => ⟨S4x2048x1024, .f32⟩
  | .hbm, ⟨5, _⟩ => ⟨S4x1x1024, .f32⟩
  | .hbm, ⟨6, _⟩ => ⟨S4x1x1024, .f32⟩
  | .hbm, ⟨7, _⟩ => ⟨S_, .f32⟩
  | .hbm, ⟨8, _⟩ => ⟨S4x1x1024, .f32⟩
  | .hbm, ⟨9, _⟩ => ⟨S4x1x1024, .f32⟩
  | .hbm, ⟨10, _⟩ => ⟨S4x2048x1024, .f32⟩
  | .hbm, ⟨11, _⟩ => ⟨S4x2048x1024, .f32⟩
  | .hbm, ⟨12, _⟩ => ⟨S4x2048x1024, .f32⟩
  | .hbm, ⟨13, _⟩ => ⟨S4x2048x1024, .f32⟩
  | .hbm, ⟨14, _⟩ => ⟨S8192x1024, .f32⟩
  | .hbm, ⟨15, _⟩ => ⟨S1024x1024, .f32⟩
  | .hbm, ⟨16, _⟩ => ⟨S1x1x1024, .f32⟩
  | .hbm, ⟨17, _⟩ => ⟨S1x1024, .f32⟩
  | .hbm, ⟨18, _⟩ => ⟨S1x1x1024, .f32⟩
  | .hbm, ⟨19, _⟩ => ⟨S1x1024, .f32⟩
  | .hbm, ⟨20, _⟩ => ⟨S_, .f32⟩
  | .hbm, ⟨21, _⟩ => ⟨S1x1024, .f32⟩
  | .hbm, ⟨22, _⟩ => ⟨S1x1024, .f32⟩
  | .hbm, ⟨23, _⟩ => ⟨S1024x1024, .f32⟩
  | .hbm, ⟨24, _⟩ => ⟨S1024x1024, .f32⟩
  | .hbm, ⟨25, _⟩ => ⟨S1024x1024, .f32⟩
  | .hbm, ⟨26, _⟩ => ⟨S1024x1024, .f32⟩
  | .hbm, ⟨27, _⟩ => ⟨S9216x1024, .f32⟩
  | _, _ => ⟨S9216x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_0 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩

abbrev nD : Nat := 1
abbrev τ : Topo := Topo.v7x

variable {F : FTy → Type} [FloatOps F]
-- ==== KernelMergeFwd.lean ====
abbrev S9216x1024 : Shape := ⟨2, ![9216, 1024]⟩
abbrev S1024 : Shape := ⟨1, ![1024]⟩
abbrev S1x1x1024 : Shape := ⟨3, ![1, 1, 1024]⟩
abbrev S5x1x1024 : Shape := ⟨3, ![5, 1, 1024]⟩
abbrev S256x1024 : Shape := ⟨2, ![256, 1024]⟩
abbrev S1x1024 : Shape := ⟨2, ![1, 1024]⟩

abbrev nBuf : Space → Nat
  | .hbm => 10
  | .vmem => 16
  | .smem => 0
  | _ => 0

abbrev bufTy : (tb : Table) → Fin (tcTables nBuf tb) → BufTy
  | .hbm, ⟨0, _⟩ => ⟨S9216x1024, .f32⟩
  | .hbm, ⟨1, _⟩ => ⟨S9216x1024, .f32⟩
  | .hbm, ⟨2, _⟩ => ⟨S9216x1024, .f32⟩
  | .hbm, ⟨3, _⟩ => ⟨S9216x1024, .f32⟩
  | .hbm, ⟨4, _⟩ => ⟨S9216x1024, .f32⟩
  | .hbm, ⟨5, _⟩ => ⟨S9216x1024, .f32⟩
  | .hbm, ⟨6, _⟩ => ⟨S1024, .f32⟩
  | .hbm, ⟨7, _⟩ => ⟨S1x1x1024, .f32⟩
  | .hbm, ⟨8, _⟩ => ⟨S5x1x1024, .f32⟩
  | .hbm, ⟨9, _⟩ => ⟨S9216x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S1x1x1024, .f32⟩
  | .local _ .vmem, ⟨13, _⟩ => ⟨S1x1x1024, .f32⟩
  | .local _ .vmem, ⟨14, _⟩ => ⟨S256x1024, .f32⟩
  | .local _ .vmem, ⟨15, _⟩ => ⟨S256x1024, .f32⟩
  | _, _ => ⟨S9216x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![36], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let v17 : BitVec 32 := Scalar.minsi v16 c4_i32
  let c0_i32_4 : BitVec 32 := 0#32
  let c0_i32_5 : BitVec 32 := 0#32
  let c0_i32_6 : BitVec 32 := 0#32
  ![v17.toNat, c0_i32_4.toNat, c0_i32_5.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceMergeFwdIdeal.lean ====
abbrev S9216x1024 : Shape := ⟨2, ![9216, 1024]⟩
abbrev S1024 : Shape := ⟨1, ![1024]⟩
abbrev S_ : Shape := ⟨0, ![]⟩
abbrev S1x1024 : Shape := ⟨2, ![1, 1024]⟩

abbrev nBuf : Space → Nat
  | .hbm => 39
  | .vmem => 0
  | .smem => 0
  | _ => 0

abbrev bufTy : (tb : Table) → Fin (tcTables nBuf tb) → BufTy
  | .hbm, ⟨0, _⟩ => ⟨S9216x1024, .f32⟩
  | .hbm, ⟨1, _⟩ => ⟨S9216x1024, .f32⟩
  | .hbm, ⟨2, _⟩ => ⟨S9216x1024, .f32⟩
  | .hbm, ⟨3, _⟩ => ⟨S9216x1024, .f32⟩
  | .hbm, ⟨4, _⟩ => ⟨S9216x1024, .f32⟩
  | .hbm, ⟨5, _⟩ => ⟨S9216x1024, .f32⟩
  | .hbm, ⟨6, _⟩ => ⟨S1024, .f32⟩
  | .hbm, ⟨7, _⟩ => ⟨S9216x1024, .f32⟩
  | .hbm, ⟨8, _⟩ => ⟨S9216x1024, .f32⟩
  | .hbm, ⟨9, _⟩ => ⟨S_, .f32⟩
  | .hbm, ⟨10, _⟩ => ⟨S9216x1024, .f32⟩
  | .hbm, ⟨11, _⟩ => ⟨S9216x1024, .f32⟩
  | .hbm, ⟨12, _⟩ => ⟨S_, .f32⟩
  | .hbm, ⟨13, _⟩ => ⟨S9216x1024, .f32⟩
  | .hbm, ⟨14, _⟩ => ⟨S9216x1024, .f32⟩
  | .hbm, ⟨15, _⟩ => ⟨S9216x1024, .f32⟩
  | .hbm, ⟨16, _⟩ => ⟨S9216x1024, .f32⟩
  | .hbm, ⟨17, _⟩ => ⟨S9216x1024, .f32⟩
  | .hbm, ⟨18, _⟩ => ⟨S_, .f32⟩
  | .hbm, ⟨19, _⟩ => ⟨S9216x1024, .f32⟩
  | .hbm, ⟨20, _⟩ => ⟨S9216x1024, .f32⟩
  | .hbm, ⟨21, _⟩ => ⟨S_, .f32⟩
  | .hbm, ⟨22, _⟩ => ⟨S9216x1024, .f32⟩
  | .hbm, ⟨23, _⟩ => ⟨S9216x1024, .f32⟩
  | .hbm, ⟨24, _⟩ => ⟨S9216x1024, .f32⟩
  | .hbm, ⟨25, _⟩ => ⟨S9216x1024, .f32⟩
  | .hbm, ⟨26, _⟩ => ⟨S9216x1024, .f32⟩
  | .hbm, ⟨27, _⟩ => ⟨S9216x1024, .f32⟩
  | .hbm, ⟨28, _⟩ => ⟨S_, .f32⟩
  | .hbm, ⟨29, _⟩ => ⟨S9216x1024, .f32⟩
  | .hbm, ⟨30, _⟩ => ⟨S9216x1024, .f32⟩
  | .hbm, ⟨31, _⟩ => ⟨S_, .f32⟩
  | .hbm, ⟨32, _⟩ => ⟨S9216x1024, .f32⟩
  | .hbm, ⟨33, _⟩ => ⟨S9216x1024, .f32⟩
  | .hbm, ⟨34, _⟩ => ⟨S1x1024, .f32⟩
  | .hbm, ⟨35, _⟩ => ⟨S9216x1024, .f32⟩
  | .hbm, ⟨36, _⟩ => ⟨S9216x1024, .f32⟩
  | .hbm, ⟨37, _⟩ => ⟨S9216x1024, .f32⟩
  | .hbm, ⟨38, _⟩ => ⟨S9216x1024, .f32⟩
  | _, _ => ⟨S9216x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]
-- ==== KernelLnSiluFwd.lean ====
abbrev S9216x1024 : Shape := ⟨2, ![9216, 1024]⟩
abbrev S1024 : Shape := ⟨1, ![1024]⟩
abbrev S1x1x1024 : Shape := ⟨3, ![1, 1, 1024]⟩
abbrev S5x1x1024 : Shape := ⟨3, ![5, 1, 1024]⟩
abbrev S256x1024 : Shape := ⟨2, ![256, 1024]⟩
abbrev S1x1024 : Shape := ⟨2, ![1, 1024]⟩
abbrev S256 : Shape := ⟨1, ![256]⟩
abbrev S256x1 : Shape := ⟨2, ![256, 1]⟩

abbrev nBuf : Space → Nat
  | .hbm => 8
  | .vmem => 8
  | .smem => 0
  | _ => 0

abbrev bufTy : (tb : Table) → Fin (tcTables nBuf tb) → BufTy
  | .hbm, ⟨0, _⟩ => ⟨S9216x1024, .f32⟩
  | .hbm, ⟨1, _⟩ => ⟨S1024, .f32⟩
  | .hbm, ⟨2, _⟩ => ⟨S1024, .f32⟩
  | .hbm, ⟨3, _⟩ => ⟨S1x1x1024, .f32⟩
  | .hbm, ⟨4, _⟩ => ⟨S5x1x1024, .f32⟩
  | .hbm, ⟨5, _⟩ => ⟨S1x1x1024, .f32⟩
  | .hbm, ⟨6, _⟩ => ⟨S5x1x1024, .f32⟩
  | .hbm, ⟨7, _⟩ => ⟨S9216x1024, .f32⟩
  | .local _ .vmem, ⟨0, _⟩ => ⟨S256x1024, .f32⟩
  | .local _ .vmem, ⟨1, _⟩ => ⟨S256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S256x1024, .f32⟩
  | .local _ .vmem, ⟨7, _⟩ => ⟨S256x1024, .f32⟩
  | _, _ => ⟨S9216x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![36], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let v17 : BitVec 32 := Scalar.minsi v16 c4_i32
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let v17 : BitVec 32 := Scalar.minsi v16 c4_i32
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceLnSiluFwdIdeal.lean ====
abbrev S9216x1024 : Shape := ⟨2, ![9216, 1024]⟩
abbrev S1024 : Shape := ⟨1, ![1024]⟩
abbrev S_ : Shape := ⟨0, ![]⟩
abbrev S9216 : Shape := ⟨1, ![9216]⟩
abbrev S9216x1 : Shape := ⟨2, ![9216, 1]⟩
abbrev S1x1024 : Shape := ⟨2, ![1, 1024]⟩

abbrev nBuf : Space → Nat
  | .hbm => 41
  | .vmem => 0
  | .smem => 0
  | _ => 0

abbrev bufTy : (tb : Table) → Fin (tcTables nBuf tb) → BufTy
  | .hbm, ⟨0, _⟩ => ⟨S9216x1024, .f32⟩
  | .hbm, ⟨1, _⟩ => ⟨S1024, .f32⟩
  | .hbm, ⟨2, _⟩ => ⟨S1024, .f32⟩
  | .hbm, ⟨3, _⟩ => ⟨S_, .f32⟩
  | .hbm, ⟨4, _⟩ => ⟨S9216, .f32⟩
  | .hbm, ⟨5, _⟩ => ⟨S9216x1, .f32⟩
  | .hbm, ⟨6, _⟩ => ⟨S_, .f32⟩
  | .hbm, ⟨7, _⟩ => ⟨S9216x1, .f32⟩
  | .hbm, ⟨8, _⟩ => ⟨S9216x1, .f32⟩
  | .hbm, ⟨9, _⟩ => ⟨S9216x1024, .f32⟩
  | .hbm, ⟨10, _⟩ => ⟨S9216x1024, .f32⟩
  | .hbm, ⟨11, _⟩ => ⟨S9216x1024, .f32⟩
  | .hbm, ⟨12, _⟩ => ⟨S_, .f32⟩
  | .hbm, ⟨13, _⟩ => ⟨S9216, .f32⟩
  | .hbm, ⟨14, _⟩ => ⟨S9216x1, .f32⟩
  | .hbm, ⟨15, _⟩ => ⟨S_, .f32⟩
  | .hbm, ⟨16, _⟩ => ⟨S9216x1, .f32⟩
  | .hbm, ⟨17, _⟩ => ⟨S9216x1, .f32⟩
  | .hbm, ⟨18, _⟩ => ⟨S9216x1024, .f32⟩
  | .hbm, ⟨19, _⟩ => ⟨S9216x1024, .f32⟩
  | .hbm, ⟨20, _⟩ => ⟨S_, .f32⟩
  | .hbm, ⟨21, _⟩ => ⟨S9216x1, .f32⟩
  | .hbm, ⟨22, _⟩ => ⟨S9216x1, .f32⟩
  | .hbm, ⟨23, _⟩ => ⟨S9216x1, .f32⟩
  | .hbm, ⟨24, _⟩ => ⟨S9216x1024, .f32⟩
  | .hbm, ⟨25, _⟩ => ⟨S9216x1024, .f32⟩
  | .hbm, ⟨26, _⟩ => ⟨S1x1024, .f32⟩
  | .hbm, ⟨27, _⟩ => ⟨S9216x1024, .f32⟩
  | .hbm, ⟨28, _⟩ => ⟨S9216x1024, .f32⟩
  | .hbm, ⟨29, _⟩ => ⟨S1x1024, .f32⟩
  | .hbm, ⟨30, _⟩ => ⟨S9216x1024, .f32⟩
  | .hbm, ⟨31, _⟩ => ⟨S9216x1024, .f32⟩
  | .hbm, ⟨32, _⟩ => ⟨S9216x1024, .f32⟩
  | .hbm, ⟨33, _⟩ => ⟨S9216x1024, .f32⟩
  | .hbm, ⟨34, _⟩ => ⟨S_, .f32⟩
  | .hbm, ⟨35, _⟩ => ⟨S9216x1024, .f32⟩
  | .hbm, ⟨36, _⟩ => ⟨S9216x1024, .f32⟩
  | .hbm, ⟨37, _⟩ => ⟨S_, .f32⟩
  | .hbm, ⟨38, _⟩ => ⟨S9216x1024, .f32⟩
  | .hbm, ⟨39, _⟩ => ⟨S9216x1024, .f32⟩
  | .hbm, ⟨40, _⟩ => ⟨S9216x1024, .f32⟩
  | _, _ => ⟨S9216x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v24 : Ref sig .tc := ⟨.hbm, 40, rfl⟩

abbrev nD : Nat := 1
abbrev τ : Topo := Topo.v7x

variable {F : FTy → Type} [FloatOps F]
-- ==== KernelResLnFwd.lean ====
abbrev S9216x1024 : Shape := ⟨2, ![9216, 1024]⟩
abbrev S5x1x1024 : Shape := ⟨3, ![5, 1, 1024]⟩
abbrev S1024 : Shape := ⟨1, ![1024]⟩
abbrev S1x1x1024 : Shape := ⟨3, ![1, 1, 1024]⟩
abbrev S256x1024 : Shape := ⟨2, ![256, 1024]⟩
abbrev S1x1024 : Shape := ⟨2, ![1, 1024]⟩
abbrev S256 : Shape := ⟨1, ![256]⟩
abbrev S256x1 : Shape := ⟨2, ![256, 1]⟩

abbrev nBuf : Space → Nat
  | .hbm => 10
  | .vmem => 12
  | .smem => 0
  | _ => 0

abbrev bufTy : (tb : Table) → Fin (tcTables nBuf tb) → BufTy
  | .hbm, ⟨0, _⟩ => ⟨S9216x1024, .f32⟩
  | .hbm, ⟨1, _⟩ => ⟨S9216x1024, .f32⟩
  | .hbm, ⟨2, _⟩ => ⟨S5x1x1024, .f32⟩
  | .hbm, ⟨3, _⟩ => ⟨S1024, .f32⟩
  | .hbm, ⟨4, _⟩ => ⟨S1024, .f32⟩
  | .hbm, ⟨5, _⟩ => ⟨S1x1x1024, .f32⟩
  | .hbm, ⟨6, _⟩ => ⟨S5x1x1024, .f32⟩
  | .hbm, ⟨7, _⟩ => ⟨S1x1x1024, .f32⟩
  | .hbm, ⟨8, _⟩ => ⟨S5x1x1024, .f32⟩
  | .hbm, ⟨9, _⟩ => ⟨S9216x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S256x1024, .f32⟩
  | .local _ .vmem, ⟨11, _⟩ => ⟨S256x1024, .f32⟩
  | _, _ => ⟨S9216x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![36], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let v17 : BitVec 32 := Scalar.minsi v16 c4_i32
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let v17 : BitVec 32 := Scalar.minsi v16 c4_i32
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let v17 : BitVec 32 := Scalar.minsi v16 c4_i32
  let c0_i32_4 : BitVec 32 := 0#32
  let c0_i32_5 : BitVec 32 := 0#32
  let c0_i32_6 : BitVec 32 := 0#32
  ![v17.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceResLnFwdIdeal.lean ====
abbrev S9216x1024 : Shape := ⟨2, ![9216, 1024]⟩
abbrev S5x1x1024 : Shape := ⟨3, ![5, 1, 1024]⟩
abbrev S1024 : Shape := ⟨1, ![1024]⟩
abbrev S8192x1024 : Shape := ⟨2, ![8192, 1024]⟩
abbrev S4x2048x1024 : Shape := ⟨3, ![4, 2048, 1024]⟩
abbrev S_ : Shape := ⟨0, ![]⟩
abbrev S4x1x1024 : Shape := ⟨3, ![4, 1, 1024]⟩
abbrev S4x2048 : Shape := ⟨2, ![4, 2048]⟩
abbrev S4x2048x1 : Shape := ⟨3, ![4, 2048, 1]⟩
abbrev S1x1x1024 : Shape := ⟨3, ![1, 1, 1024]⟩
abbrev S1024x1024 : Shape := ⟨2, ![1024, 1024]⟩
abbrev S1x1024 : Shape := ⟨2, ![1, 1024]⟩
abbrev S1024x1 : Shape := ⟨2, ![1024, 1]⟩

abbrev nBuf : Space → Nat
  | .hbm => 86
  | .vmem => 0
  | .smem => 0
  | _ => 0

abbrev bufTy : (tb : Table) → Fin (tcTables nBuf tb) → BufTy
  | .hbm, ⟨0, _⟩ => ⟨S9216x1024, .f32⟩
  | .hbm, ⟨1, _⟩ => ⟨S9216x1024, .f32⟩
  | .hbm, ⟨2, _⟩ => ⟨S5x1x1024, .f32⟩
  | .hbm, ⟨3, _⟩ => ⟨S1024, .f32⟩
  | .hbm, ⟨4, _⟩ => ⟨S1024, .f32⟩
  | .hbm, ⟨5, _⟩ => ⟨S8192x1024, .f32⟩
  | .hbm, ⟨6, _⟩ => ⟨S4x2048x1024, .f32⟩
  | .hbm, ⟨7, _⟩ => ⟨S_, .f32⟩
  | .hbm, ⟨8, _⟩ => ⟨S4x2048x1024, .f32⟩
  | .hbm, ⟨9, _⟩ => ⟨S4x2048x1024, .f32⟩
  | .hbm, ⟨10, _⟩ => ⟨S4x1x1024, .f32⟩
  | .hbm, ⟨11, _⟩ => ⟨S8192x1024, .f32⟩
  | .hbm, ⟨12, _⟩ => ⟨S4x2048x1024, .f32⟩
  | .hbm, ⟨13, _⟩ => ⟨S4x2048x1024, .f32⟩
  | .hbm, ⟨14, _⟩ => ⟨S4x2048x1024, .f32⟩
  | .hbm, ⟨15, _⟩ => ⟨S4x2048x1024, .f32⟩
  | .hbm, ⟨16, _⟩ => ⟨S_, .f32⟩
  | .hbm, ⟨17, _⟩ => ⟨S4x2048, .f32⟩
  | .hbm, ⟨18, _⟩ => ⟨S4x2048x1, .f32⟩
  | .hbm, ⟨19, _⟩ => ⟨S_, .f32⟩
  | .hbm, ⟨20, _⟩ => ⟨S4x2048x1, .f32⟩
  | .hbm, ⟨21, _⟩ => ⟨S4x2048x1, .f32⟩
  | .hbm, ⟨22, _⟩ => ⟨S4x2048x1024, .f32⟩
  | .hbm, ⟨23, _⟩ => ⟨S4x2048x1024, .f32⟩
  | .hbm, ⟨24, _⟩ => ⟨S4x2048x1024, .f32⟩
  | .hbm, ⟨25, _⟩ => ⟨S_, .f32⟩
  | .hbm, ⟨26, _⟩ => ⟨S4x2048, .f32⟩
  | .hbm, ⟨27, _⟩ => ⟨S4x2048x1, .f32⟩
  | .hbm, ⟨28, _⟩ => ⟨S_, .f32⟩
  | .hbm, ⟨29, _⟩ => ⟨S4x2048x1, .f32⟩
  | .hbm, ⟨30, _⟩ => ⟨S4x2048x1, .f32⟩
  | .hbm, ⟨31, _⟩ => ⟨S4x2048x1024, .f32⟩
  | .hbm, ⟨32, _⟩ => ⟨S4x2048x1024, .f32⟩
  | .hbm, ⟨33, _⟩ => ⟨S_, .f32⟩
  | .hbm, ⟨34, _⟩ => ⟨S4x2048x1, .f32⟩
  | .hbm, ⟨35, _⟩ => ⟨S4x2048x1, .f32⟩
  | .hbm, ⟨36, _⟩ => ⟨S4x2048x1, .f32⟩
  | .hbm, ⟨37, _⟩ => ⟨S4x2048x1024, .f32⟩
  | .hbm, ⟨38, _⟩ => ⟨S4x2048x1024, .f32⟩
  | .hbm, ⟨39, _⟩ => ⟨S1x1x1024, .f32⟩
  | .hbm, ⟨40, _⟩ => ⟨S4x2048x1024, .f32⟩
  | .hbm, ⟨41, _⟩ => ⟨S4x2048x1024, .f32⟩
  | .hbm, ⟨42, _⟩ => ⟨S1x1x1024, .f32⟩
  | .hbm, ⟨43, _⟩ => ⟨S4x2048x1024, .f32⟩
  | .hbm, ⟨44, _⟩ => ⟨S4x2048x1024, .f32⟩
  | .hbm, ⟨45, _⟩ => ⟨S8192x1024, .f32⟩
  | .hbm, ⟨46, _⟩ => ⟨S1024x1024, .f32⟩
  | .hbm, ⟨47, _⟩ => ⟨S_, .f32⟩
  | .hbm, ⟨48, _⟩ => ⟨S1024x1024, .f32⟩
  | .hbm, ⟨49, _⟩ => ⟨S1024x1024, .f32⟩
  | .hbm, ⟨50, _⟩ => ⟨S1x1x1024, .f32⟩
  | .hbm, ⟨51, _⟩ => ⟨S1x1024, .f32⟩
  | .hbm, ⟨52, _⟩ => ⟨S1024x1024, .f32⟩
  | .hbm, ⟨53, _⟩ => ⟨S1024x1024, .f32⟩
  | .hbm, ⟨54, _⟩ => ⟨S1024x1024, .f32⟩
  | .hbm, ⟨55, _⟩ => ⟨S1024x1024, .f32⟩
  | .hbm, ⟨56, _⟩ => ⟨S_, .f32⟩
  | .hbm, ⟨57, _⟩ => ⟨S1024, .f32⟩
  | .hbm, ⟨58, _⟩ => ⟨S1024x1, .f32⟩
  | .hbm, ⟨59, _⟩ => ⟨S_, .f32⟩
  | .hbm, ⟨60, _⟩ => ⟨S1024x1, .f32⟩
  | .hbm, ⟨61, _⟩ => ⟨S1024x1, .f32⟩
  | .hbm, ⟨62, _⟩ => ⟨S1024x1024, .f32⟩
  | .hbm, ⟨63, _⟩ => ⟨S1024x1024, .f32⟩
  | .hbm, ⟨64, _⟩ => ⟨S1024x1024, .f32⟩
  | .hbm, ⟨65, _⟩ => ⟨S_, .f32⟩
  | .hbm, ⟨66, _⟩ => ⟨S1024, .f32⟩
  | .hbm, ⟨67, _⟩ => ⟨S1024x1, .f32⟩
  | .hbm, ⟨68, _⟩ => ⟨S_, .f32⟩
  | .hbm, ⟨69, _⟩ => ⟨S1024x1, .f32⟩
  | .hbm, ⟨70, _⟩ => ⟨S1024x1, .f32⟩
  | .hbm, ⟨71, _⟩ => ⟨S1024x1024, .f32⟩
  | .hbm, ⟨72, _⟩ => ⟨S1024x1024, .f32⟩
  | .hbm, ⟨73, _⟩ => ⟨S_, .f32⟩
  | .hbm, ⟨74, _⟩ => ⟨S1024x1, .f32⟩
  | .hbm, ⟨75, _⟩ => ⟨S1024x1, .f32⟩
  | .hbm, ⟨76, _⟩ => ⟨S1024x1, .f32⟩
  | .hbm, ⟨77, _⟩ => ⟨S1024x1024, .f32⟩
  | .hbm, ⟨78, _⟩ => ⟨S1024x1024, .f32⟩
  | .hbm, ⟨79, _⟩ => ⟨S1x1024, .f32⟩
  | .hbm, ⟨80, _⟩ => ⟨S1024x1024, .f32⟩
  | .hbm, ⟨81, _⟩ => ⟨S1024x1024, .f32⟩
  | .hbm, ⟨82, _⟩ => ⟨S1x1024, .f32⟩
  | .hbm, ⟨83, _⟩ => ⟨S1024x1024, .f32⟩
  | .hbm, ⟨84, _⟩ => ⟨S1024x1024, .f32⟩
  | .hbm, ⟨85, _⟩ => ⟨S9216x1024, .f32⟩
  | _, _ => ⟨S9216x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_5 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_6 : Ref sig .tc := ⟨.hbm, 56, rfl⟩
abbrev main_v44 : Ref sig .tc := ⟨.hbm, 57, rfl⟩
abbrev main_v45 : Ref sig .tc := ⟨.hbm, 58, rfl⟩
abbrev main_cst_7 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_8 : Ref sig .tc := ⟨.hbm, 65, rfl⟩
abbrev main_v51 : Ref sig .tc := ⟨.hbm, 66, rfl⟩
abbrev main_v52 : Ref sig .tc := ⟨.hbm, 67, rfl⟩
abbrev main_cst_9 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_10 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩

abbrev nD : Nat := 1
abbrev τ : Topo := Topo.v7x

variable {F : FTy → Type} [FloatOps F]
-- ==== KernelLoss.lean ====
abbrev S8192x1024 : Shape := ⟨2, ![8192, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceLossIdeal.lean ====
abbrev S8192x1024 : Shape := ⟨2, ![8192, 1024]⟩
abbrev S_ : Shape := ⟨0, ![]⟩
abbrev S8192 : Shape := ⟨1, ![8192]⟩
abbrev S1x128 : Shape := ⟨2, ![1, 128]⟩

abbrev nBuf : Space → Nat
  | .hbm => 26
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S_, .f32⟩
  | .hbm, ⟨10, _⟩ => ⟨S8192, .f32⟩
  | .hbm, ⟨11, _⟩ => ⟨S8192, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S8192x1024, .f32⟩
  | .hbm, ⟨24, _⟩ => ⟨S8192x1024, .f32⟩
  | .hbm, ⟨25, _⟩ => ⟨S1x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== KernelAdamIn.lean ====
abbrev S4x1024x1920 : Shape := ⟨3, ![4, 1024, 1920]⟩
abbrev S4096x1920 : Shape := ⟨2, ![4096, 1920]⟩
abbrev S256x1920 : Shape := ⟨2, ![256, 1920]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x1920, .f32⟩
  | .hbm, ⟨1, _⟩ => ⟨S4x1024x1920, .f32⟩
  | .hbm, ⟨2, _⟩ => ⟨S4x1024x1920, .f32⟩
  | .hbm, ⟨3, _⟩ => ⟨S4x1024x1920, .f32⟩
  | .hbm, ⟨4, _⟩ => ⟨S4096x1920, .f32⟩
  | .hbm, ⟨5, _⟩ => ⟨S4096x1920, .f32⟩
  | .hbm, ⟨6, _⟩ => ⟨S4096x1920, .f32⟩
  | .hbm, ⟨7, _⟩ => ⟨S4096x1920, .f32⟩
  | .hbm, ⟨8, _⟩ => ⟨S4096x1920, .f32⟩
  | .hbm, ⟨9, _⟩ => ⟨S4096x1920, .f32⟩
  | .hbm, ⟨10, _⟩ => ⟨S4096x1920, .f32⟩
  | .local _ .vmem, ⟨0, _⟩ => ⟨S256x1920, .f32⟩
  | .local _ .vmem, ⟨1, _⟩ => ⟨S256x1920, .f32⟩
  | .local _ .vmem, ⟨2, _⟩ => ⟨S256x1920, .f32⟩
  | .local _ .vmem, ⟨3, _⟩ => ⟨S256x1920, .f32⟩
  | .local _ .vmem, ⟨4, _⟩ => ⟨S256x1920, .f32⟩
  | .local _ .vmem, ⟨5, _⟩ => ⟨S256x1920, .f32⟩
  | .local _ .vmem, ⟨6, _⟩ => ⟨S256x1920, .f32⟩
  | .local _ .vmem, ⟨7, _⟩ => ⟨S256x1920, .f32⟩
  | .local _ .vmem, ⟨8, _⟩ => ⟨S256x1920, .f32⟩
  | .local _ .vmem, ⟨9, _⟩ => ⟨S256x1920, .f32⟩
  | .local _ .vmem, ⟨10, _⟩ => ⟨S256x1920, .f32⟩
  | .local _ .vmem, ⟨11, _⟩ => ⟨S256x1920, .f32⟩
  | .local _ .vmem, ⟨12, _⟩ => ⟨S256x1920, .f32⟩
  | .local _ .vmem, ⟨13, _⟩ => ⟨S256x1920, .f32⟩
  | _, _ => ⟨S4x1024x1920, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1920 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1920 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1920 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1920 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1920 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1920 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1920 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelAdamInIdeal.lean ====
abbrev S4x1024x1920 : Shape := ⟨3, ![4, 1024, 1920]⟩
abbrev S4096x1920 : Shape := ⟨2, ![4096, 1920]⟩
abbrev S256x1920 : Shape := ⟨2, ![256, 1920]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x1920, .f32⟩
  | .hbm, ⟨1, _⟩ => ⟨S4x1024x1920, .f32⟩
  | .hbm, ⟨2, _⟩ => ⟨S4x1024x1920, .f32⟩
  | .hbm, ⟨3, _⟩ => ⟨S4x1024x1920, .f32⟩
  | .hbm, ⟨4, _⟩ => ⟨S4096x1920, .f32⟩
  | .hbm, ⟨5, _⟩ => ⟨S4096x1920, .f32⟩
  | .hbm, ⟨6, _⟩ => ⟨S4096x1920, .f32⟩
  | .hbm, ⟨7, _⟩ => ⟨S4096x1920, .f32⟩
  | .hbm, ⟨8, _⟩ => ⟨S4096x1920, .f32⟩
  | .hbm, ⟨9, _⟩ => ⟨S4096x1920, .f32⟩
  | .hbm, ⟨10, _⟩ => ⟨S4096x1920, .f32⟩
  | .local _ .vmem, ⟨0, _⟩ => ⟨S256x1920, .f32⟩
  | .local _ .vmem, ⟨1, _⟩ => ⟨S256x1920, .f32⟩
  | .local _ .vmem, ⟨2, _⟩ => ⟨S256x1920, .f32⟩
  | .local _ .vmem, ⟨3, _⟩ => ⟨S256x1920, .f32⟩
  | .local _ .vmem, ⟨4, _⟩ => ⟨S256x1920, .f32⟩
  | .local _ .vmem, ⟨5, _⟩ => ⟨S256x1920, .f32⟩
  | .local _ .vmem, ⟨6, _⟩ => ⟨S256x1920, .f32⟩
  | .local _ .vmem, ⟨7, _⟩ => ⟨S256x1920, .f32⟩
  | .local _ .vmem, ⟨8, _⟩ => ⟨S256x1920, .f32⟩
  | .local _ .vmem, ⟨9, _⟩ => ⟨S256x1920, .f32⟩
  | .local _ .vmem, ⟨10, _⟩ => ⟨S256x1920, .f32⟩
  | .local _ .vmem, ⟨11, _⟩ => ⟨S256x1920, .f32⟩
  | .local _ .vmem, ⟨12, _⟩ => ⟨S256x1920, .f32⟩
  | .local _ .vmem, ⟨13, _⟩ => ⟨S256x1920, .f32⟩
  | _, _ => ⟨S4x1024x1920, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1920 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1920 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1920 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1920 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1920 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1920 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1920 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceAdamInIdeal.lean ====
abbrev S4x1024x1920 : Shape := ⟨3, ![4, 1024, 1920]⟩
abbrev S_ : Shape := ⟨0, ![]⟩
abbrev S4096x1920 : Shape := ⟨2, ![4096, 1920]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x1920, .f32⟩
  | .hbm, ⟨1, _⟩ => ⟨S4x1024x1920, .f32⟩
  | .hbm, ⟨2, _⟩ => ⟨S4x1024x1920, .f32⟩
  | .hbm, ⟨3, _⟩ => ⟨S4x1024x1920, .f32⟩
  | .hbm, ⟨4, _⟩ => ⟨S_, .f32⟩
  | .hbm, ⟨5, _⟩ => ⟨S4x1024x1920, .f32⟩
  | .hbm, ⟨6, _⟩ => ⟨S4x1024x1920, .f32⟩
  | .hbm, ⟨7, _⟩ => ⟨S_, .f32⟩
  | .hbm, ⟨8, _⟩ => ⟨S4x1024x1920, .f32⟩
  | .hbm, ⟨9, _⟩ => ⟨S4x1024x1920, .f32⟩
  | .hbm, ⟨10, _⟩ => ⟨S4x1024x1920, .f32⟩
  | .hbm, ⟨11, _⟩ => ⟨S_, .f32⟩
  | .hbm, ⟨12, _⟩ => ⟨S4x1024x1920, .f32⟩
  | .hbm, ⟨13, _⟩ => ⟨S4x1024x1920, .f32⟩
  | .hbm, ⟨14, _⟩ => ⟨S4x1024x1920, .f32⟩
  | .hbm, ⟨15, _⟩ => ⟨S_, .f32⟩
  | .hbm, ⟨16, _⟩ => ⟨S4x1024x1920, .f32⟩
  | .hbm, ⟨17, _⟩ => ⟨S4x1024x1920, .f32⟩
  | .hbm, ⟨18, _⟩ => ⟨S4x1024x1920, .f32⟩
  | .hbm, ⟨19, _⟩ => ⟨S_, .f32⟩
  | .hbm, ⟨20, _⟩ => ⟨S4x1024x1920, .f32⟩
  | .hbm, ⟨21, _⟩ => ⟨S4x1024x1920, .f32⟩
  | .hbm, ⟨22, _⟩ => ⟨S_, .f32⟩
  | .hbm, ⟨23, _⟩ => ⟨S4x1024x1920, .f32⟩
  | .hbm, ⟨24, _⟩ => ⟨S4x1024x1920, .f32⟩
  | .hbm, ⟨25, _⟩ => ⟨S4x1024x1920, .f32⟩
  | .hbm, ⟨26, _⟩ => ⟨S_, .f32⟩
  | .hbm, ⟨27, _⟩ => ⟨S4x1024x1920, .f32⟩
  | .hbm, ⟨28, _⟩ => ⟨S4x1024x1920, .f32⟩
  | .hbm, ⟨29, _⟩ => ⟨S4x1024x1920, .f32⟩
  | .hbm, ⟨30, _⟩ => ⟨S_, .f32⟩
  | .hbm, ⟨31, _⟩ => ⟨S4x1024x1920, .f32⟩
  | .hbm, ⟨32, _⟩ => ⟨S4x1024x1920, .f32⟩
  | .hbm, ⟨33, _⟩ => ⟨S4x1024x1920, .f32⟩
  | .hbm, ⟨34, _⟩ => ⟨S_, .f32⟩
  | .hbm, ⟨35, _⟩ => ⟨S4x1024x1920, .f32⟩
  | .hbm, ⟨36, _⟩ => ⟨S4x1024x1920, .f32⟩
  | .hbm, ⟨37, _⟩ => ⟨S4096x1920, .f32⟩
  | .hbm, ⟨38, _⟩ => ⟨S4096x1920, .f32⟩
  | .hbm, ⟨39, _⟩ => ⟨S4096x1920, .f32⟩
  | _, _ => ⟨S4x1024x1920, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== KernelAdamUp.lean ====
abbrev S4x1024x1408 : Shape := ⟨3, ![4, 1024, 1408]⟩
abbrev S4096x1408 : Shape := ⟨2, ![4096, 1408]⟩
abbrev S256x1408 : Shape := ⟨2, ![256, 1408]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x1408, .f32⟩
  | .hbm, ⟨1, _⟩ => ⟨S4x1024x1408, .f32⟩
  | .hbm, ⟨2, _⟩ => ⟨S4x1024x1408, .f32⟩
  | .hbm, ⟨3, _⟩ => ⟨S4x1024x1408, .f32⟩
  | .hbm, ⟨4, _⟩ => ⟨S4096x1408, .f32⟩
  | .hbm, ⟨5, _⟩ => ⟨S4096x1408, .f32⟩
  | .hbm, ⟨6, _⟩ => ⟨S4096x1408, .f32⟩
  | .hbm, ⟨7, _⟩ => ⟨S4096x1408, .f32⟩
  | .hbm, ⟨8, _⟩ => ⟨S4096x1408, .f32⟩
  | .hbm, ⟨9, _⟩ => ⟨S4096x1408, .f32⟩
  | .hbm, ⟨10, _⟩ => ⟨S4096x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | _, _ => ⟨S4x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelAdamUpIdeal.lean ====
abbrev S4x1024x1408 : Shape := ⟨3, ![4, 1024, 1408]⟩
abbrev S4096x1408 : Shape := ⟨2, ![4096, 1408]⟩
abbrev S256x1408 : Shape := ⟨2, ![256, 1408]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x1408, .f32⟩
  | .hbm, ⟨1, _⟩ => ⟨S4x1024x1408, .f32⟩
  | .hbm, ⟨2, _⟩ => ⟨S4x1024x1408, .f32⟩
  | .hbm, ⟨3, _⟩ => ⟨S4x1024x1408, .f32⟩
  | .hbm, ⟨4, _⟩ => ⟨S4096x1408, .f32⟩
  | .hbm, ⟨5, _⟩ => ⟨S4096x1408, .f32⟩
  | .hbm, ⟨6, _⟩ => ⟨S4096x1408, .f32⟩
  | .hbm, ⟨7, _⟩ => ⟨S4096x1408, .f32⟩
  | .hbm, ⟨8, _⟩ => ⟨S4096x1408, .f32⟩
  | .hbm, ⟨9, _⟩ => ⟨S4096x1408, .f32⟩
  | .hbm, ⟨10, _⟩ => ⟨S4096x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | _, _ => ⟨S4x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceAdamUpIdeal.lean ====
abbrev S4x1024x1408 : Shape := ⟨3, ![4, 1024, 1408]⟩
abbrev S_ : Shape := ⟨0, ![]⟩
abbrev S4096x1408 : Shape := ⟨2, ![4096, 1408]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x1408, .f32⟩
  | .hbm, ⟨1, _⟩ => ⟨S4x1024x1408, .f32⟩
  | .hbm, ⟨2, _⟩ => ⟨S4x1024x1408, .f32⟩
  | .hbm, ⟨3, _⟩ => ⟨S4x1024x1408, .f32⟩
  | .hbm, ⟨4, _⟩ => ⟨S_, .f32⟩
  | .hbm, ⟨5, _⟩ => ⟨S4x1024x1408, .f32⟩
  | .hbm, ⟨6, _⟩ => ⟨S4x1024x1408, .f32⟩
  | .hbm, ⟨7, _⟩ => ⟨S_, .f32⟩
  | .hbm, ⟨8, _⟩ => ⟨S4x1024x1408, .f32⟩
  | .hbm, ⟨9, _⟩ => ⟨S4x1024x1408, .f32⟩
  | .hbm, ⟨10, _⟩ => ⟨S4x1024x1408, .f32⟩
  | .hbm, ⟨11, _⟩ => ⟨S_, .f32⟩
  | .hbm, ⟨12, _⟩ => ⟨S4x1024x1408, .f32⟩
  | .hbm, ⟨13, _⟩ => ⟨S4x1024x1408, .f32⟩
  | .hbm, ⟨14, _⟩ => ⟨S4x1024x1408, .f32⟩
  | .hbm, ⟨15, _⟩ => ⟨S_, .f32⟩
  | .hbm, ⟨16, _⟩ => ⟨S4x1024x1408, .f32⟩
  | .hbm, ⟨17, _⟩ => ⟨S4x1024x1408, .f32⟩
  | .hbm, ⟨18, _⟩ => ⟨S4x1024x1408, .f32⟩
  | .hbm, ⟨19, _⟩ => ⟨S_, .f32⟩
  | .hbm, ⟨20, _⟩ => ⟨S4x1024x1408, .f32⟩
  | .hbm, ⟨21, _⟩ => ⟨S4x1024x1408, .f32⟩
  | .hbm, ⟨22, _⟩ => ⟨S_, .f32⟩
  | .hbm, ⟨23, _⟩ => ⟨S4x1024x1408, .f32⟩
  | .hbm, ⟨24, _⟩ => ⟨S4x1024x1408, .f32⟩
  | .hbm, ⟨25, _⟩ => ⟨S4x1024x1408, .f32⟩
  | .hbm, ⟨26, _⟩ => ⟨S_, .f32⟩
  | .hbm, ⟨27, _⟩ => ⟨S4x1024x1408, .f32⟩
  | .hbm, ⟨28, _⟩ => ⟨S4x1024x1408, .f32⟩
  | .hbm, ⟨29, _⟩ => ⟨S4x1024x1408, .f32⟩
  | .hbm, ⟨30, _⟩ => ⟨S_, .f32⟩
  | .hbm, ⟨31, _⟩ => ⟨S4x1024x1408, .f32⟩
  | .hbm, ⟨32, _⟩ => ⟨S4x1024x1408, .f32⟩
  | .hbm, ⟨33, _⟩ => ⟨S4x1024x1408, .f32⟩
  | .hbm, ⟨34, _⟩ => ⟨S_, .f32⟩
  | .hbm, ⟨35, _⟩ => ⟨S4x1024x1408, .f32⟩
  | .hbm, ⟨36, _⟩ => ⟨S4x1024x1408, .f32⟩
  | .hbm, ⟨37, _⟩ => ⟨S4096x1408, .f32⟩
  | .hbm, ⟨38, _⟩ => ⟨S4096x1408, .f32⟩
  | .hbm, ⟨39, _⟩ => ⟨S4096x1408, .f32⟩
  | _, _ => ⟨S4x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== KernelAdamDown.lean ====
abbrev S4x704x1024 : Shape := ⟨3, ![4, 704, 1024]⟩
abbrev S2816x1024 : Shape := ⟨2, ![2816, 1024]⟩
abbrev S256x1024 : Shape := ⟨2, ![256, 1024]⟩

abbrev nBuf : Space → Nat
  | .hbm => 11
  | .vmem => 14
  | .smem => 0
  | _ => 0

abbrev bufTy : (tb : Table) → Fin (tcTables nBuf tb) → BufTy
  | .hbm, ⟨0, _⟩ => ⟨S4x704x1024, .f32⟩
  | .hbm, ⟨1, _⟩ => ⟨S4x704x1024, .f32⟩
  | .hbm, ⟨2, _⟩ => ⟨S4x704x1024, .f32⟩
  | .hbm, ⟨3, _⟩ => ⟨S4x704x1024, .f32⟩
  | .hbm, ⟨4, _⟩ => ⟨S2816x1024, .f32⟩
  | .hbm, ⟨5, _⟩ => ⟨S2816x1024, .f32⟩
  | .hbm, ⟨6, _⟩ => ⟨S2816x1024, .f32⟩
  | .hbm, ⟨7, _⟩ => ⟨S2816x1024, .f32⟩
  | .hbm, ⟨8, _⟩ => ⟨S2816x1024, .f32⟩
  | .hbm, ⟨9, _⟩ => ⟨S2816x1024, .f32⟩
  | .hbm, ⟨10, _⟩ => ⟨S2816x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S4x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceAdamDownIdeal.lean ====
abbrev S4x704x1024 : Shape := ⟨3, ![4, 704, 1024]⟩
abbrev S_ : Shape := ⟨0, ![]⟩
abbrev S2816x1024 : Shape := ⟨2, ![2816, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4x704x1024, .f32⟩
  | .hbm, ⟨1, _⟩ => ⟨S4x704x1024, .f32⟩
  | .hbm, ⟨2, _⟩ => ⟨S4x704x1024, .f32⟩
  | .hbm, ⟨3, _⟩ => ⟨S4x704x1024, .f32⟩
  | .hbm, ⟨4, _⟩ => ⟨S_, .f32⟩
  | .hbm, ⟨5, _⟩ => ⟨S4x704x1024, .f32⟩
  | .hbm, ⟨6, _⟩ => ⟨S4x704x1024, .f32⟩
  | .hbm, ⟨7, _⟩ => ⟨S_, .f32⟩
  | .hbm, ⟨8, _⟩ => ⟨S4x704x1024, .f32⟩
  | .hbm, ⟨9, _⟩ => ⟨S4x704x1024, .f32⟩
  | .hbm, ⟨10, _⟩ => ⟨S4x704x1024, .f32⟩
  | .hbm, ⟨11, _⟩ => ⟨S_, .f32⟩
  | .hbm, ⟨12, _⟩ => ⟨S4x704x1024, .f32⟩
  | .hbm, ⟨13, _⟩ => ⟨S4x704x1024, .f32⟩
  | .hbm, ⟨14, _⟩ => ⟨S4x704x1024, .f32⟩
  | .hbm, ⟨15, _⟩ => ⟨S_, .f32⟩
  | .hbm, ⟨16, _⟩ => ⟨S4x704x1024, .f32⟩
  | .hbm, ⟨17, _⟩ => ⟨S4x704x1024, .f32⟩
  | .hbm, ⟨18, _⟩ => ⟨S4x704x1024, .f32⟩
  | .hbm, ⟨19, _⟩ => ⟨S_, .f32⟩
  | .hbm, ⟨20, _⟩ => ⟨S4x704x1024, .f32⟩
  | .hbm, ⟨21, _⟩ => ⟨S4x704x1024, .f32⟩
  | .hbm, ⟨22, _⟩ => ⟨S_, .f32⟩
  | .hbm, ⟨23, _⟩ => ⟨S4x704x1024, .f32⟩
  | .hbm, ⟨24, _⟩ => ⟨S4x704x1024, .f32⟩
  | .hbm, ⟨25, _⟩ => ⟨S4x704x1024, .f32⟩
  | .hbm, ⟨26, _⟩ => ⟨S_, .f32⟩
  | .hbm, ⟨27, _⟩ => ⟨S4x704x1024, .f32⟩
  | .hbm, ⟨28, _⟩ => ⟨S4x704x1024, .f32⟩
  | .hbm, ⟨29, _⟩ => ⟨S4x704x1024, .f32⟩
  | .hbm, ⟨30, _⟩ => ⟨S_, .f32⟩
  | .hbm, ⟨31, _⟩ => ⟨S4x704x1024, .f32⟩
  | .hbm, ⟨32, _⟩ => ⟨S4x704x1024, .f32⟩
  | .hbm, ⟨33, _⟩ => ⟨S4x704x1024, .f32⟩
  | .hbm, ⟨34, _⟩ => ⟨S_, .f32⟩
  | .hbm, ⟨35, _⟩ => ⟨S4x704x1024, .f32⟩
  | .hbm, ⟨36, _⟩ => ⟨S4x704x1024, .f32⟩
  | .hbm, ⟨37, _⟩ => ⟨S2816x1024, .f32⟩
  | .hbm, ⟨38, _⟩ => ⟨S2816x1024, .f32⟩
  | .hbm, ⟨39, _⟩ => ⟨S2816x1024, .f32⟩
  | _, _ => ⟨S4x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== KernelThree.lean ====
abbrev S9216x2816 : Shape := ⟨2, ![9216, 2816]⟩
abbrev S3x2816 : Shape := ⟨2, ![3, 2816]⟩
abbrev S2816 : Shape := ⟨1, ![2816]⟩
abbrev S1x2816 : Shape := ⟨2, ![1, 2816]⟩
abbrev S16x256 : Shape := ⟨2, ![16, 256]⟩
abbrev S256x256 : Shape := ⟨2, ![256, 256]⟩
abbrev S3x256 : Shape := ⟨2, ![3, 256]⟩
abbrev S1x256 : Shape := ⟨2, ![1, 256]⟩
abbrev S16x128 : Shape := ⟨2, ![16, 128]⟩
abbrev S256x128 : Shape := ⟨2, ![256, 128]⟩
abbrev S288x128 : Shape := ⟨2, ![288, 128]⟩
abbrev S1x128 : Shape := ⟨2, ![1, 128]⟩

abbrev nBuf : Space → Nat
  | .hbm => 5
  | .vmem => 12
  | .smem => 0
  | _ => 0

abbrev bufTy : (tb : Table) → Fin (tcTables nBuf tb) → BufTy
  | .hbm, ⟨0, _⟩ => ⟨S9216x2816, .f32⟩
  | .hbm, ⟨1, _⟩ => ⟨S3x2816, .f32⟩
  | .hbm, ⟨2, _⟩ => ⟨S2816, .f32⟩
  | .hbm, ⟨3, _⟩ => ⟨S1x2816, .f32⟩
  | .hbm, ⟨4, _⟩ => ⟨S9216x2816, .f32⟩
  | .local _ .vmem, ⟨0, _⟩ => ⟨S16x256, .f32⟩
  | .local _ .vmem, ⟨1, _⟩ => ⟨S16x256, .f32⟩
  | .local _ .vmem, ⟨2, _⟩ => ⟨S256x256, .f32⟩
  | .local _ .vmem, ⟨3, _⟩ => ⟨S256x256, .f32⟩
  | .local _ .vmem, ⟨4, _⟩ => ⟨S16x256, .f32⟩
  | .local _ .vmem, ⟨5, _⟩ => ⟨S16x256, .f32⟩
  | .local _ .vmem, ⟨6, _⟩ => ⟨S3x256, .f32⟩
  | .local _ .vmem, ⟨7, _⟩ => ⟨S3x256, .f32⟩
  | .local _ .vmem, ⟨8, _⟩ => ⟨S1x256, .f32⟩
  | .local _ .vmem, ⟨9, _⟩ => ⟨S1x256, .f32⟩
  | .local _ .vmem, ⟨10, _⟩ => ⟨S256x256, .f32⟩
  | .local _ .vmem, ⟨11, _⟩ => ⟨S256x256, .f32⟩
  | _, _ => ⟨S9216x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![36, 11], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c16_i32 : BitVec 32 := 16#32
  let v1 : BitVec 32 := Scalar.muli v0 c16_i32
  let c575_i32 : BitVec 32 := 575#32
  let v2 : BitVec 32 := Scalar.minsi v1 c575_i32
  let c0_i32 : BitVec 32 := 0#32
  ![v2.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S16x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceThreeIdeal.lean ====
abbrev S9216x2816 : Shape := ⟨2, ![9216, 2816]⟩
abbrev S3x2816 : Shape := ⟨2, ![3, 2816]⟩
abbrev S2816 : Shape := ⟨1, ![2816]⟩
abbrev S8192x2816 : Shape := ⟨2, ![8192, 2816]⟩
abbrev S4x2048x2816 : Shape := ⟨3, ![4, 2048, 2816]⟩
abbrev S3x2048x2048 : Shape := ⟨3, ![3, 2048, 2048]⟩
abbrev S_ : Shape := ⟨0, ![]⟩
abbrev S4x2816x3x2048 : Shape := ⟨4, ![4, 2816, 3, 2048]⟩
abbrev S3x4x2048x2816 : Shape := ⟨4, ![3, 4, 2048, 2816]⟩
abbrev S3x1x1x2816 : Shape := ⟨4, ![3, 1, 1, 2816]⟩
abbrev S1x1x2816 : Shape := ⟨3, ![1, 1, 2816]⟩
abbrev S1024x2816 : Shape := ⟨2, ![1024, 2816]⟩
abbrev S4x256x2816 : Shape := ⟨3, ![4, 256, 2816]⟩
abbrev S3x256x256 : Shape := ⟨3, ![3, 256, 256]⟩
abbrev S4x2816x3x256 : Shape := ⟨4, ![4, 2816, 3, 256]⟩
abbrev S3x4x256x2816 : Shape := ⟨4, ![3, 4, 256, 2816]⟩

abbrev nBuf : Space → Nat
  | .hbm => 48
  | .vmem => 0
  | .smem => 0
  | _ => 0

abbrev bufTy : (tb : Table) → Fin (tcTables nBuf tb) → BufTy
  | .hbm, ⟨0, _⟩ => ⟨S9216x2816, .f32⟩
  | .hbm, ⟨1, _⟩ => ⟨S3x2816, .f32⟩
  | .hbm, ⟨2, _⟩ => ⟨S2816, .f32⟩
  | .hbm, ⟨3, _⟩ => ⟨S8192x2816, .f32⟩
  | .hbm, ⟨4, _⟩ => ⟨S4x2048x2816, .f32⟩
  | .hbm, ⟨5, _⟩ => ⟨S3x2048x2048, .i32⟩
  | .hbm, ⟨6, _⟩ => ⟨S3x2048x2048, .i32⟩
  | .hbm, ⟨7, _⟩ => ⟨S3x2048x2048, .i32⟩
  | .hbm, ⟨8, _⟩ => ⟨S3x2048x2048, .i32⟩
  | .hbm, ⟨9, _⟩ => ⟨S_, .i32⟩
  | .hbm, ⟨10, _⟩ => ⟨S3x2048x2048, .i32⟩
  | .hbm, ⟨11, _⟩ => ⟨S3x2048x2048, .i32⟩
  | .hbm, ⟨12, _⟩ => ⟨S3x2048x2048, .i1⟩
  | .hbm, ⟨13, _⟩ => ⟨S3x2048x2048, .f32⟩
  | .hbm, ⟨14, _⟩ => ⟨S4x2816x3x2048, .f32⟩
  | .hbm, ⟨15, _⟩ => ⟨S3x4x2048x2816, .f32⟩
  | .hbm, ⟨16, _⟩ => ⟨S3x1x1x2816, .f32⟩
  | .hbm, ⟨17, _⟩ => ⟨S3x4x2048x2816, .f32⟩
  | .hbm, ⟨18, _⟩ => ⟨S3x4x2048x2816, .f32⟩
  | .hbm, ⟨19, _⟩ => ⟨S_, .f32⟩
  | .hbm, ⟨20, _⟩ => ⟨S4x2048x2816, .f32⟩
  | .hbm, ⟨21, _⟩ => ⟨S1x1x2816, .f32⟩
  | .hbm, ⟨22, _⟩ => ⟨S4x2048x2816, .f32⟩
  | .hbm, ⟨23, _⟩ => ⟨S4x2048x2816, .f32⟩
  | .hbm, ⟨24, _⟩ => ⟨S8192x2816, .f32⟩
  | .hbm, ⟨25, _⟩ => ⟨S1024x2816, .f32⟩
  | .hbm, ⟨26, _⟩ => ⟨S4x256x2816, .f32⟩
  | .hbm, ⟨27, _⟩ => ⟨S3x256x256, .i32⟩
  | .hbm, ⟨28, _⟩ => ⟨S3x256x256, .i32⟩
  | .hbm, ⟨29, _⟩ => ⟨S3x256x256, .i32⟩
  | .hbm, ⟨30, _⟩ => ⟨S3x256x256, .i32⟩
  | .hbm, ⟨31, _⟩ => ⟨S_, .i32⟩
  | .hbm, ⟨32, _⟩ => ⟨S3x256x256, .i32⟩
  | .hbm, ⟨33, _⟩ => ⟨S3x256x256, .i32⟩
  | .hbm, ⟨34, _⟩ => ⟨S3x256x256, .i1⟩
  | .hbm, ⟨35, _⟩ => ⟨S3x256x256, .f32⟩
  | .hbm, ⟨36, _⟩ => ⟨S4x2816x3x256, .f32⟩
  | .hbm, ⟨37, _⟩ => ⟨S3x4x256x2816, .f32⟩
  | .hbm, ⟨38, _⟩ => ⟨S3x1x1x2816, .f32⟩
  | .hbm, ⟨39, _⟩ => ⟨S3x4x256x2816, .f32⟩
  | .hbm, ⟨40, _⟩ => ⟨S3x4x256x2816, .f32⟩
  | .hbm, ⟨41, _⟩ => ⟨S_, .f32⟩
  | .hbm, ⟨42, _⟩ => ⟨S4x256x2816, .f32⟩
  | .hbm, ⟨43, _⟩ => ⟨S1x1x2816, .f32⟩
  | .hbm, ⟨44, _⟩ => ⟨S4x256x2816, .f32⟩
  | .hbm, ⟨45, _⟩ => ⟨S4x256x2816, .f32⟩
  | .hbm, ⟨46, _⟩ => ⟨S1024x2816, .f32⟩
  | .hbm, ⟨47, _⟩ => ⟨S9216x2816, .f32⟩
  | _, _ => ⟨S9216x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_c_0 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_cst_1 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩

abbrev nD : Nat := 1
abbrev τ : Topo := Topo.v7x

variable {F : FTy → Type} [FloatOps F]
-- ==== KernelThreeDx.lean ====
abbrev S3x2816 : Shape := ⟨2, ![3, 2816]⟩
abbrev S9216x2816 : Shape := ⟨2, ![9216, 2816]⟩
abbrev S_ : Shape := ⟨0, ![]⟩
abbrev S2816 : Shape := ⟨1, ![2816]⟩
abbrev S1x2816 : Shape := ⟨2, ![1, 2816]⟩
abbrev S16x256 : Shape := ⟨2, ![16, 256]⟩
abbrev S256x256 : Shape := ⟨2, ![256, 256]⟩
abbrev S3x256 : Shape := ⟨2, ![3, 256]⟩
abbrev S1x256 : Shape := ⟨2, ![1, 256]⟩
abbrev S16x128 : Shape := ⟨2, ![16, 128]⟩
abbrev S256x128 : Shape := ⟨2, ![256, 128]⟩
abbrev S288x128 : Shape := ⟨2, ![288, 128]⟩
abbrev S1x128 : Shape := ⟨2, ![1, 128]⟩

abbrev nBuf : Space → Nat
  | .hbm => 7
  | .vmem => 12
  | .smem => 0
  | _ => 0

abbrev bufTy : (tb : Table) → Fin (tcTables nBuf tb) → BufTy
  | .hbm, ⟨0, _⟩ => ⟨S3x2816, .f32⟩
  | .hbm, ⟨1, _⟩ => ⟨S9216x2816, .f32⟩
  | .hbm, ⟨2, _⟩ => ⟨S3x2816, .f32⟩
  | .hbm, ⟨3, _⟩ => ⟨S_, .f32⟩
  | .hbm, ⟨4, _⟩ => ⟨S2816, .f32⟩
  | .hbm, ⟨5, _⟩ => ⟨S1x2816, .f32⟩
  | .hbm, ⟨6, _⟩ => ⟨S9216x2816, .f32⟩
  | .local _ .vmem, ⟨0, _⟩ => ⟨S16x256, .f32⟩
  | .local _ .vmem, ⟨1, _⟩ => ⟨S16x256, .f32⟩
  | .local _ .vmem, ⟨2, _⟩ => ⟨S256x256, .f32⟩
  | .local _ .vmem, ⟨3, _⟩ => ⟨S256x256, .f32⟩
  | .local _ .vmem, ⟨4, _⟩ => ⟨S16x256, .f32⟩
  | .local _ .vmem, ⟨5, _⟩ => ⟨S16x256, .f32⟩
  | .local _ .vmem, ⟨6, _⟩ => ⟨S3x256, .f32⟩
  | .local _ .vmem, ⟨7, _⟩ => ⟨S3x256, .f32⟩
  | .local _ .vmem, ⟨8, _⟩ => ⟨S1x256, .f32⟩
  | .local _ .vmem, ⟨9, _⟩ => ⟨S1x256, .f32⟩
  | .local _ .vmem, ⟨10, _⟩ => ⟨S256x256, .f32⟩
  | .local _ .vmem, ⟨11, _⟩ => ⟨S256x256, .f32⟩
  | _, _ => ⟨S3x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![36, 11], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c16_i32 : BitVec 32 := 16#32
  let v1 : BitVec 32 := Scalar.muli v0 c16_i32
  let c575_i32 : BitVec 32 := 575#32
  let v2 : BitVec 32 := Scalar.minsi v1 c575_i32
  let c0_i32 : BitVec 32 := 0#32
  ![v2.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S16x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceThreeDxIdeal.lean ====
abbrev S3x2816 : Shape := ⟨2, ![3, 2816]⟩
abbrev S9216x2816 : Shape := ⟨2, ![9216, 2816]⟩
abbrev S_ : Shape := ⟨0, ![]⟩
abbrev S2816 : Shape := ⟨1, ![2816]⟩
abbrev S8192x2816 : Shape := ⟨2, ![8192, 2816]⟩
abbrev S4x2048x2816 : Shape := ⟨3, ![4, 2048, 2816]⟩
abbrev S3x2048x2048 : Shape := ⟨3, ![3, 2048, 2048]⟩
abbrev S4x2816x3x2048 : Shape := ⟨4, ![4, 2816, 3, 2048]⟩
abbrev S3x4x2048x2816 : Shape := ⟨4, ![3, 4, 2048, 2816]⟩
abbrev S3x1x1x2816 : Shape := ⟨4, ![3, 1, 1, 2816]⟩
abbrev S1x1x2816 : Shape := ⟨3, ![1, 1, 2816]⟩
abbrev S1024x2816 : Shape := ⟨2, ![1024, 2816]⟩
abbrev S4x256x2816 : Shape := ⟨3, ![4, 256, 2816]⟩
abbrev S3x256x256 : Shape := ⟨3, ![3, 256, 256]⟩
abbrev S4x2816x3x256 : Shape := ⟨4, ![4, 2816, 3, 256]⟩
abbrev S3x4x256x2816 : Shape := ⟨4, ![3, 4, 256, 2816]⟩
abbrev S4x2816x256 : Shape := ⟨3, ![4, 2816, 256]⟩
abbrev S4x2816x2048 : Shape := ⟨3, ![4, 2816, 2048]⟩

abbrev nBuf : Space → Nat
  | .hbm => 74
  | .vmem => 0
  | .smem => 0
  | _ => 0

abbrev bufTy : (tb : Table) → Fin (tcTables nBuf tb) → BufTy
  | .hbm, ⟨0, _⟩ => ⟨S3x2816, .f32⟩
  | .hbm, ⟨1, _⟩ => ⟨S9216x2816, .f32⟩
  | .hbm, ⟨2, _⟩ => ⟨S_, .f32⟩
  | .hbm, ⟨3, _⟩ => ⟨S9216x2816, .f32⟩
  | .hbm, ⟨4, _⟩ => ⟨S_, .f32⟩
  | .hbm, ⟨5, _⟩ => ⟨S2816, .f32⟩
  | .hbm, ⟨6, _⟩ => ⟨S8192x2816, .f32⟩
  | .hbm, ⟨7, _⟩ => ⟨S4x2048x2816, .f32⟩
  | .hbm, ⟨8, _⟩ => ⟨S3x2048x2048, .i32⟩
  | .hbm, ⟨9, _⟩ => ⟨S3x2048x2048, .i32⟩
  | .hbm, ⟨10, _⟩ => ⟨S3x2048x2048, .i32⟩
  | .hbm, ⟨11, _⟩ => ⟨S3x2048x2048, .i32⟩
  | .hbm, ⟨12, _⟩ => ⟨S_, .i32⟩
  | .hbm, ⟨13, _⟩ => ⟨S3x2048x2048, .i32⟩
  | .hbm, ⟨14, _⟩ => ⟨S3x2048x2048, .i32⟩
  | .hbm, ⟨15, _⟩ => ⟨S3x2048x2048, .i1⟩
  | .hbm, ⟨16, _⟩ => ⟨S3x2048x2048, .f32⟩
  | .hbm, ⟨17, _⟩ => ⟨S4x2816x3x2048, .f32⟩
  | .hbm, ⟨18, _⟩ => ⟨S3x4x2048x2816, .f32⟩
  | .hbm, ⟨19, _⟩ => ⟨S3x1x1x2816, .f32⟩
  | .hbm, ⟨20, _⟩ => ⟨S3x4x2048x2816, .f32⟩
  | .hbm, ⟨21, _⟩ => ⟨S3x4x2048x2816, .f32⟩
  | .hbm, ⟨22, _⟩ => ⟨S_, .f32⟩
  | .hbm, ⟨23, _⟩ => ⟨S4x2048x2816, .f32⟩
  | .hbm, ⟨24, _⟩ => ⟨S1x1x2816, .f32⟩
  | .hbm, ⟨25, _⟩ => ⟨S4x2048x2816, .f32⟩
  | .hbm, ⟨26, _⟩ => ⟨S4x2048x2816, .f32⟩
  | .hbm, ⟨27, _⟩ => ⟨S8192x2816, .f32⟩
  | .hbm, ⟨28, _⟩ => ⟨S1024x2816, .f32⟩
  | .hbm, ⟨29, _⟩ => ⟨S4x256x2816, .f32⟩
  | .hbm, ⟨30, _⟩ => ⟨S3x256x256, .i32⟩
  | .hbm, ⟨31, _⟩ => ⟨S3x256x256, .i32⟩
  | .hbm, ⟨32, _⟩ => ⟨S3x256x256, .i32⟩
  | .hbm, ⟨33, _⟩ => ⟨S3x256x256, .i32⟩
  | .hbm, ⟨34, _⟩ => ⟨S_, .i32⟩
  | .hbm, ⟨35, _⟩ => ⟨S3x256x256, .i32⟩
  | .hbm, ⟨36, _⟩ => ⟨S3x256x256, .i32⟩
  | .hbm, ⟨37, _⟩ => ⟨S3x256x256, .i1⟩
  | .hbm, ⟨38, _⟩ => ⟨S3x256x256, .f32⟩
  | .hbm, ⟨39, _⟩ => ⟨S4x2816x3x256, .f32⟩
  | .hbm, ⟨40, _⟩ => ⟨S3x4x256x2816, .f32⟩
  | .hbm, ⟨41, _⟩ => ⟨S3x1x1x2816, .f32⟩
  | .hbm, ⟨42, _⟩ => ⟨S3x4x256x2816, .f32⟩
  | .hbm, ⟨43, _⟩ => ⟨S3x4x256x2816, .f32⟩
  | .hbm, ⟨44, _⟩ => ⟨S_, .f32⟩
  | .hbm, ⟨45, _⟩ => ⟨S4x256x2816, .f32⟩
  | .hbm, ⟨46, _⟩ => ⟨S1x1x2816, .f32⟩
  | .hbm, ⟨47, _⟩ => ⟨S4x256x2816, .f32⟩
  | .hbm, ⟨48, _⟩ => ⟨S4x256x2816, .f32⟩
  | .hbm, ⟨49, _⟩ => ⟨S1024x2816, .f32⟩
  | .hbm, ⟨50, _⟩ => ⟨S9216x2816, .f32⟩
  | .hbm, ⟨51, _⟩ => ⟨S8192x2816, .f32⟩
  | .hbm, ⟨52, _⟩ => ⟨S1024x2816, .f32⟩
  | .hbm, ⟨53, _⟩ => ⟨S4x256x2816, .f32⟩
  | .hbm, ⟨54, _⟩ => ⟨S3x4x256x2816, .f32⟩
  | .hbm, ⟨55, _⟩ => ⟨S3x4x256x2816, .f32⟩
  | .hbm, ⟨56, _⟩ => ⟨S3x4x256x2816, .f32⟩
  | .hbm, ⟨57, _⟩ => ⟨S4x2816x3x256, .f32⟩
  | .hbm, ⟨58, _⟩ => ⟨S4x2816x256, .f32⟩
  | .hbm, ⟨59, _⟩ => ⟨S4x256x2816, .f32⟩
  | .hbm, ⟨60, _⟩ => ⟨S1024x2816, .f32⟩
  | .hbm, ⟨61, _⟩ => ⟨S_, .f32⟩
  | .hbm, ⟨62, _⟩ => ⟨S9216x2816, .f32⟩
  | .hbm, ⟨63, _⟩ => ⟨S4x2048x2816, .f32⟩
  | .hbm, ⟨64, _⟩ => ⟨S3x4x2048x2816, .f32⟩
  | .hbm, ⟨65, _⟩ => ⟨S3x4x2048x2816, .f32⟩
  | .hbm, ⟨66, _⟩ => ⟨S3x4x2048x2816, .f32⟩
  | .hbm, ⟨67, _⟩ => ⟨S4x2816x3x2048, .f32⟩
  | .hbm, ⟨68, _⟩ => ⟨S4x2816x2048, .f32⟩
  | .hbm, ⟨69, _⟩ => ⟨S4x2048x2816, .f32⟩
  | .hbm, ⟨70, _⟩ => ⟨S8192x2816, .f32⟩
  | .hbm, ⟨71, _⟩ => ⟨S_, .f32⟩
  | .hbm, ⟨72, _⟩ => ⟨S9216x2816, .f32⟩
  | .hbm, ⟨73, _⟩ => ⟨S9216x2816, .f32⟩
  | _, _ => ⟨S3x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_c_2 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_cst_3 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_cst_4 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_cst_5 : Ref sig .tc := ⟨.hbm, 71, rfl⟩
abbrev main_v62 : Ref sig .tc := ⟨.hbm, 72, rfl⟩
abbrev main_v63 : Ref sig .tc := ⟨.hbm, 73, rfl⟩

abbrev nD : Nat := 1
abbrev τ : Topo := Topo.v7x

variable {F : FTy → Type} [FloatOps F]
-- ==== Proof.Softmax.lean ====
/- The softmax of one row of scores and its gradient, over the extended reals.

   `weight`, `total`, `prob` and `slope` are the textbook formulas, as jax's derivative of the softmax states them; the
   `two*` functions are the same quantities as a kernel computes them from two groups of keys, with one reciprocal in
   place of the divisions and the mean slope subtracted before the product. `twoProb_eq` and `twoSlope_eq` say that they
   agree on every row of real scores, whatever extended reals the slopes of the probabilities are. -/
module

public import Idealize.ShloMosaic.PureOps.Ideal
public import Idealize.ShloMosaic.PureOps.Ideal.Laws

@[expose] public section

noncomputable section

namespace Cert.Softmax

open Idealize.ShloMosaic

/-- `x` is a real number. -/
def IsReal (x : EReal) : Prop := ∃ r : ℝ, x = (r : EReal)

theorem IsReal.mul {x y : EReal} (hx : IsReal x) (hy : IsReal y) : IsReal (x * y) := by
  obtain ⟨a, rfl⟩ := hx; obtain ⟨b, rfl⟩ := hy; exact ⟨a * b, by rw [EReal.coe_mul]⟩

theorem IsReal.add {x y : EReal} (hx : IsReal x) (hy : IsReal y) : IsReal (x + y) := by
  obtain ⟨a, rfl⟩ := hx; obtain ⟨b, rfl⟩ := hy; exact ⟨a + b, by rw [EReal.coe_add]⟩

theorem IsReal.sum {ι : Type*} (t : Finset ι) {f : ι → EReal} (h : ∀ i, IsReal (f i)) : IsReal (∑ i ∈ t, f i) := by
  classical
  induction t using Finset.induction_on with
  | empty => exact ⟨0, by simp⟩
  | insert a t ha ih => rw [Finset.sum_insert ha]; exact (h a).add ih

/-- Scaling by a nonnegative real number goes through a sum, whatever the summands are. -/
theorem coe_mul_sum {ι : Type*} (t : Finset ι) (r : ℝ) (hr : 0 ≤ r) (f : ι → EReal) :
    (r : EReal) * ∑ i ∈ t, f i = ∑ i ∈ t, (r : EReal) * f i := by
  classical
  induction t using Finset.induction_on with
  | empty => simp
  | insert a t ha ih =>
    rw [Finset.sum_insert ha, Finset.sum_insert ha, ← ih]
    exact EReal.left_distrib_of_nonneg_of_ne_top (by exact_mod_cast hr) (EReal.coe_ne_top r) _ _

theorem coe_sum {ι : Type*} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

variable {n : ℕ}

/-- The largest score of the row. -/
def peak (s : Fin n → EReal) : EReal := Finset.univ.sup s

/-- The exponential of a score less the largest. -/
def weight (s : Fin n → EReal) (j : Fin n) : EReal := Ideal.exp (s j - peak s)

/-- The sum of the row's exponentials. -/
def total (s : Fin n → EReal) : EReal := ∑ j, weight s j

/-- The softmax. -/
def prob (s : Fin n → EReal) (j : Fin n) : EReal := Ideal.div (weight s j) (total s)

/-- The slope of the row's `j`-th score times `c`, from the slopes `d` of the row's probabilities: the derivative of
    the quotient, then of the exponential. -/
def slope (s d : Fin n → EReal) (c : EReal) (j : Fin n) : EReal :=
  (Ideal.div (d j) (total s) + -(∑ k, (d k * Ideal.div 1 (total s * total s)) * weight s k)) * weight s j * c

/-! ## Real scores -/

/-- The weights of a row of real scores are real numbers, and not below zero. -/
theorem weight_real {s : Fin n → EReal} (hs : ∀ j, IsReal (s j)) (j : Fin n) :
    ∃ w : ℝ, 0 ≤ w ∧ weight s j = (w : EReal) := by
  have hp : IsReal (peak s) := by
    obtain ⟨i, -, hi⟩ := Finset.exists_mem_eq_sup Finset.univ ⟨j, Finset.mem_univ j⟩ s
    unfold peak; rw [hi]; exact hs i
  obtain ⟨p, hp⟩ := hp
  obtain ⟨x, hx⟩ := hs j
  refine ⟨Real.exp (x - p), (Real.exp_pos _).le, ?_⟩
  unfold weight
  rw [hp, hx, ← EReal.coe_sub]
  rfl

/-- The weights of a row of real scores sum to a positive real number: the largest score's weight is one. -/
theorem total_real {s : Fin n → EReal} (hs : ∀ j, IsReal (s j)) (hn : 0 < n) :
    ∃ t : ℝ, 0 < t ∧ total s = (t : EReal) := by
  choose w hw he using weight_real hs
  obtain ⟨i, -, hi⟩ := Finset.exists_mem_eq_sup Finset.univ ⟨⟨0, hn⟩, Finset.mem_univ _⟩ s
  refine ⟨∑ j, w j, ?_, ?_⟩
  · refine Finset.sum_pos' (fun j _ => hw j) ⟨i, Finset.mem_univ i, ?_⟩
    obtain ⟨x, hx⟩ := hs i
    have h1 : weight s i = ((1 : ℝ) : EReal) := by
      unfold weight peak
      rw [hi, hx, ← EReal.coe_sub, sub_self]
      show ((Real.exp 0 : ℝ) : EReal) = _
      rw [Real.exp_zero]
    have := (he i).symm.trans h1
    rw [EReal.coe_eq_coe_iff.1 this]; exact one_pos
  · unfold total
    simp only [he]
    exact (coe_sum ..).symm

theorem div_pos_real {t : ℝ} (ht : 0 < t) (x : EReal) : Ideal.div x (t : EReal) = x * ((t⁻¹ : ℝ) : EReal) := by
  rw [Ideal.div_coe ht.ne', one_div]

/-- THE GRADIENT OF ONE ROW: the derivative of the quotient and the exponential is the probability times the slope
    less the mean slope. -/
theorem slope_eq {s : Fin n → EReal} (hs : ∀ j, IsReal (s j)) (hn : 0 < n) (d : Fin n → EReal) (c : EReal) (j : Fin n) :
    slope s d c j = prob s j * (d j - ∑ k, prob s k * d k) * c := by
  obtain ⟨t, ht, hT⟩ := total_real hs hn
  choose w hw he using weight_real hs
  have hr : (0 : ℝ) ≤ t⁻¹ := (inv_pos.2 ht).le
  unfold slope prob
  rw [hT]
  simp only [div_pos_real ht, he]
  have h2 : Ideal.div 1 ((t : EReal) * (t : EReal)) = ((t⁻¹ : ℝ) : EReal) * ((t⁻¹ : ℝ) : EReal) := by
    rw [← EReal.coe_mul, div_pos_real (mul_pos ht ht), one_mul, ← EReal.coe_mul, mul_inv]
  rw [h2]
  have h3 : (∑ k, d k * (((t⁻¹ : ℝ) : EReal) * ((t⁻¹ : ℝ) : EReal)) * (w k : EReal))
      = ((t⁻¹ : ℝ) : EReal) * ∑ k, (w k : EReal) * ((t⁻¹ : ℝ) : EReal) * d k := by
    rw [coe_mul_sum _ _ hr]
    exact Finset.sum_congr rfl fun k _ => by
      generalize ((t⁻¹ : ℝ) : EReal) = r
      generalize (w k : EReal) = x
      ac_rfl
  rw [h3, ← mul_neg, mul_comm (d j)]
  have h4 : ((t⁻¹ : ℝ) : EReal) * d j + ((t⁻¹ : ℝ) : EReal) * -(∑ k, (w k : EReal) * ((t⁻¹ : ℝ) : EReal) * d k)
      = ((t⁻¹ : ℝ) : EReal) * (d j + -(∑ k, (w k : EReal) * ((t⁻¹ : ℝ) : EReal) * d k)) :=
    (EReal.left_distrib_of_nonneg_of_ne_top (by exact_mod_cast hr) (EReal.coe_ne_top _) _ _).symm
  rw [h4, sub_eq_add_neg]
  generalize d j + -_ = y
  generalize ((t⁻¹ : ℝ) : EReal) = r
  ac_rfl

/-! ## Two groups of keys -/

/-- The largest score over two groups of keys. -/
def twoPeak {a b : ℕ} (x : Fin a → EReal) (y : Fin b → EReal) : EReal := max (Finset.univ.sup x) (Finset.univ.sup y)

/-- The reciprocal of the sum of the exponentials over two groups. -/
def twoInv {a b : ℕ} (x : Fin a → EReal) (y : Fin b → EReal) : EReal :=
  Ideal.div 1 ((∑ j, Ideal.exp (x j - twoPeak x y)) + ∑ j, Ideal.exp (y j - twoPeak x y))

/-- The probability of a key with score `z`. -/
def twoProb {a b : ℕ} (x : Fin a → EReal) (y : Fin b → EReal) (z : EReal) : EReal :=
  Ideal.exp (z - twoPeak x y) * twoInv x y

/-- The mean slope over two groups. -/
def twoMean {a b : ℕ} (x dx : Fin a → EReal) (y dy : Fin b → EReal) : EReal :=
  (∑ j, twoProb x y (x j) * dx j) + ∑ j, twoProb x y (y j) * dy j

/-- The slope of a key's score `z` times `c`, from the slope `dz` of its probability. -/
def twoSlope {a b : ℕ} (x dx : Fin a → EReal) (y dy : Fin b → EReal) (c z dz : EReal) : EReal :=
  twoProb x y z * (dz - twoMean x dx y dy) * c

variable {a b : ℕ} (s d : Fin (a + b) → EReal)

/-- The first group's part of a row. -/
abbrev lo (f : Fin (a + b) → EReal) : Fin a → EReal := fun j => f (Fin.castAdd b j)
/-- The second group's part of a row. -/
abbrev hi (f : Fin (a + b) → EReal) : Fin b → EReal := fun j => f (Fin.natAdd a j)

theorem twoPeak_eq : twoPeak (lo s) (hi s) = peak s := by
  unfold twoPeak peak
  apply le_antisymm
  · exact max_le (Finset.sup_le fun j _ => Finset.le_sup (f := s) (Finset.mem_univ _))
      (Finset.sup_le fun j _ => Finset.le_sup (f := s) (Finset.mem_univ _))
  · refine Finset.sup_le fun j _ => ?_
    refine Fin.addCases (fun i => ?_) (fun i => ?_) j
    · exact le_max_of_le_left (Finset.le_sup (f := lo s) (Finset.mem_univ i))
    · exact le_max_of_le_right (Finset.le_sup (f := hi s) (Finset.mem_univ i))

theorem twoInv_eq : twoInv (lo s) (hi s) = Ideal.div 1 (total s) := by
  unfold twoInv total weight
  rw [twoPeak_eq, Fin.sum_univ_add]

variable {s} (hs : ∀ j, IsReal (s j)) (hn : 0 < a + b)
include hs hn

theorem twoProb_eq (j : Fin (a + b)) : twoProb (lo s) (hi s) (s j) = prob s j := by
  obtain ⟨t, ht, hT⟩ := total_real hs hn
  unfold twoProb prob weight
  rw [twoInv_eq, twoPeak_eq, hT, div_pos_real ht, div_pos_real ht, one_mul]

theorem twoMean_eq : twoMean (lo s) (lo d) (hi s) (hi d) = ∑ k, prob s k * d k := by
  unfold twoMean
  rw [Fin.sum_univ_add]
  exact congrArg₂ (· + ·) (Finset.sum_congr rfl fun j _ => by rw [twoProb_eq hs hn])
    (Finset.sum_congr rfl fun j _ => by rw [twoProb_eq hs hn])

theorem twoSlope_eq (c : EReal) (j : Fin (a + b)) :
    twoSlope (lo s) (lo d) (hi s) (hi d) c (s j) (d j) = slope s d c j := by
  rw [slope_eq hs hn]
  unfold twoSlope
  rw [twoProb_eq hs hn, twoMean_eq d hs hn]

end Cert.Softmax

end
-- ==== Proof.Block.lean ====
/- What the gradient kernel computes at one grid point, for one head: the block functions it applies to a block of
   queries and of output gradients and to the two blocks of keys and values, each read at an index. -/
module

public import proofs.«01_k».proof.Proof.Gen.KernelIdeal
public import proofs.«01_k».proof.Proof.Softmax
public import Idealize.ShloMosaic.Lib.Pointwise

@[expose] public section

set_option maxRecDepth 16384

noncomputable section

namespace Cert.Block

open Cert.KernelIdeal Cert.KernelIdeal.Gen Idealize.ShloMosaic Cert.Softmax

/-- Blocks of extended reals. -/
abbrev Q := FVec Ideal S256x128 .f32
abbrev L := FVec Ideal S2048x128 .f32
abbrev PC := FVec Ideal S256x256 .f32
abbrev PL := FVec Ideal S256x2048 .f32
abbrev Col := FVec Ideal S256x1 .f32

/-- The factor of the scores, `1 / √128` rounded to `f32`. -/
def scale : EReal := Ideal.ofBits .f32 0x3DB504F3#32

/-- The 16-bit copy of a block: over the extended reals, the block. -/
def half {s : Shape} (x : FVec Ideal s .f32) : FVec Ideal s .bf16 := truncf .bf16 x bitsLt_bf16_f32

def scC (k q : Q) : PC :=
  mulf (matmul dot_S256x128_S256x128_S256x256_1_1_0_0_n_n none (half q) (half k) (constant S256x256 .f32 0x00000000#32))
    (broadcast S256x256 (Scalar.ofBits .f32 0x3DB504F3#32))
def scL (k : L) (q : Q) : PL :=
  mulf (matmul dot_S256x128_S2048x128_S256x2048_1_1_0_0_n_n none (half q) (half k) (constant S256x2048 .f32 0x00000000#32))
    (broadcast S256x2048 (Scalar.ofBits .f32 0x3DB504F3#32))
def top (x : PC) (y : PL) : Col :=
  maximumf
    (shapeCast S256x1 (multiReduction .maximumf [1] S256 x 0xFF800000#32 reduces_S256x256_S256 (.inl rfl) rfl) shapeCasts_S256_S256x1)
    (shapeCast S256x1 (multiReduction .maximumf [1] S256 y 0xFF800000#32 reduces_S256x2048_S256 (.inl rfl) rfl) shapeCasts_S256_S256x1)
def exC (x : PC) (t : Col) : PC := exp (subf x (broadcastTo S256x256 t broadcasts_S256x1_S256x256))
def exL (y : PL) (t : Col) : PL := exp (subf y (broadcastTo S256x2048 t broadcasts_S256x1_S256x2048))
def suC (x : PC) : Col :=
  shapeCast S256x1 (multiReduction .add [1] S256 x 0x00000000#32 reduces_S256x256_S256 (.inl rfl) rfl) shapeCasts_S256_S256x1
def suL (y : PL) : Col :=
  shapeCast S256x1 (multiReduction .add [1] S256 y 0x00000000#32 reduces_S256x2048_S256 (.inl rfl) rfl) shapeCasts_S256_S256x1
def inv (u w : Col) : Col := divf (broadcast S256x1 (Scalar.ofBits .f32 0x3F800000#32)) (addf u w)

section
variable (kc : Q) (kl : L) (vc : Q) (vl : L) (q o : Q)

def tp : Col := top (scC kc q) (scL kl q)
def ec : PC := exC (scC kc q) (tp kc kl q)
def el : PL := exL (scL kl q) (tp kc kl q)
def iv : Col := inv (suC (ec kc kl q)) (suL (el kc kl q))
/-- The probabilities of the two groups of keys. -/
def pc : PC := mulf (ec kc kl q) (broadcastTo S256x256 (iv kc kl q) broadcasts_S256x1_S256x256)
def pl : PL := mulf (el kc kl q) (broadcastTo S256x2048 (iv kc kl q) broadcasts_S256x1_S256x2048)
/-- Their slopes. -/
def dpc : PC := matmul dot_S256x128_S256x128_S256x256_1_1_0_0_n_n none (half o) (half vc) (constant S256x256 .f32 0x00000000#32)
def dpl : PL := matmul dot_S256x128_S2048x128_S256x2048_1_1_0_0_n_n none (half o) (half vl) (constant S256x2048 .f32 0x00000000#32)
def mean : Col := addf (suC (mulf (pc kc kl q) (dpc vc o))) (suL (mulf (pl kc kl q) (dpl vl o)))
/-- The slopes of the scores. -/
def dsc : PC :=
  mulf (mulf (pc kc kl q) (subf (dpc vc o) (broadcastTo S256x256 (mean kc kl vc vl q o) broadcasts_S256x1_S256x256)))
    (broadcast S256x256 (Scalar.ofBits .f32 0x3DB504F3#32))
def dsl : PL :=
  mulf (mulf (pl kc kl q) (subf (dpl vl o) (broadcastTo S256x2048 (mean kc kl vc vl q o) broadcasts_S256x1_S256x2048)))
    (broadcast S256x2048 (Scalar.ofBits .f32 0x3DB504F3#32))
/-- The gradient of the queries. -/
def dq : Q :=
  addf (addf (broadcast S256x128 (Scalar.ofBits .f32 0x00000000#32))
    (matmul dot_S256x256_S256x128_S256x128_1_0_0_1_n_n none (half (dsc kc kl vc vl q o)) (half kc) (constant S256x128 .f32 0x00000000#32)))
    (matmul dot_S256x2048_S2048x128_S256x128_1_0_0_1_n_n none (half (dsl kc kl vc vl q o)) (half kl) (constant S256x128 .f32 0x00000000#32))
/-- One head's addition to the gradients of the keys and of the values. -/
def addKC (acc : Q) : Q := addf (shapeCast S256x128 acc shapeCasts_S256x128_S256x128)
  (matmul dot_S256x256_S256x128_S256x128_0_0_1_1_n_n none (half (dsc kc kl vc vl q o)) (half q) (constant S256x128 .f32 0x00000000#32))
def addVC (acc : Q) : Q := addf (shapeCast S256x128 acc shapeCasts_S256x128_S256x128)
  (matmul dot_S256x256_S256x128_S256x128_0_0_1_1_n_n none (half (pc kc kl q)) (half o) (constant S256x128 .f32 0x00000000#32))
def addKL (acc : L) : L := addf (shapeCast S2048x128 acc shapeCasts_S2048x128_S2048x128)
  (matmul dot_S256x2048_S256x128_S2048x128_0_0_1_1_n_n none (half (dsl kc kl vc vl q o)) (half q) (constant S2048x128 .f32 0x00000000#32))
def addVL (acc : L) : L := addf (shapeCast S2048x128 acc shapeCasts_S2048x128_S2048x128)
  (matmul dot_S256x2048_S256x128_S2048x128_0_0_1_1_n_n none (half (pl kc kl q)) (half o) (constant S2048x128 .f32 0x00000000#32))
end

/-! ## At an index -/

/-- The score of the key `j` for the query `r`, and the slope of its probability: products of two rows. -/
def score {n m : ℕ} (q : (⟨2, ![m, 128]⟩ : Shape).Idx → EReal) (k : (⟨2, ![n, 128]⟩ : Shape).Idx → EReal) (r : Fin m) (j : Fin n) : EReal :=
  (∑ d : Fin 128, q (ix2 r d) * k (ix2 j d)) * scale
def grad {n m : ℕ} (o : (⟨2, ![m, 128]⟩ : Shape).Idx → EReal) (v : (⟨2, ![n, 128]⟩ : Shape).Idx → EReal) (r : Fin m) (j : Fin n) : EReal :=
  ∑ d : Fin 128, o (ix2 r d) * v (ix2 j d)

variable (kc : Q) (kl : L) (vc : Q) (vl : L) (q o : Q)

theorem scC_apply (r : Fin 256) (j : Fin 256) : scC kc q (ix2 r j) = score (n := 256) (m := 256) q kc r j := by
  pointwise [scC, half, score, scale]
theorem scL_apply (r : Fin 256) (j : Fin 2048) : scL kl q (ix2 r j) = score (n := 2048) (m := 256) q kl r j := by
  pointwise [scL, half, score, scale]
theorem dpc_apply (r : Fin 256) (j : Fin 256) : dpc vc o (ix2 r j) = grad (n := 256) (m := 256) o vc r j := by
  pointwise [dpc, half, grad]
theorem dpl_apply (r : Fin 256) (j : Fin 2048) : dpl vl o (ix2 r j) = grad (n := 2048) (m := 256) o vl r j := by
  pointwise [dpl, half, grad]
theorem suC_apply (x : PC) (r : Fin 256) : suC x (ix2 r 0) = ∑ j : Fin 256, x (ix2 r j) := by
  pointwise [suC]
theorem suL_apply (x : PL) (r : Fin 256) : suL x (ix2 r 0) = ∑ j : Fin 2048, x (ix2 r j) := by
  pointwise [suL]
theorem inv_apply (u w : Col) (r : Fin 256) : inv u w (ix2 r 0) = Ideal.div 1 (u (ix2 r 0) + w (ix2 r 0)) := by
  pointwise [inv]
theorem exC_apply (x : PC) (t : Col) (r : Fin 256) (j : Fin 256) : exC x t (ix2 r j) = Ideal.exp (x (ix2 r j) - t (ix2 r 0)) := by
  pointwise [exC]
theorem exL_apply (x : PL) (t : Col) (r : Fin 256) (j : Fin 2048) : exL x t (ix2 r j) = Ideal.exp (x (ix2 r j) - t (ix2 r 0)) := by
  pointwise [exL]
theorem top_apply (x : PC) (y : PL) (r : Fin 256) :
    top x y (ix2 r 0) = twoPeak (fun j : Fin 256 => x (ix2 r j)) (fun j : Fin 2048 => y (ix2 r j)) := by
  have hb : Ideal.ofBits .f32 0xFF800000#32 = (⊥ : EReal) := by simp [Ideal.ofBits, Ideal.ieee]
  pointwise [top, twoPeak]
  rw [hb]
  rfl

theorem colC_apply (t : Col) (r : Fin 256) (j : Fin 256) :
    broadcastTo S256x256 t broadcasts_S256x1_S256x256 (ix2 r j) = t (ix2 r 0) := by
  pointwise
theorem colL_apply (t : Col) (r : Fin 256) (j : Fin 2048) :
    broadcastTo S256x2048 t broadcasts_S256x1_S256x2048 (ix2 r j) = t (ix2 r 0) := by
  pointwise

/-- The scores of the query `r` with the two groups of keys, and the slopes of their probabilities. -/
abbrev xs (r : Fin 256) : Fin 256 → EReal := score (n := 256) (m := 256) q kc r
abbrev ys (r : Fin 256) : Fin 2048 → EReal := score (n := 2048) (m := 256) q kl r
abbrev dxs (r : Fin 256) : Fin 256 → EReal := grad (n := 256) (m := 256) o vc r
abbrev dys (r : Fin 256) : Fin 2048 → EReal := grad (n := 2048) (m := 256) o vl r

theorem tp_apply (r : Fin 256) : tp kc kl q (ix2 r 0) = twoPeak (xs kc q r) (ys kl q r) := by
  rw [tp, top_apply]
  exact congrArg₂ twoPeak (funext fun j => scC_apply kc q r j) (funext fun j => scL_apply kl q r j)

theorem ec_apply (r : Fin 256) (j : Fin 256) :
    ec kc kl q (ix2 r j) = Ideal.exp (xs kc q r j - twoPeak (xs kc q r) (ys kl q r)) := by
  rw [ec, exC_apply, scC_apply, tp_apply]
theorem el_apply (r : Fin 256) (j : Fin 2048) :
    el kc kl q (ix2 r j) = Ideal.exp (ys kl q r j - twoPeak (xs kc q r) (ys kl q r)) := by
  rw [el, exL_apply, scL_apply, tp_apply]

theorem iv_apply (r : Fin 256) : iv kc kl q (ix2 r 0) = twoInv (xs kc q r) (ys kl q r) := by
  rw [iv, inv_apply, suC_apply, suL_apply]
  simp only [ec_apply, el_apply]
  rfl

theorem pc_apply (r : Fin 256) (j : Fin 256) :
    pc kc kl q (ix2 r j) = twoProb (xs kc q r) (ys kl q r) (xs kc q r j) := by
  show ec kc kl q (ix2 r j) * broadcastTo S256x256 (iv kc kl q) broadcasts_S256x1_S256x256 (ix2 r j) = _
  rw [colC_apply, ec_apply, iv_apply]; rfl
theorem pl_apply (r : Fin 256) (j : Fin 2048) :
    pl kc kl q (ix2 r j) = twoProb (xs kc q r) (ys kl q r) (ys kl q r j) := by
  show el kc kl q (ix2 r j) * broadcastTo S256x2048 (iv kc kl q) broadcasts_S256x1_S256x2048 (ix2 r j) = _
  rw [colL_apply, el_apply, iv_apply]; rfl

theorem mean_apply (r : Fin 256) :
    mean kc kl vc vl q o (ix2 r 0) = twoMean (xs kc q r) (dxs vc o r) (ys kl q r) (dys vl o r) := by
  show suC (mulf (pc kc kl q) (dpc vc o)) (ix2 r 0) + suL (mulf (pl kc kl q) (dpl vl o)) (ix2 r 0) = _
  rw [suC_apply, suL_apply]
  refine congrArg₂ (· + ·) (Finset.sum_congr rfl fun j _ => ?_) (Finset.sum_congr rfl fun j _ => ?_)
  · show pc kc kl q (ix2 r j) * dpc vc o (ix2 r j) = _
    rw [pc_apply, dpc_apply]
  · show pl kc kl q (ix2 r j) * dpl vl o (ix2 r j) = _
    rw [pl_apply, dpl_apply]

theorem dsc_apply (r : Fin 256) (j : Fin 256) :
    dsc kc kl vc vl q o (ix2 r j)
      = twoSlope (xs kc q r) (dxs vc o r) (ys kl q r) (dys vl o r) scale (xs kc q r j) (dxs vc o r j) := by
  show pc kc kl q (ix2 r j) * (dpc vc o (ix2 r j) - broadcastTo S256x256 (mean kc kl vc vl q o) broadcasts_S256x1_S256x256 (ix2 r j)) * scale = _
  rw [colC_apply, pc_apply, dpc_apply, mean_apply]; rfl
theorem dsl_apply (r : Fin 256) (j : Fin 2048) :
    dsl kc kl vc vl q o (ix2 r j)
      = twoSlope (xs kc q r) (dxs vc o r) (ys kl q r) (dys vl o r) scale (ys kl q r j) (dys vl o r j) := by
  show pl kc kl q (ix2 r j) * (dpl vl o (ix2 r j) - broadcastTo S256x2048 (mean kc kl vc vl q o) broadcasts_S256x1_S256x2048 (ix2 r j)) * scale = _
  rw [colL_apply, pl_apply, dpl_apply, mean_apply]; rfl

/-! The four kinds of product. -/

theorem nnC_apply (x : PC) (k : Q) (r : Fin 256) (d : Fin 128) :
    matmul dot_S256x256_S256x128_S256x128_1_0_0_1_n_n none (half x) (half k) (constant S256x128 .f32 0x00000000#32) (ix2 r d)
      = ∑ j : Fin 256, x (ix2 r j) * k (ix2 j d) := by
  pointwise [half]
theorem nnL_apply (x : PL) (k : L) (r : Fin 256) (d : Fin 128) :
    matmul dot_S256x2048_S2048x128_S256x128_1_0_0_1_n_n none (half x) (half k) (constant S256x128 .f32 0x00000000#32) (ix2 r d)
      = ∑ j : Fin 2048, x (ix2 r j) * k (ix2 j d) := by
  pointwise [half]
theorem tnC_apply (x : PC) (k acc : Q) (j : Fin 256) (d : Fin 128) :
    addf (shapeCast S256x128 acc shapeCasts_S256x128_S256x128)
      (matmul dot_S256x256_S256x128_S256x128_0_0_1_1_n_n none (half x) (half k) (constant S256x128 .f32 0x00000000#32)) (ix2 j d)
      = acc (ix2 j d) + ∑ r : Fin 256, x (ix2 r j) * k (ix2 r d) := by
  pointwise [half]
theorem tnL_apply (x : PL) (k : Q) (acc : L) (j : Fin 2048) (d : Fin 128) :
    addf (shapeCast S2048x128 acc shapeCasts_S2048x128_S2048x128)
      (matmul dot_S256x2048_S256x128_S2048x128_0_0_1_1_n_n none (half x) (half k) (constant S2048x128 .f32 0x00000000#32)) (ix2 j d)
      = acc (ix2 j d) + ∑ r : Fin 256, x (ix2 r j) * k (ix2 r d) := by
  pointwise [half]

theorem dq_apply (r : Fin 256) (d : Fin 128) :
    dq kc kl vc vl q o (ix2 r d)
      = (∑ j : Fin 256, dsc kc kl vc vl q o (ix2 r j) * kc (ix2 j d)) + ∑ j : Fin 2048, dsl kc kl vc vl q o (ix2 r j) * kl (ix2 j d) := by
  unfold dq
  show Ideal.ofBits .f32 0x00000000#32
    + matmul dot_S256x256_S256x128_S256x128_1_0_0_1_n_n none (half (dsc kc kl vc vl q o)) (half kc) (constant S256x128 .f32 0x00000000#32) (ix2 r d)
    + matmul dot_S256x2048_S2048x128_S256x128_1_0_0_1_n_n none (half (dsl kc kl vc vl q o)) (half kl) (constant S256x128 .f32 0x00000000#32) (ix2 r d) = _
  rw [nnC_apply, nnL_apply, Ideal.ofBits_zero_f32, zero_add]

theorem addKC_apply (acc : Q) (j : Fin 256) (d : Fin 128) :
    addKC kc kl vc vl q o acc (ix2 j d) = acc (ix2 j d) + ∑ r : Fin 256, dsc kc kl vc vl q o (ix2 r j) * q (ix2 r d) :=
  tnC_apply _ _ _ _ _
theorem addVC_apply (acc : Q) (j : Fin 256) (d : Fin 128) :
    addVC kc kl q o acc (ix2 j d) = acc (ix2 j d) + ∑ r : Fin 256, pc kc kl q (ix2 r j) * o (ix2 r d) :=
  tnC_apply _ _ _ _ _
theorem addKL_apply (acc : L) (j : Fin 2048) (d : Fin 128) :
    addKL kc kl vc vl q o acc (ix2 j d) = acc (ix2 j d) + ∑ r : Fin 256, dsl kc kl vc vl q o (ix2 r j) * q (ix2 r d) :=
  tnL_apply _ _ _ _ _
theorem addVL_apply (acc : L) (j : Fin 2048) (d : Fin 128) :
    addVL kc kl q o acc (ix2 j d) = acc (ix2 j d) + ∑ r : Fin 256, pl kc kl q (ix2 r j) * o (ix2 r d) :=
  tnL_apply _ _ _ _ _

end Cert.Block
-- ==== Proof.Point.lean ====
/- What one grid point leaves in the five output blocks, in terms of the block functions of one head: the four heads of
   the point's group in turn, on zeros at the first block of queries and on what the point before left at the others. -/
module

public import proofs.«01_k».proof.Proof.Gen.KernelIdeal.Value
public import proofs.«01_k».proof.Proof.Block
public import Idealize.ShloMosaic.Lib.Pipeline.ValueKit.Tiles

@[expose] public section

set_option maxRecDepth 16384

noncomputable section

namespace Cert.Point

open Cert.KernelIdeal Cert.KernelIdeal.Gen Idealize.ShloMosaic Idealize.ShloMosaic.TcCoe Idealize.SL.Sem Cert.Block

/-- A block of one point: four heads side by side. -/
abbrev W := FVec Ideal S256x512 .f32

/-- The columns of the head `g` of a block. -/
def hd (g : Fin 4) (x : W) : Q := fun j => x (ix2 (j 0) ⟨g.val * 128 + (j 1).val, by have := (j 1).isLt; have := g.isLt; show _ < 512; change (j 1).val < 128 at *; omega⟩)

/-- The columns of each head, as the body loads them. -/
def h0 (x : W) : Q := View.ld (Val := Elt Ideal) (S := S256x512) (e' := .f32) x (Rect.unit ![0, 0] ![256, 128] inb_S256x512_S256x128_0_0)
def h1 (x : W) : Q := View.ld (Val := Elt Ideal) (S := S256x512) (e' := .f32) x (Rect.unit ![0, 128] ![256, 128] inb_S256x512_S256x128_0_128)
def h2 (x : W) : Q := View.ld (Val := Elt Ideal) (S := S256x512) (e' := .f32) x (Rect.unit ![0, 256] ![256, 128] inb_S256x512_S256x128_0_256)
def h3 (x : W) : Q := View.ld (Val := Elt Ideal) (S := S256x512) (e' := .f32) x (Rect.unit ![0, 384] ![256, 128] inb_S256x512_S256x128_0_384)

theorem h0_eq (x : W) : h0 x = hd 0 x := by
  funext j; exact View.ld_unit_apply_of (Val := Elt Ideal) (e := .f32) x _ _ _ j _ fun a => by match a with | ⟨0, _⟩ => simp [ix2] | ⟨1, _⟩ => simp [ix2]
theorem h1_eq (x : W) : h1 x = hd 1 x := by
  funext j; exact View.ld_unit_apply_of (Val := Elt Ideal) (e := .f32) x _ _ _ j _ fun a => by match a with | ⟨0, _⟩ => simp [ix2] | ⟨1, _⟩ => simp [ix2]
theorem h2_eq (x : W) : h2 x = hd 2 x := by
  funext j; exact View.ld_unit_apply_of (Val := Elt Ideal) (e := .f32) x _ _ _ j _ fun a => by match a with | ⟨0, _⟩ => simp [ix2] | ⟨1, _⟩ => simp [ix2]
theorem h3_eq (x : W) : h3 x = hd 3 x := by
  funext j; exact View.ld_unit_apply_of (Val := Elt Ideal) (e := .f32) x _ _ _ j _ fun a => by match a with | ⟨0, _⟩ => simp [ix2] | ⟨1, _⟩ => simp [ix2]

section
variable (q : W) (kc vc : Q) (kl vl : L) (o : W)

/-- The four heads' additions to the gradients of the keys and of the values. -/
def allKC (acc : Q) : Q :=
  addKC kc kl vc vl (h3 q) (h3 o) (addKC kc kl vc vl (h2 q) (h2 o) (addKC kc kl vc vl (h1 q) (h1 o) (addKC kc kl vc vl (h0 q) (h0 o) acc)))
def allVC (acc : Q) : Q :=
  addVC kc kl (h3 q) (h3 o) (addVC kc kl (h2 q) (h2 o) (addVC kc kl (h1 q) (h1 o) (addVC kc kl (h0 q) (h0 o) acc)))
def allKL (acc : L) : L :=
  addKL kc kl vc vl (h3 q) (h3 o) (addKL kc kl vc vl (h2 q) (h2 o) (addKL kc kl vc vl (h1 q) (h1 o) (addKL kc kl vc vl (h0 q) (h0 o) acc)))
def allVL (acc : L) : L :=
  addVL kc kl (h3 q) (h3 o) (addVL kc kl (h2 q) (h2 o) (addVL kc kl (h1 q) (h1 o) (addVL kc kl (h0 q) (h0 o) acc)))
end

section
/-! The body's own names for what each head computes, as printed, are the block functions. -/
variable (kc : Q) (kl : L) (vc : Q) (vl : L) (q o a : Q) (b : L)

theorem kc_h0 : k0_pay25 (k0_pay3 vc) (k0_pay4 vl) (k0_pay9 q) (k0_pay10 o) (k0_pay14 kc kl q) (k0_pay15 kc kl q) (k0_pay16 kc kl q) a = addKC kc kl vc vl q o a := rfl
theorem vc_h0 : k0_pay26 (k0_pay10 o) (k0_pay14 kc kl q) (k0_pay15 kc kl q) (k0_pay16 kc kl q) a = addVC kc kl q o a := rfl
theorem kl_h0 : k0_pay30 (k0_pay9 q) (k0_pay19 (k0_pay15 kc kl q) (k0_pay16 kc kl q)) (k0_pay27 (k0_pay3 vc) (k0_pay4 vl) (k0_pay10 o) (k0_pay14 kc kl q) (k0_pay15 kc kl q) (k0_pay16 kc kl q)) b = addKL kc kl vc vl q o b := rfl
theorem vl_h0 : k0_pay31 (k0_pay10 o) (k0_pay19 (k0_pay15 kc kl q) (k0_pay16 kc kl q)) b = addVL kc kl q o b := rfl
theorem dq_h0 : k0_pay29 (k0_pay2 kl) (k0_pay19 (k0_pay15 kc kl q) (k0_pay16 kc kl q)) (k0_pay24 (k0_pay1 kc) (k0_pay3 vc) (k0_pay4 vl) (k0_pay10 o) (k0_pay14 kc kl q) (k0_pay15 kc kl q) (k0_pay16 kc kl q)) (k0_pay27 (k0_pay3 vc) (k0_pay4 vl) (k0_pay10 o) (k0_pay14 kc kl q) (k0_pay15 kc kl q) (k0_pay16 kc kl q)) = dq kc kl vc vl q o := rfl
theorem kc_h1 : k0_pay47 (k0_pay3 vc) (k0_pay4 vl) (k0_pay32 q) (k0_pay33 o) (k0_pay34 (k0_pay1 kc) q) (k0_pay35 (k0_pay2 kl) q) (k0_pay36 (k0_pay1 kc) (k0_pay2 kl) q) a = addKC kc kl vc vl q o a := rfl
theorem vc_h1 : k0_pay49 (k0_pay33 o) (k0_pay40 (k0_pay34 (k0_pay1 kc) q) (k0_pay35 (k0_pay2 kl) q) (k0_pay36 (k0_pay1 kc) (k0_pay2 kl) q)) (k0_pay48 a) = addVC kc kl q o a := rfl
theorem kl_h1 : k0_pay52 (k0_pay32 q) (k0_pay41 (k0_pay34 (k0_pay1 kc) q) (k0_pay35 (k0_pay2 kl) q) (k0_pay36 (k0_pay1 kc) (k0_pay2 kl) q)) (k0_pay43 (k0_pay4 vl) (k0_pay33 o)) (k0_pay44 (k0_pay3 vc) (k0_pay4 vl) (k0_pay33 o) (k0_pay34 (k0_pay1 kc) q) (k0_pay35 (k0_pay2 kl) q) (k0_pay36 (k0_pay1 kc) (k0_pay2 kl) q)) b = addKL kc kl vc vl q o b := rfl
theorem vl_h1 : k0_pay53 (k0_pay33 o) (k0_pay41 (k0_pay34 (k0_pay1 kc) q) (k0_pay35 (k0_pay2 kl) q) (k0_pay36 (k0_pay1 kc) (k0_pay2 kl) q)) b = addVL kc kl q o b := rfl
theorem dq_h1 : k0_pay51 (k0_pay2 kl) (k0_pay41 (k0_pay34 (k0_pay1 kc) q) (k0_pay35 (k0_pay2 kl) q) (k0_pay36 (k0_pay1 kc) (k0_pay2 kl) q)) (k0_pay43 (k0_pay4 vl) (k0_pay33 o)) (k0_pay44 (k0_pay3 vc) (k0_pay4 vl) (k0_pay33 o) (k0_pay34 (k0_pay1 kc) q) (k0_pay35 (k0_pay2 kl) q) (k0_pay36 (k0_pay1 kc) (k0_pay2 kl) q)) (k0_pay46 (k0_pay1 kc) (k0_pay3 vc) (k0_pay4 vl) (k0_pay33 o) (k0_pay34 (k0_pay1 kc) q) (k0_pay35 (k0_pay2 kl) q) (k0_pay36 (k0_pay1 kc) (k0_pay2 kl) q)) = dq kc kl vc vl q o := rfl
theorem kc_h2 : k0_pay71 (k0_pay54 q) (k0_pay68 (k0_pay3 vc) (k0_pay4 vl) (k0_pay55 o) (k0_pay56 (k0_pay1 kc) q) (k0_pay57 (k0_pay2 kl) q)) (k0_pay70 a) (constant S256x128 .f32 0x00000000#32) = addKC kc kl vc vl q o a := rfl
theorem vc_h2 : k0_pay72 (k0_pay55 o) (k0_pay63 (k0_pay56 (k0_pay1 kc) q) (k0_pay57 (k0_pay2 kl) q)) a = addVC kc kl q o a := rfl
theorem kl_h2 : k0_pay75 (k0_pay54 q) (k0_pay64 (k0_pay56 (k0_pay1 kc) q) (k0_pay57 (k0_pay2 kl) q)) (k0_pay66 (k0_pay4 vl) (k0_pay55 o)) (k0_pay67 (k0_pay3 vc) (k0_pay4 vl) (k0_pay55 o) (k0_pay56 (k0_pay1 kc) q) (k0_pay57 (k0_pay2 kl) q)) b = addKL kc kl vc vl q o b := rfl
theorem vl_h2 : k0_pay76 (k0_pay55 o) (k0_pay64 (k0_pay56 (k0_pay1 kc) q) (k0_pay57 (k0_pay2 kl) q)) b = addVL kc kl q o b := rfl
theorem dq_h2 : k0_pay74 (k0_pay2 kl) (k0_pay64 (k0_pay56 (k0_pay1 kc) q) (k0_pay57 (k0_pay2 kl) q)) (k0_pay66 (k0_pay4 vl) (k0_pay55 o)) (k0_pay67 (k0_pay3 vc) (k0_pay4 vl) (k0_pay55 o) (k0_pay56 (k0_pay1 kc) q) (k0_pay57 (k0_pay2 kl) q)) (k0_pay69 (k0_pay1 kc) (k0_pay3 vc) (k0_pay4 vl) (k0_pay55 o) (k0_pay56 (k0_pay1 kc) q) (k0_pay57 (k0_pay2 kl) q)) = dq kc kl vc vl q o := rfl
theorem kc_h3 : k0_pay94 (k0_pay77 q) (k0_pay91 (k0_pay1 kc) (k0_pay2 kl) (k0_pay3 vc) (k0_pay4 vl) (k0_pay77 q) o) k0_pay92 a = addKC kc kl vc vl q o a := rfl
theorem vc_h3 : k0_pay95 (k0_pay78 o) (k0_pay85 (k0_pay1 kc) (k0_pay2 kl) (k0_pay77 q)) a = addVC kc kl q o a := rfl
theorem kl_h3 : k0_pay98 (k0_pay77 q) (k0_pay86 (k0_pay1 kc) (k0_pay2 kl) (k0_pay77 q)) (k0_pay88 (k0_pay4 vl) o) (k0_pay89 (k0_pay1 kc) (k0_pay2 kl) (k0_pay3 vc) (k0_pay4 vl) (k0_pay77 q) o) b = addKL kc kl vc vl q o b := rfl
theorem vl_h3 : k0_pay99 (k0_pay78 o) (k0_pay86 (k0_pay1 kc) (k0_pay2 kl) (k0_pay77 q)) b = addVL kc kl q o b := rfl
theorem dq_h3 : k0_pay97 (k0_pay1 kc) (k0_pay2 kl) (k0_pay86 (k0_pay1 kc) (k0_pay2 kl) (k0_pay77 q)) (k0_pay88 (k0_pay4 vl) o) (k0_pay89 (k0_pay1 kc) (k0_pay2 kl) (k0_pay3 vc) (k0_pay4 vl) (k0_pay77 q) o) k0_pay90 (k0_pay91 (k0_pay1 kc) (k0_pay2 kl) (k0_pay3 vc) (k0_pay4 vl) (k0_pay77 q) o) k0_pay92 = dq kc kl vc vl q o := rfl
end

theorem allKC_apply (q : W) (kc vc : Q) (kl vl : L) (o : W) (acc : Q) (j : Fin 256) (d : Fin 128) :
    allKC q kc vc kl vl o acc (ix2 j d)
      = acc (ix2 j d) + ∑ g : Fin 4, ∑ r : Fin 256, dsc kc kl vc vl (hd g q) (hd g o) (ix2 r j) * hd g q (ix2 r d) := by
  unfold allKC
  simp only [addKC_apply, h0_eq, h1_eq, h2_eq, h3_eq, Fin.sum_univ_four, add_assoc]
theorem allVC_apply (q : W) (kc vc : Q) (kl vl : L) (o : W) (acc : Q) (j : Fin 256) (d : Fin 128) :
    allVC q kc kl o acc (ix2 j d)
      = acc (ix2 j d) + ∑ g : Fin 4, ∑ r : Fin 256, pc kc kl (hd g q) (ix2 r j) * hd g o (ix2 r d) := by
  unfold allVC
  simp only [addVC_apply, h0_eq, h1_eq, h2_eq, h3_eq, Fin.sum_univ_four, add_assoc]
theorem allKL_apply (q : W) (kc vc : Q) (kl vl : L) (o : W) (acc : L) (j : Fin 2048) (d : Fin 128) :
    allKL q kc vc kl vl o acc (ix2 j d)
      = acc (ix2 j d) + ∑ g : Fin 4, ∑ r : Fin 256, dsl kc kl vc vl (hd g q) (hd g o) (ix2 r j) * hd g q (ix2 r d) := by
  unfold allKL
  simp only [addKL_apply, h0_eq, h1_eq, h2_eq, h3_eq, Fin.sum_univ_four, add_assoc]
theorem allVL_apply (q : W) (kc vc : Q) (kl vl : L) (o : W) (acc : L) (j : Fin 2048) (d : Fin 128) :
    allVL q kc kl o acc (ix2 j d)
      = acc (ix2 j d) + ∑ g : Fin 4, ∑ r : Fin 256, pl kc kl (hd g q) (ix2 r j) * hd g o (ix2 r d) := by
  unfold allVL
  simp only [addVL_apply, h0_eq, h1_eq, h2_eq, h3_eq, Fin.sum_univ_four, add_assoc]

variable (m : (ℓ : Loc nD τ sig) → Buf (Elt Ideal) ℓ) (c : Dev nD)

/-- The blocks a point reads. -/
abbrev bq (t : Fin cfg0.N) : W := iblk m c 0 t
abbrev bkc (t : Fin cfg0.N) : Q := iblk m c 1 t
abbrev bvc (t : Fin cfg0.N) : Q := iblk m c 2 t
abbrev bkl (t : Fin cfg0.N) : L := iblk m c 3 t
abbrev bvl (t : Fin cfg0.N) : L := iblk m c 4 t
abbrev bo (t : Fin cfg0.N) : W := iblk m c 5 t

theorem kc_first (t : Fin cfg0.N) (h : t.val % 8 = 0) :
    (outsAt0 m c t.val t.isLt).2.1
      = allKC (bq m c t) (bkc m c t) (bvc m c t) (bkl m c t) (bvl m c t) (bo m c t) (broadcast S256x128 (Scalar.ofBits .f32 0x00000000#32)) := by
  rw [outsAt0_A m c t h]; frame_out
  rw [kc_h3, kc_h2, kc_h1, kc_h0]; rfl
theorem kc_next (t : Fin cfg0.N) (h : ¬t.val % 8 = 0) :
    (outsAt0 m c t.val t.isLt).2.1
      = allKC (bq m c t) (bkc m c t) (bvc m c t) (bkl m c t) (bvl m c t) (bo m c t)
          (outsAt0 m c (t.val - 1) (Nat.lt_of_le_of_lt (Nat.sub_le _ _) t.isLt)).2.1 := by
  rw [outsAt0_B m c t h]; frame_out
  rw [kc_h3, kc_h2, kc_h1, kc_h0]; rfl
theorem vc_first (t : Fin cfg0.N) (h : t.val % 8 = 0) :
    (outsAt0 m c t.val t.isLt).2.2.1
      = allVC (bq m c t) (bkc m c t) (bkl m c t) (bo m c t) (broadcast S256x128 (Scalar.ofBits .f32 0x00000000#32)) := by
  rw [outsAt0_A m c t h]; frame_out
  rw [vc_h3, vc_h2, vc_h1, vc_h0]; rfl
theorem vc_next (t : Fin cfg0.N) (h : ¬t.val % 8 = 0) :
    (outsAt0 m c t.val t.isLt).2.2.1
      = allVC (bq m c t) (bkc m c t) (bkl m c t) (bo m c t)
          (outsAt0 m c (t.val - 1) (Nat.lt_of_le_of_lt (Nat.sub_le _ _) t.isLt)).2.2.1 := by
  rw [outsAt0_B m c t h]; frame_out
  rw [vc_h3, vc_h2, vc_h1, vc_h0]; rfl
theorem kl_first (t : Fin cfg0.N) (h : t.val % 8 = 0) :
    (outsAt0 m c t.val t.isLt).2.2.2.1
      = allKL (bq m c t) (bkc m c t) (bvc m c t) (bkl m c t) (bvl m c t) (bo m c t) (broadcast S2048x128 (Scalar.ofBits .f32 0x00000000#32)) := by
  rw [outsAt0_A m c t h]; frame_out
  rw [kl_h3, kl_h2, kl_h1, kl_h0]; rfl
theorem kl_next (t : Fin cfg0.N) (h : ¬t.val % 8 = 0) :
    (outsAt0 m c t.val t.isLt).2.2.2.1
      = allKL (bq m c t) (bkc m c t) (bvc m c t) (bkl m c t) (bvl m c t) (bo m c t)
          (outsAt0 m c (t.val - 1) (Nat.lt_of_le_of_lt (Nat.sub_le _ _) t.isLt)).2.2.2.1 := by
  rw [outsAt0_B m c t h]; frame_out
  rw [kl_h3, kl_h2, kl_h1, kl_h0]; rfl
theorem vl_first (t : Fin cfg0.N) (h : t.val % 8 = 0) :
    (outsAt0 m c t.val t.isLt).2.2.2.2
      = allVL (bq m c t) (bkc m c t) (bkl m c t) (bo m c t) (broadcast S2048x128 (Scalar.ofBits .f32 0x00000000#32)) := by
  rw [outsAt0_A m c t h]; frame_out
  rw [vl_h3, vl_h2, vl_h1, vl_h0]; rfl
theorem vl_next (t : Fin cfg0.N) (h : ¬t.val % 8 = 0) :
    (outsAt0 m c t.val t.isLt).2.2.2.2
      = allVL (bq m c t) (bkc m c t) (bkl m c t) (bo m c t)
          (outsAt0 m c (t.val - 1) (Nat.lt_of_le_of_lt (Nat.sub_le _ _) t.isLt)).2.2.2.2 := by
  rw [outsAt0_B m c t h]; frame_out
  rw [vl_h3, vl_h2, vl_h1, vl_h0]; rfl

/-- Four blocks of 128 columns side by side, read at a column. -/
theorem tiles (P : Fin 4 → Q) (r : Fin 256) (g : Fin 4) (d : Fin 128) :
    View.canon (Val := Elt Ideal) (e := .f32) (s := S256x512)
      [⟨Rect.unit ![0, 384] ![256, 128] inb_S256x512_S256x128_0_384, P 3⟩,
       ⟨Rect.unit ![0, 256] ![256, 128] inb_S256x512_S256x128_0_256, P 2⟩,
       ⟨Rect.unit ![0, 128] ![256, 128] inb_S256x512_S256x128_0_128, P 1⟩,
       ⟨Rect.unit ![0, 0] ![256, 128] inb_S256x512_S256x128_0_0, P 0⟩]
      (ix2 r ⟨g.val * 128 + d.val, by omega⟩)
      = P g (ix2 r d) := by
  have key : ∀ g' : Fin 4, ∀ x : (⟨2, ![256, 128]⟩ : Shape).Idx, (r.val = (x 0).val) → (g.val * 128 + d.val = g'.val * 128 + (x 1).val) →
      P g' x = P g (ix2 r d) := by
    intro g' x hr hd'
    have hx : (x 1).val < 128 := (x 1).isLt
    have hg : g' = g := Fin.ext (by omega)
    subst hg
    rw [show x = ix2 r d from by rw [eq_ix2 x]; exact congrArg₂ ix2 (Fin.ext hr.symm) (Fin.ext (by omega))]
  canon_tiles x hx
  case piece0 =>
    change r.val = (x 0).val at hx0; change g.val * 128 + d.val = 384 + (x 1).val at hx1
    exact key 3 x hx0 (by rw [hx1]; simp)
  case piece1 =>
    change r.val = (x 0).val at hx0; change g.val * 128 + d.val = 256 + (x 1).val at hx1
    exact key 2 x hx0 (by rw [hx1]; simp)
  case piece2 =>
    change r.val = (x 0).val at hx0; change g.val * 128 + d.val = 128 + (x 1).val at hx1
    exact key 1 x hx0 (by rw [hx1]; simp)
  case piece3 =>
    change r.val = (x 0).val at hx0; change g.val * 128 + d.val = (x 1).val at hx1
    exact key 0 x hx0 (by rw [hx1]; simp)

/-- The columns of the head `g`, as the body loads them. -/
def hs (g : Fin 4) (x : W) : Q := ![h0 x, h1 x, h2 x, h3 x] g
theorem hs_eq (g : Fin 4) (x : W) : hs g x = hd g x := by
  unfold hs
  match g with
  | ⟨0, _⟩ => exact h0_eq x
  | ⟨1, _⟩ => exact h1_eq x
  | ⟨2, _⟩ => exact h2_eq x
  | ⟨3, _⟩ => exact h3_eq x

theorem dq_out (t : Fin cfg0.N) (r : Fin 256) (g : Fin 4) (d : Fin 128) :
    (outsAt0 m c t.val t.isLt).1 (ix2 r ⟨g.val * 128 + d.val, by omega⟩)
      = dq (bkc m c t) (bkl m c t) (bvc m c t) (bvl m c t) (hd g (bq m c t)) (hd g (bo m c t)) (ix2 r d) := by
  by_cases h : t.val % 8 = 0
  · rw [outsAt0_A m c t h]; frame_out
    rw [dq_h3, dq_h2, dq_h1, dq_h0]
    exact (tiles (fun g => dq _ _ _ _ (hs g (bq m c t)) (hs g (bo m c t))) r g d).trans (by rw [hs_eq, hs_eq])
  · rw [outsAt0_B m c t h]; frame_out
    rw [dq_h3, dq_h2, dq_h1, dq_h0]
    exact (tiles (fun g => dq _ _ _ _ (hs g (bq m c t)) (hs g (bo m c t))) r g d).trans (by rw [hs_eq, hs_eq])

end Cert.Point
-- ==== Proof.Spec.lean ====
/- What the gradient of grouped-query attention over context and latent keys is, index by index: for a batch row `b`, a
   group `h` of query heads sharing one head of keys and values, a head `g` of the group, a query `l` and a key `j`
   (the 256 context keys first, the 2048 latent keys after them). -/
module

public import proofs.«01_k».proof.Proof.Softmax
public import Idealize.ShloMosaic.Lib.Pointwise

@[expose] public section

noncomputable section

namespace Cert.Spec

open Idealize.ShloMosaic Cert.Softmax

/-- The arrays of the queries, of the context keys and of the latent keys. -/
abbrev Wide := FVec Ideal (⟨2, ![8192, 1024]⟩ : Shape) .f32
abbrev Ctx := FVec Ideal (⟨2, ![1024, 256]⟩ : Shape) .f32
abbrev Lat := FVec Ideal (⟨2, ![8192, 256]⟩ : Shape) .f32

/-- The factor of the scores, one over the square root of the head's width as a float. -/
def scale : EReal := Ideal.ofBits .f32 0x3DB504F3#32

theorem scale_real : IsReal scale := by
  unfold scale IsReal
  simp [Ideal.ofBits, Ideal.ieee]
  exact ⟨_, (EReal.coe_mul _ _).symm⟩

/-- One query (or one row of the output's gradient), one context key, one latent key. -/
def row (A : Wide) (b : Fin 4) (h : Fin 2) (g : Fin 4) (l : Fin 2048) (d : Fin 128) : EReal :=
  A (ix2 ⟨b.val * 2048 + l.val, by omega⟩ ⟨(h.val * 4 + g.val) * 128 + d.val, by omega⟩)
def ctx (A : Ctx) (b : Fin 4) (h : Fin 2) (j : Fin 256) (d : Fin 128) : EReal :=
  A (ix2 ⟨b.val * 256 + j.val, by omega⟩ ⟨h.val * 128 + d.val, by omega⟩)
def lat (A : Lat) (b : Fin 4) (h : Fin 2) (j : Fin 2048) (d : Fin 128) : EReal :=
  A (ix2 ⟨b.val * 2048 + j.val, by omega⟩ ⟨h.val * 128 + d.val, by omega⟩)

/-- The context rows and, after them, the latent rows. -/
def rows (A : Ctx) (B : Lat) (b : Fin 4) (h : Fin 2) (j : Fin (256 + 2048)) (d : Fin 128) : EReal :=
  Fin.addCases (fun i => ctx A b h i d) (fun i => lat B b h i d) j

@[simp] theorem rows_castAdd (A : Ctx) (B : Lat) (b : Fin 4) (h : Fin 2) (i : Fin 256) (d : Fin 128) :
    rows A B b h (Fin.castAdd 2048 i) d = ctx A b h i d := by unfold rows; rw [Fin.addCases_left]
@[simp] theorem rows_natAdd (A : Ctx) (B : Lat) (b : Fin 4) (h : Fin 2) (i : Fin 2048) (d : Fin 128) :
    rows A B b h (Fin.natAdd 256 i) d = lat B b h i d := by unfold rows; rw [Fin.addCases_right]

variable (q : Wide) (kc vc : Ctx) (kl vl : Lat) (o : Wide)

/-- The scores of a query, and the slopes of its probabilities. -/
def scores (b : Fin 4) (h : Fin 2) (g : Fin 4) (l : Fin 2048) (j : Fin (256 + 2048)) : EReal :=
  (∑ d : Fin 128, row q b h g l d * rows kc kl b h j d) * scale
def slopes (b : Fin 4) (h : Fin 2) (g : Fin 4) (l : Fin 2048) (j : Fin (256 + 2048)) : EReal :=
  ∑ d : Fin 128, row o b h g l d * rows vc vl b h j d

/-- The probabilities, and the gradient of the products of the queries with the keys. -/
def probs (b : Fin 4) (h : Fin 2) (g : Fin 4) (l : Fin 2048) (j : Fin (256 + 2048)) : EReal :=
  prob (scores q kc kl b h g l) j
def dscores (b : Fin 4) (h : Fin 2) (g : Fin 4) (l : Fin 2048) (j : Fin (256 + 2048)) : EReal :=
  slope (scores q kc kl b h g l) (slopes vc vl o b h g l) scale j

/-- The gradients of the queries, of the keys and of the values. -/
def dq (b : Fin 4) (h : Fin 2) (g : Fin 4) (l : Fin 2048) (d : Fin 128) : EReal :=
  ∑ j : Fin (256 + 2048), dscores q kc vc kl vl o b h g l j * rows kc kl b h j d
def dk (b : Fin 4) (h : Fin 2) (j : Fin (256 + 2048)) (d : Fin 128) : EReal :=
  ∑ g : Fin 4, ∑ l : Fin 2048, dscores q kc vc kl vl o b h g l j * row q b h g l d
def dv (b : Fin 4) (h : Fin 2) (j : Fin (256 + 2048)) (d : Fin 128) : EReal :=
  ∑ g : Fin 4, ∑ l : Fin 2048, probs q kc kl b h g l j * row o b h g l d

/-- The five results as arrays. -/
def outQ : Wide := fun i => dq q kc vc kl vl o ⟨(i 0).val / 2048, by have := (i 0).isLt; change (i 0).val < 8192 at this; omega⟩
  ⟨(i 1).val / 512, by have := (i 1).isLt; change (i 1).val < 1024 at this; omega⟩ ⟨(i 1).val / 128 % 4, by omega⟩
  ⟨(i 0).val % 2048, by omega⟩ ⟨(i 1).val % 128, by omega⟩
def outCtx (f : Fin 4 → Fin 2 → Fin (256 + 2048) → Fin 128 → EReal) : Ctx := fun i =>
  f ⟨(i 0).val / 256, by have := (i 0).isLt; change (i 0).val < 1024 at this; omega⟩
    ⟨(i 1).val / 128, by have := (i 1).isLt; change (i 1).val < 256 at this; omega⟩
    (Fin.castAdd 2048 ⟨(i 0).val % 256, by omega⟩) ⟨(i 1).val % 128, by omega⟩
def outLat (f : Fin 4 → Fin 2 → Fin (256 + 2048) → Fin 128 → EReal) : Lat := fun i =>
  f ⟨(i 0).val / 2048, by have := (i 0).isLt; change (i 0).val < 8192 at this; omega⟩
    ⟨(i 1).val / 128, by have := (i 1).isLt; change (i 1).val < 256 at this; omega⟩
    (Fin.natAdd 256 ⟨(i 0).val % 2048, by omega⟩) ⟨(i 1).val % 128, by omega⟩

/-- A result array at an index with known coordinates. -/
theorem outQ_at (b : Fin 4) (h : Fin 2) (g : Fin 4) (l : Fin 2048) (d : Fin 128) (i : (⟨2, ![8192, 1024]⟩ : Shape).Idx)
    (h0 : (i 0).val = b.val * 2048 + l.val) (h1 : (i 1).val = (h.val * 4 + g.val) * 128 + d.val) :
    outQ q kc vc kl vl o i = dq q kc vc kl vl o b h g l d := by
  unfold outQ
  congr 1 <;> apply Fin.ext <;> simp only [h0, h1] <;> omega
theorem outCtx_at (f : Fin 4 → Fin 2 → Fin (256 + 2048) → Fin 128 → EReal) (b : Fin 4) (h : Fin 2) (j : Fin 256) (d : Fin 128)
    (i : (⟨2, ![1024, 256]⟩ : Shape).Idx)
    (h0 : (i 0).val = b.val * 256 + j.val) (h1 : (i 1).val = h.val * 128 + d.val) :
    outCtx f i = f b h (Fin.castAdd 2048 j) d := by
  unfold outCtx
  congr 1 <;> apply Fin.ext <;> simp only [Fin.val_castAdd, h0, h1] <;> omega
theorem outLat_at (f : Fin 4 → Fin 2 → Fin (256 + 2048) → Fin 128 → EReal) (b : Fin 4) (h : Fin 2) (j : Fin 2048) (d : Fin 128)
    (i : (⟨2, ![8192, 256]⟩ : Shape).Idx)
    (h0 : (i 0).val = b.val * 2048 + j.val) (h1 : (i 1).val = h.val * 128 + d.val) :
    outLat f i = f b h (Fin.natAdd 256 j) d := by
  unfold outLat
  congr 1 <;> apply Fin.ext <;> simp only [Fin.val_natAdd, h0, h1] <;> omega

/-- With real queries and keys every score is real. -/
theorem scores_real (hq : ∀ i, IsReal (q i)) (hc : ∀ i, IsReal (kc i)) (hl : ∀ i, IsReal (kl i))
    (b : Fin 4) (h : Fin 2) (g : Fin 4) (l : Fin 2048) (j : Fin (256 + 2048)) : IsReal (scores q kc kl b h g l j) := by
  unfold scores
  refine IsReal.mul (IsReal.sum _ fun d => IsReal.mul (hq _) ?_) scale_real
  refine Fin.addCases (fun i => ?_) (fun i => ?_) j
  · rw [rows_castAdd]; exact hc _
  · rw [rows_natAdd]; exact hl _

end Cert.Spec

end
-- ==== Proof.Final.lean ====
/- The five result arrays of the kernel, index by index: the blocks a point reads as rows of the argument arrays, what
   the accumulated blocks hold at the last block of queries, and the arrays the run leaves. -/
module

public import proofs.«01_k».proof.Proof.Point
public import proofs.«01_k».proof.Proof.Spec
public import Idealize.ShloMosaic.Lib.Pipeline.ValueKit.Point

@[expose] public section

set_option maxRecDepth 16384

noncomputable section

namespace Cert.Final

open Cert.KernelIdeal Cert.KernelIdeal.Gen Idealize.ShloMosaic Idealize.ShloMosaic.TcCoe Idealize.SL.Sem
open Cert.Block Cert.Point Cert.Softmax

variable (m : (ℓ : Loc nD τ sig) → Buf (Elt Ideal) ℓ) (c : Dev nD)

/-- The argument arrays. -/
abbrev Aq : Spec.Wide := m (c.tc.loc main_arg0)
abbrev Akc : Spec.Ctx := m (c.tc.loc main_arg1)
abbrev Avc : Spec.Ctx := m (c.tc.loc main_arg2)
abbrev Akl : Spec.Lat := m (c.tc.loc main_arg3)
abbrev Avl : Spec.Lat := m (c.tc.loc main_arg4)
abbrev Ao : Spec.Wide := m (c.tc.loc main_arg5)

theorem lt64 (t : Fin cfg0.N) : t.val < 64 := t.isLt

/-- The batch row, the group of heads, and the query of a row of the block, at a point. -/
def pb (t : Fin cfg0.N) : Fin 4 := ⟨t.val / 16, by have := lt64 t; omega⟩
def ph (t : Fin cfg0.N) : Fin 2 := ⟨t.val / 8 % 2, by omega⟩
def pt (t : Fin cfg0.N) (r : Fin 256) : Fin 2048 := ⟨t.val % 8 * 256 + r.val, by omega⟩

theorem idx0 : ∀ t : Fin cfg0.N, win0_0.index t = ![t.val / 16 * 8 + t.val % 8, t.val / 8 % 2] := (by decide +kernel : ∀ t : Fin grid0.N, _)
theorem idx1 : ∀ t : Fin cfg0.N, win0_1.index t = ![t.val / 16, t.val / 8 % 2] := (by decide +kernel : ∀ t : Fin grid0.N, _)
theorem idx2 : ∀ t : Fin cfg0.N, win0_2.index t = ![t.val / 16, t.val / 8 % 2] := (by decide +kernel : ∀ t : Fin grid0.N, _)
theorem idx3 : ∀ t : Fin cfg0.N, win0_3.index t = ![t.val / 16, t.val / 8 % 2] := (by decide +kernel : ∀ t : Fin grid0.N, _)
theorem idx4 : ∀ t : Fin cfg0.N, win0_4.index t = ![t.val / 16, t.val / 8 % 2] := (by decide +kernel : ∀ t : Fin grid0.N, _)
theorem idx5 : ∀ t : Fin cfg0.N, win0_5.index t = ![t.val / 16 * 8 + t.val % 8, t.val / 8 % 2] := (by decide +kernel : ∀ t : Fin grid0.N, _)
theorem idx6 : ∀ t : Fin cfg0.N, win0_6.index t = ![t.val / 16 * 8 + t.val % 8, t.val / 8 % 2] := (by decide +kernel : ∀ t : Fin grid0.N, _)
theorem idx7 : ∀ t : Fin cfg0.N, win0_7.index t = ![t.val / 16, t.val / 8 % 2] := (by decide +kernel : ∀ t : Fin grid0.N, _)
theorem idx8 : ∀ t : Fin cfg0.N, win0_8.index t = ![t.val / 16, t.val / 8 % 2] := (by decide +kernel : ∀ t : Fin grid0.N, _)
theorem idx9 : ∀ t : Fin cfg0.N, win0_9.index t = ![t.val / 16, t.val / 8 % 2] := (by decide +kernel : ∀ t : Fin grid0.N, _)
theorem idx10 : ∀ t : Fin cfg0.N, win0_10.index t = ![t.val / 16, t.val / 8 % 2] := (by decide +kernel : ∀ t : Fin grid0.N, _)

theorem q_apply (t : Fin cfg0.N) (g : Fin 4) (r : Fin 256) (d : Fin 128) :
    hd g (bq m c t) (ix2 r d) = Spec.row (Aq m c) (pb t) (ph t) g (pt t r) d := by
  unfold hd Spec.row Aq pb ph pt
  have e := idx0 t
  blk_point [iblk, V, e]
theorem o_apply (t : Fin cfg0.N) (g : Fin 4) (r : Fin 256) (d : Fin 128) :
    hd g (bo m c t) (ix2 r d) = Spec.row (Ao m c) (pb t) (ph t) g (pt t r) d := by
  unfold hd Spec.row Ao pb ph pt
  have e := idx5 t
  blk_point [iblk, V, e]
theorem kc_apply (t : Fin cfg0.N) (j : Fin 256) (d : Fin 128) : bkc m c t (ix2 j d) = Spec.ctx (Akc m c) (pb t) (ph t) j d := by
  unfold Spec.ctx Akc pb ph
  have e := idx1 t
  blk_point [iblk, V, e]
theorem vc_apply (t : Fin cfg0.N) (j : Fin 256) (d : Fin 128) : bvc m c t (ix2 j d) = Spec.ctx (Avc m c) (pb t) (ph t) j d := by
  unfold Spec.ctx Avc pb ph
  have e := idx2 t
  blk_point [iblk, V, e]
theorem kl_apply (t : Fin cfg0.N) (j : Fin 2048) (d : Fin 128) : bkl m c t (ix2 j d) = Spec.lat (Akl m c) (pb t) (ph t) j d := by
  unfold Spec.lat Akl pb ph
  have e := idx3 t
  blk_point [iblk, V, e]
theorem vl_apply (t : Fin cfg0.N) (j : Fin 2048) (d : Fin 128) : bvl m c t (ix2 j d) = Spec.lat (Avl m c) (pb t) (ph t) j d := by
  unfold Spec.lat Avl pb ph
  have e := idx4 t
  blk_point [iblk, V, e]

/-- A sum over the eight points of one run and the rows of their blocks is the sum over the queries. -/
theorem points_sum (t : Fin cfg0.N) (ht : t.val % 8 = 8 - 1) (f : Fin 4 → Fin 2 → Fin 4 → Fin 2048 → EReal) :
    (∑ s : Fin 8, ∑ g : Fin 4, ∑ r : Fin 256, f (pb ⟨8 * (t.val / 8) + s.val, Pipeline.run_point_lt_of_flush t ht s⟩)
        (ph ⟨8 * (t.val / 8) + s.val, Pipeline.run_point_lt_of_flush t ht s⟩) g
        (pt ⟨8 * (t.val / 8) + s.val, Pipeline.run_point_lt_of_flush t ht s⟩ r))
      = ∑ g : Fin 4, ∑ l : Fin 2048, f (pb t) (ph t) g l := by
  rw [Finset.sum_comm]
  refine Finset.sum_congr rfl fun g _ => ?_
  refine Fin.sum_mul_add_congr fun s r hl => ?_
  have e1 : pb ⟨8 * (t.val / 8) + s.val, Pipeline.run_point_lt_of_flush t ht s⟩ = pb t := by
    unfold pb; apply Fin.ext; show (8 * (t.val / 8) + s.val) / 16 = t.val / 16; omega
  have e2 : ph ⟨8 * (t.val / 8) + s.val, Pipeline.run_point_lt_of_flush t ht s⟩ = ph t := by
    unfold ph; apply Fin.ext; show (8 * (t.val / 8) + s.val) / 8 % 2 = t.val / 8 % 2; omega
  have e3 : pt ⟨8 * (t.val / 8) + s.val, Pipeline.run_point_lt_of_flush t ht s⟩ r = ⟨s.val * 256 + r.val, hl⟩ := by
    unfold pt; apply Fin.ext; show (8 * (t.val / 8) + s.val) % 8 * 256 + r.val = s.val * 256 + r.val; omega
  rw [e1, e2, e3]

theorem zero_Q (i : S256x128.Idx) : broadcast S256x128 (Scalar.ofBits (F := Ideal) .f32 0x00000000#32) i = (0 : EReal) :=
  Ideal.ofBits_zero_f32
theorem zero_L (i : S2048x128.Idx) : broadcast S2048x128 (Scalar.ofBits (F := Ideal) .f32 0x00000000#32) i = (0 : EReal) :=
  Ideal.ofBits_zero_f32

section
/-! The scores and the slopes of the block's rows, and from them what the point computes, with real queries and keys. -/

theorem xs_eq (t : Fin cfg0.N) (g : Fin 4) (r : Fin 256) :
    xs (bkc m c t) (hd g (bq m c t)) r = lo (Spec.scores (Aq m c) (Akc m c) (Akl m c) (pb t) (ph t) g (pt t r)) := by
  funext j; unfold lo Spec.scores
  simp only [score, q_apply, kc_apply, Spec.rows_castAdd]; rfl
theorem ys_eq (t : Fin cfg0.N) (g : Fin 4) (r : Fin 256) :
    ys (bkl m c t) (hd g (bq m c t)) r = hi (Spec.scores (Aq m c) (Akc m c) (Akl m c) (pb t) (ph t) g (pt t r)) := by
  funext j; unfold hi Spec.scores
  simp only [score, q_apply, kl_apply, Spec.rows_natAdd]; rfl
theorem dxs_eq (t : Fin cfg0.N) (g : Fin 4) (r : Fin 256) :
    dxs (bvc m c t) (hd g (bo m c t)) r = lo (Spec.slopes (Avc m c) (Avl m c) (Ao m c) (pb t) (ph t) g (pt t r)) := by
  funext j; unfold lo Spec.slopes
  simp only [grad, o_apply, vc_apply, Spec.rows_castAdd]
theorem dys_eq (t : Fin cfg0.N) (g : Fin 4) (r : Fin 256) :
    dys (bvl m c t) (hd g (bo m c t)) r = hi (Spec.slopes (Avc m c) (Avl m c) (Ao m c) (pb t) (ph t) g (pt t r)) := by
  funext j; unfold hi Spec.slopes
  simp only [grad, o_apply, vl_apply, Spec.rows_natAdd]

variable (hq : ∀ i, IsReal (Aq m c i)) (hc : ∀ i, IsReal (Akc m c i)) (hl : ∀ i, IsReal (Akl m c i))
include hq hc hl

theorem pc_spec (t : Fin cfg0.N) (g : Fin 4) (r : Fin 256) (j : Fin 256) :
    pc (bkc m c t) (bkl m c t) (hd g (bq m c t)) (ix2 r j)
      = Spec.probs (Aq m c) (Akc m c) (Akl m c) (pb t) (ph t) g (pt t r) (Fin.castAdd 2048 j) := by
  rw [pc_apply, xs_eq, ys_eq]
  exact twoProb_eq (Spec.scores_real _ _ _ hq hc hl _ _ _ _) (by norm_num) _
theorem pl_spec (t : Fin cfg0.N) (g : Fin 4) (r : Fin 256) (j : Fin 2048) :
    pl (bkc m c t) (bkl m c t) (hd g (bq m c t)) (ix2 r j)
      = Spec.probs (Aq m c) (Akc m c) (Akl m c) (pb t) (ph t) g (pt t r) (Fin.natAdd 256 j) := by
  rw [pl_apply, xs_eq, ys_eq]
  exact twoProb_eq (Spec.scores_real _ _ _ hq hc hl _ _ _ _) (by norm_num) _
theorem dsc_spec (t : Fin cfg0.N) (g : Fin 4) (r : Fin 256) (j : Fin 256) :
    dsc (bkc m c t) (bkl m c t) (bvc m c t) (bvl m c t) (hd g (bq m c t)) (hd g (bo m c t)) (ix2 r j)
      = Spec.dscores (Aq m c) (Akc m c) (Avc m c) (Akl m c) (Avl m c) (Ao m c) (pb t) (ph t) g (pt t r) (Fin.castAdd 2048 j) := by
  rw [dsc_apply, xs_eq, ys_eq, dxs_eq, dys_eq]
  exact twoSlope_eq _ (Spec.scores_real _ _ _ hq hc hl _ _ _ _) (by norm_num) _ _
theorem dsl_spec (t : Fin cfg0.N) (g : Fin 4) (r : Fin 256) (j : Fin 2048) :
    dsl (bkc m c t) (bkl m c t) (bvc m c t) (bvl m c t) (hd g (bq m c t)) (hd g (bo m c t)) (ix2 r j)
      = Spec.dscores (Aq m c) (Akc m c) (Avc m c) (Akl m c) (Avl m c) (Ao m c) (pb t) (ph t) g (pt t r) (Fin.natAdd 256 j) := by
  rw [dsl_apply, xs_eq, ys_eq, dxs_eq, dys_eq]
  exact twoSlope_eq _ (Spec.scores_real _ _ _ hq hc hl _ _ _ _) (by norm_num) _ _

/-- The gradient of the queries of one block. -/
theorem dq_spec (t : Fin cfg0.N) (g : Fin 4) (r : Fin 256) (d : Fin 128) :
    (outsAt0 m c t.val t.isLt).1 (ix2 r ⟨g.val * 128 + d.val, by omega⟩)
      = Spec.dq (Aq m c) (Akc m c) (Avc m c) (Akl m c) (Avl m c) (Ao m c) (pb t) (ph t) g (pt t r) d := by
  rw [dq_out, dq_apply]
  unfold Spec.dq
  rw [Fin.sum_univ_add]
  simp only [dsc_spec m c hq hc hl, dsl_spec m c hq hc hl, kc_apply, kl_apply, Spec.rows_castAdd, Spec.rows_natAdd]

/-! What the four accumulated blocks hold at the last block of queries. -/

theorem kc_spec (t : Fin cfg0.N) (ht : t.val % 8 = 8 - 1) (j : Fin 256) (d : Fin 128) :
    (outsAt0 m c t.val t.isLt).2.1 (ix2 j d) = Spec.dk (Aq m c) (Akc m c) (Avc m c) (Akl m c) (Avl m c) (Ao m c) (pb t) (ph t) (Fin.castAdd 2048 j) d := by
  refine (Pipeline.eq_sum_fin_of_reset_step_apply_of_flush (fun n h => (outsAt0 m c n h).2.1) 8 (fun _ => (0 : EReal))
    (fun t i => ∑ g : Fin 4, ∑ r : Fin 256, Spec.dscores (Aq m c) (Akc m c) (Avc m c) (Akl m c) (Avl m c) (Ao m c) (pb t) (ph t) g (pt t r) (Fin.castAdd 2048 (i 0))
      * Spec.row (Aq m c) (pb t) (ph t) g (pt t r) (i 1)) ?_ ?_ t ht (ix2 j d)).trans ?_
  · intro t h i
    obtain ⟨j, d, rfl⟩ : ∃ j d, i = ix2 j d := ⟨i 0, i 1, eq_ix2 i⟩
    show (outsAt0 m c t.val t.isLt).2.1 (ix2 j d) = _
    rw [kc_first m c t h, allKC_apply, zero_Q]
    simp only [dsc_spec m c hq hc hl, q_apply]; rfl
  · intro t h i
    obtain ⟨j, d, rfl⟩ : ∃ j d, i = ix2 j d := ⟨i 0, i 1, eq_ix2 i⟩
    show (outsAt0 m c t.val t.isLt).2.1 (ix2 j d) = _
    rw [kc_next m c t h, allKC_apply]
    simp only [dsc_spec m c hq hc hl, q_apply]; rfl
  · rw [zero_add]
    exact points_sum t ht fun b h g l => Spec.dscores (Aq m c) (Akc m c) (Avc m c) (Akl m c) (Avl m c) (Ao m c) b h g l (Fin.castAdd 2048 j) * Spec.row (Aq m c) b h g l d
theorem vc_spec (t : Fin cfg0.N) (ht : t.val % 8 = 8 - 1) (j : Fin 256) (d : Fin 128) :
    (outsAt0 m c t.val t.isLt).2.2.1 (ix2 j d) = Spec.dv (Aq m c) (Akc m c) (Akl m c) (Ao m c) (pb t) (ph t) (Fin.castAdd 2048 j) d := by
  refine (Pipeline.eq_sum_fin_of_reset_step_apply_of_flush (fun n h => (outsAt0 m c n h).2.2.1) 8 (fun _ => (0 : EReal))
    (fun t i => ∑ g : Fin 4, ∑ r : Fin 256, Spec.probs (Aq m c) (Akc m c) (Akl m c) (pb t) (ph t) g (pt t r) (Fin.castAdd 2048 (i 0))
      * Spec.row (Ao m c) (pb t) (ph t) g (pt t r) (i 1)) ?_ ?_ t ht (ix2 j d)).trans ?_
  · intro t h i
    obtain ⟨j, d, rfl⟩ : ∃ j d, i = ix2 j d := ⟨i 0, i 1, eq_ix2 i⟩
    show (outsAt0 m c t.val t.isLt).2.2.1 (ix2 j d) = _
    rw [vc_first m c t h, allVC_apply (vc := bvc m c t) (vl := bvl m c t), zero_Q]
    simp only [pc_spec m c hq hc hl, o_apply]; rfl
  · intro t h i
    obtain ⟨j, d, rfl⟩ : ∃ j d, i = ix2 j d := ⟨i 0, i 1, eq_ix2 i⟩
    show (outsAt0 m c t.val t.isLt).2.2.1 (ix2 j d) = _
    rw [vc_next m c t h, allVC_apply (vc := bvc m c t) (vl := bvl m c t)]
    simp only [pc_spec m c hq hc hl, o_apply]; rfl
  · rw [zero_add]
    exact points_sum t ht fun b h g l => Spec.probs (Aq m c) (Akc m c) (Akl m c) b h g l (Fin.castAdd 2048 j) * Spec.row (Ao m c) b h g l d
theorem kl_spec (t : Fin cfg0.N) (ht : t.val % 8 = 8 - 1) (j : Fin 2048) (d : Fin 128) :
    (outsAt0 m c t.val t.isLt).2.2.2.1 (ix2 j d) = Spec.dk (Aq m c) (Akc m c) (Avc m c) (Akl m c) (Avl m c) (Ao m c) (pb t) (ph t) (Fin.natAdd 256 j) d := by
  refine (Pipeline.eq_sum_fin_of_reset_step_apply_of_flush (fun n h => (outsAt0 m c n h).2.2.2.1) 8 (fun _ => (0 : EReal))
    (fun t i => ∑ g : Fin 4, ∑ r : Fin 256, Spec.dscores (Aq m c) (Akc m c) (Avc m c) (Akl m c) (Avl m c) (Ao m c) (pb t) (ph t) g (pt t r) (Fin.natAdd 256 (i 0))
      * Spec.row (Aq m c) (pb t) (ph t) g (pt t r) (i 1)) ?_ ?_ t ht (ix2 j d)).trans ?_
  · intro t h i
    obtain ⟨j, d, rfl⟩ : ∃ j d, i = ix2 j d := ⟨i 0, i 1, eq_ix2 i⟩
    show (outsAt0 m c t.val t.isLt).2.2.2.1 (ix2 j d) = _
    rw [kl_first m c t h, allKL_apply, zero_L]
    simp only [dsl_spec m c hq hc hl, q_apply]; rfl
  · intro t h i
    obtain ⟨j, d, rfl⟩ : ∃ j d, i = ix2 j d := ⟨i 0, i 1, eq_ix2 i⟩
    show (outsAt0 m c t.val t.isLt).2.2.2.1 (ix2 j d) = _
    rw [kl_next m c t h, allKL_apply]
    simp only [dsl_spec m c hq hc hl, q_apply]; rfl
  · rw [zero_add]
    exact points_sum t ht fun b h g l => Spec.dscores (Aq m c) (Akc m c) (Avc m c) (Akl m c) (Avl m c) (Ao m c) b h g l (Fin.natAdd 256 j) * Spec.row (Aq m c) b h g l d
theorem vl_spec (t : Fin cfg0.N) (ht : t.val % 8 = 8 - 1) (j : Fin 2048) (d : Fin 128) :
    (outsAt0 m c t.val t.isLt).2.2.2.2 (ix2 j d) = Spec.dv (Aq m c) (Akc m c) (Akl m c) (Ao m c) (pb t) (ph t) (Fin.natAdd 256 j) d := by
  refine (Pipeline.eq_sum_fin_of_reset_step_apply_of_flush (fun n h => (outsAt0 m c n h).2.2.2.2) 8 (fun _ => (0 : EReal))
    (fun t i => ∑ g : Fin 4, ∑ r : Fin 256, Spec.probs (Aq m c) (Akc m c) (Akl m c) (pb t) (ph t) g (pt t r) (Fin.natAdd 256 (i 0))
      * Spec.row (Ao m c) (pb t) (ph t) g (pt t r) (i 1)) ?_ ?_ t ht (ix2 j d)).trans ?_
  · intro t h i
    obtain ⟨j, d, rfl⟩ : ∃ j d, i = ix2 j d := ⟨i 0, i 1, eq_ix2 i⟩
    show (outsAt0 m c t.val t.isLt).2.2.2.2 (ix2 j d) = _
    rw [vl_first m c t h, allVL_apply (vc := bvc m c t) (vl := bvl m c t), zero_L]
    simp only [pl_spec m c hq hc hl, o_apply]; rfl
  · intro t h i
    obtain ⟨j, d, rfl⟩ : ∃ j d, i = ix2 j d := ⟨i 0, i 1, eq_ix2 i⟩
    show (outsAt0 m c t.val t.isLt).2.2.2.2 (ix2 j d) = _
    rw [vl_next m c t h, allVL_apply (vc := bvc m c t) (vl := bvl m c t)]
    simp only [pl_spec m c hq hc hl, o_apply]; rfl
  · rw [zero_add]
    exact points_sum t ht fun b h g l => Spec.probs (Aq m c) (Akc m c) (Akl m c) b h g l (Fin.natAdd 256 j) * Spec.row (Ao m c) b h g l d

/-! The five arrays the run leaves. -/

theorem out_q : (dats m 0 c).arrAt 6 cfg0.N = Spec.outQ (Aq m c) (Akc m c) (Avc m c) (Akl m c) (Avl m c) (Ao m c) := by
  refine (dats m 0 c).arrAt_eq_of_covers 6 _ (by decide +kernel) fun t hf y => ?_
  blk_simp
  rw [after0_6]
  obtain ⟨r, g, d, rfl⟩ : ∃ (r : Fin 256) (g : Fin 4) (d : Fin 128), y = ix2 r ⟨g.val * 128 + d.val, by omega⟩ := by
    refine ⟨y 0, ⟨(y 1).val / 128, ?_⟩, ⟨(y 1).val % 128, Nat.mod_lt _ (by norm_num)⟩, (eq_ix2 y).trans (congrArg _ (Fin.ext ?_))⟩
    · have := (y 1).isLt; change (y 1).val < 512 at this; omega
    · show (y 1).val = (y 1).val / 128 * 128 + (y 1).val % 128; omega
  rw [dq_spec m c hq hc hl]
  have e := idx6 t
  refine (Spec.outQ_at _ _ _ _ _ _ _ _ _ _ _ _ ?_ ?_).symm <;> blk_simp [e] <;> simp [pb, ph, pt] <;> omega
theorem out_kc : (dats m 0 c).arrAt 7 cfg0.N = Spec.outCtx (Spec.dk (Aq m c) (Akc m c) (Avc m c) (Akl m c) (Avl m c) (Ao m c)) := by
  refine (dats m 0 c).arrAt_eq_of_covers 7 _ (by decide +kernel) fun t hf y => ?_
  blk_simp
  rw [after0_7]
  obtain ⟨j, d, rfl⟩ : ∃ j d, y = ix2 j d := ⟨y 0, y 1, eq_ix2 y⟩
  rw [kc_spec m c hq hc hl t ((flush0_7 t).mp hf)]
  have e := idx7 t
  refine (Spec.outCtx_at _ _ _ _ _ _ ?_ ?_).symm <;> blk_simp [e] <;> rfl
theorem out_vc : (dats m 0 c).arrAt 8 cfg0.N = Spec.outCtx (Spec.dv (Aq m c) (Akc m c) (Akl m c) (Ao m c)) := by
  refine (dats m 0 c).arrAt_eq_of_covers 8 _ (by decide +kernel) fun t hf y => ?_
  blk_simp
  rw [after0_8]
  obtain ⟨j, d, rfl⟩ : ∃ j d, y = ix2 j d := ⟨y 0, y 1, eq_ix2 y⟩
  rw [vc_spec m c hq hc hl t ((flush0_8 t).mp hf)]
  have e := idx8 t
  refine (Spec.outCtx_at _ _ _ _ _ _ ?_ ?_).symm <;> blk_simp [e] <;> rfl
theorem out_kl : (dats m 0 c).arrAt 9 cfg0.N = Spec.outLat (Spec.dk (Aq m c) (Akc m c) (Avc m c) (Akl m c) (Avl m c) (Ao m c)) := by
  refine (dats m 0 c).arrAt_eq_of_covers 9 _ (by decide +kernel) fun t hf y => ?_
  blk_simp
  rw [after0_9]
  obtain ⟨j, d, rfl⟩ : ∃ j d, y = ix2 j d := ⟨y 0, y 1, eq_ix2 y⟩
  rw [kl_spec m c hq hc hl t ((flush0_9 t).mp hf)]
  have e := idx9 t
  refine (Spec.outLat_at _ _ _ _ _ _ ?_ ?_).symm <;> blk_simp [e] <;> rfl
theorem out_vl : (dats m 0 c).arrAt 10 cfg0.N = Spec.outLat (Spec.dv (Aq m c) (Akc m c) (Akl m c) (Ao m c)) := by
  refine (dats m 0 c).arrAt_eq_of_covers 10 _ (by decide +kernel) fun t hf y => ?_
  blk_simp
  rw [after0_10]
  obtain ⟨j, d, rfl⟩ : ∃ j d, y = ix2 j d := ⟨y 0, y 1, eq_ix2 y⟩
  rw [vl_spec m c hq hc hl t ((flush0_10 t).mp hf)]
  have e := idx10 t
  refine (Spec.outLat_at _ _ _ _ _ _ ?_ ?_).symm <;> blk_simp [e] <;> rfl

end

end Cert.Final

end
-- ==== Proof.Ref.lean ====
/- The reference's five results, index by index: the arrays of its operations in turn, each read at an index, are the
   quantities of Spec. -/
module

public import proofs.«01_k».proof.Proof.Gen.ReferenceIdeal.Read
public import proofs.«01_k».proof.Proof.Spec

@[expose] public section

set_option maxRecDepth 16384

noncomputable section

namespace Cert.Ref

open Cert.ReferenceIdeal Cert.ReferenceIdeal.Gen Cert.ReferenceIdeal.Read Idealize.ShloMosaic Cert.Softmax

/-- The number of a key among the context and the latent keys. -/
def key (j : Fin 2304) : Fin (256 + 2048) := ⟨j.val, j.isLt⟩

variable (q : Spec.Wide) (kc vc : Spec.Ctx) (kl vl : Spec.Lat) (o : Spec.Wide)

theorem v5_at (b : Fin 4) (j : Fin 2304) (h : Fin 2) (d : Fin 128) :
    val_main_v5 (F := Ideal) kc kl (ix4 b j h d) = Spec.rows kc kl b h (key j) d := by
  unfold val_main_v5 val_main_v3 val_main_v1
  pointwise
  split
  · next hj => exact (Spec.rows_castAdd kc kl b h ⟨j.val, hj⟩ d).symm
  · next hj =>
    have e : key j = Fin.natAdd 256 ⟨j.val - 256, by omega⟩ := Fin.ext (by show j.val = 256 + (j.val - 256); omega)
    rw [e, Spec.rows_natAdd]; rfl
theorem v6_at (b : Fin 4) (j : Fin 2304) (h : Fin 2) (d : Fin 128) :
    val_main_v6 (F := Ideal) vc vl (ix4 b j h d) = Spec.rows vc vl b h (key j) d := v5_at vc vl b j h d
theorem v7_at (b : Fin 4) (l : Fin 2048) (h : Fin 2) (g : Fin 4) (d : Fin 128) :
    val_main_v7 (F := Ideal) q (ix5 b l h g d) = Spec.row q b h g l d := by
  unfold val_main_v7 val_main_v0 Spec.row
  pointwise
  congr 2; apply Fin.ext; show h.val * 512 + g.val * 128 + d.val = (h.val * 4 + g.val) * 128 + d.val; omega
theorem v46_at (b : Fin 4) (l : Fin 2048) (h : Fin 2) (g : Fin 4) (d : Fin 128) :
    val_main_v46 (F := Ideal) o (ix5 b h d g l) = Spec.row o b h g l d := by
  unfold val_main_v46 val_main_v45 val_main_v44 Spec.row
  pointwise
  congr 2; apply Fin.ext; show h.val * 512 + g.val * 128 + d.val = (h.val * 4 + g.val) * 128 + d.val; omega

theorem neg_infinity : Ideal.ofBits .f32 0xFF800000#32 = (⊥ : EReal) := by simp [Ideal.ofBits, Ideal.ieee]

/-- The scores, the largest of a row, the weights, their total, the probabilities, and one over the total's square. -/
theorem v11_at (b : Fin 4) (l : Fin 2048) (h : Fin 2) (g : Fin 4) (j : Fin 2304) :
    val_main_v11 (F := Ideal) q kc kl (ix5 b h g l j) = Spec.scores q kc kl b h g l (key j) := by
  unfold val_main_v11 val_main_v10 val_main_v9 val_main_v8 val_main_cst Spec.scores
  pointwise
  simp only [v5_at, v7_at, mul_comm]; rfl
theorem v12_at (b : Fin 4) (l : Fin 2048) (h : Fin 2) (g : Fin 4) :
    val_main_v12 (F := Ideal) q kc kl (ix4 b h g l) = peak (Spec.scores q kc kl b h g l) := by
  unfold val_main_v12 val_main_cst_0 peak
  pointwise
  simp only [v11_at]
  rw [neg_infinity]; rfl
theorem v19_at (b : Fin 4) (l : Fin 2048) (h : Fin 2) (g : Fin 4) :
    val_main_v19 (F := Ideal) q kc kl (ix4 b h g l) = peak (Spec.scores q kc kl b h g l) := by
  rw [val_main_v19_apply, val_main_v18_apply, val_main_cst_2_apply, v12_at]
  exact (congrArg (max · _) neg_infinity).trans (bot_sup_eq _)
theorem v30_at (b : Fin 4) (l : Fin 2048) (h : Fin 2) (g : Fin 4) (j : Fin 2304) :
    val_main_v30 (F := Ideal) q kc kl (ix5 b h g l j) = peak (Spec.scores q kc kl b h g l) := by
  unfold val_main_v30 val_main_v29
  pointwise
  rw [v19_at]
theorem v32_at (b : Fin 4) (l : Fin 2048) (h : Fin 2) (g : Fin 4) (j : Fin 2304) :
    val_main_v32 (F := Ideal) q kc kl (ix5 b h g l j) = weight (Spec.scores q kc kl b h g l) (key j) := by
  unfold val_main_v32 val_main_v31 weight
  pointwise
  rw [v11_at, v30_at]
theorem v33_at (b : Fin 4) (l : Fin 2048) (h : Fin 2) (g : Fin 4) :
    val_main_v33 (F := Ideal) q kc kl (ix4 b h g l) = total (Spec.scores q kc kl b h g l) := by
  unfold val_main_v33 val_main_cst_8 total
  pointwise
  simp only [v32_at]; rfl
theorem v36_at (b : Fin 4) (l : Fin 2048) (h : Fin 2) (g : Fin 4) (j : Fin 2304) :
    val_main_v36 (F := Ideal) q kc kl (ix5 b h g l j) = Spec.probs q kc kl b h g l (key j) := by
  unfold val_main_v36 val_main_v35 val_main_v34 Spec.probs prob
  pointwise
  simp only [v32_at, v33_at]
theorem v39_at (b : Fin 4) (l : Fin 2048) (h : Fin 2) (g : Fin 4) (u : Fin 1) :
    val_main_v39 (F := Ideal) q kc kl (ix5 b h g l u)
      = Ideal.div 1 (total (Spec.scores q kc kl b h g l) * total (Spec.scores q kc kl b h g l)) := by
  unfold val_main_v39 val_main_v38 val_main_v37 val_main_v34 val_main_cst_9
  pointwise
  simp only [v33_at]
theorem v47_at (b : Fin 4) (l : Fin 2048) (h : Fin 2) (g : Fin 4) (j : Fin 2304) :
    val_main_v47 (F := Ideal) vc vl o (ix5 b h g l j) = Spec.slopes vc vl o b h g l (key j) := by
  unfold val_main_v47 Spec.slopes
  pointwise
  simp only [v46_at, v6_at]
theorem v53_at (b : Fin 4) (l : Fin 2048) (h : Fin 2) (g : Fin 4) :
    val_main_v53 (F := Ideal) q kc vc kl vl o (ix4 b h g l)
      = ∑ k, (Spec.slopes vc vl o b h g l k * Ideal.div 1 (total (Spec.scores q kc kl b h g l) * total (Spec.scores q kc kl b h g l)))
          * weight (Spec.scores q kc kl b h g l) k := by
  unfold val_main_v53 val_main_v52 val_main_v51 val_main_v50 val_main_cst_10
  pointwise
  simp only [v47_at, v39_at, v32_at]; rfl
theorem v63_at (b : Fin 4) (l : Fin 2048) (h : Fin 2) (g : Fin 4) (j : Fin 2304) :
    val_main_v63 (F := Ideal) q kc vc kl vl o (ix5 b h g l j) = Spec.dscores q kc vc kl vl o b h g l (key j) := by
  unfold val_main_v63 val_main_v62 val_main_v61 val_main_v60 val_main_v59 val_main_v58 val_main_v57 val_main_v56 val_main_v55
    val_main_v54 val_main_v34 val_main_cst_11 val_main_cst_12 Spec.dscores Softmax.slope
  pointwise
  simp only [v47_at, v53_at, v33_at, v32_at, Finset.univ_unique, Finset.sum_singleton]; rfl

/-! The gradients of the queries, of all keys and of all values. -/

theorem v66_at (b : Fin 4) (l : Fin 2048) (h : Fin 2) (g : Fin 4) (d : Fin 128) :
    val_main_v66 (F := Ideal) q kc vc kl vl o (ix5 b l h g d) = Spec.dq q kc vc kl vl o b h g l d := by
  unfold val_main_v66 val_main_v65 val_main_v64 Spec.dq
  pointwise
  simp only [v63_at, v5_at]; rfl
theorem v68_at (b : Fin 4) (j : Fin 2304) (h : Fin 2) (d : Fin 128) :
    val_main_v68 (F := Ideal) q kc vc kl vl o (ix4 b j h d) = Spec.dk q kc vc kl vl o b h (key j) d := by
  unfold val_main_v68 val_main_v67 val_main_v64 Spec.dk
  pointwise
  simp only [v63_at, v7_at]
  exact Finset.sum_comm
theorem v49_at (b : Fin 4) (j : Fin 2304) (h : Fin 2) (d : Fin 128) :
    val_main_v49 (F := Ideal) q kc kl o (ix4 b j h d) = Spec.dv q kc kl o b h (key j) d := by
  unfold val_main_v49 val_main_v48 Spec.dv
  pointwise
  simp only [v36_at, v46_at, mul_comm]

/-! The five results. -/

theorem v78_eq : val_main_v78 (F := Ideal) q kc vc kl vl o = Spec.outQ q kc vc kl vl o := by
  funext i; idx_vars i
  unfold val_main_v78 val_main_v69 Spec.outQ
  pointwise
  rw [v66_at]
theorem v75_eq : val_main_v75 (F := Ideal) q kc vc kl vl o = Spec.outCtx (Spec.dk q kc vc kl vl o) := by
  funext i; idx_vars i
  unfold val_main_v75 val_main_v72 Spec.outCtx
  pointwise
  rw [v68_at]; rfl
theorem v74_eq : val_main_v74 (F := Ideal) q kc kl o = Spec.outCtx (Spec.dv q kc kl o) := by
  funext i; idx_vars i
  unfold val_main_v74 val_main_v70 Spec.outCtx
  pointwise
  rw [v49_at]; rfl
theorem v77_eq : val_main_v77 (F := Ideal) q kc vc kl vl o = Spec.outLat (Spec.dk q kc vc kl vl o) := by
  funext i; idx_vars i
  unfold val_main_v77 val_main_v73 Spec.outLat
  pointwise
  rw [v68_at]; rfl
theorem v76_eq : val_main_v76 (F := Ideal) q kc kl o = Spec.outLat (Spec.dv q kc kl o) := by
  funext i; idx_vars i
  unfold val_main_v76 val_main_v71 Spec.outLat
  pointwise
  rw [v49_at]; rfl

end Cert.Ref

end
-- ==== Proof.Pre.lean ====
/- The precondition read: the queries and both groups of keys are real numbers, entry by entry. -/
module

public import proofs.«01_k».proof.Proof.Gen.Pre_finite_scores
public import proofs.«01_k».proof.Proof.Spec
public import Idealize.ShloMosaic.Lib.ReduceAll

@[expose] public section

noncomputable section

namespace Cert.Pre

open Cert.Pre_finite_scores Cert.Pre_finite_scores.Gen Idealize.ShloMosaic Cert.Softmax

theorem infinity : Ideal.ofBits .f32 0x7F800000#32 = (⊤ : EReal) := by simp [Ideal.ofBits, Ideal.ieee]

/-- An entry whose absolute value is below infinity is a real number. -/
theorem real_of_lt {s : Shape} (x : FVec Ideal s .f32) (hb : S_.BroadcastsInDim s (![] : Fin 0 → Fin s.rank)) (i : s.Idx)
    (h : cmpf .olt (Host.absf x) (broadcastInDim s ![] hb (constant S_ .f32 0x7F800000#32)) i = 1#1) : IsReal (x i) := by
  have h' : Ideal.cmp .olt (max (x i) (-(x i))) (Ideal.ofBits .f32 0x7F800000#32) = 1#1 := h
  rw [infinity] at h'
  generalize (x i : EReal) = y at h' ⊢
  induction (y : EReal) using EReal.rec with
  | bot => simp [Ideal.cmp] at h'
  | top => simp [Ideal.cmp] at h'
  | coe r => exact ⟨r, rfl⟩

theorem reals (q : Spec.Wide) (kc vc : Spec.Ctx) (kl vl : Spec.Lat) (o : Spec.Wide)
    (h : ∀ j, Cert.Pre_finite_scores.fn (F := Ideal) q kc vc kl vl o j = 1#1) :
    (∀ i, IsReal (q i)) ∧ (∀ i, IsReal (kc i)) ∧ ∀ i, IsReal (kl i) := by
  have hs : Subsingleton S_.Idx := ⟨fun a b => funext fun x => x.elim0⟩
  have h1 := h (Shape.Idx.first Gen.h_S_)
  unfold Cert.Pre_finite_scores.fn at h1
  obtain ⟨h2, h3⟩ := IntOp.andi_eq_one.1 h1
  obtain ⟨h4, h5⟩ := IntOp.andi_eq_one.1 h2
  refine ⟨fun i => ?_, fun i => ?_, fun i => ?_⟩
  · exact real_of_lt q _ i (Host.reduce_andi_all _ _ _ _ _ h4 i)
  · exact real_of_lt kc _ i (Host.reduce_andi_all _ _ _ _ _ h5 i)
  · exact real_of_lt kl _ i (Host.reduce_andi_all _ _ _ _ _ h3 i)

end Cert.Pre

end
-- ==== Proof.Products.lean ====
/- The three products of two matrices that a projection and its derivative need, over the extended reals: `rows ·
   columns`, `rows · rows` and `columns · columns`, each index by index, and each sum cut into equal runs of terms. -/
module

public import Idealize.ShloMosaic.PureOps.Ideal
public import Idealize.ShloMosaic.PureOps.Ideal.Laws
public import Idealize.ShloMosaic.Lib.ValueIdx
public import Idealize.ShloMosaic.Lib.Pipeline.ValueKit
public import Idealize.ShloMosaic.Lib.Pipeline.ValueKit.Point

@[expose] public section

noncomputable section

namespace Cert.Products

open Idealize.ShloMosaic

/-- A matrix of `a` rows and `b` columns. -/
abbrev Mat (a b : Nat) (f : FTy) := FVec Ideal (⟨2, ![a, b]⟩ : Shape) f

variable {M N K : Nat} {f g : FTy}

/-- Rows of `a` times columns of `b`. -/
def nn (a : Mat M K f) (b : Mat K N g) : Mat M N .f32 := fun i => ∑ k : Fin K, a (ix2 (i 0) k) * b (ix2 k (i 1))
/-- Rows of `a` times rows of `b`. -/
def nt (a : Mat M K f) (b : Mat N K g) : Mat M N .f32 := fun i => ∑ k : Fin K, a (ix2 (i 0) k) * b (ix2 (i 1) k)
/-- Columns of `a` times columns of `b`. -/
def tn (a : Mat K M f) (b : Mat K N g) : Mat M N .f32 := fun i => ∑ k : Fin K, a (ix2 k (i 0)) * b (ix2 k (i 1))
/-- A row added to every row. -/
def plusRow (a : Mat M N f) (v : FVec Ideal (⟨1, ![N]⟩ : Shape) g) : Mat M N .f32 := fun i => a i + v (ix1 (i 1))
/-- The sums of the columns. -/
def colsum (a : Mat M N f) : Mat 1 N .f32 := fun i => ∑ k : Fin M, a (ix2 k (i 1))

theorem nn_at (a : Mat M K f) (b : Mat K N g) (i : (⟨2, ![M, N]⟩ : Shape).Idx) (r : Fin M) (j : Fin N)
    (h0 : (i 0).val = r.val) (h1 : (i 1).val = j.val) : nn a b i = ∑ k : Fin K, a (ix2 r k) * b (ix2 k j) := by
  unfold nn; rw [show i 0 = r from Fin.ext h0, show i 1 = j from Fin.ext h1]
theorem nt_at (a : Mat M K f) (b : Mat N K g) (i : (⟨2, ![M, N]⟩ : Shape).Idx) (r : Fin M) (j : Fin N)
    (h0 : (i 0).val = r.val) (h1 : (i 1).val = j.val) : nt a b i = ∑ k : Fin K, a (ix2 r k) * b (ix2 j k) := by
  unfold nt; rw [show i 0 = r from Fin.ext h0, show i 1 = j from Fin.ext h1]
theorem tn_at (a : Mat K M f) (b : Mat K N g) (i : (⟨2, ![M, N]⟩ : Shape).Idx) (r : Fin M) (j : Fin N)
    (h0 : (i 0).val = r.val) (h1 : (i 1).val = j.val) : tn a b i = ∑ k : Fin K, a (ix2 k r) * b (ix2 k j) := by
  unfold tn; rw [show i 0 = r from Fin.ext h0, show i 1 = j from Fin.ext h1]

theorem plusRow_nn_at (a : Mat M K f) (b : Mat K N g) {h : FTy} (v : FVec Ideal (⟨1, ![N]⟩ : Shape) h) (i : (⟨2, ![M, N]⟩ : Shape).Idx)
    (r : Fin M) (j : Fin N) (h0 : (i 0).val = r.val) (h1 : (i 1).val = j.val) :
    plusRow (nn a b) v i = (∑ k : Fin K, a (ix2 r k) * b (ix2 k j)) + v (ix1 j) := by
  unfold plusRow; rw [nn_at a b i r j h0 h1, show i 1 = j from Fin.ext h1]
theorem colsum_at (a : Mat M N f) (i : (⟨2, ![1, N]⟩ : Shape).Idx) (j : Fin N) (h1 : (i 1).val = j.val) :
    colsum a i = ∑ k : Fin M, a (ix2 k j) := by
  unfold colsum; rw [show i 1 = j from Fin.ext h1]

theorem run_lt {J T K : Nat} (hK : K = J * T) (hJ : 0 < J) (n : Nat) (k : Fin T) : n % J * T + k.val < K := by
  have h := Nat.mul_le_mul_right T (Nat.mod_lt n hJ)
  have := k.isLt
  rw [Nat.succ_mul] at h; omega

/-- A buffer that starts a run of `J` points with the first block of a sum, and adds the next block at each later point,
    holds the whole sum at the run's last point. `term` is the summand, the same at all points of a run. -/
theorem run_eq_sum {L J T K a b : Nat} (S : ∀ n, n < L → Mat a b .f32) (hK : K = J * T) (hJ : 0 < J)
    (term : Fin L → Fin K → Fin a → Fin b → EReal) (hT : ∀ t t' : Fin L, t.val / J = t'.val / J → term t = term t')
    (first : ∀ t : Fin L, t.val % J = 0 → ∀ r j, S t.val t.isLt (ix2 r j)
      = ∑ k : Fin T, term t ⟨t.val % J * T + k.val, run_lt hK hJ t.val k⟩ r j)
    (next : ∀ t : Fin L, ¬t.val % J = 0 → ∀ r j, S t.val t.isLt (ix2 r j)
      = S (t.val - 1) (Nat.lt_of_le_of_lt (Nat.sub_le _ _) t.isLt) (ix2 r j)
        + ∑ k : Fin T, term t ⟨t.val % J * T + k.val, run_lt hK hJ t.val k⟩ r j)
    (t : Fin L) (ht : t.val % J = J - 1) (r : Fin a) (j : Fin b) :
    S t.val t.isLt (ix2 r j) = ∑ k : Fin K, term t k r j := by
  haveI : NeZero J := ⟨hJ.ne'⟩
  have h := Pipeline.eq_sum_fin_of_reset_step_apply_of_flush S J (fun _ => (0 : EReal))
    (fun t i => ∑ k : Fin T, term t ⟨t.val % J * T + k.val, run_lt hK hJ t.val k⟩ (i 0) (i 1))
    (fun t h i => by
      obtain ⟨r, j, rfl⟩ : ∃ r j, i = ix2 r j := ⟨i 0, i 1, eq_ix2 i⟩
      rw [first t h r j, zero_add]; rfl)
    (fun t h i => by
      obtain ⟨r, j, rfl⟩ : ∃ r j, i = ix2 r j := ⟨i 0, i 1, eq_ix2 i⟩
      rw [next t h r j]; rfl) t ht (ix2 r j)
  refine h.trans ?_
  rw [zero_add]
  refine Fin.sum_mul_add_congr (fun s k hl => ?_) hK
  have e : (J * (t.val / J) + s.val) % J = s.val := by rw [Nat.mul_add_mod, Nat.mod_eq_of_lt s.isLt]
  rw [hT ⟨J * (t.val / J) + s.val, Pipeline.run_point_lt_of_flush t ht s⟩ t
    (by show (J * (t.val / J) + s.val) / J = _; rw [Nat.mul_add_div hJ, Nat.div_eq_of_lt s.isLt, Nat.add_zero])]
  simp only [e]
  rfl

end Cert.Products

end
-- ==== Proof.Lin.lean ====
/- A projection: the rows of the input times the columns of the weight, and the bias on every row. -/
module

public import proofs.«01_k».proof.Proof.Gen.KernelLinIdeal.Value
public import proofs.«01_k».proof.Proof.Gen.ReferenceLinIdeal.Run
public import proofs.«01_k».proof.Proof.Gen.ReferenceLinIdeal.Read
public import proofs.«01_k».proof.Proof.Products
public import Idealize.ShloMosaic.Lib.Pipeline.ValueKit
public import Idealize.ShloMosaic.Lib.Pipeline.ValueKit.Point
public import Idealize.ShloMosaic.Lib.Pointwise

@[expose] public section

noncomputable section

namespace Cert.Lin

open Cert.KernelLinIdeal Cert.KernelLinIdeal.Gen Idealize.ShloMosaic Idealize.ShloMosaic.TcCoe Idealize.SL.Sem
open Cert.Products

variable (m : (ℓ : Loc nD τ sig) → Buf (Elt Ideal) ℓ) (c : Dev nD)

abbrev Ax : Mat 9216 1024 .f32 := m (c.tc.loc main_arg0)
abbrev Aw : Mat 1024 1024 .bf16 := m (c.tc.loc main_arg1)
abbrev Ab : FVec Ideal (⟨1, ![1024]⟩ : Shape) .f32 := m (c.tc.loc main_arg2)

theorem lt9 (t : Fin cfg0.N) : t.val < 9 := t.isLt

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val, 0] := (by decide +kernel : ∀ t : Fin grid0.N, _)

theorem x_apply (t : Fin cfg0.N) (r k : Fin 1024) :
    (iblk m c 0 t : FVec Ideal S1024x1024 .f32) (ix2 r k) = Ax m c (ix2 ⟨t.val * 1024 + r.val, by have := lt9 t; omega⟩ k) := by
  unfold Ax
  have e := idx0 t
  blk_point [iblk, V, e]
theorem w_apply (t : Fin cfg0.N) (k j : Fin 1024) :
    (iblk m c 1 t : FVec Ideal S1024x1024 .bf16) (ix2 k j) = Aw m c (ix2 k j) := by
  unfold Aw
  have e := idx1 t
  blk_point [iblk, V, e]
theorem b_apply (t : Fin cfg0.N) (j : Fin 1024) :
    (iblk m c 2 t : FVec Ideal S1x1024 .f32) (ix2 0 j) = Ab m c (ix1 j) := by
  unfold Ab
  have e := idx2 t
  blk_point [iblk, V, e]

theorem pay_apply (x : FVec Ideal S1024x1024 .f32) (w : FVec Ideal S1024x1024 .bf16) (b : FVec Ideal S1x1024 .f32) (r j : Fin 1024) :
    k0_pay3 (k0_pay2 k0_pay1 x w) b (ix2 r j) = (∑ k : Fin 1024, x (ix2 r k) * w (ix2 k j)) + b (ix2 0 j) := by
  unfold k0_pay3 k0_pay2 k0_pay1
  pointwise

theorem out_y : (dats m 0 c).arrAt 3 cfg0.N = plusRow (nn (Ax m c) (Aw m c)) (Ab m c) := by
  refine (dats m 0 c).arrAt_eq_of_covers 3 _ (by decide +kernel) fun t hf y => ?_
  blk_simp
  rw [after0_3]
  obtain ⟨r, j, rfl⟩ : ∃ r j, y = ix2 r j := ⟨y 0, y 1, eq_ix2 y⟩
  unfold outsAt0
  frame_out
  rw [pay_apply]
  simp only [x_apply, w_apply, b_apply]
  have e := idx3 t
  exact (plusRow_nn_at (Ax m c) (Aw m c) (Ab m c) _ _ _ (by blk_simp [e]) (by blk_simp [e])).symm

theorem ref_eq (x : Mat 9216 1024 .f32) (w : Mat 1024 1024 .bf16) (b : FVec Ideal (⟨1, ![1024]⟩ : Shape) .f32) :
    Cert.ReferenceLinIdeal.Read.val_main_v4 (F := Ideal) x w b = plusRow (nn x w) b := by
  funext i
  obtain ⟨r, j, rfl⟩ : ∃ r j, i = ix2 r j := ⟨i 0, i 1, eq_ix2 i⟩
  rw [plusRow_nn_at x w b _ r j rfl rfl]
  unfold Cert.ReferenceLinIdeal.Read.val_main_v4 Cert.ReferenceLinIdeal.Read.val_main_v3 Cert.ReferenceLinIdeal.Read.val_main_v2
    Cert.ReferenceLinIdeal.Read.val_main_v1 Cert.ReferenceLinIdeal.Read.val_main_v0
  pointwise

end Cert.Lin

end
-- ==== Proof.LinDx.lean ====
/- The gradient of a projection's input: the products of the rows of the incoming gradient with the rows of the weight. -/
module

public import proofs.«01_k».proof.Proof.Gen.KernelLinDxIdeal.Value
public import proofs.«01_k».proof.Proof.Gen.ReferenceLinDxIdeal.Run
public import proofs.«01_k».proof.Proof.Gen.ReferenceLinDxIdeal.Read
public import Idealize.ShloMosaic.Lib.Pipeline.ValueKit
public import Idealize.ShloMosaic.Lib.Pipeline.ValueKit.Point
public import Idealize.ShloMosaic.Lib.Pointwise
public import proofs.«01_k».proof.Proof.Products

@[expose] public section

noncomputable section

namespace Cert.LinDx

open Cert.KernelLinDxIdeal Cert.KernelLinDxIdeal.Gen Idealize.ShloMosaic Idealize.ShloMosaic.TcCoe Idealize.SL.Sem
open Cert.Products

variable (m : (ℓ : Loc nD τ sig) → Buf (Elt Ideal) ℓ) (c : Dev nD)

abbrev Aw : Mat 1024 1024 .bf16 := m (c.tc.loc main_arg0)
abbrev Ady : Mat 9216 1024 .f32 := m (c.tc.loc main_arg1)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

theorem lt9 (t : Fin cfg0.N) : t.val < 9 := t.isLt

theorem dy_apply (t : Fin cfg0.N) (r k : Fin 1024) :
    (iblk m c 0 t : FVec Ideal S1024x1024 .f32) (ix2 r k) = Ady m c (ix2 ⟨t.val * 1024 + r.val, by have := lt9 t; omega⟩ k) := by
  unfold Ady
  have e := idx0 t
  blk_point [iblk, V, e]
theorem w_apply (t : Fin cfg0.N) (j k : Fin 1024) :
    (iblk m c 1 t : FVec Ideal S1024x1024 .bf16) (ix2 j k) = Aw m c (ix2 j k) := by
  unfold Aw
  have e := idx1 t
  blk_point [iblk, V, e]

theorem pay_apply (x : FVec Ideal S1024x1024 .f32) (w : FVec Ideal S1024x1024 .bf16) (r j : Fin 1024) :
    k0_pay2 k0_pay1 x w (ix2 r j) = ∑ k : Fin 1024, x (ix2 r k) * w (ix2 j k) := by
  unfold k0_pay2 k0_pay1
  pointwise

theorem out_dx : (dats m 0 c).arrAt 2 cfg0.N = nt (Ady m c) (Aw m c) := by
  refine (dats m 0 c).arrAt_eq_of_covers 2 _ (by decide +kernel) fun t hf y => ?_
  blk_simp
  rw [after0_2]
  obtain ⟨r, j, rfl⟩ : ∃ r j, y = ix2 r j := ⟨y 0, y 1, eq_ix2 y⟩
  unfold outsAt0
  frame_out
  rw [pay_apply]
  simp only [dy_apply, w_apply]
  have e := idx2 t
  exact (nt_at (Ady m c) (Aw m c) _ _ _ (by blk_simp [e]) (by blk_simp [e])).symm

theorem ref_eq (w : Mat 1024 1024 .bf16) (dy : Mat 9216 1024 .f32) : Cert.ReferenceLinDxIdeal.Read.val_main_v3 (F := Ideal) w dy = nt dy w := by
  funext i
  obtain ⟨r, j, rfl⟩ : ∃ r j, i = ix2 r j := ⟨i 0, i 1, eq_ix2 i⟩
  unfold Cert.ReferenceLinDxIdeal.Read.val_main_v3 Cert.ReferenceLinDxIdeal.Read.val_main_v1
  pointwise
  rfl

end Cert.LinDx

end
-- ==== Proof.LinDw.lean ====
/- The gradient of a projection's weight: the columns of the input times the columns of the incoming gradient, summed over
   nine blocks of rows in a scratch buffer that the points share, and written out at the last of them. -/
module

public import proofs.«01_k».proof.Proof.Gen.KernelLinDwIdeal.Value
public import proofs.«01_k».proof.Proof.Gen.ReferenceLinDwIdeal.Run
public import proofs.«01_k».proof.Proof.Gen.ReferenceLinDwIdeal.Read
public import proofs.«01_k».proof.Proof.Products
public import Idealize.ShloMosaic.Lib.Pipeline.ValueKit
public import Idealize.ShloMosaic.Lib.Pipeline.ValueKit.Point
public import Idealize.ShloMosaic.Lib.Pointwise

@[expose] public section

noncomputable section

namespace Cert.LinDw

open Cert.KernelLinDwIdeal Cert.KernelLinDwIdeal.Gen Idealize.ShloMosaic Idealize.ShloMosaic.TcCoe Idealize.SL.Sem
open Cert.Products

variable (m : (ℓ : Loc nD τ sig) → Buf (Elt Ideal) ℓ) (c : Dev nD)

abbrev Ax : Mat 9216 1024 .f32 := m (c.tc.loc main_arg0)
abbrev Ady : Mat 9216 1024 .f32 := m (c.tc.loc main_arg1)

theorem lt9 (t : Fin cfg0.N) : t.val < 9 := t.isLt

theorem idx0 : ∀ t : Fin cfg0.N, win0_0.index t = ![t.val % 9, 0] := (by decide +kernel : ∀ t : Fin grid0.N, _)
theorem idx1 : ∀ t : Fin cfg0.N, win0_1.index t = ![t.val % 9, 0] := (by decide +kernel : ∀ t : Fin grid0.N, _)
theorem idx2 : ∀ t : Fin cfg0.N, win0_2.index t = ![0, 0] := (by decide +kernel : ∀ t : Fin grid0.N, _)

theorem x_apply (t : Fin cfg0.N) (k r : Fin 1024) :
    (iblk m c 0 t : FVec Ideal S1024x1024 .f32) (ix2 k r) = Ax m c (ix2 ⟨t.val % 9 * 1024 + k.val, by omega⟩ r) := by
  unfold Ax
  have e := idx0 t
  blk_point [iblk, V, e]
theorem dy_apply (t : Fin cfg0.N) (k j : Fin 1024) :
    (iblk m c 1 t : FVec Ideal S1024x1024 .f32) (ix2 k j) = Ady m c (ix2 ⟨t.val % 9 * 1024 + k.val, by omega⟩ j) := by
  unfold Ady
  have e := idx1 t
  blk_point [iblk, V, e]

theorem zero_apply (i : S1024x1024.Idx) : k0_pay1 (F := Ideal) i = (0 : EReal) := Ideal.ofBits_zero_f32
theorem step_apply (acc x dy : FVec Ideal S1024x1024 .f32) (r j : Fin 1024) :
    k0_pay2 acc x dy (ix2 r j) = acc (ix2 r j) + ∑ k : Fin 1024, x (ix2 k r) * dy (ix2 k j) := by
  unfold k0_pay2
  pointwise

/-- What the scratch buffer holds after a point: from zero at the first of a run, from the point before at the others. -/
theorem first (t : Fin cfg0.N) (h : t.val % 9 = 0) :
    (outsAt0 m c t.val t.isLt).2 = k0_pay2 k0_pay1 (iblk m c 0 t) (iblk m c 1 t) := by
  rw [outsAt0_A m c t h (by omega)]; frame_out
theorem next (t : Fin cfg0.N) (h : ¬t.val % 9 = 0) :
    (outsAt0 m c t.val t.isLt).2
      = k0_pay2 (outsAt0 m c (t.val - 1) (Nat.lt_of_le_of_lt (Nat.sub_le _ _) t.isLt)).2 (iblk m c 0 t) (iblk m c 1 t) := by
  by_cases h1 : t.val % 9 = 8
  · rw [outsAt0_C m c t h h1]; frame_out; rw [(Memref.isWhole_whole _).read_unread]
  · rw [outsAt0_B m c t h h1]; frame_out; rw [(Memref.isWhole_whole _).read_unread]
theorem last (t : Fin cfg0.N) (h : t.val % 9 = 8) :
    (outsAt0 m c t.val t.isLt).1 = k0_pay3 (outsAt0 m c t.val t.isLt).2 := by
  rw [outsAt0_C m c t (by omega) h]; frame_out
theorem cast_apply (a : FVec Ideal S1024x1024 .f32) (i : S1024x1024.Idx) : (k0_pay3 (F := Ideal) a i : EReal) = a i := rfl

theorem out_dw : (dats m 0 c).arrAt 2 cfg0.N = tn (Ax m c) (Ady m c) := by
  refine (dats m 0 c).arrAt_eq_of_covers 2 _ (by decide +kernel) fun t hf y => ?_
  blk_simp
  rw [after0_2]
  obtain ⟨r, j, rfl⟩ : ∃ r j, y = ix2 r j := ⟨y 0, y 1, eq_ix2 y⟩
  have ht := (flush0_2 t).mp hf
  rw [last m c t ht, cast_apply]
  have e := idx2 t
  refine Eq.trans ?_ (tn_at (Ax m c) (Ady m c) _ r j (by blk_simp [e]) (by blk_simp [e])).symm
  exact run_eq_sum (J := 9) (T := 1024) (fun n h => (outsAt0 m c n h).2) rfl (by decide)
    (fun _ k r j => Ax m c (ix2 k r) * Ady m c (ix2 k j)) (fun _ _ _ => rfl)
    (fun t h r j => by rw [first m c t h, step_apply, zero_apply, zero_add]; simp only [x_apply, dy_apply])
    (fun t h r j => by rw [next m c t h, step_apply]; simp only [x_apply, dy_apply]) t ht r j

theorem ref_eq (x dy : Mat 9216 1024 .f32) : Cert.ReferenceLinDwIdeal.Read.val_main_v5 (F := Ideal) x dy = tn x dy := by
  funext i
  obtain ⟨r, j, rfl⟩ : ∃ r j, i = ix2 r j := ⟨i 0, i 1, eq_ix2 i⟩
  unfold Cert.ReferenceLinDwIdeal.Read.val_main_v5 Cert.ReferenceLinDwIdeal.Read.val_main_v4 Cert.ReferenceLinDwIdeal.Read.val_main_v3
  pointwise
  rw [tn_at x dy _ r j rfl rfl]
  exact Finset.sum_congr rfl fun k _ => mul_comm _ _

end Cert.LinDw

end
-- ==== Proof.LinDb.lean ====
/- The gradient of a projection's bias: the sums of the columns of the incoming gradient, over nine blocks of rows. -/
module

public import proofs.«01_k».proof.Proof.Gen.KernelLinDbIdeal.Value
public import proofs.«01_k».proof.Proof.Gen.ReferenceLinDbIdeal.Run
public import proofs.«01_k».proof.Proof.Gen.ReferenceLinDbIdeal.Read
public import proofs.«01_k».proof.Proof.Products
public import Idealize.ShloMosaic.Lib.Pipeline.ValueKit
public import Idealize.ShloMosaic.Lib.Pipeline.ValueKit.Point
public import Idealize.ShloMosaic.Lib.Pointwise

@[expose] public section

noncomputable section

namespace Cert.LinDb

open Cert.KernelLinDbIdeal Cert.KernelLinDbIdeal.Gen Idealize.ShloMosaic Idealize.ShloMosaic.TcCoe Idealize.SL.Sem
open Cert.Products

variable (m : (ℓ : Loc nD τ sig) → Buf (Elt Ideal) ℓ) (c : Dev nD)

abbrev Ady : Mat 9216 1024 .f32 := m (c.tc.loc main_arg0)

theorem idx0 : ∀ t : Fin cfg0.N, win0_0.index t = ![t.val % 9, 0] := (by decide +kernel : ∀ t : Fin grid0.N, _)
theorem idx1 : ∀ t : Fin cfg0.N, win0_1.index t = ![0, 0] := (by decide +kernel : ∀ t : Fin grid0.N, _)

theorem dy_apply (t : Fin cfg0.N) (k j : Fin 1024) :
    (iblk m c 0 t : FVec Ideal S1024x1024 .f32) (ix2 k j) = Ady m c (ix2 ⟨t.val % 9 * 1024 + k.val, by omega⟩ j) := by
  unfold Ady
  have e := idx0 t
  blk_point [iblk, V, e]

theorem zero_apply (i : S1x1024.Idx) : k0_pay1 (F := Ideal) i = (0 : EReal) := Ideal.ofBits_zero_f32
theorem step_apply (acc : FVec Ideal S1x1024 .f32) (dy : FVec Ideal S1024x1024 .f32) (r : Fin 1) (j : Fin 1024) :
    k0_pay2 acc dy (ix2 r j) = acc (ix2 r j) + ∑ k : Fin 1024, dy (ix2 k j) := by
  unfold k0_pay2
  pointwise

theorem first (t : Fin cfg0.N) (h : t.val % 9 = 0) :
    outsAt0 m c t.val t.isLt = k0_pay2 k0_pay1 (iblk m c 0 t) := by
  rw [outsAt0_A m c t h]; frame_out
theorem next (t : Fin cfg0.N) (h : ¬t.val % 9 = 0) :
    outsAt0 m c t.val t.isLt
      = k0_pay2 (outsAt0 m c (t.val - 1) (Nat.lt_of_le_of_lt (Nat.sub_le _ _) t.isLt)) (iblk m c 0 t) := by
  rw [outsAt0_B m c t h]; frame_out

theorem out_db : (dats m 0 c).arrAt 1 cfg0.N = colsum (Ady m c) := by
  refine (dats m 0 c).arrAt_eq_of_covers 1 _ (by decide +kernel) fun t hf y => ?_
  blk_simp
  rw [after0_1]
  obtain ⟨r, j, rfl⟩ : ∃ r j, y = ix2 r j := ⟨y 0, y 1, eq_ix2 y⟩
  have ht := (flush0_1 t).mp hf
  have e := idx1 t
  refine Eq.trans ?_ (colsum_at (Ady m c) _ j (by blk_simp [e])).symm
  refine (Pipeline.eq_sum_fin_of_reset_step_apply_of_flush (fun n h => outsAt0 m c n h) 9 (fun _ => (0 : EReal))
    (fun t i => ∑ k : Fin 1024, Ady m c (ix2 ⟨t.val % 9 * 1024 + k.val, by omega⟩ (i 1))) ?_ ?_ t ht (ix2 r j)).trans ?_
  · intro t h i
    obtain ⟨r, j, rfl⟩ : ∃ r j, i = ix2 r j := ⟨i 0, i 1, eq_ix2 i⟩
    rw [first m c t h, step_apply, zero_apply]
    simp only [dy_apply]; rfl
  · intro t h i
    obtain ⟨r, j, rfl⟩ : ∃ r j, i = ix2 r j := ⟨i 0, i 1, eq_ix2 i⟩
    rw [next m c t h, step_apply]
    simp only [dy_apply]; rfl
  · rw [zero_add]
    refine Fin.sum_mul_add_congr fun s k hl => ?_
    have e : (9 * (t.val / 9) + s.val) % 9 * 1024 + k.val = s.val * 1024 + k.val := by have := s.isLt; omega
    simp only [e]
    rfl

theorem ref_eq (dy : Mat 9216 1024 .f32) :
    Cert.ReferenceLinDbIdeal.Read.val_main_v5 (F := Ideal) dy = colsum dy := by
  funext i
  obtain ⟨r, j, rfl⟩ : ∃ r j, i = ix2 r j := ⟨i 0, i 1, eq_ix2 i⟩
  rw [colsum_at dy _ j rfl]
  unfold Cert.ReferenceLinDbIdeal.Read.val_main_v5 Cert.ReferenceLinDbIdeal.Read.val_main_v4 Cert.ReferenceLinDbIdeal.Read.val_main_cst_1
  pointwise

end Cert.LinDb

end
-- ==== Proof.LinClaims.lean ====
/- The claims about the projection and its three gradients: the references' frames, and the equations. -/
module

public import proofs.«01_k».proof.Defs
public import proofs.«01_k».proof.Proof.Lin
public import proofs.«01_k».proof.Proof.LinDx
public import proofs.«01_k».proof.Proof.LinDw
public import proofs.«01_k».proof.Proof.LinDb
public import Idealize.ShloMosaic.Adequacy
public import Idealize.ShloMosaic.Init

@[expose] public section

noncomputable section

namespace Cert.Proof

open Idealize.ShloMosaic Idealize.SL.Sem

/-- The frame of a host program from its run: the results' values are dropped, and there are no semaphores. -/
theorem frame_referenceLinIdeal : Cert.quiescent_ReferenceLinIdeal := fun m ρ _ =>
  (θ_run Cert.ReferenceLinIdeal.defs _ _).mono
    (fun r h => ⟨fun c => (h c).2, sem_eq_zero_of_no_sems (by decide) r.2⟩) (Cert.ReferenceLinIdeal.Value.run (F := Ideal) m ρ)
theorem frame_referenceLinDxIdeal : Cert.quiescent_ReferenceLinDxIdeal := fun m ρ _ =>
  (θ_run Cert.ReferenceLinDxIdeal.defs _ _).mono
    (fun r h => ⟨fun c => (h c).2, sem_eq_zero_of_no_sems (by decide) r.2⟩) (Cert.ReferenceLinDxIdeal.Value.run (F := Ideal) m ρ)
theorem frame_referenceLinDwIdeal : Cert.quiescent_ReferenceLinDwIdeal := fun m ρ _ =>
  (θ_run Cert.ReferenceLinDwIdeal.defs _ _).mono
    (fun r h => ⟨fun c => (h c).2, sem_eq_zero_of_no_sems (by decide) r.2⟩) (Cert.ReferenceLinDwIdeal.Value.run (F := Ideal) m ρ)
theorem frame_referenceLinDbIdeal : Cert.quiescent_ReferenceLinDbIdeal := fun m ρ _ =>
  (θ_run Cert.ReferenceLinDbIdeal.defs _ _).mono
    (fun r h => ⟨fun c => (h c).2, sem_eq_zero_of_no_sems (by decide) r.2⟩) (Cert.ReferenceLinDbIdeal.Value.run (F := Ideal) m ρ)

/-- A projection: both arrays are x w + b. -/
theorem algebraic_lin : Cert.algebraic_KernelLinIdeal_ReferenceLinIdeal := by
  intro m g m' g' _ hagree
  refine ⟨fun c => Cert.Products.plusRow (Cert.Products.nn (Cert.Lin.Ax m c) (Cert.Lin.Aw m c)) (Cert.Lin.Ab m c),
    (θ_run Cert.KernelLinIdeal.defs _ _).mono (fun _ h c => ⟨(h c).1.trans (Cert.Lin.out_y m c), (h c).2⟩)
      (Cert.KernelLinIdeal.Value.run_blocks (F := Ideal) m g),
    (θ_run Cert.ReferenceLinIdeal.defs _ _).mono (fun _ h c => ⟨?_, (h c).2⟩) (Cert.ReferenceLinIdeal.Value.run (F := Ideal) m' g')⟩
  have h0 := (h c).1
  obtain ⟨a0, a1, a2⟩ := hagree c
  rwa [Cert.ReferenceLinIdeal.Read.val_main_v4_eq, Cert.Lin.ref_eq, a0, a1, a2] at h0

/-- The gradient of a projection's input: both arrays are dy wᵀ. -/
theorem algebraic_linDx : Cert.algebraic_KernelLinDxIdeal_ReferenceLinDxIdeal := by
  intro m g m' g' _ hagree
  refine ⟨fun c => Cert.Products.nt (Cert.LinDx.Ady m c) (Cert.LinDx.Aw m c),
    (θ_run Cert.KernelLinDxIdeal.defs _ _).mono (fun _ h c => ⟨(h c).1.trans (Cert.LinDx.out_dx m c), (h c).2⟩)
      (Cert.KernelLinDxIdeal.Value.run_blocks (F := Ideal) m g),
    (θ_run Cert.ReferenceLinDxIdeal.defs _ _).mono (fun _ h c => ⟨?_, (h c).2⟩) (Cert.ReferenceLinDxIdeal.Value.run (F := Ideal) m' g')⟩
  have h0 := (h c).1
  obtain ⟨a0, a1⟩ := hagree c
  rwa [Cert.ReferenceLinDxIdeal.Read.val_main_v3_eq, Cert.LinDx.ref_eq, a0, a1] at h0

/-- The gradient of a projection's weight: both arrays are xᵀ dy. -/
theorem algebraic_linDw : Cert.algebraic_KernelLinDwIdeal_ReferenceLinDwIdeal := by
  intro m g m' g' _ hagree
  refine ⟨fun c => Cert.Products.tn (Cert.LinDw.Ax m c) (Cert.LinDw.Ady m c),
    (θ_run Cert.KernelLinDwIdeal.defs _ _).mono (fun _ h c => ⟨(h c).1.trans (Cert.LinDw.out_dw m c), (h c).2⟩)
      (Cert.KernelLinDwIdeal.Value.run_blocks (F := Ideal) m g),
    (θ_run Cert.ReferenceLinDwIdeal.defs _ _).mono (fun _ h c => ⟨?_, (h c).2⟩) (Cert.ReferenceLinDwIdeal.Value.run (F := Ideal) m' g')⟩
  have h0 := (h c).1
  obtain ⟨a0, a1⟩ := hagree c
  rwa [Cert.ReferenceLinDwIdeal.Read.val_main_v5_eq, Cert.LinDw.ref_eq, a0, a1] at h0

/-- The gradient of a projection's bias: both arrays are the sums of the columns. -/
theorem algebraic_linDb : Cert.algebraic_KernelLinDbIdeal_ReferenceLinDbIdeal := by
  intro m g m' g' _ hagree
  refine ⟨fun c => Cert.Products.colsum (Cert.LinDb.Ady m c),
    (θ_run Cert.KernelLinDbIdeal.defs _ _).mono (fun _ h c => ⟨(h c).1.trans (Cert.LinDb.out_db m c), (h c).2⟩)
      (Cert.KernelLinDbIdeal.Value.run_blocks (F := Ideal) m g),
    (θ_run Cert.ReferenceLinDbIdeal.defs _ _).mono (fun _ h c => ⟨?_, (h c).2⟩) (Cert.ReferenceLinDbIdeal.Value.run (F := Ideal) m' g')⟩
  have h0 := (h c).1
  rwa [Cert.ReferenceLinDbIdeal.Read.val_main_v5_eq, Cert.LinDb.ref_eq, hagree c] at h0

end Cert.Proof

end
-- ==== Proof.FfnUp.lean ====
/- The first product of the ConvFFN, from 1024 to 2816 columns, and its two gradients. -/
module

public import proofs.«01_k».proof.Proof.Gen.KernelUpIdeal.Value
public import proofs.«01_k».proof.Proof.Gen.ReferenceUpIdeal.Run
public import proofs.«01_k».proof.Proof.Gen.ReferenceUpIdeal.Read
public import proofs.«01_k».proof.Proof.Gen.KernelUpDxIdeal.Value
public import proofs.«01_k».proof.Proof.Gen.ReferenceUpDxIdeal.Run
public import proofs.«01_k».proof.Proof.Gen.ReferenceUpDxIdeal.Read
public import proofs.«01_k».proof.Proof.Gen.KernelUpDwIdeal.Value
public import proofs.«01_k».proof.Proof.Gen.ReferenceUpDwIdeal.Run
public import proofs.«01_k».proof.Proof.Gen.ReferenceUpDwIdeal.Read
public import proofs.«01_k».proof.Proof.Products
public import Idealize.ShloMosaic.Lib.Pipeline.ValueKit
public import Idealize.ShloMosaic.Lib.Pipeline.ValueKit.Point
public import Idealize.ShloMosaic.Lib.Pointwise

@[expose] public section

noncomputable section

namespace Cert.Up

open Cert.KernelUpIdeal Cert.KernelUpIdeal.Gen Idealize.ShloMosaic Idealize.ShloMosaic.TcCoe Idealize.SL.Sem
open Cert.Products

variable (m : (ℓ : Loc nD τ sig) → Buf (Elt Ideal) ℓ) (c : Dev nD)

abbrev Ax : Mat 9216 1024 .f32 := m (c.tc.loc main_arg0)
abbrev Aw : Mat 1024 2816 .bf16 := m (c.tc.loc main_arg1)

theorem lt18 (t : Fin cfg0.N) : t.val < 18 := t.isLt

/-- The point's tile: a block of rows for every two points, and the two halves of the columns in turn. -/
theorem idx0 : ∀ t : Fin cfg0.N, win0_0.index t = ![t.val / 2, 0] := (by decide +kernel : ∀ t : Fin grid0.N, _)
theorem idx1 : ∀ t : Fin cfg0.N, win0_1.index t = ![0, t.val % 2] := (by decide +kernel : ∀ t : Fin grid0.N, _)
theorem idx2 : ∀ t : Fin cfg0.N, win0_2.index t = ![t.val / 2, t.val % 2] := (by decide +kernel : ∀ t : Fin grid0.N, _)

theorem x_apply (t : Fin cfg0.N) (r k : Fin 1024) :
    (iblk m c 0 t : FVec Ideal S1024x1024 .f32) (ix2 r k) = Ax m c (ix2 ⟨t.val / 2 * 1024 + r.val, by have := lt18 t; omega⟩ k) := by
  unfold Ax
  have e := idx0 t
  blk_point [iblk, V, e]
theorem w_apply (t : Fin cfg0.N) (k : Fin 1024) (j : Fin 1408) :
    (iblk m c 1 t : FVec Ideal S1024x1408 .bf16) (ix2 k j) = Aw m c (ix2 k ⟨t.val % 2 * 1408 + j.val, by omega⟩) := by
  unfold Aw
  have e := idx1 t
  blk_point [iblk, V, e]

theorem pay_apply (x : FVec Ideal S1024x1024 .f32) (w : FVec Ideal S1024x1408 .bf16) (r : Fin 1024) (j : Fin 1408) :
    k0_pay2 k0_pay1 x w (ix2 r j) = ∑ k : Fin 1024, x (ix2 r k) * w (ix2 k j) := by
  unfold k0_pay2 k0_pay1
  pointwise

theorem out_y : (dats m 0 c).arrAt 2 cfg0.N = nn (Ax m c) (Aw m c) := by
  refine (dats m 0 c).arrAt_eq_of_covers 2 _ (by decide +kernel) fun t hf y => ?_
  blk_simp
  rw [after0_2]
  obtain ⟨r, j, rfl⟩ : ∃ r j, y = ix2 r j := ⟨y 0, y 1, eq_ix2 y⟩
  unfold outsAt0
  frame_out
  rw [pay_apply]
  simp only [x_apply, w_apply]
  have e := idx2 t
  exact (nn_at (Ax m c) (Aw m c) _ _ _ (by blk_simp [e]) (by blk_simp [e])).symm

theorem ref_eq (x : Mat 9216 1024 .f32) (w : Mat 1024 2816 .bf16) : Cert.ReferenceUpIdeal.Read.val_main_v1 (F := Ideal) x w = nn x w := by
  funext i
  obtain ⟨r, j, rfl⟩ : ∃ r j, i = ix2 r j := ⟨i 0, i 1, eq_ix2 i⟩
  rw [nn_at x w _ r j rfl rfl]
  unfold Cert.ReferenceUpIdeal.Read.val_main_v1 Cert.ReferenceUpIdeal.Read.val_main_v0
  pointwise

end Cert.Up

namespace Cert.UpDx

open Cert.KernelUpDxIdeal Cert.KernelUpDxIdeal.Gen Idealize.ShloMosaic Idealize.ShloMosaic.TcCoe Idealize.SL.Sem
open Cert.Products

variable (m : (ℓ : Loc nD τ sig) → Buf (Elt Ideal) ℓ) (c : Dev nD)

abbrev Aw : Mat 1024 2816 .bf16 := m (c.tc.loc main_arg0)
abbrev Ady : Mat 9216 2816 .f32 := m (c.tc.loc main_arg1)

theorem lt99 (t : Fin cfg0.N) : t.val < 99 := t.isLt

/-- The point's tile: a block of rows for every eleven points, and eleven blocks of 256 terms in turn. -/
theorem idx0 : ∀ t : Fin cfg0.N, win0_0.index t = ![t.val / 11, t.val % 11] := (by decide +kernel : ∀ t : Fin grid0.N, _)
theorem idx1 : ∀ t : Fin cfg0.N, win0_1.index t = ![0, t.val % 11] := (by decide +kernel : ∀ t : Fin grid0.N, _)
theorem idx2 : ∀ t : Fin cfg0.N, win0_2.index t = ![t.val / 11, 0] := (by decide +kernel : ∀ t : Fin grid0.N, _)

theorem dy_apply (t : Fin cfg0.N) (r : Fin 1024) (k : Fin 256) :
    (iblk m c 0 t : FVec Ideal S1024x256 .f32) (ix2 r k)
      = Ady m c (ix2 ⟨t.val / 11 * 1024 + r.val, by have := lt99 t; omega⟩ ⟨t.val % 11 * 256 + k.val, by omega⟩) := by
  unfold Ady
  have e := idx0 t
  blk_point [iblk, V, e]
theorem w_apply (t : Fin cfg0.N) (j : Fin 1024) (k : Fin 256) :
    (iblk m c 1 t : FVec Ideal S1024x256 .bf16) (ix2 j k) = Aw m c (ix2 j ⟨t.val % 11 * 256 + k.val, by omega⟩) := by
  unfold Aw
  have e := idx1 t
  blk_point [iblk, V, e]

theorem zero_apply (i : S1024x1024.Idx) : k0_pay1 (F := Ideal) i = (0 : EReal) := Ideal.ofBits_zero_f32
theorem step_apply (acc : FVec Ideal S1024x1024 .f32) (x : FVec Ideal S1024x256 .f32) (w : FVec Ideal S1024x256 .bf16) (r j : Fin 1024) :
    k0_pay2 acc x w (ix2 r j) = acc (ix2 r j) + ∑ k : Fin 256, x (ix2 r k) * w (ix2 j k) := by
  unfold k0_pay2
  pointwise

/-- What the scratch buffer holds after a point: from zero at the first of a run, from the point before at the others. -/
theorem first (t : Fin cfg0.N) (h : t.val % 11 = 0) :
    (outsAt0 m c t.val t.isLt).2 = k0_pay2 k0_pay1 (iblk m c 0 t) (iblk m c 1 t) := by
  rw [outsAt0_A m c t h (by omega)]; frame_out
theorem next (t : Fin cfg0.N) (h : ¬t.val % 11 = 0) :
    (outsAt0 m c t.val t.isLt).2
      = k0_pay2 (outsAt0 m c (t.val - 1) (Nat.lt_of_le_of_lt (Nat.sub_le _ _) t.isLt)).2 (iblk m c 0 t) (iblk m c 1 t) := by
  by_cases h1 : t.val % 11 = 10
  · rw [outsAt0_C m c t h h1]; frame_out; rw [(Memref.isWhole_whole _).read_unread]
  · rw [outsAt0_B m c t h h1]; frame_out; rw [(Memref.isWhole_whole _).read_unread]
theorem last (t : Fin cfg0.N) (h : t.val % 11 = 10) :
    (outsAt0 m c t.val t.isLt).1 = (outsAt0 m c t.val t.isLt).2 := by
  rw [outsAt0_C m c t (by omega) h]; frame_out

theorem out_dx : (dats m 0 c).arrAt 2 cfg0.N = nt (Ady m c) (Aw m c) := by
  refine (dats m 0 c).arrAt_eq_of_covers 2 _ (by decide +kernel) fun t hf y => ?_
  blk_simp
  rw [after0_2]
  obtain ⟨r, j, rfl⟩ : ∃ r j, y = ix2 r j := ⟨y 0, y 1, eq_ix2 y⟩
  have ht := (flush0_2 t).mp hf
  rw [last m c t ht]
  have e := idx2 t
  refine Eq.trans ?_ (nt_at (Ady m c) (Aw m c) _ ⟨t.val / 11 * 1024 + r.val, by have := lt99 t; omega⟩ j (by blk_simp [e]) (by blk_simp [e])).symm
  exact run_eq_sum (J := 11) (T := 256) (fun n h => (outsAt0 m c n h).2) rfl (by decide)
    (fun t k r j => Ady m c (ix2 ⟨t.val / 11 * 1024 + r.val, by have := lt99 t; omega⟩ k) * Aw m c (ix2 j k))
    (fun t t' h => by simp only [h])
    (fun t h r j => by rw [first m c t h, step_apply, zero_apply, zero_add]; simp only [dy_apply, w_apply])
    (fun t h r j => by rw [next m c t h, step_apply]; simp only [dy_apply, w_apply]) t ht r j

theorem ref_eq (w : Mat 1024 2816 .bf16) (dy : Mat 9216 2816 .f32) : Cert.ReferenceUpDxIdeal.Read.val_main_v3 (F := Ideal) w dy = nt dy w := by
  funext i
  obtain ⟨r, j, rfl⟩ : ∃ r j, i = ix2 r j := ⟨i 0, i 1, eq_ix2 i⟩
  rw [nt_at dy w _ r j rfl rfl]
  unfold Cert.ReferenceUpDxIdeal.Read.val_main_v3 Cert.ReferenceUpDxIdeal.Read.val_main_v1
  pointwise

end Cert.UpDx

namespace Cert.UpDw

open Cert.KernelUpDwIdeal Cert.KernelUpDwIdeal.Gen Idealize.ShloMosaic Idealize.ShloMosaic.TcCoe Idealize.SL.Sem
open Cert.Products

variable (m : (ℓ : Loc nD τ sig) → Buf (Elt Ideal) ℓ) (c : Dev nD)

abbrev Ax : Mat 9216 1024 .f32 := m (c.tc.loc main_arg0)
abbrev Ady : Mat 9216 2816 .f32 := m (c.tc.loc main_arg1)

theorem lt18 (t : Fin cfg0.N) : t.val < 18 := t.isLt

/-- The point's tile: a half of the columns for every nine points, and nine blocks of rows in turn. -/
theorem idx0 : ∀ t : Fin cfg0.N, win0_0.index t = ![t.val % 9, 0] := (by decide +kernel : ∀ t : Fin grid0.N, _)
theorem idx1 : ∀ t : Fin cfg0.N, win0_1.index t = ![t.val % 9, t.val / 9] := (by decide +kernel : ∀ t : Fin grid0.N, _)
theorem idx2 : ∀ t : Fin cfg0.N, win0_2.index t = ![0, t.val / 9] := (by decide +kernel : ∀ t : Fin grid0.N, _)

theorem x_apply (t : Fin cfg0.N) (k r : Fin 1024) :
    (iblk m c 0 t : FVec Ideal S1024x1024 .f32) (ix2 k r) = Ax m c (ix2 ⟨t.val % 9 * 1024 + k.val, by omega⟩ r) := by
  unfold Ax
  have e := idx0 t
  blk_point [iblk, V, e]
theorem dy_apply (t : Fin cfg0.N) (k : Fin 1024) (j : Fin 1408) :
    (iblk m c 1 t : FVec Ideal S1024x1408 .f32) (ix2 k j)
      = Ady m c (ix2 ⟨t.val % 9 * 1024 + k.val, by omega⟩ ⟨t.val / 9 * 1408 + j.val, by have := lt18 t; omega⟩) := by
  unfold Ady
  have e := idx1 t
  blk_point [iblk, V, e]

theorem zero_apply (i : S1024x1408.Idx) : k0_pay1 (F := Ideal) i = (0 : EReal) := Ideal.ofBits_zero_f32
theorem step_apply (acc : FVec Ideal S1024x1408 .f32) (x : FVec Ideal S1024x1024 .f32) (dy : FVec Ideal S1024x1408 .f32)
    (r : Fin 1024) (j : Fin 1408) :
    k0_pay2 acc x dy (ix2 r j) = acc (ix2 r j) + ∑ k : Fin 1024, x (ix2 k r) * dy (ix2 k j) := by
  unfold k0_pay2
  pointwise

theorem first (t : Fin cfg0.N) (h : t.val % 9 = 0) :
    (outsAt0 m c t.val t.isLt).2 = k0_pay2 k0_pay1 (iblk m c 0 t) (iblk m c 1 t) := by
  rw [outsAt0_A m c t h (by omega)]; frame_out
theorem next (t : Fin cfg0.N) (h : ¬t.val % 9 = 0) :
    (outsAt0 m c t.val t.isLt).2
      = k0_pay2 (outsAt0 m c (t.val - 1) (Nat.lt_of_le_of_lt (Nat.sub_le _ _) t.isLt)).2 (iblk m c 0 t) (iblk m c 1 t) := by
  by_cases h1 : t.val % 9 = 8
  · rw [outsAt0_C m c t h h1]; frame_out; rw [(Memref.isWhole_whole _).read_unread]
  · rw [outsAt0_B m c t h h1]; frame_out; rw [(Memref.isWhole_whole _).read_unread]
theorem last (t : Fin cfg0.N) (h : t.val % 9 = 8) :
    (outsAt0 m c t.val t.isLt).1 = k0_pay3 (outsAt0 m c t.val t.isLt).2 := by
  rw [outsAt0_C m c t (by omega) h]; frame_out
theorem cast_apply (a : FVec Ideal S1024x1408 .f32) (i : S1024x1408.Idx) : (k0_pay3 (F := Ideal) a i : EReal) = a i := rfl

theorem out_dw : (dats m 0 c).arrAt 2 cfg0.N = tn (Ax m c) (Ady m c) := by
  refine (dats m 0 c).arrAt_eq_of_covers 2 _ (by decide +kernel) fun t hf y => ?_
  blk_simp
  rw [after0_2]
  obtain ⟨r, j, rfl⟩ : ∃ r j, y = ix2 r j := ⟨y 0, y 1, eq_ix2 y⟩
  have ht := (flush0_2 t).mp hf
  rw [last m c t ht, cast_apply]
  have e := idx2 t
  refine Eq.trans ?_ (tn_at (Ax m c) (Ady m c) _ r ⟨t.val / 9 * 1408 + j.val, by have := lt18 t; omega⟩ (by blk_simp [e]) (by blk_simp [e])).symm
  exact run_eq_sum (J := 9) (T := 1024) (fun n h => (outsAt0 m c n h).2) rfl (by decide)
    (fun t k r j => Ax m c (ix2 k r) * Ady m c (ix2 k ⟨t.val / 9 * 1408 + j.val, by have := lt18 t; omega⟩))
    (fun t t' h => by simp only [h])
    (fun t h r j => by rw [first m c t h, step_apply, zero_apply, zero_add]; simp only [x_apply, dy_apply])
    (fun t h r j => by rw [next m c t h, step_apply]; simp only [x_apply, dy_apply]) t ht r j

theorem ref_eq (x : Mat 9216 1024 .f32) (dy : Mat 9216 2816 .f32) : Cert.ReferenceUpDwIdeal.Read.val_main_v5 (F := Ideal) x dy = tn x dy := by
  funext i
  obtain ⟨r, j, rfl⟩ : ∃ r j, i = ix2 r j := ⟨i 0, i 1, eq_ix2 i⟩
  unfold Cert.ReferenceUpDwIdeal.Read.val_main_v5 Cert.ReferenceUpDwIdeal.Read.val_main_v4 Cert.ReferenceUpDwIdeal.Read.val_main_v3
  pointwise
  rw [tn_at x dy _ r j rfl rfl]
  exact Finset.sum_congr rfl fun k _ => mul_comm _ _

end Cert.UpDw

end
-- ==== Proof.FfnDown.lean ====
/- The last product of the ConvFFN, from 2816 to 1024 columns, and its two gradients. -/
module

public import proofs.«01_k».proof.Proof.Gen.KernelDownIdeal.Value
public import proofs.«01_k».proof.Proof.Gen.ReferenceDownIdeal.Run
public import proofs.«01_k».proof.Proof.Gen.ReferenceDownIdeal.Read
public import proofs.«01_k».proof.Proof.Gen.KernelDownDxIdeal.Value
public import proofs.«01_k».proof.Proof.Gen.ReferenceDownDxIdeal.Run
public import proofs.«01_k».proof.Proof.Gen.ReferenceDownDxIdeal.Read
public import proofs.«01_k».proof.Proof.Gen.KernelDownDwIdeal.Value
public import proofs.«01_k».proof.Proof.Gen.ReferenceDownDwIdeal.Run
public import proofs.«01_k».proof.Proof.Gen.ReferenceDownDwIdeal.Read
public import proofs.«01_k».proof.Proof.Products
public import Idealize.ShloMosaic.Lib.Pipeline.ValueKit
public import Idealize.ShloMosaic.Lib.Pipeline.ValueKit.Point
public import Idealize.ShloMosaic.Lib.Pointwise

@[expose] public section

noncomputable section

namespace Cert.Down

open Cert.KernelDownIdeal Cert.KernelDownIdeal.Gen Idealize.ShloMosaic Idealize.ShloMosaic.TcCoe Idealize.SL.Sem
open Cert.Products

variable (m : (ℓ : Loc nD τ sig) → Buf (Elt Ideal) ℓ) (c : Dev nD)

abbrev Ax : Mat 9216 2816 .f32 := m (c.tc.loc main_arg0)
abbrev Aw : Mat 2816 1024 .bf16 := m (c.tc.loc main_arg1)

theorem lt99 (t : Fin cfg0.N) : t.val < 99 := t.isLt

/-- The point's tile: a block of rows for every eleven points, and eleven blocks of 256 terms in turn. -/
theorem idx0 : ∀ t : Fin cfg0.N, win0_0.index t = ![t.val / 11, t.val % 11] := (by decide +kernel : ∀ t : Fin grid0.N, _)
theorem idx1 : ∀ t : Fin cfg0.N, win0_1.index t = ![t.val % 11, 0] := (by decide +kernel : ∀ t : Fin grid0.N, _)
theorem idx2 : ∀ t : Fin cfg0.N, win0_2.index t = ![t.val / 11, 0] := (by decide +kernel : ∀ t : Fin grid0.N, _)

theorem x_apply (t : Fin cfg0.N) (r : Fin 1024) (k : Fin 256) :
    (iblk m c 0 t : FVec Ideal S1024x256 .f32) (ix2 r k)
      = Ax m c (ix2 ⟨t.val / 11 * 1024 + r.val, by have := lt99 t; omega⟩ ⟨t.val % 11 * 256 + k.val, by omega⟩) := by
  unfold Ax
  have e := idx0 t
  blk_point [iblk, V, e]
theorem w_apply (t : Fin cfg0.N) (k : Fin 256) (j : Fin 1024) :
    (iblk m c 1 t : FVec Ideal S256x1024 .bf16) (ix2 k j) = Aw m c (ix2 ⟨t.val % 11 * 256 + k.val, by omega⟩ j) := by
  unfold Aw
  have e := idx1 t
  blk_point [iblk, V, e]

theorem zero_apply (i : S1024x1024.Idx) : k0_pay1 (F := Ideal) i = (0 : EReal) := Ideal.ofBits_zero_f32
theorem step_apply (acc : FVec Ideal S1024x1024 .f32) (x : FVec Ideal S1024x256 .f32) (w : FVec Ideal S256x1024 .bf16) (r j : Fin 1024) :
    k0_pay2 acc x w (ix2 r j) = acc (ix2 r j) + ∑ k : Fin 256, x (ix2 r k) * w (ix2 k j) := by
  unfold k0_pay2
  pointwise

/-- What the scratch buffer holds after a point: from zero at the first of a run, from the point before at the others. -/
theorem first (t : Fin cfg0.N) (h : t.val % 11 = 0) :
    (outsAt0 m c t.val t.isLt).2 = k0_pay2 k0_pay1 (iblk m c 0 t) (iblk m c 1 t) := by
  rw [outsAt0_A m c t h (by omega)]; frame_out
theorem next (t : Fin cfg0.N) (h : ¬t.val % 11 = 0) :
    (outsAt0 m c t.val t.isLt).2
      = k0_pay2 (outsAt0 m c (t.val - 1) (Nat.lt_of_le_of_lt (Nat.sub_le _ _) t.isLt)).2 (iblk m c 0 t) (iblk m c 1 t) := by
  by_cases h1 : t.val % 11 = 10
  · rw [outsAt0_C m c t h h1]; frame_out; rw [(Memref.isWhole_whole _).read_unread]
  · rw [outsAt0_B m c t h h1]; frame_out; rw [(Memref.isWhole_whole _).read_unread]
theorem last (t : Fin cfg0.N) (h : t.val % 11 = 10) :
    (outsAt0 m c t.val t.isLt).1 = (outsAt0 m c t.val t.isLt).2 := by
  rw [outsAt0_C m c t (by omega) h]; frame_out

theorem out_y : (dats m 0 c).arrAt 2 cfg0.N = nn (Ax m c) (Aw m c) := by
  refine (dats m 0 c).arrAt_eq_of_covers 2 _ (by decide +kernel) fun t hf y => ?_
  blk_simp
  rw [after0_2]
  obtain ⟨r, j, rfl⟩ : ∃ r j, y = ix2 r j := ⟨y 0, y 1, eq_ix2 y⟩
  have ht := (flush0_2 t).mp hf
  rw [last m c t ht]
  have e := idx2 t
  refine Eq.trans ?_ (nn_at (Ax m c) (Aw m c) _ ⟨t.val / 11 * 1024 + r.val, by have := lt99 t; omega⟩ j (by blk_simp [e]) (by blk_simp [e])).symm
  exact run_eq_sum (J := 11) (T := 256) (fun n h => (outsAt0 m c n h).2) rfl (by decide)
    (fun t k r j => Ax m c (ix2 ⟨t.val / 11 * 1024 + r.val, by have := lt99 t; omega⟩ k) * Aw m c (ix2 k j))
    (fun t t' h => by simp only [h])
    (fun t h r j => by rw [first m c t h, step_apply, zero_apply, zero_add]; simp only [x_apply, w_apply])
    (fun t h r j => by rw [next m c t h, step_apply]; simp only [x_apply, w_apply]) t ht r j

theorem ref_eq (x : Mat 9216 2816 .f32) (w : Mat 2816 1024 .bf16) : Cert.ReferenceDownIdeal.Read.val_main_v1 (F := Ideal) x w = nn x w := by
  funext i
  obtain ⟨r, j, rfl⟩ : ∃ r j, i = ix2 r j := ⟨i 0, i 1, eq_ix2 i⟩
  rw [nn_at x w _ r j rfl rfl]
  unfold Cert.ReferenceDownIdeal.Read.val_main_v1 Cert.ReferenceDownIdeal.Read.val_main_v0
  pointwise

end Cert.Down

namespace Cert.DownDx

open Cert.KernelDownDxIdeal Cert.KernelDownDxIdeal.Gen Idealize.ShloMosaic Idealize.ShloMosaic.TcCoe Idealize.SL.Sem
open Cert.Products

variable (m : (ℓ : Loc nD τ sig) → Buf (Elt Ideal) ℓ) (c : Dev nD)

abbrev Aw : Mat 2816 1024 .bf16 := m (c.tc.loc main_arg0)
abbrev Ady : Mat 9216 1024 .f32 := m (c.tc.loc main_arg1)

theorem lt18 (t : Fin cfg0.N) : t.val < 18 := t.isLt

/-- The point's tile: a block of rows for every two points, and the two halves of the columns in turn. -/
theorem idx0 : ∀ t : Fin cfg0.N, win0_0.index t = ![t.val / 2, 0] := (by decide +kernel : ∀ t : Fin grid0.N, _)
theorem idx1 : ∀ t : Fin cfg0.N, win0_1.index t = ![t.val % 2, 0] := (by decide +kernel : ∀ t : Fin grid0.N, _)
theorem idx2 : ∀ t : Fin cfg0.N, win0_2.index t = ![t.val / 2, t.val % 2] := (by decide +kernel : ∀ t : Fin grid0.N, _)

theorem dy_apply (t : Fin cfg0.N) (r k : Fin 1024) :
    (iblk m c 0 t : FVec Ideal S1024x1024 .f32) (ix2 r k) = Ady m c (ix2 ⟨t.val / 2 * 1024 + r.val, by have := lt18 t; omega⟩ k) := by
  unfold Ady
  have e := idx0 t
  blk_point [iblk, V, e]
theorem w_apply (t : Fin cfg0.N) (j : Fin 1408) (k : Fin 1024) :
    (iblk m c 1 t : FVec Ideal S1408x1024 .bf16) (ix2 j k) = Aw m c (ix2 ⟨t.val % 2 * 1408 + j.val, by omega⟩ k) := by
  unfold Aw
  have e := idx1 t
  blk_point [iblk, V, e]

theorem pay_apply (x : FVec Ideal S1024x1024 .f32) (w : FVec Ideal S1408x1024 .bf16) (r : Fin 1024) (j : Fin 1408) :
    k0_pay2 k0_pay1 x w (ix2 r j) = ∑ k : Fin 1024, x (ix2 r k) * w (ix2 j k) := by
  unfold k0_pay2 k0_pay1
  pointwise

theorem out_dx : (dats m 0 c).arrAt 2 cfg0.N = nt (Ady m c) (Aw m c) := by
  refine (dats m 0 c).arrAt_eq_of_covers 2 _ (by decide +kernel) fun t hf y => ?_
  blk_simp
  rw [after0_2]
  obtain ⟨r, j, rfl⟩ : ∃ r j, y = ix2 r j := ⟨y 0, y 1, eq_ix2 y⟩
  unfold outsAt0
  frame_out
  rw [pay_apply]
  simp only [dy_apply, w_apply]
  have e := idx2 t
  exact (nt_at (Ady m c) (Aw m c) _ _ _ (by blk_simp [e]) (by blk_simp [e])).symm

theorem ref_eq (w : Mat 2816 1024 .bf16) (dy : Mat 9216 1024 .f32) : Cert.ReferenceDownDxIdeal.Read.val_main_v3 (F := Ideal) w dy = nt dy w := by
  funext i
  obtain ⟨r, j, rfl⟩ : ∃ r j, i = ix2 r j := ⟨i 0, i 1, eq_ix2 i⟩
  rw [nt_at dy w _ r j rfl rfl]
  unfold Cert.ReferenceDownDxIdeal.Read.val_main_v3 Cert.ReferenceDownDxIdeal.Read.val_main_v1
  pointwise

end Cert.DownDx

namespace Cert.DownDw

open Cert.KernelDownDwIdeal Cert.KernelDownDwIdeal.Gen Idealize.ShloMosaic Idealize.ShloMosaic.TcCoe Idealize.SL.Sem
open Cert.Products

variable (m : (ℓ : Loc nD τ sig) → Buf (Elt Ideal) ℓ) (c : Dev nD)

abbrev Ax : Mat 9216 2816 .f32 := m (c.tc.loc main_arg0)
abbrev Ady : Mat 9216 1024 .f32 := m (c.tc.loc main_arg1)

theorem lt99 (t : Fin cfg0.N) : t.val < 99 := t.isLt

/-- The point's tile: 256 rows of the result for every nine points, and nine blocks of terms in turn. -/
theorem idx0 : ∀ t : Fin cfg0.N, win0_0.index t = ![t.val % 9, t.val / 9] := (by decide +kernel : ∀ t : Fin grid0.N, _)
theorem idx1 : ∀ t : Fin cfg0.N, win0_1.index t = ![t.val % 9, 0] := (by decide +kernel : ∀ t : Fin grid0.N, _)
theorem idx2 : ∀ t : Fin cfg0.N, win0_2.index t = ![t.val / 9, 0] := (by decide +kernel : ∀ t : Fin grid0.N, _)

theorem x_apply (t : Fin cfg0.N) (k : Fin 1024) (r : Fin 256) :
    (iblk m c 0 t : FVec Ideal S1024x256 .f32) (ix2 k r)
      = Ax m c (ix2 ⟨t.val % 9 * 1024 + k.val, by omega⟩ ⟨t.val / 9 * 256 + r.val, by have := lt99 t; omega⟩) := by
  unfold Ax
  have e := idx0 t
  blk_point [iblk, V, e]
theorem dy_apply (t : Fin cfg0.N) (k j : Fin 1024) :
    (iblk m c 1 t : FVec Ideal S1024x1024 .f32) (ix2 k j) = Ady m c (ix2 ⟨t.val % 9 * 1024 + k.val, by omega⟩ j) := by
  unfold Ady
  have e := idx1 t
  blk_point [iblk, V, e]

theorem zero_apply (i : S256x1024.Idx) : k0_pay1 (F := Ideal) i = (0 : EReal) := Ideal.ofBits_zero_f32
theorem step_apply (acc : FVec Ideal S256x1024 .f32) (x : FVec Ideal S1024x256 .f32) (dy : FVec Ideal S1024x1024 .f32)
    (r : Fin 256) (j : Fin 1024) :
    k0_pay2 acc x dy (ix2 r j) = acc (ix2 r j) + ∑ k : Fin 1024, x (ix2 k r) * dy (ix2 k j) := by
  unfold k0_pay2
  pointwise

theorem first (t : Fin cfg0.N) (h : t.val % 9 = 0) :
    (outsAt0 m c t.val t.isLt).2 = k0_pay2 k0_pay1 (iblk m c 0 t) (iblk m c 1 t) := by
  rw [outsAt0_A m c t h (by omega)]; frame_out
theorem next (t : Fin cfg0.N) (h : ¬t.val % 9 = 0) :
    (outsAt0 m c t.val t.isLt).2
      = k0_pay2 (outsAt0 m c (t.val - 1) (Nat.lt_of_le_of_lt (Nat.sub_le _ _) t.isLt)).2 (iblk m c 0 t) (iblk m c 1 t) := by
  by_cases h1 : t.val % 9 = 8
  · rw [outsAt0_C m c t h h1]; frame_out; rw [(Memref.isWhole_whole _).read_unread]
  · rw [outsAt0_B m c t h h1]; frame_out; rw [(Memref.isWhole_whole _).read_unread]
theorem last (t : Fin cfg0.N) (h : t.val % 9 = 8) :
    (outsAt0 m c t.val t.isLt).1 = k0_pay3 (outsAt0 m c t.val t.isLt).2 := by
  rw [outsAt0_C m c t (by omega) h]; frame_out
theorem cast_apply (a : FVec Ideal S256x1024 .f32) (i : S256x1024.Idx) : (k0_pay3 (F := Ideal) a i : EReal) = a i := rfl

theorem out_dw : (dats m 0 c).arrAt 2 cfg0.N = tn (Ax m c) (Ady m c) := by
  refine (dats m 0 c).arrAt_eq_of_covers 2 _ (by decide +kernel) fun t hf y => ?_
  blk_simp
  rw [after0_2]
  obtain ⟨r, j, rfl⟩ : ∃ r j, y = ix2 r j := ⟨y 0, y 1, eq_ix2 y⟩
  have ht := (flush0_2 t).mp hf
  rw [last m c t ht, cast_apply]
  have e := idx2 t
  refine Eq.trans ?_ (tn_at (Ax m c) (Ady m c) _ ⟨t.val / 9 * 256 + r.val, by have := lt99 t; omega⟩ j (by blk_simp [e]) (by blk_simp [e])).symm
  exact run_eq_sum (J := 9) (T := 1024) (fun n h => (outsAt0 m c n h).2) rfl (by decide)
    (fun t k r j => Ax m c (ix2 k ⟨t.val / 9 * 256 + r.val, by have := lt99 t; omega⟩) * Ady m c (ix2 k j))
    (fun t t' h => by simp only [h])
    (fun t h r j => by rw [first m c t h, step_apply, zero_apply, zero_add]; simp only [x_apply, dy_apply])
    (fun t h r j => by rw [next m c t h, step_apply]; simp only [x_apply, dy_apply]) t ht r j

theorem ref_eq (x : Mat 9216 2816 .f32) (dy : Mat 9216 1024 .f32) : Cert.ReferenceDownDwIdeal.Read.val_main_v5 (F := Ideal) x dy = tn x dy := by
  funext i
  obtain ⟨r, j, rfl⟩ : ∃ r j, i = ix2 r j := ⟨i 0, i 1, eq_ix2 i⟩
  unfold Cert.ReferenceDownDwIdeal.Read.val_main_v5 Cert.ReferenceDownDwIdeal.Read.val_main_v4 Cert.ReferenceDownDwIdeal.Read.val_main_v3
  pointwise
  rw [tn_at x dy _ r j rfl rfl]
  exact Finset.sum_congr rfl fun k _ => mul_comm _ _

end Cert.DownDw

end
-- ==== Proof.FfnClaims.lean ====
/- The claims about the ConvFFN's two products and their gradients: the references' frames, and the equations. -/
module

public import proofs.«01_k».proof.Defs
public import proofs.«01_k».proof.Proof.FfnUp
public import proofs.«01_k».proof.Proof.FfnDown
public import Idealize.ShloMosaic.Adequacy
public import Idealize.ShloMosaic.Init

@[expose] public section

noncomputable section

namespace Cert.Proof

open Idealize.ShloMosaic Idealize.SL.Sem

theorem frame_referenceUpIdeal : Cert.quiescent_ReferenceUpIdeal := fun m ρ _ =>
  (θ_run Cert.ReferenceUpIdeal.defs _ _).mono
    (fun r h => ⟨fun c => (h c).2, sem_eq_zero_of_no_sems (by decide) r.2⟩) (Cert.ReferenceUpIdeal.Value.run (F := Ideal) m ρ)
theorem frame_referenceUpDxIdeal : Cert.quiescent_ReferenceUpDxIdeal := fun m ρ _ =>
  (θ_run Cert.ReferenceUpDxIdeal.defs _ _).mono
    (fun r h => ⟨fun c => (h c).2, sem_eq_zero_of_no_sems (by decide) r.2⟩) (Cert.ReferenceUpDxIdeal.Value.run (F := Ideal) m ρ)
theorem frame_referenceUpDwIdeal : Cert.quiescent_ReferenceUpDwIdeal := fun m ρ _ =>
  (θ_run Cert.ReferenceUpDwIdeal.defs _ _).mono
    (fun r h => ⟨fun c => (h c).2, sem_eq_zero_of_no_sems (by decide) r.2⟩) (Cert.ReferenceUpDwIdeal.Value.run (F := Ideal) m ρ)
theorem frame_referenceDownIdeal : Cert.quiescent_ReferenceDownIdeal := fun m ρ _ =>
  (θ_run Cert.ReferenceDownIdeal.defs _ _).mono
    (fun r h => ⟨fun c => (h c).2, sem_eq_zero_of_no_sems (by decide) r.2⟩) (Cert.ReferenceDownIdeal.Value.run (F := Ideal) m ρ)
theorem frame_referenceDownDxIdeal : Cert.quiescent_ReferenceDownDxIdeal := fun m ρ _ =>
  (θ_run Cert.ReferenceDownDxIdeal.defs _ _).mono
    (fun r h => ⟨fun c => (h c).2, sem_eq_zero_of_no_sems (by decide) r.2⟩) (Cert.ReferenceDownDxIdeal.Value.run (F := Ideal) m ρ)
theorem frame_referenceDownDwIdeal : Cert.quiescent_ReferenceDownDwIdeal := fun m ρ _ =>
  (θ_run Cert.ReferenceDownDwIdeal.defs _ _).mono
    (fun r h => ⟨fun c => (h c).2, sem_eq_zero_of_no_sems (by decide) r.2⟩) (Cert.ReferenceDownDwIdeal.Value.run (F := Ideal) m ρ)

/-- The ConvFFN's first product: both arrays are x w. -/
theorem algebraic_up : Cert.algebraic_KernelUpIdeal_ReferenceUpIdeal := by
  intro m g m' g' _ hagree
  refine ⟨fun c => Cert.Products.nn (Cert.Up.Ax m c) (Cert.Up.Aw m c),
    (θ_run Cert.KernelUpIdeal.defs _ _).mono (fun _ h c => ⟨(h c).1.trans (Cert.Up.out_y m c), (h c).2⟩)
      (Cert.KernelUpIdeal.Value.run_blocks (F := Ideal) m g),
    (θ_run Cert.ReferenceUpIdeal.defs _ _).mono (fun _ h c => ⟨?_, (h c).2⟩) (Cert.ReferenceUpIdeal.Value.run (F := Ideal) m' g')⟩
  have h0 := (h c).1
  obtain ⟨a0, a1⟩ := hagree c
  rwa [Cert.ReferenceUpIdeal.Read.val_main_v1_eq, Cert.Up.ref_eq, a0, a1] at h0

/-- The gradient of its input: both arrays are dy wᵀ. -/
theorem algebraic_upDx : Cert.algebraic_KernelUpDxIdeal_ReferenceUpDxIdeal := by
  intro m g m' g' _ hagree
  refine ⟨fun c => Cert.Products.nt (Cert.UpDx.Ady m c) (Cert.UpDx.Aw m c),
    (θ_run Cert.KernelUpDxIdeal.defs _ _).mono (fun _ h c => ⟨(h c).1.trans (Cert.UpDx.out_dx m c), (h c).2⟩)
      (Cert.KernelUpDxIdeal.Value.run_blocks (F := Ideal) m g),
    (θ_run Cert.ReferenceUpDxIdeal.defs _ _).mono (fun _ h c => ⟨?_, (h c).2⟩) (Cert.ReferenceUpDxIdeal.Value.run (F := Ideal) m' g')⟩
  have h0 := (h c).1
  obtain ⟨a0, a1⟩ := hagree c
  rwa [Cert.ReferenceUpDxIdeal.Read.val_main_v3_eq, Cert.UpDx.ref_eq, a0, a1] at h0

/-- The gradient of its weight: both arrays are xᵀ dy. -/
theorem algebraic_upDw : Cert.algebraic_KernelUpDwIdeal_ReferenceUpDwIdeal := by
  intro m g m' g' _ hagree
  refine ⟨fun c => Cert.Products.tn (Cert.UpDw.Ax m c) (Cert.UpDw.Ady m c),
    (θ_run Cert.KernelUpDwIdeal.defs _ _).mono (fun _ h c => ⟨(h c).1.trans (Cert.UpDw.out_dw m c), (h c).2⟩)
      (Cert.KernelUpDwIdeal.Value.run_blocks (F := Ideal) m g),
    (θ_run Cert.ReferenceUpDwIdeal.defs _ _).mono (fun _ h c => ⟨?_, (h c).2⟩) (Cert.ReferenceUpDwIdeal.Value.run (F := Ideal) m' g')⟩
  have h0 := (h c).1
  obtain ⟨a0, a1⟩ := hagree c
  rwa [Cert.ReferenceUpDwIdeal.Read.val_main_v5_eq, Cert.UpDw.ref_eq, a0, a1] at h0

/-- The ConvFFN's last product: both arrays are x w. -/
theorem algebraic_down : Cert.algebraic_KernelDownIdeal_ReferenceDownIdeal := by
  intro m g m' g' _ hagree
  refine ⟨fun c => Cert.Products.nn (Cert.Down.Ax m c) (Cert.Down.Aw m c),
    (θ_run Cert.KernelDownIdeal.defs _ _).mono (fun _ h c => ⟨(h c).1.trans (Cert.Down.out_y m c), (h c).2⟩)
      (Cert.KernelDownIdeal.Value.run_blocks (F := Ideal) m g),
    (θ_run Cert.ReferenceDownIdeal.defs _ _).mono (fun _ h c => ⟨?_, (h c).2⟩) (Cert.ReferenceDownIdeal.Value.run (F := Ideal) m' g')⟩
  have h0 := (h c).1
  obtain ⟨a0, a1⟩ := hagree c
  rwa [Cert.ReferenceDownIdeal.Read.val_main_v1_eq, Cert.Down.ref_eq, a0, a1] at h0

/-- The gradient of its input: both arrays are dy wᵀ. -/
theorem algebraic_downDx : Cert.algebraic_KernelDownDxIdeal_ReferenceDownDxIdeal := by
  intro m g m' g' _ hagree
  refine ⟨fun c => Cert.Products.nt (Cert.DownDx.Ady m c) (Cert.DownDx.Aw m c),
    (θ_run Cert.KernelDownDxIdeal.defs _ _).mono (fun _ h c => ⟨(h c).1.trans (Cert.DownDx.out_dx m c), (h c).2⟩)
      (Cert.KernelDownDxIdeal.Value.run_blocks (F := Ideal) m g),
    (θ_run Cert.ReferenceDownDxIdeal.defs _ _).mono (fun _ h c => ⟨?_, (h c).2⟩) (Cert.ReferenceDownDxIdeal.Value.run (F := Ideal) m' g')⟩
  have h0 := (h c).1
  obtain ⟨a0, a1⟩ := hagree c
  rwa [Cert.ReferenceDownDxIdeal.Read.val_main_v3_eq, Cert.DownDx.ref_eq, a0, a1] at h0

/-- The gradient of its weight: both arrays are xᵀ dy. -/
theorem algebraic_downDw : Cert.algebraic_KernelDownDwIdeal_ReferenceDownDwIdeal := by
  intro m g m' g' _ hagree
  refine ⟨fun c => Cert.Products.tn (Cert.DownDw.Ax m c) (Cert.DownDw.Ady m c),
    (θ_run Cert.KernelDownDwIdeal.defs _ _).mono (fun _ h c => ⟨(h c).1.trans (Cert.DownDw.out_dw m c), (h c).2⟩)
      (Cert.KernelDownDwIdeal.Value.run_blocks (F := Ideal) m g),
    (θ_run Cert.ReferenceDownDwIdeal.defs _ _).mono (fun _ h c => ⟨?_, (h c).2⟩) (Cert.ReferenceDownDwIdeal.Value.run (F := Ideal) m' g')⟩
  have h0 := (h c).1
  obtain ⟨a0, a1⟩ := hagree c
  rwa [Cert.ReferenceDownDwIdeal.Read.val_main_v5_eq, Cert.DownDw.ref_eq, a0, a1] at h0

end Cert.Proof

end
-- ==== Proof.AttnFwd.lean ====
/- The forward call of the latent attention: the blocks of each point, the array the run leaves, and the reference's array,
   which are both the values averaged with the probabilities of Spec. The block functions and the reference's
   probabilities are those of the gradient. -/
module

public import proofs.«01_k».proof.Proof.Gen.KernelAttnIdeal.Value
public import proofs.«01_k».proof.Proof.Gen.ReferenceAttnIdeal.Run
public import proofs.«01_k».proof.Proof.Gen.ReferenceAttnIdeal.Read
public import proofs.«01_k».proof.Proof.Gen.Pre_finite_scores_fwd
public import proofs.«01_k».proof.Proof.Point
public import proofs.«01_k».proof.Proof.Ref
public import proofs.«01_k».proof.Proof.Pre
public import Idealize.ShloMosaic.Lib.Pipeline.ValueKit.Point

@[expose] public section

set_option maxRecDepth 16384

noncomputable section

namespace Cert.AttnFwd

open Idealize.ShloMosaic Cert.Softmax

section
/-! What the attention is, index by index. -/
variable (q : Spec.Wide) (kc vc : Spec.Ctx) (kl vl : Spec.Lat)

/-- The values averaged with the probabilities of a query. -/
def mix (b : Fin 4) (h : Fin 2) (g : Fin 4) (l : Fin 2048) (d : Fin 128) : EReal :=
  ∑ j : Fin (256 + 2048), Spec.probs q kc kl b h g l j * Spec.rows vc vl b h j d

def out : Spec.Wide := fun i => mix q kc vc kl vl ⟨(i 0).val / 2048, by have := (i 0).isLt; change (i 0).val < 8192 at this; omega⟩
  ⟨(i 1).val / 512, by have := (i 1).isLt; change (i 1).val < 1024 at this; omega⟩ ⟨(i 1).val / 128 % 4, by omega⟩
  ⟨(i 0).val % 2048, by omega⟩ ⟨(i 1).val % 128, by omega⟩

theorem out_at (b : Fin 4) (h : Fin 2) (g : Fin 4) (l : Fin 2048) (d : Fin 128) (i : (⟨2, ![8192, 1024]⟩ : Shape).Idx)
    (h0 : (i 0).val = b.val * 2048 + l.val) (h1 : (i 1).val = (h.val * 4 + g.val) * 128 + d.val) :
    out q kc vc kl vl i = mix q kc vc kl vl b h g l d := by
  unfold out
  congr 1 <;> apply Fin.ext <;> simp only [h0, h1] <;> omega

/-! The reference: its probabilities are computed as those of the gradient's reference. -/

theorem ref_v22 : Cert.ReferenceAttnIdeal.Read.val_main_v22 (F := Ideal) q kc kl = Cert.ReferenceIdeal.Read.val_main_v36 (F := Ideal) q kc kl := rfl
theorem ref_v6 : Cert.ReferenceAttnIdeal.Read.val_main_v6 (F := Ideal) vc vl = Cert.ReferenceIdeal.Read.val_main_v6 (F := Ideal) vc vl := rfl

theorem ref_v24_at (b : Fin 4) (l : Fin 2048) (h : Fin 2) (g : Fin 4) (d : Fin 128) :
    Cert.ReferenceAttnIdeal.Read.val_main_v24 (F := Ideal) q kc vc kl vl (ix5 b l h g d) = mix q kc vc kl vl b h g l d := by
  unfold Cert.ReferenceAttnIdeal.Read.val_main_v24 Cert.ReferenceAttnIdeal.Read.val_main_v23 mix
  rw [ref_v22, ref_v6]
  pointwise
  simp only [Ref.v36_at, Ref.v6_at, mul_comm]; rfl

theorem ref_eq : Cert.ReferenceAttnIdeal.Read.val_main_v26 (F := Ideal) q kc vc kl vl = out q kc vc kl vl := by
  funext i; idx_vars i
  unfold Cert.ReferenceAttnIdeal.Read.val_main_v26 Cert.ReferenceAttnIdeal.Read.val_main_v25 out
  pointwise
  rw [ref_v24_at]

/-- The precondition is that of the gradient, which does not read the output's gradient. -/
theorem reals (h : ∀ j, Cert.Pre_finite_scores_fwd.fn (F := Ideal) q kc vc kl vl j = 1#1) :
    (∀ i, IsReal (q i)) ∧ (∀ i, IsReal (kc i)) ∧ ∀ i, IsReal (kl i) :=
  Pre.reals q kc vc kl vl q fun j => (h j : Cert.Pre_finite_scores_fwd.fn (F := Ideal) q kc vc kl vl j = 1#1)
end

section
/-! One head of one point. -/
open Cert.Block Cert.Point Cert.KernelIdeal Cert.KernelIdeal.Gen

variable (kc : Q) (kl : L) (vc : Q) (vl : L) (q : Q)

def ho : Q :=
  addf (addf (broadcast S256x128 (Scalar.ofBits .f32 0x00000000#32))
    (matmul dot_S256x256_S256x128_S256x128_1_0_0_1_n_n none (half (pc kc kl q)) (half vc) (constant S256x128 .f32 0x00000000#32)))
    (matmul dot_S256x2048_S2048x128_S256x128_1_0_0_1_n_n none (half (pl kc kl q)) (half vl) (constant S256x128 .f32 0x00000000#32))

theorem ho_apply (r : Fin 256) (d : Fin 128) :
    ho kc kl vc vl q (ix2 r d)
      = (∑ j : Fin 256, pc kc kl q (ix2 r j) * vc (ix2 j d)) + ∑ j : Fin 2048, pl kc kl q (ix2 r j) * vl (ix2 j d) := by
  unfold ho
  show Ideal.ofBits .f32 0x00000000#32
    + matmul dot_S256x256_S256x128_S256x128_1_0_0_1_n_n none (half (pc kc kl q)) (half vc) (constant S256x128 .f32 0x00000000#32) (ix2 r d)
    + matmul dot_S256x2048_S2048x128_S256x128_1_0_0_1_n_n none (half (pl kc kl q)) (half vl) (constant S256x128 .f32 0x00000000#32) (ix2 r d) = _
  rw [nnC_apply, nnL_apply, Ideal.ofBits_zero_f32, zero_add]
end

open Cert.KernelAttnIdeal Cert.KernelAttnIdeal.Gen Idealize.ShloMosaic.TcCoe Idealize.SL.Sem
open Cert.Block (Q L pc pl pc_apply pl_apply score xs ys)
open Cert.Point (W hd hs hs_eq)

section
/-! The body's own names for what each head computes are the block function. -/
variable (kc : Q) (kl : L) (vc : Q) (vl : L) (q : Q)

theorem head0 : k0_pay14 (k0_pay3 vc) (k0_pay4 vl) (k0_pay12 kc kl q) (k0_pay13 kc kl q) = ho kc kl vc vl q := rfl
theorem head1 : k0_pay25 (k0_pay4 vl) (k0_pay22 (k0_pay1 kc) (k0_pay2 kl) q) k0_pay23 (k0_pay24 (k0_pay1 kc) (k0_pay2 kl) (k0_pay3 vc) q) = ho kc kl vc vl q := rfl
theorem head2 : k0_pay26 (k0_pay1 kc) (k0_pay2 kl) (k0_pay3 vc) (k0_pay4 vl) q = ho kc kl vc vl q := rfl
theorem head3 : k0_pay27 (k0_pay1 kc) (k0_pay2 kl) (k0_pay3 vc) (k0_pay4 vl) q = ho kc kl vc vl q := rfl
end

variable (m : (ℓ : Loc nD τ sig) → Buf (Elt Ideal) ℓ) (c : Dev nD)

/-- The argument arrays, and the blocks a point reads. -/
abbrev Aq : Spec.Wide := m (c.tc.loc main_arg0)
abbrev Akc : Spec.Ctx := m (c.tc.loc main_arg1)
abbrev Avc : Spec.Ctx := m (c.tc.loc main_arg2)
abbrev Akl : Spec.Lat := m (c.tc.loc main_arg3)
abbrev Avl : Spec.Lat := m (c.tc.loc main_arg4)
abbrev bq (t : Fin cfg0.N) : W := iblk m c 0 t
abbrev bkc (t : Fin cfg0.N) : Q := iblk m c 1 t
abbrev bvc (t : Fin cfg0.N) : Q := iblk m c 2 t
abbrev bkl (t : Fin cfg0.N) : L := iblk m c 3 t
abbrev bvl (t : Fin cfg0.N) : L := iblk m c 4 t

theorem lt64 (t : Fin cfg0.N) : t.val < 64 := t.isLt

/-- The batch row, the group of heads, and the query of a row of the block, at a point. -/
def pb (t : Fin cfg0.N) : Fin 4 := ⟨t.val / 16, by have := lt64 t; omega⟩
def ph (t : Fin cfg0.N) : Fin 2 := ⟨t.val / 8 % 2, by omega⟩
def pt (t : Fin cfg0.N) (r : Fin 256) : Fin 2048 := ⟨t.val % 8 * 256 + r.val, by omega⟩

theorem idx0 : ∀ t : Fin cfg0.N, win0_0.index t = ![t.val / 16 * 8 + t.val % 8, t.val / 8 % 2] := (by decide +kernel : ∀ t : Fin grid0.N, _)
theorem idx1 : ∀ t : Fin cfg0.N, win0_1.index t = ![t.val / 16, t.val / 8 % 2] := (by decide +kernel : ∀ t : Fin grid0.N, _)
theorem idx2 : ∀ t : Fin cfg0.N, win0_2.index t = ![t.val / 16, t.val / 8 % 2] := (by decide +kernel : ∀ t : Fin grid0.N, _)
theorem idx3 : ∀ t : Fin cfg0.N, win0_3.index t = ![t.val / 16, t.val / 8 % 2] := (by decide +kernel : ∀ t : Fin grid0.N, _)
theorem idx4 : ∀ t : Fin cfg0.N, win0_4.index t = ![t.val / 16, t.val / 8 % 2] := (by decide +kernel : ∀ t : Fin grid0.N, _)
theorem idx5 : ∀ t : Fin cfg0.N, win0_5.index t = ![t.val / 16 * 8 + t.val % 8, t.val / 8 % 2] := (by decide +kernel : ∀ t : Fin grid0.N, _)

theorem q_apply (t : Fin cfg0.N) (g : Fin 4) (r : Fin 256) (d : Fin 128) :
    hd g (bq m c t) (ix2 r d) = Spec.row (Aq m c) (pb t) (ph t) g (pt t r) d := by
  unfold hd Spec.row Aq pb ph pt
  have e := idx0 t
  blk_point [iblk, V, e]
theorem kc_apply (t : Fin cfg0.N) (j : Fin 256) (d : Fin 128) : bkc m c t (ix2 j d) = Spec.ctx (Akc m c) (pb t) (ph t) j d := by
  unfold Spec.ctx Akc pb ph
  have e := idx1 t
  blk_point [iblk, V, e]
theorem vc_apply (t : Fin cfg0.N) (j : Fin 256) (d : Fin 128) : bvc m c t (ix2 j d) = Spec.ctx (Avc m c) (pb t) (ph t) j d := by
  unfold Spec.ctx Avc pb ph
  have e := idx2 t
  blk_point [iblk, V, e]
theorem kl_apply (t : Fin cfg0.N) (j : Fin 2048) (d : Fin 128) : bkl m c t (ix2 j d) = Spec.lat (Akl m c) (pb t) (ph t) j d := by
  unfold Spec.lat Akl pb ph
  have e := idx3 t
  blk_point [iblk, V, e]
theorem vl_apply (t : Fin cfg0.N) (j : Fin 2048) (d : Fin 128) : bvl m c t (ix2 j d) = Spec.lat (Avl m c) (pb t) (ph t) j d := by
  unfold Spec.lat Avl pb ph
  have e := idx4 t
  blk_point [iblk, V, e]

/-- The scores of the block's rows. -/
theorem xs_eq (t : Fin cfg0.N) (g : Fin 4) (r : Fin 256) :
    xs (bkc m c t) (hd g (bq m c t)) r = lo (Spec.scores (Aq m c) (Akc m c) (Akl m c) (pb t) (ph t) g (pt t r)) := by
  funext j; unfold lo Spec.scores
  simp only [score, q_apply, kc_apply, Spec.rows_castAdd]; rfl
theorem ys_eq (t : Fin cfg0.N) (g : Fin 4) (r : Fin 256) :
    ys (bkl m c t) (hd g (bq m c t)) r = hi (Spec.scores (Aq m c) (Akc m c) (Akl m c) (pb t) (ph t) g (pt t r)) := by
  funext j; unfold hi Spec.scores
  simp only [score, q_apply, kl_apply, Spec.rows_natAdd]; rfl

/-- What a point leaves in the columns of a head. -/
theorem block_out (t : Fin cfg0.N) (r : Fin 256) (g : Fin 4) (d : Fin 128) :
    out0_5 (iblk m c 0 t) (iblk m c 1 t) (iblk m c 2 t) (iblk m c 3 t) (iblk m c 4 t) (ix2 r ⟨g.val * 128 + d.val, by omega⟩)
      = ho (bkc m c t) (bkl m c t) (bvc m c t) (bvl m c t) (hd g (bq m c t)) (ix2 r d) := by
  unfold_out out0_5
  frame_out
  rw [head0, head1, head2, head3]
  exact (Point.tiles (fun g => ho _ _ _ _ (hs g (bq m c t))) r g d).trans (by rw [hs_eq])

variable (hq : ∀ i, IsReal (Aq m c i)) (hc : ∀ i, IsReal (Akc m c i)) (hl : ∀ i, IsReal (Akl m c i))
include hq hc hl

theorem ho_spec (t : Fin cfg0.N) (g : Fin 4) (r : Fin 256) (d : Fin 128) :
    ho (bkc m c t) (bkl m c t) (bvc m c t) (bvl m c t) (hd g (bq m c t)) (ix2 r d)
      = mix (Aq m c) (Akc m c) (Avc m c) (Akl m c) (Avl m c) (pb t) (ph t) g (pt t r) d := by
  have hs := Spec.scores_real (Aq m c) (Akc m c) (Akl m c) hq hc hl (pb t) (ph t) g (pt t r)
  rw [ho_apply]
  unfold mix
  rw [Fin.sum_univ_add]
  refine congrArg₂ (· + ·) (Finset.sum_congr rfl fun j _ => ?_) (Finset.sum_congr rfl fun j _ => ?_)
  · rw [pc_apply, xs_eq, ys_eq, vc_apply, Spec.rows_castAdd]
    exact congrArg (· * _) (twoProb_eq hs (by norm_num) _)
  · rw [pl_apply, xs_eq, ys_eq, vl_apply, Spec.rows_natAdd]
    exact congrArg (· * _) (twoProb_eq hs (by norm_num) _)

theorem out_o : (dats m 0 c).arrAt 5 cfg0.N = out (Aq m c) (Akc m c) (Avc m c) (Akl m c) (Avl m c) := by
  refine (dats m 0 c).arrAt_eq_of_covers 5 _ (by decide +kernel) fun t hf y => ?_
  blk_simp
  rw [after0_5]
  obtain ⟨r, g, d, rfl⟩ : ∃ (r : Fin 256) (g : Fin 4) (d : Fin 128), y = ix2 r ⟨g.val * 128 + d.val, by omega⟩ := by
    refine ⟨y 0, ⟨(y 1).val / 128, ?_⟩, ⟨(y 1).val % 128, Nat.mod_lt _ (by norm_num)⟩, (eq_ix2 y).trans (congrArg _ (Fin.ext ?_))⟩
    · have := (y 1).isLt; change (y 1).val < 512 at this; omega
    · show (y 1).val = (y 1).val / 128 * 128 + (y 1).val % 128; omega
  rw [block_out, ho_spec m c hq hc hl]
  have e := idx5 t
  refine (out_at _ _ _ _ _ _ _ _ _ _ _ ?_ ?_).symm <;> blk_simp [e] <;> simp [pb, ph, pt] <;> omega

end Cert.AttnFwd

end
-- ==== Proof.AttnFwdClaims.lean ====
/- The claims about the forward call of the latent attention: the reference's frame, and the equation. -/
module

public import proofs.«01_k».proof.Defs
public import proofs.«01_k».proof.Proof.AttnFwd
public import Idealize.ShloMosaic.Adequacy
public import Idealize.ShloMosaic.Init

@[expose] public section

noncomputable section

namespace Cert.Proof

open Idealize.ShloMosaic Idealize.SL.Sem

theorem frame_referenceAttnIdeal : Cert.quiescent_ReferenceAttnIdeal := fun m ρ _ =>
  (θ_run Cert.ReferenceAttnIdeal.defs _ _).mono
    (fun r h => ⟨fun c => (h c).2, sem_eq_zero_of_no_sems (by decide) r.2⟩) (Cert.ReferenceAttnIdeal.Value.run (F := Ideal) m ρ)
theorem frame_referenceAttnIdeal_pre : Cert.quiescent_ReferenceAttnIdeal_pre_finite_scores_fwd := fun m ρ _ =>
  frame_referenceAttnIdeal m ρ trivial

/-- With real queries and keys both arrays are the values averaged with the probabilities. -/
theorem algebraic_attn : Cert.algebraic_KernelAttnIdeal_ReferenceAttnIdeal_pre_finite_scores_fwd := by
  intro m g m' g' hpre hagree
  have hr := fun c => Cert.AttnFwd.reals (Cert.AttnFwd.Aq m c) (Cert.AttnFwd.Akc m c) (Cert.AttnFwd.Avc m c) (Cert.AttnFwd.Akl m c)
    (Cert.AttnFwd.Avl m c) fun j => congrFun (hpre c) j
  refine ⟨fun c => Cert.AttnFwd.out (Cert.AttnFwd.Aq m c) (Cert.AttnFwd.Akc m c) (Cert.AttnFwd.Avc m c) (Cert.AttnFwd.Akl m c) (Cert.AttnFwd.Avl m c),
    (θ_run Cert.KernelAttnIdeal.defs _ _).mono
      (fun _ h c => ⟨(h c).1.trans (Cert.AttnFwd.out_o m c (hr c).1 (hr c).2.1 (hr c).2.2), (h c).2⟩)
      (Cert.KernelAttnIdeal.Value.run_blocks (F := Ideal) m g),
    (θ_run Cert.ReferenceAttnIdeal.defs _ _).mono (fun _ h c => ⟨?_, (h c).2⟩) (Cert.ReferenceAttnIdeal.Value.run (F := Ideal) m' g')⟩
  have h0 := (h c).1
  obtain ⟨a0, a1, a2, a3, a4⟩ := hagree c
  rwa [Cert.ReferenceAttnIdeal.Read.val_main_v26_eq, Cert.AttnFwd.ref_eq, a0, a1, a2, a3, a4] at h0

end Cert.Proof

end
-- ==== Proof.SiluMul.lean ====
/- The gradient of the ConvFFN's gate silu(a) u: what the call returns and what the reference returns, one equation for
   each entry. -/
module

public import proofs.«01_k».proof.Proof.Gen.KernelSiluIdeal.Value
public import proofs.«01_k».proof.Proof.Gen.ReferenceSiluIdeal.Run
public import proofs.«01_k».proof.Proof.Gen.ReferenceSiluIdeal.Read
public import proofs.«01_k».proof.Proof.Products
public import Idealize.ShloMosaic.Lib.Pipeline.ValueKit
public import Idealize.ShloMosaic.Lib.Pipeline.ValueKit.Point
public import Idealize.ShloMosaic.Lib.Pointwise

@[expose] public section

noncomputable section

namespace Cert.SiluMul

open Cert.KernelSiluIdeal Cert.KernelSiluIdeal.Gen Idealize.ShloMosaic Idealize.ShloMosaic.TcCoe Idealize.SL.Sem
open Cert.Products

variable (m : (ℓ : Loc nD τ sig) → Buf (Elt Ideal) ℓ) (c : Dev nD)

abbrev Aa : Mat 9216 2816 .f32 := m (c.tc.loc main_arg0)
abbrev Au : Mat 9216 2816 .f32 := m (c.tc.loc main_arg1)
abbrev Ad : Mat 9216 2816 .f32 := m (c.tc.loc main_arg2)

/-- The gradient of a in silu(a) u, of one entry: σ(a) and a σ(a) (1 - σ(a)), each times d u. -/
def gradA (a u d : EReal) : EReal :=
  d * u * Ideal.logistic a + a * (d * u) * (Ideal.logistic a * (1 - Ideal.logistic a))
/-- The gradient of u, of one entry. -/
def gradU (a d : EReal) : EReal := a * Ideal.logistic a * d

/-- The two gradients, entry by entry. -/
def outA (a u d : Mat 9216 2816 .f32) : Mat 9216 2816 .f32 := fun i => gradA (a i) (u i) (d i)
def outU (a d : Mat 9216 2816 .f32) : Mat 9216 2816 .f32 := fun i => gradU (a i) (d i)

theorem outA_at (a u d : Mat 9216 2816 .f32) (i : (⟨2, ![9216, 2816]⟩ : Shape).Idx) (r : Fin 9216) (j : Fin 2816)
    (h0 : (i 0).val = r.val) (h1 : (i 1).val = j.val) : outA a u d i = gradA (a (ix2 r j)) (u (ix2 r j)) (d (ix2 r j)) := by
  rw [show i = ix2 r j from (eq_ix2 i).trans (by rw [show i 0 = r from Fin.ext h0, show i 1 = j from Fin.ext h1])]; rfl
theorem outU_at (a d : Mat 9216 2816 .f32) (i : (⟨2, ![9216, 2816]⟩ : Shape).Idx) (r : Fin 9216) (j : Fin 2816)
    (h0 : (i 0).val = r.val) (h1 : (i 1).val = j.val) : outU a d i = gradU (a (ix2 r j)) (d (ix2 r j)) := by
  rw [show i = ix2 r j from (eq_ix2 i).trans (by rw [show i 0 = r from Fin.ext h0, show i 1 = j from Fin.ext h1])]; rfl

theorem lt36 (t : Fin cfg0.N) : t.val < 36 := t.isLt

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)

theorem a_apply (t : Fin cfg0.N) (r : Fin 256) (k : Fin 2816) :
    (iblk m c 0 t : FVec Ideal S256x2816 .f32) (ix2 r k) = Aa m c (ix2 ⟨t.val * 256 + r.val, by have := lt36 t; omega⟩ k) := by
  unfold Aa
  have e := idx0 t
  blk_point [iblk, V, e]
theorem u_apply (t : Fin cfg0.N) (r : Fin 256) (k : Fin 2816) :
    (iblk m c 1 t : FVec Ideal S256x2816 .f32) (ix2 r k) = Au m c (ix2 ⟨t.val * 256 + r.val, by have := lt36 t; omega⟩ k) := by
  unfold Au
  have e := idx1 t
  blk_point [iblk, V, e]
theorem d_apply (t : Fin cfg0.N) (r : Fin 256) (k : Fin 2816) :
    (iblk m c 2 t : FVec Ideal S256x2816 .f32) (ix2 r k) = Ad m c (ix2 ⟨t.val * 256 + r.val, by have := lt36 t; omega⟩ k) := by
  unfold Ad
  have e := idx2 t
  blk_point [iblk, V, e]

theorem payA_apply (a u d : FVec Ideal S256x2816 .f32) (i : S256x2816.Idx) :
    k0_pay3 (F := Ideal) a u d i = gradA (a i) (u i) (d i) := by
  have h : k0_pay3 (F := Ideal) a u d i = d i * u i * Ideal.logistic (a i) +
      a i * (d i * u i) * (Ideal.logistic (a i) * (Ideal.ofBits .f32 0x3F800000#32 - Ideal.logistic (a i))) := rfl
  rw [h, Ideal.ofBits_one_f32]; rfl
theorem payU_apply (a d : FVec Ideal S256x2816 .f32) (i : S256x2816.Idx) : k0_pay2 (F := Ideal) a d i = gradU (a i) (d i) := rfl

theorem out_a : (dats m 0 c).arrAt 3 cfg0.N = outA (Aa m c) (Au m c) (Ad m c) := by
  refine (dats m 0 c).arrAt_eq_of_covers 3 _ (by decide +kernel) fun t hf y => ?_
  blk_simp
  rw [after0_3]
  obtain ⟨r, j, rfl⟩ : ∃ r j, y = ix2 r j := ⟨y 0, y 1, eq_ix2 y⟩
  unfold out0_3
  frame_out
  rw [payA_apply, a_apply, u_apply, d_apply]
  have e := idx3 t
  exact (outA_at _ _ _ _ _ _ (by blk_simp [e]) (by blk_simp [e])).symm

theorem out_u : (dats m 0 c).arrAt 4 cfg0.N = outU (Aa m c) (Ad m c) := by
  refine (dats m 0 c).arrAt_eq_of_covers 4 _ (by decide +kernel) fun t hf y => ?_
  blk_simp
  rw [after0_4]
  obtain ⟨r, j, rfl⟩ : ∃ r j, y = ix2 r j := ⟨y 0, y 1, eq_ix2 y⟩
  unfold out0_4
  frame_out
  rw [payU_apply, a_apply, d_apply]
  have e := idx4 t
  exact (outU_at _ _ _ _ _ (by blk_simp [e]) (by blk_simp [e])).symm

/-- The logistic function as the reference spells it. -/
theorem sigma (a : Mat 9216 2816 .f32) (i : S9216x2816.Idx) :
    Cert.ReferenceSiluIdeal.Read.val_main_v0_2 (F := Ideal) a i = Ideal.logistic (a i) := by
  have h : Cert.ReferenceSiluIdeal.Read.val_main_v0_2 (F := Ideal) a i
      = Ideal.div (Ideal.ofBits .f32 0x3F800000#32) (Ideal.ofBits .f32 0x3F800000#32 + Ideal.exp (-(a i))) := rfl
  rw [h, Ideal.ofBits_one_f32]; rfl

open Cert.ReferenceSiluIdeal.Read in
theorem ref_a (a u d : Mat 9216 2816 .f32) : val_main_v4 (F := Ideal) a u d = outA a u d := by
  funext i
  have h : val_main_v4 (F := Ideal) a u d i = d i * u i * val_main_v0_2 (F := Ideal) a i +
      a i * (d i * u i) * (val_main_v0_2 (F := Ideal) a i * (Ideal.ofBits .f32 0x3F800000#32 - val_main_v0_2 (F := Ideal) a i)) := rfl
  rw [h, sigma, Ideal.ofBits_one_f32]; rfl
open Cert.ReferenceSiluIdeal.Read in
theorem ref_u (a d : Mat 9216 2816 .f32) : val_main_v2 (F := Ideal) a d = outU a d := by
  funext i
  have h : val_main_v2 (F := Ideal) a d i = a i * val_main_v0_2 (F := Ideal) a i * d i := rfl
  rw [h, sigma]; rfl

end Cert.SiluMul

end
-- ==== Proof.Glu.lean ====
/- The gradient of the gated unit a σ(g) before the depthwise convolution: what the call returns and what the reference returns, one equation for
   each entry. -/
module

public import proofs.«01_k».proof.Proof.Gen.KernelGluIdeal.Value
public import proofs.«01_k».proof.Proof.Gen.ReferenceGluIdeal.Run
public import proofs.«01_k».proof.Proof.Gen.ReferenceGluIdeal.Read
public import proofs.«01_k».proof.Proof.Products
public import Idealize.ShloMosaic.Lib.Pipeline.ValueKit
public import Idealize.ShloMosaic.Lib.Pipeline.ValueKit.Point
public import Idealize.ShloMosaic.Lib.Pointwise

@[expose] public section

noncomputable section

namespace Cert.Glu

open Cert.KernelGluIdeal Cert.KernelGluIdeal.Gen Idealize.ShloMosaic Idealize.ShloMosaic.TcCoe Idealize.SL.Sem
open Cert.Products

variable (m : (ℓ : Loc nD τ sig) → Buf (Elt Ideal) ℓ) (c : Dev nD)

abbrev Aa : Mat 9216 1024 .f32 := m (c.tc.loc main_arg0)
abbrev Ag : Mat 9216 1024 .f32 := m (c.tc.loc main_arg1)
abbrev Ad : Mat 9216 1024 .f32 := m (c.tc.loc main_arg2)

/-- The gradient of a in a σ(g), of one entry. -/
def gradA (g d : EReal) : EReal := d * Ideal.logistic g
/-- The gradient of g, of one entry. -/
def gradG (a g d : EReal) : EReal := a * d * (Ideal.logistic g * (1 - Ideal.logistic g))

/-- The two gradients, entry by entry. -/
def outA (g d : Mat 9216 1024 .f32) : Mat 9216 1024 .f32 := fun i => gradA (g i) (d i)
def outG (a g d : Mat 9216 1024 .f32) : Mat 9216 1024 .f32 := fun i => gradG (a i) (g i) (d i)

theorem outA_at (g d : Mat 9216 1024 .f32) (i : (⟨2, ![9216, 1024]⟩ : Shape).Idx) (r : Fin 9216) (j : Fin 1024)
    (h0 : (i 0).val = r.val) (h1 : (i 1).val = j.val) : outA g d i = gradA (g (ix2 r j)) (d (ix2 r j)) := by
  rw [show i = ix2 r j from (eq_ix2 i).trans (by rw [show i 0 = r from Fin.ext h0, show i 1 = j from Fin.ext h1])]; rfl
theorem outG_at (a g d : Mat 9216 1024 .f32) (i : (⟨2, ![9216, 1024]⟩ : Shape).Idx) (r : Fin 9216) (j : Fin 1024)
    (h0 : (i 0).val = r.val) (h1 : (i 1).val = j.val) : outG a g d i = gradG (a (ix2 r j)) (g (ix2 r j)) (d (ix2 r j)) := by
  rw [show i = ix2 r j from (eq_ix2 i).trans (by rw [show i 0 = r from Fin.ext h0, show i 1 = j from Fin.ext h1])]; rfl

theorem lt36 (t : Fin cfg0.N) : t.val < 36 := t.isLt

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)

theorem a_apply (t : Fin cfg0.N) (r : Fin 256) (k : Fin 1024) :
    (iblk m c 0 t : FVec Ideal S256x1024 .f32) (ix2 r k) = Aa m c (ix2 ⟨t.val * 256 + r.val, by have := lt36 t; omega⟩ k) := by
  unfold Aa
  have e := idx0 t
  blk_point [iblk, V, e]
theorem g_apply (t : Fin cfg0.N) (r : Fin 256) (k : Fin 1024) :
    (iblk m c 1 t : FVec Ideal S256x1024 .f32) (ix2 r k) = Ag m c (ix2 ⟨t.val * 256 + r.val, by have := lt36 t; omega⟩ k) := by
  unfold Ag
  have e := idx1 t
  blk_point [iblk, V, e]
theorem d_apply (t : Fin cfg0.N) (r : Fin 256) (k : Fin 1024) :
    (iblk m c 2 t : FVec Ideal S256x1024 .f32) (ix2 r k) = Ad m c (ix2 ⟨t.val * 256 + r.val, by have := lt36 t; omega⟩ k) := by
  unfold Ad
  have e := idx2 t
  blk_point [iblk, V, e]

theorem payA_apply (g d : FVec Ideal S256x1024 .f32) (i : S256x1024.Idx) : k0_pay2 (F := Ideal) g d i = gradA (g i) (d i) := rfl
theorem payG_apply (a g d : FVec Ideal S256x1024 .f32) (i : S256x1024.Idx) :
    k0_pay3 (F := Ideal) a g d i = gradG (a i) (g i) (d i) := by
  have h : k0_pay3 (F := Ideal) a g d i =
      a i * d i * (Ideal.logistic (g i) * (Ideal.ofBits .f32 0x3F800000#32 - Ideal.logistic (g i))) := rfl
  rw [h, Ideal.ofBits_one_f32]; rfl

theorem out_a : (dats m 0 c).arrAt 3 cfg0.N = outA (Ag m c) (Ad m c) := by
  refine (dats m 0 c).arrAt_eq_of_covers 3 _ (by decide +kernel) fun t hf y => ?_
  blk_simp
  rw [after0_3]
  obtain ⟨r, j, rfl⟩ : ∃ r j, y = ix2 r j := ⟨y 0, y 1, eq_ix2 y⟩
  unfold out0_3
  frame_out
  rw [payA_apply, g_apply, d_apply]
  have e := idx3 t
  exact (outA_at _ _ _ _ _ (by blk_simp [e]) (by blk_simp [e])).symm

theorem out_g : (dats m 0 c).arrAt 4 cfg0.N = outG (Aa m c) (Ag m c) (Ad m c) := by
  refine (dats m 0 c).arrAt_eq_of_covers 4 _ (by decide +kernel) fun t hf y => ?_
  blk_simp
  rw [after0_4]
  obtain ⟨r, j, rfl⟩ : ∃ r j, y = ix2 r j := ⟨y 0, y 1, eq_ix2 y⟩
  unfold out0_4
  frame_out
  rw [payG_apply, a_apply, g_apply, d_apply]
  have e := idx4 t
  exact (outG_at _ _ _ _ _ _ (by blk_simp [e]) (by blk_simp [e])).symm

/-- The logistic function as the reference spells it. -/
theorem sigma (g : Mat 9216 1024 .f32) (i : S9216x1024.Idx) :
    Cert.ReferenceGluIdeal.Read.val_main_v5 (F := Ideal) g i = Ideal.logistic (g i) := by
  have h : Cert.ReferenceGluIdeal.Read.val_main_v5 (F := Ideal) g i
      = Ideal.div (Ideal.ofBits .f32 0x3F800000#32) (Ideal.ofBits .f32 0x3F800000#32 + Ideal.exp (-(g i))) := rfl
  rw [h, Ideal.ofBits_one_f32]; rfl

open Cert.ReferenceGluIdeal.Read in
theorem ref_a (g d : Mat 9216 1024 .f32) : val_main_v11 (F := Ideal) g d = outA g d := by
  funext i
  have h : val_main_v11 (F := Ideal) g d i = d i * val_main_v5 (F := Ideal) g i := rfl
  rw [h, sigma]; rfl
open Cert.ReferenceGluIdeal.Read in
theorem ref_g (a g d : Mat 9216 1024 .f32) : val_main_v12 (F := Ideal) a g d = outG a g d := by
  funext i
  have h : val_main_v12 (F := Ideal) a g d i = a i * d i *
      (val_main_v5 (F := Ideal) g i * (Ideal.ofBits .f32 0x3F800000#32 - val_main_v5 (F := Ideal) g i)) := rfl
  rw [h, sigma, Ideal.ofBits_one_f32]; rfl

end Cert.Glu

end
-- ==== Proof.GateClaims.lean ====
/- The claims about the gradients of the two gates: the references' frames, and the equations. -/
module

public import proofs.«01_k».proof.Defs
public import proofs.«01_k».proof.Proof.SiluMul
public import proofs.«01_k».proof.Proof.Glu
public import Idealize.ShloMosaic.Adequacy
public import Idealize.ShloMosaic.Init

@[expose] public section

noncomputable section

namespace Cert.Proof

open Idealize.ShloMosaic Idealize.SL.Sem

theorem frame_referenceSiluIdeal : Cert.quiescent_ReferenceSiluIdeal := fun m ρ _ =>
  (θ_run Cert.ReferenceSiluIdeal.defs _ _).mono
    (fun r h => ⟨fun c => (h c).2.2, sem_eq_zero_of_no_sems (by decide) r.2⟩) (Cert.ReferenceSiluIdeal.Value.run (F := Ideal) m ρ)
theorem frame_referenceGluIdeal : Cert.quiescent_ReferenceGluIdeal := fun m ρ _ =>
  (θ_run Cert.ReferenceGluIdeal.defs _ _).mono
    (fun r h => ⟨fun c => (h c).2.2, sem_eq_zero_of_no_sems (by decide) r.2⟩) (Cert.ReferenceGluIdeal.Value.run (F := Ideal) m ρ)

/-- The ConvFFN's gate: both programs return the two gradients of silu(a) u. -/
theorem algebraic_silu : Cert.algebraic_KernelSiluIdeal_ReferenceSiluIdeal := by
  intro m g m' g' _ hagree
  refine ⟨fun c => Cert.SiluMul.outA (Cert.SiluMul.Aa m c) (Cert.SiluMul.Au m c) (Cert.SiluMul.Ad m c),
    fun c => Cert.SiluMul.outU (Cert.SiluMul.Aa m c) (Cert.SiluMul.Ad m c),
    (θ_run Cert.KernelSiluIdeal.defs _ _).mono
      (fun _ h c => ⟨(h c).1.trans (Cert.SiluMul.out_a m c), (h c).2.1.trans (Cert.SiluMul.out_u m c), (h c).2.2⟩)
      (Cert.KernelSiluIdeal.Value.run_blocks (F := Ideal) m g),
    (θ_run Cert.ReferenceSiluIdeal.defs _ _).mono (fun _ h c => ⟨?_, ?_, (h c).2.2⟩) (Cert.ReferenceSiluIdeal.Value.run (F := Ideal) m' g')⟩
  · have h0 := (h c).1
    obtain ⟨a0, a1, a2⟩ := hagree c
    rwa [Cert.ReferenceSiluIdeal.Read.val_main_v4_eq, Cert.SiluMul.ref_a, a0, a1, a2] at h0
  · have h0 := (h c).2.1
    obtain ⟨a0, a1, a2⟩ := hagree c
    rwa [Cert.ReferenceSiluIdeal.Read.val_main_v2_eq, Cert.SiluMul.ref_u, a0, a2] at h0

/-- The gated unit: both programs return the two gradients of a σ(g). -/
theorem algebraic_glu : Cert.algebraic_KernelGluIdeal_ReferenceGluIdeal := by
  intro m g m' g' _ hagree
  refine ⟨fun c => Cert.Glu.outA (Cert.Glu.Ag m c) (Cert.Glu.Ad m c),
    fun c => Cert.Glu.outG (Cert.Glu.Aa m c) (Cert.Glu.Ag m c) (Cert.Glu.Ad m c),
    (θ_run Cert.KernelGluIdeal.defs _ _).mono
      (fun _ h c => ⟨(h c).1.trans (Cert.Glu.out_a m c), (h c).2.1.trans (Cert.Glu.out_g m c), (h c).2.2⟩)
      (Cert.KernelGluIdeal.Value.run_blocks (F := Ideal) m g),
    (θ_run Cert.ReferenceGluIdeal.defs _ _).mono (fun _ h c => ⟨?_, ?_, (h c).2.2⟩) (Cert.ReferenceGluIdeal.Value.run (F := Ideal) m' g')⟩
  · have h0 := (h c).1
    obtain ⟨a0, a1, a2⟩ := hagree c
    rwa [Cert.ReferenceGluIdeal.Read.val_main_v11_eq, Cert.Glu.ref_a, a1, a2] at h0
  · have h0 := (h c).2.1
    obtain ⟨a0, a1, a2⟩ := hagree c
    rwa [Cert.ReferenceGluIdeal.Read.val_main_v12_eq, Cert.Glu.ref_g, a0, a1, a2] at h0

end Cert.Proof

end
-- ==== Proof.ConvSpec.lean ====
/- The centred window of the depthwise convolution over the rows: the sequences of the latent (four of 2048 rows) lie
before those of the context (four of 256 rows), and a tap reads zero outside the row's own sequence. -/
module

public import Idealize.ShloMosaic.Lib.Pipeline.ValueKit
public import proofs.«01_k».proof.Proof.Products

@[expose] public section

noncomputable section

namespace Cert.ConvSpec

open Idealize.ShloMosaic Cert.Products

/-- The first row of the sequence that the row `R` lies in. -/
def lo (R : ℕ) : ℕ := if R < 8192 then R / 2048 * 2048 else R / 256 * 256
/-- The length of that sequence. -/
def len (R : ℕ) : ℕ := if R < 8192 then 2048 else 256

/-- The row `R + k - 15` of `x`, or zero outside the sequence of `R`. -/
def tapAt {n : ℕ} (x : Mat 9216 n .f32) (R : Fin 9216) (k : ℕ) (j : Fin n) : EReal :=
  if h : lo R.val + 15 ≤ R.val + k ∧ R.val + k < lo R.val + len R.val + 15 ∧ R.val + k < 9231 then
    x (ix2 ⟨R.val + k - 15, by omega⟩ j) else 0

/-- The comparison of positions, as a number. -/
theorem mask_eq (n t k : ℕ) (hn : n < 2048) (ht : t < 2048) (hk : k < 31) :
    (FloatOps.uitofp .f32 (IntOp.cmpi .eq (BitVec.ofNat 32 n) (IntOp.subi (IntOp.addi (BitVec.ofNat 32 t) (BitVec.ofNat 32 k)) 15#32)) : Ideal .f32)
      = if n + 15 = t + k then (1 : EReal) else 0 := by
  have hb : (BitVec.ofNat 32 n = BitVec.ofNat 32 t + BitVec.ofNat 32 k - 15#32) ↔ n + 15 = t + k := by
    rw [← BitVec.toNat_inj]
    simp only [BitVec.toNat_sub, BitVec.toNat_add, BitVec.toNat_ofNat]
    omega
  by_cases h : n + 15 = t + k
  · rw [if_pos h]
    have : IntOp.cmpi .eq (BitVec.ofNat 32 n) (IntOp.subi (IntOp.addi (BitVec.ofNat 32 t) (BitVec.ofNat 32 k)) 15#32) = 1#1 := by
      simp [IntOp.cmpi, IntOp.subi, IntOp.addi, hb.mpr h]
    rw [this]
    show ((1 : ℕ) : EReal) = 1
    norm_num
  · rw [if_neg h]
    have : IntOp.cmpi .eq (BitVec.ofNat 32 n) (IntOp.subi (IntOp.addi (BitVec.ofNat 32 t) (BitVec.ofNat 32 k)) 15#32) = 0#1 := by
      have := mt hb.mp h
      simp only [IntOp.cmpi, IntOp.subi, IntOp.addi]
      rw [beq_false_of_ne this]
      rfl
    rw [this]
    show ((0 : ℕ) : EReal) = 0
    norm_num

/-- The convolution with the taps of `w` in the other order. -/
def convDx (w : Mat 31 1024 .f32) (dy : Mat 9216 1024 .f32) : Mat 9216 1024 .f32 := fun i =>
  ∑ k : Fin 31, tapAt dy (i 0) k.val (i 1) * w (ix2 ⟨30 - k.val, by omega⟩ (i 1))

/-- The convolution: the bias, and the products of the window with the taps. -/
def convAll (x : Mat 9216 1024 .f32) (w : Mat 31 1024 .f32) (b : (⟨1, ![1024]⟩ : Shape).Idx → EReal) : Mat 9216 1024 .f32 := fun i =>
  b (ix1 (i 1)) + ∑ k : Fin 31, tapAt x (i 0) k.val (i 1) * w (ix2 k (i 1))
theorem convAll_at (x : Mat 9216 1024 .f32) (w : Mat 31 1024 .f32) (b : (⟨1, ![1024]⟩ : Shape).Idx → EReal)
    (i : (⟨2, ![9216, 1024]⟩ : Shape).Idx) (R : Fin 9216) (j : Fin 1024) (h0 : (i 0).val = R.val) (h1 : (i 1).val = j.val) :
    convAll x w b i = b (ix1 j) + ∑ k : Fin 31, tapAt x R k.val j * w (ix2 k j) := by
  obtain rfl : i = ix2 R j := (eq_ix2 i).trans (congrArg₂ ix2 (Fin.ext h0) (Fin.ext h1))
  rfl

theorem convDx_at (w : Mat 31 1024 .f32) (dy : Mat 9216 1024 .f32) (i : (⟨2, ![9216, 1024]⟩ : Shape).Idx) (R : Fin 9216) (j : Fin 1024)
    (h0 : (i 0).val = R.val) (h1 : (i 1).val = j.val) :
    convDx w dy i = ∑ k : Fin 31, tapAt dy R k.val j * w (ix2 ⟨30 - k.val, by omega⟩ j) := by
  obtain rfl : i = ix2 R j := (eq_ix2 i).trans (congrArg₂ ix2 (Fin.ext h0) (Fin.ext h1))
  rfl

/-- The rows around a block of 256, zeros outside its sequence: the block `T` of the latent (`T < 32`) lies inside one
sequence of eight blocks, and a block of the context is a whole sequence. -/
theorem window_eq {n : ℕ} (x : Mat 9216 n .f32) (T : ℕ) (hT : T < 36) (r : Fin 256) (k : Fin 31) (j : Fin n)
    (u d : Fin 16 → EReal) (m : Fin 256 → EReal)
    (hu : ∀ q : Fin 16, u q = x (ix2 ⟨(T * 16 - 1) * 16 + q.val, by omega⟩ j))
    (hm : ∀ q : Fin 256, m q = x (ix2 ⟨T * 256 + q.val, by omega⟩ j))
    (hd : ∀ q : Fin 16, d q = x (ix2 ⟨min (T * 16 + 16) 575 * 16 + q.val, by omega⟩ j)) :
    (if h : r.val + 1 + k.val < 16 then if T < 32 ∧ T % 8 ≠ 0 then u ⟨r.val + 1 + k.val, h⟩ else 0
      else if h' : r.val + 1 + k.val < 272 then m ⟨r.val + 1 + k.val - 16, by omega⟩
      else if T < 32 ∧ T % 8 ≠ 7 then d ⟨r.val + 1 + k.val - 272, by omega⟩ else 0)
      = tapAt x ⟨T * 256 + r.val, by omega⟩ k.val j := by
  have hk := k.isLt
  have hr := r.isLt
  unfold tapAt lo len
  simp only []
  by_cases hL : T < 32
  · have hL' : T * 256 + r.val < 8192 := by omega
    simp only [hL', hL, true_and, if_true]
    by_cases h1 : r.val + 1 + k.val < 16
    · rw [dif_pos h1]
      by_cases h2 : T % 8 ≠ 0
      · rw [if_pos h2, dif_pos (by omega), hu]
        congr 2; apply Fin.ext; simp only []; omega
      · rw [if_neg h2, dif_neg (by omega)]
    rw [dif_neg h1]
    by_cases h2 : r.val + 1 + k.val < 272
    · rw [dif_pos h2, dif_pos (by omega), hm]
      congr 2; apply Fin.ext; simp only []; omega
    rw [dif_neg h2]
    by_cases h3 : T % 8 ≠ 7
    · rw [if_pos h3, dif_pos (by omega), hd]
      congr 2; apply Fin.ext; simp only []; omega
    · rw [if_neg h3, dif_neg (by omega)]
  · have hL' : ¬ T * 256 + r.val < 8192 := by omega
    simp only [hL', hL, false_and, if_false]
    by_cases h1 : r.val + 1 + k.val < 16
    · rw [dif_pos h1, dif_neg (by omega)]
    rw [dif_neg h1]
    by_cases h2 : r.val + 1 + k.val < 272
    · rw [dif_pos h2, dif_pos (by omega), hm]
      congr 2; apply Fin.ext; simp only []; omega
    · rw [dif_neg h2, dif_neg (by omega)]

/-- The sum over the positions `t` of one sequence, the one that the comparison keeps. -/
theorem pick_eq {n : ℕ} (x : Mat 9216 n .f32) (base L : ℕ) (hL : base + L ≤ 9216) (hlo : ∀ p, p < L → lo (base + p) = base ∧ len (base + p) = L)
    (p : Fin L) (k : ℕ) (hk : k < 31) (j : Fin n) (f : EReal → EReal) (hf : f 0 = 0) :
    ∑ t : Fin L, f (x (ix2 ⟨base + t.val, by omega⟩ j)) * (if t.val + 15 = p.val + k then (1 : EReal) else 0)
      = f (tapAt x ⟨base + p.val, by omega⟩ k j) := by
  have hp := p.isLt
  obtain ⟨h0, h1⟩ := hlo p.val hp
  unfold tapAt
  simp only [h0, h1]
  by_cases h : 15 ≤ p.val + k ∧ p.val + k < L + 15
  · rw [dif_pos (by omega), Finset.sum_eq_single (⟨p.val + k - 15, by omega⟩ : Fin L)]
    · rw [if_pos (by simp only []; omega), mul_one]
      congr 3; apply Fin.ext; simp only []; omega
    · intro t _ ht
      rw [if_neg (fun h' => ht (Fin.ext (by simp only []; omega))), mul_zero]
    · intro h'; exact absurd (Finset.mem_univ _) h'
  · rw [dif_neg (by omega), hf]
    refine Finset.sum_eq_zero fun t _ => ?_
    have := t.isLt
    rw [if_neg (by omega), mul_zero]

/-- The gradient of one sequence's convolution for its input, each tap's products in the order of the taps. -/
theorem adj_eq (w : Mat 31 1024 .f32) (dy : Mat 9216 1024 .f32) (base L : ℕ) (hL : base + L ≤ 9216)
    (hlo : ∀ p, p < L → lo (base + p) = base ∧ len (base + p) = L) (p : Fin L) (j : Fin 1024) :
    ∑ k : Fin 31, ∑ t : Fin L, dy (ix2 ⟨base + t.val, by omega⟩ j) * w (ix2 k j) * (if p.val + 15 = t.val + k.val then (1 : EReal) else 0)
      = ∑ k : Fin 31, tapAt dy ⟨base + p.val, by omega⟩ k.val j * w (ix2 ⟨30 - k.val, by omega⟩ j) := by
  refine Fintype.sum_equiv Fin.revPerm _ _ fun k => ?_
  have hk : (Fin.revPerm k).val = 30 - k.val := by simp only [Fin.revPerm_apply, Fin.rev]; omega
  have hk' : (⟨30 - (Fin.revPerm k).val, by omega⟩ : Fin 31) = k := Fin.ext (by simp only [hk]; omega)
  rw [hk', hk]
  refine Eq.trans (Finset.sum_congr rfl fun t _ => ?_)
    (pick_eq dy base L hL hlo p (30 - k.val) (by omega) j (fun v => v * w (ix2 k j)) (zero_mul _))
  have : (p.val + 15 = t.val + k.val) ↔ (t.val + 15 = p.val + (30 - k.val)) := by omega
  simp only [this]

theorem lo_latent (b : ℕ) (hb : b < 4) (p : ℕ) (hp : p < 2048) : lo (b * 2048 + p) = b * 2048 ∧ len (b * 2048 + p) = 2048 := by
  unfold lo len
  rw [if_pos (by omega), if_pos (by omega)]
  omega
theorem lo_context (b : ℕ) (p : ℕ) (hp : p < 256) : lo (8192 + b * 256 + p) = 8192 + b * 256 ∧ len (8192 + b * 256 + p) = 256 := by
  unfold lo len
  rw [if_neg (by omega), if_neg (by omega)]
  omega

end Cert.ConvSpec

end
-- ==== Proof.ConvTaps.lean ====
/- One block of a depthwise convolution of 31 taps, as the kernel computes it for 128 channels: the block of 256 rows with
   the 16 rows above and below it, and the sum over the taps of shifted rows times one row of the weight. -/
module

public import proofs.«01_k».proof.Proof.Gen.KernelConvDxIdeal.Value
public import Idealize.ShloMosaic.Lib.Pipeline.ValueKit
public import Idealize.ShloMosaic.Lib.Pipeline.ValueKit.Point
public import Idealize.ShloMosaic.Lib.Pointwise
public import proofs.«01_k».proof.Proof.Point
public import proofs.«01_k».proof.Proof.ConvSpec
public import Idealize.ShloMosaic.Lib.KernelVsHost

@[expose] public section

noncomputable section

namespace Cert.ConvTaps

open Cert.KernelConvDxIdeal Cert.KernelConvDxIdeal.Gen Idealize.ShloMosaic Idealize.ShloMosaic.TcCoe Idealize.SL.Sem
open Cert.Products Cert.ConvSpec

/-- The rows that tap `k` reads, of the block's 288 rows with their surroundings: rotated by the tap's distance from the
    middle one, and cut to the 256 rows of the block. -/
def tap {F : FTy → Type} [FloatOps F] (e : FVec F S288x128 .f32) (k : ℕ) : FVec F S256x128 .f32 :=
  extractStridedSlice S256x128 ![16, 0]
    (if k = 15 then e else dynamicRotate 0 (BitVec.ofNat 32 ((303 - k) % 288)) none e rotates_S288x128_d0)
    slices_S288x128_o16_0_S256x128

/-- The bias and the first `n` taps. -/
def acc {F : FTy → Type} [FloatOps F] (e : FVec F S288x128 .f32) (b : Vec F S1x128 .f32) (w : Fin 31 → Vec F S1x128 .f32) :
    (n : ℕ) → n ≤ 31 → FVec F S256x128 .f32
  | 0, _ => addf (broadcast S256x128 (Scalar.ofBits .f32 0x00000000#32 : F .f32))
      (broadcastTo S256x128 (shapeCast S1x128 b shapeCasts_S1x128_S1x128) broadcasts_S1x128_S256x128)
  | n + 1, h => addf (acc e b w n (Nat.le_of_lt h)) (mulf (tap e n)
      (broadcastTo S256x128 (w ⟨n, h⟩) broadcasts_S1x128_S256x128))

/-- Tap `k` reads the row `k - 15` rows away. -/
theorem tap_apply (e : FVec Ideal S288x128 .f32) (k : ℕ) (hk : k < 31) (r : Fin 256) (l : Fin 128) :
    tap e k (ix2 r l) = e (ix2 ⟨r.val + 1 + k, by omega⟩ l) := by
  unfold tap
  rw [extractStridedSlice_apply ![16, 0] _ _ (ix2 r l) (ix2 ⟨r.val + 16, by omega⟩ l) (by intro a; fin_cases a <;> simp [ix2, Nat.add_comm])]
  by_cases h : k = 15
  · subst h
    rw [if_pos rfl]
  · rw [if_neg h]
    refine dynamicRotate_apply 0 _ e _ _ _ fun a => ?_
    have hb : (BitVec.ofNat 32 ((303 - k) % 288)).toNat = (303 - k) % 288 := by
      rw [BitVec.toNat_ofNat]; exact Nat.mod_eq_of_lt (by omega)
    rw [hb]
    fin_cases a
    · show r.val + 1 + k = (r.val + 16 + 288 - (303 - k) % 288 % 288) % 288
      omega
    · rfl

/-- The bias and the sum over the first `n` taps, of one entry. -/
theorem acc_apply (e : FVec Ideal S288x128 .f32) (b : Vec Ideal S1x128 .f32) (w : Fin 31 → Vec Ideal S1x128 .f32)
    (r : Fin 256) (l : Fin 128) : (n : ℕ) → (h : n ≤ 31) → acc e b w n h (ix2 r l)
      = b (ix2 0 l) + ∑ k : Fin n, e (ix2 ⟨r.val + 1 + k.val, by omega⟩ l) * w ⟨k.val, by omega⟩ (ix2 0 l)
  | 0, h => by
    unfold acc
    pointwise
    simp
  | n + 1, h => by
    rw [Fin.sum_univ_castSucc]
    unfold acc
    pointwise
    rw [acc_apply e b w r l n, tap_apply e n (by omega)]
    exact add_assoc _ _ _

variable {F : FTy → Type} [FloatOps F] (i : grid0.Coords) (x0 x2 : Vec F S16x512 .f32) (x1 : Vec F S256x512 .f32)
  (x3 : Vec F S31x512 .f32) (x4 : Vec F S1x512 .f32)

theorem inb_top (s : Fin 4) : ∀ a, (![0, s.val * 128] : Fin 2 → Nat) a + S16x128.size a ≤ S16x512.size a := by decide +revert
theorem inb_mid (s : Fin 4) : ∀ a, (![0, s.val * 128] : Fin 2 → Nat) a + S256x128.size a ≤ S256x512.size a := by decide +revert
theorem inb_w (s : Fin 4) (k : Fin 31) : ∀ a, (![k.val, s.val * 128] : Fin 2 → Nat) a + S1x128.size a ≤ S31x512.size a := by
  decide +revert
theorem inb_b (s : Fin 4) : ∀ a, (![0, s.val * 128] : Fin 2 → Nat) a + S1x128.size a ≤ S1x512.size a := by decide +revert

/-- The block with its surroundings, of 128 of the 512 channels. -/
def ext (s : Fin 4) : FVec F S288x128 .f32 :=
  k0_pay27 (BitVec.ofNat 32 (i 0).val) (View.ld x0 (Rect.unit ![0, s.val * 128] S16x128.size (inb_top s)))
    (View.ld x1 (Rect.unit ![0, s.val * 128] S256x128.size (inb_mid s))) (View.ld x2 (Rect.unit ![0, s.val * 128] S16x128.size (inb_top s)))
/-- A row in its own shape. -/
def row1 (w : Vec F S1x128 .f32) : FVec F S1x128 .f32 := shapeCast S1x128 w shapeCasts_S1x128_S1x128
/-- The convolution of 128 of the 512 channels. -/
def conv (s : Fin 4) : FVec F S256x128 .f32 :=
  acc (ext i x0 x2 x1 s) (View.ld x4 (Rect.unit ![0, s.val * 128] S1x128.size (inb_b s)))
    (fun k => row1 (View.ld x3 (Rect.unit ![k.val, s.val * 128] S1x128.size (inb_w s k)))) 31 (Nat.le_refl _)

theorem ext0 : k0_pay55 i x0 x1 x2 x3 x4 = ext i x0 x2 x1 0 := rfl
theorem ext1 : k0_pay56 i x0 x1 x2 x3 x4 = ext i x0 x2 x1 1 := rfl
theorem ext2 : k0_pay57 i x0 x1 x2 x3 x4 = ext i x0 x2 x1 2 := rfl
theorem ext3 : k0_pay58 i x0 x1 x2 x3 x4 = ext i x0 x2 x1 3 := rfl

/-- One more tap. -/
def step (e : FVec F S288x128 .f32) (k : ℕ) (a : FVec F S256x128 .f32) (w : Vec F S1x128 .f32) : FVec F S256x128 .f32 :=
  addf a (mulf (tap e k) (broadcastTo S256x128 w broadcasts_S1x128_S256x128))
/-- The bias, before any tap. -/
def start (b : Vec F S1x128 .f32) : FVec F S256x128 .f32 :=
  addf (broadcast S256x128 (Scalar.ofBits .f32 0x00000000#32 : F .f32))
      (broadcastTo S256x128 (shapeCast S1x128 b shapeCasts_S1x128_S1x128) broadcasts_S1x128_S256x128)

theorem first0 (m : Vec F S256x128 .f32) (d u : Vec F S16x128 .f32) (p q : BitVec 32) (b w0 w1 w2 w3 : Vec F S1x128 .f32) :
    k0_pay4 m d p q u b w0 w1 w2 w3 = step (k0_pay3 m d p q u) 3 (step (k0_pay3 m d p q u) 2
      (step (k0_pay3 m d p q u) 1 (step (k0_pay3 m d p q u) 0 (start b) (row1 w0)) (row1 w1)) (row1 w2)) (row1 w3) := by
  simp only [step, start, tap, Nat.reduceEqDiff, OfNat.zero_ne_ofNat, OfNat.one_ne_ofNat, ↓reduceIte, Nat.reduceSub, Nat.reduceMod]
  unfold k0_pay4 k0_pay3
  rfl
theorem next0 (m : Vec F S256x128 .f32) (d u : Vec F S16x128 .f32) (p q : BitVec 32) :
    k0_pay5 m d p q u = tap (k0_pay3 m d p q u) 4 := rfl
theorem first1 (u d : Vec F S16x128 .f32) (m : Vec F S256x128 .f32) (p : BitVec 1) (q1 q2 q3 q4 : BitVec 32) (b w0 w1 : Vec F S1x128 .f32) :
    k0_pay19 u m d p q1 q2 q3 q4 b w0 w1 = step (k0_pay18 u m d p q1 q2 q3 q4) 1 (step (k0_pay18 u m d p q1 q2 q3 q4) 0 (start b) (row1 w0)) (row1 w1) := by
  simp only [step, start, tap, Nat.reduceEqDiff, OfNat.zero_ne_ofNat, OfNat.one_ne_ofNat, ↓reduceIte, Nat.reduceSub, Nat.reduceMod]
  unfold k0_pay19 k0_pay18
  rfl
theorem first3 (u d : Vec F S16x128 .f32) (m : Vec F S256x128 .f32) (p p1 p2 p3 : BitVec 1) (q1 q2 q3 : BitVec 32) (b w0 w1 w2 : Vec F S1x128 .f32) :
    k0_pay44 u m d p q1 q2 q3 p1 p2 p3 b w0 w1 w2 = step (k0_pay43 u m d p q1 q2 q3 p1 p2 p3) 2 (step (k0_pay43 u m d p q1 q2 q3 p1 p2 p3) 1
      (step (k0_pay43 u m d p q1 q2 q3 p1 p2 p3) 0 (start b) (row1 w0)) (row1 w1)) (row1 w2) := by
  simp only [step, start, tap, Nat.reduceEqDiff, OfNat.zero_ne_ofNat, OfNat.one_ne_ofNat, ↓reduceIte, Nat.reduceSub, Nat.reduceMod]
  unfold k0_pay44 k0_pay43
  rfl

theorem out_eq : out0_5 i x0 x1 x2 x3 x4 = View.canon [⟨r0_103, conv i x0 x2 x1 x3 x4 3⟩, ⟨r0_69, conv i x0 x2 x1 x3 x4 2⟩,
    ⟨r0_35, conv i x0 x2 x1 x3 x4 1⟩, ⟨r0_1, conv i x0 x2 x1 x3 x4 0⟩] := by
  unfold out0_5
  rw [first0, next0, first1, first3, ← show k0_pay55 i x0 x1 x2 x3 x4 = k0_pay3 _ _ _ _ _ from rfl,
    ← show k0_pay56 i x0 x1 x2 x3 x4 = k0_pay18 _ _ _ _ _ _ _ _ from rfl,
    ← show k0_pay58 i x0 x1 x2 x3 x4 = k0_pay43 _ _ _ _ _ _ _ _ _ _ from rfl, ext0, ext1, ext2, ext3]
  unfold conv
  generalize ext i x0 x2 x1 0 = e0
  generalize ext i x0 x2 x1 1 = e1
  generalize ext i x0 x2 x1 2 = e2
  generalize ext i x0 x2 x1 3 = e3
  rfl

/-- The remainder by `d` as the body computes it. -/
def modulo (n d : BitVec 32) : BitVec 32 :=
  let e := Scalar.select (Scalar.cmpi .eq d 0#32) 1#32 d
  let r := Scalar.remsi n e
  Scalar.select (Scalar.andi (Scalar.xori (Scalar.cmpi .slt r 0#32) (Scalar.cmpi .slt e 0#32)) (Scalar.cmpi .ne r 0#32)) (Scalar.addi r e) r
/-- Where the block starts in its sequence. -/
def pos (n : BitVec 32) : BitVec 32 :=
  Scalar.select (Scalar.cmpi .slt n 32#32) (Scalar.muli (modulo n 8#32) 256#32) (Scalar.muli (modulo (Scalar.subi n 32#32) 1#32) 256#32)
/-- The length of its sequence. -/
def total (n : BitVec 32) : BitVec 32 := Scalar.select (Scalar.cmpi .slt n 32#32) 2048#32 256#32
/-- Rows of the sequence lie above the block. -/
def above (n : BitVec 32) : BitVec 1 := Scalar.cmpi .sgt (pos n) 0#32
/-- Rows of the sequence lie below the block. -/
def below (n : BitVec 32) : BitVec 1 := Scalar.cmpi .slt (Scalar.addi (pos n) 256#32) (total n)

theorem above_eq (n : Fin 36) : above (BitVec.ofNat 32 n.val) = if n.val < 32 ∧ n.val % 8 ≠ 0 then 1#1 else 0#1 := by
  revert n; decide +kernel
theorem below_eq (n : Fin 36) : below (BitVec.ofNat 32 n.val) = if n.val < 32 ∧ n.val % 8 ≠ 7 then 1#1 else 0#1 := by
  revert n; decide +kernel

theorem ext_def (n : BitVec 32) (u d : Vec F S16x128 .f32) (m : Vec F S256x128 .f32) :
    k0_pay27 n u m d = concatenate S288x128 0 [⟨S16x128, Scalar.select (above n) u (broadcast S16x128 (Scalar.ofBits .f32 0x00000000#32 : F .f32))⟩, ⟨S256x128, m⟩,
      ⟨S16x128, Scalar.select (below n) d (broadcast S16x128 (Scalar.ofBits .f32 0x00000000#32 : F .f32))⟩] concatenates_S16x128_S256x128_S16x128_S288x128_d0 := rfl

theorem ext_apply (n : Fin 36) (u d : FVec Ideal S16x128 .f32) (m : FVec Ideal S256x128 .f32) (q : Fin 288) (l : Fin 128) :
    k0_pay27 (BitVec.ofNat 32 n.val) u m d (ix2 q l) =
      if h : q.val < 16 then if n.val < 32 ∧ n.val % 8 ≠ 0 then u (ix2 ⟨q.val, h⟩ l) else 0
      else if h' : q.val < 272 then m (ix2 ⟨q.val - 16, by omega⟩ l)
      else if n.val < 32 ∧ n.val % 8 ≠ 7 then d (ix2 ⟨q.val - 272, by omega⟩ l) else 0 := by
  rw [ext_def, above_eq, below_eq]
  pointwise
  have hs : ∀ (p : Prop) [Decidable p] (a b : EReal), Scalar.select (if p then 1#1 else 0#1) a b = if p then a else b := by
    intro p _ a b
    by_cases h : p
    · rw [if_pos h, if_pos h]; rfl
    · rw [if_neg h, if_neg h]; rfl
  by_cases h : q.val < 16
  · rw [dif_pos h, dif_pos h]
    exact hs _ _ _
  rw [dif_neg h, dif_neg h]
  by_cases h' : q.val < 272
  · rw [dif_pos h', dif_pos (show q.val - 16 < 256 by omega)]
  rw [dif_neg h', dif_neg (show ¬ q.val - 16 < 256 by omega)]
  refine (hs _ _ _).trans ?_
  simp only [Nat.sub_sub]

theorem conv_apply (x0 x2 : FVec Ideal S16x512 .f32) (x1 : FVec Ideal S256x512 .f32) (x3 : FVec Ideal S31x512 .f32) (x4 : FVec Ideal S1x512 .f32)
    (r : Fin 256) (s : Fin 4) (l : Fin 128) :
    (out0_5 (F := Ideal) i x0 x1 x2 x3 x4 : FVec Ideal S256x512 .f32) (ix2 r ⟨s.val * 128 + l.val, by omega⟩) = x4 (ix2 0 ⟨s.val * 128 + l.val, by omega⟩) +
      ∑ k : Fin 31, ext i x0 x2 x1 s (ix2 ⟨r.val + 1 + k.val, by omega⟩ l) * x3 (ix2 k ⟨s.val * 128 + l.val, by omega⟩) := by
  rw [out_eq]
  refine (Point.tiles (fun s => conv i x0 x2 x1 x3 x4 s) r s l).trans ?_
  rw [conv, acc_apply]
  refine congrArg₂ (· + ·) ?_ (Finset.sum_congr rfl fun k _ => congrArg₂ (· * ·) rfl ?_)
  · exact View.ld_unit_apply_of (Val := Elt Ideal) (e := .f32) x4 _ _ _ _ _ fun a => by match a with | ⟨0, _⟩ => simp [ix2] | ⟨1, _⟩ => simp [ix2]
  · unfold row1
    rw [shapeCast_self]
    exact View.ld_unit_apply_of (Val := Elt Ideal) (e := .f32) x3 _ _ _ _ _ fun a => by match a with | ⟨0, _⟩ => simp [ix2] | ⟨1, _⟩ => simp [ix2]

theorem ld_side (x : FVec Ideal S16x512 .f32) (s : Fin 4) (q : Fin 16) (l : Fin 128) :
    View.ld (Val := Elt Ideal) (S := S16x512) (e' := .f32) x (Rect.unit ![0, s.val * 128] S16x128.size (inb_top s)) (ix2 q l)
      = x (ix2 q ⟨s.val * 128 + l.val, by omega⟩) :=
  View.ld_unit_apply_of (Val := Elt Ideal) (e := .f32) x _ _ _ _ (ix2 q ⟨s.val * 128 + l.val, by omega⟩)
    fun a => by match a with | ⟨0, _⟩ => simp [ix2] | ⟨1, _⟩ => simp [ix2]
theorem ld_mid (x : FVec Ideal S256x512 .f32) (s : Fin 4) (q : Fin 256) (l : Fin 128) :
    View.ld (Val := Elt Ideal) (S := S256x512) (e' := .f32) x (Rect.unit ![0, s.val * 128] S256x128.size (inb_mid s)) (ix2 q l)
      = x (ix2 q ⟨s.val * 128 + l.val, by omega⟩) :=
  View.ld_unit_apply_of (Val := Elt Ideal) (e := .f32) x _ _ _ _ (ix2 q ⟨s.val * 128 + l.val, by omega⟩)
    fun a => by match a with | ⟨0, _⟩ => simp [ix2] | ⟨1, _⟩ => simp [ix2]
/-- The rows around the block are the rows of the window's array, zeros outside the sequence. -/
theorem ext_rows (i : grid0.Coords) (x : Mat 9216 1024 .f32) (T : ℕ) (hT : T < 36) (hi : (i 0).val = T) (J : Fin 512 → Fin 1024)
    (x0 x2 : FVec Ideal S16x512 .f32) (x1 : FVec Ideal S256x512 .f32)
    (h0 : ∀ q j, x0 (ix2 q j) = x (ix2 ⟨(T * 16 - 1) * 16 + q.val, by omega⟩ (J j)))
    (h1 : ∀ q j, x1 (ix2 q j) = x (ix2 ⟨T * 256 + q.val, by omega⟩ (J j)))
    (h2 : ∀ q j, x2 (ix2 q j) = x (ix2 ⟨min (T * 16 + 16) 575 * 16 + q.val, by omega⟩ (J j)))
    (r : Fin 256) (s : Fin 4) (l : Fin 128) (k : Fin 31) :
    (ext i x0 x2 x1 s : FVec Ideal S288x128 .f32) (ix2 ⟨r.val + 1 + k.val, by omega⟩ l)
      = tapAt x ⟨T * 256 + r.val, by omega⟩ k.val (J ⟨s.val * 128 + l.val, by omega⟩) := by
  unfold ext
  rw [show BitVec.ofNat 32 (i 0).val = BitVec.ofNat 32 (⟨T, hT⟩ : Fin 36).val from congrArg _ hi, ext_apply]
  exact window_eq x T hT r k (J ⟨s.val * 128 + l.val, by omega⟩)
    (fun q => View.ld (Val := Elt Ideal) (S := S16x512) (e' := .f32) x0 (Rect.unit ![0, s.val * 128] S16x128.size (inb_top s)) (ix2 q l))
    (fun q => View.ld (Val := Elt Ideal) (S := S16x512) (e' := .f32) x2 (Rect.unit ![0, s.val * 128] S16x128.size (inb_top s)) (ix2 q l))
    (fun q => View.ld (Val := Elt Ideal) (S := S256x512) (e' := .f32) x1 (Rect.unit ![0, s.val * 128] S256x128.size (inb_mid s)) (ix2 q l))
    (fun q => (ld_side x0 s q l).trans (h0 q _)) (fun q => (ld_mid x1 s q l).trans (h1 q _)) (fun q => (ld_side x2 s q l).trans (h2 q _))

end Cert.ConvTaps

end
-- ==== Proof.ConvDx.lean ====
/- The gradient of the input of the depthwise convolution: the same convolution of the incoming gradient with the taps in
the other order. -/
module

public import proofs.«01_k».proof.Proof.Gen.KernelConvDxIdeal.Value
public import proofs.«01_k».proof.Proof.Gen.ReferenceConvDxIdeal.Run
public import proofs.«01_k».proof.Proof.Gen.ReferenceConvDxIdeal.Read
public import Idealize.ShloMosaic.Lib.Pipeline.ValueKit
public import Idealize.ShloMosaic.Lib.Pipeline.ValueKit.Point
public import Idealize.ShloMosaic.Lib.Pointwise
public import proofs.«01_k».proof.Proof.Products
public import proofs.«01_k».proof.Proof.ConvTaps
public import proofs.«01_k».proof.Proof.ConvSpec

@[expose] public section

noncomputable section

namespace Cert.ConvDx

open Cert.KernelConvDxIdeal Cert.KernelConvDxIdeal.Gen Idealize.ShloMosaic Idealize.ShloMosaic.TcCoe Idealize.SL.Sem
open Cert.Products Cert.ConvSpec Cert.ConvTaps

variable (m : (ℓ : Loc nD τ sig) → Buf (Elt Ideal) ℓ) (c : Dev nD)

abbrev Aw : Mat 31 1024 .f32 := m (c.tc.loc main_arg0)
abbrev Ady : Mat 9216 1024 .f32 := m (c.tc.loc main_arg1)

theorem coord0 : ∀ t : Fin cfg0.N, (grid0.coords t 0).val = t.val / 2 := (by decide +kernel : ∀ t : Fin grid0.N, _)
theorem idx0 : ∀ t : Fin cfg0.N, win0_0.index t = ![t.val / 2 * 16 - 1, t.val % 2] := (by decide +kernel : ∀ t : Fin grid0.N, _)
theorem idx1 : ∀ t : Fin cfg0.N, win0_1.index t = ![t.val / 2, t.val % 2] := (by decide +kernel : ∀ t : Fin grid0.N, _)
theorem idx2 : ∀ t : Fin cfg0.N, win0_2.index t = ![min (t.val / 2 * 16 + 16) 575, t.val % 2] := (by decide +kernel : ∀ t : Fin grid0.N, _)
theorem idx3 : ∀ t : Fin cfg0.N, win0_3.index t = ![0, t.val % 2] := (by decide +kernel : ∀ t : Fin grid0.N, _)
theorem idx4 : ∀ t : Fin cfg0.N, win0_4.index t = ![0, t.val % 2] := (by decide +kernel : ∀ t : Fin grid0.N, _)
theorem idx5 : ∀ t : Fin cfg0.N, win0_5.index t = ![t.val / 2, t.val % 2] := (by decide +kernel : ∀ t : Fin grid0.N, _)

theorem lt72 (t : Fin cfg0.N) : t.val < 72 := t.isLt

/-- The column `j` of the half of the channels at the point `t`. -/
def ch (t : Fin cfg0.N) (j : Fin 512) : Fin 1024 := ⟨t.val % 2 * 512 + j.val, by omega⟩

theorem top_apply (t : Fin cfg0.N) (r : Fin 16) (j : Fin 512) :
    (iblk m c 0 t : FVec Ideal S16x512 .f32) (ix2 r j) = Ady m c (ix2 ⟨(t.val / 2 * 16 - 1) * 16 + r.val, by have := lt72 t; omega⟩ (ch t j)) := by
  unfold Ady ch
  have e := idx0 t
  blk_point [iblk, V, e]
theorem mid_apply (t : Fin cfg0.N) (r : Fin 256) (j : Fin 512) :
    (iblk m c 1 t : FVec Ideal S256x512 .f32) (ix2 r j) = Ady m c (ix2 ⟨t.val / 2 * 256 + r.val, by have := lt72 t; omega⟩ (ch t j)) := by
  unfold Ady ch
  have e := idx1 t
  blk_point [iblk, V, e]
theorem bot_apply (t : Fin cfg0.N) (r : Fin 16) (j : Fin 512) :
    (iblk m c 2 t : FVec Ideal S16x512 .f32) (ix2 r j) = Ady m c (ix2 ⟨min (t.val / 2 * 16 + 16) 575 * 16 + r.val, by have := lt72 t; omega⟩ (ch t j)) := by
  unfold Ady ch
  have e := idx2 t
  blk_point [iblk, V, e]
theorem taps_eq : V m c main_v0 = Host.reverse (s := S31x1024) [0] (Aw m c) := by
  unfold Aw
  unfold_abbrev_sides
  after_results
theorem bias_eq (i : S1x1024.Idx) : (V m c main_v2 : FVec Ideal S1x1024 .f32) i = (0 : EReal) := by
  have h : V m c main_v2 = shapeCast S1x1024 (broadcastInDim S1024 ![] bcast_S_S1024 (constant (F := Ideal) S_ .f32 0x00000000#32)) shapeCasts_S1024_S1x1024 := by
    unfold_abbrev_sides
    after_results
    rfl
  rw [h, eq_ix2 i]
  pointwise
theorem w_apply (t : Fin cfg0.N) (k : Fin 31) (j : Fin 512) :
    (iblk m c 3 t : FVec Ideal S31x512 .f32) (ix2 k j) = Aw m c (ix2 ⟨30 - k.val, by omega⟩ (ch t j)) := by
  have e := idx3 t
  have h : (iblk m c 3 t : FVec Ideal S31x512 .f32) (ix2 k j) = (V m c main_v0 : FVec Ideal S31x1024 .f32) (ix2 k (ch t j)) := by
    unfold ch
    generalize hX : V m c main_v0 = X
    blk_point [iblk, hX, e]
  rw [h, taps_eq]
  generalize ch t j = l
  pointwise
  have hk : k.rev = ⟨30 - k.val, by omega⟩ := Fin.ext (by simp only [Fin.rev]; omega)
  rw [← hk]
  rfl
theorem b_apply (t : Fin cfg0.N) (j : Fin 512) :
    (iblk m c 4 t : FVec Ideal S1x512 .f32) (ix2 0 j) = (0 : EReal) := by
  unfold iblk
  exact bias_eq m c _

/-- The row of the block at the point `t`. -/
def row (t : Fin cfg0.N) (r : Fin 256) : Fin 9216 := ⟨t.val / 2 * 256 + r.val, by have := lt72 t; omega⟩

theorem out_dx : (dats m 0 c).arrAt 5 cfg0.N = convDx (Aw m c) (Ady m c) := by
  refine (dats m 0 c).arrAt_eq_of_covers 5 _ (by decide +kernel) fun t hf y => ?_
  blk_simp
  rw [after0_5]
  obtain ⟨r, j, rfl⟩ : ∃ r j, y = ix2 r j := ⟨y 0, y 1, eq_ix2 y⟩
  have hj : j = (⟨(⟨j.val / 128, by omega⟩ : Fin 4).val * 128 + (⟨j.val % 128, by omega⟩ : Fin 128).val, by simp only []; omega⟩ : Fin 512) :=
    Fin.ext (by simp only []; omega)
  refine (congrArg (fun j => (out0_5 (F := Ideal) (grid0.coords t) (iblk m c 0 t) (iblk m c 1 t) (iblk m c 2 t) (iblk m c 3 t) (iblk m c 4 t) : FVec Ideal S256x512 .f32) (ix2 r j)) hj).trans ?_
  rw [conv_apply, b_apply, zero_add]
  have e := idx5 t
  refine Eq.trans (Finset.sum_congr rfl fun k _ => ?_) (convDx_at (Aw m c) (Ady m c) _ (row t r) (ch t j) (by unfold row; blk_simp [e]) (by unfold ch; blk_simp [e])).symm
  rw [w_apply, ← hj, ext_rows (grid0.coords t) (Ady m c) (t.val / 2) (by have := lt72 t; omega) (coord0 t) (ch t) _ _ _ (top_apply m c t) (mid_apply m c t) (bot_apply m c t), ← hj]
  rfl

end Cert.ConvDx

end
-- ==== Proof.ConvDxRef.lean ====
/- What the gradient of the plain-maths convolution computes for its input. -/
module

public import proofs.«01_k».proof.Proof.Gen.ReferenceConvDxIdeal.Run
public import proofs.«01_k».proof.Proof.Gen.ReferenceConvDxIdeal.Read
public import Idealize.ShloMosaic.Lib.Pointwise
public import Idealize.ShloMosaic.Lib.KernelVsHost
public import proofs.«01_k».proof.Proof.Products
public import proofs.«01_k».proof.Proof.ConvSpec

@[expose] public section

noncomputable section

namespace Cert.ConvDxRef

open Cert.ReferenceConvDxIdeal Cert.ReferenceConvDxIdeal.Read Idealize.ShloMosaic
open Cert.Products Cert.ConvSpec

variable (w : Mat 31 1024 .f32) (dy : Mat 9216 1024 .f32)

theorem mask_latent (k : Fin 31) (t n : Fin 2048) :
    val_main_v11 (F := Ideal) (ix3 k t n) = if n.val + 15 = t.val + k.val then 1 else 0 := by
  unfold val_main_v11 val_main_v10 val_main_v9 val_main_v8 val_main_c val_main_v7 val_main_v6 val_main_v5 val_main_v4
  pointwise
  exact mask_eq _ _ _ (by omega) (by omega) k.isLt

theorem v59_apply (b : Fin 4) (j : Fin 1024) (n : Fin 2048) :
    val_main_v59 (F := Ideal) w dy (ix3 b j n) = ∑ k : Fin 31, ∑ t : Fin 2048,
      dy (ix2 ⟨b.val * 2048 + t.val, by omega⟩ j) * w (ix2 k j) * val_main_v11 (F := Ideal) (ix3 k t n) := by
  unfold val_main_v59 val_main_v58 val_main_v57 val_main_v56 val_main_v55 val_main_v54 val_main_v43 val_main_v14
  generalize val_main_v11 (F := Ideal) = M
  pointwise

theorem mask_context (k : Fin 31) (t n : Fin 256) :
    val_main_v31 (F := Ideal) (ix3 k t n) = if n.val + 15 = t.val + k.val then 1 else 0 := by
  unfold val_main_v31 val_main_v30 val_main_v29 val_main_v28 val_main_c_2 val_main_v27 val_main_v26 val_main_v25 val_main_v24
  pointwise
  exact mask_eq _ _ _ (by omega) (by omega) k.isLt

theorem v50_apply (b : Fin 4) (j : Fin 1024) (n : Fin 256) :
    val_main_v50 (F := Ideal) w dy (ix3 b j n) = ∑ k : Fin 31, ∑ t : Fin 256,
      dy (ix2 ⟨8192 + b.val * 256 + t.val, by omega⟩ j) * w (ix2 k j) * val_main_v31 (F := Ideal) (ix3 k t n) := by
  unfold val_main_v50 val_main_v49 val_main_v48 val_main_v47 val_main_v46 val_main_v45 val_main_v44 val_main_v34
  generalize val_main_v31 (F := Ideal) = M
  pointwise
  simp only [Nat.add_assoc]

theorem v52_apply (r : Fin 1024) (j : Fin 1024) :
    val_main_v52 (F := Ideal) w dy (ix2 r j) = val_main_v50 (F := Ideal) w dy (ix3 ⟨r.val / 256, by omega⟩ j ⟨r.val % 256, by omega⟩) := by
  unfold val_main_v52 val_main_v51
  generalize val_main_v50 (F := Ideal) w dy = M
  pointwise
theorem v61_apply (r : Fin 8192) (j : Fin 1024) :
    val_main_v61 (F := Ideal) w dy (ix2 r j) = val_main_v59 (F := Ideal) w dy (ix3 ⟨r.val / 2048, by omega⟩ j ⟨r.val % 2048, by omega⟩) := by
  unfold val_main_v61 val_main_v60
  generalize val_main_v59 (F := Ideal) w dy = M
  pointwise

/-- A row of the context. -/
def ctx (r : Fin 1024) : Fin 9216 := ⟨8192 + r.val, by omega⟩
theorem v53_context (r j : Fin 1024) : val_main_v53 (F := Ideal) w dy (ix2 (ctx r) j) = val_main_v52 (F := Ideal) w dy (ix2 r j) :=
  pad_apply_of_inside _ _ _ _ _ _ _ _ (ix2 r j) fun a => by match a with | ⟨0, _⟩ => simp [ix2, ctx] | ⟨1, _⟩ => simp [ix2]
theorem v53_latent (r : Fin 8192) (j : Fin 1024) : val_main_v53 (F := Ideal) w dy (ix2 ⟨r.val, by omega⟩ j) = (0 : EReal) :=
  (pad_apply_of_not_inside _ _ _ _ _ _ _ _ 0 fun h => by have := h.1; have := r.isLt; simp [ix2] at *; omega).trans (by
    unfold val_main_cst_4
    exact Ideal.ofBits_zero_f32)
theorem v62_apply (R : Fin 9216) (j : Fin 1024) :
    val_main_v62 (F := Ideal) w dy (ix2 R j) = if h : R.val < 8192 then val_main_v61 (F := Ideal) w dy (ix2 ⟨R.val, h⟩ j) else (0 : EReal) := by
  unfold val_main_v62 val_main_cst_5
  generalize val_main_v61 (F := Ideal) w dy = M
  pointwise

theorem ref_eq : val_main_v63 (F := Ideal) w dy = convDx w dy := by
  funext i
  obtain ⟨R, j, rfl⟩ : ∃ R j, i = ix2 R j := ⟨i 0, i 1, eq_ix2 i⟩
  have hs : val_main_v63 (F := Ideal) w dy (ix2 R j) = (val_main_v53 (F := Ideal) w dy (ix2 R j) : EReal) + val_main_v62 (F := Ideal) w dy (ix2 R j) := rfl
  rw [hs, v62_apply]
  by_cases h : R.val < 8192
  · rw [dif_pos h, show val_main_v53 (F := Ideal) w dy (ix2 R j) = (0 : EReal) from v53_latent w dy ⟨R.val, h⟩ j, zero_add, v61_apply, v59_apply]
    simp only [mask_latent]
    refine (adj_eq w dy (R.val / 2048 * 2048) 2048 (by omega) (lo_latent _ (by omega)) ⟨R.val % 2048, by omega⟩ j).trans ?_
    exact (convDx_at w dy _ _ j (by simp only [ix2]; show R.val = _; omega) rfl).symm
  · rw [dif_neg h, add_zero]
    obtain ⟨r, rfl⟩ : ∃ r : Fin 1024, R = ctx r := ⟨⟨R.val - 8192, by omega⟩, Fin.ext (by simp only [ctx]; omega)⟩
    rw [v53_context, v52_apply, v50_apply]
    simp only [mask_context]
    refine (adj_eq w dy (8192 + r.val / 256 * 256) 256 (by omega) (lo_context _) ⟨r.val % 256, by omega⟩ j).trans ?_
    exact (convDx_at w dy _ _ j (by simp only [ix2]; show 8192 + r.val = _; omega) rfl).symm

end Cert.ConvDxRef

end
-- ==== Proof.ConvFwdTaps.lean ====
/- One block of the forward convolution: the same sum over the taps, with the weight's rows as they are loaded. -/
module

public import proofs.«01_k».proof.Proof.Gen.KernelConvIdeal.Value
public import Idealize.ShloMosaic.Lib.Pipeline.ValueKit
public import Idealize.ShloMosaic.Lib.Pipeline.ValueKit.Point
public import Idealize.ShloMosaic.Lib.Pointwise
public import proofs.«01_k».proof.Proof.ConvTaps
public import proofs.«01_k».proof.Proof.ConvSpec
public import Idealize.ShloMosaic.Lib.KernelVsHost

@[expose] public section

noncomputable section

namespace Cert.ConvFwdTaps

open Cert.KernelConvIdeal Cert.KernelConvIdeal.Gen Idealize.ShloMosaic Idealize.ShloMosaic.TcCoe Idealize.SL.Sem
open Cert.Products Cert.ConvSpec Cert.ConvTaps

variable {F : FTy → Type} [FloatOps F] (i : grid0.Coords) (x0 x2 : Vec F S16x512 .f32) (x1 : Vec F S256x512 .f32)
  (x3 : Vec F S31x512 .f32) (x4 : Vec F S1x512 .f32)

/-- The convolution of 128 of the 512 channels. -/
def fwd (s : Fin 4) : FVec F S256x128 .f32 :=
  acc (ext i x0 x2 x1 s) (View.ld x4 (Rect.unit ![0, s.val * 128] S1x128.size (inb_b s)))
    (fun k => View.ld x3 (Rect.unit ![k.val, s.val * 128] S1x128.size (inb_w s k))) 31 (Nat.le_refl _)

theorem ext0 : k0_pay45 i x0 x1 x2 x3 x4 = ext i x0 x2 x1 0 := rfl
theorem ext1 : k0_pay48 i x0 x1 x2 x3 x4 = ext i x0 x2 x1 1 := rfl
theorem ext2 : k0_pay49 i x0 x1 x2 x3 x4 = ext i x0 x2 x1 2 := rfl
theorem ext3 : k0_pay50 i x0 x1 x2 x3 x4 = ext i x0 x2 x1 3 := rfl

/-- The bias and the first five taps of the rows `e`. -/
def five (e : FVec F S288x128 .f32) (b w0 w1 w2 w3 w4 : Vec F S1x128 .f32) : FVec F S256x128 .f32 :=
  step e 4 (step e 3 (step e 2 (step e 1 (step e 0 (start b) w0) w1) w2) w3) w4

theorem first0 (m : Vec F S256x128 .f32) (d u : Vec F S16x128 .f32) (p q : BitVec 32) (b w0 w1 w2 w3 w4 : Vec F S1x128 .f32) :
    k0_pay3 m d p q u b w0 w1 w2 w3 w4 = five (k0_pay2 m d p q u) b w0 w1 w2 w3 w4 := by
  simp only [five, step, start, tap, Nat.reduceEqDiff, OfNat.zero_ne_ofNat, OfNat.one_ne_ofNat, ↓reduceIte, Nat.reduceSub, Nat.reduceMod]
  unfold k0_pay3 k0_pay2
  rfl
theorem first1 (m : Vec F S256x128 .f32) (d u : Vec F S16x128 .f32) (b w0 w1 w2 w3 w4 : Vec F S1x128 .f32) :
    k0_pay14 m u d b w0 w1 w2 w3 w4 = five (k0_pay13 m u d) b w0 w1 w2 w3 w4 := by
  simp only [five, step, start, tap, Nat.reduceEqDiff, OfNat.zero_ne_ofNat, OfNat.one_ne_ofNat, ↓reduceIte, Nat.reduceSub, Nat.reduceMod]
  unfold k0_pay14 k0_pay13
  rfl
theorem next1 (m : Vec F S256x128 .f32) (d u : Vec F S16x128 .f32) : k0_pay15 m u d = tap (k0_pay13 m u d) 5 := rfl
theorem next3 (n q : BitVec 32) (u d : Vec F S16x128 .f32) (m : Vec F S256x128 .f32) (p : BitVec 1) :
    k0_pay35 n u m d p q = tap (k0_pay33 n u m d p q) 0 := rfl

theorem out_eq : out0_5 i x0 x1 x2 x3 x4 = View.canon [⟨r0_103, fwd i x0 x2 x1 x3 x4 3⟩, ⟨r0_69, fwd i x0 x2 x1 x3 x4 2⟩,
    ⟨r0_35, fwd i x0 x2 x1 x3 x4 1⟩, ⟨r0_1, fwd i x0 x2 x1 x3 x4 0⟩] := by
  unfold out0_5
  rw [first0, first1, next1, next3, ← show k0_pay45 i x0 x1 x2 x3 x4 = k0_pay2 _ _ _ _ _ from rfl,
    ← show k0_pay48 i x0 x1 x2 x3 x4 = k0_pay13 _ _ _ from rfl,
    ← show k0_pay50 i x0 x1 x2 x3 x4 = k0_pay33 _ _ _ _ _ _ from rfl, ext0, ext1, ext2, ext3]
  unfold fwd
  generalize ext i x0 x2 x1 0 = e0
  generalize ext i x0 x2 x1 1 = e1
  generalize ext i x0 x2 x1 2 = e2
  generalize ext i x0 x2 x1 3 = e3
  rfl

/-- One entry of the block: the bias and the sum over the taps. -/
theorem fwd_apply (i : grid0.Coords) (x0 x2 : FVec Ideal S16x512 .f32) (x1 : FVec Ideal S256x512 .f32) (x3 : FVec Ideal S31x512 .f32)
    (x4 : FVec Ideal S1x512 .f32) (r : Fin 256) (s : Fin 4) (l : Fin 128) :
    (out0_5 (F := Ideal) i x0 x1 x2 x3 x4 : FVec Ideal S256x512 .f32) (ix2 r ⟨s.val * 128 + l.val, by omega⟩) = x4 (ix2 0 ⟨s.val * 128 + l.val, by omega⟩) +
      ∑ k : Fin 31, (ext i x0 x2 x1 s : FVec Ideal S288x128 .f32) (ix2 ⟨r.val + 1 + k.val, by omega⟩ l) * x3 (ix2 k ⟨s.val * 128 + l.val, by omega⟩) := by
  rw [out_eq]
  refine (Point.tiles (fun s => fwd i x0 x2 x1 x3 x4 s) r s l).trans ?_
  rw [fwd, acc_apply]
  refine congrArg₂ (· + ·) ?_ (Finset.sum_congr rfl fun k _ => congrArg₂ (· * ·) rfl ?_)
  · exact View.ld_unit_apply_of (Val := Elt Ideal) (e := .f32) x4 _ _ _ _ _ fun a => by match a with | ⟨0, _⟩ => simp [ix2] | ⟨1, _⟩ => simp [ix2]
  · exact View.ld_unit_apply_of (Val := Elt Ideal) (e := .f32) x3 _ _ _ _ _ fun a => by match a with | ⟨0, _⟩ => simp [ix2] | ⟨1, _⟩ => simp [ix2]

end Cert.ConvFwdTaps

end
-- ==== Proof.Conv.lean ====
/- The depthwise convolution itself: the bias and, over the window of the row, the products with the taps. -/
module

public import proofs.«01_k».proof.Proof.Gen.KernelConvIdeal.Value
public import proofs.«01_k».proof.Proof.Gen.ReferenceConvIdeal.Run
public import proofs.«01_k».proof.Proof.Gen.ReferenceConvIdeal.Read
public import Idealize.ShloMosaic.Lib.Pipeline.ValueKit
public import Idealize.ShloMosaic.Lib.Pipeline.ValueKit.Point
public import Idealize.ShloMosaic.Lib.Pointwise
public import proofs.«01_k».proof.Proof.Products
public import proofs.«01_k».proof.Proof.ConvFwdTaps
public import proofs.«01_k».proof.Proof.ConvSpec

@[expose] public section

noncomputable section

namespace Cert.Conv

open Cert.KernelConvIdeal Cert.KernelConvIdeal.Gen Idealize.ShloMosaic Idealize.ShloMosaic.TcCoe Idealize.SL.Sem
open Cert.Products Cert.ConvSpec Cert.ConvTaps Cert.ConvFwdTaps

variable (m : (ℓ : Loc nD τ sig) → Buf (Elt Ideal) ℓ) (c : Dev nD)

abbrev Ax : Mat 9216 1024 .f32 := m (c.tc.loc main_arg0)
abbrev Aw : Mat 31 1024 .f32 := m (c.tc.loc main_arg1)
abbrev Ab : (⟨1, ![1024]⟩ : Shape).Idx → EReal := m (c.tc.loc main_arg2)

theorem coord0 : ∀ t : Fin cfg0.N, (grid0.coords t 0).val = t.val / 2 := (by decide +kernel : ∀ t : Fin grid0.N, _)
theorem idx0 : ∀ t : Fin cfg0.N, win0_0.index t = ![t.val / 2 * 16 - 1, t.val % 2] := (by decide +kernel : ∀ t : Fin grid0.N, _)
theorem idx1 : ∀ t : Fin cfg0.N, win0_1.index t = ![t.val / 2, t.val % 2] := (by decide +kernel : ∀ t : Fin grid0.N, _)
theorem idx2 : ∀ t : Fin cfg0.N, win0_2.index t = ![min (t.val / 2 * 16 + 16) 575, t.val % 2] := (by decide +kernel : ∀ t : Fin grid0.N, _)
theorem idx3 : ∀ t : Fin cfg0.N, win0_3.index t = ![0, t.val % 2] := (by decide +kernel : ∀ t : Fin grid0.N, _)
theorem idx4 : ∀ t : Fin cfg0.N, win0_4.index t = ![0, t.val % 2] := (by decide +kernel : ∀ t : Fin grid0.N, _)
theorem idx5 : ∀ t : Fin cfg0.N, win0_5.index t = ![t.val / 2, t.val % 2] := (by decide +kernel : ∀ t : Fin grid0.N, _)

theorem lt72 (t : Fin cfg0.N) : t.val < 72 := t.isLt

/-- The column `j` of the half of the channels at the point `t`. -/
def ch (t : Fin cfg0.N) (j : Fin 512) : Fin 1024 := ⟨t.val % 2 * 512 + j.val, by omega⟩

theorem top_apply (t : Fin cfg0.N) (r : Fin 16) (j : Fin 512) :
    (iblk m c 0 t : FVec Ideal S16x512 .f32) (ix2 r j) = Ax m c (ix2 ⟨(t.val / 2 * 16 - 1) * 16 + r.val, by have := lt72 t; omega⟩ (ch t j)) := by
  unfold Ax ch
  have e := idx0 t
  blk_point [iblk, V, e]
theorem mid_apply (t : Fin cfg0.N) (r : Fin 256) (j : Fin 512) :
    (iblk m c 1 t : FVec Ideal S256x512 .f32) (ix2 r j) = Ax m c (ix2 ⟨t.val / 2 * 256 + r.val, by have := lt72 t; omega⟩ (ch t j)) := by
  unfold Ax ch
  have e := idx1 t
  blk_point [iblk, V, e]
theorem bot_apply (t : Fin cfg0.N) (r : Fin 16) (j : Fin 512) :
    (iblk m c 2 t : FVec Ideal S16x512 .f32) (ix2 r j) = Ax m c (ix2 ⟨min (t.val / 2 * 16 + 16) 575 * 16 + r.val, by have := lt72 t; omega⟩ (ch t j)) := by
  unfold Ax ch
  have e := idx2 t
  blk_point [iblk, V, e]
theorem w_apply (t : Fin cfg0.N) (k : Fin 31) (j : Fin 512) :
    (iblk m c 3 t : FVec Ideal S31x512 .f32) (ix2 k j) = Aw m c (ix2 k (ch t j)) := by
  unfold Aw ch
  have e := idx3 t
  blk_point [iblk, V, e]
theorem bias_eq (j : Fin 1024) : (V m c main_v0 : FVec Ideal S1x1024 .f32) (ix2 0 j) = Ab m c (ix1 j) := by
  have h : V m c main_v0 = shapeCast S1x1024 (Ab m c) shapeCasts_S1024_S1x1024 := by
    unfold Ab
    unfold_abbrev_sides
    after_results
    rfl
  rw [h]
  pointwise
theorem b_apply (t : Fin cfg0.N) (j : Fin 512) :
    (iblk m c 4 t : FVec Ideal S1x512 .f32) (ix2 0 j) = Ab m c (ix1 (ch t j)) := by
  have e := idx4 t
  rw [← bias_eq]
  unfold ch
  generalize hX : V m c main_v0 = X
  blk_point [iblk, hX, e]

/-- The row of the block at the point `t`. -/
def row (t : Fin cfg0.N) (r : Fin 256) : Fin 9216 := ⟨t.val / 2 * 256 + r.val, by have := lt72 t; omega⟩

theorem out_conv : (dats m 0 c).arrAt 5 cfg0.N = convAll (Ax m c) (Aw m c) (Ab m c) := by
  refine (dats m 0 c).arrAt_eq_of_covers 5 _ (by decide +kernel) fun t hf y => ?_
  blk_simp
  rw [after0_5]
  obtain ⟨r, j, rfl⟩ : ∃ r j, y = ix2 r j := ⟨y 0, y 1, eq_ix2 y⟩
  have hj : j = (⟨(⟨j.val / 128, by omega⟩ : Fin 4).val * 128 + (⟨j.val % 128, by omega⟩ : Fin 128).val, by simp only []; omega⟩ : Fin 512) :=
    Fin.ext (by simp only []; omega)
  refine (congrArg (fun j => (out0_5 (F := Ideal) (grid0.coords t) (iblk m c 0 t) (iblk m c 1 t) (iblk m c 2 t) (iblk m c 3 t) (iblk m c 4 t) : FVec Ideal S256x512 .f32) (ix2 r j)) hj).trans ?_
  refine (fwd_apply (grid0.coords t) _ _ _ _ _ _ _ _).trans ?_
  rw [b_apply, ← hj]
  have e := idx5 t
  refine Eq.trans (congrArg₂ (· + ·) rfl (Finset.sum_congr rfl fun k _ => ?_)) (convAll_at (Ax m c) (Aw m c) (Ab m c) _ (row t r) (ch t j) (by unfold row; blk_simp [e]) (by unfold ch; blk_simp [e])).symm
  rw [w_apply, ext_rows (grid0.coords t) (Ax m c) (t.val / 2) (by have := lt72 t; omega) (coord0 t) (ch t) _ _ _ (top_apply m c t) (mid_apply m c t) (bot_apply m c t)]
  exact congrArg (fun j' => tapAt (Ax m c) (row t r) k.val (ch t j') * Aw m c (ix2 k (ch t j))) hj.symm

end Cert.Conv

end
-- ==== Proof.ConvRef.lean ====
/- What the plain-maths convolution computes. -/
module

public import proofs.«01_k».proof.Proof.Gen.ReferenceConvIdeal.Run
public import proofs.«01_k».proof.Proof.Gen.ReferenceConvIdeal.Read
public import Idealize.ShloMosaic.Lib.Pointwise
public import Idealize.ShloMosaic.Lib.KernelVsHost
public import proofs.«01_k».proof.Proof.Products
public import proofs.«01_k».proof.Proof.ConvSpec

@[expose] public section

noncomputable section

namespace Cert.ConvRef

open Cert.ReferenceConvIdeal Cert.ReferenceConvIdeal.Read Idealize.ShloMosaic
open Cert.Products Cert.ConvSpec

variable (x : Mat 9216 1024 .f32) (w : Mat 31 1024 .f32) (b : (⟨1, ![1024]⟩ : Shape).Idx → EReal)

theorem mask_latent (k : Fin 31) (t s : Fin 2048) :
    val_main_v9 (F := Ideal) (ix3 k t s) = if s.val + 15 = t.val + k.val then 1 else 0 := by
  unfold val_main_v9 val_main_v8 val_main_v7 val_main_v6 val_main_c val_main_v5 val_main_v4 val_main_v3 val_main_v2
  pointwise
  exact mask_eq _ _ _ (by omega) (by omega) k.isLt

theorem mask_context (k : Fin 31) (t s : Fin 256) :
    val_main_v29 (F := Ideal) (ix3 k t s) = if s.val + 15 = t.val + k.val then 1 else 0 := by
  unfold val_main_v29 val_main_v28 val_main_v27 val_main_v26 val_main_c_0 val_main_v25 val_main_v24 val_main_v23 val_main_v22
  pointwise
  exact mask_eq _ _ _ (by omega) (by omega) k.isLt

/-- A row of the first four sequences. -/
theorem latent_apply (r : Fin 8192) (j : Fin 1024) :
    val_main_v19 (F := Ideal) x w b (ix2 r j) = (∑ k : Fin 31, (∑ s : Fin 2048,
      x (ix2 ⟨r.val / 2048 * 2048 + s.val, by omega⟩ j) * val_main_v9 (F := Ideal) (ix3 k ⟨r.val % 2048, by omega⟩ s)) * w (ix2 k j)) + b (ix1 j) := by
  unfold val_main_v19 val_main_v18 val_main_v17 val_main_v16 val_main_v15 val_main_v14 val_main_v13 val_main_v12 val_main_v11 val_main_v10
    val_main_v1 val_main_v0 val_main_cst
  generalize val_main_v9 (F := Ideal) = M
  pointwise

/-- A row of the last four. -/
theorem context_apply (r : Fin 1024) (j : Fin 1024) :
    val_main_v39 (F := Ideal) x w b (ix2 r j) = (∑ k : Fin 31, (∑ s : Fin 256,
      x (ix2 ⟨8192 + r.val / 256 * 256 + s.val, by omega⟩ j) * val_main_v29 (F := Ideal) (ix3 k ⟨r.val % 256, by omega⟩ s)) * w (ix2 k j)) + b (ix1 j) := by
  unfold val_main_v39 val_main_v38 val_main_v37 val_main_v36 val_main_v35 val_main_v34 val_main_v33 val_main_v32 val_main_v31 val_main_v30
    val_main_v21 val_main_v20 val_main_cst_1
  generalize val_main_v29 (F := Ideal) = M
  pointwise
  simp only [Nat.add_assoc]

theorem all_apply (R : Fin 9216) (j : Fin 1024) :
    val_main_v40 (F := Ideal) x w b (ix2 R j) = if h : R.val < 8192 then val_main_v19 (F := Ideal) x w b (ix2 ⟨R.val, h⟩ j)
      else val_main_v39 (F := Ideal) x w b (ix2 ⟨R.val - 8192, by omega⟩ j) := by
  unfold val_main_v40
  generalize val_main_v19 (F := Ideal) x w b = L
  generalize val_main_v39 (F := Ideal) x w b = M
  pointwise

theorem ref_eq : val_main_v40 (F := Ideal) x w b = convAll x w b := by
  funext i
  obtain ⟨R, j, rfl⟩ : ∃ R j, i = ix2 R j := ⟨i 0, i 1, eq_ix2 i⟩
  rw [all_apply]
  refine Eq.trans ?_ (convAll_at x w b (ix2 R j) R j rfl rfl).symm
  by_cases h : R.val < 8192
  · rw [dif_pos h, latent_apply, add_comm]
    simp only [mask_latent]
    refine congrArg₂ (· + ·) rfl (Finset.sum_congr rfl fun k _ => congrArg (· * w (ix2 k j)) ?_)
    have hp := pick_eq x (R.val / 2048 * 2048) 2048 (by omega) (lo_latent _ (by omega)) ⟨R.val % 2048, by omega⟩ k.val k.isLt j (fun a => a) rfl
    refine hp.trans (congrArg (fun r => tapAt x r k.val j) (Fin.ext ?_))
    show R.val / 2048 * 2048 + R.val % 2048 = R.val
    omega
  · rw [dif_neg h, context_apply, add_comm]
    simp only [mask_context]
    refine congrArg₂ (· + ·) rfl (Finset.sum_congr rfl fun k _ => congrArg (· * w (ix2 k j)) ?_)
    have hp := pick_eq x (8192 + (R.val - 8192) / 256 * 256) 256 (by omega) (lo_context _) ⟨(R.val - 8192) % 256, by omega⟩ k.val k.isLt j
      (fun a => a) rfl
    refine hp.trans (congrArg (fun r => tapAt x r k.val j) (Fin.ext ?_))
    show 8192 + (R.val - 8192) / 256 * 256 + (R.val - 8192) % 256 = R.val
    omega

end Cert.ConvRef

end
-- ==== Proof.ConvClaims.lean ====
/- The claims about the depthwise convolution and the gradient of its input: the references' frames, and the equations. -/
module

public import proofs.«01_k».proof.Defs
public import proofs.«01_k».proof.Proof.ConvDx
public import proofs.«01_k».proof.Proof.ConvDxRef
public import proofs.«01_k».proof.Proof.Conv
public import proofs.«01_k».proof.Proof.ConvRef
public import Idealize.ShloMosaic.Adequacy
public import Idealize.ShloMosaic.Init

@[expose] public section

noncomputable section

namespace Cert.Proof

open Idealize.ShloMosaic Idealize.SL.Sem

theorem frame_referenceConvDxIdeal : Cert.quiescent_ReferenceConvDxIdeal := fun m ρ _ =>
  (θ_run Cert.ReferenceConvDxIdeal.defs _ _).mono
    (fun r h => ⟨fun c => (h c).2, sem_eq_zero_of_no_sems (by decide) r.2⟩) (Cert.ReferenceConvDxIdeal.Value.run (F := Ideal) m ρ)
theorem frame_referenceConvIdeal : Cert.quiescent_ReferenceConvIdeal := fun m ρ _ =>
  (θ_run Cert.ReferenceConvIdeal.defs _ _).mono
    (fun r h => ⟨fun c => (h c).2, sem_eq_zero_of_no_sems (by decide) r.2⟩) (Cert.ReferenceConvIdeal.Value.run (F := Ideal) m ρ)

/-- The gradient of the convolution's input. -/
theorem algebraic_convDx : Cert.algebraic_KernelConvDxIdeal_ReferenceConvDxIdeal := by
  intro m g m' g' _ hagree
  refine ⟨fun c => Cert.ConvSpec.convDx (Cert.ConvDx.Aw m c) (Cert.ConvDx.Ady m c),
    (θ_run Cert.KernelConvDxIdeal.defs _ _).mono
      (fun _ h c => ⟨(h c).1.trans (Cert.ConvDx.out_dx m c), (h c).2⟩) (Cert.KernelConvDxIdeal.Value.run_blocks (F := Ideal) m g),
    (θ_run Cert.ReferenceConvDxIdeal.defs _ _).mono (fun _ h c => ⟨?_, (h c).2⟩) (Cert.ReferenceConvDxIdeal.Value.run (F := Ideal) m' g')⟩
  have h0 := (h c).1
  obtain ⟨a0, a1⟩ := hagree c
  rwa [Cert.ReferenceConvDxIdeal.Read.val_main_v63_eq, Cert.ConvDxRef.ref_eq, a0, a1] at h0

/-- The convolution itself. -/
theorem algebraic_conv : Cert.algebraic_KernelConvIdeal_ReferenceConvIdeal := by
  intro m g m' g' _ hagree
  refine ⟨fun c => Cert.ConvSpec.convAll (Cert.Conv.Ax m c) (Cert.Conv.Aw m c) (Cert.Conv.Ab m c),
    (θ_run Cert.KernelConvIdeal.defs _ _).mono
      (fun _ h c => ⟨(h c).1.trans (Cert.Conv.out_conv m c), (h c).2⟩) (Cert.KernelConvIdeal.Value.run_blocks (F := Ideal) m g),
    (θ_run Cert.ReferenceConvIdeal.defs _ _).mono (fun _ h c => ⟨?_, (h c).2⟩) (Cert.ReferenceConvIdeal.Value.run (F := Ideal) m' g')⟩
  have h0 := (h c).1
  obtain ⟨a0, a1, a2⟩ := hagree c
  rwa [Cert.ReferenceConvIdeal.Read.val_main_v40_eq, Cert.ConvRef.ref_eq, a0, a1, a2] at h0

end Cert.Proof

end
-- ==== Proof.Kv.lean ====
/- A key or value projection, of 256 columns, and the gradients of its input, weight and bias. -/
module

public import proofs.«01_k».proof.Proof.Gen.KernelKvIdeal.Value
public import proofs.«01_k».proof.Proof.Gen.ReferenceKvIdeal.Run
public import proofs.«01_k».proof.Proof.Gen.ReferenceKvIdeal.Read
public import proofs.«01_k».proof.Proof.Gen.KernelKvDxIdeal.Value
public import proofs.«01_k».proof.Proof.Gen.ReferenceKvDxIdeal.Run
public import proofs.«01_k».proof.Proof.Gen.ReferenceKvDxIdeal.Read
public import proofs.«01_k».proof.Proof.Gen.KernelKvDwIdeal.Value
public import proofs.«01_k».proof.Proof.Gen.ReferenceKvDwIdeal.Run
public import proofs.«01_k».proof.Proof.Gen.ReferenceKvDwIdeal.Read
public import proofs.«01_k».proof.Proof.Gen.KernelKvDbIdeal.Value
public import proofs.«01_k».proof.Proof.Gen.ReferenceKvDbIdeal.Run
public import proofs.«01_k».proof.Proof.Gen.ReferenceKvDbIdeal.Read
public import proofs.«01_k».proof.Proof.Products
public import Idealize.ShloMosaic.Lib.Pipeline.ValueKit
public import Idealize.ShloMosaic.Lib.Pipeline.ValueKit.Point
public import Idealize.ShloMosaic.Lib.Pointwise

@[expose] public section

noncomputable section

namespace Cert.Kv

open Cert.KernelKvIdeal Cert.KernelKvIdeal.Gen Idealize.ShloMosaic Idealize.ShloMosaic.TcCoe Idealize.SL.Sem
open Cert.Products

variable (m : (ℓ : Loc nD τ sig) → Buf (Elt Ideal) ℓ) (c : Dev nD)

abbrev Ax : Mat 9216 1024 .f32 := m (c.tc.loc main_arg0)
abbrev Aw : Mat 1024 256 .bf16 := m (c.tc.loc main_arg1)
abbrev Ab : FVec Ideal (⟨1, ![256]⟩ : Shape) .f32 := m (c.tc.loc main_arg2)

theorem lt9 (t : Fin cfg0.N) : t.val < 9 := t.isLt

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val, 0] := (by decide +kernel : ∀ t : Fin grid0.N, _)

theorem x_apply (t : Fin cfg0.N) (r k : Fin 1024) :
    (iblk m c 0 t : FVec Ideal S1024x1024 .f32) (ix2 r k) = Ax m c (ix2 ⟨t.val * 1024 + r.val, by have := lt9 t; omega⟩ k) := by
  unfold Ax
  have e := idx0 t
  blk_point [iblk, V, e]
theorem w_apply (t : Fin cfg0.N) (k : Fin 1024) (j : Fin 256) :
    (iblk m c 1 t : FVec Ideal S1024x256 .bf16) (ix2 k j) = Aw m c (ix2 k j) := by
  unfold Aw
  have e := idx1 t
  blk_point [iblk, V, e]
theorem b_apply (t : Fin cfg0.N) (j : Fin 256) :
    (iblk m c 2 t : FVec Ideal S1x256 .f32) (ix2 0 j) = Ab m c (ix1 j) := by
  unfold Ab
  have e := idx2 t
  blk_point [iblk, V, e]

theorem pay_apply (x : FVec Ideal S1024x1024 .f32) (w : FVec Ideal S1024x256 .bf16) (b : FVec Ideal S1x256 .f32) (r : Fin 1024) (j : Fin 256) :
    k0_pay3 (k0_pay2 k0_pay1 x w) b (ix2 r j) = (∑ k : Fin 1024, x (ix2 r k) * w (ix2 k j)) + b (ix2 0 j) := by
  unfold k0_pay3 k0_pay2 k0_pay1
  pointwise

theorem out_y : (dats m 0 c).arrAt 3 cfg0.N = plusRow (nn (Ax m c) (Aw m c)) (Ab m c) := by
  refine (dats m 0 c).arrAt_eq_of_covers 3 _ (by decide +kernel) fun t hf y => ?_
  blk_simp
  rw [after0_3]
  obtain ⟨r, j, rfl⟩ : ∃ r j, y = ix2 r j := ⟨y 0, y 1, eq_ix2 y⟩
  unfold outsAt0
  frame_out
  rw [pay_apply]
  simp only [x_apply, w_apply, b_apply]
  have e := idx3 t
  exact (plusRow_nn_at (Ax m c) (Aw m c) (Ab m c) _ _ _ (by blk_simp [e]) (by blk_simp [e])).symm

theorem ref_eq (x : Mat 9216 1024 .f32) (w : Mat 1024 256 .bf16) (b : FVec Ideal (⟨1, ![256]⟩ : Shape) .f32) :
    Cert.ReferenceKvIdeal.Read.val_main_v4 (F := Ideal) x w b = plusRow (nn x w) b := by
  funext i
  obtain ⟨r, j, rfl⟩ : ∃ r j, i = ix2 r j := ⟨i 0, i 1, eq_ix2 i⟩
  rw [plusRow_nn_at x w b _ r j rfl rfl]
  unfold Cert.ReferenceKvIdeal.Read.val_main_v4 Cert.ReferenceKvIdeal.Read.val_main_v3 Cert.ReferenceKvIdeal.Read.val_main_v2
    Cert.ReferenceKvIdeal.Read.val_main_v1 Cert.ReferenceKvIdeal.Read.val_main_v0
  pointwise

end Cert.Kv

namespace Cert.KvDx

open Cert.KernelKvDxIdeal Cert.KernelKvDxIdeal.Gen Idealize.ShloMosaic Idealize.ShloMosaic.TcCoe Idealize.SL.Sem
open Cert.Products

variable (m : (ℓ : Loc nD τ sig) → Buf (Elt Ideal) ℓ) (c : Dev nD)

abbrev Aw : Mat 1024 256 .bf16 := m (c.tc.loc main_arg0)
abbrev Ady : Mat 9216 256 .f32 := m (c.tc.loc main_arg1)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

theorem lt9 (t : Fin cfg0.N) : t.val < 9 := t.isLt

theorem dy_apply (t : Fin cfg0.N) (r : Fin 1024) (k : Fin 256) :
    (iblk m c 0 t : FVec Ideal S1024x256 .f32) (ix2 r k) = Ady m c (ix2 ⟨t.val * 1024 + r.val, by have := lt9 t; omega⟩ k) := by
  unfold Ady
  have e := idx0 t
  blk_point [iblk, V, e]
theorem w_apply (t : Fin cfg0.N) (j : Fin 1024) (k : Fin 256) :
    (iblk m c 1 t : FVec Ideal S1024x256 .bf16) (ix2 j k) = Aw m c (ix2 j k) := by
  unfold Aw
  have e := idx1 t
  blk_point [iblk, V, e]

theorem pay_apply (x : FVec Ideal S1024x256 .f32) (w : FVec Ideal S1024x256 .bf16) (r j : Fin 1024) :
    k0_pay2 k0_pay1 x w (ix2 r j) = ∑ k : Fin 256, x (ix2 r k) * w (ix2 j k) := by
  unfold k0_pay2 k0_pay1
  pointwise

theorem out_dx : (dats m 0 c).arrAt 2 cfg0.N = nt (Ady m c) (Aw m c) := by
  refine (dats m 0 c).arrAt_eq_of_covers 2 _ (by decide +kernel) fun t hf y => ?_
  blk_simp
  rw [after0_2]
  obtain ⟨r, j, rfl⟩ : ∃ r j, y = ix2 r j := ⟨y 0, y 1, eq_ix2 y⟩
  unfold outsAt0
  frame_out
  rw [pay_apply]
  simp only [dy_apply, w_apply]
  have e := idx2 t
  exact (nt_at (Ady m c) (Aw m c) _ _ _ (by blk_simp [e]) (by blk_simp [e])).symm

theorem ref_eq (w : Mat 1024 256 .bf16) (dy : Mat 9216 256 .f32) : Cert.ReferenceKvDxIdeal.Read.val_main_v3 (F := Ideal) w dy = nt dy w := by
  funext i
  obtain ⟨r, j, rfl⟩ : ∃ r j, i = ix2 r j := ⟨i 0, i 1, eq_ix2 i⟩
  unfold Cert.ReferenceKvDxIdeal.Read.val_main_v3 Cert.ReferenceKvDxIdeal.Read.val_main_v1
  pointwise
  rfl

end Cert.KvDx

namespace Cert.KvDw

open Cert.KernelKvDwIdeal Cert.KernelKvDwIdeal.Gen Idealize.ShloMosaic Idealize.ShloMosaic.TcCoe Idealize.SL.Sem
open Cert.Products

variable (m : (ℓ : Loc nD τ sig) → Buf (Elt Ideal) ℓ) (c : Dev nD)

abbrev Ax : Mat 9216 1024 .f32 := m (c.tc.loc main_arg0)
abbrev Ady : Mat 9216 256 .f32 := m (c.tc.loc main_arg1)

theorem lt9 (t : Fin cfg0.N) : t.val < 9 := t.isLt

theorem idx0 : ∀ t : Fin cfg0.N, win0_0.index t = ![t.val % 9, 0] := (by decide +kernel : ∀ t : Fin grid0.N, _)
theorem idx1 : ∀ t : Fin cfg0.N, win0_1.index t = ![t.val % 9, 0] := (by decide +kernel : ∀ t : Fin grid0.N, _)
theorem idx2 : ∀ t : Fin cfg0.N, win0_2.index t = ![0, 0] := (by decide +kernel : ∀ t : Fin grid0.N, _)

theorem x_apply (t : Fin cfg0.N) (k r : Fin 1024) :
    (iblk m c 0 t : FVec Ideal S1024x1024 .f32) (ix2 k r) = Ax m c (ix2 ⟨t.val % 9 * 1024 + k.val, by omega⟩ r) := by
  unfold Ax
  have e := idx0 t
  blk_point [iblk, V, e]
theorem dy_apply (t : Fin cfg0.N) (k : Fin 1024) (j : Fin 256) :
    (iblk m c 1 t : FVec Ideal S1024x256 .f32) (ix2 k j) = Ady m c (ix2 ⟨t.val % 9 * 1024 + k.val, by omega⟩ j) := by
  unfold Ady
  have e := idx1 t
  blk_point [iblk, V, e]

theorem zero_apply (i : S1024x256.Idx) : k0_pay1 (F := Ideal) i = (0 : EReal) := Ideal.ofBits_zero_f32
theorem step_apply (x : FVec Ideal S1024x1024 .f32) (acc dy : FVec Ideal S1024x256 .f32) (r : Fin 1024) (j : Fin 256) :
    k0_pay2 acc x dy (ix2 r j) = acc (ix2 r j) + ∑ k : Fin 1024, x (ix2 k r) * dy (ix2 k j) := by
  unfold k0_pay2
  pointwise

/-- What the scratch buffer holds after a point: from zero at the first of a run, from the point before at the others. -/
theorem first (t : Fin cfg0.N) (h : t.val % 9 = 0) :
    (outsAt0 m c t.val t.isLt).2 = k0_pay2 k0_pay1 (iblk m c 0 t) (iblk m c 1 t) := by
  rw [outsAt0_A m c t h (by omega)]; frame_out
theorem next (t : Fin cfg0.N) (h : ¬t.val % 9 = 0) :
    (outsAt0 m c t.val t.isLt).2
      = k0_pay2 (outsAt0 m c (t.val - 1) (Nat.lt_of_le_of_lt (Nat.sub_le _ _) t.isLt)).2 (iblk m c 0 t) (iblk m c 1 t) := by
  by_cases h1 : t.val % 9 = 8
  · rw [outsAt0_C m c t h h1]; frame_out; rw [(Memref.isWhole_whole _).read_unread]
  · rw [outsAt0_B m c t h h1]; frame_out; rw [(Memref.isWhole_whole _).read_unread]
theorem last (t : Fin cfg0.N) (h : t.val % 9 = 8) :
    (outsAt0 m c t.val t.isLt).1 = k0_pay3 (outsAt0 m c t.val t.isLt).2 := by
  rw [outsAt0_C m c t (by omega) h]; frame_out
theorem cast_apply (a : FVec Ideal S1024x256 .f32) (i : S1024x256.Idx) : (k0_pay3 (F := Ideal) a i : EReal) = a i := rfl

theorem out_dw : (dats m 0 c).arrAt 2 cfg0.N = tn (Ax m c) (Ady m c) := by
  refine (dats m 0 c).arrAt_eq_of_covers 2 _ (by decide +kernel) fun t hf y => ?_
  blk_simp
  rw [after0_2]
  obtain ⟨r, j, rfl⟩ : ∃ r j, y = ix2 r j := ⟨y 0, y 1, eq_ix2 y⟩
  have ht := (flush0_2 t).mp hf
  rw [last m c t ht, cast_apply]
  have e := idx2 t
  refine Eq.trans ?_ (tn_at (Ax m c) (Ady m c) _ r j (by blk_simp [e]) (by blk_simp [e])).symm
  exact run_eq_sum (J := 9) (T := 1024) (fun n h => (outsAt0 m c n h).2) rfl (by decide)
    (fun _ k r j => Ax m c (ix2 k r) * Ady m c (ix2 k j)) (fun _ _ _ => rfl)
    (fun t h r j => by rw [first m c t h, step_apply, zero_apply, zero_add]; simp only [x_apply, dy_apply])
    (fun t h r j => by rw [next m c t h, step_apply]; simp only [x_apply, dy_apply]) t ht r j

theorem ref_eq (x : Mat 9216 1024 .f32) (dy : Mat 9216 256 .f32) : Cert.ReferenceKvDwIdeal.Read.val_main_v5 (F := Ideal) x dy = tn x dy := by
  funext i
  obtain ⟨r, j, rfl⟩ : ∃ r j, i = ix2 r j := ⟨i 0, i 1, eq_ix2 i⟩
  unfold Cert.ReferenceKvDwIdeal.Read.val_main_v5 Cert.ReferenceKvDwIdeal.Read.val_main_v4 Cert.ReferenceKvDwIdeal.Read.val_main_v3
  pointwise
  rw [tn_at x dy _ r j rfl rfl]
  exact Finset.sum_congr rfl fun k _ => mul_comm _ _

end Cert.KvDw

namespace Cert.KvDb

open Cert.KernelKvDbIdeal Cert.KernelKvDbIdeal.Gen Idealize.ShloMosaic Idealize.ShloMosaic.TcCoe Idealize.SL.Sem
open Cert.Products

variable (m : (ℓ : Loc nD τ sig) → Buf (Elt Ideal) ℓ) (c : Dev nD)

abbrev Ady : Mat 9216 256 .f32 := m (c.tc.loc main_arg0)

theorem idx0 : ∀ t : Fin cfg0.N, win0_0.index t = ![t.val % 9, 0] := (by decide +kernel : ∀ t : Fin grid0.N, _)
theorem idx1 : ∀ t : Fin cfg0.N, win0_1.index t = ![0, 0] := (by decide +kernel : ∀ t : Fin grid0.N, _)

theorem dy_apply (t : Fin cfg0.N) (k : Fin 1024) (j : Fin 256) :
    (iblk m c 0 t : FVec Ideal S1024x256 .f32) (ix2 k j) = Ady m c (ix2 ⟨t.val % 9 * 1024 + k.val, by omega⟩ j) := by
  unfold Ady
  have e := idx0 t
  blk_point [iblk, V, e]

theorem zero_apply (i : S1x256.Idx) : k0_pay1 (F := Ideal) i = (0 : EReal) := Ideal.ofBits_zero_f32
theorem step_apply (acc : FVec Ideal S1x256 .f32) (dy : FVec Ideal S1024x256 .f32) (r : Fin 1) (j : Fin 256) :
    k0_pay2 acc dy (ix2 r j) = acc (ix2 r j) + ∑ k : Fin 1024, dy (ix2 k j) := by
  unfold k0_pay2
  pointwise

theorem first (t : Fin cfg0.N) (h : t.val % 9 = 0) :
    outsAt0 m c t.val t.isLt = k0_pay2 k0_pay1 (iblk m c 0 t) := by
  rw [outsAt0_A m c t h]; frame_out
theorem next (t : Fin cfg0.N) (h : ¬t.val % 9 = 0) :
    outsAt0 m c t.val t.isLt
      = k0_pay2 (outsAt0 m c (t.val - 1) (Nat.lt_of_le_of_lt (Nat.sub_le _ _) t.isLt)) (iblk m c 0 t) := by
  rw [outsAt0_B m c t h]; frame_out

theorem out_db : (dats m 0 c).arrAt 1 cfg0.N = colsum (Ady m c) := by
  refine (dats m 0 c).arrAt_eq_of_covers 1 _ (by decide +kernel) fun t hf y => ?_
  blk_simp
  rw [after0_1]
  obtain ⟨r, j, rfl⟩ : ∃ r j, y = ix2 r j := ⟨y 0, y 1, eq_ix2 y⟩
  have ht := (flush0_1 t).mp hf
  have e := idx1 t
  refine Eq.trans ?_ (colsum_at (Ady m c) _ j (by blk_simp [e])).symm
  refine (Pipeline.eq_sum_fin_of_reset_step_apply_of_flush (fun n h => outsAt0 m c n h) 9 (fun _ => (0 : EReal))
    (fun t i => ∑ k : Fin 1024, Ady m c (ix2 ⟨t.val % 9 * 1024 + k.val, by omega⟩ (i 1))) ?_ ?_ t ht (ix2 r j)).trans ?_
  · intro t h i
    obtain ⟨r, j, rfl⟩ : ∃ r j, i = ix2 r j := ⟨i 0, i 1, eq_ix2 i⟩
    rw [first m c t h, step_apply, zero_apply]
    simp only [dy_apply]; rfl
  · intro t h i
    obtain ⟨r, j, rfl⟩ : ∃ r j, i = ix2 r j := ⟨i 0, i 1, eq_ix2 i⟩
    rw [next m c t h, step_apply]
    simp only [dy_apply]; rfl
  · rw [zero_add]
    refine Fin.sum_mul_add_congr fun s k hl => ?_
    have e : (9 * (t.val / 9) + s.val) % 9 * 1024 + k.val = s.val * 1024 + k.val := by have := s.isLt; omega
    simp only [e]
    rfl

theorem ref_eq (dy : Mat 9216 256 .f32) :
    Cert.ReferenceKvDbIdeal.Read.val_main_v5 (F := Ideal) dy = colsum dy := by
  funext i
  obtain ⟨r, j, rfl⟩ : ∃ r j, i = ix2 r j := ⟨i 0, i 1, eq_ix2 i⟩
  rw [colsum_at dy _ j rfl]
  unfold Cert.ReferenceKvDbIdeal.Read.val_main_v5 Cert.ReferenceKvDbIdeal.Read.val_main_v4 Cert.ReferenceKvDbIdeal.Read.val_main_cst_1
  pointwise

end Cert.KvDb

end
-- ==== Proof.KvClaims.lean ====
/- The claims about a projection of 256 columns and its three gradients: the references' frames, and the equations. -/
module

public import proofs.«01_k».proof.Defs
public import proofs.«01_k».proof.Proof.Kv
public import Idealize.ShloMosaic.Adequacy
public import Idealize.ShloMosaic.Init

@[expose] public section

noncomputable section

namespace Cert.Proof

open Idealize.ShloMosaic Idealize.SL.Sem

/-- The frame of a host program from its run: the results' values are dropped, and there are no semaphores. -/
theorem frame_referenceKvIdeal : Cert.quiescent_ReferenceKvIdeal := fun m ρ _ =>
  (θ_run Cert.ReferenceKvIdeal.defs _ _).mono
    (fun r h => ⟨fun c => (h c).2, sem_eq_zero_of_no_sems (by decide) r.2⟩) (Cert.ReferenceKvIdeal.Value.run (F := Ideal) m ρ)
theorem frame_referenceKvDxIdeal : Cert.quiescent_ReferenceKvDxIdeal := fun m ρ _ =>
  (θ_run Cert.ReferenceKvDxIdeal.defs _ _).mono
    (fun r h => ⟨fun c => (h c).2, sem_eq_zero_of_no_sems (by decide) r.2⟩) (Cert.ReferenceKvDxIdeal.Value.run (F := Ideal) m ρ)
theorem frame_referenceKvDwIdeal : Cert.quiescent_ReferenceKvDwIdeal := fun m ρ _ =>
  (θ_run Cert.ReferenceKvDwIdeal.defs _ _).mono
    (fun r h => ⟨fun c => (h c).2, sem_eq_zero_of_no_sems (by decide) r.2⟩) (Cert.ReferenceKvDwIdeal.Value.run (F := Ideal) m ρ)
theorem frame_referenceKvDbIdeal : Cert.quiescent_ReferenceKvDbIdeal := fun m ρ _ =>
  (θ_run Cert.ReferenceKvDbIdeal.defs _ _).mono
    (fun r h => ⟨fun c => (h c).2, sem_eq_zero_of_no_sems (by decide) r.2⟩) (Cert.ReferenceKvDbIdeal.Value.run (F := Ideal) m ρ)

/-- A projection: both arrays are x w + b. -/
theorem algebraic_kv : Cert.algebraic_KernelKvIdeal_ReferenceKvIdeal := by
  intro m g m' g' _ hagree
  refine ⟨fun c => Cert.Products.plusRow (Cert.Products.nn (Cert.Kv.Ax m c) (Cert.Kv.Aw m c)) (Cert.Kv.Ab m c),
    (θ_run Cert.KernelKvIdeal.defs _ _).mono (fun _ h c => ⟨(h c).1.trans (Cert.Kv.out_y m c), (h c).2⟩)
      (Cert.KernelKvIdeal.Value.run_blocks (F := Ideal) m g),
    (θ_run Cert.ReferenceKvIdeal.defs _ _).mono (fun _ h c => ⟨?_, (h c).2⟩) (Cert.ReferenceKvIdeal.Value.run (F := Ideal) m' g')⟩
  have h0 := (h c).1
  obtain ⟨a0, a1, a2⟩ := hagree c
  rwa [Cert.ReferenceKvIdeal.Read.val_main_v4_eq, Cert.Kv.ref_eq, a0, a1, a2] at h0

/-- The gradient of a projection's input: both arrays are dy wᵀ. -/
theorem algebraic_kvDx : Cert.algebraic_KernelKvDxIdeal_ReferenceKvDxIdeal := by
  intro m g m' g' _ hagree
  refine ⟨fun c => Cert.Products.nt (Cert.KvDx.Ady m c) (Cert.KvDx.Aw m c),
    (θ_run Cert.KernelKvDxIdeal.defs _ _).mono (fun _ h c => ⟨(h c).1.trans (Cert.KvDx.out_dx m c), (h c).2⟩)
      (Cert.KernelKvDxIdeal.Value.run_blocks (F := Ideal) m g),
    (θ_run Cert.ReferenceKvDxIdeal.defs _ _).mono (fun _ h c => ⟨?_, (h c).2⟩) (Cert.ReferenceKvDxIdeal.Value.run (F := Ideal) m' g')⟩
  have h0 := (h c).1
  obtain ⟨a0, a1⟩ := hagree c
  rwa [Cert.ReferenceKvDxIdeal.Read.val_main_v3_eq, Cert.KvDx.ref_eq, a0, a1] at h0

/-- The gradient of a projection's weight: both arrays are xᵀ dy. -/
theorem algebraic_kvDw : Cert.algebraic_KernelKvDwIdeal_ReferenceKvDwIdeal := by
  intro m g m' g' _ hagree
  refine ⟨fun c => Cert.Products.tn (Cert.KvDw.Ax m c) (Cert.KvDw.Ady m c),
    (θ_run Cert.KernelKvDwIdeal.defs _ _).mono (fun _ h c => ⟨(h c).1.trans (Cert.KvDw.out_dw m c), (h c).2⟩)
      (Cert.KernelKvDwIdeal.Value.run_blocks (F := Ideal) m g),
    (θ_run Cert.ReferenceKvDwIdeal.defs _ _).mono (fun _ h c => ⟨?_, (h c).2⟩) (Cert.ReferenceKvDwIdeal.Value.run (F := Ideal) m' g')⟩
  have h0 := (h c).1
  obtain ⟨a0, a1⟩ := hagree c
  rwa [Cert.ReferenceKvDwIdeal.Read.val_main_v5_eq, Cert.KvDw.ref_eq, a0, a1] at h0

/-- The gradient of a projection's bias: both arrays are the sums of the columns. -/
theorem algebraic_kvDb : Cert.algebraic_KernelKvDbIdeal_ReferenceKvDbIdeal := by
  intro m g m' g' _ hagree
  refine ⟨fun c => Cert.Products.colsum (Cert.KvDb.Ady m c),
    (θ_run Cert.KernelKvDbIdeal.defs _ _).mono (fun _ h c => ⟨(h c).1.trans (Cert.KvDb.out_db m c), (h c).2⟩)
      (Cert.KernelKvDbIdeal.Value.run_blocks (F := Ideal) m g),
    (θ_run Cert.ReferenceKvDbIdeal.defs _ _).mono (fun _ h c => ⟨?_, (h c).2⟩) (Cert.ReferenceKvDbIdeal.Value.run (F := Ideal) m' g')⟩
  have h0 := (h c).1
  rwa [Cert.ReferenceKvDbIdeal.Read.val_main_v5_eq, Cert.KvDb.ref_eq, hagree c] at h0

end Cert.Proof

end
-- ==== Proof.CtxSpec.lean ====
/- What the context's attention and its gradient are, index by index: for a batch row `b`, a group `h` of query heads
   sharing one head of keys and values, a head `g` of the group, a query `l` and a key `j`, both among the 256 positions of
   the context. `oneProb` and `oneSlope` are the softmax and its gradient as a kernel computes them from one group of keys,
   with a reciprocal in place of the division and the mean slope subtracted before the product. -/
module

public import proofs.«01_k».proof.Proof.Spec

@[expose] public section

noncomputable section

namespace Cert.Softmax

open Idealize.ShloMosaic

variable {n : ℕ} (s d : Fin n → EReal)

/-- The probability of a key, and the slope of its score times `c`. -/
def oneProb (j : Fin n) : EReal := weight s j * Ideal.div 1 (total s)
def oneSlope (c : EReal) (j : Fin n) : EReal := oneProb s j * (d j - ∑ k, oneProb s k * d k) * c

variable {s} (hs : ∀ j, IsReal (s j)) (hn : 0 < n)
include hs hn

theorem oneProb_eq (j : Fin n) : oneProb s j = prob s j := by
  obtain ⟨t, ht, hT⟩ := total_real hs hn
  unfold oneProb prob
  rw [hT, div_pos_real ht, div_pos_real ht, one_mul]

theorem oneSlope_eq (c : EReal) (j : Fin n) : oneSlope s d c j = slope s d c j := by
  rw [slope_eq hs hn]
  unfold oneSlope
  simp only [oneProb_eq hs hn]

end Cert.Softmax

namespace Cert.CtxSpec

open Idealize.ShloMosaic Cert.Softmax
open Cert.Spec (Ctx ctx scale)

/-- The array of the context's queries; its keys and values are the arrays of Spec. -/
abbrev Wide := FVec Ideal (⟨2, ![1024, 1024]⟩ : Shape) .f32

/-- One query (or one row of the output, or of its gradient). -/
def row (A : Wide) (b : Fin 4) (h : Fin 2) (g : Fin 4) (l : Fin 256) (d : Fin 128) : EReal :=
  A (ix2 ⟨b.val * 256 + l.val, by omega⟩ ⟨(h.val * 4 + g.val) * 128 + d.val, by omega⟩)

variable (q : Wide) (k v : Ctx) (o : Wide)

/-- The scores of a query, and the slopes of its probabilities. -/
def scores (b : Fin 4) (h : Fin 2) (g : Fin 4) (l : Fin 256) (j : Fin 256) : EReal :=
  (∑ d : Fin 128, row q b h g l d * ctx k b h j d) * scale
def slopes (b : Fin 4) (h : Fin 2) (g : Fin 4) (l : Fin 256) (j : Fin 256) : EReal :=
  ∑ d : Fin 128, row o b h g l d * ctx v b h j d

/-- The probabilities, and the gradient of the products of the queries with the keys. -/
def probs (b : Fin 4) (h : Fin 2) (g : Fin 4) (l : Fin 256) (j : Fin 256) : EReal := prob (scores q k b h g l) j
def dscores (b : Fin 4) (h : Fin 2) (g : Fin 4) (l : Fin 256) (j : Fin 256) : EReal :=
  slope (scores q k b h g l) (slopes v o b h g l) scale j

/-- The attention, and the gradients of the queries, of the keys and of the values. -/
def mix (b : Fin 4) (h : Fin 2) (g : Fin 4) (l : Fin 256) (d : Fin 128) : EReal :=
  ∑ j : Fin 256, probs q k b h g l j * ctx v b h j d
def dq (b : Fin 4) (h : Fin 2) (g : Fin 4) (l : Fin 256) (d : Fin 128) : EReal :=
  ∑ j : Fin 256, dscores q k v o b h g l j * ctx k b h j d
def dk (b : Fin 4) (h : Fin 2) (j : Fin 256) (d : Fin 128) : EReal :=
  ∑ g : Fin 4, ∑ l : Fin 256, dscores q k v o b h g l j * row q b h g l d
def dv (b : Fin 4) (h : Fin 2) (j : Fin 256) (d : Fin 128) : EReal :=
  ∑ g : Fin 4, ∑ l : Fin 256, probs q k b h g l j * row o b h g l d

/-- The array with these rows of heads, and the array with these keys. -/
def outW (f : Fin 4 → Fin 2 → Fin 4 → Fin 256 → Fin 128 → EReal) : Wide := fun i =>
  f ⟨(i 0).val / 256, by have := (i 0).isLt; change (i 0).val < 1024 at this; omega⟩
    ⟨(i 1).val / 512, by have := (i 1).isLt; change (i 1).val < 1024 at this; omega⟩ ⟨(i 1).val / 128 % 4, by omega⟩
    ⟨(i 0).val % 256, by omega⟩ ⟨(i 1).val % 128, by omega⟩
def outK (f : Fin 4 → Fin 2 → Fin 256 → Fin 128 → EReal) : Ctx := fun i =>
  f ⟨(i 0).val / 256, by have := (i 0).isLt; change (i 0).val < 1024 at this; omega⟩
    ⟨(i 1).val / 128, by have := (i 1).isLt; change (i 1).val < 256 at this; omega⟩
    ⟨(i 0).val % 256, by omega⟩ ⟨(i 1).val % 128, by omega⟩

theorem outW_at (f : Fin 4 → Fin 2 → Fin 4 → Fin 256 → Fin 128 → EReal) (b : Fin 4) (h : Fin 2) (g : Fin 4) (l : Fin 256)
    (d : Fin 128) (i : (⟨2, ![1024, 1024]⟩ : Shape).Idx)
    (h0 : (i 0).val = b.val * 256 + l.val) (h1 : (i 1).val = (h.val * 4 + g.val) * 128 + d.val) :
    outW f i = f b h g l d := by
  unfold outW
  congr 1 <;> apply Fin.ext <;> simp only [h0, h1] <;> omega
theorem outK_at (f : Fin 4 → Fin 2 → Fin 256 → Fin 128 → EReal) (b : Fin 4) (h : Fin 2) (j : Fin 256) (d : Fin 128)
    (i : (⟨2, ![1024, 256]⟩ : Shape).Idx)
    (h0 : (i 0).val = b.val * 256 + j.val) (h1 : (i 1).val = h.val * 128 + d.val) :
    outK f i = f b h j d := by
  unfold outK
  congr 1 <;> apply Fin.ext <;> simp only [h0, h1] <;> omega

/-- With real queries and keys every score is real. -/
theorem scores_real (hq : ∀ i, IsReal (q i)) (hk : ∀ i, IsReal (k i))
    (b : Fin 4) (h : Fin 2) (g : Fin 4) (l : Fin 256) (j : Fin 256) : IsReal (scores q k b h g l j) :=
  IsReal.mul (IsReal.sum _ fun _ => IsReal.mul (hq _) (hk _)) Spec.scale_real

end Cert.CtxSpec

end
-- ==== Proof.CtxBlock.lean ====
/- What the kernels of the context's attention compute at one grid point, for one head: the block functions, applied to a
   block of queries (and of the output's gradient) and to the one block of keys and values, each read at an index. The
   pieces that the latent attention has as well are those of Block. -/
module

public import proofs.«01_k».proof.Proof.Block
public import proofs.«01_k».proof.Proof.CtxSpec

@[expose] public section

set_option maxRecDepth 16384

noncomputable section

namespace Cert.CtxBlock

open Cert.KernelIdeal Cert.KernelIdeal.Gen Idealize.ShloMosaic Cert.Softmax Cert.Block

variable (k v q o : Q)

def peakCol (x : PC) : Col :=
  shapeCast S256x1 (multiReduction .maximumf [1] S256 x 0xFF800000#32 reduces_S256x256_S256 (.inl rfl) rfl) shapeCasts_S256_S256x1
def inv (u : Col) : Col := divf (broadcast S256x1 (Scalar.ofBits .f32 0x3F800000#32)) u

def e : PC := exC (scC k q) (peakCol (scC k q))
/-- The probabilities, their mean slope, and the slopes of the scores. -/
def p : PC := mulf (e k q) (broadcastTo S256x256 (inv (suC (e k q))) broadcasts_S256x1_S256x256)
def mean : Col := suC (mulf (p k q) (dpc v o))
def ds : PC :=
  mulf (mulf (p k q) (subf (dpc v o) (broadcastTo S256x256 (mean k v q o) broadcasts_S256x1_S256x256)))
    (broadcast S256x256 (Scalar.ofBits .f32 0x3DB504F3#32))
/-- The attention, the gradient of the queries, and one head's addition to the gradients of the keys and of the values. -/
def out : Q := addf (broadcast S256x128 (Scalar.ofBits .f32 0x00000000#32))
  (matmul dot_S256x256_S256x128_S256x128_1_0_0_1_n_n none (half (p k q)) (half v) (constant S256x128 .f32 0x00000000#32))
def dq : Q := addf (broadcast S256x128 (Scalar.ofBits .f32 0x00000000#32))
  (matmul dot_S256x256_S256x128_S256x128_1_0_0_1_n_n none (half (ds k v q o)) (half k) (constant S256x128 .f32 0x00000000#32))
def addK (acc : Q) : Q := addf (shapeCast S256x128 acc shapeCasts_S256x128_S256x128)
  (matmul dot_S256x256_S256x128_S256x128_0_0_1_1_n_n none (half (ds k v q o)) (half q) (constant S256x128 .f32 0x00000000#32))
def addV (acc : Q) : Q := addf (shapeCast S256x128 acc shapeCasts_S256x128_S256x128)
  (matmul dot_S256x256_S256x128_S256x128_0_0_1_1_n_n none (half (p k q)) (half o) (constant S256x128 .f32 0x00000000#32))

theorem peakCol_apply (x : PC) (r : Fin 256) : peakCol x (ix2 r 0) = peak fun j : Fin 256 => x (ix2 r j) := by
  have hb : Ideal.ofBits .f32 0xFF800000#32 = (⊥ : EReal) := by simp [Ideal.ofBits, Ideal.ieee]
  pointwise [peakCol, peak]
  rw [hb]
  rfl
theorem inv_apply (u : Col) (r : Fin 256) : inv u (ix2 r 0) = Ideal.div 1 (u (ix2 r 0)) := by
  pointwise [inv]

theorem e_apply (r j : Fin 256) : e k q (ix2 r j) = weight (xs k q r) j := by
  rw [e, exC_apply, peakCol_apply, scC_apply]
  simp only [scC_apply]
  rfl
theorem p_apply (r j : Fin 256) : p k q (ix2 r j) = oneProb (xs k q r) j := by
  show e k q (ix2 r j) * broadcastTo S256x256 (inv (suC (e k q))) broadcasts_S256x1_S256x256 (ix2 r j) = _
  rw [colC_apply, inv_apply, suC_apply]
  simp only [e_apply]
  rfl
theorem mean_apply (r : Fin 256) : mean k v q o (ix2 r 0) = ∑ j : Fin 256, oneProb (xs k q r) j * dxs v o r j := by
  rw [mean, suC_apply]
  refine Finset.sum_congr rfl fun j _ => ?_
  show p k q (ix2 r j) * dpc v o (ix2 r j) = _
  rw [p_apply, dpc_apply]
theorem ds_apply (r j : Fin 256) : ds k v q o (ix2 r j) = oneSlope (xs k q r) (dxs v o r) scale j := by
  show p k q (ix2 r j) * (dpc v o (ix2 r j) - broadcastTo S256x256 (mean k v q o) broadcasts_S256x1_S256x256 (ix2 r j)) * scale = _
  rw [colC_apply, p_apply, dpc_apply, mean_apply]; rfl
theorem zero_add_apply (x : Q) (r : Fin 256) (d : Fin 128) :
    addf (broadcast S256x128 (Scalar.ofBits .f32 0x00000000#32)) x (ix2 r d) = x (ix2 r d) := by
  show Ideal.ofBits .f32 0x00000000#32 + x (ix2 r d) = _
  rw [Ideal.ofBits_zero_f32, zero_add]
theorem out_apply (r : Fin 256) (d : Fin 128) : out k v q (ix2 r d) = ∑ j : Fin 256, p k q (ix2 r j) * v (ix2 j d) := by
  rw [out, zero_add_apply, nnC_apply]
theorem dq_apply (r : Fin 256) (d : Fin 128) :
    dq k v q o (ix2 r d) = ∑ j : Fin 256, ds k v q o (ix2 r j) * k (ix2 j d) := by
  rw [dq, zero_add_apply, nnC_apply]
theorem addK_apply (acc : Q) (j : Fin 256) (d : Fin 128) :
    addK k v q o acc (ix2 j d) = acc (ix2 j d) + ∑ r : Fin 256, ds k v q o (ix2 r j) * q (ix2 r d) := tnC_apply _ _ _ _ _
theorem addV_apply (acc : Q) (j : Fin 256) (d : Fin 128) :
    addV k q o acc (ix2 j d) = acc (ix2 j d) + ∑ r : Fin 256, p k q (ix2 r j) * o (ix2 r d) := tnC_apply _ _ _ _ _

end Cert.CtxBlock

end
-- ==== Proof.Ctx.lean ====
/- The three result arrays of the gradient kernel of the context's attention: what each head of a point computes, the blocks
   a point reads as rows of the argument arrays, and the arrays the run leaves. All queries of one batch row are one block,
   so every point owns its blocks of the results. -/
module

public import proofs.«01_k».proof.Proof.Gen.KernelCtxIdeal.Value
public import proofs.«01_k».proof.Proof.CtxBlock
public import proofs.«01_k».proof.Proof.Point
public import Idealize.ShloMosaic.Lib.Pipeline.ValueKit.Point

@[expose] public section

set_option maxRecDepth 16384

noncomputable section

namespace Cert.Ctx

open Cert.KernelCtxIdeal Cert.KernelCtxIdeal.Gen Idealize.ShloMosaic Idealize.ShloMosaic.TcCoe Idealize.SL.Sem
open Cert.Softmax Cert.CtxBlock Cert.CtxSpec
open Cert.Block (Q xs dxs score grad)
open Cert.Point (W hd h0 h1 h2 h3 h0_eq h1_eq h2_eq h3_eq hs hs_eq)
open Cert.Spec (ctx scale)

section
/-! The body's own names for what each head computes are the block functions. -/
variable (k v q o a : Q)

theorem dq_h0 : k0_pay10 (k0_pay1 k) k0_pay8 (k0_pay9 k v q o) (constant S256x128 FTy.f32 0#32) = dq k v q o := rfl
theorem dq_h1 : k0_pay19 (k0_pay1 k) (k0_pay15 (k0_pay1 k) q) (k0_pay16 (k0_pay2 v) o) (k0_pay17 (k0_pay1 k) (k0_pay2 v) q o) = dq k v q o := rfl
theorem dq_h2 : k0_pay27 (k0_pay1 k) (k0_pay2 v) (k0_pay23 o) (k0_pay24 (k0_pay1 k) q) = dq k v q o := rfl
theorem dq_h3 : k0_pay34 (k0_pay1 k) (k0_pay2 v) (k0_pay30 q) o = dq k v q o := rfl
theorem k_h0 : k0_pay11 (k0_pay5 q) (k0_pay9 k v q o) a = addK k v q o a := rfl
theorem k_h1 : k0_pay20 (k0_pay13 q) (k0_pay15 (k0_pay1 k) q) (k0_pay16 (k0_pay2 v) o) (k0_pay17 (k0_pay1 k) (k0_pay2 v) q o) a = addK k v q o a := rfl
theorem k_h2 : k0_pay28 (k0_pay2 v) (k0_pay22 q) (k0_pay23 o) (k0_pay24 (k0_pay1 k) q) a = addK k v q o a := rfl
theorem k_h3 : k0_pay35 (k0_pay1 k) (k0_pay2 v) (k0_pay30 q) o a = addK k v q o a := rfl
theorem v_h0 : k0_pay12 (k0_pay6 o) (k0_pay7 k q) a = addV k q o a := rfl
theorem v_h1 : k0_pay21 (k0_pay14 o) (k0_pay15 (k0_pay1 k) q) a = addV k q o a := rfl
theorem v_h2 : k0_pay29 (k0_pay23 o) (k0_pay24 (k0_pay1 k) q) a = addV k q o a := rfl
theorem v_h3 : k0_pay36 (k0_pay1 k) (k0_pay30 q) o a = addV k q o a := rfl

/-- The four heads' additions, from zeros. -/
theorem allK (q o : W) (j : Fin 256) (d : Fin 128) :
    addK k v (h3 q) (h3 o) (addK k v (h2 q) (h2 o) (addK k v (h1 q) (h1 o) (addK k v (h0 q) (h0 o) k0_pay3))) (ix2 j d)
      = ∑ g : Fin 4, ∑ r : Fin 256, ds k v (hd g q) (hd g o) (ix2 r j) * hd g q (ix2 r d) := by
  have hz : (k0_pay3 : Q) (ix2 j d) = (0 : EReal) := Ideal.ofBits_zero_f32
  simp only [addK_apply, h0_eq, h1_eq, h2_eq, h3_eq, Fin.sum_univ_four, hz, zero_add]
theorem allV (q o : W) (j : Fin 256) (d : Fin 128) :
    addV k (h3 q) (h3 o) (addV k (h2 q) (h2 o) (addV k (h1 q) (h1 o) (addV k (h0 q) (h0 o) k0_pay4))) (ix2 j d)
      = ∑ g : Fin 4, ∑ r : Fin 256, p k (hd g q) (ix2 r j) * hd g o (ix2 r d) := by
  have hz : (k0_pay4 : Q) (ix2 j d) = (0 : EReal) := Ideal.ofBits_zero_f32
  simp only [addV_apply, h0_eq, h1_eq, h2_eq, h3_eq, Fin.sum_univ_four, hz, zero_add]
end

variable (m : (ℓ : Loc nD τ sig) → Buf (Elt Ideal) ℓ) (c : Dev nD)

/-- The argument arrays, and the blocks a point reads. -/
abbrev Aq : Wide := m (c.tc.loc main_arg0)
abbrev Ak : Spec.Ctx := m (c.tc.loc main_arg1)
abbrev Av : Spec.Ctx := m (c.tc.loc main_arg2)
abbrev Ao : Wide := m (c.tc.loc main_arg3)
abbrev bq (t : Fin cfg0.N) : W := iblk m c 0 t
abbrev bk (t : Fin cfg0.N) : Q := iblk m c 1 t
abbrev bv (t : Fin cfg0.N) : Q := iblk m c 2 t
abbrev bo (t : Fin cfg0.N) : W := iblk m c 3 t

theorem lt8 (t : Fin cfg0.N) : t.val < 8 := t.isLt

/-- The batch row and the group of heads of a point. -/
def pb (t : Fin cfg0.N) : Fin 4 := ⟨t.val / 2, by have := lt8 t; omega⟩
def ph (t : Fin cfg0.N) : Fin 2 := ⟨t.val % 2, by omega⟩

theorem idx0 : ∀ t : Fin cfg0.N, win0_0.index t = ![t.val / 2, t.val % 2] := (by decide +kernel : ∀ t : Fin grid0.N, _)
theorem idx1 : ∀ t : Fin cfg0.N, win0_1.index t = ![t.val / 2, t.val % 2] := (by decide +kernel : ∀ t : Fin grid0.N, _)
theorem idx2 : ∀ t : Fin cfg0.N, win0_2.index t = ![t.val / 2, t.val % 2] := (by decide +kernel : ∀ t : Fin grid0.N, _)
theorem idx3 : ∀ t : Fin cfg0.N, win0_3.index t = ![t.val / 2, t.val % 2] := (by decide +kernel : ∀ t : Fin grid0.N, _)
theorem idx4 : ∀ t : Fin cfg0.N, win0_4.index t = ![t.val / 2, t.val % 2] := (by decide +kernel : ∀ t : Fin grid0.N, _)
theorem idx5 : ∀ t : Fin cfg0.N, win0_5.index t = ![t.val / 2, t.val % 2] := (by decide +kernel : ∀ t : Fin grid0.N, _)
theorem idx6 : ∀ t : Fin cfg0.N, win0_6.index t = ![t.val / 2, t.val % 2] := (by decide +kernel : ∀ t : Fin grid0.N, _)

theorem q_apply (t : Fin cfg0.N) (g : Fin 4) (r : Fin 256) (d : Fin 128) :
    hd g (bq m c t) (ix2 r d) = row (Aq m c) (pb t) (ph t) g r d := by
  unfold hd row Aq pb ph
  have e := idx0 t
  blk_point [iblk, V, e]
theorem o_apply (t : Fin cfg0.N) (g : Fin 4) (r : Fin 256) (d : Fin 128) :
    hd g (bo m c t) (ix2 r d) = row (Ao m c) (pb t) (ph t) g r d := by
  unfold hd row Ao pb ph
  have e := idx3 t
  blk_point [iblk, V, e]
theorem k_apply (t : Fin cfg0.N) (j : Fin 256) (d : Fin 128) : bk m c t (ix2 j d) = ctx (Ak m c) (pb t) (ph t) j d := by
  unfold ctx Ak pb ph
  have e := idx1 t
  blk_point [iblk, V, e]
theorem v_apply (t : Fin cfg0.N) (j : Fin 256) (d : Fin 128) : bv m c t (ix2 j d) = ctx (Av m c) (pb t) (ph t) j d := by
  unfold ctx Av pb ph
  have e := idx2 t
  blk_point [iblk, V, e]

/-- The scores of the block's rows, and the slopes of their probabilities. -/
theorem xs_eq (t : Fin cfg0.N) (g : Fin 4) (r : Fin 256) :
    xs (bk m c t) (hd g (bq m c t)) r = scores (Aq m c) (Ak m c) (pb t) (ph t) g r := by
  funext j; unfold scores
  simp only [score, q_apply, k_apply]; rfl
theorem dxs_eq (t : Fin cfg0.N) (g : Fin 4) (r : Fin 256) :
    dxs (bv m c t) (hd g (bo m c t)) r = slopes (Av m c) (Ao m c) (pb t) (ph t) g r := by
  funext j; unfold slopes
  simp only [grad, o_apply, v_apply]

/-! What a point leaves in the three blocks. -/

theorem q_out (t : Fin cfg0.N) (r : Fin 256) (g : Fin 4) (d : Fin 128) :
    (outsAt0 m c t).1 (ix2 r ⟨g.val * 128 + d.val, by omega⟩)
      = dq (bk m c t) (bv m c t) (hd g (bq m c t)) (hd g (bo m c t)) (ix2 r d) := by
  unfold outsAt0; frame_out
  rw [dq_h3, dq_h2, dq_h1, dq_h0]
  exact (Point.tiles (fun g => dq _ _ (hs g (bq m c t)) (hs g (bo m c t))) r g d).trans (by rw [hs_eq, hs_eq])
theorem k_out (t : Fin cfg0.N) (j : Fin 256) (d : Fin 128) :
    (outsAt0 m c t).2.1 (ix2 j d)
      = ∑ g : Fin 4, ∑ r : Fin 256, ds (bk m c t) (bv m c t) (hd g (bq m c t)) (hd g (bo m c t)) (ix2 r j) * hd g (bq m c t) (ix2 r d) := by
  unfold outsAt0; frame_out
  rw [k_h3, k_h2, k_h1, k_h0]
  exact allK _ _ _ _ j d
theorem v_out (t : Fin cfg0.N) (j : Fin 256) (d : Fin 128) :
    (outsAt0 m c t).2.2 (ix2 j d)
      = ∑ g : Fin 4, ∑ r : Fin 256, p (bk m c t) (hd g (bq m c t)) (ix2 r j) * hd g (bo m c t) (ix2 r d) := by
  unfold outsAt0; frame_out
  rw [v_h3, v_h2, v_h1, v_h0]
  exact allV _ _ _ j d

section
variable (hq : ∀ i, IsReal (Aq m c i)) (hk : ∀ i, IsReal (Ak m c i))
include hq hk

theorem p_spec (t : Fin cfg0.N) (g : Fin 4) (r j : Fin 256) :
    p (bk m c t) (hd g (bq m c t)) (ix2 r j) = probs (Aq m c) (Ak m c) (pb t) (ph t) g r j := by
  rw [p_apply, xs_eq]
  exact oneProb_eq (scores_real _ _ hq hk _ _ _ _) (by norm_num) _
theorem ds_spec (t : Fin cfg0.N) (g : Fin 4) (r j : Fin 256) :
    ds (bk m c t) (bv m c t) (hd g (bq m c t)) (hd g (bo m c t)) (ix2 r j)
      = dscores (Aq m c) (Ak m c) (Av m c) (Ao m c) (pb t) (ph t) g r j := by
  rw [ds_apply, xs_eq, dxs_eq]
  exact oneSlope_eq _ (scores_real _ _ hq hk _ _ _ _) (by norm_num) _ _

theorem out_q : (dats m 0 c).arrAt 4 cfg0.N = outW (CtxSpec.dq (Aq m c) (Ak m c) (Av m c) (Ao m c)) := by
  refine (dats m 0 c).arrAt_eq_of_covers 4 _ (by decide +kernel) fun t hf y => ?_
  blk_simp
  rw [after0_4]
  obtain ⟨r, g, d, rfl⟩ : ∃ (r : Fin 256) (g : Fin 4) (d : Fin 128), y = ix2 r ⟨g.val * 128 + d.val, by omega⟩ := by
    refine ⟨y 0, ⟨(y 1).val / 128, ?_⟩, ⟨(y 1).val % 128, Nat.mod_lt _ (by norm_num)⟩, (eq_ix2 y).trans (congrArg _ (Fin.ext ?_))⟩
    · have := (y 1).isLt; change (y 1).val < 512 at this; omega
    · show (y 1).val = (y 1).val / 128 * 128 + (y 1).val % 128; omega
  rw [q_out, dq_apply]
  simp only [ds_spec m c hq hk, k_apply]
  have e := idx4 t
  refine (outW_at (CtxSpec.dq (Aq m c) (Ak m c) (Av m c) (Ao m c)) (pb t) (ph t) g r d _ ?_ ?_).symm <;> blk_simp [e] <;> simp [pb, ph] <;> omega
theorem out_k : (dats m 0 c).arrAt 5 cfg0.N = outK (dk (Aq m c) (Ak m c) (Av m c) (Ao m c)) := by
  refine (dats m 0 c).arrAt_eq_of_covers 5 _ (by decide +kernel) fun t hf y => ?_
  blk_simp
  rw [after0_5]
  obtain ⟨j, d, rfl⟩ : ∃ j d, y = ix2 j d := ⟨y 0, y 1, eq_ix2 y⟩
  rw [k_out]
  simp only [ds_spec m c hq hk, q_apply]
  have e := idx5 t
  refine (outK_at (dk (Aq m c) (Ak m c) (Av m c) (Ao m c)) (pb t) (ph t) j d _ ?_ ?_).symm <;> blk_simp [e] <;> rfl
theorem out_v : (dats m 0 c).arrAt 6 cfg0.N = outK (dv (Aq m c) (Ak m c) (Ao m c)) := by
  refine (dats m 0 c).arrAt_eq_of_covers 6 _ (by decide +kernel) fun t hf y => ?_
  blk_simp
  rw [after0_6]
  obtain ⟨j, d, rfl⟩ : ∃ j d, y = ix2 j d := ⟨y 0, y 1, eq_ix2 y⟩
  rw [v_out]
  simp only [p_spec m c hq hk, o_apply]
  have e := idx6 t
  refine (outK_at (dv (Aq m c) (Ak m c) (Ao m c)) (pb t) (ph t) j d _ ?_ ?_).symm <;> blk_simp [e] <;> rfl
end

end Cert.Ctx

end
-- ==== Proof.CtxFwd.lean ====
/- The forward call of the context's attention: the blocks of each point and the array the run leaves. -/
module

public import proofs.«01_k».proof.Proof.Gen.KernelCtxFwdIdeal.Value
public import proofs.«01_k».proof.Proof.CtxBlock
public import proofs.«01_k».proof.Proof.Point
public import Idealize.ShloMosaic.Lib.Pipeline.ValueKit.Point

@[expose] public section

set_option maxRecDepth 16384

noncomputable section

namespace Cert.CtxFwd

open Cert.KernelCtxFwdIdeal Cert.KernelCtxFwdIdeal.Gen Idealize.ShloMosaic Idealize.ShloMosaic.TcCoe Idealize.SL.Sem
open Cert.Softmax Cert.CtxSpec
open Cert.Block (Q xs score)
open Cert.CtxBlock (out out_apply p p_apply)
open Cert.Point (W hd hs hs_eq)
open Cert.Spec (ctx)

section
variable (k v q : Q)

theorem head0 : k0_pay4 k v q = out k v q := rfl
theorem head1 : k0_pay6 (k0_pay3 v) (k0_pay5 k q) = out k v q := rfl
theorem head2 : k0_pay7 (k0_pay2 k) (k0_pay3 v) q = out k v q := rfl
theorem head3 : k0_pay1 (k0_pay3 v) (k0_pay8 (k0_pay2 k) q) = out k v q := rfl
end

variable (m : (ℓ : Loc nD τ sig) → Buf (Elt Ideal) ℓ) (c : Dev nD)

/-- The argument arrays, and the blocks a point reads. -/
abbrev Aq : Wide := m (c.tc.loc main_arg0)
abbrev Ak : Spec.Ctx := m (c.tc.loc main_arg1)
abbrev Av : Spec.Ctx := m (c.tc.loc main_arg2)
abbrev bq (t : Fin cfg0.N) : W := iblk m c 0 t
abbrev bk (t : Fin cfg0.N) : Q := iblk m c 1 t
abbrev bv (t : Fin cfg0.N) : Q := iblk m c 2 t

theorem lt8 (t : Fin cfg0.N) : t.val < 8 := t.isLt

/-- The batch row and the group of heads of a point. -/
def pb (t : Fin cfg0.N) : Fin 4 := ⟨t.val / 2, by have := lt8 t; omega⟩
def ph (t : Fin cfg0.N) : Fin 2 := ⟨t.val % 2, by omega⟩

theorem idx0 : ∀ t : Fin cfg0.N, win0_0.index t = ![t.val / 2, t.val % 2] := (by decide +kernel : ∀ t : Fin grid0.N, _)
theorem idx1 : ∀ t : Fin cfg0.N, win0_1.index t = ![t.val / 2, t.val % 2] := (by decide +kernel : ∀ t : Fin grid0.N, _)
theorem idx2 : ∀ t : Fin cfg0.N, win0_2.index t = ![t.val / 2, t.val % 2] := (by decide +kernel : ∀ t : Fin grid0.N, _)
theorem idx3 : ∀ t : Fin cfg0.N, win0_3.index t = ![t.val / 2, t.val % 2] := (by decide +kernel : ∀ t : Fin grid0.N, _)

theorem q_apply (t : Fin cfg0.N) (g : Fin 4) (r : Fin 256) (d : Fin 128) :
    hd g (bq m c t) (ix2 r d) = row (Aq m c) (pb t) (ph t) g r d := by
  unfold hd row Aq pb ph
  have e := idx0 t
  blk_point [iblk, V, e]
theorem k_apply (t : Fin cfg0.N) (j : Fin 256) (d : Fin 128) : bk m c t (ix2 j d) = ctx (Ak m c) (pb t) (ph t) j d := by
  unfold ctx Ak pb ph
  have e := idx1 t
  blk_point [iblk, V, e]
theorem v_apply (t : Fin cfg0.N) (j : Fin 256) (d : Fin 128) : bv m c t (ix2 j d) = ctx (Av m c) (pb t) (ph t) j d := by
  unfold ctx Av pb ph
  have e := idx2 t
  blk_point [iblk, V, e]
theorem xs_eq (t : Fin cfg0.N) (g : Fin 4) (r : Fin 256) :
    xs (bk m c t) (hd g (bq m c t)) r = scores (Aq m c) (Ak m c) (pb t) (ph t) g r := by
  funext j; unfold scores
  simp only [score, q_apply, k_apply]; rfl

/-- What a point leaves in the columns of a head. -/
theorem block_out (t : Fin cfg0.N) (r : Fin 256) (g : Fin 4) (d : Fin 128) :
    out0_3 (iblk m c 0 t) (iblk m c 1 t) (iblk m c 2 t) (ix2 r ⟨g.val * 128 + d.val, by omega⟩)
      = out (bk m c t) (bv m c t) (hd g (bq m c t)) (ix2 r d) := by
  unfold_out out0_3
  frame_out
  rw [head0, head1, head2, head3]
  exact (Point.tiles (fun g => out _ _ (hs g (bq m c t))) r g d).trans (by rw [hs_eq])

variable (hq : ∀ i, IsReal (Aq m c i)) (hk : ∀ i, IsReal (Ak m c i))
include hq hk

theorem p_spec (t : Fin cfg0.N) (g : Fin 4) (r j : Fin 256) :
    p (bk m c t) (hd g (bq m c t)) (ix2 r j) = probs (Aq m c) (Ak m c) (pb t) (ph t) g r j := by
  rw [p_apply, xs_eq]
  exact oneProb_eq (scores_real _ _ hq hk _ _ _ _) (by norm_num) _

theorem out_o : (dats m 0 c).arrAt 3 cfg0.N = outW (mix (Aq m c) (Ak m c) (Av m c)) := by
  refine (dats m 0 c).arrAt_eq_of_covers 3 _ (by decide +kernel) fun t hf y => ?_
  blk_simp
  rw [after0_3]
  obtain ⟨r, g, d, rfl⟩ : ∃ (r : Fin 256) (g : Fin 4) (d : Fin 128), y = ix2 r ⟨g.val * 128 + d.val, by omega⟩ := by
    refine ⟨y 0, ⟨(y 1).val / 128, ?_⟩, ⟨(y 1).val % 128, Nat.mod_lt _ (by norm_num)⟩, (eq_ix2 y).trans (congrArg _ (Fin.ext ?_))⟩
    · have := (y 1).isLt; change (y 1).val < 512 at this; omega
    · show (y 1).val = (y 1).val / 128 * 128 + (y 1).val % 128; omega
  rw [block_out, out_apply]
  simp only [p_spec m c hq hk, v_apply]
  have e := idx3 t
  refine (outW_at (mix (Aq m c) (Ak m c) (Av m c)) (pb t) (ph t) g r d _ ?_ ?_).symm <;> blk_simp [e] <;> simp [pb, ph] <;> omega

end Cert.CtxFwd

end
-- ==== Proof.CtxRef.lean ====
/- The references of the context's attention and of its gradient, index by index: the arrays of their operations in turn are
   the quantities of CtxSpec. -/
module

public import proofs.«01_k».proof.Proof.Gen.ReferenceCtxIdeal.Read
public import proofs.«01_k».proof.Proof.Gen.ReferenceCtxFwdIdeal.Read
public import proofs.«01_k».proof.Proof.CtxSpec

@[expose] public section

set_option maxRecDepth 16384

noncomputable section

namespace Cert.CtxRef

open Cert.ReferenceCtxIdeal Cert.ReferenceCtxIdeal.Gen Cert.ReferenceCtxIdeal.Read Idealize.ShloMosaic Cert.Softmax Cert.CtxSpec
open Cert.Spec (Ctx ctx scale)

variable (q : Wide) (k v : Ctx) (o : Wide)

theorem neg_infinity : Ideal.ofBits .f32 0xFF800000#32 = (⊥ : EReal) := by simp [Ideal.ofBits, Ideal.ieee]

theorem v1_at (b : Fin 4) (j : Fin 256) (h : Fin 2) (d : Fin 128) :
    val_main_v1 (F := Ideal) k (ix4 b j h d) = ctx k b h j d := by
  unfold val_main_v1 ctx
  pointwise
theorem v2_at (b : Fin 4) (j : Fin 256) (h : Fin 2) (d : Fin 128) :
    val_main_v2 (F := Ideal) v (ix4 b j h d) = ctx v b h j d := v1_at v b j h d
theorem v3_at (b : Fin 4) (l : Fin 256) (h : Fin 2) (g : Fin 4) (d : Fin 128) :
    val_main_v3 (F := Ideal) q (ix5 b l h g d) = row q b h g l d := by
  unfold val_main_v3 val_main_v0 row
  pointwise
  congr 2; apply Fin.ext; show h.val * 512 + g.val * 128 + d.val = (h.val * 4 + g.val) * 128 + d.val; omega
theorem v42_at (b : Fin 4) (l : Fin 256) (h : Fin 2) (g : Fin 4) (d : Fin 128) :
    val_main_v42 (F := Ideal) o (ix5 b h d g l) = row o b h g l d := by
  unfold val_main_v42 val_main_v41 val_main_v40 row
  pointwise
  congr 2; apply Fin.ext; show h.val * 512 + g.val * 128 + d.val = (h.val * 4 + g.val) * 128 + d.val; omega

/-- The scores, the largest of a row, the weights, their total, the probabilities, and one over the total's square. -/
theorem v7_at (b : Fin 4) (l : Fin 256) (h : Fin 2) (g : Fin 4) (j : Fin 256) :
    val_main_v7 (F := Ideal) q k (ix5 b h g l j) = scores q k b h g l j := by
  unfold val_main_v7 val_main_v6 val_main_v5 val_main_v4 val_main_cst scores
  pointwise
  simp only [v1_at, v3_at, mul_comm]; rfl
theorem v8_at (b : Fin 4) (l : Fin 256) (h : Fin 2) (g : Fin 4) :
    val_main_v8 (F := Ideal) q k (ix4 b h g l) = peak (scores q k b h g l) := by
  unfold val_main_v8 val_main_cst_0 peak
  pointwise
  simp only [v7_at]
  rw [neg_infinity]; rfl
theorem v15_at (b : Fin 4) (l : Fin 256) (h : Fin 2) (g : Fin 4) :
    val_main_v15 (F := Ideal) q k (ix4 b h g l) = peak (scores q k b h g l) := by
  rw [val_main_v15_apply, val_main_v14_apply, val_main_cst_2_apply, v8_at]
  exact (congrArg (max · _) neg_infinity).trans (bot_sup_eq _)
theorem v26_at (b : Fin 4) (l : Fin 256) (h : Fin 2) (g : Fin 4) (j : Fin 256) :
    val_main_v26 (F := Ideal) q k (ix5 b h g l j) = peak (scores q k b h g l) := by
  unfold val_main_v26 val_main_v25
  pointwise
  rw [v15_at]
theorem v28_at (b : Fin 4) (l : Fin 256) (h : Fin 2) (g : Fin 4) (j : Fin 256) :
    val_main_v28 (F := Ideal) q k (ix5 b h g l j) = weight (scores q k b h g l) j := by
  unfold val_main_v28 val_main_v27 weight
  pointwise
  rw [v7_at, v26_at]
theorem v29_at (b : Fin 4) (l : Fin 256) (h : Fin 2) (g : Fin 4) :
    val_main_v29 (F := Ideal) q k (ix4 b h g l) = total (scores q k b h g l) := by
  unfold val_main_v29 val_main_cst_8 total
  pointwise
  simp only [v28_at]
theorem v32_at (b : Fin 4) (l : Fin 256) (h : Fin 2) (g : Fin 4) (j : Fin 256) :
    val_main_v32 (F := Ideal) q k (ix5 b h g l j) = probs q k b h g l j := by
  unfold val_main_v32 val_main_v31 val_main_v30 probs prob
  pointwise
  simp only [v28_at, v29_at]
theorem v35_at (b : Fin 4) (l : Fin 256) (h : Fin 2) (g : Fin 4) (u : Fin 1) :
    val_main_v35 (F := Ideal) q k (ix5 b h g l u)
      = Ideal.div 1 (total (scores q k b h g l) * total (scores q k b h g l)) := by
  unfold val_main_v35 val_main_v34 val_main_v33 val_main_v30 val_main_cst_9
  pointwise
  simp only [v29_at]
theorem v43_at (b : Fin 4) (l : Fin 256) (h : Fin 2) (g : Fin 4) (j : Fin 256) :
    val_main_v43 (F := Ideal) v o (ix5 b h g l j) = slopes v o b h g l j := by
  unfold val_main_v43 slopes
  pointwise
  simp only [v42_at, v2_at]
theorem v49_at (b : Fin 4) (l : Fin 256) (h : Fin 2) (g : Fin 4) :
    val_main_v49 (F := Ideal) q k v o (ix4 b h g l)
      = ∑ j, (slopes v o b h g l j * Ideal.div 1 (total (scores q k b h g l) * total (scores q k b h g l)))
          * weight (scores q k b h g l) j := by
  unfold val_main_v49 val_main_v48 val_main_v47 val_main_v46 val_main_cst_10
  pointwise
  simp only [v43_at, v35_at, v28_at]
theorem v59_at (b : Fin 4) (l : Fin 256) (h : Fin 2) (g : Fin 4) (j : Fin 256) :
    val_main_v59 (F := Ideal) q k v o (ix5 b h g l j) = dscores q k v o b h g l j := by
  unfold val_main_v59 val_main_v58 val_main_v57 val_main_v56 val_main_v55 val_main_v54 val_main_v53 val_main_v52 val_main_v51
    val_main_v50 val_main_v30 val_main_cst_11 val_main_cst_12 dscores Softmax.slope
  pointwise
  simp only [v43_at, v49_at, v29_at, v28_at, Finset.univ_unique, Finset.sum_singleton]; rfl

/-! The gradients of the queries, of the keys and of the values, and the three results. -/

theorem v62_at (b : Fin 4) (l : Fin 256) (h : Fin 2) (g : Fin 4) (d : Fin 128) :
    val_main_v62 (F := Ideal) q k v o (ix5 b l h g d) = dq q k v o b h g l d := by
  unfold val_main_v62 val_main_v61 val_main_v60 dq
  pointwise
  simp only [v59_at, v1_at]
theorem v64_at (b : Fin 4) (j : Fin 256) (h : Fin 2) (d : Fin 128) :
    val_main_v64 (F := Ideal) q k v o (ix4 b j h d) = dk q k v o b h j d := by
  unfold val_main_v64 val_main_v63 val_main_v60 dk
  pointwise
  simp only [v59_at, v3_at]
  exact Finset.sum_comm
theorem v45_at (b : Fin 4) (j : Fin 256) (h : Fin 2) (d : Fin 128) :
    val_main_v45 (F := Ideal) q k o (ix4 b j h d) = dv q k o b h j d := by
  unfold val_main_v45 val_main_v44 dv
  pointwise
  simp only [v32_at, v42_at, mul_comm]

theorem v68_eq : val_main_v68 (F := Ideal) q k v o = outW (dq q k v o) := by
  funext i; idx_vars i
  unfold val_main_v68 val_main_v65 outW
  pointwise
  rw [v62_at]
theorem v67_eq : val_main_v67 (F := Ideal) q k v o = outK (dk q k v o) := by
  funext i; idx_vars i
  unfold val_main_v67 outK
  pointwise
  rw [v64_at]
theorem v66_eq : val_main_v66 (F := Ideal) q k o = outK (dv q k o) := by
  funext i; idx_vars i
  unfold val_main_v66 outK
  pointwise
  rw [v45_at]

/-! The forward call's reference: its probabilities are computed as those of the gradient's reference. -/

theorem fwd_v18 : Cert.ReferenceCtxFwdIdeal.Read.val_main_v18 (F := Ideal) q k = val_main_v32 (F := Ideal) q k := rfl
theorem fwd_v2 : Cert.ReferenceCtxFwdIdeal.Read.val_main_v2 (F := Ideal) v = val_main_v2 (F := Ideal) v := rfl
theorem fwd_v20_at (b : Fin 4) (l : Fin 256) (h : Fin 2) (g : Fin 4) (d : Fin 128) :
    Cert.ReferenceCtxFwdIdeal.Read.val_main_v20 (F := Ideal) q k v (ix5 b l h g d) = mix q k v b h g l d := by
  unfold Cert.ReferenceCtxFwdIdeal.Read.val_main_v20 Cert.ReferenceCtxFwdIdeal.Read.val_main_v19 mix
  rw [fwd_v18, fwd_v2]
  pointwise
  simp only [v32_at, v2_at, mul_comm]
theorem fwd_eq : Cert.ReferenceCtxFwdIdeal.Read.val_main_v22 (F := Ideal) q k v = outW (mix q k v) := by
  funext i; idx_vars i
  unfold Cert.ReferenceCtxFwdIdeal.Read.val_main_v22 Cert.ReferenceCtxFwdIdeal.Read.val_main_v21 outW
  pointwise
  rw [fwd_v20_at]

end Cert.CtxRef

end
-- ==== Proof.CtxClaims.lean ====
/- The claims about the context's attention and its gradient: what their preconditions say, the references' frames, and the
   equations. -/
module

public import proofs.«01_k».proof.Defs
public import proofs.«01_k».proof.Proof.Ctx
public import proofs.«01_k».proof.Proof.CtxFwd
public import proofs.«01_k».proof.Proof.CtxRef
public import proofs.«01_k».proof.Proof.Pre
public import proofs.«01_k».proof.Proof.Gen.Pre_finite_scores_ctx
public import proofs.«01_k».proof.Proof.Gen.Pre_finite_scores_ctx_fwd
public import Idealize.ShloMosaic.Adequacy
public import Idealize.ShloMosaic.Init

@[expose] public section

noncomputable section

namespace Cert.Proof

open Idealize.ShloMosaic Idealize.SL.Sem Cert.Softmax

/-- The preconditions read: the context's queries and keys are real numbers, entry by entry. -/
theorem ctx_reals_fwd (q : CtxSpec.Wide) (k v : Spec.Ctx) (h : ∀ j, Cert.Pre_finite_scores_ctx_fwd.fn (F := Ideal) q k v j = 1#1) :
    (∀ i, IsReal (q i)) ∧ ∀ i, IsReal (k i) := by
  have hs : Subsingleton Cert.Pre_finite_scores_ctx_fwd.S_.Idx := ⟨fun a b => funext fun x => x.elim0⟩
  have h1 := h (Shape.Idx.first Cert.Pre_finite_scores_ctx_fwd.Gen.h_S_)
  unfold Cert.Pre_finite_scores_ctx_fwd.fn at h1
  obtain ⟨h2, h3⟩ := IntOp.andi_eq_one.1 h1
  exact ⟨fun i => Pre.real_of_lt q _ i (Host.reduce_andi_all _ _ _ _ _ h2 i),
    fun i => Pre.real_of_lt k _ i (Host.reduce_andi_all _ _ _ _ _ h3 i)⟩
theorem ctx_reals (q : CtxSpec.Wide) (k v : Spec.Ctx) (o : CtxSpec.Wide)
    (h : ∀ j, Cert.Pre_finite_scores_ctx.fn (F := Ideal) q k v o j = 1#1) : (∀ i, IsReal (q i)) ∧ ∀ i, IsReal (k i) :=
  ctx_reals_fwd q k v fun j => (h j : Cert.Pre_finite_scores_ctx.fn (F := Ideal) q k v o j = 1#1)

theorem frame_referenceCtxIdeal : Cert.quiescent_ReferenceCtxIdeal := fun m ρ _ =>
  (θ_run Cert.ReferenceCtxIdeal.defs _ _).mono
    (fun r h => ⟨fun c => (h c).2.2.2, sem_eq_zero_of_no_sems (by decide) r.2⟩) (Cert.ReferenceCtxIdeal.Value.run (F := Ideal) m ρ)
theorem frame_referenceCtxIdeal_pre : Cert.quiescent_ReferenceCtxIdeal_pre_finite_scores_ctx := fun m ρ _ =>
  frame_referenceCtxIdeal m ρ trivial
theorem frame_referenceCtxFwdIdeal : Cert.quiescent_ReferenceCtxFwdIdeal := fun m ρ _ =>
  (θ_run Cert.ReferenceCtxFwdIdeal.defs _ _).mono
    (fun r h => ⟨fun c => (h c).2, sem_eq_zero_of_no_sems (by decide) r.2⟩) (Cert.ReferenceCtxFwdIdeal.Value.run (F := Ideal) m ρ)
theorem frame_referenceCtxFwdIdeal_pre : Cert.quiescent_ReferenceCtxFwdIdeal_pre_finite_scores_ctx_fwd := fun m ρ _ =>
  frame_referenceCtxFwdIdeal m ρ trivial

/-- With real queries and keys the kernel's three arrays and the reference's are the gradients of CtxSpec. -/
theorem algebraic_ctx : Cert.algebraic_KernelCtxIdeal_ReferenceCtxIdeal_pre_finite_scores_ctx := by
  intro m g m' g' hpre hagree
  have hr := fun c => ctx_reals (Cert.Ctx.Aq m c) (Cert.Ctx.Ak m c) (Cert.Ctx.Av m c) (Cert.Ctx.Ao m c) fun j => congrFun (hpre c) j
  refine ⟨fun c => CtxSpec.outW (CtxSpec.dq (Cert.Ctx.Aq m c) (Cert.Ctx.Ak m c) (Cert.Ctx.Av m c) (Cert.Ctx.Ao m c)),
    fun c => CtxSpec.outK (CtxSpec.dk (Cert.Ctx.Aq m c) (Cert.Ctx.Ak m c) (Cert.Ctx.Av m c) (Cert.Ctx.Ao m c)),
    fun c => CtxSpec.outK (CtxSpec.dv (Cert.Ctx.Aq m c) (Cert.Ctx.Ak m c) (Cert.Ctx.Ao m c)), ?_, ?_⟩
  · refine (θ_run Cert.KernelCtxIdeal.defs _ _).mono (fun _ h c => ?_) (Cert.KernelCtxIdeal.Value.run_blocks (F := Ideal) m g)
    obtain ⟨h0, h1, h2, h3⟩ := h c
    obtain ⟨hq, hk⟩ := hr c
    exact ⟨h0.trans (Cert.Ctx.out_q m c hq hk), h1.trans (Cert.Ctx.out_k m c hq hk), h2.trans (Cert.Ctx.out_v m c hq hk), h3⟩
  · refine (θ_run Cert.ReferenceCtxIdeal.defs _ _).mono (fun _ h c => ?_) (Cert.ReferenceCtxIdeal.Value.run (F := Ideal) m' g')
    obtain ⟨h0, h1, h2, h3⟩ := h c
    obtain ⟨a0, a1, a2, a3⟩ := hagree c
    rw [Cert.ReferenceCtxIdeal.Read.val_main_v68_eq, Cert.CtxRef.v68_eq, a0, a1, a2, a3] at h0
    rw [Cert.ReferenceCtxIdeal.Read.val_main_v67_eq, Cert.CtxRef.v67_eq, a0, a1, a2, a3] at h1
    rw [Cert.ReferenceCtxIdeal.Read.val_main_v66_eq, Cert.CtxRef.v66_eq, a0, a1, a3] at h2
    exact ⟨h0, h1, h2, h3⟩

/-- With real queries and keys both arrays are the values averaged with the probabilities. -/
theorem algebraic_ctxFwd : Cert.algebraic_KernelCtxFwdIdeal_ReferenceCtxFwdIdeal_pre_finite_scores_ctx_fwd := by
  intro m g m' g' hpre hagree
  have hr := fun c => ctx_reals_fwd (Cert.CtxFwd.Aq m c) (Cert.CtxFwd.Ak m c) (Cert.CtxFwd.Av m c) fun j => congrFun (hpre c) j
  refine ⟨fun c => CtxSpec.outW (CtxSpec.mix (Cert.CtxFwd.Aq m c) (Cert.CtxFwd.Ak m c) (Cert.CtxFwd.Av m c)),
    (θ_run Cert.KernelCtxFwdIdeal.defs _ _).mono
      (fun _ h c => ⟨(h c).1.trans (Cert.CtxFwd.out_o m c (hr c).1 (hr c).2), (h c).2⟩)
      (Cert.KernelCtxFwdIdeal.Value.run_blocks (F := Ideal) m g),
    (θ_run Cert.ReferenceCtxFwdIdeal.defs _ _).mono (fun _ h c => ⟨?_, (h c).2⟩) (Cert.ReferenceCtxFwdIdeal.Value.run (F := Ideal) m' g')⟩
  have h0 := (h c).1
  obtain ⟨a0, a1, a2⟩ := hagree c
  rwa [Cert.ReferenceCtxFwdIdeal.Read.val_main_v22_eq, Cert.CtxRef.fwd_eq, a0, a1, a2] at h0

end Cert.Proof

end
-- ==== Proof.SiluFwd.lean ====
/- The ConvFFN's gate silu(a) u: what the call returns and what the reference returns, one equation for each entry. -/
module

public import proofs.«01_k».proof.Proof.Gen.KernelSiluFwdIdeal.Value
public import proofs.«01_k».proof.Proof.Gen.ReferenceSiluFwdIdeal.Run
public import proofs.«01_k».proof.Proof.Gen.ReferenceSiluFwdIdeal.Read
public import proofs.«01_k».proof.Proof.Products
public import Idealize.ShloMosaic.Lib.Pipeline.ValueKit
public import Idealize.ShloMosaic.Lib.Pipeline.ValueKit.Point
public import Idealize.ShloMosaic.Lib.Pointwise

@[expose] public section

noncomputable section

namespace Cert.SiluFwd

open Cert.KernelSiluFwdIdeal Cert.KernelSiluFwdIdeal.Gen Idealize.ShloMosaic Idealize.ShloMosaic.TcCoe Idealize.SL.Sem
open Cert.Products

variable (m : (ℓ : Loc nD τ sig) → Buf (Elt Ideal) ℓ) (c : Dev nD)

abbrev Aa : Mat 9216 2816 .f32 := m (c.tc.loc main_arg0)
abbrev Au : Mat 9216 2816 .f32 := m (c.tc.loc main_arg1)

/-- silu(a) u, entry by entry. -/
def out (a u : Mat 9216 2816 .f32) : Mat 9216 2816 .f32 := fun i => a i * Ideal.logistic (a i) * u i

theorem out_at (a u : Mat 9216 2816 .f32) (i : (⟨2, ![9216, 2816]⟩ : Shape).Idx) (r : Fin 9216) (j : Fin 2816)
    (h0 : (i 0).val = r.val) (h1 : (i 1).val = j.val) :
    out a u i = a (ix2 r j) * Ideal.logistic (a (ix2 r j)) * u (ix2 r j) := by
  rw [show i = ix2 r j from (eq_ix2 i).trans (by rw [show i 0 = r from Fin.ext h0, show i 1 = j from Fin.ext h1])]; rfl

theorem lt36 (t : Fin cfg0.N) : t.val < 36 := t.isLt

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)

theorem a_apply (t : Fin cfg0.N) (r : Fin 256) (k : Fin 2816) :
    (iblk m c 0 t : FVec Ideal S256x2816 .f32) (ix2 r k) = Aa m c (ix2 ⟨t.val * 256 + r.val, by have := lt36 t; omega⟩ k) := by
  unfold Aa
  have e := idx0 t
  blk_point [iblk, V, e]
theorem u_apply (t : Fin cfg0.N) (r : Fin 256) (k : Fin 2816) :
    (iblk m c 1 t : FVec Ideal S256x2816 .f32) (ix2 r k) = Au m c (ix2 ⟨t.val * 256 + r.val, by have := lt36 t; omega⟩ k) := by
  unfold Au
  have e := idx1 t
  blk_point [iblk, V, e]

theorem pay_apply (a u : FVec Ideal S256x2816 .f32) (i : S256x2816.Idx) :
    k0_pay1 (F := Ideal) a u i = a i * Ideal.logistic (a i) * u i := rfl

theorem kernel_out : (dats m 0 c).arrAt 2 cfg0.N = out (Aa m c) (Au m c) := by
  refine (dats m 0 c).arrAt_eq_of_covers 2 _ (by decide +kernel) fun t hf y => ?_
  blk_simp
  rw [after0_2]
  obtain ⟨r, j, rfl⟩ : ∃ r j, y = ix2 r j := ⟨y 0, y 1, eq_ix2 y⟩
  unfold out0_2
  frame_out
  rw [pay_apply, a_apply, u_apply]
  have e := idx2 t
  exact (out_at _ _ _ _ _ (by blk_simp [e]) (by blk_simp [e])).symm

open Cert.ReferenceSiluFwdIdeal.Read in
theorem ref_out (a u : Mat 9216 2816 .f32) : val_main_v1 (F := Ideal) a u = out a u := by
  funext i
  have h : val_main_v1 (F := Ideal) a u i
      = a i * Ideal.div (Ideal.ofBits .f32 0x3F800000#32) (Ideal.ofBits .f32 0x3F800000#32 + Ideal.exp (-(a i))) * u i := rfl
  rw [h, Ideal.ofBits_one_f32]; rfl

end Cert.SiluFwd

end
-- ==== Proof.GluFwd.lean ====
/- The gated unit a σ(g) before the convolution: what the call returns and what the reference returns, one equation for
   each entry. -/
module

public import proofs.«01_k».proof.Proof.Gen.KernelGluFwdIdeal.Value
public import proofs.«01_k».proof.Proof.Gen.ReferenceGluFwdIdeal.Run
public import proofs.«01_k».proof.Proof.Gen.ReferenceGluFwdIdeal.Read
public import proofs.«01_k».proof.Proof.Products
public import Idealize.ShloMosaic.Lib.Pipeline.ValueKit
public import Idealize.ShloMosaic.Lib.Pipeline.ValueKit.Point
public import Idealize.ShloMosaic.Lib.Pointwise

@[expose] public section

noncomputable section

namespace Cert.GluFwd

open Cert.KernelGluFwdIdeal Cert.KernelGluFwdIdeal.Gen Idealize.ShloMosaic Idealize.ShloMosaic.TcCoe Idealize.SL.Sem
open Cert.Products

variable (m : (ℓ : Loc nD τ sig) → Buf (Elt Ideal) ℓ) (c : Dev nD)

abbrev Aa : Mat 9216 1024 .f32 := m (c.tc.loc main_arg0)
abbrev Ag : Mat 9216 1024 .f32 := m (c.tc.loc main_arg1)

/-- a σ(g), entry by entry. -/
def out (a g : Mat 9216 1024 .f32) : Mat 9216 1024 .f32 := fun i => a i * Ideal.logistic (g i)

theorem out_at (a g : Mat 9216 1024 .f32) (i : (⟨2, ![9216, 1024]⟩ : Shape).Idx) (r : Fin 9216) (j : Fin 1024)
    (h0 : (i 0).val = r.val) (h1 : (i 1).val = j.val) : out a g i = a (ix2 r j) * Ideal.logistic (g (ix2 r j)) := by
  rw [show i = ix2 r j from (eq_ix2 i).trans (by rw [show i 0 = r from Fin.ext h0, show i 1 = j from Fin.ext h1])]; rfl

theorem lt36 (t : Fin cfg0.N) : t.val < 36 := t.isLt

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)

theorem a_apply (t : Fin cfg0.N) (r : Fin 256) (k : Fin 1024) :
    (iblk m c 0 t : FVec Ideal S256x1024 .f32) (ix2 r k) = Aa m c (ix2 ⟨t.val * 256 + r.val, by have := lt36 t; omega⟩ k) := by
  unfold Aa
  have e := idx0 t
  blk_point [iblk, V, e]
theorem g_apply (t : Fin cfg0.N) (r : Fin 256) (k : Fin 1024) :
    (iblk m c 1 t : FVec Ideal S256x1024 .f32) (ix2 r k) = Ag m c (ix2 ⟨t.val * 256 + r.val, by have := lt36 t; omega⟩ k) := by
  unfold Ag
  have e := idx1 t
  blk_point [iblk, V, e]

theorem pay_apply (a g : FVec Ideal S256x1024 .f32) (i : S256x1024.Idx) :
    k0_pay1 (F := Ideal) a g i = a i * Ideal.logistic (g i) := rfl

theorem kernel_out : (dats m 0 c).arrAt 2 cfg0.N = out (Aa m c) (Ag m c) := by
  refine (dats m 0 c).arrAt_eq_of_covers 2 _ (by decide +kernel) fun t hf y => ?_
  blk_simp
  rw [after0_2]
  obtain ⟨r, j, rfl⟩ : ∃ r j, y = ix2 r j := ⟨y 0, y 1, eq_ix2 y⟩
  unfold out0_2
  frame_out
  rw [pay_apply, a_apply, g_apply]
  have e := idx2 t
  exact (out_at _ _ _ _ _ (by blk_simp [e]) (by blk_simp [e])).symm

open Cert.ReferenceGluFwdIdeal.Read in
theorem ref_out (a g : Mat 9216 1024 .f32) : val_main_v6 (F := Ideal) a g = out a g := by
  funext i
  have h : val_main_v6 (F := Ideal) a g i
      = a i * Ideal.div (Ideal.ofBits .f32 0x3F800000#32) (Ideal.ofBits .f32 0x3F800000#32 + Ideal.exp (-(g i))) := rfl
  rw [h, Ideal.ofBits_one_f32]; rfl

end Cert.GluFwd

end
-- ==== Proof.GateFwdClaims.lean ====
/- The claims about the forward calls of the two gates: the references' frames, and the equations. -/
module

public import proofs.«01_k».proof.Defs
public import proofs.«01_k».proof.Proof.SiluFwd
public import proofs.«01_k».proof.Proof.GluFwd
public import Idealize.ShloMosaic.Adequacy
public import Idealize.ShloMosaic.Init

@[expose] public section

noncomputable section

namespace Cert.Proof

open Idealize.ShloMosaic Idealize.SL.Sem

theorem frame_referenceSiluFwdIdeal : Cert.quiescent_ReferenceSiluFwdIdeal := fun m ρ _ =>
  (θ_run Cert.ReferenceSiluFwdIdeal.defs _ _).mono
    (fun r h => ⟨fun c => (h c).2, sem_eq_zero_of_no_sems (by decide) r.2⟩) (Cert.ReferenceSiluFwdIdeal.Value.run (F := Ideal) m ρ)
theorem frame_referenceGluFwdIdeal : Cert.quiescent_ReferenceGluFwdIdeal := fun m ρ _ =>
  (θ_run Cert.ReferenceGluFwdIdeal.defs _ _).mono
    (fun r h => ⟨fun c => (h c).2, sem_eq_zero_of_no_sems (by decide) r.2⟩) (Cert.ReferenceGluFwdIdeal.Value.run (F := Ideal) m ρ)

/-- The ConvFFN's gate: both programs return silu(a) u. -/
theorem algebraic_siluFwd : Cert.algebraic_KernelSiluFwdIdeal_ReferenceSiluFwdIdeal := by
  intro m g m' g' _ hagree
  refine ⟨fun c => Cert.SiluFwd.out (Cert.SiluFwd.Aa m c) (Cert.SiluFwd.Au m c),
    (θ_run Cert.KernelSiluFwdIdeal.defs _ _).mono (fun _ h c => ⟨(h c).1.trans (Cert.SiluFwd.kernel_out m c), (h c).2⟩)
      (Cert.KernelSiluFwdIdeal.Value.run_blocks (F := Ideal) m g),
    (θ_run Cert.ReferenceSiluFwdIdeal.defs _ _).mono (fun _ h c => ⟨?_, (h c).2⟩) (Cert.ReferenceSiluFwdIdeal.Value.run (F := Ideal) m' g')⟩
  have h0 := (h c).1
  obtain ⟨a0, a1⟩ := hagree c
  rwa [Cert.ReferenceSiluFwdIdeal.Read.val_main_v1_eq, Cert.SiluFwd.ref_out, a0, a1] at h0

/-- The gated unit: both programs return a σ(g). -/
theorem algebraic_gluFwd : Cert.algebraic_KernelGluFwdIdeal_ReferenceGluFwdIdeal := by
  intro m g m' g' _ hagree
  refine ⟨fun c => Cert.GluFwd.out (Cert.GluFwd.Aa m c) (Cert.GluFwd.Ag m c),
    (θ_run Cert.KernelGluFwdIdeal.defs _ _).mono (fun _ h c => ⟨(h c).1.trans (Cert.GluFwd.kernel_out m c), (h c).2⟩)
      (Cert.KernelGluFwdIdeal.Value.run_blocks (F := Ideal) m g),
    (θ_run Cert.ReferenceGluFwdIdeal.defs _ _).mono (fun _ h c => ⟨?_, (h c).2⟩) (Cert.ReferenceGluFwdIdeal.Value.run (F := Ideal) m' g')⟩
  have h0 := (h c).1
  obtain ⟨a0, a1⟩ := hagree c
  rwa [Cert.ReferenceGluFwdIdeal.Read.val_main_v6_eq, Cert.GluFwd.ref_out, a0, a1] at h0

end Cert.Proof

end
-- ==== Proof.Adam.lean ====
/- AdamW's step for one entry of a weight: the new moments and the difference that is added to the weight, with the step's
   constants as the programs have them. -/
module

public import Idealize.ShloMosaic.Lib.Pipeline.ValueKit
public import Idealize.ShloMosaic.Lib.Pipeline.ValueKit.Point
public import Idealize.ShloMosaic.Lib.Pointwise

@[expose] public section

noncomputable section

namespace Cert.Adam

open Idealize.ShloMosaic

/-- The real number that a float word is. -/
abbrev word (b : BitVec 32) : EReal := Ideal.ofBits .f32 b

/-- The new first moment, β₁ m + (1 - β₁) g. -/
def moment1 (g m : EReal) : EReal := word 0x3F666666#32 * m + word 0x3DCCCCCD#32 * g
/-- The new second moment, β₂ v + (1 - β₂) g². -/
def moment2 (g v : EReal) : EReal := word 0x3F7FBE77#32 * v + word 0x3A83126F#32 * (g * g)
/-- The difference: minus the rate, times the corrected first moment over the root of the second, plus the decay. -/
def step (w g m v : EReal) : EReal :=
  word 0xBA83126F#32 *
    (Ideal.div (Ideal.div (moment1 g m) (word 0x3F26BD02#32))
        (Ideal.sqrt (Ideal.div (moment2 g v) (word 0x3C231ACC#32)) + word 0x322BCC77#32)
      + word 0x3C23D70A#32 * w)

variable {s : Shape}

/-- The three results of the step for an array, of any shape. -/
def outM (g m : FVec Ideal s .f32) : FVec Ideal s .f32 := fun i => moment1 (g i) (m i)
def outV (g v : FVec Ideal s .f32) : FVec Ideal s .f32 := fun i => moment2 (g i) (v i)
def outD (w g m v : FVec Ideal s .f32) : FVec Ideal s .f32 := fun i => step (w i) (g i) (m i) (v i)

end Cert.Adam

end
-- ==== Proof.AdamSq.lean ====
/- AdamW for the shards of conv_pw_w and w_out, 4 × 256 × 1024 entries. -/
module

public import proofs.«01_k».proof.Defs
public import proofs.«01_k».proof.Proof.Adam
public import proofs.«01_k».proof.Proof.Gen.KernelAdamSqIdeal.Value
public import proofs.«01_k».proof.Proof.Gen.ReferenceAdamSqIdeal.Run
public import Idealize.ShloMosaic.Adequacy
public import Idealize.ShloMosaic.Init

@[expose] public section

noncomputable section

namespace Cert.AdamSq

open Cert.KernelAdamSqIdeal Cert.KernelAdamSqIdeal.Gen Idealize.ShloMosaic Idealize.ShloMosaic.TcCoe Idealize.SL.Sem
open Cert.Adam

variable (m : (ℓ : Loc nD τ sig) → Buf (Elt Ideal) ℓ) (c : Dev nD)

/-- The weight, the gradient and the two moments, as the rows that the call takes. -/
abbrev rows (x : FVec Ideal S4x256x1024 .f32) : FVec Ideal S1024x1024 .f32 := shapeCast _ x shapeCasts_S4x256x1024_S1024x1024
abbrev w : FVec Ideal S1024x1024 .f32 := rows (m (c.tc.loc main_arg0))
abbrev g : FVec Ideal S1024x1024 .f32 := rows (m (c.tc.loc main_arg1))
abbrev p : FVec Ideal S1024x1024 .f32 := rows (m (c.tc.loc main_arg2))
abbrev q : FVec Ideal S1024x1024 .f32 := rows (m (c.tc.loc main_arg3))

theorem entry : V m c main_v0 = w m c ∧ V m c main_v1 = g m c ∧ V m c main_v2 = p m c ∧ V m c main_v3 = q m c := by
  refine ⟨?_, ?_, ?_, ?_⟩ <;> dsimp only [V] <;> after_results <;> rfl

theorem pay_m (a b : FVec Ideal S256x1024 .f32) : k0_pay2 (F := Ideal) a b = outM a b := by
  unfold k0_pay2 k0_pay1; rw [shapeCast_self, shapeCast_self]; rfl
theorem pay_v (a b : FVec Ideal S256x1024 .f32) : k0_pay3 (F := Ideal) a b = outV a b := by
  unfold k0_pay3 k0_pay1; rw [shapeCast_self, shapeCast_self]; rfl
theorem pay_d (a b d e : FVec Ideal S256x1024 .f32) : k0_pay4 (F := Ideal) a b d e = outD a b d e := by
  unfold k0_pay4; rw [shapeCast_self, pay_m, pay_v]; rfl

/-- The three arrays after the last block of rows. -/
theorem outs : (dats m 0 c).arrAt 4 cfg0.N = outD (w m c) (g m c) (p m c) (q m c) ∧
    (dats m 0 c).arrAt 5 cfg0.N = outM (g m c) (p m c) ∧ (dats m 0 c).arrAt 6 cfg0.N = outV (g m c) (q m c) := by
  obtain ⟨e0, e1, e2, e3⟩ := entry m c
  rw [← e0, ← e1, ← e2, ← e3]
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_⟩ <;> blk_simp
  · rw [after0_4]; unfold out0_4; frame_out; rw [pay_d]; rfl
  · rw [after0_5]; unfold out0_5; frame_out; rw [pay_m]; rfl
  · rw [after0_6]; unfold out0_6; frame_out; rw [pay_v]; rfl

end Cert.AdamSq

namespace Cert.Proof

open Idealize.ShloMosaic Idealize.SL.Sem Cert.AdamSq

theorem frame_referenceAdamSqIdeal : Cert.quiescent_ReferenceAdamSqIdeal := fun m ρ _ =>
  (θ_run Cert.ReferenceAdamSqIdeal.defs _ _).mono
    (fun r h => ⟨fun c => (h c).2.2.2, sem_eq_zero_of_no_sems (by decide) r.2⟩) (Cert.ReferenceAdamSqIdeal.Value.run (F := Ideal) m ρ)

theorem algebraic_adamSq : Cert.algebraic_KernelAdamSqIdeal_ReferenceAdamSqIdeal := fun m₁ ρ m' ρ' _ hagree =>
  ⟨fun c => Adam.outD (w m₁ c) (g m₁ c) (p m₁ c) (q m₁ c), fun c => Adam.outM (g m₁ c) (p m₁ c), fun c => Adam.outV (g m₁ c) (q m₁ c),
    (θ_run Cert.KernelAdamSqIdeal.defs _ _).mono
      (fun _ h c => ⟨(h c).1.trans (outs m₁ c).1, (h c).2.1.trans (outs m₁ c).2.1, (h c).2.2.1.trans (outs m₁ c).2.2, (h c).2.2.2⟩)
      (Cert.KernelAdamSqIdeal.Value.run_blocks (F := Ideal) m₁ ρ),
    (θ_run Cert.ReferenceAdamSqIdeal.defs _ _).mono
      (fun _ h c => by
        obtain ⟨a0, a1, a2, a3⟩ := hagree c
        have := h c
        rw [a0, a1, a2, a3] at this
        rw [a0, a1, a2, a3]
        exact this)
      (Cert.ReferenceAdamSqIdeal.Value.run (F := Ideal) m' ρ')⟩

end Cert.Proof

end
-- ==== Proof.AdamVec.lean ====
/- AdamW for the shards of the ten vectors of 1024 entries for each of the four layers: the call takes the arguments as they
   are, and has one block. -/
module

public import proofs.«01_k».proof.Defs
public import proofs.«01_k».proof.Proof.Adam
public import proofs.«01_k».proof.Proof.Gen.KernelAdamVecIdeal.Value
public import proofs.«01_k».proof.Proof.Gen.ReferenceAdamVecIdeal.Run
public import Idealize.ShloMosaic.Adequacy
public import Idealize.ShloMosaic.Init

@[expose] public section

noncomputable section

namespace Cert.AdamVec

open Cert.KernelAdamVecIdeal Cert.KernelAdamVecIdeal.Gen Idealize.ShloMosaic Idealize.ShloMosaic.TcCoe Idealize.SL.Sem
open Cert.Adam

variable (m : (ℓ : Loc nD τ sig) → Buf (Elt Ideal) ℓ) (c : Dev nD)

/-- The weight, the gradient and the two moments. -/
abbrev w : FVec Ideal S4x1024 .f32 := m (c.tc.loc main_arg0)
abbrev g : FVec Ideal S4x1024 .f32 := m (c.tc.loc main_arg1)
abbrev p : FVec Ideal S4x1024 .f32 := m (c.tc.loc main_arg2)
abbrev q : FVec Ideal S4x1024 .f32 := m (c.tc.loc main_arg3)

theorem pay_m (a b : FVec Ideal S4x1024 .f32) : k0_pay1 (F := Ideal) a b = outM a b := rfl
theorem pay_v (a b : FVec Ideal S4x1024 .f32) : k0_pay2 (F := Ideal) a b = outV a b := rfl
theorem pay_d (a b d e : FVec Ideal S4x1024 .f32) : k0_pay3 (F := Ideal) a b d e = outD a b d e := rfl

/-- The three arrays after the block. -/
theorem outs : (dats m 0 c).arrAt 4 cfg0.N = outD (w m c) (g m c) (p m c) (q m c) ∧
    (dats m 0 c).arrAt 5 cfg0.N = outM (g m c) (p m c) ∧ (dats m 0 c).arrAt 6 cfg0.N = outV (g m c) (q m c) := by
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_⟩ <;> blk_simp
  · rw [after0_4]; unfold out0_4; frame_out; rw [pay_d]; rfl
  · rw [after0_5]; unfold out0_5; frame_out; rw [pay_m]; rfl
  · rw [after0_6]; unfold out0_6; frame_out; rw [pay_v]; rfl

end Cert.AdamVec

namespace Cert.Proof

open Idealize.ShloMosaic Idealize.SL.Sem Cert.AdamVec

theorem frame_referenceAdamVecIdeal : Cert.quiescent_ReferenceAdamVecIdeal := fun m ρ _ =>
  (θ_run Cert.ReferenceAdamVecIdeal.defs _ _).mono
    (fun r h => ⟨fun c => (h c).2.2.2, sem_eq_zero_of_no_sems (by decide) r.2⟩) (Cert.ReferenceAdamVecIdeal.Value.run (F := Ideal) m ρ)

theorem algebraic_adamVec : Cert.algebraic_KernelAdamVecIdeal_ReferenceAdamVecIdeal := fun m₁ ρ m' ρ' _ hagree =>
  ⟨fun c => Adam.outD (w m₁ c) (g m₁ c) (p m₁ c) (q m₁ c), fun c => Adam.outM (g m₁ c) (p m₁ c), fun c => Adam.outV (g m₁ c) (q m₁ c),
    (θ_run Cert.KernelAdamVecIdeal.defs _ _).mono
      (fun _ h c => ⟨(h c).1.trans (outs m₁ c).1, (h c).2.1.trans (outs m₁ c).2.1, (h c).2.2.1.trans (outs m₁ c).2.2, (h c).2.2.2⟩)
      (Cert.KernelAdamVecIdeal.Value.run_blocks (F := Ideal) m₁ ρ),
    (θ_run Cert.ReferenceAdamVecIdeal.defs _ _).mono
      (fun _ h c => by
        obtain ⟨a0, a1, a2, a3⟩ := hagree c
        have := h c
        rw [a0, a1, a2, a3] at this ⊢
        exact this)
      (Cert.ReferenceAdamVecIdeal.Value.run (F := Ideal) m' ρ')⟩

end Cert.Proof

end
-- ==== Proof.AdamIn.lean ====
/- AdamW for the shard of w_in, 4 × 1024 × 1920 entries: sixteen blocks of 256 rows. -/
module

public import proofs.«01_k».proof.Defs
public import proofs.«01_k».proof.Proof.Adam
public import proofs.«01_k».proof.Proof.Gen.KernelAdamInIdeal.Value
public import proofs.«01_k».proof.Proof.Gen.ReferenceAdamInIdeal.Run
public import Idealize.ShloMosaic.Adequacy
public import Idealize.ShloMosaic.Init

@[expose] public section

noncomputable section

namespace Cert.AdamIn

open Cert.KernelAdamInIdeal Cert.KernelAdamInIdeal.Gen Idealize.ShloMosaic Idealize.ShloMosaic.TcCoe Idealize.SL.Sem
open Cert.Adam

variable (m : (ℓ : Loc nD τ sig) → Buf (Elt Ideal) ℓ) (c : Dev nD)

/-- An argument's layers, one below the other. -/
abbrev rows (x : FVec Ideal S4x1024x1920 .f32) : FVec Ideal S4096x1920 .f32 := shapeCast _ x shapeCasts_S4x1024x1920_S4096x1920
abbrev w : FVec Ideal S4096x1920 .f32 := rows (m (c.tc.loc main_arg0))
abbrev g : FVec Ideal S4096x1920 .f32 := rows (m (c.tc.loc main_arg1))
abbrev p : FVec Ideal S4096x1920 .f32 := rows (m (c.tc.loc main_arg2))
abbrev q : FVec Ideal S4096x1920 .f32 := rows (m (c.tc.loc main_arg3))

theorem entry : V m c main_v0 = w m c ∧ V m c main_v1 = g m c ∧ V m c main_v2 = p m c ∧ V m c main_v3 = q m c := by
  refine ⟨?_, ?_, ?_, ?_⟩ <;> dsimp only [V] <;> after_results <;> rfl

theorem pay_m (a b : FVec Ideal S256x1920 .f32) : k0_pay2 (F := Ideal) a b = outM a b := by
  unfold k0_pay2 k0_pay1; rw [shapeCast_self, shapeCast_self]; rfl
theorem pay_v (a b : FVec Ideal S256x1920 .f32) : k0_pay3 (F := Ideal) a b = outV a b := by
  unfold k0_pay3 k0_pay1; rw [shapeCast_self, shapeCast_self]; rfl
theorem pay_d (a b d e : FVec Ideal S256x1920 .f32) : k0_pay4 (F := Ideal) a b d e = outD a b d e := by
  unfold k0_pay4; rw [shapeCast_self, pay_m, pay_v]; rfl

/-- The difference, after the sixteenth block. -/
theorem out_d : (dats m 0 c).arrAt 4 cfg0.N = outD (w m c) (g m c) (p m c) (q m c) := by
  obtain ⟨e0, e1, e2, e3⟩ := entry m c
  rw [← e0, ← e1, ← e2, ← e3]
  refine (dats m 0 c).arrAt_eq_of_covers 4 _ (by decide +kernel) fun t _ y => ?_
  blk_simp
  rw [after0_4]; unfold out0_4; frame_out; rw [pay_d]; rfl
/-- The new first moment. -/
theorem out_m : (dats m 0 c).arrAt 5 cfg0.N = outM (g m c) (p m c) := by
  obtain ⟨_, e1, e2, _⟩ := entry m c
  rw [← e1, ← e2]
  refine (dats m 0 c).arrAt_eq_of_covers 5 _ (by decide +kernel) fun t _ y => ?_
  blk_simp
  rw [after0_5]; unfold out0_5; frame_out; rw [pay_m]; rfl
/-- The new second moment. -/
theorem out_v : (dats m 0 c).arrAt 6 cfg0.N = outV (g m c) (q m c) := by
  obtain ⟨_, e1, _, e3⟩ := entry m c
  rw [← e1, ← e3]
  refine (dats m 0 c).arrAt_eq_of_covers 6 _ (by decide +kernel) fun t _ y => ?_
  blk_simp
  rw [after0_6]; unfold out0_6; frame_out; rw [pay_v]; rfl

end Cert.AdamIn

namespace Cert.Proof

open Idealize.ShloMosaic Idealize.SL.Sem Cert.AdamIn

theorem frame_referenceAdamInIdeal : Cert.quiescent_ReferenceAdamInIdeal := fun m ρ _ =>
  (θ_run Cert.ReferenceAdamInIdeal.defs _ _).mono
    (fun r h => ⟨fun c => (h c).2.2.2, sem_eq_zero_of_no_sems (by decide) r.2⟩) (Cert.ReferenceAdamInIdeal.Value.run (F := Ideal) m ρ)

theorem algebraic_adamIn : Cert.algebraic_KernelAdamInIdeal_ReferenceAdamInIdeal := fun m₁ ρ m' ρ' _ hagree =>
  ⟨fun c => Adam.outD (w m₁ c) (g m₁ c) (p m₁ c) (q m₁ c), fun c => Adam.outM (g m₁ c) (p m₁ c), fun c => Adam.outV (g m₁ c) (q m₁ c),
    (θ_run Cert.KernelAdamInIdeal.defs _ _).mono
      (fun _ h c => ⟨(h c).1.trans (out_d m₁ c), (h c).2.1.trans (out_m m₁ c), (h c).2.2.1.trans (out_v m₁ c), (h c).2.2.2⟩)
      (Cert.KernelAdamInIdeal.Value.run_blocks (F := Ideal) m₁ ρ),
    (θ_run Cert.ReferenceAdamInIdeal.defs _ _).mono
      (fun _ h c => by
        obtain ⟨a0, a1, a2, a3⟩ := hagree c
        have := h c
        rw [a0, a1, a2, a3] at this ⊢
        exact this)
      (Cert.ReferenceAdamInIdeal.Value.run (F := Ideal) m' ρ')⟩

end Cert.Proof

end
-- ==== Proof.AdamUp.lean ====
/- AdamW for the shard of w_up, 4 × 1024 × 1408 entries: sixteen blocks of 256 rows. -/
module

public import proofs.«01_k».proof.Defs
public import proofs.«01_k».proof.Proof.Adam
public import proofs.«01_k».proof.Proof.Gen.KernelAdamUpIdeal.Value
public import proofs.«01_k».proof.Proof.Gen.ReferenceAdamUpIdeal.Run
public import Idealize.ShloMosaic.Adequacy
public import Idealize.ShloMosaic.Init

@[expose] public section

noncomputable section

namespace Cert.AdamUp

open Cert.KernelAdamUpIdeal Cert.KernelAdamUpIdeal.Gen Idealize.ShloMosaic Idealize.ShloMosaic.TcCoe Idealize.SL.Sem
open Cert.Adam

variable (m : (ℓ : Loc nD τ sig) → Buf (Elt Ideal) ℓ) (c : Dev nD)

/-- An argument's layers, one below the other. -/
abbrev rows (x : FVec Ideal S4x1024x1408 .f32) : FVec Ideal S4096x1408 .f32 := shapeCast _ x shapeCasts_S4x1024x1408_S4096x1408
abbrev w : FVec Ideal S4096x1408 .f32 := rows (m (c.tc.loc main_arg0))
abbrev g : FVec Ideal S4096x1408 .f32 := rows (m (c.tc.loc main_arg1))
abbrev p : FVec Ideal S4096x1408 .f32 := rows (m (c.tc.loc main_arg2))
abbrev q : FVec Ideal S4096x1408 .f32 := rows (m (c.tc.loc main_arg3))

theorem entry : V m c main_v0 = w m c ∧ V m c main_v1 = g m c ∧ V m c main_v2 = p m c ∧ V m c main_v3 = q m c := by
  refine ⟨?_, ?_, ?_, ?_⟩ <;> dsimp only [V] <;> after_results <;> rfl

theorem pay_m (a b : FVec Ideal S256x1408 .f32) : k0_pay2 (F := Ideal) a b = outM a b := by
  unfold k0_pay2 k0_pay1; rw [shapeCast_self, shapeCast_self]; rfl
theorem pay_v (a b : FVec Ideal S256x1408 .f32) : k0_pay3 (F := Ideal) a b = outV a b := by
  unfold k0_pay3 k0_pay1; rw [shapeCast_self, shapeCast_self]; rfl
theorem pay_d (a b d e : FVec Ideal S256x1408 .f32) : k0_pay4 (F := Ideal) a b d e = outD a b d e := by
  unfold k0_pay4; rw [shapeCast_self, pay_m, pay_v]; rfl

/-- The three arrays after the sixteenth block. -/
theorem outs : (dats m 0 c).arrAt 4 cfg0.N = outD (w m c) (g m c) (p m c) (q m c) ∧
    (dats m 0 c).arrAt 5 cfg0.N = outM (g m c) (p m c) ∧ (dats m 0 c).arrAt 6 cfg0.N = outV (g m c) (q m c) := by
  obtain ⟨e0, e1, e2, e3⟩ := entry m c
  rw [← e0, ← e1, ← e2, ← e3]
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_⟩ <;> blk_simp
  · rw [after0_4]; unfold out0_4; frame_out; rw [pay_d]; rfl
  · rw [after0_5]; unfold out0_5; frame_out; rw [pay_m]; rfl
  · rw [after0_6]; unfold out0_6; frame_out; rw [pay_v]; rfl

end Cert.AdamUp

namespace Cert.Proof

open Idealize.ShloMosaic Idealize.SL.Sem Cert.AdamUp

theorem frame_referenceAdamUpIdeal : Cert.quiescent_ReferenceAdamUpIdeal := fun m ρ _ =>
  (θ_run Cert.ReferenceAdamUpIdeal.defs _ _).mono
    (fun r h => ⟨fun c => (h c).2.2.2, sem_eq_zero_of_no_sems (by decide) r.2⟩) (Cert.ReferenceAdamUpIdeal.Value.run (F := Ideal) m ρ)

theorem algebraic_adamUp : Cert.algebraic_KernelAdamUpIdeal_ReferenceAdamUpIdeal := fun m₁ ρ m' ρ' _ hagree =>
  ⟨fun c => Adam.outD (w m₁ c) (g m₁ c) (p m₁ c) (q m₁ c), fun c => Adam.outM (g m₁ c) (p m₁ c), fun c => Adam.outV (g m₁ c) (q m₁ c),
    (θ_run Cert.KernelAdamUpIdeal.defs _ _).mono
      (fun _ h c => ⟨(h c).1.trans (outs m₁ c).1, (h c).2.1.trans (outs m₁ c).2.1, (h c).2.2.1.trans (outs m₁ c).2.2, (h c).2.2.2⟩)
      (Cert.KernelAdamUpIdeal.Value.run_blocks (F := Ideal) m₁ ρ),
    (θ_run Cert.ReferenceAdamUpIdeal.defs _ _).mono
      (fun _ h c => by
        obtain ⟨a0, a1, a2, a3⟩ := hagree c
        have := h c
        rw [a0, a1, a2, a3] at this ⊢
        exact this)
      (Cert.ReferenceAdamUpIdeal.Value.run (F := Ideal) m' ρ')⟩

end Cert.Proof

end
-- ==== Proof.AdamDown.lean ====
/- AdamW for the shard of w_down, 4 × 704 × 1024 entries: eleven blocks of 256 rows, which do not end where a layer ends. -/
module

public import proofs.«01_k».proof.Defs
public import proofs.«01_k».proof.Proof.Adam
public import proofs.«01_k».proof.Proof.Gen.KernelAdamDownIdeal.Value
public import proofs.«01_k».proof.Proof.Gen.ReferenceAdamDownIdeal.Run
public import Idealize.ShloMosaic.Adequacy
public import Idealize.ShloMosaic.Init

@[expose] public section

noncomputable section

namespace Cert.AdamDown

open Cert.KernelAdamDownIdeal Cert.KernelAdamDownIdeal.Gen Idealize.ShloMosaic Idealize.ShloMosaic.TcCoe Idealize.SL.Sem
open Cert.Adam

variable (m : (ℓ : Loc nD τ sig) → Buf (Elt Ideal) ℓ) (c : Dev nD)

/-- An argument's layers, one below the other. -/
abbrev rows (x : FVec Ideal S4x704x1024 .f32) : FVec Ideal S2816x1024 .f32 := shapeCast _ x shapeCasts_S4x704x1024_S2816x1024
abbrev w : FVec Ideal S2816x1024 .f32 := rows (m (c.tc.loc main_arg0))
abbrev g : FVec Ideal S2816x1024 .f32 := rows (m (c.tc.loc main_arg1))
abbrev p : FVec Ideal S2816x1024 .f32 := rows (m (c.tc.loc main_arg2))
abbrev q : FVec Ideal S2816x1024 .f32 := rows (m (c.tc.loc main_arg3))

theorem entry : V m c main_v0 = w m c ∧ V m c main_v1 = g m c ∧ V m c main_v2 = p m c ∧ V m c main_v3 = q m c := by
  refine ⟨?_, ?_, ?_, ?_⟩ <;> dsimp only [V] <;> after_results <;> rfl

theorem pay_m (a b : FVec Ideal S256x1024 .f32) : k0_pay2 (F := Ideal) a b = outM a b := by
  unfold k0_pay2 k0_pay1; rw [shapeCast_self, shapeCast_self]; rfl
theorem pay_v (a b : FVec Ideal S256x1024 .f32) : k0_pay3 (F := Ideal) a b = outV a b := by
  unfold k0_pay3 k0_pay1; rw [shapeCast_self, shapeCast_self]; rfl
theorem pay_d (a b d e : FVec Ideal S256x1024 .f32) : k0_pay4 (F := Ideal) a b d e = outD a b d e := by
  unfold k0_pay4; rw [shapeCast_self, pay_m, pay_v]; rfl

/-- The three arrays after the eleventh block. -/
theorem outs : (dats m 0 c).arrAt 4 cfg0.N = outD (w m c) (g m c) (p m c) (q m c) ∧
    (dats m 0 c).arrAt 5 cfg0.N = outM (g m c) (p m c) ∧ (dats m 0 c).arrAt 6 cfg0.N = outV (g m c) (q m c) := by
  obtain ⟨e0, e1, e2, e3⟩ := entry m c
  rw [← e0, ← e1, ← e2, ← e3]
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_⟩ <;> blk_simp
  · rw [after0_4]; unfold out0_4; frame_out; rw [pay_d]; rfl
  · rw [after0_5]; unfold out0_5; frame_out; rw [pay_m]; rfl
  · rw [after0_6]; unfold out0_6; frame_out; rw [pay_v]; rfl

end Cert.AdamDown

namespace Cert.Proof

open Idealize.ShloMosaic Idealize.SL.Sem Cert.AdamDown

theorem frame_referenceAdamDownIdeal : Cert.quiescent_ReferenceAdamDownIdeal := fun m ρ _ =>
  (θ_run Cert.ReferenceAdamDownIdeal.defs _ _).mono
    (fun r h => ⟨fun c => (h c).2.2.2, sem_eq_zero_of_no_sems (by decide) r.2⟩) (Cert.ReferenceAdamDownIdeal.Value.run (F := Ideal) m ρ)

theorem algebraic_adamDown : Cert.algebraic_KernelAdamDownIdeal_ReferenceAdamDownIdeal := fun m₁ ρ m' ρ' _ hagree =>
  ⟨fun c => Adam.outD (w m₁ c) (g m₁ c) (p m₁ c) (q m₁ c), fun c => Adam.outM (g m₁ c) (p m₁ c), fun c => Adam.outV (g m₁ c) (q m₁ c),
    (θ_run Cert.KernelAdamDownIdeal.defs _ _).mono
      (fun _ h c => ⟨(h c).1.trans (outs m₁ c).1, (h c).2.1.trans (outs m₁ c).2.1, (h c).2.2.1.trans (outs m₁ c).2.2, (h c).2.2.2⟩)
      (Cert.KernelAdamDownIdeal.Value.run_blocks (F := Ideal) m₁ ρ),
    (θ_run Cert.ReferenceAdamDownIdeal.defs _ _).mono
      (fun _ h c => by
        obtain ⟨a0, a1, a2, a3⟩ := hagree c
        have := h c
        rw [a0, a1, a2, a3] at this ⊢
        exact this)
      (Cert.ReferenceAdamDownIdeal.Value.run (F := Ideal) m' ρ')⟩

end Cert.Proof

end
-- ==== Proof.AdamClaims.lean ====
/- The five shapes of AdamW's calls, with their claims. -/
module

public import proofs.«01_k».proof.Proof.AdamSq
public import proofs.«01_k».proof.Proof.AdamVec
public import proofs.«01_k».proof.Proof.AdamIn
public import proofs.«01_k».proof.Proof.AdamUp
public import proofs.«01_k».proof.Proof.AdamDown
-- ==== Proof.ThreeTaps.lean ====
/- The convolution of three taps over the same windows: its taps are the middle three of the thirty-one, so the rows, the
masks and the blocks are those of the longer convolution with the tap `k` at `k + 14`. -/
module

public import proofs.«01_k».proof.Proof.Gen.KernelThreeIdeal.Value
public import Idealize.ShloMosaic.Lib.Pipeline.ValueKit
public import Idealize.ShloMosaic.Lib.Pipeline.ValueKit.Point
public import Idealize.ShloMosaic.Lib.Pipeline.ValueKit.Tiles
public import Idealize.ShloMosaic.Lib.Pointwise
public import proofs.«01_k».proof.Proof.ConvTaps
public import proofs.«01_k».proof.Proof.ConvSpec
public import Idealize.ShloMosaic.Lib.KernelVsHost

@[expose] public section

noncomputable section

namespace Cert.ThreeTaps

open Cert.KernelThreeIdeal Cert.KernelThreeIdeal.Gen Idealize.ShloMosaic Idealize.ShloMosaic.TcCoe Idealize.SL.Sem
open Cert.Products Cert.ConvSpec

/-- The comparison of positions of a window of three. -/
theorem mask_eq (n t k : ℕ) (hn : n < 2048) (ht : t < 2048) (hk : k < 3) :
    (FloatOps.uitofp .f32 (IntOp.cmpi .eq (BitVec.ofNat 32 n) (IntOp.subi (IntOp.addi (BitVec.ofNat 32 t) (BitVec.ofNat 32 k)) 1#32)) : Ideal .f32)
      = if n + 15 = t + (k + 14) then (1 : EReal) else 0 := by
  rw [show IntOp.subi (IntOp.addi (BitVec.ofNat 32 t) (BitVec.ofNat 32 k)) 1#32
      = IntOp.subi (IntOp.addi (BitVec.ofNat 32 t) (BitVec.ofNat 32 (k + 14))) 15#32 from by
    simp only [IntOp.subi, IntOp.addi]
    rw [← BitVec.toNat_inj]
    simp only [BitVec.toNat_sub, BitVec.toNat_add, BitVec.toNat_ofNat]
    omega]
  exact ConvSpec.mask_eq n t (k + 14) hn ht (by omega)

/-- The convolution: the bias, and the products of the window with the taps. -/
def threeAll (x : Mat 9216 2816 .f32) (w : Mat 3 2816 .f32) (b : (⟨1, ![2816]⟩ : Shape).Idx → EReal) : Mat 9216 2816 .f32 := fun i =>
  b (ix1 (i 1)) + ∑ k : Fin 3, tapAt x (i 0) (k.val + 14) (i 1) * w (ix2 k (i 1))
theorem threeAll_at (x : Mat 9216 2816 .f32) (w : Mat 3 2816 .f32) (b : (⟨1, ![2816]⟩ : Shape).Idx → EReal)
    (i : (⟨2, ![9216, 2816]⟩ : Shape).Idx) (R : Fin 9216) (j : Fin 2816) (h0 : (i 0).val = R.val) (h1 : (i 1).val = j.val) :
    threeAll x w b i = b (ix1 j) + ∑ k : Fin 3, tapAt x R (k.val + 14) j * w (ix2 k j) := by
  obtain rfl : i = ix2 R j := (eq_ix2 i).trans (congrArg₂ ix2 (Fin.ext h0) (Fin.ext h1))
  rfl

/-- The convolution with the taps of `w` in the other order. -/
def threeDx (w : Mat 3 2816 .f32) (dy : Mat 9216 2816 .f32) : Mat 9216 2816 .f32 := fun i =>
  ∑ k : Fin 3, tapAt dy (i 0) (k.val + 14) (i 1) * w (ix2 ⟨2 - k.val, by omega⟩ (i 1))
theorem threeDx_at (w : Mat 3 2816 .f32) (dy : Mat 9216 2816 .f32) (i : (⟨2, ![9216, 2816]⟩ : Shape).Idx) (R : Fin 9216) (j : Fin 2816)
    (h0 : (i 0).val = R.val) (h1 : (i 1).val = j.val) :
    threeDx w dy i = ∑ k : Fin 3, tapAt dy R (k.val + 14) j * w (ix2 ⟨2 - k.val, by omega⟩ j) := by
  obtain rfl : i = ix2 R j := (eq_ix2 i).trans (congrArg₂ ix2 (Fin.ext h0) (Fin.ext h1))
  rfl

/-- The gradient of one sequence's convolution for its input, each tap's products in the order of the taps. -/
theorem adj_eq (w : Mat 3 2816 .f32) (dy : Mat 9216 2816 .f32) (base L : ℕ) (hL : base + L ≤ 9216)
    (hlo : ∀ p, p < L → lo (base + p) = base ∧ len (base + p) = L) (p : Fin L) (j : Fin 2816) :
    ∑ k : Fin 3, ∑ t : Fin L, dy (ix2 ⟨base + t.val, by omega⟩ j) * w (ix2 k j) * (if p.val + 15 = t.val + (k.val + 14) then (1 : EReal) else 0)
      = ∑ k : Fin 3, tapAt dy ⟨base + p.val, by omega⟩ (k.val + 14) j * w (ix2 ⟨2 - k.val, by omega⟩ j) := by
  refine Fintype.sum_equiv Fin.revPerm _ _ fun k => ?_
  have hk : (Fin.revPerm k).val = 2 - k.val := by simp only [Fin.revPerm_apply, Fin.rev]; omega
  have hk' : (⟨2 - (Fin.revPerm k).val, by omega⟩ : Fin 3) = k := Fin.ext (by simp only [hk]; omega)
  rw [hk', hk]
  refine Eq.trans (Finset.sum_congr rfl fun t _ => ?_)
    (pick_eq dy base L hL hlo p (2 - k.val + 14) (by omega) j (fun v => v * w (ix2 k j)) (zero_mul _))
  have : (p.val + 15 = t.val + (k.val + 14)) ↔ (t.val + 15 = p.val + (2 - k.val + 14)) := by omega
  simp only [this]

/-- The bias and the three taps of the rows `e`. -/
def taps {F : FTy → Type} [FloatOps F] (e : FVec F S288x128 .f32) (b : Vec F S1x128 .f32) (w : Fin 3 → Vec F S1x128 .f32) : FVec F S256x128 .f32 :=
  ConvTaps.step e 16 (ConvTaps.step e 15 (ConvTaps.step e 14 (ConvTaps.start b) (w 0)) (w 1)) (w 2)

theorem step_apply (e : FVec Ideal S288x128 .f32) (k : ℕ) (hk : k < 31) (a : FVec Ideal S256x128 .f32) (w : Vec Ideal S1x128 .f32) (r : Fin 256) (l : Fin 128) :
    ConvTaps.step e k a w (ix2 r l) = a (ix2 r l) + e (ix2 ⟨r.val + 1 + k, by omega⟩ l) * w (ix2 0 l) := by
  rw [← ConvTaps.tap_apply e k hk]
  unfold ConvTaps.step
  generalize ConvTaps.tap e k = y
  pointwise

theorem taps_apply (e : FVec Ideal S288x128 .f32) (b : Vec Ideal S1x128 .f32) (w : Fin 3 → Vec Ideal S1x128 .f32) (r : Fin 256) (l : Fin 128) :
    taps e b w (ix2 r l) = b (ix2 0 l) + ∑ k : Fin 3, e (ix2 ⟨r.val + 1 + (k.val + 14), by omega⟩ l) * w k (ix2 0 l) := by
  have hs : ConvTaps.start b (ix2 r l) = (b (ix2 0 l) : EReal) := by
    unfold ConvTaps.start
    pointwise
  unfold taps
  rw [step_apply _ _ (by omega), step_apply _ _ (by omega), step_apply _ _ (by omega), hs, Fin.sum_univ_three, add_assoc, add_assoc]
  exact congrArg _ (add_assoc _ _ _).symm

theorem inb_top (s : Fin 2) : ∀ a, (![0, s.val * 128] : Fin 2 → Nat) a + S16x128.size a ≤ S16x256.size a := by decide +revert
theorem inb_mid (s : Fin 2) : ∀ a, (![0, s.val * 128] : Fin 2 → Nat) a + S256x128.size a ≤ S256x256.size a := by decide +revert
theorem inb_w (s : Fin 2) (k : Fin 3) : ∀ a, (![k.val, s.val * 128] : Fin 2 → Nat) a + S1x128.size a ≤ S3x256.size a := by decide +revert
theorem inb_b (s : Fin 2) : ∀ a, (![0, s.val * 128] : Fin 2 → Nat) a + S1x128.size a ≤ S1x256.size a := by decide +revert

section
variable {F : FTy → Type} [FloatOps F] (n : BitVec 32) (x0 x2 : Vec F S16x256 .f32) (x1 : Vec F S256x256 .f32)
  (x3 : Vec F S3x256 .f32) (x4 : Vec F S1x256 .f32)

/-- The block with its surroundings, of 128 of the 256 channels. -/
def ext (s : Fin 2) : FVec F S288x128 .f32 :=
  Cert.KernelConvDxIdeal.Gen.k0_pay27 n (View.ld x0 (Rect.unit ![0, s.val * 128] S16x128.size (inb_top s)))
    (View.ld x1 (Rect.unit ![0, s.val * 128] S256x128.size (inb_mid s))) (View.ld x2 (Rect.unit ![0, s.val * 128] S16x128.size (inb_top s)))
/-- The weight's row `k`, of 128 channels. -/
def wrow (s : Fin 2) (k : Fin 3) : Vec F S1x128 .f32 := View.ld x3 (Rect.unit ![k.val, s.val * 128] S1x128.size (inb_w s k))
/-- The bias, of 128 channels. -/
def brow (s : Fin 2) : Vec F S1x128 .f32 := View.ld x4 (Rect.unit ![0, s.val * 128] S1x128.size (inb_b s))
/-- The convolution of 128 of the 256 channels. -/
def conv (s : Fin 2) : FVec F S256x128 .f32 := taps (ext n x0 x2 x1 s) (brow x4 s) (wrow x3 s)
end

/-- Two blocks of 128 columns side by side, read at a column. -/
theorem tiles (P : Fin 2 → FVec Ideal S256x128 .f32) (r : Fin 256) (g : Fin 2) (d : Fin 128) :
    View.canon (Val := Elt Ideal) (e := .f32) (s := S256x256)
      [⟨Rect.unit ![0, 128] ![256, 128] inb_S256x256_S256x128_0_128, P 1⟩,
       ⟨Rect.unit ![0, 0] ![256, 128] inb_S256x256_S256x128_0_0, P 0⟩]
      (ix2 r ⟨g.val * 128 + d.val, by omega⟩)
      = P g (ix2 r d) := by
  have key : ∀ g' : Fin 2, ∀ x : (⟨2, ![256, 128]⟩ : Shape).Idx, (r.val = (x 0).val) → (g.val * 128 + d.val = g'.val * 128 + (x 1).val) →
      P g' x = P g (ix2 r d) := by
    intro g' x hr hd'
    have hx : (x 1).val < 128 := (x 1).isLt
    have hg : g' = g := Fin.ext (by omega)
    subst hg
    rw [show x = ix2 r d from by rw [eq_ix2 x]; exact congrArg₂ ix2 (Fin.ext hr.symm) (Fin.ext (by omega))]
  canon_tiles x hx
  case piece0 =>
    change r.val = (x 0).val at hx0; change g.val * 128 + d.val = 128 + (x 1).val at hx1
    exact key 1 x hx0 (by rw [hx1]; simp)
  case piece1 =>
    change r.val = (x 0).val at hx0; change g.val * 128 + d.val = (x 1).val at hx1
    exact key 0 x hx0 (by rw [hx1]; simp)

variable (n : BitVec 32) (x0 x2 : FVec Ideal S16x256 .f32) (x1 : FVec Ideal S256x256 .f32) (x3 : FVec Ideal S3x256 .f32) (x4 : FVec Ideal S1x256 .f32)

theorem conv_apply (r : Fin 256) (s : Fin 2) (l : Fin 128) :
    conv n x0 x2 x1 x3 x4 s (ix2 r l) = x4 (ix2 0 ⟨s.val * 128 + l.val, by omega⟩) +
      ∑ k : Fin 3, (ext n x0 x2 x1 s : FVec Ideal S288x128 .f32) (ix2 ⟨r.val + 1 + (k.val + 14), by omega⟩ l) * x3 (ix2 k ⟨s.val * 128 + l.val, by omega⟩) := by
  rw [conv, taps_apply]
  refine congrArg₂ (· + ·) ?_ (Finset.sum_congr rfl fun k _ => congrArg₂ (· * ·) rfl ?_)
  · exact View.ld_unit_apply_of (Val := Elt Ideal) (e := .f32) x4 _ _ _ _ _ fun a => by match a with | ⟨0, _⟩ => simp [ix2] | ⟨1, _⟩ => simp [ix2]
  · exact View.ld_unit_apply_of (Val := Elt Ideal) (e := .f32) x3 _ _ _ _ _ fun a => by match a with | ⟨0, _⟩ => simp [ix2] | ⟨1, _⟩ => simp [ix2]

theorem ld_side (x : FVec Ideal S16x256 .f32) (s : Fin 2) (q : Fin 16) (l : Fin 128) :
    View.ld (Val := Elt Ideal) (S := S16x256) (e' := .f32) x (Rect.unit ![0, s.val * 128] S16x128.size (inb_top s)) (ix2 q l)
      = x (ix2 q ⟨s.val * 128 + l.val, by omega⟩) :=
  View.ld_unit_apply_of (Val := Elt Ideal) (e := .f32) x _ _ _ _ (ix2 q ⟨s.val * 128 + l.val, by omega⟩)
    fun a => by match a with | ⟨0, _⟩ => simp [ix2] | ⟨1, _⟩ => simp [ix2]
theorem ld_mid (x : FVec Ideal S256x256 .f32) (s : Fin 2) (q : Fin 256) (l : Fin 128) :
    View.ld (Val := Elt Ideal) (S := S256x256) (e' := .f32) x (Rect.unit ![0, s.val * 128] S256x128.size (inb_mid s)) (ix2 q l)
      = x (ix2 q ⟨s.val * 128 + l.val, by omega⟩) :=
  View.ld_unit_apply_of (Val := Elt Ideal) (e := .f32) x _ _ _ _ (ix2 q ⟨s.val * 128 + l.val, by omega⟩)
    fun a => by match a with | ⟨0, _⟩ => simp [ix2] | ⟨1, _⟩ => simp [ix2]
/-- The rows around the block are the rows of the window's array, zeros outside the sequence. -/
theorem ext_rows (x : Mat 9216 2816 .f32) (T : ℕ) (hT : T < 36) (J : Fin 256 → Fin 2816)
    (h0 : ∀ q j, x0 (ix2 q j) = x (ix2 ⟨(T * 16 - 1) * 16 + q.val, by omega⟩ (J j)))
    (h1 : ∀ q j, x1 (ix2 q j) = x (ix2 ⟨T * 256 + q.val, by omega⟩ (J j)))
    (h2 : ∀ q j, x2 (ix2 q j) = x (ix2 ⟨min (T * 16 + 16) 575 * 16 + q.val, by omega⟩ (J j)))
    (r : Fin 256) (s : Fin 2) (l : Fin 128) (k : Fin 3) :
    (ext (BitVec.ofNat 32 T) x0 x2 x1 s : FVec Ideal S288x128 .f32) (ix2 ⟨r.val + 1 + (k.val + 14), by omega⟩ l)
      = tapAt x ⟨T * 256 + r.val, by omega⟩ (k.val + 14) (J ⟨s.val * 128 + l.val, by omega⟩) := by
  unfold ext
  rw [show BitVec.ofNat 32 T = BitVec.ofNat 32 (⟨T, hT⟩ : Fin 36).val from rfl, ConvTaps.ext_apply]
  exact window_eq x T hT r ⟨k.val + 14, by omega⟩ (J ⟨s.val * 128 + l.val, by omega⟩)
    (fun q => View.ld (Val := Elt Ideal) (S := S16x256) (e' := .f32) x0 (Rect.unit ![0, s.val * 128] S16x128.size (inb_top s)) (ix2 q l))
    (fun q => View.ld (Val := Elt Ideal) (S := S16x256) (e' := .f32) x2 (Rect.unit ![0, s.val * 128] S16x128.size (inb_top s)) (ix2 q l))
    (fun q => View.ld (Val := Elt Ideal) (S := S256x256) (e' := .f32) x1 (Rect.unit ![0, s.val * 128] S256x128.size (inb_mid s)) (ix2 q l))
    (fun q => (ld_side x0 s q l).trans (h0 q _)) (fun q => (ld_mid x1 s q l).trans (h1 q _)) (fun q => (ld_side x2 s q l).trans (h2 q _))

end Cert.ThreeTaps

end
-- ==== Proof.ThreeDx.lean ====
/- The gradient of the input of the convolution of three taps: the same convolution of the incoming gradient with the taps in
the other order. -/
module

public import proofs.«01_k».proof.Proof.Gen.KernelThreeDxIdeal.Value
public import Idealize.ShloMosaic.Lib.Pipeline.ValueKit
public import Idealize.ShloMosaic.Lib.Pipeline.ValueKit.Point
public import Idealize.ShloMosaic.Lib.Pointwise
public import proofs.«01_k».proof.Proof.Products
public import proofs.«01_k».proof.Proof.ThreeTaps
public import proofs.«01_k».proof.Proof.ConvSpec

@[expose] public section

noncomputable section

namespace Cert.ThreeDx

open Cert.KernelThreeDxIdeal Cert.KernelThreeDxIdeal.Gen Idealize.ShloMosaic Idealize.ShloMosaic.TcCoe Idealize.SL.Sem
open Cert.Products Cert.ConvSpec Cert.ThreeTaps

section
variable {F : FTy → Type} [FloatOps F] (i : grid0.Coords) (x0 x2 : Vec F S16x256 .f32) (x1 : Vec F S256x256 .f32)
  (x3 : Vec F S3x256 .f32) (x4 : Vec F S1x256 .f32)

theorem left (b w0 w1 w2 : Vec F S1x128 .f32) (m : Vec F S256x128 .f32) (d u : Vec F S16x128 .f32) (p q : BitVec 32) :
    k0_pay3 m d p q u b w0 w1 w2 = taps (concatenate S288x128 0 [⟨S16x128, u⟩, ⟨S256x128, m⟩,
      ⟨S16x128, Scalar.select (Scalar.cmpi .slt (Scalar.addi p 256#32) q) d (broadcast S16x128 (Scalar.ofBits .f32 0x00000000#32 : F .f32))⟩]
      concatenates_S16x128_S256x128_S16x128_S288x128_d0) b ![w0, w1, w2] := by
  simp only [taps, ConvTaps.step, ConvTaps.tap, Nat.reduceEqDiff, ↓reduceIte, Nat.reduceSub, Nat.reduceMod]
  unfold k0_pay3
  rw [shapeCast_self w0, shapeCast_self w1, shapeCast_self w2]
  rfl
theorem right (e : FVec F S288x128 .f32) (b w0 w1 w2 : Vec F S1x128 .f32) :
    k0_pay1 e (k0_pay5 b) w0 w1 w2 = taps e b ![w0, w1, w2] := by
  simp only [taps, ConvTaps.step, ConvTaps.tap, Nat.reduceEqDiff, ↓reduceIte, Nat.reduceSub, Nat.reduceMod]
  unfold k0_pay1 k0_pay5
  rw [shapeCast_self w0, shapeCast_self w1, shapeCast_self w2]
  rfl
theorem wrow_eq (s : Fin 2) : wrow x3 s = ![wrow x3 s 0, wrow x3 s 1, wrow x3 s 2] := by
  funext k; fin_cases k <;> rfl

theorem out_eq : out0_5 i x0 x1 x2 x3 x4 = View.canon [⟨Rect.unit ![0, 128] ![256, 128] inb_S256x256_S256x128_0_128, conv (BitVec.ofNat 32 (i 0).val) x0 x2 x1 x3 x4 1⟩,
    ⟨Rect.unit ![0, 0] ![256, 128] inb_S256x256_S256x128_0_0, conv (BitVec.ofNat 32 (i 0).val) x0 x2 x1 x3 x4 0⟩] := by
  unfold out0_5 conv
  rw [left, right, wrow_eq x3 0, wrow_eq x3 1]
  rfl
end

variable (m : (ℓ : Loc nD τ sig) → Buf (Elt Ideal) ℓ) (c : Dev nD)

abbrev Aw : Mat 3 2816 .f32 := m (c.tc.loc main_arg0)
abbrev Ady : Mat 9216 2816 .f32 := m (c.tc.loc main_arg1)

theorem coord0 : ∀ t : Fin cfg0.N, (grid0.coords t 0).val = t.val / 11 := (by decide +kernel : ∀ t : Fin grid0.N, _)
theorem idx0 : ∀ t : Fin cfg0.N, win0_0.index t = ![t.val / 11 * 16 - 1, t.val % 11] := (by decide +kernel : ∀ t : Fin grid0.N, _)
theorem idx1 : ∀ t : Fin cfg0.N, win0_1.index t = ![t.val / 11, t.val % 11] := (by decide +kernel : ∀ t : Fin grid0.N, _)
theorem idx2 : ∀ t : Fin cfg0.N, win0_2.index t = ![min (t.val / 11 * 16 + 16) 575, t.val % 11] := (by decide +kernel : ∀ t : Fin grid0.N, _)
theorem idx3 : ∀ t : Fin cfg0.N, win0_3.index t = ![0, t.val % 11] := (by decide +kernel : ∀ t : Fin grid0.N, _)
theorem idx4 : ∀ t : Fin cfg0.N, win0_4.index t = ![0, t.val % 11] := (by decide +kernel : ∀ t : Fin grid0.N, _)
theorem idx5 : ∀ t : Fin cfg0.N, win0_5.index t = ![t.val / 11, t.val % 11] := (by decide +kernel : ∀ t : Fin grid0.N, _)

theorem lt396 (t : Fin cfg0.N) : t.val < 396 := t.isLt

/-- The column `j` of the point's channels. -/
def ch (t : Fin cfg0.N) (j : Fin 256) : Fin 2816 := ⟨t.val % 11 * 256 + j.val, by omega⟩

theorem top_apply (t : Fin cfg0.N) (r : Fin 16) (j : Fin 256) :
    (iblk m c 0 t : FVec Ideal S16x256 .f32) (ix2 r j) = Ady m c (ix2 ⟨(t.val / 11 * 16 - 1) * 16 + r.val, by have := lt396 t; omega⟩ (ch t j)) := by
  unfold Ady ch
  have e := idx0 t
  blk_point [iblk, V, e]
theorem mid_apply (t : Fin cfg0.N) (r : Fin 256) (j : Fin 256) :
    (iblk m c 1 t : FVec Ideal S256x256 .f32) (ix2 r j) = Ady m c (ix2 ⟨t.val / 11 * 256 + r.val, by have := lt396 t; omega⟩ (ch t j)) := by
  unfold Ady ch
  have e := idx1 t
  blk_point [iblk, V, e]
theorem bot_apply (t : Fin cfg0.N) (r : Fin 16) (j : Fin 256) :
    (iblk m c 2 t : FVec Ideal S16x256 .f32) (ix2 r j) = Ady m c (ix2 ⟨min (t.val / 11 * 16 + 16) 575 * 16 + r.val, by have := lt396 t; omega⟩ (ch t j)) := by
  unfold Ady ch
  have e := idx2 t
  blk_point [iblk, V, e]
theorem taps_eq : V m c main_v0 = Host.reverse (s := S3x2816) [0] (Aw m c) := by
  unfold Aw
  unfold_abbrev_sides
  after_results
theorem bias_eq (i : S1x2816.Idx) : (V m c main_v2 : FVec Ideal S1x2816 .f32) i = (0 : EReal) := by
  have h : V m c main_v2 = shapeCast S1x2816 (broadcastInDim S2816 ![] bcast_S_S2816 (constant (F := Ideal) S_ .f32 0x00000000#32)) shapeCasts_S2816_S1x2816 := by
    unfold_abbrev_sides
    after_results
    rfl
  rw [h, eq_ix2 i]
  pointwise
theorem w_apply (t : Fin cfg0.N) (k : Fin 3) (j : Fin 256) :
    (iblk m c 3 t : FVec Ideal S3x256 .f32) (ix2 k j) = Aw m c (ix2 ⟨2 - k.val, by omega⟩ (ch t j)) := by
  have e := idx3 t
  have h : (iblk m c 3 t : FVec Ideal S3x256 .f32) (ix2 k j) = (V m c main_v0 : FVec Ideal S3x2816 .f32) (ix2 k (ch t j)) := by
    unfold ch
    generalize hX : V m c main_v0 = X
    blk_point [iblk, hX, e]
  rw [h, taps_eq]
  generalize ch t j = l
  pointwise
  have hk : k.rev = ⟨2 - k.val, by omega⟩ := Fin.ext (by simp only [Fin.rev]; omega)
  rw [← hk]
  rfl
theorem b_apply (t : Fin cfg0.N) (j : Fin 256) :
    (iblk m c 4 t : FVec Ideal S1x256 .f32) (ix2 0 j) = (0 : EReal) := by
  unfold iblk
  exact bias_eq m c _

/-- The row of the block at the point `t`. -/
def row (t : Fin cfg0.N) (r : Fin 256) : Fin 9216 := ⟨t.val / 11 * 256 + r.val, by have := lt396 t; omega⟩

theorem out_dx : (dats m 0 c).arrAt 5 cfg0.N = threeDx (Aw m c) (Ady m c) := by
  refine (dats m 0 c).arrAt_eq_of_covers 5 _ (by decide +kernel) fun t hf y => ?_
  blk_simp
  rw [after0_5]
  obtain ⟨r, j, rfl⟩ : ∃ r j, y = ix2 r j := ⟨y 0, y 1, eq_ix2 y⟩
  have hj : j = (⟨(⟨j.val / 128, by omega⟩ : Fin 2).val * 128 + (⟨j.val % 128, by omega⟩ : Fin 128).val, by simp only []; omega⟩ : Fin 256) :=
    Fin.ext (by simp only []; omega)
  rw [out_eq, coord0]
  refine (congrArg (fun j => View.canon (Val := Elt Ideal) (e := .f32) (s := S256x256) _ (ix2 r j)) hj).trans ?_
  refine (tiles (conv (BitVec.ofNat 32 (t.val / 11)) (iblk m c 0 t) (iblk m c 2 t) (iblk m c 1 t) (iblk m c 3 t) (iblk m c 4 t)) r _ _).trans ?_
  refine (conv_apply _ _ _ _ _ _ _ _ _).trans ?_
  rw [b_apply, ← hj, zero_add]
  have e := idx5 t
  refine Eq.trans (Finset.sum_congr rfl fun k _ => ?_) (threeDx_at (Aw m c) (Ady m c) _ (row t r) (ch t j) (by unfold row; blk_simp [e]) (by unfold ch; blk_simp [e])).symm
  rw [w_apply, ext_rows _ _ _ (Ady m c) (t.val / 11) (by have := lt396 t; omega) (ch t) (top_apply m c t) (mid_apply m c t) (bot_apply m c t)]
  exact congrArg (fun j' => tapAt (Ady m c) (row t r) (k.val + 14) (ch t j') * Aw m c (ix2 ⟨2 - k.val, by omega⟩ (ch t j))) hj.symm

end Cert.ThreeDx

end
-- ==== Proof.ThreeDxRef.lean ====
/- What the gradient of the plain-maths convolution of three taps computes for its input. -/
module

public import proofs.«01_k».proof.Proof.Gen.ReferenceThreeDxIdeal.Run
public import proofs.«01_k».proof.Proof.Gen.ReferenceThreeDxIdeal.Read
public import Idealize.ShloMosaic.Lib.Pointwise
public import Idealize.ShloMosaic.Lib.KernelVsHost
public import proofs.«01_k».proof.Proof.Products
public import proofs.«01_k».proof.Proof.ConvSpec
public import proofs.«01_k».proof.Proof.ThreeTaps

@[expose] public section

noncomputable section

namespace Cert.ThreeDxRef

open Cert.ReferenceThreeDxIdeal Cert.ReferenceThreeDxIdeal.Read Idealize.ShloMosaic
open Cert.Products Cert.ConvSpec Cert.ThreeTaps

variable (w : Mat 3 2816 .f32) (dy : Mat 9216 2816 .f32)

theorem mask_latent (k : Fin 3) (t n : Fin 2048) :
    val_main_v11 (F := Ideal) (ix3 k t n) = if n.val + 15 = t.val + (k.val + 14) then 1 else 0 := by
  unfold val_main_v11 val_main_v10 val_main_v9 val_main_v8 val_main_c val_main_v7 val_main_v6 val_main_v5 val_main_v4
  pointwise
  exact ThreeTaps.mask_eq _ _ _ (by omega) (by omega) k.isLt

theorem v59_apply (b : Fin 4) (j : Fin 2816) (n : Fin 2048) :
    val_main_v59 (F := Ideal) w dy (ix3 b j n) = ∑ k : Fin 3, ∑ t : Fin 2048,
      dy (ix2 ⟨b.val * 2048 + t.val, by omega⟩ j) * w (ix2 k j) * val_main_v11 (F := Ideal) (ix3 k t n) := by
  unfold val_main_v59 val_main_v58 val_main_v57 val_main_v56 val_main_v55 val_main_v54 val_main_v43 val_main_v14
  generalize val_main_v11 (F := Ideal) = M
  pointwise

theorem mask_context (k : Fin 3) (t n : Fin 256) :
    val_main_v31 (F := Ideal) (ix3 k t n) = if n.val + 15 = t.val + (k.val + 14) then 1 else 0 := by
  unfold val_main_v31 val_main_v30 val_main_v29 val_main_v28 val_main_c_2 val_main_v27 val_main_v26 val_main_v25 val_main_v24
  pointwise
  exact ThreeTaps.mask_eq _ _ _ (by omega) (by omega) k.isLt

theorem v50_apply (b : Fin 4) (j : Fin 2816) (n : Fin 256) :
    val_main_v50 (F := Ideal) w dy (ix3 b j n) = ∑ k : Fin 3, ∑ t : Fin 256,
      dy (ix2 ⟨8192 + b.val * 256 + t.val, by omega⟩ j) * w (ix2 k j) * val_main_v31 (F := Ideal) (ix3 k t n) := by
  unfold val_main_v50 val_main_v49 val_main_v48 val_main_v47 val_main_v46 val_main_v45 val_main_v44 val_main_v34
  generalize val_main_v31 (F := Ideal) = M
  pointwise
  simp only [Nat.add_assoc]

theorem v52_apply (r : Fin 1024) (j : Fin 2816) :
    val_main_v52 (F := Ideal) w dy (ix2 r j) = val_main_v50 (F := Ideal) w dy (ix3 ⟨r.val / 256, by omega⟩ j ⟨r.val % 256, by omega⟩) := by
  unfold val_main_v52 val_main_v51
  generalize val_main_v50 (F := Ideal) w dy = M
  pointwise
theorem v61_apply (r : Fin 8192) (j : Fin 2816) :
    val_main_v61 (F := Ideal) w dy (ix2 r j) = val_main_v59 (F := Ideal) w dy (ix3 ⟨r.val / 2048, by omega⟩ j ⟨r.val % 2048, by omega⟩) := by
  unfold val_main_v61 val_main_v60
  generalize val_main_v59 (F := Ideal) w dy = M
  pointwise

/-- A row of the context. -/
def ctx (r : Fin 1024) : Fin 9216 := ⟨8192 + r.val, by omega⟩
theorem v53_context (r : Fin 1024) (j : Fin 2816) : val_main_v53 (F := Ideal) w dy (ix2 (ctx r) j) = val_main_v52 (F := Ideal) w dy (ix2 r j) :=
  pad_apply_of_inside _ _ _ _ _ _ _ _ (ix2 r j) fun a => by match a with | ⟨0, _⟩ => simp [ix2, ctx] | ⟨1, _⟩ => simp [ix2]
theorem v53_latent (r : Fin 8192) (j : Fin 2816) : val_main_v53 (F := Ideal) w dy (ix2 ⟨r.val, by omega⟩ j) = (0 : EReal) :=
  (pad_apply_of_not_inside _ _ _ _ _ _ _ _ 0 fun h => by have := h.1; have := r.isLt; simp [ix2] at *; omega).trans (by
    unfold val_main_cst_4
    exact Ideal.ofBits_zero_f32)
theorem v62_apply (R : Fin 9216) (j : Fin 2816) :
    val_main_v62 (F := Ideal) w dy (ix2 R j) = if h : R.val < 8192 then val_main_v61 (F := Ideal) w dy (ix2 ⟨R.val, h⟩ j) else (0 : EReal) := by
  unfold val_main_v62 val_main_cst_5
  generalize val_main_v61 (F := Ideal) w dy = M
  pointwise

theorem ref_eq : val_main_v63 (F := Ideal) w dy = threeDx w dy := by
  funext i
  obtain ⟨R, j, rfl⟩ : ∃ R j, i = ix2 R j := ⟨i 0, i 1, eq_ix2 i⟩
  have hs : val_main_v63 (F := Ideal) w dy (ix2 R j) = (val_main_v53 (F := Ideal) w dy (ix2 R j) : EReal) + val_main_v62 (F := Ideal) w dy (ix2 R j) := rfl
  rw [hs, v62_apply]
  by_cases h : R.val < 8192
  · rw [dif_pos h, show val_main_v53 (F := Ideal) w dy (ix2 R j) = (0 : EReal) from v53_latent w dy ⟨R.val, h⟩ j, zero_add, v61_apply, v59_apply]
    simp only [mask_latent]
    refine (ThreeTaps.adj_eq w dy (R.val / 2048 * 2048) 2048 (by omega) (lo_latent _ (by omega)) ⟨R.val % 2048, by omega⟩ j).trans ?_
    exact (threeDx_at w dy _ _ j (by simp only [ix2]; show R.val = _; omega) rfl).symm
  · rw [dif_neg h, add_zero]
    obtain ⟨r, rfl⟩ : ∃ r : Fin 1024, R = ctx r := ⟨⟨R.val - 8192, by omega⟩, Fin.ext (by simp only [ctx]; omega)⟩
    rw [v53_context, v52_apply, v50_apply]
    simp only [mask_context]
    refine (ThreeTaps.adj_eq w dy (8192 + r.val / 256 * 256) 256 (by omega) (lo_context _) ⟨r.val % 256, by omega⟩ j).trans ?_
    exact (threeDx_at w dy _ _ j (by simp only [ix2]; show 8192 + r.val = _; omega) rfl).symm

end Cert.ThreeDxRef

end
-- ==== Proof.Three.lean ====
/- The convolution of three taps: the bias and, over the window of the row, the products with the taps. -/
module

public import proofs.«01_k».proof.Proof.Gen.KernelThreeIdeal.Value
public import Idealize.ShloMosaic.Lib.Pipeline.ValueKit
public import Idealize.ShloMosaic.Lib.Pipeline.ValueKit.Point
public import Idealize.ShloMosaic.Lib.Pointwise
public import proofs.«01_k».proof.Proof.Products
public import proofs.«01_k».proof.Proof.ThreeTaps
public import proofs.«01_k».proof.Proof.ConvSpec

@[expose] public section

noncomputable section

namespace Cert.Three

open Cert.KernelThreeIdeal Cert.KernelThreeIdeal.Gen Idealize.ShloMosaic Idealize.ShloMosaic.TcCoe Idealize.SL.Sem
open Cert.Products Cert.ConvSpec Cert.ThreeTaps

section
variable {F : FTy → Type} [FloatOps F] (i : grid0.Coords) (x0 x2 : Vec F S16x256 .f32) (x1 : Vec F S256x256 .f32)
  (x3 : Vec F S3x256 .f32) (x4 : Vec F S1x256 .f32)

theorem left (b w0 w1 w2 : Vec F S1x128 .f32) (m : Vec F S256x128 .f32) (d u : Vec F S16x128 .f32) (p q : BitVec 32) :
    k0_pay3 m d p q u b w0 w1 w2 = taps (concatenate S288x128 0 [⟨S16x128, u⟩, ⟨S256x128, m⟩,
      ⟨S16x128, Scalar.select (Scalar.cmpi .slt (Scalar.addi p 256#32) q) d (broadcast S16x128 (Scalar.ofBits .f32 0x00000000#32 : F .f32))⟩]
      concatenates_S16x128_S256x128_S16x128_S288x128_d0) b ![w0, w1, w2] := by
  simp only [taps, ConvTaps.step, ConvTaps.tap, Nat.reduceEqDiff, ↓reduceIte, Nat.reduceSub, Nat.reduceMod]
  unfold k0_pay3
  rfl
theorem right (e : FVec F S288x128 .f32) (b w0 w1 w2 : Vec F S1x128 .f32) :
    k0_pay1 e (k0_pay5 b) (ConvTaps.tap e 14) w0 w1 w2 = taps e b ![w0, w1, w2] := by
  simp only [taps, ConvTaps.step, ConvTaps.tap, Nat.reduceEqDiff, ↓reduceIte, Nat.reduceSub, Nat.reduceMod]
  unfold k0_pay1 k0_pay5
  rfl
theorem next (n q : BitVec 32) (u d : Vec F S16x128 .f32) (m : Vec F S256x128 .f32) (p : BitVec 1) :
    k0_pay6 n u m d p q = ConvTaps.tap (k0_pay4 n u m d p q) 14 := rfl
theorem wrow_eq (s : Fin 2) : wrow x3 s = ![wrow x3 s 0, wrow x3 s 1, wrow x3 s 2] := by
  funext k; fin_cases k <;> rfl

theorem out_eq : out0_5 i x0 x1 x2 x3 x4 = View.canon [⟨Rect.unit ![0, 128] ![256, 128] inb_S256x256_S256x128_0_128, conv (BitVec.ofNat 32 (i 0).val) x0 x2 x1 x3 x4 1⟩,
    ⟨Rect.unit ![0, 0] ![256, 128] inb_S256x256_S256x128_0_0, conv (BitVec.ofNat 32 (i 0).val) x0 x2 x1 x3 x4 0⟩] := by
  unfold out0_5 conv
  rw [left, next, right, wrow_eq x3 0, wrow_eq x3 1]
  rfl
end

variable (m : (ℓ : Loc nD τ sig) → Buf (Elt Ideal) ℓ) (c : Dev nD)

abbrev Ax : Mat 9216 2816 .f32 := m (c.tc.loc main_arg0)
abbrev Aw : Mat 3 2816 .f32 := m (c.tc.loc main_arg1)
abbrev Ab : (⟨1, ![2816]⟩ : Shape).Idx → EReal := m (c.tc.loc main_arg2)

theorem coord0 : ∀ t : Fin cfg0.N, (grid0.coords t 0).val = t.val / 11 := (by decide +kernel : ∀ t : Fin grid0.N, _)
theorem idx0 : ∀ t : Fin cfg0.N, win0_0.index t = ![t.val / 11 * 16 - 1, t.val % 11] := (by decide +kernel : ∀ t : Fin grid0.N, _)
theorem idx1 : ∀ t : Fin cfg0.N, win0_1.index t = ![t.val / 11, t.val % 11] := (by decide +kernel : ∀ t : Fin grid0.N, _)
theorem idx2 : ∀ t : Fin cfg0.N, win0_2.index t = ![min (t.val / 11 * 16 + 16) 575, t.val % 11] := (by decide +kernel : ∀ t : Fin grid0.N, _)
theorem idx3 : ∀ t : Fin cfg0.N, win0_3.index t = ![0, t.val % 11] := (by decide +kernel : ∀ t : Fin grid0.N, _)
theorem idx4 : ∀ t : Fin cfg0.N, win0_4.index t = ![0, t.val % 11] := (by decide +kernel : ∀ t : Fin grid0.N, _)
theorem idx5 : ∀ t : Fin cfg0.N, win0_5.index t = ![t.val / 11, t.val % 11] := (by decide +kernel : ∀ t : Fin grid0.N, _)

theorem lt396 (t : Fin cfg0.N) : t.val < 396 := t.isLt

/-- The column `j` of the point's channels. -/
def ch (t : Fin cfg0.N) (j : Fin 256) : Fin 2816 := ⟨t.val % 11 * 256 + j.val, by omega⟩

theorem top_apply (t : Fin cfg0.N) (r : Fin 16) (j : Fin 256) :
    (iblk m c 0 t : FVec Ideal S16x256 .f32) (ix2 r j) = Ax m c (ix2 ⟨(t.val / 11 * 16 - 1) * 16 + r.val, by have := lt396 t; omega⟩ (ch t j)) := by
  unfold Ax ch
  have e := idx0 t
  blk_point [iblk, V, e]
theorem mid_apply (t : Fin cfg0.N) (r : Fin 256) (j : Fin 256) :
    (iblk m c 1 t : FVec Ideal S256x256 .f32) (ix2 r j) = Ax m c (ix2 ⟨t.val / 11 * 256 + r.val, by have := lt396 t; omega⟩ (ch t j)) := by
  unfold Ax ch
  have e := idx1 t
  blk_point [iblk, V, e]
theorem bot_apply (t : Fin cfg0.N) (r : Fin 16) (j : Fin 256) :
    (iblk m c 2 t : FVec Ideal S16x256 .f32) (ix2 r j) = Ax m c (ix2 ⟨min (t.val / 11 * 16 + 16) 575 * 16 + r.val, by have := lt396 t; omega⟩ (ch t j)) := by
  unfold Ax ch
  have e := idx2 t
  blk_point [iblk, V, e]
theorem w_apply (t : Fin cfg0.N) (k : Fin 3) (j : Fin 256) :
    (iblk m c 3 t : FVec Ideal S3x256 .f32) (ix2 k j) = Aw m c (ix2 k (ch t j)) := by
  unfold Aw ch
  have e := idx3 t
  blk_point [iblk, V, e]
theorem bias_eq (j : Fin 2816) : (V m c main_v0 : FVec Ideal S1x2816 .f32) (ix2 0 j) = Ab m c (ix1 j) := by
  have h : V m c main_v0 = shapeCast S1x2816 (Ab m c) shapeCasts_S2816_S1x2816 := by
    unfold Ab
    unfold_abbrev_sides
    after_results
    rfl
  rw [h]
  pointwise
theorem b_apply (t : Fin cfg0.N) (j : Fin 256) :
    (iblk m c 4 t : FVec Ideal S1x256 .f32) (ix2 0 j) = Ab m c (ix1 (ch t j)) := by
  have e := idx4 t
  rw [← bias_eq]
  unfold ch
  generalize hX : V m c main_v0 = X
  blk_point [iblk, hX, e]

/-- The row of the block at the point `t`. -/
def row (t : Fin cfg0.N) (r : Fin 256) : Fin 9216 := ⟨t.val / 11 * 256 + r.val, by have := lt396 t; omega⟩

theorem out_three : (dats m 0 c).arrAt 5 cfg0.N = threeAll (Ax m c) (Aw m c) (Ab m c) := by
  refine (dats m 0 c).arrAt_eq_of_covers 5 _ (by decide +kernel) fun t hf y => ?_
  blk_simp
  rw [after0_5]
  obtain ⟨r, j, rfl⟩ : ∃ r j, y = ix2 r j := ⟨y 0, y 1, eq_ix2 y⟩
  have hj : j = (⟨(⟨j.val / 128, by omega⟩ : Fin 2).val * 128 + (⟨j.val % 128, by omega⟩ : Fin 128).val, by simp only []; omega⟩ : Fin 256) :=
    Fin.ext (by simp only []; omega)
  rw [out_eq, coord0]
  refine (congrArg (fun j => View.canon (Val := Elt Ideal) (e := .f32) (s := S256x256) _ (ix2 r j)) hj).trans ?_
  refine (tiles (conv (BitVec.ofNat 32 (t.val / 11)) (iblk m c 0 t) (iblk m c 2 t) (iblk m c 1 t) (iblk m c 3 t) (iblk m c 4 t)) r _ _).trans ?_
  refine (conv_apply _ _ _ _ _ _ _ _ _).trans ?_
  rw [b_apply, ← hj]
  have e := idx5 t
  refine Eq.trans (congrArg₂ (· + ·) rfl (Finset.sum_congr rfl fun k _ => ?_)) (threeAll_at (Ax m c) (Aw m c) (Ab m c) _ (row t r) (ch t j) (by unfold row; blk_simp [e]) (by unfold ch; blk_simp [e])).symm
  rw [w_apply, ext_rows _ _ _ (Ax m c) (t.val / 11) (by have := lt396 t; omega) (ch t) (top_apply m c t) (mid_apply m c t) (bot_apply m c t)]
  exact congrArg (fun j' => tapAt (Ax m c) (row t r) (k.val + 14) (ch t j') * Aw m c (ix2 k (ch t j))) hj.symm

end Cert.Three

end
-- ==== Proof.ThreeRef.lean ====
/- What the plain-maths convolution of three taps computes. -/
module

public import proofs.«01_k».proof.Proof.Gen.ReferenceThreeIdeal.Run
public import proofs.«01_k».proof.Proof.Gen.ReferenceThreeIdeal.Read
public import Idealize.ShloMosaic.Lib.Pointwise
public import Idealize.ShloMosaic.Lib.KernelVsHost
public import proofs.«01_k».proof.Proof.Products
public import proofs.«01_k».proof.Proof.ConvSpec
public import proofs.«01_k».proof.Proof.ThreeTaps

@[expose] public section

noncomputable section

namespace Cert.ThreeRef

open Cert.ReferenceThreeIdeal Cert.ReferenceThreeIdeal.Read Idealize.ShloMosaic
open Cert.Products Cert.ConvSpec Cert.ThreeTaps

variable (x : Mat 9216 2816 .f32) (w : Mat 3 2816 .f32) (b : (⟨1, ![2816]⟩ : Shape).Idx → EReal)

theorem mask_latent (k : Fin 3) (t s : Fin 2048) :
    val_main_v9 (F := Ideal) (ix3 k t s) = if s.val + 15 = t.val + (k.val + 14) then 1 else 0 := by
  unfold val_main_v9 val_main_v8 val_main_v7 val_main_v6 val_main_c val_main_v5 val_main_v4 val_main_v3 val_main_v2
  pointwise
  exact ThreeTaps.mask_eq _ _ _ (by omega) (by omega) k.isLt

theorem mask_context (k : Fin 3) (t s : Fin 256) :
    val_main_v29 (F := Ideal) (ix3 k t s) = if s.val + 15 = t.val + (k.val + 14) then 1 else 0 := by
  unfold val_main_v29 val_main_v28 val_main_v27 val_main_v26 val_main_c_0 val_main_v25 val_main_v24 val_main_v23 val_main_v22
  pointwise
  exact ThreeTaps.mask_eq _ _ _ (by omega) (by omega) k.isLt

/-- A row of the first four sequences. -/
theorem latent_apply (r : Fin 8192) (j : Fin 2816) :
    val_main_v19 (F := Ideal) x w b (ix2 r j) = (∑ k : Fin 3, (∑ s : Fin 2048,
      x (ix2 ⟨r.val / 2048 * 2048 + s.val, by omega⟩ j) * val_main_v9 (F := Ideal) (ix3 k ⟨r.val % 2048, by omega⟩ s)) * w (ix2 k j)) + b (ix1 j) := by
  unfold val_main_v19 val_main_v18 val_main_v17 val_main_v16 val_main_v15 val_main_v14 val_main_v13 val_main_v12 val_main_v11 val_main_v10
    val_main_v1 val_main_v0 val_main_cst
  generalize val_main_v9 (F := Ideal) = M
  pointwise

/-- A row of the last four. -/
theorem context_apply (r : Fin 1024) (j : Fin 2816) :
    val_main_v39 (F := Ideal) x w b (ix2 r j) = (∑ k : Fin 3, (∑ s : Fin 256,
      x (ix2 ⟨8192 + r.val / 256 * 256 + s.val, by omega⟩ j) * val_main_v29 (F := Ideal) (ix3 k ⟨r.val % 256, by omega⟩ s)) * w (ix2 k j)) + b (ix1 j) := by
  unfold val_main_v39 val_main_v38 val_main_v37 val_main_v36 val_main_v35 val_main_v34 val_main_v33 val_main_v32 val_main_v31 val_main_v30
    val_main_v21 val_main_v20 val_main_cst_1
  generalize val_main_v29 (F := Ideal) = M
  pointwise
  simp only [Nat.add_assoc]

theorem all_apply (R : Fin 9216) (j : Fin 2816) :
    val_main_v40 (F := Ideal) x w b (ix2 R j) = if h : R.val < 8192 then val_main_v19 (F := Ideal) x w b (ix2 ⟨R.val, h⟩ j)
      else val_main_v39 (F := Ideal) x w b (ix2 ⟨R.val - 8192, by omega⟩ j) := by
  unfold val_main_v40
  generalize val_main_v19 (F := Ideal) x w b = L
  generalize val_main_v39 (F := Ideal) x w b = M
  pointwise

theorem ref_eq : val_main_v40 (F := Ideal) x w b = threeAll x w b := by
  funext i
  obtain ⟨R, j, rfl⟩ : ∃ R j, i = ix2 R j := ⟨i 0, i 1, eq_ix2 i⟩
  rw [all_apply]
  refine Eq.trans ?_ (threeAll_at x w b (ix2 R j) R j rfl rfl).symm
  by_cases h : R.val < 8192
  · rw [dif_pos h, latent_apply, add_comm]
    simp only [mask_latent]
    refine congrArg₂ (· + ·) rfl (Finset.sum_congr rfl fun k _ => congrArg (· * w (ix2 k j)) ?_)
    have hp := pick_eq x (R.val / 2048 * 2048) 2048 (by omega) (lo_latent _ (by omega)) ⟨R.val % 2048, by omega⟩ (k.val + 14) (by omega) j (fun a => a) rfl
    refine hp.trans (congrArg (fun r => tapAt x r (k.val + 14) j) (Fin.ext ?_))
    show R.val / 2048 * 2048 + R.val % 2048 = R.val
    omega
  · rw [dif_neg h, context_apply, add_comm]
    simp only [mask_context]
    refine congrArg₂ (· + ·) rfl (Finset.sum_congr rfl fun k _ => congrArg (· * w (ix2 k j)) ?_)
    have hp := pick_eq x (8192 + (R.val - 8192) / 256 * 256) 256 (by omega) (lo_context _) ⟨(R.val - 8192) % 256, by omega⟩ (k.val + 14) (by omega) j
      (fun a => a) rfl
    refine hp.trans (congrArg (fun r => tapAt x r (k.val + 14) j) (Fin.ext ?_))
    show 8192 + (R.val - 8192) / 256 * 256 + (R.val - 8192) % 256 = R.val
    omega

end Cert.ThreeRef

end
-- ==== Proof.ThreeClaims.lean ====
/- The claims about the convolution of three taps and the gradient of its input: the references' frames, and the equations. -/
module

public import proofs.«01_k».proof.Defs
public import proofs.«01_k».proof.Proof.ThreeDx
public import proofs.«01_k».proof.Proof.ThreeDxRef
public import proofs.«01_k».proof.Proof.Three
public import proofs.«01_k».proof.Proof.ThreeRef
public import Idealize.ShloMosaic.Adequacy
public import Idealize.ShloMosaic.Init

@[expose] public section

noncomputable section

namespace Cert.Proof

open Idealize.ShloMosaic Idealize.SL.Sem

theorem frame_referenceThreeDxIdeal : Cert.quiescent_ReferenceThreeDxIdeal := fun m ρ _ =>
  (θ_run Cert.ReferenceThreeDxIdeal.defs _ _).mono
    (fun r h => ⟨fun c => (h c).2, sem_eq_zero_of_no_sems (by decide) r.2⟩) (Cert.ReferenceThreeDxIdeal.Value.run (F := Ideal) m ρ)
theorem frame_referenceThreeIdeal : Cert.quiescent_ReferenceThreeIdeal := fun m ρ _ =>
  (θ_run Cert.ReferenceThreeIdeal.defs _ _).mono
    (fun r h => ⟨fun c => (h c).2, sem_eq_zero_of_no_sems (by decide) r.2⟩) (Cert.ReferenceThreeIdeal.Value.run (F := Ideal) m ρ)

/-- The gradient of its input. -/
theorem algebraic_threeDx : Cert.algebraic_KernelThreeDxIdeal_ReferenceThreeDxIdeal := by
  intro m g m' g' _ hagree
  refine ⟨fun c => Cert.ThreeTaps.threeDx (Cert.ThreeDx.Aw m c) (Cert.ThreeDx.Ady m c),
    (θ_run Cert.KernelThreeDxIdeal.defs _ _).mono
      (fun _ h c => ⟨(h c).1.trans (Cert.ThreeDx.out_dx m c), (h c).2⟩) (Cert.KernelThreeDxIdeal.Value.run_blocks (F := Ideal) m g),
    (θ_run Cert.ReferenceThreeDxIdeal.defs _ _).mono (fun _ h c => ⟨?_, (h c).2⟩) (Cert.ReferenceThreeDxIdeal.Value.run (F := Ideal) m' g')⟩
  have h0 := (h c).1
  obtain ⟨a0, a1⟩ := hagree c
  rwa [Cert.ReferenceThreeDxIdeal.Read.val_main_v63_eq, Cert.ThreeDxRef.ref_eq, a0, a1] at h0

/-- The convolution itself. -/
theorem algebraic_three : Cert.algebraic_KernelThreeIdeal_ReferenceThreeIdeal := by
  intro m g m' g' _ hagree
  refine ⟨fun c => Cert.ThreeTaps.threeAll (Cert.Three.Ax m c) (Cert.Three.Aw m c) (Cert.Three.Ab m c),
    (θ_run Cert.KernelThreeIdeal.defs _ _).mono
      (fun _ h c => ⟨(h c).1.trans (Cert.Three.out_three m c), (h c).2⟩) (Cert.KernelThreeIdeal.Value.run_blocks (F := Ideal) m g),
    (θ_run Cert.ReferenceThreeIdeal.defs _ _).mono (fun _ h c => ⟨?_, (h c).2⟩) (Cert.ReferenceThreeIdeal.Value.run (F := Ideal) m' g')⟩
  have h0 := (h c).1
  obtain ⟨a0, a1, a2⟩ := hagree c
  rwa [Cert.ReferenceThreeIdeal.Read.val_main_v40_eq, Cert.ThreeRef.ref_eq, a0, a1, a2] at h0

end Cert.Proof

end
-- ==== Proof.Loss.lean ====
/- The loss of a device's rows and its gradient: half the sum over the rows of the mean square of a row's error, which the call
   adds up over sixteen blocks of 512 rows, scaling each block's sum, while the reference takes the mean of each row. -/
module

public import proofs.«01_k».proof.Proof.Gen.KernelLossIdeal.Value
public import proofs.«01_k».proof.Proof.Gen.ReferenceLossIdeal.Run
public import proofs.«01_k».proof.Proof.Gen.ReferenceLossIdeal.Read
public import proofs.«01_k».proof.Proof.Products
public import proofs.«01_k».proof.Proof.Softmax
public import Idealize.ShloMosaic.Lib.Pipeline.ValueKit
public import Idealize.ShloMosaic.Lib.Pipeline.ValueKit.Point
public import Idealize.ShloMosaic.Lib.Pointwise

@[expose] public section

noncomputable section

namespace Cert.Loss

open Cert.KernelLossIdeal Cert.KernelLossIdeal.Gen Idealize.ShloMosaic Idealize.ShloMosaic.TcCoe Idealize.SL.Sem
open Cert.Products

/-- The sum of the squares of a row's errors. -/
def square (y t : Mat 8192 1024 .f32) (r : Fin 8192) : EReal :=
  ∑ k : Fin 1024, (y (ix2 r k) - t (ix2 r k)) * (y (ix2 r k) - t (ix2 r k))
/-- The loss. -/
def total (y t : Mat 8192 1024 .f32) : EReal := ∑ r : Fin 8192, ((1 / 2048 : ℝ) : EReal) * square y t r
/-- The row of copies of the loss. -/
def lossRow (y t : Mat 8192 1024 .f32) : Mat 1 128 .f32 := fun _ => total y t
/-- The gradient of the loss. -/
def grad (y t : Mat 8192 1024 .f32) : Mat 8192 1024 .f32 := fun i => ((1 / 1024 : ℝ) : EReal) * (y i - t i)

theorem grad_at (y t : Mat 8192 1024 .f32) (i : (⟨2, ![8192, 1024]⟩ : Shape).Idx) (r : Fin 8192) (k : Fin 1024)
    (h0 : (i 0).val = r.val) (h1 : (i 1).val = k.val) : grad y t i = ((1 / 1024 : ℝ) : EReal) * (y (ix2 r k) - t (ix2 r k)) := by
  rw [show i = ix2 r k from (eq_ix2 i).trans (by rw [show i 0 = r from Fin.ext h0, show i 1 = k from Fin.ext h1])]; rfl

theorem word_half : Ideal.ofBits .f32 0x3F000000#32 = ((1 / 2 : ℝ) : EReal) := by
  simp [Ideal.ofBits, Ideal.ieee, -EReal.coe_mul]; norm_num
theorem word_two : Ideal.ofBits .f32 0x40000000#32 = ((2 : ℝ) : EReal) := by
  simp [Ideal.ofBits, Ideal.ieee, -EReal.coe_mul]; norm_num
theorem word_1024 : Ideal.ofBits .f32 0x44800000#32 = ((1024 : ℝ) : EReal) := by
  simp [Ideal.ofBits, Ideal.ieee, -EReal.coe_mul]; norm_num
theorem word_mean : Ideal.ofBits .f32 0x3A800000#32 = ((1 / 1024 : ℝ) : EReal) := by
  simp [Ideal.ofBits, Ideal.ieee, -EReal.coe_mul]; norm_num
theorem word_mean_half : Ideal.ofBits .f32 0x3A000000#32 = ((1 / 2048 : ℝ) : EReal) := by
  simp [Ideal.ofBits, Ideal.ieee, -EReal.coe_mul]; norm_num

variable (m : (ℓ : Loc nD τ sig) → Buf (Elt Ideal) ℓ) (c : Dev nD)

abbrev Ay : Mat 8192 1024 .f32 := m (c.tc.loc main_arg0)
abbrev At : Mat 8192 1024 .f32 := m (c.tc.loc main_arg1)

theorem lt16 (t : Fin cfg0.N) : t.val < 16 := t.isLt

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)

theorem y_apply (t : Fin cfg0.N) (r : Fin 512) (k : Fin 1024) :
    (iblk m c 0 t : FVec Ideal S512x1024 .f32) (ix2 r k) = Ay m c (ix2 ⟨t.val % 16 * 512 + r.val, by omega⟩ k) := by
  unfold Ay
  have e := idx0 t
  have h : t.val % 16 = t.val := Nat.mod_eq_of_lt (lt16 t)
  simp only [h]
  blk_point [iblk, V, e]
theorem t_apply (t : Fin cfg0.N) (r : Fin 512) (k : Fin 1024) :
    (iblk m c 1 t : FVec Ideal S512x1024 .f32) (ix2 r k) = At m c (ix2 ⟨t.val % 16 * 512 + r.val, by omega⟩ k) := by
  unfold At
  have e := idx1 t
  have h : t.val % 16 = t.val := Nat.mod_eq_of_lt (lt16 t)
  simp only [h]
  blk_point [iblk, V, e]

theorem zero_apply (i : S1x128.Idx) : k0_pay1 (F := Ideal) i = (0 : EReal) := Ideal.ofBits_zero_f32

theorem grad_apply (y t : FVec Ideal S512x1024 .f32) (r : Fin 512) (k : Fin 1024) :
    k0_pay3 (F := Ideal) y t (ix2 r k) = ((1 / 1024 : ℝ) : EReal) * (y (ix2 r k) - t (ix2 r k)) := by
  unfold k0_pay3 k0_pay2
  pointwise
  rw [word_mean, mul_comm]

/-- A block adds its rows' sums, each scaled. -/
theorem step_apply (y t : FVec Ideal S512x1024 .f32) (a : FVec Ideal S1x128 .f32) (i : Fin 1) (l : Fin 128) :
    k0_pay4 (F := Ideal) y t a (ix2 i l) = a (ix2 i l) + ∑ r : Fin 512, ((1 / 2048 : ℝ) : EReal) *
      ∑ k : Fin 1024, (y (ix2 r k) - t (ix2 r k)) * (y (ix2 r k) - t (ix2 r k)) := by
  rw [← Cert.Softmax.coe_mul_sum _ _ (by norm_num)]
  unfold k0_pay4 k0_pay2
  pointwise
  rw [word_mean_half, mul_comm]

theorem first_grad (t : Fin cfg0.N) (h : t.val % 16 = 0) : (outsAt0 m c t.val t.isLt).1 = k0_pay3 (iblk m c 0 t) (iblk m c 1 t) := by
  rw [outsAt0_A m c t h]; frame_out
theorem next_grad (t : Fin cfg0.N) (h : ¬t.val % 16 = 0) : (outsAt0 m c t.val t.isLt).1 = k0_pay3 (iblk m c 0 t) (iblk m c 1 t) := by
  rw [outsAt0_B m c t h]; frame_out
theorem first (t : Fin cfg0.N) (h : t.val % 16 = 0) :
    (outsAt0 m c t.val t.isLt).2 = k0_pay4 (iblk m c 0 t) (iblk m c 1 t) (k0_pay1 (F := Ideal)) := by
  rw [outsAt0_A m c t h]; frame_out
theorem next (t : Fin cfg0.N) (h : ¬t.val % 16 = 0) :
    (outsAt0 m c t.val t.isLt).2 = k0_pay4 (iblk m c 0 t) (iblk m c 1 t)
      (outsAt0 m c (t.val - 1) (Nat.lt_of_le_of_lt (Nat.sub_le _ _) t.isLt)).2 := by
  rw [outsAt0_B m c t h]; frame_out

theorem out_grad : (dats m 0 c).arrAt 2 cfg0.N = grad (Ay m c) (At m c) := by
  refine (dats m 0 c).arrAt_eq_of_covers 2 _ (by decide +kernel) fun t hf y => ?_
  blk_simp
  rw [after0_2]
  obtain ⟨r, k, rfl⟩ : ∃ r k, y = ix2 r k := ⟨y 0, y 1, eq_ix2 y⟩
  have e := idx2 t
  have h : t.val % 16 = t.val := Nat.mod_eq_of_lt (lt16 t)
  rw [(Classical.em (t.val % 16 = 0)).elim (first_grad m c t) (next_grad m c t), grad_apply, y_apply, t_apply]
  exact (grad_at _ _ _ _ _ (by blk_simp [e, h]) (by blk_simp [e])).symm

theorem out_loss : (dats m 0 c).arrAt 3 cfg0.N = lossRow (Ay m c) (At m c) := by
  refine (dats m 0 c).arrAt_eq_of_covers 3 _ (by decide +kernel) fun t hf y => ?_
  blk_simp
  rw [after0_3]
  obtain ⟨i, l, rfl⟩ : ∃ i l, y = ix2 i l := ⟨y 0, y 1, eq_ix2 y⟩
  exact run_eq_sum (fun n h => (outsAt0 m c n h).2) (K := 8192) (J := 16) (T := 512) rfl (by norm_num)
    (fun _ r _ _ => ((1 / 2048 : ℝ) : EReal) * square (Ay m c) (At m c) r) (fun _ _ _ => rfl)
    (fun t h i l => by
      show (outsAt0 m c t.val t.isLt).2 (ix2 i l) = _
      rw [first m c t h, step_apply, zero_apply, zero_add]
      simp only [y_apply, t_apply]; rfl)
    (fun t h i l => by
      show (outsAt0 m c t.val t.isLt).2 (ix2 i l) = _
      rw [next m c t h, step_apply]
      simp only [y_apply, t_apply]; rfl)
    t ((flush0_3 t).mp hf) i l

section Reference

open Cert.ReferenceLossIdeal.Read

variable (y t : Mat 8192 1024 .f32)

theorem ref_grad : val_main_v14 (F := Ideal) y t = grad y t := by
  funext i
  obtain ⟨r, k, rfl⟩ : ∃ r k, i = ix2 r k := ⟨i 0, i 1, eq_ix2 i⟩
  unfold val_main_v14 val_main_v13 val_main_v12 val_main_v11 val_main_cst_6 val_main_v10 val_main_v9 val_main_cst_5 val_main_cst_4
    val_main_v3 val_main_v2 val_main_cst val_main_v0
  pointwise
  rw [word_half, word_two, word_1024, Ideal.div_coe (by norm_num), ← EReal.coe_mul, ← mul_assoc, ← EReal.coe_mul]
  show _ = ((1 / 1024 : ℝ) : EReal) * (y (ix2 r k) - t (ix2 r k))
  norm_num

theorem ref_loss : val_main_v15 (F := Ideal) y t = lossRow y t := by
  funext i
  unfold val_main_v15 val_main_v8 val_main_cst_3 val_main_v7 val_main_cst_2 val_main_v6 val_main_v5 val_main_cst_1 val_main_v4
    val_main_cst_0 val_main_v1 val_main_v0
  pointwise
  rw [word_half, Cert.Softmax.coe_mul_sum _ _ (by norm_num)]
  unfold lossRow total square
  refine Finset.sum_congr rfl fun r _ => ?_
  rw [word_1024, Ideal.div_coe (by norm_num), mul_comm _ ((1 / 1024 : ℝ) : EReal), ← mul_assoc, ← EReal.coe_mul]
  norm_num

end Reference

end Cert.Loss

end
-- ==== Proof.LossClaims.lean ====
/- The claims about the loss: the reference's frame, and the equations of the gradient and of the loss. -/
module

public import proofs.«01_k».proof.Defs
public import proofs.«01_k».proof.Proof.Loss
public import Idealize.ShloMosaic.Adequacy
public import Idealize.ShloMosaic.Init

@[expose] public section

noncomputable section

namespace Cert.Proof

open Idealize.ShloMosaic Idealize.SL.Sem Cert.Loss

theorem frame_referenceLossIdeal : Cert.quiescent_ReferenceLossIdeal := fun m ρ _ =>
  (θ_run Cert.ReferenceLossIdeal.defs _ _).mono
    (fun r h => ⟨fun c => (h c).2.2, sem_eq_zero_of_no_sems (by decide) r.2⟩) (Cert.ReferenceLossIdeal.Value.run (F := Ideal) m ρ)

/-- The loss: both programs return its gradient, and the row of its copies. -/
theorem algebraic_loss : Cert.algebraic_KernelLossIdeal_ReferenceLossIdeal := by
  intro m g m' g' _ hagree
  refine ⟨fun c => grad (Ay m c) (At m c), fun c => lossRow (Ay m c) (At m c),
    (θ_run Cert.KernelLossIdeal.defs _ _).mono
      (fun _ h c => ⟨(h c).1.trans (out_grad m c), (h c).2.1.trans (out_loss m c), (h c).2.2⟩)
      (Cert.KernelLossIdeal.Value.run_blocks (F := Ideal) m g),
    (θ_run Cert.ReferenceLossIdeal.defs _ _).mono (fun _ h c => ⟨?_, ?_, (h c).2.2⟩) (Cert.ReferenceLossIdeal.Value.run (F := Ideal) m' g')⟩
  · have h0 := (h c).1
    obtain ⟨a0, a1⟩ := hagree c
    rwa [Cert.ReferenceLossIdeal.Read.val_main_v14_eq, ref_grad, a0, a1] at h0
  · have h0 := (h c).2.1
    obtain ⟨a0, a1⟩ := hagree c
    rwa [Cert.ReferenceLossIdeal.Read.val_main_v15_eq, ref_loss, a0, a1] at h0

end Cert.Proof

end
-- ==== Proof.LayerNorm.lean ====
/- The layer norm of a row of 1024 entries, over the extended reals, and the row of five that a row of the activations takes
   its parameters from. -/
module

public import Idealize.ShloMosaic.PureOps.Ideal
public import Idealize.ShloMosaic.PureOps.Ideal.Laws
public import Idealize.ShloMosaic.Lib.ValueIdx

@[expose] public section

noncomputable section

namespace Cert.LayerNorm

open Idealize.ShloMosaic

/-- The mean of a row. -/
def mean (t : Fin 1024 → EReal) : EReal := Ideal.div (∑ k : Fin 1024, t k) (Ideal.ofBits .f32 0x44800000#32)
/-- The mean of the squared distances from the mean. -/
def var (t : Fin 1024 → EReal) : EReal := mean fun k => (t k - mean t) * (t k - mean t)
/-- Entry `j` of the norm of a row, with the gain and the bias of that entry. -/
def ln (t : Fin 1024 → EReal) (j : Fin 1024) (g b : EReal) : EReal :=
  (t j - mean t) * Ideal.rsqrt (var t + Ideal.ofBits .f32 0x3727C5AC#32) * g + b

/-- silu(y). -/
def silu (y : EReal) : EReal := y * Ideal.logistic y

/-- The residual sum α x + gate y, of one entry. -/
def res (x y gate : EReal) : EReal := Ideal.ofBits .f32 0x3FD744FD#32 * x + gate * y

/-- The row of the five that a row of the activations takes. -/
def grp (r : Nat) : Fin 5 := ⟨min (r / 2048) 4, by omega⟩

end Cert.LayerNorm

end
-- ==== Proof.ModFwd.lean ====
/- The adaLN modulation x (1 + scale) + shift, with one shift and one scale for each latent sequence and one for the
   context: what the call returns and what the reference returns, one equation for each entry. -/
module

public import proofs.«01_k».proof.Proof.Gen.KernelModFwdIdeal.Value
public import proofs.«01_k».proof.Proof.Gen.ReferenceModFwdIdeal.Run
public import proofs.«01_k».proof.Proof.Gen.ReferenceModFwdIdeal.Read
public import proofs.«01_k».proof.Proof.Products
public import proofs.«01_k».proof.Proof.LayerNorm
public import Idealize.ShloMosaic.Lib.Pipeline.ValueKit
public import Idealize.ShloMosaic.Lib.Pipeline.ValueKit.Point
public import Idealize.ShloMosaic.Lib.Pointwise

@[expose] public section

noncomputable section

namespace Cert.ModFwd

open Cert.KernelModFwdIdeal Cert.KernelModFwdIdeal.Gen Idealize.ShloMosaic Idealize.ShloMosaic.TcCoe Idealize.SL.Sem
open Cert.Products Cert.LayerNorm

/-- Five rows of 1024 entries: one for each latent sequence, and the context's. -/
abbrev Rows := FVec Ideal S5x1x1024 .f32

variable (m : (ℓ : Loc nD τ sig) → Buf (Elt Ideal) ℓ) (c : Dev nD)

abbrev Ax : Mat 9216 1024 .f32 := m (c.tc.loc main_arg0)
abbrev Ash : Rows := m (c.tc.loc main_arg1)
abbrev Asc : Rows := m (c.tc.loc main_arg2)

/-- x (1 + scale) + shift, entry by entry. -/
def out (x : Mat 9216 1024 .f32) (sh sc : Rows) : Mat 9216 1024 .f32 := fun i =>
  x i * (Ideal.ofBits .f32 0x3F800000#32 + sc (ix3 (grp (i 0).val) 0 (i 1))) + sh (ix3 (grp (i 0).val) 0 (i 1))

theorem out_at (x : Mat 9216 1024 .f32) (sh sc : Rows) (i : (⟨2, ![9216, 1024]⟩ : Shape).Idx) (r : Fin 9216) (j : Fin 1024) (n : Fin 5)
    (h0 : (i 0).val = r.val) (h1 : (i 1).val = j.val) (hn : grp r.val = n) :
    out x sh sc i = x (ix2 r j) * (Ideal.ofBits .f32 0x3F800000#32 + sc (ix3 n 0 j)) + sh (ix3 n 0 j) := by
  rw [show i = ix2 r j from (eq_ix2 i).trans (by rw [show i 0 = r from Fin.ext h0, show i 1 = j from Fin.ext h1]), ← hn]; rfl

theorem lt36 (t : Fin cfg0.N) : t.val < 36 := t.isLt

theorem idx0 : ∀ t : Fin cfg0.N, win0_0.index t = ![t.val, 0] := (by decide +kernel : ∀ t : Fin grid0.N, _)
theorem idx1 : ∀ t : Fin cfg0.N, win0_1.index t = ![min (t.val / 8) 4, 0, 0] := (by decide +kernel : ∀ t : Fin grid0.N, _)
theorem idx2 : ∀ t : Fin cfg0.N, win0_2.index t = ![min (t.val / 8) 4, 0, 0] := (by decide +kernel : ∀ t : Fin grid0.N, _)
theorem idx3 : ∀ t : Fin cfg0.N, win0_3.index t = ![t.val, 0] := (by decide +kernel : ∀ t : Fin grid0.N, _)

theorem x_apply (t : Fin cfg0.N) (r : Fin 256) (k : Fin 1024) :
    (iblk m c 0 t : FVec Ideal S256x1024 .f32) (ix2 r k) = Ax m c (ix2 ⟨t.val * 256 + r.val, by have := lt36 t; omega⟩ k) := by
  unfold Ax
  have e := idx0 t
  blk_point [iblk, V, e]
theorem sh_apply (t : Fin cfg0.N) (k : Fin 1024) :
    (iblk m c 1 t : FVec Ideal S1x1x1024 .f32) (ix3 0 0 k) = Ash m c (ix3 ⟨min (t.val / 8) 4, by omega⟩ 0 k) := by
  unfold Ash
  have e := idx1 t
  blk_point [iblk, V, e]
theorem sc_apply (t : Fin cfg0.N) (k : Fin 1024) :
    (iblk m c 2 t : FVec Ideal S1x1x1024 .f32) (ix3 0 0 k) = Asc m c (ix3 ⟨min (t.val / 8) 4, by omega⟩ 0 k) := by
  unfold Asc
  have e := idx2 t
  blk_point [iblk, V, e]

theorem pay_apply (x : FVec Ideal S256x1024 .f32) (sh sc : FVec Ideal S1x1x1024 .f32) (r : Fin 256) (j : Fin 1024) :
    k0_pay1 (F := Ideal) x sh sc (ix2 r j) = x (ix2 r j) * (Ideal.ofBits .f32 0x3F800000#32 + sc (ix3 0 0 j)) + sh (ix3 0 0 j) := by
  unfold k0_pay1
  pointwise

theorem kernel_out : (dats m 0 c).arrAt 3 cfg0.N = out (Ax m c) (Ash m c) (Asc m c) := by
  refine (dats m 0 c).arrAt_eq_of_covers 3 _ (by decide +kernel) fun t hf y => ?_
  blk_simp
  rw [after0_3]
  obtain ⟨r, j, rfl⟩ : ∃ r j, y = ix2 r j := ⟨y 0, y 1, eq_ix2 y⟩
  unfold out0_3
  frame_out
  rw [pay_apply, x_apply, sh_apply, sc_apply]
  have e := idx3 t
  have hn : grp (t.val * 256 + r.val) = ⟨min (t.val / 8) 4, by omega⟩ :=
    Fin.ext (by have := r.isLt; show min ((t.val * 256 + r.val) / 2048) 4 = min (t.val / 8) 4; omega)
  exact (out_at _ _ _ _ _ _ _ (by blk_simp [e]) (by blk_simp [e]) hn).symm

section Reference

open Cert.ReferenceModFwdIdeal.Read

variable (x : Mat 9216 1024 .f32) (sh sc : Rows)

theorem latent_apply (r : Fin 8192) (j : Fin 1024) : val_main_v10 (F := Ideal) x sh sc (ix2 r j)
    = x (ix2 ⟨r.val, by omega⟩ j) * (Ideal.ofBits .f32 0x3F800000#32 + sc (ix3 ⟨r.val / 2048, by omega⟩ 0 j)) + sh (ix3 ⟨r.val / 2048, by omega⟩ 0 j) := by
  unfold val_main_v10 val_main_v9 val_main_v8 val_main_v7 val_main_v6 val_main_v5 val_main_v4 val_main_v3 val_main_v2 val_main_v1 val_main_v0
    val_main_cst
  pointwise

theorem context_apply (r : Fin 1024) (j : Fin 1024) : val_main_v21 (F := Ideal) x sh sc (ix2 r j)
    = x (ix2 ⟨8192 + r.val, by omega⟩ j) * (Ideal.ofBits .f32 0x3F800000#32 + sc (ix3 4 0 j)) + sh (ix3 4 0 j) := by
  unfold val_main_v21 val_main_v20 val_main_v19 val_main_v18 val_main_v17 val_main_v16 val_main_v15 val_main_v14 val_main_v13 val_main_v12
    val_main_v11 val_main_cst_0
  pointwise

theorem all_apply (R : Fin 9216) (j : Fin 1024) :
    val_main_v22 (F := Ideal) x sh sc (ix2 R j) = if h : R.val < 8192 then val_main_v10 (F := Ideal) x sh sc (ix2 ⟨R.val, h⟩ j)
      else val_main_v21 (F := Ideal) x sh sc (ix2 ⟨R.val - 8192, by omega⟩ j) := by
  unfold val_main_v22
  generalize val_main_v10 (F := Ideal) x sh sc = L
  generalize val_main_v21 (F := Ideal) x sh sc = M
  pointwise

theorem ref_out : val_main_v22 (F := Ideal) x sh sc = out x sh sc := by
  funext i
  obtain ⟨R, j, rfl⟩ : ∃ R j, i = ix2 R j := ⟨i 0, i 1, eq_ix2 i⟩
  rw [all_apply]
  by_cases h : R.val < 8192
  · rw [dif_pos h, latent_apply]
    exact (out_at x sh sc (ix2 R j) ⟨R.val, by omega⟩ j ⟨R.val / 2048, by omega⟩ rfl rfl
      (Fin.ext (by show min (R.val / 2048) 4 = R.val / 2048; omega))).symm
  · rw [dif_neg h, context_apply]
    exact (out_at x sh sc (ix2 R j) ⟨8192 + (R.val - 8192), by omega⟩ j 4 (by show R.val = 8192 + (R.val - 8192); omega) rfl
      (Fin.ext (by show min ((8192 + (R.val - 8192)) / 2048) 4 = 4; omega))).symm

end Reference

end Cert.ModFwd

end
-- ==== Proof.MergeFwd.lean ====
/- The merge of the three branches, σ(g₀) a + σ(g₁) c + σ(g₂) (p s): what the call returns and what the reference returns,
   one equation for each entry. -/
module

public import proofs.«01_k».proof.Proof.Gen.KernelMergeFwdIdeal.Value
public import proofs.«01_k».proof.Proof.Gen.ReferenceMergeFwdIdeal.Run
public import proofs.«01_k».proof.Proof.Gen.ReferenceMergeFwdIdeal.Read
public import proofs.«01_k».proof.Proof.Products
public import Idealize.ShloMosaic.Lib.Pipeline.ValueKit
public import Idealize.ShloMosaic.Lib.Pipeline.ValueKit.Point
public import Idealize.ShloMosaic.Lib.Pointwise

@[expose] public section

noncomputable section

namespace Cert.MergeFwd

open Cert.KernelMergeFwdIdeal Cert.KernelMergeFwdIdeal.Gen Idealize.ShloMosaic Idealize.ShloMosaic.TcCoe Idealize.SL.Sem
open Cert.Products

variable (m : (ℓ : Loc nD τ sig) → Buf (Elt Ideal) ℓ) (c : Dev nD)

/-- The three gates, the three branches and the pooling's scale. -/
abbrev G0 : Mat 9216 1024 .f32 := m (c.tc.loc main_arg0)
abbrev G1 : Mat 9216 1024 .f32 := m (c.tc.loc main_arg1)
abbrev G2 : Mat 9216 1024 .f32 := m (c.tc.loc main_arg2)
abbrev Aa : Mat 9216 1024 .f32 := m (c.tc.loc main_arg3)
abbrev Ac : Mat 9216 1024 .f32 := m (c.tc.loc main_arg4)
abbrev Ap : Mat 9216 1024 .f32 := m (c.tc.loc main_arg5)
abbrev As : FVec Ideal S1024 .f32 := m (c.tc.loc main_arg6)

/-- The merge for one entry. -/
def mix (g0 g1 g2 a b p s : EReal) : EReal := Ideal.logistic g0 * a + Ideal.logistic g1 * b + Ideal.logistic g2 * (p * s)

theorem mix_congr {g0 g1 g2 a b p s g0' g1' g2' a' b' p' s' : EReal} (h0 : g0 = g0') (h1 : g1 = g1') (h2 : g2 = g2') (h3 : a = a')
    (h4 : b = b') (h5 : p = p') (h6 : s = s') : mix g0 g1 g2 a b p s = mix g0' g1' g2' a' b' p' s' := by
  rw [h0, h1, h2, h3, h4, h5, h6]

/-- The merge, entry by entry. -/
def out (g0 g1 g2 a b p : Mat 9216 1024 .f32) (s : FVec Ideal S1024 .f32) : Mat 9216 1024 .f32 := fun i =>
  mix (g0 i) (g1 i) (g2 i) (a i) (b i) (p i) (s (ix1 (i 1)))

theorem lt36 (t : Fin cfg0.N) : t.val < 36 := t.isLt

/-- The scale's five rows are the scale. -/
theorem row_apply (n : Fin 5) (j : Fin 1024) : (V m c main_v1 : FVec Ideal S5x1x1024 .f32) (ix3 n 0 j) = As m c (ix1 j) := by
  dsimp only [V]; after_results; pointwise

theorem idx6 : ∀ t : Fin cfg0.N, win0_6.index t = ![min (t.val / 8) 4, 0, 0] := (by decide +kernel : ∀ t : Fin grid0.N, _)
theorem idx7 : ∀ t : Fin cfg0.N, win0_7.index t = ![t.val, 0] := (by decide +kernel : ∀ t : Fin grid0.N, _)

theorem s_apply (t : Fin cfg0.N) (j : Fin 1024) :
    (iblk m c 6 t : FVec Ideal S1x1x1024 .f32) (ix3 0 0 j) = As m c (ix1 j) := by
  refine Eq.trans ?_ (row_apply m c ⟨min (t.val / 8) 4, by omega⟩ j)
  have e := idx6 t
  blk_point [iblk, e]

theorem pay_apply (g0 g1 g2 a b p : FVec Ideal S256x1024 .f32) (s : FVec Ideal S1x1x1024 .f32) (r : Fin 256) (j : Fin 1024) :
    k0_pay1 (F := Ideal) g0 g1 g2 a b p s (ix2 r j)
      = mix (g0 (ix2 r j)) (g1 (ix2 r j)) (g2 (ix2 r j)) (a (ix2 r j)) (b (ix2 r j)) (p (ix2 r j)) (s (ix3 0 0 j)) := by
  unfold k0_pay1
  pointwise
  rfl

theorem kernel_out : (dats m 0 c).arrAt 7 cfg0.N = out (G0 m c) (G1 m c) (G2 m c) (Aa m c) (Ac m c) (Ap m c) (As m c) := by
  refine (dats m 0 c).arrAt_eq_of_covers 7 _ (by decide +kernel) fun t hf y => ?_
  blk_simp
  rw [after0_7]
  obtain ⟨r, j, rfl⟩ : ∃ r j, y = ix2 r j := ⟨y 0, y 1, eq_ix2 y⟩
  unfold out0_7
  frame_out
  rw [pay_apply, s_apply]
  have e := idx7 t
  exact mix_congr rfl rfl rfl rfl rfl rfl (congrArg (As m c) (congrArg ix1 (Fin.ext (by blk_simp [e]))))

/-- A gate as the reference spells it. -/
theorem sigma (g : EReal) : Ideal.div (Ideal.ofBits .f32 0x3F800000#32) (Ideal.ofBits .f32 0x3F800000#32 + Ideal.exp (-g)) = Ideal.logistic g := by
  rw [Ideal.ofBits_one_f32]; rfl

open Cert.ReferenceMergeFwdIdeal.Read in
theorem ref_out (g0 g1 g2 a b p : Mat 9216 1024 .f32) (s : FVec Ideal S1024 .f32) :
    val_main_v25 (F := Ideal) g0 g1 g2 a b p s = out g0 g1 g2 a b p s := by
  funext i
  obtain ⟨r, j, rfl⟩ : ∃ r j, i = ix2 r j := ⟨i 0, i 1, eq_ix2 i⟩
  have hs : val_main_v22 (F := Ideal) s (ix2 r j) = s (ix1 j) := by
    unfold val_main_v22 val_main_v21; pointwise
  have h0 : val_main_v5 (F := Ideal) g0 (ix2 r j) = Ideal.logistic (g0 (ix2 r j)) := sigma _
  have h1 : val_main_v12 (F := Ideal) g1 (ix2 r j) = Ideal.logistic (g1 (ix2 r j)) := sigma _
  have h2 : val_main_v20 (F := Ideal) g2 (ix2 r j) = Ideal.logistic (g2 (ix2 r j)) := sigma _
  have h : val_main_v25 (F := Ideal) g0 g1 g2 a b p s (ix2 r j)
      = val_main_v5 (F := Ideal) g0 (ix2 r j) * a (ix2 r j) + val_main_v12 (F := Ideal) g1 (ix2 r j) * b (ix2 r j)
        + val_main_v20 (F := Ideal) g2 (ix2 r j) * (p (ix2 r j) * val_main_v22 (F := Ideal) s (ix2 r j)) := rfl
  rw [h, h0, h1, h2, hs]; rfl

end Cert.MergeFwd

end
-- ==== Proof.LnSiluFwd.lean ====
/- The layer norm of the convolution's branch with its silu: what the call returns and what the reference returns, one
   equation for each entry. -/
module

public import proofs.«01_k».proof.Proof.Gen.KernelLnSiluFwdIdeal.Value
public import proofs.«01_k».proof.Proof.Gen.ReferenceLnSiluFwdIdeal.Run
public import proofs.«01_k».proof.Proof.Gen.ReferenceLnSiluFwdIdeal.Read
public import proofs.«01_k».proof.Proof.Products
public import proofs.«01_k».proof.Proof.LayerNorm
public import Idealize.ShloMosaic.Lib.Pipeline.ValueKit
public import Idealize.ShloMosaic.Lib.Pipeline.ValueKit.Point
public import Idealize.ShloMosaic.Lib.Pointwise

@[expose] public section

noncomputable section

namespace Cert.LnSiluFwd

open Cert.KernelLnSiluFwdIdeal Cert.KernelLnSiluFwdIdeal.Gen Idealize.ShloMosaic Idealize.ShloMosaic.TcCoe Idealize.SL.Sem
open Cert.Products Cert.LayerNorm

variable (m : (ℓ : Loc nD τ sig) → Buf (Elt Ideal) ℓ) (c : Dev nD)

abbrev Ax : Mat 9216 1024 .f32 := m (c.tc.loc main_arg0)
abbrev Ag : FVec Ideal S1024 .f32 := m (c.tc.loc main_arg1)
abbrev Ab : FVec Ideal S1024 .f32 := m (c.tc.loc main_arg2)

/-- silu of the layer norm, entry by entry. -/
def out (x : Mat 9216 1024 .f32) (g b : FVec Ideal S1024 .f32) : Mat 9216 1024 .f32 := fun i =>
  silu (ln (fun k => x (ix2 (i 0) k)) (i 1) (g (ix1 (i 1))) (b (ix1 (i 1))))

theorem out_at (x : Mat 9216 1024 .f32) (g b : FVec Ideal S1024 .f32) (i : (⟨2, ![9216, 1024]⟩ : Shape).Idx) (r : Fin 9216) (j : Fin 1024)
    (h0 : (i 0).val = r.val) (h1 : (i 1).val = j.val) :
    out x g b i = silu (ln (fun k => x (ix2 r k)) j (g (ix1 j)) (b (ix1 j))) := by
  rw [show i = ix2 r j from (eq_ix2 i).trans (by rw [show i 0 = r from Fin.ext h0, show i 1 = j from Fin.ext h1])]; rfl

theorem lt36 (t : Fin cfg0.N) : t.val < 36 := t.isLt

/-- The five rows of the gain and of the bias are the gain and the bias. -/
theorem gain_apply (n : Fin 5) (j : Fin 1024) : (V m c main_v1 : FVec Ideal S5x1x1024 .f32) (ix3 n 0 j) = Ag m c (ix1 j) := by
  dsimp only [V]; after_results; pointwise
theorem bias_apply (n : Fin 5) (j : Fin 1024) : (V m c main_v3 : FVec Ideal S5x1x1024 .f32) (ix3 n 0 j) = Ab m c (ix1 j) := by
  dsimp only [V]; after_results; pointwise

theorem idx0 : ∀ t : Fin cfg0.N, win0_0.index t = ![t.val, 0] := (by decide +kernel : ∀ t : Fin grid0.N, _)
theorem idx1 : ∀ t : Fin cfg0.N, win0_1.index t = ![min (t.val / 8) 4, 0, 0] := (by decide +kernel : ∀ t : Fin grid0.N, _)
theorem idx2 : ∀ t : Fin cfg0.N, win0_2.index t = ![min (t.val / 8) 4, 0, 0] := (by decide +kernel : ∀ t : Fin grid0.N, _)
theorem idx3 : ∀ t : Fin cfg0.N, win0_3.index t = ![t.val, 0] := (by decide +kernel : ∀ t : Fin grid0.N, _)

theorem x_apply (t : Fin cfg0.N) (r : Fin 256) (k : Fin 1024) :
    (iblk m c 0 t : FVec Ideal S256x1024 .f32) (ix2 r k) = Ax m c (ix2 ⟨t.val * 256 + r.val, by have := lt36 t; omega⟩ k) := by
  unfold Ax
  have e := idx0 t
  blk_point [iblk, V, e]
theorem g_apply (t : Fin cfg0.N) (j : Fin 1024) : (iblk m c 1 t : FVec Ideal S1x1x1024 .f32) (ix3 0 0 j) = Ag m c (ix1 j) := by
  refine Eq.trans ?_ (gain_apply m c ⟨min (t.val / 8) 4, by omega⟩ j)
  have e := idx1 t
  blk_point [iblk, e]
theorem b_apply (t : Fin cfg0.N) (j : Fin 1024) : (iblk m c 2 t : FVec Ideal S1x1x1024 .f32) (ix3 0 0 j) = Ab m c (ix1 j) := by
  refine Eq.trans ?_ (bias_apply m c ⟨min (t.val / 8) 4, by omega⟩ j)
  have e := idx2 t
  blk_point [iblk, e]

theorem pay_apply (x : FVec Ideal S256x1024 .f32) (g b : FVec Ideal S1x1x1024 .f32) (r : Fin 256) (j : Fin 1024) :
    k0_pay1 (F := Ideal) x g b (ix2 r j) = silu (ln (fun k => x (ix2 r k)) j (g (ix3 0 0 j)) (b (ix3 0 0 j))) := by
  unfold k0_pay1
  pointwise
  rfl

theorem kernel_out : (dats m 0 c).arrAt 3 cfg0.N = out (Ax m c) (Ag m c) (Ab m c) := by
  refine (dats m 0 c).arrAt_eq_of_covers 3 _ (by decide +kernel) fun t hf y => ?_
  blk_simp
  rw [after0_3]
  obtain ⟨r, j, rfl⟩ : ∃ r j, y = ix2 r j := ⟨y 0, y 1, eq_ix2 y⟩
  unfold out0_3
  frame_out
  rw [pay_apply, g_apply, b_apply]
  simp only [x_apply]
  have e := idx3 t
  exact (out_at _ _ _ _ _ _ (by blk_simp [e]) (by blk_simp [e])).symm

section Reference

open Cert.ReferenceLnSiluFwdIdeal.Read

variable (x : Mat 9216 1024 .f32) (g b : FVec Ideal S1024 .f32)

theorem norm_apply (r : Fin 9216) (j : Fin 1024) :
    val_main_v23 (F := Ideal) x g b (ix2 r j) = ln (fun k => x (ix2 r k)) j (g (ix1 j)) (b (ix1 j)) := by
  unfold val_main_v23 val_main_v22 val_main_v21 val_main_v20 val_main_v19 val_main_v18 val_main_v17 val_main_v16 val_main_v15 val_main_v14
    val_main_v13 val_main_v12 val_main_v11 val_main_v10 val_main_v9 val_main_v8 val_main_v7 val_main_v6 val_main_v5 val_main_v4 val_main_v3
    val_main_v2 val_main_v1 val_main_v0 val_main_cst val_main_cst_0 val_main_cst_1 val_main_cst_2 val_main_cst_3
  pointwise
  rfl

theorem ref_out : val_main_v24 (F := Ideal) x g b = out x g b := by
  funext i
  obtain ⟨r, j, rfl⟩ : ∃ r j, i = ix2 r j := ⟨i 0, i 1, eq_ix2 i⟩
  have h : val_main_v24 (F := Ideal) x g b (ix2 r j) = val_main_v23 (F := Ideal) x g b (ix2 r j)
      * Ideal.div (Ideal.ofBits .f32 0x3F800000#32) (Ideal.ofBits .f32 0x3F800000#32 + Ideal.exp (-(val_main_v23 (F := Ideal) x g b (ix2 r j)))) := rfl
  rw [h, norm_apply, Ideal.ofBits_one_f32]; rfl

end Reference

end Cert.LnSiluFwd

end
-- ==== Proof.ResLnFwd.lean ====
/- The layer norm of a residual sum α x + gate y, with one gate for each latent sequence and one for the context: what the
   call returns and what the reference returns, one equation for each entry. -/
module

public import proofs.«01_k».proof.Proof.Gen.KernelResLnFwdIdeal.Value
public import proofs.«01_k».proof.Proof.Gen.ReferenceResLnFwdIdeal.Run
public import proofs.«01_k».proof.Proof.Gen.ReferenceResLnFwdIdeal.Read
public import proofs.«01_k».proof.Proof.Products
public import proofs.«01_k».proof.Proof.LayerNorm
public import Idealize.ShloMosaic.Lib.Pipeline.ValueKit
public import Idealize.ShloMosaic.Lib.Pipeline.ValueKit.Point
public import Idealize.ShloMosaic.Lib.Pointwise

@[expose] public section

noncomputable section

namespace Cert.ResLnFwd

open Cert.KernelResLnFwdIdeal Cert.KernelResLnFwdIdeal.Gen Idealize.ShloMosaic Idealize.ShloMosaic.TcCoe Idealize.SL.Sem
open Cert.Products Cert.LayerNorm

variable (m : (ℓ : Loc nD τ sig) → Buf (Elt Ideal) ℓ) (c : Dev nD)

abbrev Ax : Mat 9216 1024 .f32 := m (c.tc.loc main_arg0)
abbrev Ay : Mat 9216 1024 .f32 := m (c.tc.loc main_arg1)
abbrev Agate : FVec Ideal S5x1x1024 .f32 := m (c.tc.loc main_arg2)
abbrev Ag : FVec Ideal S1024 .f32 := m (c.tc.loc main_arg3)
abbrev Ab : FVec Ideal S1024 .f32 := m (c.tc.loc main_arg4)

/-- The layer norm of the residual sum, entry by entry. -/
def out (x y : Mat 9216 1024 .f32) (h : FVec Ideal S5x1x1024 .f32) (g b : FVec Ideal S1024 .f32) : Mat 9216 1024 .f32 := fun i =>
  ln (fun k => res (x (ix2 (i 0) k)) (y (ix2 (i 0) k)) (h (ix3 (grp (i 0).val) 0 k))) (i 1) (g (ix1 (i 1))) (b (ix1 (i 1)))

theorem out_at (x y : Mat 9216 1024 .f32) (h : FVec Ideal S5x1x1024 .f32) (g b : FVec Ideal S1024 .f32)
    (i : (⟨2, ![9216, 1024]⟩ : Shape).Idx) (r : Fin 9216) (j : Fin 1024) (n : Fin 5)
    (h0 : (i 0).val = r.val) (h1 : (i 1).val = j.val) (hn : grp r.val = n) :
    out x y h g b i = ln (fun k => res (x (ix2 r k)) (y (ix2 r k)) (h (ix3 n 0 k))) j (g (ix1 j)) (b (ix1 j)) := by
  rw [show i = ix2 r j from (eq_ix2 i).trans (by rw [show i 0 = r from Fin.ext h0, show i 1 = j from Fin.ext h1]), ← hn]; rfl

theorem lt36 (t : Fin cfg0.N) : t.val < 36 := t.isLt

/-- The five rows of the gain and of the bias are the gain and the bias. -/
theorem gain_apply (n : Fin 5) (j : Fin 1024) : (V m c main_v1 : FVec Ideal S5x1x1024 .f32) (ix3 n 0 j) = Ag m c (ix1 j) := by
  dsimp only [V]; after_results; pointwise
theorem bias_apply (n : Fin 5) (j : Fin 1024) : (V m c main_v3 : FVec Ideal S5x1x1024 .f32) (ix3 n 0 j) = Ab m c (ix1 j) := by
  dsimp only [V]; after_results; pointwise

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![min (t.val / 8) 4, 0, 0] := (by decide +kernel : ∀ t : Fin grid0.N, _)
theorem idx3 : ∀ t : Fin cfg0.N, win0_3.index t = ![min (t.val / 8) 4, 0, 0] := (by decide +kernel : ∀ t : Fin grid0.N, _)
theorem idx4 : ∀ t : Fin cfg0.N, win0_4.index t = ![min (t.val / 8) 4, 0, 0] := (by decide +kernel : ∀ t : Fin grid0.N, _)
theorem idx5 : ∀ t : Fin cfg0.N, win0_5.index t = ![t.val, 0] := (by decide +kernel : ∀ t : Fin grid0.N, _)

theorem x_apply (t : Fin cfg0.N) (r : Fin 256) (k : Fin 1024) :
    (iblk m c 0 t : FVec Ideal S256x1024 .f32) (ix2 r k) = Ax m c (ix2 ⟨t.val * 256 + r.val, by have := lt36 t; omega⟩ k) := by
  unfold Ax
  have e := idx0 t
  blk_point [iblk, V, e]
theorem y_apply (t : Fin cfg0.N) (r : Fin 256) (k : Fin 1024) :
    (iblk m c 1 t : FVec Ideal S256x1024 .f32) (ix2 r k) = Ay m c (ix2 ⟨t.val * 256 + r.val, by have := lt36 t; omega⟩ k) := by
  unfold Ay
  have e := idx1 t
  blk_point [iblk, V, e]
theorem gate_apply (t : Fin cfg0.N) (k : Fin 1024) :
    (iblk m c 2 t : FVec Ideal S1x1x1024 .f32) (ix3 0 0 k) = Agate m c (ix3 ⟨min (t.val / 8) 4, by omega⟩ 0 k) := by
  unfold Agate
  have e := idx2 t
  blk_point [iblk, V, e]
theorem g_apply (t : Fin cfg0.N) (j : Fin 1024) : (iblk m c 3 t : FVec Ideal S1x1x1024 .f32) (ix3 0 0 j) = Ag m c (ix1 j) := by
  refine Eq.trans ?_ (gain_apply m c ⟨min (t.val / 8) 4, by omega⟩ j)
  have e := idx3 t
  blk_point [iblk, e]
theorem b_apply (t : Fin cfg0.N) (j : Fin 1024) : (iblk m c 4 t : FVec Ideal S1x1x1024 .f32) (ix3 0 0 j) = Ab m c (ix1 j) := by
  refine Eq.trans ?_ (bias_apply m c ⟨min (t.val / 8) 4, by omega⟩ j)
  have e := idx4 t
  blk_point [iblk, e]

theorem pay_apply (x y : FVec Ideal S256x1024 .f32) (h g b : FVec Ideal S1x1x1024 .f32) (r : Fin 256) (j : Fin 1024) :
    k0_pay1 (F := Ideal) x y h g b (ix2 r j)
      = ln (fun k => res (x (ix2 r k)) (y (ix2 r k)) (h (ix3 0 0 k))) j (g (ix3 0 0 j)) (b (ix3 0 0 j)) := by
  unfold k0_pay1
  pointwise
  rfl

theorem kernel_out : (dats m 0 c).arrAt 5 cfg0.N = out (Ax m c) (Ay m c) (Agate m c) (Ag m c) (Ab m c) := by
  refine (dats m 0 c).arrAt_eq_of_covers 5 _ (by decide +kernel) fun t hf y => ?_
  blk_simp
  rw [after0_5]
  obtain ⟨r, j, rfl⟩ : ∃ r j, y = ix2 r j := ⟨y 0, y 1, eq_ix2 y⟩
  unfold out0_5
  frame_out
  rw [pay_apply, g_apply, b_apply]
  simp only [x_apply, y_apply, gate_apply]
  have e := idx5 t
  have hn : grp (t.val * 256 + r.val) = ⟨min (t.val / 8) 4, by omega⟩ :=
    Fin.ext (by have := r.isLt; show min ((t.val * 256 + r.val) / 2048) 4 = min (t.val / 8) 4; omega)
  exact (out_at _ _ _ _ _ _ _ _ _ (by blk_simp [e]) (by blk_simp [e]) hn).symm

section Reference

open Cert.ReferenceResLnFwdIdeal.Read

variable (x y : Mat 9216 1024 .f32) (h : FVec Ideal S5x1x1024 .f32) (g b : FVec Ideal S1024 .f32)

/-- The residual sum of the latent rows. -/
theorem latent_res (n : Fin 4) (s : Fin 2048) (k : Fin 1024) : val_main_v9 (F := Ideal) x y h (ix3 n s k)
    = res (x (ix2 ⟨n.val * 2048 + s.val, by omega⟩ k)) (y (ix2 ⟨n.val * 2048 + s.val, by omega⟩ k)) (h (ix3 ⟨n.val, by omega⟩ 0 k)) := by
  unfold val_main_v9 val_main_v8 val_main_v7 val_main_v6 val_main_v5 val_main_v4 val_main_v3 val_main_v2 val_main_v1 val_main_v0 val_main_cst
  pointwise
  rfl

theorem latent_norm (n : Fin 4) (s : Fin 2048) (j : Fin 1024) : val_main_v33 (F := Ideal) x y h g b (ix3 n s j)
    = ln (fun k => val_main_v9 (F := Ideal) x y h (ix3 n s k)) j (g (ix1 j)) (b (ix1 j)) := by
  unfold val_main_v33 val_main_v32 val_main_v31 val_main_v30 val_main_v29 val_main_v28 val_main_v27 val_main_v26 val_main_v25 val_main_v24
    val_main_v23 val_main_v22 val_main_v21 val_main_v20 val_main_v19 val_main_v18 val_main_v17 val_main_v16 val_main_v15 val_main_v14
    val_main_v13 val_main_v12 val_main_v11 val_main_v10 val_main_cst_0 val_main_cst_1 val_main_cst_2 val_main_cst_3 val_main_cst_4
  generalize val_main_v9 (F := Ideal) x y h = t
  pointwise
  rfl

theorem latent_apply (r : Fin 8192) (j : Fin 1024) : val_main_v34 (F := Ideal) x y h g b (ix2 r j)
    = val_main_v33 (F := Ideal) x y h g b (ix3 ⟨r.val / 2048, by omega⟩ ⟨r.val % 2048, by omega⟩ j) := by
  unfold val_main_v34
  generalize val_main_v33 (F := Ideal) x y h g b = t
  pointwise

/-- The residual sum of the context's rows. -/
theorem context_res (s : Fin 1024) (k : Fin 1024) : val_main_v43 (F := Ideal) x y h (ix2 s k)
    = res (x (ix2 ⟨8192 + s.val, by omega⟩ k)) (y (ix2 ⟨8192 + s.val, by omega⟩ k)) (h (ix3 4 0 k)) := by
  unfold val_main_v43 val_main_v42 val_main_v41 val_main_v40 val_main_v39 val_main_v38 val_main_v37 val_main_v36 val_main_v35 val_main_cst_5
  pointwise
  rfl

theorem context_norm (s : Fin 1024) (j : Fin 1024) : val_main_v67 (F := Ideal) x y h g b (ix2 s j)
    = ln (fun k => val_main_v43 (F := Ideal) x y h (ix2 s k)) j (g (ix1 j)) (b (ix1 j)) := by
  unfold val_main_v67 val_main_v66 val_main_v65 val_main_v64 val_main_v63 val_main_v62 val_main_v61 val_main_v60 val_main_v59 val_main_v58
    val_main_v57 val_main_v56 val_main_v55 val_main_v54 val_main_v53 val_main_v52 val_main_v51 val_main_v50 val_main_v49 val_main_v48
    val_main_v47 val_main_v46 val_main_v45 val_main_v44 val_main_cst_6 val_main_cst_7 val_main_cst_8 val_main_cst_9 val_main_cst_10
  generalize val_main_v43 (F := Ideal) x y h = t
  pointwise
  rfl

theorem all_apply (R : Fin 9216) (j : Fin 1024) :
    val_main_v68 (F := Ideal) x y h g b (ix2 R j) = if h' : R.val < 8192 then val_main_v34 (F := Ideal) x y h g b (ix2 ⟨R.val, h'⟩ j)
      else val_main_v67 (F := Ideal) x y h g b (ix2 ⟨R.val - 8192, by omega⟩ j) := by
  unfold val_main_v68
  generalize val_main_v34 (F := Ideal) x y h g b = L
  generalize val_main_v67 (F := Ideal) x y h g b = M
  pointwise

theorem ref_out : val_main_v68 (F := Ideal) x y h g b = out x y h g b := by
  funext i
  obtain ⟨R, j, rfl⟩ : ∃ R j, i = ix2 R j := ⟨i 0, i 1, eq_ix2 i⟩
  rw [all_apply]
  by_cases hR : R.val < 8192
  · rw [dif_pos hR, latent_apply, latent_norm]
    simp only [latent_res]
    exact (out_at x y h g b (ix2 R j) ⟨R.val / 2048 * 2048 + R.val % 2048, by omega⟩ j ⟨R.val / 2048, by omega⟩
      (by show R.val = R.val / 2048 * 2048 + R.val % 2048; omega) rfl
      (Fin.ext (by show min ((R.val / 2048 * 2048 + R.val % 2048) / 2048) 4 = R.val / 2048; omega))).symm
  · rw [dif_neg hR, context_norm]
    simp only [context_res]
    exact (out_at x y h g b (ix2 R j) ⟨8192 + (R.val - 8192), by omega⟩ j 4 (by show R.val = 8192 + (R.val - 8192); omega) rfl
      (Fin.ext (by show min ((8192 + (R.val - 8192)) / 2048) 4 = 4; omega))).symm

end Reference

end Cert.ResLnFwd

end
-- ==== Proof.RowClaims.lean ====
/- The claims about the forward calls of the modulation, the merge and the two layer norms: the references' frames, and the
   equations. -/
module

public import proofs.«01_k».proof.Defs
public import proofs.«01_k».proof.Proof.ModFwd
public import proofs.«01_k».proof.Proof.MergeFwd
public import proofs.«01_k».proof.Proof.LnSiluFwd
public import proofs.«01_k».proof.Proof.ResLnFwd
public import Idealize.ShloMosaic.Adequacy
public import Idealize.ShloMosaic.Init

@[expose] public section

noncomputable section

namespace Cert.Proof

open Idealize.ShloMosaic Idealize.SL.Sem

theorem frame_referenceModFwdIdeal : Cert.quiescent_ReferenceModFwdIdeal := fun m ρ _ =>
  (θ_run Cert.ReferenceModFwdIdeal.defs _ _).mono
    (fun r h => ⟨fun c => (h c).2, sem_eq_zero_of_no_sems (by decide) r.2⟩) (Cert.ReferenceModFwdIdeal.Value.run (F := Ideal) m ρ)
theorem frame_referenceMergeFwdIdeal : Cert.quiescent_ReferenceMergeFwdIdeal := fun m ρ _ =>
  (θ_run Cert.ReferenceMergeFwdIdeal.defs _ _).mono
    (fun r h => ⟨fun c => (h c).2, sem_eq_zero_of_no_sems (by decide) r.2⟩) (Cert.ReferenceMergeFwdIdeal.Value.run (F := Ideal) m ρ)
theorem frame_referenceLnSiluFwdIdeal : Cert.quiescent_ReferenceLnSiluFwdIdeal := fun m ρ _ =>
  (θ_run Cert.ReferenceLnSiluFwdIdeal.defs _ _).mono
    (fun r h => ⟨fun c => (h c).2, sem_eq_zero_of_no_sems (by decide) r.2⟩) (Cert.ReferenceLnSiluFwdIdeal.Value.run (F := Ideal) m ρ)
theorem frame_referenceResLnFwdIdeal : Cert.quiescent_ReferenceResLnFwdIdeal := fun m ρ _ =>
  (θ_run Cert.ReferenceResLnFwdIdeal.defs _ _).mono
    (fun r h => ⟨fun c => (h c).2, sem_eq_zero_of_no_sems (by decide) r.2⟩) (Cert.ReferenceResLnFwdIdeal.Value.run (F := Ideal) m ρ)

section Modulation
open Cert.ModFwd

/-- The modulation: both programs return the modulated rows. -/
theorem algebraic_modFwd : Cert.algebraic_KernelModFwdIdeal_ReferenceModFwdIdeal := by
  intro m g m' g' _ hagree
  refine ⟨fun c => out (Ax m c) (Ash m c) (Asc m c),
    (θ_run Cert.KernelModFwdIdeal.defs _ _).mono (fun _ h c => ⟨(h c).1.trans (kernel_out m c), (h c).2⟩)
      (Cert.KernelModFwdIdeal.Value.run_blocks (F := Ideal) m g),
    (θ_run Cert.ReferenceModFwdIdeal.defs _ _).mono (fun _ h c => ⟨?_, (h c).2⟩) (Cert.ReferenceModFwdIdeal.Value.run (F := Ideal) m' g')⟩
  have h0 := (h c).1
  obtain ⟨a0, a1, a2⟩ := hagree c
  rwa [Cert.ReferenceModFwdIdeal.Read.val_main_v22_eq, ref_out, a0, a1, a2] at h0

end Modulation

section Merge
open Cert.MergeFwd

/-- The merge: both programs return the branches weighted by their gates. -/
theorem algebraic_mergeFwd : Cert.algebraic_KernelMergeFwdIdeal_ReferenceMergeFwdIdeal := by
  intro m g m' g' _ hagree
  refine ⟨fun c => out (G0 m c) (G1 m c) (G2 m c) (Aa m c) (Ac m c) (Ap m c) (As m c),
    (θ_run Cert.KernelMergeFwdIdeal.defs _ _).mono (fun _ h c => ⟨(h c).1.trans (kernel_out m c), (h c).2⟩)
      (Cert.KernelMergeFwdIdeal.Value.run_blocks (F := Ideal) m g),
    (θ_run Cert.ReferenceMergeFwdIdeal.defs _ _).mono (fun _ h c => ⟨?_, (h c).2⟩) (Cert.ReferenceMergeFwdIdeal.Value.run (F := Ideal) m' g')⟩
  have h0 := (h c).1
  obtain ⟨a0, a1, a2, a3, a4, a5, a6⟩ := hagree c
  rwa [Cert.ReferenceMergeFwdIdeal.Read.val_main_v25_eq, ref_out, a0, a1, a2, a3, a4, a5, a6] at h0

end Merge

section NormSilu
open Cert.LnSiluFwd

/-- The layer norm under silu: both programs return silu of the norm. -/
theorem algebraic_lnSiluFwd : Cert.algebraic_KernelLnSiluFwdIdeal_ReferenceLnSiluFwdIdeal := by
  intro m g m' g' _ hagree
  refine ⟨fun c => out (Ax m c) (Ag m c) (Ab m c),
    (θ_run Cert.KernelLnSiluFwdIdeal.defs _ _).mono (fun _ h c => ⟨(h c).1.trans (kernel_out m c), (h c).2⟩)
      (Cert.KernelLnSiluFwdIdeal.Value.run_blocks (F := Ideal) m g),
    (θ_run Cert.ReferenceLnSiluFwdIdeal.defs _ _).mono (fun _ h c => ⟨?_, (h c).2⟩) (Cert.ReferenceLnSiluFwdIdeal.Value.run (F := Ideal) m' g')⟩
  have h0 := (h c).1
  obtain ⟨a0, a1, a2⟩ := hagree c
  rwa [Cert.ReferenceLnSiluFwdIdeal.Read.val_main_v24_eq, ref_out, a0, a1, a2] at h0

end NormSilu

section ResidualNorm
open Cert.ResLnFwd

/-- The layer norm of the residual sum: both programs return it. -/
theorem algebraic_resLnFwd : Cert.algebraic_KernelResLnFwdIdeal_ReferenceResLnFwdIdeal := by
  intro m g m' g' _ hagree
  refine ⟨fun c => out (Ax m c) (Ay m c) (Agate m c) (Ag m c) (Ab m c),
    (θ_run Cert.KernelResLnFwdIdeal.defs _ _).mono (fun _ h c => ⟨(h c).1.trans (kernel_out m c), (h c).2⟩)
      (Cert.KernelResLnFwdIdeal.Value.run_blocks (F := Ideal) m g),
    (θ_run Cert.ReferenceResLnFwdIdeal.defs _ _).mono (fun _ h c => ⟨?_, (h c).2⟩) (Cert.ReferenceResLnFwdIdeal.Value.run (F := Ideal) m' g')⟩
  have h0 := (h c).1
  obtain ⟨a0, a1, a2, a3, a4⟩ := hagree c
  rwa [Cert.ReferenceResLnFwdIdeal.Read.val_main_v68_eq, ref_out, a0, a1, a2, a3, a4] at h0

end ResidualNorm

end Cert.Proof

end
-- ==== Proof.lean ====
/- The claims of the certificate, put together. Those about the projections, the ConvFFN's products and the forward call of
   the latent attention are in LinClaims, FfnClaims and AttnFwdClaims, those about the gates and the convolution in
   GateClaims and ConvClaims and KvClaims, those about the context's attention in CtxClaims, those about the gates' forward calls in GateFwdClaims,
   those about AdamW in AdamClaims,
   those about the modulation, the merge and the layer norms in RowClaims, that about the loss in LossClaims,
   those about the convolution of three taps in ThreeClaims. Those about the gradient of the latent attention are
   here: the kernel terminates without fault (over words and over the extended reals), the ideal program is the kernel,
   the reference terminates, and the two compute the same five gradients whenever the queries and the keys are real
   numbers. The modules that this one imports hold the mathematics; here their facts are put together. -/
module

public import proofs.«01_k».proof.Proof.Gen.KernelIdeal.Value
public import proofs.«01_k».proof.Proof.Gen.ReferenceIdeal.Run
public import proofs.«01_k».proof.Proof.Gen.ReferenceIdeal.Read
public import proofs.«01_k».proof.Defs
public import proofs.«01_k».proof.Proof.Final
public import proofs.«01_k».proof.Proof.Ref
public import proofs.«01_k».proof.Proof.Pre
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_scores
public import proofs.«01_k».proof.Proof.LinClaims
public import proofs.«01_k».proof.Proof.FfnClaims
public import proofs.«01_k».proof.Proof.AttnFwdClaims
public import proofs.«01_k».proof.Proof.GateClaims
public import proofs.«01_k».proof.Proof.ConvClaims
public import proofs.«01_k».proof.Proof.KvClaims
public import proofs.«01_k».proof.Proof.CtxClaims
public import proofs.«01_k».proof.Proof.GateFwdClaims
public import proofs.«01_k».proof.Proof.AdamClaims
public import proofs.«01_k».proof.Proof.ThreeClaims
public import proofs.«01_k».proof.Proof.LossClaims
public import proofs.«01_k».proof.Proof.RowClaims
public import proofs.«01_k».proof.Proof.Gen.KernelLin
public import proofs.«01_k».proof.Proof.Gen.KernelLin.Frame
public import proofs.«01_k».proof.Proof.Gen.KernelLinIdeal
public import proofs.«01_k».proof.Proof.Gen.KernelLinIdeal.Frame
public import proofs.«01_k».proof.Proof.Gen.KernelLinIdeal.Value
public import proofs.«01_k».proof.Proof.Gen.ReferenceLinIdeal
public import proofs.«01_k».proof.Proof.Gen.ReferenceLinIdeal.Run
public import proofs.«01_k».proof.Proof.Gen.ReferenceLinIdeal.Read
public import proofs.«01_k».proof.Proof.Gen.KernelLinDx
public import proofs.«01_k».proof.Proof.Gen.KernelLinDx.Frame
public import proofs.«01_k».proof.Proof.Gen.KernelLinDxIdeal
public import proofs.«01_k».proof.Proof.Gen.KernelLinDxIdeal.Frame
public import proofs.«01_k».proof.Proof.Gen.KernelLinDxIdeal.Value
public import proofs.«01_k».proof.Proof.Gen.ReferenceLinDxIdeal
public import proofs.«01_k».proof.Proof.Gen.ReferenceLinDxIdeal.Run
public import proofs.«01_k».proof.Proof.Gen.ReferenceLinDxIdeal.Read
public import proofs.«01_k».proof.Proof.Gen.KernelLinDw
public import proofs.«01_k».proof.Proof.Gen.KernelLinDw.Frame
public import proofs.«01_k».proof.Proof.Gen.KernelLinDwIdeal
public import proofs.«01_k».proof.Proof.Gen.KernelLinDwIdeal.Frame
public import proofs.«01_k».proof.Proof.Gen.KernelLinDwIdeal.Value
public import proofs.«01_k».proof.Proof.Gen.ReferenceLinDwIdeal
public import proofs.«01_k».proof.Proof.Gen.ReferenceLinDwIdeal.Run
public import proofs.«01_k».proof.Proof.Gen.ReferenceLinDwIdeal.Read
public import proofs.«01_k».proof.Proof.Gen.KernelLinDb
public import proofs.«01_k».proof.Proof.Gen.KernelLinDb.Frame
public import proofs.«01_k».proof.Proof.Gen.KernelLinDbIdeal
public import proofs.«01_k».proof.Proof.Gen.KernelLinDbIdeal.Frame
public import proofs.«01_k».proof.Proof.Gen.KernelLinDbIdeal.Value
public import proofs.«01_k».proof.Proof.Gen.ReferenceLinDbIdeal
public import proofs.«01_k».proof.Proof.Gen.ReferenceLinDbIdeal.Run
public import proofs.«01_k».proof.Proof.Gen.ReferenceLinDbIdeal.Read
public import proofs.«01_k».proof.Proof.Gen.KernelUp
public import proofs.«01_k».proof.Proof.Gen.KernelUp.Frame
public import proofs.«01_k».proof.Proof.Gen.KernelUpIdeal
public import proofs.«01_k».proof.Proof.Gen.KernelUpIdeal.Frame
public import proofs.«01_k».proof.Proof.Gen.KernelUpIdeal.Value
public import proofs.«01_k».proof.Proof.Gen.ReferenceUpIdeal
public import proofs.«01_k».proof.Proof.Gen.ReferenceUpIdeal.Run
public import proofs.«01_k».proof.Proof.Gen.ReferenceUpIdeal.Read
public import proofs.«01_k».proof.Proof.Gen.KernelUpDx
public import proofs.«01_k».proof.Proof.Gen.KernelUpDx.Frame
public import proofs.«01_k».proof.Proof.Gen.KernelUpDxIdeal
public import proofs.«01_k».proof.Proof.Gen.KernelUpDxIdeal.Frame
public import proofs.«01_k».proof.Proof.Gen.KernelUpDxIdeal.Value
public import proofs.«01_k».proof.Proof.Gen.ReferenceUpDxIdeal
public import proofs.«01_k».proof.Proof.Gen.ReferenceUpDxIdeal.Run
public import proofs.«01_k».proof.Proof.Gen.ReferenceUpDxIdeal.Read
public import proofs.«01_k».proof.Proof.Gen.KernelUpDw
public import proofs.«01_k».proof.Proof.Gen.KernelUpDw.Frame
public import proofs.«01_k».proof.Proof.Gen.KernelUpDwIdeal
public import proofs.«01_k».proof.Proof.Gen.KernelUpDwIdeal.Frame
public import proofs.«01_k».proof.Proof.Gen.KernelUpDwIdeal.Value
public import proofs.«01_k».proof.Proof.Gen.ReferenceUpDwIdeal
public import proofs.«01_k».proof.Proof.Gen.ReferenceUpDwIdeal.Run
public import proofs.«01_k».proof.Proof.Gen.ReferenceUpDwIdeal.Read
public import proofs.«01_k».proof.Proof.Gen.KernelDown
public import proofs.«01_k».proof.Proof.Gen.KernelDown.Frame
public import proofs.«01_k».proof.Proof.Gen.KernelDownIdeal
public import proofs.«01_k».proof.Proof.Gen.KernelDownIdeal.Frame
public import proofs.«01_k».proof.Proof.Gen.KernelDownIdeal.Value
public import proofs.«01_k».proof.Proof.Gen.ReferenceDownIdeal
public import proofs.«01_k».proof.Proof.Gen.ReferenceDownIdeal.Run
public import proofs.«01_k».proof.Proof.Gen.ReferenceDownIdeal.Read
public import proofs.«01_k».proof.Proof.Gen.KernelDownDx
public import proofs.«01_k».proof.Proof.Gen.KernelDownDx.Frame
public import proofs.«01_k».proof.Proof.Gen.KernelDownDxIdeal
public import proofs.«01_k».proof.Proof.Gen.KernelDownDxIdeal.Frame
public import proofs.«01_k».proof.Proof.Gen.KernelDownDxIdeal.Value
public import proofs.«01_k».proof.Proof.Gen.ReferenceDownDxIdeal
public import proofs.«01_k».proof.Proof.Gen.ReferenceDownDxIdeal.Run
public import proofs.«01_k».proof.Proof.Gen.ReferenceDownDxIdeal.Read
public import proofs.«01_k».proof.Proof.Gen.KernelDownDw
public import proofs.«01_k».proof.Proof.Gen.KernelDownDw.Frame
public import proofs.«01_k».proof.Proof.Gen.KernelDownDwIdeal
public import proofs.«01_k».proof.Proof.Gen.KernelDownDwIdeal.Frame
public import proofs.«01_k».proof.Proof.Gen.KernelDownDwIdeal.Value
public import proofs.«01_k».proof.Proof.Gen.ReferenceDownDwIdeal
public import proofs.«01_k».proof.Proof.Gen.ReferenceDownDwIdeal.Run
public import proofs.«01_k».proof.Proof.Gen.ReferenceDownDwIdeal.Read
public import proofs.«01_k».proof.Proof.Gen.KernelAttn
public import proofs.«01_k».proof.Proof.Gen.KernelAttn.Frame
public import proofs.«01_k».proof.Proof.Gen.KernelAttnIdeal
public import proofs.«01_k».proof.Proof.Gen.KernelAttnIdeal.Frame
public import proofs.«01_k».proof.Proof.Gen.KernelAttnIdeal.Value
public import proofs.«01_k».proof.Proof.Gen.ReferenceAttnIdeal
public import proofs.«01_k».proof.Proof.Gen.ReferenceAttnIdeal.Run
public import proofs.«01_k».proof.Proof.Gen.ReferenceAttnIdeal.Read
public import proofs.«01_k».proof.Proof.Gen.KernelSiluFwd
public import proofs.«01_k».proof.Proof.Gen.KernelSiluFwd.Frame
public import proofs.«01_k».proof.Proof.Gen.KernelSiluFwdIdeal
public import proofs.«01_k».proof.Proof.Gen.KernelSiluFwdIdeal.Frame
public import proofs.«01_k».proof.Proof.Gen.KernelSiluFwdIdeal.Value
public import proofs.«01_k».proof.Proof.Gen.ReferenceSiluFwdIdeal
public import proofs.«01_k».proof.Proof.Gen.ReferenceSiluFwdIdeal.Run
public import proofs.«01_k».proof.Proof.Gen.ReferenceSiluFwdIdeal.Read
public import proofs.«01_k».proof.Proof.Gen.KernelGluFwd
public import proofs.«01_k».proof.Proof.Gen.KernelGluFwd.Frame
public import proofs.«01_k».proof.Proof.Gen.KernelGluFwdIdeal
public import proofs.«01_k».proof.Proof.Gen.KernelGluFwdIdeal.Frame
public import proofs.«01_k».proof.Proof.Gen.KernelGluFwdIdeal.Value
public import proofs.«01_k».proof.Proof.Gen.ReferenceGluFwdIdeal
public import proofs.«01_k».proof.Proof.Gen.ReferenceGluFwdIdeal.Run
public import proofs.«01_k».proof.Proof.Gen.ReferenceGluFwdIdeal.Read
public import proofs.«01_k».proof.Proof.Gen.KernelAdamSq
public import proofs.«01_k».proof.Proof.Gen.KernelAdamSq.Frame
public import proofs.«01_k».proof.Proof.Gen.KernelAdamSqIdeal
public import proofs.«01_k».proof.Proof.Gen.KernelAdamSqIdeal.Frame
public import proofs.«01_k».proof.Proof.Gen.KernelAdamSqIdeal.Value
public import proofs.«01_k».proof.Proof.Gen.ReferenceAdamSqIdeal
public import proofs.«01_k».proof.Proof.Gen.ReferenceAdamSqIdeal.Run
public import proofs.«01_k».proof.Proof.Gen.KernelAdamVec
public import proofs.«01_k».proof.Proof.Gen.KernelAdamVec.Frame
public import proofs.«01_k».proof.Proof.Gen.KernelAdamVecIdeal
public import proofs.«01_k».proof.Proof.Gen.KernelAdamVecIdeal.Frame
public import proofs.«01_k».proof.Proof.Gen.KernelAdamVecIdeal.Value
public import proofs.«01_k».proof.Proof.Gen.ReferenceAdamVecIdeal
public import proofs.«01_k».proof.Proof.Gen.ReferenceAdamVecIdeal.Run
public import proofs.«01_k».proof.Proof.Gen.KernelModFwd
public import proofs.«01_k».proof.Proof.Gen.KernelModFwd.Frame
public import proofs.«01_k».proof.Proof.Gen.KernelModFwdIdeal
public import proofs.«01_k».proof.Proof.Gen.KernelModFwdIdeal.Frame
public import proofs.«01_k».proof.Proof.Gen.KernelModFwdIdeal.Value
public import proofs.«01_k».proof.Proof.Gen.ReferenceModFwdIdeal
public import proofs.«01_k».proof.Proof.Gen.ReferenceModFwdIdeal.Run
public import proofs.«01_k».proof.Proof.Gen.ReferenceModFwdIdeal.Read
public import proofs.«01_k».proof.Proof.Gen.KernelMergeFwd
public import proofs.«01_k».proof.Proof.Gen.KernelMergeFwd.Frame
public import proofs.«01_k».proof.Proof.Gen.KernelMergeFwdIdeal
public import proofs.«01_k».proof.Proof.Gen.KernelMergeFwdIdeal.Frame
public import proofs.«01_k».proof.Proof.Gen.KernelMergeFwdIdeal.Value
public import proofs.«01_k».proof.Proof.Gen.ReferenceMergeFwdIdeal
public import proofs.«01_k».proof.Proof.Gen.ReferenceMergeFwdIdeal.Run
public import proofs.«01_k».proof.Proof.Gen.ReferenceMergeFwdIdeal.Read
public import proofs.«01_k».proof.Proof.Gen.KernelLnSiluFwd
public import proofs.«01_k».proof.Proof.Gen.KernelLnSiluFwd.Frame
public import proofs.«01_k».proof.Proof.Gen.KernelLnSiluFwdIdeal
public import proofs.«01_k».proof.Proof.Gen.KernelLnSiluFwdIdeal.Frame
public import proofs.«01_k».proof.Proof.Gen.KernelLnSiluFwdIdeal.Value
public import proofs.«01_k».proof.Proof.Gen.ReferenceLnSiluFwdIdeal
public import proofs.«01_k».proof.Proof.Gen.ReferenceLnSiluFwdIdeal.Run
public import proofs.«01_k».proof.Proof.Gen.ReferenceLnSiluFwdIdeal.Read
public import proofs.«01_k».proof.Proof.Gen.KernelResLnFwd
public import proofs.«01_k».proof.Proof.Gen.KernelResLnFwd.Frame
public import proofs.«01_k».proof.Proof.Gen.KernelResLnFwdIdeal
public import proofs.«01_k».proof.Proof.Gen.KernelResLnFwdIdeal.Frame
public import proofs.«01_k».proof.Proof.Gen.KernelResLnFwdIdeal.Value
public import proofs.«01_k».proof.Proof.Gen.ReferenceResLnFwdIdeal
public import proofs.«01_k».proof.Proof.Gen.ReferenceResLnFwdIdeal.Run
public import proofs.«01_k».proof.Proof.Gen.ReferenceResLnFwdIdeal.Read
public import proofs.«01_k».proof.Proof.Gen.KernelLoss
public import proofs.«01_k».proof.Proof.Gen.KernelLoss.Frame
public import proofs.«01_k».proof.Proof.Gen.KernelLossIdeal
public import proofs.«01_k».proof.Proof.Gen.KernelLossIdeal.Frame
public import proofs.«01_k».proof.Proof.Gen.KernelLossIdeal.Value
public import proofs.«01_k».proof.Proof.Gen.ReferenceLossIdeal
public import proofs.«01_k».proof.Proof.Gen.ReferenceLossIdeal.Run
public import proofs.«01_k».proof.Proof.Gen.ReferenceLossIdeal.Read
public import proofs.«01_k».proof.Proof.Gen.KernelAdamIn
public import proofs.«01_k».proof.Proof.Gen.KernelAdamIn.Frame
public import proofs.«01_k».proof.Proof.Gen.KernelAdamInIdeal
public import proofs.«01_k».proof.Proof.Gen.KernelAdamInIdeal.Frame
public import proofs.«01_k».proof.Proof.Gen.KernelAdamInIdeal.Value
public import proofs.«01_k».proof.Proof.Gen.ReferenceAdamInIdeal
public import proofs.«01_k».proof.Proof.Gen.ReferenceAdamInIdeal.Run
public import proofs.«01_k».proof.Proof.Gen.ReferenceAdamInIdeal.Read
public import proofs.«01_k».proof.Proof.Gen.KernelAdamUp
public import proofs.«01_k».proof.Proof.Gen.KernelAdamUp.Frame
public import proofs.«01_k».proof.Proof.Gen.KernelAdamUpIdeal
public import proofs.«01_k».proof.Proof.Gen.KernelAdamUpIdeal.Frame
public import proofs.«01_k».proof.Proof.Gen.KernelAdamUpIdeal.Value
public import proofs.«01_k».proof.Proof.Gen.ReferenceAdamUpIdeal
public import proofs.«01_k».proof.Proof.Gen.ReferenceAdamUpIdeal.Run
public import proofs.«01_k».proof.Proof.Gen.ReferenceAdamUpIdeal.Read
public import proofs.«01_k».proof.Proof.Gen.KernelAdamDown
public import proofs.«01_k».proof.Proof.Gen.KernelAdamDown.Frame
public import proofs.«01_k».proof.Proof.Gen.KernelAdamDownIdeal
public import proofs.«01_k».proof.Proof.Gen.KernelAdamDownIdeal.Frame
public import proofs.«01_k».proof.Proof.Gen.KernelAdamDownIdeal.Value
public import proofs.«01_k».proof.Proof.Gen.ReferenceAdamDownIdeal
public import proofs.«01_k».proof.Proof.Gen.ReferenceAdamDownIdeal.Run
public import proofs.«01_k».proof.Proof.Gen.ReferenceAdamDownIdeal.Read
public import proofs.«01_k».proof.Proof.Gen.KernelThree
public import proofs.«01_k».proof.Proof.Gen.KernelThree.Frame
public import proofs.«01_k».proof.Proof.Gen.KernelThreeIdeal
public import proofs.«01_k».proof.Proof.Gen.KernelThreeIdeal.Frame
public import proofs.«01_k».proof.Proof.Gen.KernelThreeIdeal.Value
public import proofs.«01_k».proof.Proof.Gen.ReferenceThreeIdeal
public import proofs.«01_k».proof.Proof.Gen.ReferenceThreeIdeal.Run
public import proofs.«01_k».proof.Proof.Gen.ReferenceThreeIdeal.Read
public import proofs.«01_k».proof.Proof.Gen.KernelThreeDx
public import proofs.«01_k».proof.Proof.Gen.KernelThreeDx.Frame
public import proofs.«01_k».proof.Proof.Gen.KernelThreeDxIdeal
public import proofs.«01_k».proof.Proof.Gen.KernelThreeDxIdeal.Frame
public import proofs.«01_k».proof.Proof.Gen.KernelThreeDxIdeal.Value
public import proofs.«01_k».proof.Proof.Gen.ReferenceThreeDxIdeal
public import proofs.«01_k».proof.Proof.Gen.ReferenceThreeDxIdeal.Run
public import proofs.«01_k».proof.Proof.Gen.ReferenceThreeDxIdeal.Read
public import proofs.«01_k».proof.Proof.Gen.Pre_finite_scores_fwd
public import proofs.«01_k».proof.Proof.Gen.KernelCtx
public import proofs.«01_k».proof.Proof.Gen.KernelCtx.Frame
public import proofs.«01_k».proof.Proof.Gen.KernelCtxIdeal
public import proofs.«01_k».proof.Proof.Gen.KernelCtxIdeal.Frame
public import proofs.«01_k».proof.Proof.Gen.KernelCtxIdeal.Value
public import proofs.«01_k».proof.Proof.Gen.ReferenceCtxIdeal
public import proofs.«01_k».proof.Proof.Gen.ReferenceCtxIdeal.Run
public import proofs.«01_k».proof.Proof.Gen.ReferenceCtxIdeal.Read
public import proofs.«01_k».proof.Proof.Gen.KernelCtxFwd
public import proofs.«01_k».proof.Proof.Gen.KernelCtxFwd.Frame
public import proofs.«01_k».proof.Proof.Gen.KernelCtxFwdIdeal
public import proofs.«01_k».proof.Proof.Gen.KernelCtxFwdIdeal.Frame
public import proofs.«01_k».proof.Proof.Gen.KernelCtxFwdIdeal.Value
public import proofs.«01_k».proof.Proof.Gen.ReferenceCtxFwdIdeal
public import proofs.«01_k».proof.Proof.Gen.ReferenceCtxFwdIdeal.Run
public import proofs.«01_k».proof.Proof.Gen.ReferenceCtxFwdIdeal.Read
public import proofs.«01_k».proof.Proof.Gen.Pre_finite_scores_ctx
public import proofs.«01_k».proof.Proof.Gen.Pre_finite_scores_ctx_fwd
public import proofs.«01_k».proof.Proof.Gen.KernelSilu
public import proofs.«01_k».proof.Proof.Gen.KernelSilu.Frame
public import proofs.«01_k».proof.Proof.Gen.KernelSiluIdeal
public import proofs.«01_k».proof.Proof.Gen.KernelSiluIdeal.Frame
public import proofs.«01_k».proof.Proof.Gen.KernelSiluIdeal.Value
public import proofs.«01_k».proof.Proof.Gen.ReferenceSiluIdeal
public import proofs.«01_k».proof.Proof.Gen.ReferenceSiluIdeal.Run
public import proofs.«01_k».proof.Proof.Gen.ReferenceSiluIdeal.Read
public import proofs.«01_k».proof.Proof.Gen.KernelGlu
public import proofs.«01_k».proof.Proof.Gen.KernelGlu.Frame
public import proofs.«01_k».proof.Proof.Gen.KernelGluIdeal
public import proofs.«01_k».proof.Proof.Gen.KernelGluIdeal.Frame
public import proofs.«01_k».proof.Proof.Gen.KernelGluIdeal.Value
public import proofs.«01_k».proof.Proof.Gen.ReferenceGluIdeal
public import proofs.«01_k».proof.Proof.Gen.ReferenceGluIdeal.Run
public import proofs.«01_k».proof.Proof.Gen.ReferenceGluIdeal.Read
public import proofs.«01_k».proof.Proof.Gen.KernelConvDx
public import proofs.«01_k».proof.Proof.Gen.KernelConvDx.Frame
public import proofs.«01_k».proof.Proof.Gen.KernelConvDxIdeal
public import proofs.«01_k».proof.Proof.Gen.KernelConvDxIdeal.Frame
public import proofs.«01_k».proof.Proof.Gen.KernelConvDxIdeal.Value
public import proofs.«01_k».proof.Proof.Gen.ReferenceConvDxIdeal
public import proofs.«01_k».proof.Proof.Gen.ReferenceConvDxIdeal.Run
public import proofs.«01_k».proof.Proof.Gen.ReferenceConvDxIdeal.Read
public import proofs.«01_k».proof.Proof.Gen.KernelConv
public import proofs.«01_k».proof.Proof.Gen.KernelConv.Frame
public import proofs.«01_k».proof.Proof.Gen.KernelConvIdeal
public import proofs.«01_k».proof.Proof.Gen.KernelConvIdeal.Frame
public import proofs.«01_k».proof.Proof.Gen.KernelConvIdeal.Value
public import proofs.«01_k».proof.Proof.Gen.ReferenceConvIdeal
public import proofs.«01_k».proof.Proof.Gen.ReferenceConvIdeal.Run
public import proofs.«01_k».proof.Proof.Gen.ReferenceConvIdeal.Read
public import proofs.«01_k».proof.Proof.Gen.KernelKv
public import proofs.«01_k».proof.Proof.Gen.KernelKv.Frame
public import proofs.«01_k».proof.Proof.Gen.KernelKvIdeal
public import proofs.«01_k».proof.Proof.Gen.KernelKvIdeal.Frame
public import proofs.«01_k».proof.Proof.Gen.KernelKvIdeal.Value
public import proofs.«01_k».proof.Proof.Gen.ReferenceKvIdeal
public import proofs.«01_k».proof.Proof.Gen.ReferenceKvIdeal.Run
public import proofs.«01_k».proof.Proof.Gen.ReferenceKvIdeal.Read
public import proofs.«01_k».proof.Proof.Gen.KernelKvDx
public import proofs.«01_k».proof.Proof.Gen.KernelKvDx.Frame
public import proofs.«01_k».proof.Proof.Gen.KernelKvDxIdeal
public import proofs.«01_k».proof.Proof.Gen.KernelKvDxIdeal.Frame
public import proofs.«01_k».proof.Proof.Gen.KernelKvDxIdeal.Value
public import proofs.«01_k».proof.Proof.Gen.ReferenceKvDxIdeal
public import proofs.«01_k».proof.Proof.Gen.ReferenceKvDxIdeal.Run
public import proofs.«01_k».proof.Proof.Gen.ReferenceKvDxIdeal.Read
public import proofs.«01_k».proof.Proof.Gen.KernelKvDw
public import proofs.«01_k».proof.Proof.Gen.KernelKvDw.Frame
public import proofs.«01_k».proof.Proof.Gen.KernelKvDwIdeal
public import proofs.«01_k».proof.Proof.Gen.KernelKvDwIdeal.Frame
public import proofs.«01_k».proof.Proof.Gen.KernelKvDwIdeal.Value
public import proofs.«01_k».proof.Proof.Gen.ReferenceKvDwIdeal
public import proofs.«01_k».proof.Proof.Gen.ReferenceKvDwIdeal.Run
public import proofs.«01_k».proof.Proof.Gen.ReferenceKvDwIdeal.Read
public import proofs.«01_k».proof.Proof.Gen.KernelKvDb
public import proofs.«01_k».proof.Proof.Gen.KernelKvDb.Frame
public import proofs.«01_k».proof.Proof.Gen.KernelKvDbIdeal
public import proofs.«01_k».proof.Proof.Gen.KernelKvDbIdeal.Frame
public import proofs.«01_k».proof.Proof.Gen.KernelKvDbIdeal.Value
public import proofs.«01_k».proof.Proof.Gen.ReferenceKvDbIdeal
public import proofs.«01_k».proof.Proof.Gen.ReferenceKvDbIdeal.Run
public import proofs.«01_k».proof.Proof.Gen.ReferenceKvDbIdeal.Read
public import Idealize.ShloMosaic.Adequacy
public import Idealize.ShloMosaic.Init

@[expose] public section

noncomputable section

namespace Cert.Proof

open Idealize.ShloMosaic Idealize.SL.Sem Cert.Kernel

theorem frame_kernel : Cert.quiescent_Kernel := fun m ρ _ => Cert.Kernel.Gen.frame m ρ
theorem frame_kernelIdeal : Cert.quiescent_KernelIdeal := fun m ρ _ => Cert.KernelIdeal.Gen.frame m ρ
theorem frame_kernelIdeal_pre : Cert.quiescent_KernelIdeal_pre_finite_scores := fun m ρ _ => Cert.KernelIdeal.Gen.frame m ρ
theorem frame_referenceIdeal : Cert.quiescent_ReferenceIdeal := fun m ρ _ =>
  (θ_run Cert.ReferenceIdeal.defs _ _).mono
    (fun r h => ⟨fun c => (h c).2.2.2.2.2, sem_eq_zero_of_no_sems (by decide) r.2⟩)
    (Cert.ReferenceIdeal.Value.run (F := Ideal) m ρ)
theorem frame_referenceIdeal_pre : Cert.quiescent_ReferenceIdeal_pre_finite_scores := fun m ρ _ =>
  frame_referenceIdeal m ρ trivial

/-- The kernel's five arrays and the reference's are the gradients of Spec. -/
theorem algebraic : Cert.algebraic_KernelIdeal_ReferenceIdeal_pre_finite_scores := by
  intro m g m' g' hpre hagree
  have hr := fun c => Cert.Pre.reals (Cert.Final.Aq m c) (Cert.Final.Akc m c) (Cert.Final.Avc m c) (Cert.Final.Akl m c) (Cert.Final.Avl m c)
    (Cert.Final.Ao m c) fun j => congrFun (hpre c) j
  refine ⟨fun c => Cert.Spec.outQ (Cert.Final.Aq m c) (Cert.Final.Akc m c) (Cert.Final.Avc m c) (Cert.Final.Akl m c) (Cert.Final.Avl m c) (Cert.Final.Ao m c),
    fun c => Cert.Spec.outCtx (Cert.Spec.dk (Cert.Final.Aq m c) (Cert.Final.Akc m c) (Cert.Final.Avc m c) (Cert.Final.Akl m c) (Cert.Final.Avl m c) (Cert.Final.Ao m c)),
    fun c => Cert.Spec.outCtx (Cert.Spec.dv (Cert.Final.Aq m c) (Cert.Final.Akc m c) (Cert.Final.Akl m c) (Cert.Final.Ao m c)),
    fun c => Cert.Spec.outLat (Cert.Spec.dk (Cert.Final.Aq m c) (Cert.Final.Akc m c) (Cert.Final.Avc m c) (Cert.Final.Akl m c) (Cert.Final.Avl m c) (Cert.Final.Ao m c)),
    fun c => Cert.Spec.outLat (Cert.Spec.dv (Cert.Final.Aq m c) (Cert.Final.Akc m c) (Cert.Final.Akl m c) (Cert.Final.Ao m c)), ?_, ?_⟩
  · refine (θ_run Cert.KernelIdeal.defs _ _).mono (fun _ h c => ?_) (Cert.KernelIdeal.Value.run_blocks (F := Ideal) m g)
    obtain ⟨h0, h1, h2, h3, h4, h5⟩ := h c
    obtain ⟨hq, hc, hl⟩ := hr c
    exact ⟨h0.trans (Cert.Final.out_q m c hq hc hl), h1.trans (Cert.Final.out_kc m c hq hc hl),
      h2.trans (Cert.Final.out_vc m c hq hc hl), h3.trans (Cert.Final.out_kl m c hq hc hl),
      h4.trans (Cert.Final.out_vl m c hq hc hl), h5⟩
  · refine (θ_run Cert.ReferenceIdeal.defs _ _).mono (fun _ h c => ?_) (Cert.ReferenceIdeal.Value.run (F := Ideal) m' g')
    obtain ⟨h0, h1, h2, h3, h4, h5⟩ := h c
    obtain ⟨a0, a1, a2, a3, a4, a5⟩ := hagree c
    rw [Cert.ReferenceIdeal.Read.val_main_v78_eq, Cert.Ref.v78_eq, a0, a1, a2, a3, a4, a5] at h0
    rw [Cert.ReferenceIdeal.Read.val_main_v75_eq, Cert.Ref.v75_eq, a0, a1, a2, a3, a4, a5] at h1
    rw [Cert.ReferenceIdeal.Read.val_main_v74_eq, Cert.Ref.v74_eq, a0, a1, a3, a5] at h2
    rw [Cert.ReferenceIdeal.Read.val_main_v77_eq, Cert.Ref.v77_eq, a0, a1, a2, a3, a4, a5] at h3
    rw [Cert.ReferenceIdeal.Read.val_main_v76_eq, Cert.Ref.v76_eq, a0, a1, a3, a5] at h4
    exact ⟨h0, h1, h2, h3, h4, h5⟩

theorem claim : Cert.Claim :=
  ⟨Cert.Kernel.Gen.facts, Cert.KernelIdeal.Gen.facts, Cert.ReferenceIdeal.Gen.facts,
    Cert.KernelLin.Gen.facts, Cert.KernelLinIdeal.Gen.facts, Cert.ReferenceLinIdeal.Gen.facts,
    Cert.KernelLinDx.Gen.facts, Cert.KernelLinDxIdeal.Gen.facts, Cert.ReferenceLinDxIdeal.Gen.facts,
    Cert.KernelLinDw.Gen.facts, Cert.KernelLinDwIdeal.Gen.facts, Cert.ReferenceLinDwIdeal.Gen.facts,
    Cert.KernelLinDb.Gen.facts, Cert.KernelLinDbIdeal.Gen.facts, Cert.ReferenceLinDbIdeal.Gen.facts,
    Cert.KernelUp.Gen.facts, Cert.KernelUpIdeal.Gen.facts, Cert.ReferenceUpIdeal.Gen.facts,
    Cert.KernelUpDx.Gen.facts, Cert.KernelUpDxIdeal.Gen.facts, Cert.ReferenceUpDxIdeal.Gen.facts,
    Cert.KernelUpDw.Gen.facts, Cert.KernelUpDwIdeal.Gen.facts, Cert.ReferenceUpDwIdeal.Gen.facts,
    Cert.KernelDown.Gen.facts, Cert.KernelDownIdeal.Gen.facts, Cert.ReferenceDownIdeal.Gen.facts,
    Cert.KernelDownDx.Gen.facts, Cert.KernelDownDxIdeal.Gen.facts, Cert.ReferenceDownDxIdeal.Gen.facts,
    Cert.KernelDownDw.Gen.facts, Cert.KernelDownDwIdeal.Gen.facts, Cert.ReferenceDownDwIdeal.Gen.facts,
    Cert.KernelAttn.Gen.facts, Cert.KernelAttnIdeal.Gen.facts, Cert.ReferenceAttnIdeal.Gen.facts,
    Cert.KernelSilu.Gen.facts, Cert.KernelSiluIdeal.Gen.facts, Cert.ReferenceSiluIdeal.Gen.facts,
    Cert.KernelGlu.Gen.facts, Cert.KernelGluIdeal.Gen.facts, Cert.ReferenceGluIdeal.Gen.facts,
    Cert.KernelConvDx.Gen.facts, Cert.KernelConvDxIdeal.Gen.facts, Cert.ReferenceConvDxIdeal.Gen.facts,
    Cert.KernelConv.Gen.facts, Cert.KernelConvIdeal.Gen.facts, Cert.ReferenceConvIdeal.Gen.facts,
    Cert.KernelKv.Gen.facts, Cert.KernelKvIdeal.Gen.facts, Cert.ReferenceKvIdeal.Gen.facts,
    Cert.KernelKvDx.Gen.facts, Cert.KernelKvDxIdeal.Gen.facts, Cert.ReferenceKvDxIdeal.Gen.facts,
    Cert.KernelKvDw.Gen.facts, Cert.KernelKvDwIdeal.Gen.facts, Cert.ReferenceKvDwIdeal.Gen.facts,
    Cert.KernelKvDb.Gen.facts, Cert.KernelKvDbIdeal.Gen.facts, Cert.ReferenceKvDbIdeal.Gen.facts,
    Cert.KernelCtx.Gen.facts, Cert.KernelCtxIdeal.Gen.facts, Cert.ReferenceCtxIdeal.Gen.facts,
    Cert.KernelCtxFwd.Gen.facts, Cert.KernelCtxFwdIdeal.Gen.facts, Cert.ReferenceCtxFwdIdeal.Gen.facts,
    Cert.KernelSiluFwd.Gen.facts, Cert.KernelSiluFwdIdeal.Gen.facts, Cert.ReferenceSiluFwdIdeal.Gen.facts,
    Cert.KernelGluFwd.Gen.facts, Cert.KernelGluFwdIdeal.Gen.facts, Cert.ReferenceGluFwdIdeal.Gen.facts,
    Cert.KernelAdamSq.Gen.facts, Cert.KernelAdamSqIdeal.Gen.facts, Cert.ReferenceAdamSqIdeal.Gen.facts,
    Cert.KernelAdamVec.Gen.facts, Cert.KernelAdamVecIdeal.Gen.facts, Cert.ReferenceAdamVecIdeal.Gen.facts,
    Cert.KernelModFwd.Gen.facts, Cert.KernelModFwdIdeal.Gen.facts, Cert.ReferenceModFwdIdeal.Gen.facts,
    Cert.KernelMergeFwd.Gen.facts, Cert.KernelMergeFwdIdeal.Gen.facts, Cert.ReferenceMergeFwdIdeal.Gen.facts,
    Cert.KernelLnSiluFwd.Gen.facts, Cert.KernelLnSiluFwdIdeal.Gen.facts, Cert.ReferenceLnSiluFwdIdeal.Gen.facts,
    Cert.KernelResLnFwd.Gen.facts, Cert.KernelResLnFwdIdeal.Gen.facts, Cert.ReferenceResLnFwdIdeal.Gen.facts,
    Cert.KernelLoss.Gen.facts, Cert.KernelLossIdeal.Gen.facts, Cert.ReferenceLossIdeal.Gen.facts,
    Cert.KernelAdamIn.Gen.facts, Cert.KernelAdamInIdeal.Gen.facts, Cert.ReferenceAdamInIdeal.Gen.facts,
    Cert.KernelAdamUp.Gen.facts, Cert.KernelAdamUpIdeal.Gen.facts, Cert.ReferenceAdamUpIdeal.Gen.facts,
    Cert.KernelAdamDown.Gen.facts, Cert.KernelAdamDownIdeal.Gen.facts, Cert.ReferenceAdamDownIdeal.Gen.facts,
    Cert.KernelThree.Gen.facts, Cert.KernelThreeIdeal.Gen.facts, Cert.ReferenceThreeIdeal.Gen.facts,
    Cert.KernelThreeDx.Gen.facts, Cert.KernelThreeDxIdeal.Gen.facts, Cert.ReferenceThreeDxIdeal.Gen.facts,
    Cert.Pre_finite_scores.Gen.facts, Cert.Pre_finite_scores_fwd.Gen.facts,
    Cert.Pre_finite_scores_ctx.Gen.facts, Cert.Pre_finite_scores_ctx_fwd.Gen.facts,
    frame_kernel, frame_kernelIdeal, frame_kernelIdeal_pre, frame_referenceIdeal, frame_referenceIdeal_pre,
    fun m ρ _ => Cert.KernelLin.Gen.frame m ρ, fun m ρ _ => Cert.KernelLinIdeal.Gen.frame m ρ, frame_referenceLinIdeal,
    fun m ρ _ => Cert.KernelLinDx.Gen.frame m ρ, fun m ρ _ => Cert.KernelLinDxIdeal.Gen.frame m ρ, frame_referenceLinDxIdeal,
    fun m ρ _ => Cert.KernelLinDw.Gen.frame m ρ, fun m ρ _ => Cert.KernelLinDwIdeal.Gen.frame m ρ, frame_referenceLinDwIdeal,
    fun m ρ _ => Cert.KernelLinDb.Gen.frame m ρ, fun m ρ _ => Cert.KernelLinDbIdeal.Gen.frame m ρ, frame_referenceLinDbIdeal,
    fun m ρ _ => Cert.KernelUp.Gen.frame m ρ, fun m ρ _ => Cert.KernelUpIdeal.Gen.frame m ρ, frame_referenceUpIdeal,
    fun m ρ _ => Cert.KernelUpDx.Gen.frame m ρ, fun m ρ _ => Cert.KernelUpDxIdeal.Gen.frame m ρ, frame_referenceUpDxIdeal,
    fun m ρ _ => Cert.KernelUpDw.Gen.frame m ρ, fun m ρ _ => Cert.KernelUpDwIdeal.Gen.frame m ρ, frame_referenceUpDwIdeal,
    fun m ρ _ => Cert.KernelDown.Gen.frame m ρ, fun m ρ _ => Cert.KernelDownIdeal.Gen.frame m ρ, frame_referenceDownIdeal,
    fun m ρ _ => Cert.KernelDownDx.Gen.frame m ρ, fun m ρ _ => Cert.KernelDownDxIdeal.Gen.frame m ρ, frame_referenceDownDxIdeal,
    fun m ρ _ => Cert.KernelDownDw.Gen.frame m ρ, fun m ρ _ => Cert.KernelDownDwIdeal.Gen.frame m ρ, frame_referenceDownDwIdeal,
    fun m ρ _ => Cert.KernelAttn.Gen.frame m ρ, fun m ρ _ => Cert.KernelAttnIdeal.Gen.frame m ρ, fun m ρ _ => Cert.KernelAttnIdeal.Gen.frame m ρ,
    frame_referenceAttnIdeal, frame_referenceAttnIdeal_pre,
    fun m ρ _ => Cert.KernelSilu.Gen.frame m ρ, fun m ρ _ => Cert.KernelSiluIdeal.Gen.frame m ρ, frame_referenceSiluIdeal,
    fun m ρ _ => Cert.KernelGlu.Gen.frame m ρ, fun m ρ _ => Cert.KernelGluIdeal.Gen.frame m ρ, frame_referenceGluIdeal,
    fun m ρ _ => Cert.KernelConvDx.Gen.frame m ρ, fun m ρ _ => Cert.KernelConvDxIdeal.Gen.frame m ρ, frame_referenceConvDxIdeal,
    fun m ρ _ => Cert.KernelConv.Gen.frame m ρ, fun m ρ _ => Cert.KernelConvIdeal.Gen.frame m ρ, frame_referenceConvIdeal,
    fun m ρ _ => Cert.KernelKv.Gen.frame m ρ, fun m ρ _ => Cert.KernelKvIdeal.Gen.frame m ρ, frame_referenceKvIdeal,
    fun m ρ _ => Cert.KernelKvDx.Gen.frame m ρ, fun m ρ _ => Cert.KernelKvDxIdeal.Gen.frame m ρ, frame_referenceKvDxIdeal,
    fun m ρ _ => Cert.KernelKvDw.Gen.frame m ρ, fun m ρ _ => Cert.KernelKvDwIdeal.Gen.frame m ρ, frame_referenceKvDwIdeal,
    fun m ρ _ => Cert.KernelKvDb.Gen.frame m ρ, fun m ρ _ => Cert.KernelKvDbIdeal.Gen.frame m ρ, frame_referenceKvDbIdeal,
    fun m ρ _ => Cert.KernelCtx.Gen.frame m ρ, fun m ρ _ => Cert.KernelCtxIdeal.Gen.frame m ρ, fun m ρ _ => Cert.KernelCtxIdeal.Gen.frame m ρ,
    frame_referenceCtxIdeal, frame_referenceCtxIdeal_pre,
    fun m ρ _ => Cert.KernelCtxFwd.Gen.frame m ρ, fun m ρ _ => Cert.KernelCtxFwdIdeal.Gen.frame m ρ, fun m ρ _ => Cert.KernelCtxFwdIdeal.Gen.frame m ρ,
    frame_referenceCtxFwdIdeal, frame_referenceCtxFwdIdeal_pre,
    fun m ρ _ => Cert.KernelSiluFwd.Gen.frame m ρ, fun m ρ _ => Cert.KernelSiluFwdIdeal.Gen.frame m ρ, frame_referenceSiluFwdIdeal,
    fun m ρ _ => Cert.KernelGluFwd.Gen.frame m ρ, fun m ρ _ => Cert.KernelGluFwdIdeal.Gen.frame m ρ, frame_referenceGluFwdIdeal,
    fun m ρ _ => Cert.KernelAdamSq.Gen.frame m ρ, fun m ρ _ => Cert.KernelAdamSqIdeal.Gen.frame m ρ, frame_referenceAdamSqIdeal,
    fun m ρ _ => Cert.KernelAdamVec.Gen.frame m ρ, fun m ρ _ => Cert.KernelAdamVecIdeal.Gen.frame m ρ, frame_referenceAdamVecIdeal,
    fun m ρ _ => Cert.KernelModFwd.Gen.frame m ρ, fun m ρ _ => Cert.KernelModFwdIdeal.Gen.frame m ρ, frame_referenceModFwdIdeal,
    fun m ρ _ => Cert.KernelMergeFwd.Gen.frame m ρ, fun m ρ _ => Cert.KernelMergeFwdIdeal.Gen.frame m ρ, frame_referenceMergeFwdIdeal,
    fun m ρ _ => Cert.KernelLnSiluFwd.Gen.frame m ρ, fun m ρ _ => Cert.KernelLnSiluFwdIdeal.Gen.frame m ρ, frame_referenceLnSiluFwdIdeal,
    fun m ρ _ => Cert.KernelResLnFwd.Gen.frame m ρ, fun m ρ _ => Cert.KernelResLnFwdIdeal.Gen.frame m ρ, frame_referenceResLnFwdIdeal,
    fun m ρ _ => Cert.KernelLoss.Gen.frame m ρ, fun m ρ _ => Cert.KernelLossIdeal.Gen.frame m ρ, frame_referenceLossIdeal,
    fun m ρ _ => Cert.KernelAdamIn.Gen.frame m ρ, fun m ρ _ => Cert.KernelAdamInIdeal.Gen.frame m ρ, frame_referenceAdamInIdeal,
    fun m ρ _ => Cert.KernelAdamUp.Gen.frame m ρ, fun m ρ _ => Cert.KernelAdamUpIdeal.Gen.frame m ρ, frame_referenceAdamUpIdeal,
    fun m ρ _ => Cert.KernelAdamDown.Gen.frame m ρ, fun m ρ _ => Cert.KernelAdamDownIdeal.Gen.frame m ρ, frame_referenceAdamDownIdeal,
    fun m ρ _ => Cert.KernelThree.Gen.frame m ρ, fun m ρ _ => Cert.KernelThreeIdeal.Gen.frame m ρ, frame_referenceThreeIdeal,
    fun m ρ _ => Cert.KernelThreeDx.Gen.frame m ρ, fun m ρ _ => Cert.KernelThreeDxIdeal.Gen.frame m ρ, frame_referenceThreeDxIdeal,
    trivial, algebraic, trivial, algebraic_lin, trivial, algebraic_linDx, trivial, algebraic_linDw, trivial, algebraic_linDb,
    trivial, algebraic_up, trivial, algebraic_upDx, trivial, algebraic_upDw, trivial, algebraic_down, trivial, algebraic_downDx, trivial, algebraic_downDw, trivial, algebraic_attn,
    trivial, algebraic_silu, trivial, algebraic_glu, trivial, algebraic_convDx, trivial, algebraic_conv, trivial, algebraic_kv, trivial, algebraic_kvDx, trivial, algebraic_kvDw, trivial, algebraic_kvDb,
    trivial, algebraic_ctx, trivial, algebraic_ctxFwd, trivial, algebraic_siluFwd, trivial, algebraic_gluFwd,
    trivial, algebraic_adamSq, trivial, algebraic_adamVec,
    trivial, algebraic_modFwd, trivial, algebraic_mergeFwd, trivial, algebraic_lnSiluFwd, trivial, algebraic_resLnFwd,
    trivial, algebraic_loss, trivial, algebraic_adamIn, trivial, algebraic_adamUp, trivial, algebraic_adamDown,
    trivial, algebraic_three, trivial, algebraic_threeDx⟩

end Cert.Proof

end
